-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite [hPre_finite : Cert.Pre_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite [hPre_finite : Cert.Pre_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Kernel4Ideal_pre_finite [hKernel4Ideal : Cert.Kernel4Ideal.Facts] [hPre_finite : Cert.Pre_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Reference4Ideal_pre_finite [hReference4Ideal : Cert.Reference4Ideal.Facts] [hPre_finite : Cert.Pre_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6)
      ∧ r.2.mem ((c.tc : Thread Cert.Kernel12.nD Cert.Kernel12.τ).loc Cert.Kernel12.main_arg7) = m ((c.tc : Thread Cert.Kernel12.nD Cert.Kernel12.τ).loc Cert.Kernel12.main_arg7)
      ∧ r.2.mem ((c.tc : Thread Cert.Kernel12.nD Cert.Kernel12.τ).loc Cert.Kernel12.main_arg8) = m ((c.tc : Thread Cert.Kernel12.nD Cert.Kernel12.τ).loc Cert.Kernel12.main_arg8))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
      ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
      ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6)
      ∧ r.2.mem ((c.tc : Thread Cert.Reference12Ideal.nD Cert.Reference12Ideal.τ).loc Cert.Reference12Ideal.main_arg7) = m ((c.tc : Thread Cert.Reference12Ideal.nD Cert.Reference12Ideal.τ).loc Cert.Reference12Ideal.main_arg7)
      ∧ r.2.mem ((c.tc : Thread Cert.Reference12Ideal.nD Cert.Reference12Ideal.τ).loc Cert.Reference12Ideal.main_arg8) = m ((c.tc : Thread Cert.Reference12Ideal.nD Cert.Reference12Ideal.τ).loc Cert.Reference12Ideal.main_arg8))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5)
      ∧ r.2.mem ((c.tc : Thread Cert.Kernel13.nD Cert.Kernel13.τ).loc Cert.Kernel13.main_arg6) = m ((c.tc : Thread Cert.Kernel13.nD Cert.Kernel13.τ).loc Cert.Kernel13.main_arg6)
      ∧ r.2.mem ((c.tc : Thread Cert.Kernel13.nD Cert.Kernel13.τ).loc Cert.Kernel13.main_arg7) = m ((c.tc : Thread Cert.Kernel13.nD Cert.Kernel13.τ).loc Cert.Kernel13.main_arg7)
      ∧ r.2.mem ((c.tc : Thread Cert.Kernel13.nD Cert.Kernel13.τ).loc Cert.Kernel13.main_arg8) = m ((c.tc : Thread Cert.Kernel13.nD Cert.Kernel13.τ).loc Cert.Kernel13.main_arg8))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
      ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
      ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7)
      ∧ r.2.mem ((c.tc : Thread Cert.Kernel13Ideal.nD Cert.Kernel13Ideal.τ).loc Cert.Kernel13Ideal.main_arg8) = m ((c.tc : Thread Cert.Kernel13Ideal.nD Cert.Kernel13Ideal.τ).loc Cert.Kernel13Ideal.main_arg8))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5)
      ∧ r.2.mem ((c.tc : Thread Cert.Reference13Ideal.nD Cert.Reference13Ideal.τ).loc Cert.Reference13Ideal.main_arg6) = m ((c.tc : Thread Cert.Reference13Ideal.nD Cert.Reference13Ideal.τ).loc Cert.Reference13Ideal.main_arg6)
      ∧ r.2.mem ((c.tc : Thread Cert.Reference13Ideal.nD Cert.Reference13Ideal.τ).loc Cert.Reference13Ideal.main_arg7) = m ((c.tc : Thread Cert.Reference13Ideal.nD Cert.Reference13Ideal.τ).loc Cert.Reference13Ideal.main_arg7)
      ∧ r.2.mem ((c.tc : Thread Cert.Reference13Ideal.nD Cert.Reference13Ideal.τ).loc Cert.Reference13Ideal.main_arg8) = m ((c.tc : Thread Cert.Reference13Ideal.nD Cert.Reference13Ideal.τ).loc Cert.Reference13Ideal.main_arg8))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5)
      ∧ r.2.mem ((c.tc : Thread Cert.Kernel14.nD Cert.Kernel14.τ).loc Cert.Kernel14.main_arg6) = m ((c.tc : Thread Cert.Kernel14.nD Cert.Kernel14.τ).loc Cert.Kernel14.main_arg6)
      ∧ r.2.mem ((c.tc : Thread Cert.Kernel14.nD Cert.Kernel14.τ).loc Cert.Kernel14.main_arg7) = m ((c.tc : Thread Cert.Kernel14.nD Cert.Kernel14.τ).loc Cert.Kernel14.main_arg7)
      ∧ r.2.mem ((c.tc : Thread Cert.Kernel14.nD Cert.Kernel14.τ).loc Cert.Kernel14.main_arg8) = m ((c.tc : Thread Cert.Kernel14.nD Cert.Kernel14.τ).loc Cert.Kernel14.main_arg8))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
      ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
      ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7)
      ∧ r.2.mem ((c.tc : Thread Cert.Kernel14Ideal.nD Cert.Kernel14Ideal.τ).loc Cert.Kernel14Ideal.main_arg8) = m ((c.tc : Thread Cert.Kernel14Ideal.nD Cert.Kernel14Ideal.τ).loc Cert.Kernel14Ideal.main_arg8))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5)
      ∧ r.2.mem ((c.tc : Thread Cert.Reference14Ideal.nD Cert.Reference14Ideal.τ).loc Cert.Reference14Ideal.main_arg6) = m ((c.tc : Thread Cert.Reference14Ideal.nD Cert.Reference14Ideal.τ).loc Cert.Reference14Ideal.main_arg6)
      ∧ r.2.mem ((c.tc : Thread Cert.Reference14Ideal.nD Cert.Reference14Ideal.τ).loc Cert.Reference14Ideal.main_arg7) = m ((c.tc : Thread Cert.Reference14Ideal.nD Cert.Reference14Ideal.τ).loc Cert.Reference14Ideal.main_arg7)
      ∧ r.2.mem ((c.tc : Thread Cert.Reference14Ideal.nD Cert.Reference14Ideal.τ).loc Cert.Reference14Ideal.main_arg8) = m ((c.tc : Thread Cert.Reference14Ideal.nD Cert.Reference14Ideal.τ).loc Cert.Reference14Ideal.main_arg8))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5)
      ∧ r.2.mem ((c.tc : Thread Cert.Kernel15.nD Cert.Kernel15.τ).loc Cert.Kernel15.main_arg6) = m ((c.tc : Thread Cert.Kernel15.nD Cert.Kernel15.τ).loc Cert.Kernel15.main_arg6)
      ∧ r.2.mem ((c.tc : Thread Cert.Kernel15.nD Cert.Kernel15.τ).loc Cert.Kernel15.main_arg7) = m ((c.tc : Thread Cert.Kernel15.nD Cert.Kernel15.τ).loc Cert.Kernel15.main_arg7)
      ∧ r.2.mem ((c.tc : Thread Cert.Kernel15.nD Cert.Kernel15.τ).loc Cert.Kernel15.main_arg8) = m ((c.tc : Thread Cert.Kernel15.nD Cert.Kernel15.τ).loc Cert.Kernel15.main_arg8))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
      ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
      ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
      ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5)
      ∧ r.2.mem ((c.tc : Thread Cert.Reference15Ideal.nD Cert.Reference15Ideal.τ).loc Cert.Reference15Ideal.main_arg6) = m ((c.tc : Thread Cert.Reference15Ideal.nD Cert.Reference15Ideal.τ).loc Cert.Reference15Ideal.main_arg6)
      ∧ r.2.mem ((c.tc : Thread Cert.Reference15Ideal.nD Cert.Reference15Ideal.τ).loc Cert.Reference15Ideal.main_arg7) = m ((c.tc : Thread Cert.Reference15Ideal.nD Cert.Reference15Ideal.τ).loc Cert.Reference15Ideal.main_arg7)
      ∧ r.2.mem ((c.tc : Thread Cert.Reference15Ideal.nD Cert.Reference15Ideal.τ).loc Cert.Reference15Ideal.main_arg8) = m ((c.tc : Thread Cert.Reference15Ideal.nD Cert.Reference15Ideal.τ).loc Cert.Reference15Ideal.main_arg8))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4)
      ∧ r.2.mem ((c.tc : Thread Cert.Kernel22.nD Cert.Kernel22.τ).loc Cert.Kernel22.main_arg5) = m ((c.tc : Thread Cert.Kernel22.nD Cert.Kernel22.τ).loc Cert.Kernel22.main_arg5)
      ∧ r.2.mem ((c.tc : Thread Cert.Kernel22.nD Cert.Kernel22.τ).loc Cert.Kernel22.main_arg6) = m ((c.tc : Thread Cert.Kernel22.nD Cert.Kernel22.τ).loc Cert.Kernel22.main_arg6))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
      ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5)
      ∧ r.2.mem ((c.tc : Thread Cert.Kernel22Ideal.nD Cert.Kernel22Ideal.τ).loc Cert.Kernel22Ideal.main_arg6) = m ((c.tc : Thread Cert.Kernel22Ideal.nD Cert.Kernel22Ideal.τ).loc Cert.Kernel22Ideal.main_arg6))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4)
      ∧ r.2.mem ((c.tc : Thread Cert.Reference22Ideal.nD Cert.Reference22Ideal.τ).loc Cert.Reference22Ideal.main_arg5) = m ((c.tc : Thread Cert.Reference22Ideal.nD Cert.Reference22Ideal.τ).loc Cert.Reference22Ideal.main_arg5)
      ∧ r.2.mem ((c.tc : Thread Cert.Reference22Ideal.nD Cert.Reference22Ideal.τ).loc Cert.Reference22Ideal.main_arg6) = m ((c.tc : Thread Cert.Reference22Ideal.nD Cert.Reference22Ideal.τ).loc Cert.Reference22Ideal.main_arg6))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3)
      ∧ r.2.mem ((c.tc : Thread Cert.Kernel23.nD Cert.Kernel23.τ).loc Cert.Kernel23.main_arg4) = m ((c.tc : Thread Cert.Kernel23.nD Cert.Kernel23.τ).loc Cert.Kernel23.main_arg4)
      ∧ r.2.mem ((c.tc : Thread Cert.Kernel23.nD Cert.Kernel23.τ).loc Cert.Kernel23.main_arg5) = m ((c.tc : Thread Cert.Kernel23.nD Cert.Kernel23.τ).loc Cert.Kernel23.main_arg5)
      ∧ r.2.mem ((c.tc : Thread Cert.Kernel23.nD Cert.Kernel23.τ).loc Cert.Kernel23.main_arg6) = m ((c.tc : Thread Cert.Kernel23.nD Cert.Kernel23.τ).loc Cert.Kernel23.main_arg6))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
      ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5)
      ∧ r.2.mem ((c.tc : Thread Cert.Kernel23Ideal.nD Cert.Kernel23Ideal.τ).loc Cert.Kernel23Ideal.main_arg6) = m ((c.tc : Thread Cert.Kernel23Ideal.nD Cert.Kernel23Ideal.τ).loc Cert.Kernel23Ideal.main_arg6))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4)
      ∧ r.2.mem ((c.tc : Thread Cert.Reference23Ideal.nD Cert.Reference23Ideal.τ).loc Cert.Reference23Ideal.main_arg5) = m ((c.tc : Thread Cert.Reference23Ideal.nD Cert.Reference23Ideal.τ).loc Cert.Reference23Ideal.main_arg5)
      ∧ r.2.mem ((c.tc : Thread Cert.Reference23Ideal.nD Cert.Reference23Ideal.τ).loc Cert.Reference23Ideal.main_arg6) = m ((c.tc : Thread Cert.Reference23Ideal.nD Cert.Reference23Ideal.τ).loc Cert.Reference23Ideal.main_arg6))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3)
      ∧ r.2.mem ((c.tc : Thread Cert.Kernel24.nD Cert.Kernel24.τ).loc Cert.Kernel24.main_arg4) = m ((c.tc : Thread Cert.Kernel24.nD Cert.Kernel24.τ).loc Cert.Kernel24.main_arg4)
      ∧ r.2.mem ((c.tc : Thread Cert.Kernel24.nD Cert.Kernel24.τ).loc Cert.Kernel24.main_arg5) = m ((c.tc : Thread Cert.Kernel24.nD Cert.Kernel24.τ).loc Cert.Kernel24.main_arg5)
      ∧ r.2.mem ((c.tc : Thread Cert.Kernel24.nD Cert.Kernel24.τ).loc Cert.Kernel24.main_arg6) = m ((c.tc : Thread Cert.Kernel24.nD Cert.Kernel24.τ).loc Cert.Kernel24.main_arg6))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
      ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4)
      ∧ r.2.mem ((c.tc : Thread Cert.Kernel24Ideal.nD Cert.Kernel24Ideal.τ).loc Cert.Kernel24Ideal.main_arg5) = m ((c.tc : Thread Cert.Kernel24Ideal.nD Cert.Kernel24Ideal.τ).loc Cert.Kernel24Ideal.main_arg5)
      ∧ r.2.mem ((c.tc : Thread Cert.Kernel24Ideal.nD Cert.Kernel24Ideal.τ).loc Cert.Kernel24Ideal.main_arg6) = m ((c.tc : Thread Cert.Kernel24Ideal.nD Cert.Kernel24Ideal.τ).loc Cert.Kernel24Ideal.main_arg6))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3)
      ∧ r.2.mem ((c.tc : Thread Cert.Reference24Ideal.nD Cert.Reference24Ideal.τ).loc Cert.Reference24Ideal.main_arg4) = m ((c.tc : Thread Cert.Reference24Ideal.nD Cert.Reference24Ideal.τ).loc Cert.Reference24Ideal.main_arg4)
      ∧ r.2.mem ((c.tc : Thread Cert.Reference24Ideal.nD Cert.Reference24Ideal.τ).loc Cert.Reference24Ideal.main_arg5) = m ((c.tc : Thread Cert.Reference24Ideal.nD Cert.Reference24Ideal.τ).loc Cert.Reference24Ideal.main_arg5)
      ∧ r.2.mem ((c.tc : Thread Cert.Reference24Ideal.nD Cert.Reference24Ideal.τ).loc Cert.Reference24Ideal.main_arg6) = m ((c.tc : Thread Cert.Reference24Ideal.nD Cert.Reference24Ideal.τ).loc Cert.Reference24Ideal.main_arg6))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3)
      ∧ r.2.mem ((c.tc : Thread Cert.Kernel25.nD Cert.Kernel25.τ).loc Cert.Kernel25.main_arg4) = m ((c.tc : Thread Cert.Kernel25.nD Cert.Kernel25.τ).loc Cert.Kernel25.main_arg4)
      ∧ r.2.mem ((c.tc : Thread Cert.Kernel25.nD Cert.Kernel25.τ).loc Cert.Kernel25.main_arg5) = m ((c.tc : Thread Cert.Kernel25.nD Cert.Kernel25.τ).loc Cert.Kernel25.main_arg5))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
      ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4)
      ∧ r.2.mem ((c.tc : Thread Cert.Kernel25Ideal.nD Cert.Kernel25Ideal.τ).loc Cert.Kernel25Ideal.main_arg5) = m ((c.tc : Thread Cert.Kernel25Ideal.nD Cert.Kernel25Ideal.τ).loc Cert.Kernel25Ideal.main_arg5))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3)
      ∧ r.2.mem ((c.tc : Thread Cert.Reference25Ideal.nD Cert.Reference25Ideal.τ).loc Cert.Reference25Ideal.main_arg4) = m ((c.tc : Thread Cert.Reference25Ideal.nD Cert.Reference25Ideal.τ).loc Cert.Reference25Ideal.main_arg4)
      ∧ r.2.mem ((c.tc : Thread Cert.Reference25Ideal.nD Cert.Reference25Ideal.τ).loc Cert.Reference25Ideal.main_arg5) = m ((c.tc : Thread Cert.Reference25Ideal.nD Cert.Reference25Ideal.τ).loc Cert.Reference25Ideal.main_arg5))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3)
      ∧ r.2.mem ((c.tc : Thread Cert.Kernel29.nD Cert.Kernel29.τ).loc Cert.Kernel29.main_arg4) = m ((c.tc : Thread Cert.Kernel29.nD Cert.Kernel29.τ).loc Cert.Kernel29.main_arg4)
      ∧ r.2.mem ((c.tc : Thread Cert.Kernel29.nD Cert.Kernel29.τ).loc Cert.Kernel29.main_arg5) = m ((c.tc : Thread Cert.Kernel29.nD Cert.Kernel29.τ).loc Cert.Kernel29.main_arg5)
      ∧ r.2.mem ((c.tc : Thread Cert.Kernel29.nD Cert.Kernel29.τ).loc Cert.Kernel29.main_arg6) = m ((c.tc : Thread Cert.Kernel29.nD Cert.Kernel29.τ).loc Cert.Kernel29.main_arg6)
      ∧ r.2.mem ((c.tc : Thread Cert.Kernel29.nD Cert.Kernel29.τ).loc Cert.Kernel29.main_arg7) = m ((c.tc : Thread Cert.Kernel29.nD Cert.Kernel29.τ).loc Cert.Kernel29.main_arg7)
      ∧ r.2.mem ((c.tc : Thread Cert.Kernel29.nD Cert.Kernel29.τ).loc Cert.Kernel29.main_arg8) = m ((c.tc : Thread Cert.Kernel29.nD Cert.Kernel29.τ).loc Cert.Kernel29.main_arg8)
      ∧ r.2.mem ((c.tc : Thread Cert.Kernel29.nD Cert.Kernel29.τ).loc Cert.Kernel29.main_arg9) = m ((c.tc : Thread Cert.Kernel29.nD Cert.Kernel29.τ).loc Cert.Kernel29.main_arg9))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
      ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4)
      ∧ r.2.mem ((c.tc : Thread Cert.Kernel29Ideal.nD Cert.Kernel29Ideal.τ).loc Cert.Kernel29Ideal.main_arg5) = m ((c.tc : Thread Cert.Kernel29Ideal.nD Cert.Kernel29Ideal.τ).loc Cert.Kernel29Ideal.main_arg5)
      ∧ r.2.mem ((c.tc : Thread Cert.Kernel29Ideal.nD Cert.Kernel29Ideal.τ).loc Cert.Kernel29Ideal.main_arg6) = m ((c.tc : Thread Cert.Kernel29Ideal.nD Cert.Kernel29Ideal.τ).loc Cert.Kernel29Ideal.main_arg6)
      ∧ r.2.mem ((c.tc : Thread Cert.Kernel29Ideal.nD Cert.Kernel29Ideal.τ).loc Cert.Kernel29Ideal.main_arg7) = m ((c.tc : Thread Cert.Kernel29Ideal.nD Cert.Kernel29Ideal.τ).loc Cert.Kernel29Ideal.main_arg7)
      ∧ r.2.mem ((c.tc : Thread Cert.Kernel29Ideal.nD Cert.Kernel29Ideal.τ).loc Cert.Kernel29Ideal.main_arg8) = m ((c.tc : Thread Cert.Kernel29Ideal.nD Cert.Kernel29Ideal.τ).loc Cert.Kernel29Ideal.main_arg8)
      ∧ r.2.mem ((c.tc : Thread Cert.Kernel29Ideal.nD Cert.Kernel29Ideal.τ).loc Cert.Kernel29Ideal.main_arg9) = m ((c.tc : Thread Cert.Kernel29Ideal.nD Cert.Kernel29Ideal.τ).loc Cert.Kernel29Ideal.main_arg9))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3)
      ∧ r.2.mem ((c.tc : Thread Cert.Reference29Ideal.nD Cert.Reference29Ideal.τ).loc Cert.Reference29Ideal.main_arg4) = m ((c.tc : Thread Cert.Reference29Ideal.nD Cert.Reference29Ideal.τ).loc Cert.Reference29Ideal.main_arg4)
      ∧ r.2.mem ((c.tc : Thread Cert.Reference29Ideal.nD Cert.Reference29Ideal.τ).loc Cert.Reference29Ideal.main_arg5) = m ((c.tc : Thread Cert.Reference29Ideal.nD Cert.Reference29Ideal.τ).loc Cert.Reference29Ideal.main_arg5)
      ∧ r.2.mem ((c.tc : Thread Cert.Reference29Ideal.nD Cert.Reference29Ideal.τ).loc Cert.Reference29Ideal.main_arg6) = m ((c.tc : Thread Cert.Reference29Ideal.nD Cert.Reference29Ideal.τ).loc Cert.Reference29Ideal.main_arg6)
      ∧ r.2.mem ((c.tc : Thread Cert.Reference29Ideal.nD Cert.Reference29Ideal.τ).loc Cert.Reference29Ideal.main_arg7) = m ((c.tc : Thread Cert.Reference29Ideal.nD Cert.Reference29Ideal.τ).loc Cert.Reference29Ideal.main_arg7)
      ∧ r.2.mem ((c.tc : Thread Cert.Reference29Ideal.nD Cert.Reference29Ideal.τ).loc Cert.Reference29Ideal.main_arg8) = m ((c.tc : Thread Cert.Reference29Ideal.nD Cert.Reference29Ideal.τ).loc Cert.Reference29Ideal.main_arg8)
      ∧ r.2.mem ((c.tc : Thread Cert.Reference29Ideal.nD Cert.Reference29Ideal.τ).loc Cert.Reference29Ideal.main_arg9) = m ((c.tc : Thread Cert.Reference29Ideal.nD Cert.Reference29Ideal.τ).loc Cert.Reference29Ideal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v63) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v8_0)) (v1 : (c : Dev Cert.Kernel2Ideal.nD) → Buf (Elt Ideal) ((c.tc : Thread Cert.Kernel2Ideal.nD Cert.Kernel2Ideal.τ).loc Cert.Kernel2Ideal.main_v8_1)) (v2 : (c : Dev Cert.Kernel2Ideal.nD) → Buf (Elt Ideal) ((c.tc : Thread Cert.Kernel2Ideal.nD Cert.Kernel2Ideal.τ).loc Cert.Kernel2Ideal.main_v8_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8_0) = v0 c
          ∧ r.2.mem ((c.tc : Thread Cert.Kernel2Ideal.nD Cert.Kernel2Ideal.τ).loc Cert.Kernel2Ideal.main_v8_1) = v1 c
          ∧ r.2.mem ((c.tc : Thread Cert.Kernel2Ideal.nD Cert.Kernel2Ideal.τ).loc Cert.Kernel2Ideal.main_v8_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v57) = v0 c
          ∧ r.2.mem ((c.tc : Thread Cert.Reference2Ideal.nD Cert.Reference2Ideal.τ).loc Cert.Reference2Ideal.main_v67) = v1 c
          ∧ r.2.mem ((c.tc : Thread Cert.Reference2Ideal.nD Cert.Reference2Ideal.τ).loc Cert.Reference2Ideal.main_v74) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v7_0)) (v1 : (c : Dev Cert.Kernel3Ideal.nD) → Buf (Elt Ideal) ((c.tc : Thread Cert.Kernel3Ideal.nD Cert.Kernel3Ideal.τ).loc Cert.Kernel3Ideal.main_v7_1)) (v2 : (c : Dev Cert.Kernel3Ideal.nD) → Buf (Elt Ideal) ((c.tc : Thread Cert.Kernel3Ideal.nD Cert.Kernel3Ideal.τ).loc Cert.Kernel3Ideal.main_v7_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7_0) = v0 c
          ∧ r.2.mem ((c.tc : Thread Cert.Kernel3Ideal.nD Cert.Kernel3Ideal.τ).loc Cert.Kernel3Ideal.main_v7_1) = v1 c
          ∧ r.2.mem ((c.tc : Thread Cert.Kernel3Ideal.nD Cert.Kernel3Ideal.τ).loc Cert.Kernel3Ideal.main_v7_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v57) = v0 c
          ∧ r.2.mem ((c.tc : Thread Cert.Reference3Ideal.nD Cert.Reference3Ideal.τ).loc Cert.Reference3Ideal.main_v67) = v1 c
          ∧ r.2.mem ((c.tc : Thread Cert.Reference3Ideal.nD Cert.Reference3Ideal.τ).loc Cert.Reference3Ideal.main_v74) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal_pre_finite [hKernel4Ideal : Cert.Kernel4Ideal.Facts] [hReference4Ideal : Cert.Reference4Ideal.Facts] [hPre_finite : Cert.Pre_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v14) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2_0)) (v1 : (c : Dev Cert.Kernel5Ideal.nD) → Buf (Elt Ideal) ((c.tc : Thread Cert.Kernel5Ideal.nD Cert.Kernel5Ideal.τ).loc Cert.Kernel5Ideal.main_v2_1)) (v2 : (c : Dev Cert.Kernel5Ideal.nD) → Buf (Elt Ideal) ((c.tc : Thread Cert.Kernel5Ideal.nD Cert.Kernel5Ideal.τ).loc Cert.Kernel5Ideal.main_v2_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2_0) = v0 c
          ∧ r.2.mem ((c.tc : Thread Cert.Kernel5Ideal.nD Cert.Kernel5Ideal.τ).loc Cert.Kernel5Ideal.main_v2_1) = v1 c
          ∧ r.2.mem ((c.tc : Thread Cert.Kernel5Ideal.nD Cert.Kernel5Ideal.τ).loc Cert.Kernel5Ideal.main_v2_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v9) = v0 c
          ∧ r.2.mem ((c.tc : Thread Cert.Reference5Ideal.nD Cert.Reference5Ideal.τ).loc Cert.Reference5Ideal.main_v10) = v1 c
          ∧ r.2.mem ((c.tc : Thread Cert.Reference5Ideal.nD Cert.Reference5Ideal.τ).loc Cert.Reference5Ideal.main_v12) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v8) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v7) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v7) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v8_0)) (v1 : (c : Dev Cert.Kernel10Ideal.nD) → Buf (Elt Ideal) ((c.tc : Thread Cert.Kernel10Ideal.nD Cert.Kernel10Ideal.τ).loc Cert.Kernel10Ideal.main_v8_1)) (v2 : (c : Dev Cert.Kernel10Ideal.nD) → Buf (Elt Ideal) ((c.tc : Thread Cert.Kernel10Ideal.nD Cert.Kernel10Ideal.τ).loc Cert.Kernel10Ideal.main_v8_2)) (v3 : (c : Dev Cert.Kernel10Ideal.nD) → Buf (Elt Ideal) ((c.tc : Thread Cert.Kernel10Ideal.nD Cert.Kernel10Ideal.τ).loc Cert.Kernel10Ideal.main_v8_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v8_0) = v0 c
          ∧ r.2.mem ((c.tc : Thread Cert.Kernel10Ideal.nD Cert.Kernel10Ideal.τ).loc Cert.Kernel10Ideal.main_v8_1) = v1 c
          ∧ r.2.mem ((c.tc : Thread Cert.Kernel10Ideal.nD Cert.Kernel10Ideal.τ).loc Cert.Kernel10Ideal.main_v8_2) = v2 c
          ∧ r.2.mem ((c.tc : Thread Cert.Kernel10Ideal.nD Cert.Kernel10Ideal.τ).loc Cert.Kernel10Ideal.main_v8_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_v29) = v1 c
          ∧ r.2.mem ((c.tc : Thread Cert.Reference10Ideal.nD Cert.Reference10Ideal.τ).loc Cert.Reference10Ideal.main_v10) = v2 c
          ∧ r.2.mem ((c.tc : Thread Cert.Reference10Ideal.nD Cert.Reference10Ideal.τ).loc Cert.Reference10Ideal.main_v16) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v23) = v0 c
          ∧ r.2.mem ((c.tc : Thread Cert.Reference11Ideal.nD Cert.Reference11Ideal.τ).loc Cert.Reference11Ideal.main_v4) = v1 c
          ∧ r.2.mem ((c.tc : Thread Cert.Reference11Ideal.nD Cert.Reference11Ideal.τ).loc Cert.Reference11Ideal.main_v10) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)
      ∧ m' ((c.tc : Thread Cert.Reference12Ideal.nD Cert.Reference12Ideal.τ).loc Cert.Reference12Ideal.main_arg7) = m ((c.tc : Thread Cert.Kernel12Ideal.nD Cert.Kernel12Ideal.τ).loc Cert.Kernel12Ideal.main_arg7)
      ∧ m' ((c.tc : Thread Cert.Reference12Ideal.nD Cert.Reference12Ideal.τ).loc Cert.Reference12Ideal.main_arg8) = m ((c.tc : Thread Cert.Kernel12Ideal.nD Cert.Kernel12Ideal.τ).loc Cert.Kernel12Ideal.main_arg8)) →
    ∃ (v0 : (c : Dev Cert.Kernel12Ideal.nD) → Buf (Elt Ideal) ((c.tc : Thread Cert.Kernel12Ideal.nD Cert.Kernel12Ideal.τ).loc Cert.Kernel12Ideal.main_v1_0)) (v1 : (c : Dev Cert.Kernel12Ideal.nD) → Buf (Elt Ideal) ((c.tc : Thread Cert.Kernel12Ideal.nD Cert.Kernel12Ideal.τ).loc Cert.Kernel12Ideal.main_v1_1)) (v2 : (c : Dev Cert.Kernel12Ideal.nD) → Buf (Elt Ideal) ((c.tc : Thread Cert.Kernel12Ideal.nD Cert.Kernel12Ideal.τ).loc Cert.Kernel12Ideal.main_v1_2)) (v3 : (c : Dev Cert.Kernel12Ideal.nD) → Buf (Elt Ideal) ((c.tc : Thread Cert.Kernel12Ideal.nD Cert.Kernel12Ideal.τ).loc Cert.Kernel12Ideal.main_v1_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1_0) = v0 c
          ∧ r.2.mem ((c.tc : Thread Cert.Kernel12Ideal.nD Cert.Kernel12Ideal.τ).loc Cert.Kernel12Ideal.main_v1_1) = v1 c
          ∧ r.2.mem ((c.tc : Thread Cert.Kernel12Ideal.nD Cert.Kernel12Ideal.τ).loc Cert.Kernel12Ideal.main_v1_2) = v2 c
          ∧ r.2.mem ((c.tc : Thread Cert.Kernel12Ideal.nD Cert.Kernel12Ideal.τ).loc Cert.Kernel12Ideal.main_v1_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
          ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
          ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v40) = v0 c
          ∧ r.2.mem ((c.tc : Thread Cert.Reference12Ideal.nD Cert.Reference12Ideal.τ).loc Cert.Reference12Ideal.main_v45) = v1 c
          ∧ r.2.mem ((c.tc : Thread Cert.Reference12Ideal.nD Cert.Reference12Ideal.τ).loc Cert.Reference12Ideal.main_v50) = v2 c
          ∧ r.2.mem ((c.tc : Thread Cert.Reference12Ideal.nD Cert.Reference12Ideal.τ).loc Cert.Reference12Ideal.main_v55) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6)
          ∧ r.2.mem ((c.tc : Thread Cert.Reference12Ideal.nD Cert.Reference12Ideal.τ).loc Cert.Reference12Ideal.main_arg7) = m' ((c.tc : Thread Cert.Reference12Ideal.nD Cert.Reference12Ideal.τ).loc Cert.Reference12Ideal.main_arg7)
          ∧ r.2.mem ((c.tc : Thread Cert.Reference12Ideal.nD Cert.Reference12Ideal.τ).loc Cert.Reference12Ideal.main_arg8) = m' ((c.tc : Thread Cert.Reference12Ideal.nD Cert.Reference12Ideal.τ).loc Cert.Reference12Ideal.main_arg8))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)
      ∧ m' ((c.tc : Thread Cert.Reference13Ideal.nD Cert.Reference13Ideal.τ).loc Cert.Reference13Ideal.main_arg6) = m ((c.tc : Thread Cert.Kernel13Ideal.nD Cert.Kernel13Ideal.τ).loc Cert.Kernel13Ideal.main_arg6)
      ∧ m' ((c.tc : Thread Cert.Reference13Ideal.nD Cert.Reference13Ideal.τ).loc Cert.Reference13Ideal.main_arg7) = m ((c.tc : Thread Cert.Kernel13Ideal.nD Cert.Kernel13Ideal.τ).loc Cert.Kernel13Ideal.main_arg7)
      ∧ m' ((c.tc : Thread Cert.Reference13Ideal.nD Cert.Reference13Ideal.τ).loc Cert.Reference13Ideal.main_arg8) = m ((c.tc : Thread Cert.Kernel13Ideal.nD Cert.Kernel13Ideal.τ).loc Cert.Kernel13Ideal.main_arg8)) →
    ∃ (v0 : (c : Dev Cert.Kernel13Ideal.nD) → Buf (Elt Ideal) ((c.tc : Thread Cert.Kernel13Ideal.nD Cert.Kernel13Ideal.τ).loc Cert.Kernel13Ideal.main_v1_0)) (v1 : (c : Dev Cert.Kernel13Ideal.nD) → Buf (Elt Ideal) ((c.tc : Thread Cert.Kernel13Ideal.nD Cert.Kernel13Ideal.τ).loc Cert.Kernel13Ideal.main_v1_1)) (v2 : (c : Dev Cert.Kernel13Ideal.nD) → Buf (Elt Ideal) ((c.tc : Thread Cert.Kernel13Ideal.nD Cert.Kernel13Ideal.τ).loc Cert.Kernel13Ideal.main_v1_2)) (v3 : (c : Dev Cert.Kernel13Ideal.nD) → Buf (Elt Ideal) ((c.tc : Thread Cert.Kernel13Ideal.nD Cert.Kernel13Ideal.τ).loc Cert.Kernel13Ideal.main_v1_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1_0) = v0 c
          ∧ r.2.mem ((c.tc : Thread Cert.Kernel13Ideal.nD Cert.Kernel13Ideal.τ).loc Cert.Kernel13Ideal.main_v1_1) = v1 c
          ∧ r.2.mem ((c.tc : Thread Cert.Kernel13Ideal.nD Cert.Kernel13Ideal.τ).loc Cert.Kernel13Ideal.main_v1_2) = v2 c
          ∧ r.2.mem ((c.tc : Thread Cert.Kernel13Ideal.nD Cert.Kernel13Ideal.τ).loc Cert.Kernel13Ideal.main_v1_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
          ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
          ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7)
          ∧ r.2.mem ((c.tc : Thread Cert.Kernel13Ideal.nD Cert.Kernel13Ideal.τ).loc Cert.Kernel13Ideal.main_arg8) = m ((c.tc : Thread Cert.Kernel13Ideal.nD Cert.Kernel13Ideal.τ).loc Cert.Kernel13Ideal.main_arg8))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v40) = v0 c
          ∧ r.2.mem ((c.tc : Thread Cert.Reference13Ideal.nD Cert.Reference13Ideal.τ).loc Cert.Reference13Ideal.main_v45) = v1 c
          ∧ r.2.mem ((c.tc : Thread Cert.Reference13Ideal.nD Cert.Reference13Ideal.τ).loc Cert.Reference13Ideal.main_v50) = v2 c
          ∧ r.2.mem ((c.tc : Thread Cert.Reference13Ideal.nD Cert.Reference13Ideal.τ).loc Cert.Reference13Ideal.main_v55) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5)
          ∧ r.2.mem ((c.tc : Thread Cert.Reference13Ideal.nD Cert.Reference13Ideal.τ).loc Cert.Reference13Ideal.main_arg6) = m' ((c.tc : Thread Cert.Reference13Ideal.nD Cert.Reference13Ideal.τ).loc Cert.Reference13Ideal.main_arg6)
          ∧ r.2.mem ((c.tc : Thread Cert.Reference13Ideal.nD Cert.Reference13Ideal.τ).loc Cert.Reference13Ideal.main_arg7) = m' ((c.tc : Thread Cert.Reference13Ideal.nD Cert.Reference13Ideal.τ).loc Cert.Reference13Ideal.main_arg7)
          ∧ r.2.mem ((c.tc : Thread Cert.Reference13Ideal.nD Cert.Reference13Ideal.τ).loc Cert.Reference13Ideal.main_arg8) = m' ((c.tc : Thread Cert.Reference13Ideal.nD Cert.Reference13Ideal.τ).loc Cert.Reference13Ideal.main_arg8))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)
      ∧ m' ((c.tc : Thread Cert.Reference14Ideal.nD Cert.Reference14Ideal.τ).loc Cert.Reference14Ideal.main_arg6) = m ((c.tc : Thread Cert.Kernel14Ideal.nD Cert.Kernel14Ideal.τ).loc Cert.Kernel14Ideal.main_arg6)
      ∧ m' ((c.tc : Thread Cert.Reference14Ideal.nD Cert.Reference14Ideal.τ).loc Cert.Reference14Ideal.main_arg7) = m ((c.tc : Thread Cert.Kernel14Ideal.nD Cert.Kernel14Ideal.τ).loc Cert.Kernel14Ideal.main_arg7)
      ∧ m' ((c.tc : Thread Cert.Reference14Ideal.nD Cert.Reference14Ideal.τ).loc Cert.Reference14Ideal.main_arg8) = m ((c.tc : Thread Cert.Kernel14Ideal.nD Cert.Kernel14Ideal.τ).loc Cert.Kernel14Ideal.main_arg8)) →
    ∃ (v0 : (c : Dev Cert.Kernel14Ideal.nD) → Buf (Elt Ideal) ((c.tc : Thread Cert.Kernel14Ideal.nD Cert.Kernel14Ideal.τ).loc Cert.Kernel14Ideal.main_v1_0)) (v1 : (c : Dev Cert.Kernel14Ideal.nD) → Buf (Elt Ideal) ((c.tc : Thread Cert.Kernel14Ideal.nD Cert.Kernel14Ideal.τ).loc Cert.Kernel14Ideal.main_v1_1)) (v2 : (c : Dev Cert.Kernel14Ideal.nD) → Buf (Elt Ideal) ((c.tc : Thread Cert.Kernel14Ideal.nD Cert.Kernel14Ideal.τ).loc Cert.Kernel14Ideal.main_v1_2)) (v3 : (c : Dev Cert.Kernel14Ideal.nD) → Buf (Elt Ideal) ((c.tc : Thread Cert.Kernel14Ideal.nD Cert.Kernel14Ideal.τ).loc Cert.Kernel14Ideal.main_v1_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1_0) = v0 c
          ∧ r.2.mem ((c.tc : Thread Cert.Kernel14Ideal.nD Cert.Kernel14Ideal.τ).loc Cert.Kernel14Ideal.main_v1_1) = v1 c
          ∧ r.2.mem ((c.tc : Thread Cert.Kernel14Ideal.nD Cert.Kernel14Ideal.τ).loc Cert.Kernel14Ideal.main_v1_2) = v2 c
          ∧ r.2.mem ((c.tc : Thread Cert.Kernel14Ideal.nD Cert.Kernel14Ideal.τ).loc Cert.Kernel14Ideal.main_v1_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
          ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
          ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7)
          ∧ r.2.mem ((c.tc : Thread Cert.Kernel14Ideal.nD Cert.Kernel14Ideal.τ).loc Cert.Kernel14Ideal.main_arg8) = m ((c.tc : Thread Cert.Kernel14Ideal.nD Cert.Kernel14Ideal.τ).loc Cert.Kernel14Ideal.main_arg8))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v40) = v0 c
          ∧ r.2.mem ((c.tc : Thread Cert.Reference14Ideal.nD Cert.Reference14Ideal.τ).loc Cert.Reference14Ideal.main_v45) = v1 c
          ∧ r.2.mem ((c.tc : Thread Cert.Reference14Ideal.nD Cert.Reference14Ideal.τ).loc Cert.Reference14Ideal.main_v50) = v2 c
          ∧ r.2.mem ((c.tc : Thread Cert.Reference14Ideal.nD Cert.Reference14Ideal.τ).loc Cert.Reference14Ideal.main_v55) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5)
          ∧ r.2.mem ((c.tc : Thread Cert.Reference14Ideal.nD Cert.Reference14Ideal.τ).loc Cert.Reference14Ideal.main_arg6) = m' ((c.tc : Thread Cert.Reference14Ideal.nD Cert.Reference14Ideal.τ).loc Cert.Reference14Ideal.main_arg6)
          ∧ r.2.mem ((c.tc : Thread Cert.Reference14Ideal.nD Cert.Reference14Ideal.τ).loc Cert.Reference14Ideal.main_arg7) = m' ((c.tc : Thread Cert.Reference14Ideal.nD Cert.Reference14Ideal.τ).loc Cert.Reference14Ideal.main_arg7)
          ∧ r.2.mem ((c.tc : Thread Cert.Reference14Ideal.nD Cert.Reference14Ideal.τ).loc Cert.Reference14Ideal.main_arg8) = m' ((c.tc : Thread Cert.Reference14Ideal.nD Cert.Reference14Ideal.τ).loc Cert.Reference14Ideal.main_arg8))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)
      ∧ m' ((c.tc : Thread Cert.Reference15Ideal.nD Cert.Reference15Ideal.τ).loc Cert.Reference15Ideal.main_arg6) = m ((c.tc : Thread Cert.Kernel15Ideal.nD Cert.Kernel15Ideal.τ).loc Cert.Kernel15Ideal.main_arg6)
      ∧ m' ((c.tc : Thread Cert.Reference15Ideal.nD Cert.Reference15Ideal.τ).loc Cert.Reference15Ideal.main_arg7) = m ((c.tc : Thread Cert.Kernel15Ideal.nD Cert.Kernel15Ideal.τ).loc Cert.Kernel15Ideal.main_arg7)
      ∧ m' ((c.tc : Thread Cert.Reference15Ideal.nD Cert.Reference15Ideal.τ).loc Cert.Reference15Ideal.main_arg8) = m ((c.tc : Thread Cert.Kernel15Ideal.nD Cert.Kernel15Ideal.τ).loc Cert.Kernel15Ideal.main_arg8)) →
    ∃ (v0 : (c : Dev Cert.Kernel15Ideal.nD) → Buf (Elt Ideal) ((c.tc : Thread Cert.Kernel15Ideal.nD Cert.Kernel15Ideal.τ).loc Cert.Kernel15Ideal.main_v1_0)) (v1 : (c : Dev Cert.Kernel15Ideal.nD) → Buf (Elt Ideal) ((c.tc : Thread Cert.Kernel15Ideal.nD Cert.Kernel15Ideal.τ).loc Cert.Kernel15Ideal.main_v1_1)) (v2 : (c : Dev Cert.Kernel15Ideal.nD) → Buf (Elt Ideal) ((c.tc : Thread Cert.Kernel15Ideal.nD Cert.Kernel15Ideal.τ).loc Cert.Kernel15Ideal.main_v1_2)) (v3 : (c : Dev Cert.Kernel15Ideal.nD) → Buf (Elt Ideal) ((c.tc : Thread Cert.Kernel15Ideal.nD Cert.Kernel15Ideal.τ).loc Cert.Kernel15Ideal.main_v1_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1_0) = v0 c
          ∧ r.2.mem ((c.tc : Thread Cert.Kernel15Ideal.nD Cert.Kernel15Ideal.τ).loc Cert.Kernel15Ideal.main_v1_1) = v1 c
          ∧ r.2.mem ((c.tc : Thread Cert.Kernel15Ideal.nD Cert.Kernel15Ideal.τ).loc Cert.Kernel15Ideal.main_v1_2) = v2 c
          ∧ r.2.mem ((c.tc : Thread Cert.Kernel15Ideal.nD Cert.Kernel15Ideal.τ).loc Cert.Kernel15Ideal.main_v1_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
          ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
          ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
          ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v40) = v0 c
          ∧ r.2.mem ((c.tc : Thread Cert.Reference15Ideal.nD Cert.Reference15Ideal.τ).loc Cert.Reference15Ideal.main_v45) = v1 c
          ∧ r.2.mem ((c.tc : Thread Cert.Reference15Ideal.nD Cert.Reference15Ideal.τ).loc Cert.Reference15Ideal.main_v50) = v2 c
          ∧ r.2.mem ((c.tc : Thread Cert.Reference15Ideal.nD Cert.Reference15Ideal.τ).loc Cert.Reference15Ideal.main_v55) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5)
          ∧ r.2.mem ((c.tc : Thread Cert.Reference15Ideal.nD Cert.Reference15Ideal.τ).loc Cert.Reference15Ideal.main_arg6) = m' ((c.tc : Thread Cert.Reference15Ideal.nD Cert.Reference15Ideal.τ).loc Cert.Reference15Ideal.main_arg6)
          ∧ r.2.mem ((c.tc : Thread Cert.Reference15Ideal.nD Cert.Reference15Ideal.τ).loc Cert.Reference15Ideal.main_arg7) = m' ((c.tc : Thread Cert.Reference15Ideal.nD Cert.Reference15Ideal.τ).loc Cert.Reference15Ideal.main_arg7)
          ∧ r.2.mem ((c.tc : Thread Cert.Reference15Ideal.nD Cert.Reference15Ideal.τ).loc Cert.Reference15Ideal.main_arg8) = m' ((c.tc : Thread Cert.Reference15Ideal.nD Cert.Reference15Ideal.τ).loc Cert.Reference15Ideal.main_arg8))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v0) = v0 c
          ∧ r.2.mem ((c.tc : Thread Cert.Reference16Ideal.nD Cert.Reference16Ideal.τ).loc Cert.Reference16Ideal.main_v24) = v1 c
          ∧ r.2.mem ((c.tc : Thread Cert.Reference16Ideal.nD Cert.Reference16Ideal.τ).loc Cert.Reference16Ideal.main_v5) = v2 c
          ∧ r.2.mem ((c.tc : Thread Cert.Reference16Ideal.nD Cert.Reference16Ideal.τ).loc Cert.Reference16Ideal.main_v11) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v0_0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v43) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v2) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v4) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v1) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v7) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v6)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v6) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v24) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v1)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v1) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v36) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)
      ∧ m' ((c.tc : Thread Cert.Reference22Ideal.nD Cert.Reference22Ideal.τ).loc Cert.Reference22Ideal.main_arg5) = m ((c.tc : Thread Cert.Kernel22Ideal.nD Cert.Kernel22Ideal.τ).loc Cert.Kernel22Ideal.main_arg5)
      ∧ m' ((c.tc : Thread Cert.Reference22Ideal.nD Cert.Reference22Ideal.τ).loc Cert.Reference22Ideal.main_arg6) = m ((c.tc : Thread Cert.Kernel22Ideal.nD Cert.Kernel22Ideal.τ).loc Cert.Kernel22Ideal.main_arg6)) →
    ∃ (v0 : (c : Dev Cert.Kernel22Ideal.nD) → Buf (Elt Ideal) ((c.tc : Thread Cert.Kernel22Ideal.nD Cert.Kernel22Ideal.τ).loc Cert.Kernel22Ideal.main_v3_0)) (v1 : (c : Dev Cert.Kernel22Ideal.nD) → Buf (Elt Ideal) ((c.tc : Thread Cert.Kernel22Ideal.nD Cert.Kernel22Ideal.τ).loc Cert.Kernel22Ideal.main_v3_1)) (v2 : (c : Dev Cert.Kernel22Ideal.nD) → Buf (Elt Ideal) ((c.tc : Thread Cert.Kernel22Ideal.nD Cert.Kernel22Ideal.τ).loc Cert.Kernel22Ideal.main_v3_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v3_0) = v0 c
          ∧ r.2.mem ((c.tc : Thread Cert.Kernel22Ideal.nD Cert.Kernel22Ideal.τ).loc Cert.Kernel22Ideal.main_v3_1) = v1 c
          ∧ r.2.mem ((c.tc : Thread Cert.Kernel22Ideal.nD Cert.Kernel22Ideal.τ).loc Cert.Kernel22Ideal.main_v3_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
          ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5)
          ∧ r.2.mem ((c.tc : Thread Cert.Kernel22Ideal.nD Cert.Kernel22Ideal.τ).loc Cert.Kernel22Ideal.main_arg6) = m ((c.tc : Thread Cert.Kernel22Ideal.nD Cert.Kernel22Ideal.τ).loc Cert.Kernel22Ideal.main_arg6))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v34) = v0 c
          ∧ r.2.mem ((c.tc : Thread Cert.Reference22Ideal.nD Cert.Reference22Ideal.τ).loc Cert.Reference22Ideal.main_v36) = v1 c
          ∧ r.2.mem ((c.tc : Thread Cert.Reference22Ideal.nD Cert.Reference22Ideal.τ).loc Cert.Reference22Ideal.main_v41) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4)
          ∧ r.2.mem ((c.tc : Thread Cert.Reference22Ideal.nD Cert.Reference22Ideal.τ).loc Cert.Reference22Ideal.main_arg5) = m' ((c.tc : Thread Cert.Reference22Ideal.nD Cert.Reference22Ideal.τ).loc Cert.Reference22Ideal.main_arg5)
          ∧ r.2.mem ((c.tc : Thread Cert.Reference22Ideal.nD Cert.Reference22Ideal.τ).loc Cert.Reference22Ideal.main_arg6) = m' ((c.tc : Thread Cert.Reference22Ideal.nD Cert.Reference22Ideal.τ).loc Cert.Reference22Ideal.main_arg6))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)
      ∧ m' ((c.tc : Thread Cert.Reference23Ideal.nD Cert.Reference23Ideal.τ).loc Cert.Reference23Ideal.main_arg4) = m ((c.tc : Thread Cert.Kernel23Ideal.nD Cert.Kernel23Ideal.τ).loc Cert.Kernel23Ideal.main_arg4)
      ∧ m' ((c.tc : Thread Cert.Reference23Ideal.nD Cert.Reference23Ideal.τ).loc Cert.Reference23Ideal.main_arg5) = m ((c.tc : Thread Cert.Kernel23Ideal.nD Cert.Kernel23Ideal.τ).loc Cert.Kernel23Ideal.main_arg5)
      ∧ m' ((c.tc : Thread Cert.Reference23Ideal.nD Cert.Reference23Ideal.τ).loc Cert.Reference23Ideal.main_arg6) = m ((c.tc : Thread Cert.Kernel23Ideal.nD Cert.Kernel23Ideal.τ).loc Cert.Kernel23Ideal.main_arg6)) →
    ∃ (v0 : (c : Dev Cert.Kernel23Ideal.nD) → Buf (Elt Ideal) ((c.tc : Thread Cert.Kernel23Ideal.nD Cert.Kernel23Ideal.τ).loc Cert.Kernel23Ideal.main_v8_0)) (v1 : (c : Dev Cert.Kernel23Ideal.nD) → Buf (Elt Ideal) ((c.tc : Thread Cert.Kernel23Ideal.nD Cert.Kernel23Ideal.τ).loc Cert.Kernel23Ideal.main_v8_1)) (v2 : (c : Dev Cert.Kernel23Ideal.nD) → Buf (Elt Ideal) ((c.tc : Thread Cert.Kernel23Ideal.nD Cert.Kernel23Ideal.τ).loc Cert.Kernel23Ideal.main_v8_2)) (v3 : (c : Dev Cert.Kernel23Ideal.nD) → Buf (Elt Ideal) ((c.tc : Thread Cert.Kernel23Ideal.nD Cert.Kernel23Ideal.τ).loc Cert.Kernel23Ideal.main_v8_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v8_0) = v0 c
          ∧ r.2.mem ((c.tc : Thread Cert.Kernel23Ideal.nD Cert.Kernel23Ideal.τ).loc Cert.Kernel23Ideal.main_v8_1) = v1 c
          ∧ r.2.mem ((c.tc : Thread Cert.Kernel23Ideal.nD Cert.Kernel23Ideal.τ).loc Cert.Kernel23Ideal.main_v8_2) = v2 c
          ∧ r.2.mem ((c.tc : Thread Cert.Kernel23Ideal.nD Cert.Kernel23Ideal.τ).loc Cert.Kernel23Ideal.main_v8_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
          ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
          ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5)
          ∧ r.2.mem ((c.tc : Thread Cert.Kernel23Ideal.nD Cert.Kernel23Ideal.τ).loc Cert.Kernel23Ideal.main_arg6) = m ((c.tc : Thread Cert.Kernel23Ideal.nD Cert.Kernel23Ideal.τ).loc Cert.Kernel23Ideal.main_arg6))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v1) = v0 c
          ∧ r.2.mem ((c.tc : Thread Cert.Reference23Ideal.nD Cert.Reference23Ideal.τ).loc Cert.Reference23Ideal.main_v5) = v1 c
          ∧ r.2.mem ((c.tc : Thread Cert.Reference23Ideal.nD Cert.Reference23Ideal.τ).loc Cert.Reference23Ideal.main_v27) = v2 c
          ∧ r.2.mem ((c.tc : Thread Cert.Reference23Ideal.nD Cert.Reference23Ideal.τ).loc Cert.Reference23Ideal.main_v29) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3)
          ∧ r.2.mem ((c.tc : Thread Cert.Reference23Ideal.nD Cert.Reference23Ideal.τ).loc Cert.Reference23Ideal.main_arg4) = m' ((c.tc : Thread Cert.Reference23Ideal.nD Cert.Reference23Ideal.τ).loc Cert.Reference23Ideal.main_arg4)
          ∧ r.2.mem ((c.tc : Thread Cert.Reference23Ideal.nD Cert.Reference23Ideal.τ).loc Cert.Reference23Ideal.main_arg5) = m' ((c.tc : Thread Cert.Reference23Ideal.nD Cert.Reference23Ideal.τ).loc Cert.Reference23Ideal.main_arg5)
          ∧ r.2.mem ((c.tc : Thread Cert.Reference23Ideal.nD Cert.Reference23Ideal.τ).loc Cert.Reference23Ideal.main_arg6) = m' ((c.tc : Thread Cert.Reference23Ideal.nD Cert.Reference23Ideal.τ).loc Cert.Reference23Ideal.main_arg6))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)
      ∧ m' ((c.tc : Thread Cert.Reference24Ideal.nD Cert.Reference24Ideal.τ).loc Cert.Reference24Ideal.main_arg4) = m ((c.tc : Thread Cert.Kernel24Ideal.nD Cert.Kernel24Ideal.τ).loc Cert.Kernel24Ideal.main_arg4)
      ∧ m' ((c.tc : Thread Cert.Reference24Ideal.nD Cert.Reference24Ideal.τ).loc Cert.Reference24Ideal.main_arg5) = m ((c.tc : Thread Cert.Kernel24Ideal.nD Cert.Kernel24Ideal.τ).loc Cert.Kernel24Ideal.main_arg5)
      ∧ m' ((c.tc : Thread Cert.Reference24Ideal.nD Cert.Reference24Ideal.τ).loc Cert.Reference24Ideal.main_arg6) = m ((c.tc : Thread Cert.Kernel24Ideal.nD Cert.Kernel24Ideal.τ).loc Cert.Kernel24Ideal.main_arg6)) →
    ∃ (v0 : (c : Dev Cert.Kernel24Ideal.nD) → Buf (Elt Ideal) ((c.tc : Thread Cert.Kernel24Ideal.nD Cert.Kernel24Ideal.τ).loc Cert.Kernel24Ideal.main_v8_0)) (v1 : (c : Dev Cert.Kernel24Ideal.nD) → Buf (Elt Ideal) ((c.tc : Thread Cert.Kernel24Ideal.nD Cert.Kernel24Ideal.τ).loc Cert.Kernel24Ideal.main_v8_1)) (v2 : (c : Dev Cert.Kernel24Ideal.nD) → Buf (Elt Ideal) ((c.tc : Thread Cert.Kernel24Ideal.nD Cert.Kernel24Ideal.τ).loc Cert.Kernel24Ideal.main_v8_2)) (v3 : (c : Dev Cert.Kernel24Ideal.nD) → Buf (Elt Ideal) ((c.tc : Thread Cert.Kernel24Ideal.nD Cert.Kernel24Ideal.τ).loc Cert.Kernel24Ideal.main_v8_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v8_0) = v0 c
          ∧ r.2.mem ((c.tc : Thread Cert.Kernel24Ideal.nD Cert.Kernel24Ideal.τ).loc Cert.Kernel24Ideal.main_v8_1) = v1 c
          ∧ r.2.mem ((c.tc : Thread Cert.Kernel24Ideal.nD Cert.Kernel24Ideal.τ).loc Cert.Kernel24Ideal.main_v8_2) = v2 c
          ∧ r.2.mem ((c.tc : Thread Cert.Kernel24Ideal.nD Cert.Kernel24Ideal.τ).loc Cert.Kernel24Ideal.main_v8_3) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
          ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4)
          ∧ r.2.mem ((c.tc : Thread Cert.Kernel24Ideal.nD Cert.Kernel24Ideal.τ).loc Cert.Kernel24Ideal.main_arg5) = m ((c.tc : Thread Cert.Kernel24Ideal.nD Cert.Kernel24Ideal.τ).loc Cert.Kernel24Ideal.main_arg5)
          ∧ r.2.mem ((c.tc : Thread Cert.Kernel24Ideal.nD Cert.Kernel24Ideal.τ).loc Cert.Kernel24Ideal.main_arg6) = m ((c.tc : Thread Cert.Kernel24Ideal.nD Cert.Kernel24Ideal.τ).loc Cert.Kernel24Ideal.main_arg6))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v1) = v0 c
          ∧ r.2.mem ((c.tc : Thread Cert.Reference24Ideal.nD Cert.Reference24Ideal.τ).loc Cert.Reference24Ideal.main_v5) = v1 c
          ∧ r.2.mem ((c.tc : Thread Cert.Reference24Ideal.nD Cert.Reference24Ideal.τ).loc Cert.Reference24Ideal.main_v27) = v2 c
          ∧ r.2.mem ((c.tc : Thread Cert.Reference24Ideal.nD Cert.Reference24Ideal.τ).loc Cert.Reference24Ideal.main_v29) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3)
          ∧ r.2.mem ((c.tc : Thread Cert.Reference24Ideal.nD Cert.Reference24Ideal.τ).loc Cert.Reference24Ideal.main_arg4) = m' ((c.tc : Thread Cert.Reference24Ideal.nD Cert.Reference24Ideal.τ).loc Cert.Reference24Ideal.main_arg4)
          ∧ r.2.mem ((c.tc : Thread Cert.Reference24Ideal.nD Cert.Reference24Ideal.τ).loc Cert.Reference24Ideal.main_arg5) = m' ((c.tc : Thread Cert.Reference24Ideal.nD Cert.Reference24Ideal.τ).loc Cert.Reference24Ideal.main_arg5)
          ∧ r.2.mem ((c.tc : Thread Cert.Reference24Ideal.nD Cert.Reference24Ideal.τ).loc Cert.Reference24Ideal.main_arg6) = m' ((c.tc : Thread Cert.Reference24Ideal.nD Cert.Reference24Ideal.τ).loc Cert.Reference24Ideal.main_arg6))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)
      ∧ m' ((c.tc : Thread Cert.Reference25Ideal.nD Cert.Reference25Ideal.τ).loc Cert.Reference25Ideal.main_arg4) = m ((c.tc : Thread Cert.Kernel25Ideal.nD Cert.Kernel25Ideal.τ).loc Cert.Kernel25Ideal.main_arg4)
      ∧ m' ((c.tc : Thread Cert.Reference25Ideal.nD Cert.Reference25Ideal.τ).loc Cert.Reference25Ideal.main_arg5) = m ((c.tc : Thread Cert.Kernel25Ideal.nD Cert.Kernel25Ideal.τ).loc Cert.Kernel25Ideal.main_arg5)) →
    ∃ (v0 : (c : Dev Cert.Kernel25Ideal.nD) → Buf (Elt Ideal) ((c.tc : Thread Cert.Kernel25Ideal.nD Cert.Kernel25Ideal.τ).loc Cert.Kernel25Ideal.main_v6_0)) (v1 : (c : Dev Cert.Kernel25Ideal.nD) → Buf (Elt Ideal) ((c.tc : Thread Cert.Kernel25Ideal.nD Cert.Kernel25Ideal.τ).loc Cert.Kernel25Ideal.main_v6_1)) (v2 : (c : Dev Cert.Kernel25Ideal.nD) → Buf (Elt Ideal) ((c.tc : Thread Cert.Kernel25Ideal.nD Cert.Kernel25Ideal.τ).loc Cert.Kernel25Ideal.main_v6_2)) (v3 : (c : Dev Cert.Kernel25Ideal.nD) → Buf (Elt Ideal) ((c.tc : Thread Cert.Kernel25Ideal.nD Cert.Kernel25Ideal.τ).loc Cert.Kernel25Ideal.main_v6_3)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v6_0) = v0 c
          ∧ r.2.mem ((c.tc : Thread Cert.Kernel25Ideal.nD Cert.Kernel25Ideal.τ).loc Cert.Kernel25Ideal.main_v6_1) = v1 c
          ∧ r.2.mem ((c.tc : Thread Cert.Kernel25Ideal.nD Cert.Kernel25Ideal.τ).loc Cert.Kernel25Ideal.main_v6_2) = v2 c
          ∧ r.2.mem ((c.tc : Thread Cert.Kernel25Ideal.nD Cert.Kernel25Ideal.τ).loc Cert.Kernel25Ideal.main_v6_3) = v3 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
          ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4)
          ∧ r.2.mem ((c.tc : Thread Cert.Kernel25Ideal.nD Cert.Kernel25Ideal.τ).loc Cert.Kernel25Ideal.main_arg5) = m ((c.tc : Thread Cert.Kernel25Ideal.nD Cert.Kernel25Ideal.τ).loc Cert.Kernel25Ideal.main_arg5))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v56) = v0 c
          ∧ r.2.mem ((c.tc : Thread Cert.Reference25Ideal.nD Cert.Reference25Ideal.τ).loc Cert.Reference25Ideal.main_v68) = v1 c
          ∧ r.2.mem ((c.tc : Thread Cert.Reference25Ideal.nD Cert.Reference25Ideal.τ).loc Cert.Reference25Ideal.main_v67) = v2 c
          ∧ r.2.mem ((c.tc : Thread Cert.Reference25Ideal.nD Cert.Reference25Ideal.τ).loc Cert.Reference25Ideal.main_v69) = v3 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3)
          ∧ r.2.mem ((c.tc : Thread Cert.Reference25Ideal.nD Cert.Reference25Ideal.τ).loc Cert.Reference25Ideal.main_arg4) = m' ((c.tc : Thread Cert.Reference25Ideal.nD Cert.Reference25Ideal.τ).loc Cert.Reference25Ideal.main_arg4)
          ∧ r.2.mem ((c.tc : Thread Cert.Reference25Ideal.nD Cert.Reference25Ideal.τ).loc Cert.Reference25Ideal.main_arg5) = m' ((c.tc : Thread Cert.Reference25Ideal.nD Cert.Reference25Ideal.τ).loc Cert.Reference25Ideal.main_arg5))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v2) = v0 c
          ∧ r.2.mem ((c.tc : Thread Cert.Reference26Ideal.nD Cert.Reference26Ideal.τ).loc Cert.Reference26Ideal.main_v3) = v1 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v7_0)) (v1 : (c : Dev Cert.Kernel27Ideal.nD) → Buf (Elt Ideal) ((c.tc : Thread Cert.Kernel27Ideal.nD Cert.Kernel27Ideal.τ).loc Cert.Kernel27Ideal.main_v7_1)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v7_0) = v0 c
          ∧ r.2.mem ((c.tc : Thread Cert.Kernel27Ideal.nD Cert.Kernel27Ideal.τ).loc Cert.Kernel27Ideal.main_v7_1) = v1 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v21) = v0 c
          ∧ r.2.mem ((c.tc : Thread Cert.Reference27Ideal.nD Cert.Reference27Ideal.τ).loc Cert.Reference27Ideal.main_v23) = v1 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)) →
    ∃ (v0 : (c : Dev Cert.Kernel28Ideal.nD) → Buf (Elt Ideal) ((c.tc : Thread Cert.Kernel28Ideal.nD Cert.Kernel28Ideal.τ).loc Cert.Kernel28Ideal.main_v1)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v1) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v6) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)
      ∧ m' ((c.tc : Thread Cert.Reference29Ideal.nD Cert.Reference29Ideal.τ).loc Cert.Reference29Ideal.main_arg4) = m ((c.tc : Thread Cert.Kernel29Ideal.nD Cert.Kernel29Ideal.τ).loc Cert.Kernel29Ideal.main_arg4)
      ∧ m' ((c.tc : Thread Cert.Reference29Ideal.nD Cert.Reference29Ideal.τ).loc Cert.Reference29Ideal.main_arg5) = m ((c.tc : Thread Cert.Kernel29Ideal.nD Cert.Kernel29Ideal.τ).loc Cert.Kernel29Ideal.main_arg5)
      ∧ m' ((c.tc : Thread Cert.Reference29Ideal.nD Cert.Reference29Ideal.τ).loc Cert.Reference29Ideal.main_arg6) = m ((c.tc : Thread Cert.Kernel29Ideal.nD Cert.Kernel29Ideal.τ).loc Cert.Kernel29Ideal.main_arg6)
      ∧ m' ((c.tc : Thread Cert.Reference29Ideal.nD Cert.Reference29Ideal.τ).loc Cert.Reference29Ideal.main_arg7) = m ((c.tc : Thread Cert.Kernel29Ideal.nD Cert.Kernel29Ideal.τ).loc Cert.Kernel29Ideal.main_arg7)
      ∧ m' ((c.tc : Thread Cert.Reference29Ideal.nD Cert.Reference29Ideal.τ).loc Cert.Reference29Ideal.main_arg8) = m ((c.tc : Thread Cert.Kernel29Ideal.nD Cert.Kernel29Ideal.τ).loc Cert.Kernel29Ideal.main_arg8)
      ∧ m' ((c.tc : Thread Cert.Reference29Ideal.nD Cert.Reference29Ideal.τ).loc Cert.Reference29Ideal.main_arg9) = m ((c.tc : Thread Cert.Kernel29Ideal.nD Cert.Kernel29Ideal.τ).loc Cert.Kernel29Ideal.main_arg9)) →
    ∃ (v0 : (c : Dev Cert.Kernel29Ideal.nD) → Buf (Elt Ideal) ((c.tc : Thread Cert.Kernel29Ideal.nD Cert.Kernel29Ideal.τ).loc Cert.Kernel29Ideal.main_v19_0)) (v1 : (c : Dev Cert.Kernel29Ideal.nD) → Buf (Elt Ideal) ((c.tc : Thread Cert.Kernel29Ideal.nD Cert.Kernel29Ideal.τ).loc Cert.Kernel29Ideal.main_v19_1)) (v2 : (c : Dev Cert.Kernel29Ideal.nD) → Buf (Elt Ideal) ((c.tc : Thread Cert.Kernel29Ideal.nD Cert.Kernel29Ideal.τ).loc Cert.Kernel29Ideal.main_v19_2)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v19_0) = v0 c
          ∧ r.2.mem ((c.tc : Thread Cert.Kernel29Ideal.nD Cert.Kernel29Ideal.τ).loc Cert.Kernel29Ideal.main_v19_1) = v1 c
          ∧ r.2.mem ((c.tc : Thread Cert.Kernel29Ideal.nD Cert.Kernel29Ideal.τ).loc Cert.Kernel29Ideal.main_v19_2) = v2 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
          ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4)
          ∧ r.2.mem ((c.tc : Thread Cert.Kernel29Ideal.nD Cert.Kernel29Ideal.τ).loc Cert.Kernel29Ideal.main_arg5) = m ((c.tc : Thread Cert.Kernel29Ideal.nD Cert.Kernel29Ideal.τ).loc Cert.Kernel29Ideal.main_arg5)
          ∧ r.2.mem ((c.tc : Thread Cert.Kernel29Ideal.nD Cert.Kernel29Ideal.τ).loc Cert.Kernel29Ideal.main_arg6) = m ((c.tc : Thread Cert.Kernel29Ideal.nD Cert.Kernel29Ideal.τ).loc Cert.Kernel29Ideal.main_arg6)
          ∧ r.2.mem ((c.tc : Thread Cert.Kernel29Ideal.nD Cert.Kernel29Ideal.τ).loc Cert.Kernel29Ideal.main_arg7) = m ((c.tc : Thread Cert.Kernel29Ideal.nD Cert.Kernel29Ideal.τ).loc Cert.Kernel29Ideal.main_arg7)
          ∧ r.2.mem ((c.tc : Thread Cert.Kernel29Ideal.nD Cert.Kernel29Ideal.τ).loc Cert.Kernel29Ideal.main_arg8) = m ((c.tc : Thread Cert.Kernel29Ideal.nD Cert.Kernel29Ideal.τ).loc Cert.Kernel29Ideal.main_arg8)
          ∧ r.2.mem ((c.tc : Thread Cert.Kernel29Ideal.nD Cert.Kernel29Ideal.τ).loc Cert.Kernel29Ideal.main_arg9) = m ((c.tc : Thread Cert.Kernel29Ideal.nD Cert.Kernel29Ideal.τ).loc Cert.Kernel29Ideal.main_arg9))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v356) = v0 c
          ∧ r.2.mem ((c.tc : Thread Cert.Reference29Ideal.nD Cert.Reference29Ideal.τ).loc Cert.Reference29Ideal.main_v357) = v1 c
          ∧ r.2.mem ((c.tc : Thread Cert.Reference29Ideal.nD Cert.Reference29Ideal.τ).loc Cert.Reference29Ideal.main_v358) = v2 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3)
          ∧ r.2.mem ((c.tc : Thread Cert.Reference29Ideal.nD Cert.Reference29Ideal.τ).loc Cert.Reference29Ideal.main_arg4) = m' ((c.tc : Thread Cert.Reference29Ideal.nD Cert.Reference29Ideal.τ).loc Cert.Reference29Ideal.main_arg4)
          ∧ r.2.mem ((c.tc : Thread Cert.Reference29Ideal.nD Cert.Reference29Ideal.τ).loc Cert.Reference29Ideal.main_arg5) = m' ((c.tc : Thread Cert.Reference29Ideal.nD Cert.Reference29Ideal.τ).loc Cert.Reference29Ideal.main_arg5)
          ∧ r.2.mem ((c.tc : Thread Cert.Reference29Ideal.nD Cert.Reference29Ideal.τ).loc Cert.Reference29Ideal.main_arg6) = m' ((c.tc : Thread Cert.Reference29Ideal.nD Cert.Reference29Ideal.τ).loc Cert.Reference29Ideal.main_arg6)
          ∧ r.2.mem ((c.tc : Thread Cert.Reference29Ideal.nD Cert.Reference29Ideal.τ).loc Cert.Reference29Ideal.main_arg7) = m' ((c.tc : Thread Cert.Reference29Ideal.nD Cert.Reference29Ideal.τ).loc Cert.Reference29Ideal.main_arg7)
          ∧ r.2.mem ((c.tc : Thread Cert.Reference29Ideal.nD Cert.Reference29Ideal.τ).loc Cert.Reference29Ideal.main_arg8) = m' ((c.tc : Thread Cert.Reference29Ideal.nD Cert.Reference29Ideal.τ).loc Cert.Reference29Ideal.main_arg8)
          ∧ r.2.mem ((c.tc : Thread Cert.Reference29Ideal.nD Cert.Reference29Ideal.τ).loc Cert.Reference29Ideal.main_arg9) = m' ((c.tc : Thread Cert.Reference29Ideal.nD Cert.Reference29Ideal.τ).loc Cert.Reference29Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite (hKernel4Ideal := hKernel4Ideal) (hPre_finite := hPre_finite)
    ∧ quiescent_Reference4Ideal (hReference4Ideal := hReference4Ideal)
    ∧ quiescent_Reference4Ideal_pre_finite (hReference4Ideal := hReference4Ideal) (hPre_finite := hPre_finite)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite (hKernel4Ideal := hKernel4Ideal) (hReference4Ideal := hReference4Ideal) (hPre_finite := hPre_finite)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
-- ==== Pre_finite.lean ====
abbrev S4096x1024 : Shape := ⟨2, ![4096, 1024]⟩
abbrev S2816x1024 : Shape := ⟨2, ![2816, 1024]⟩
abbrev S2x4096x2816 : Shape := ⟨3, ![2, 4096, 2816]⟩
abbrev S_ : Shape := ⟨0, ![]⟩
abbrev S1x4096x2816 : Shape := ⟨3, ![1, 4096, 2816]⟩
abbrev S4096x2816 : Shape := ⟨2, ![4096, 2816]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  slices_S2x4096x2816_S1x4096x2816_1_0_0 : S2x4096x2816.Slices ![1, 0, 0] S1x4096x2816
  shapeCasts_S1x4096x2816_S4096x2816 : S1x4096x2816.ShapeCasts S4096x2816
  bcast_S_S4096x2816 : S_.BroadcastsInDim S4096x2816 (![] : Fin 0 → Fin S4096x2816.rank)
  reducesTo_S4096x2816_S_d0_1 : S4096x2816.ReducesTo [0, 1] S_

variable [Facts]

def fn {F : FTy → Type} [FloatOps F] (main_arg0 : FVec F S4096x1024 .bf16) (main_arg1 : FVec F S2816x1024 .f32) (main_arg2 : FVec F S2x4096x2816 .bf16) : IVec S_ 1 :=
  let main_v0 : FVec F S4096x1024 .bf16 := Host.absf main_arg0
  let main_cst : FVec F S_ .bf16 := constant S_ .bf16 0x7F80#16
  let main_v1 : FVec F S4096x1024 .bf16 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S2816x1024 .f32 := Host.absf main_arg1
  let main_cst_0 : FVec F S_ .f32 := constant S_ .f32 0x7F800000#32
  let main_v5 : FVec F S2816x1024 .f32 := broadcastInDim S2816x1024 ![] bcast_S_S2816x1024 main_cst_0
  let main_v6 : IVec S2816x1024 1 := cmpf .olt main_v4 main_v5
  let main_c_1 : IVec S_ 1 := constantI S_ 1 1#1
  let main_v7 : IVec S_ 1 := (fun x v => Host.reduce IntOp.andi x v reducesTo_S2816x1024_S_d0_1 h_S_) main_v6 main_c_1
  let main_v8 : IVec S_ 1 := andi main_v3 main_v7
  let main_v9 : FVec F S1x4096x2816 .bf16 := (extractStridedSlice S1x4096x2816 ![1, 0, 0] · slices_S2x4096x2816_S1x4096x2816_1_0_0) main_arg2
  let main_v10 : FVec F S4096x2816 .bf16 := shapeCast S4096x2816 main_v9 shapeCasts_S1x4096x2816_S4096x2816
  let main_v11 : FVec F S4096x2816 .bf16 := Host.absf main_v10
  let main_cst_2 : FVec F S_ .bf16 := constant S_ .bf16 0x7F80#16
  let main_v12 : FVec F S4096x2816 .bf16 := broadcastInDim S4096x2816 ![] bcast_S_S4096x2816 main_cst_2
  let main_v13 : IVec S4096x2816 1 := cmpf .olt main_v11 main_v12
  let main_c_3 : IVec S_ 1 := constantI S_ 1 1#1
  let main_v14 : IVec S_ 1 := (fun x v => Host.reduce IntOp.andi x v reducesTo_S4096x2816_S_d0_1 h_S_) main_v13 main_c_3
  let main_v15 : IVec S_ 1 := andi main_v8 main_v14
  main_v15
-- ==== Kernel.lean ====
abbrev S4096x1024 : Shape := ⟨2, ![4096, 1024]⟩
abbrev S4096x10240 : Shape := ⟨2, ![4096, 10240]⟩
abbrev S1024x10240 : Shape := ⟨2, ![1024, 10240]⟩
abbrev S1024 : Shape := ⟨1, ![1024]⟩
abbrev S1024x8x1280 : Shape := ⟨3, ![1024, 8, 1280]⟩
abbrev S8x1024x1280 : Shape := ⟨3, ![8, 1024, 1280]⟩
abbrev S1x1024 : Shape := ⟨2, ![1, 1024]⟩
abbrev S2x1024 : Shape := ⟨2, ![2, 1024]⟩
abbrev S_ : Shape := ⟨0, ![]⟩
abbrev S8x1024 : Shape := ⟨2, ![8, 1024]⟩
abbrev S512x1024 : Shape := ⟨2, ![512, 1024]⟩
abbrev S512x2560 : Shape := ⟨2, ![512, 2560]⟩
abbrev S2x1024x1280 : Shape := ⟨3, ![2, 1024, 1280]⟩
abbrev S512x1280 : Shape := ⟨2, ![512, 1280]⟩
abbrev S1x1024x1280 : Shape := ⟨3, ![1, 1024, 1280]⟩
abbrev S1024x1280 : Shape := ⟨2, ![1024, 1280]⟩
abbrev S512 : Shape := ⟨1, ![512]⟩
abbrev S512x1 : Shape := ⟨2, ![512, 1]⟩

abbrev nBuf : Space → Nat
  | .hbm => 17
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x10240, .bf16⟩
  | .hbm, ⟨2, _⟩ => ⟨S1024x10240, .f32⟩
  | .hbm, ⟨3, _⟩ => ⟨S4096x1024, .f32⟩
  | .hbm, ⟨4, _⟩ => ⟨S1024, .f32⟩
  | .hbm, ⟨5, _⟩ => ⟨S1024, .f32⟩
  | .hbm, ⟨6, _⟩ => ⟨S1024x10240, .bf16⟩
  | .hbm, ⟨7, _⟩ => ⟨S1024x8x1280, .bf16⟩
  | .hbm, ⟨8, _⟩ => ⟨S8x1024x1280, .bf16⟩
  | .hbm, ⟨9, _⟩ => ⟨S1x1024, .f32⟩
  | .hbm, ⟨10, _⟩ => ⟨S1x1024, .f32⟩
  | .hbm, ⟨11, _⟩ => ⟨S2x1024, .f32⟩
  | .hbm, ⟨12, _⟩ => ⟨S_, .i32⟩
  | .hbm, ⟨13, _⟩ => ⟨S_, .f32⟩
  | .hbm, ⟨14, _⟩ => ⟨S8x1024, .f32⟩
  | .hbm, ⟨15, _⟩ => ⟨S4096x1024, .f32⟩
  | .hbm, ⟨16, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x2560, .bf16⟩
  | .local _ .vmem, ⟨3, _⟩ => ⟨S512x2560, .bf16⟩
  | .local _ .vmem, ⟨4, _⟩ => ⟨S2x1024x1280, .bf16⟩
  | .local _ .vmem, ⟨5, _⟩ => ⟨S2x1024x1280, .bf16⟩
  | .local _ .vmem, ⟨6, _⟩ => ⟨S512x1024, .f32⟩
  | .local _ .vmem, ⟨7, _⟩ => ⟨S512x1024, .f32⟩
  | .local _ .vmem, ⟨8, _⟩ => ⟨S8x1024, .f32⟩
  | .local _ .vmem, ⟨9, _⟩ => ⟨S512x1024, .f32⟩
  | .local _ .vmem, ⟨10, _⟩ => ⟨S512x1024, .f32⟩
  | .local _ .vmem, ⟨11, _⟩ => ⟨S8x1024, .f32⟩
  | .local _ .vmem, ⟨12, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_call0_v0 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![8, 4], ![false, false]⟩

def k0_cond4 (i : grid0.Coords) : BitVec 1 :=
  let arg1 : BitVec 32 := BitVec.ofNat 32 (i 1).val
  let c3_i32 : BitVec 32 := 3#32
  let v20 : BitVec 1 := Scalar.cmpi .eq arg1 c3_i32
  let v21 : BitVec 32 := Scalar.extui v20
  let c0_i32_14 : BitVec 32 := 0#32
  let v22 : BitVec 1 := Scalar.cmpi .ne v21 c0_i32_14
  v22

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x1024x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== ReferenceIdeal.lean ====
abbrev S4096x1024 : Shape := ⟨2, ![4096, 1024]⟩
abbrev S4096x10240 : Shape := ⟨2, ![4096, 10240]⟩
abbrev S1024x10240 : Shape := ⟨2, ![1024, 10240]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S3x1024 : Shape := ⟨2, ![3, 1024]⟩
abbrev S5x1024 : Shape := ⟨2, ![5, 1024]⟩
abbrev S8x1024 : Shape := ⟨2, ![8, 1024]⟩

abbrev nBuf : Space → Nat
  | .hbm => 87
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x10240, .bf16⟩
  | .hbm, ⟨2, _⟩ => ⟨S1024x10240, .f32⟩
  | .hbm, ⟨3, _⟩ => ⟨S4096x1024, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S4096x10240, .f32⟩
  | .hbm, ⟨41, _⟩ => ⟨S4096x10240, .f32⟩
  | .hbm, ⟨42, _⟩ => ⟨S4096x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S_, .f32⟩
  | .hbm, ⟨47, _⟩ => ⟨S1024, .f32⟩
  | .hbm, ⟨48, _⟩ => ⟨S4096x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S1024, .f32⟩
  | .hbm, ⟨56, _⟩ => ⟨S4096x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S4096x1024, .f32⟩
  | .hbm, ⟨61, _⟩ => ⟨S4096x1024, .f32⟩
  | .hbm, ⟨62, _⟩ => ⟨S_, .f32⟩
  | .hbm, ⟨63, _⟩ => ⟨S1024, .f32⟩
  | .hbm, ⟨64, _⟩ => ⟨S4096x1024, .f32⟩
  | .hbm, ⟨65, _⟩ => ⟨S_, .f32⟩
  | .hbm, ⟨66, _⟩ => ⟨S4096, .f32⟩
  | .hbm, ⟨67, _⟩ => ⟨S4096x1, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1, .f32⟩
  | .hbm, ⟨72, _⟩ => ⟨S_, .f32⟩
  | .hbm, ⟨73, _⟩ => ⟨S4096x1, .f32⟩
  | .hbm, ⟨74, _⟩ => ⟨S4096x1, .f32⟩
  | .hbm, ⟨75, _⟩ => ⟨S_, .f32⟩
  | .hbm, ⟨76, _⟩ => ⟨S4096, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S1x1024, .f32⟩
  | .hbm, ⟨81, _⟩ => ⟨S1x1024, .f32⟩
  | .hbm, ⟨82, _⟩ => ⟨S1x1024, .f32⟩
  | .hbm, ⟨83, _⟩ => ⟨S3x1024, .f32⟩
  | .hbm, ⟨84, _⟩ => ⟨S_, .f32⟩
  | .hbm, ⟨85, _⟩ => ⟨S5x1024, .f32⟩
  | .hbm, ⟨86, _⟩ => ⟨S8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_cst_3 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_4 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_cst_8 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_9 : Ref sig .tc := ⟨.hbm, 54, rfl⟩
abbrev main_v38 : Ref sig .tc := ⟨.hbm, 55, rfl⟩
abbrev main_v39 : Ref sig .tc := ⟨.hbm, 56, rfl⟩
abbrev main_cst_10 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_11 : Ref sig .tc := ⟨.hbm, 62, rfl⟩
abbrev main_v44 : Ref sig .tc := ⟨.hbm, 63, rfl⟩
abbrev main_v45 : Ref sig .tc := ⟨.hbm, 64, rfl⟩
abbrev main_cst_12 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_13 : Ref sig .tc := ⟨.hbm, 72, rfl⟩
abbrev main_v52 : Ref sig .tc := ⟨.hbm, 73, rfl⟩
abbrev main_v53 : Ref sig .tc := ⟨.hbm, 74, rfl⟩
abbrev main_cst_14 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_15 : Ref sig .tc := ⟨.hbm, 84, rfl⟩
abbrev main_v62 : Ref sig .tc := ⟨.hbm, 85, rfl⟩
abbrev main_v63 : Ref sig .tc := ⟨.hbm, 86, rfl⟩

abbrev nD : Nat := 1
abbrev τ : Topo := Topo.v7x

variable {F : FTy → Type} [FloatOps F]
-- ==== Kernel2.lean ====
abbrev S4096x1024 : Shape := ⟨2, ![4096, 1024]⟩
abbrev S4096x10240 : Shape := ⟨2, ![4096, 10240]⟩
abbrev S1024x10240 : Shape := ⟨2, ![1024, 10240]⟩
abbrev S1024 : Shape := ⟨1, ![1024]⟩
abbrev S1024x8x1280 : Shape := ⟨3, ![1024, 8, 1280]⟩
abbrev S8x1024x1280 : Shape := ⟨3, ![8, 1024, 1280]⟩
abbrev S1x1024 : Shape := ⟨2, ![1, 1024]⟩
abbrev S3x1024 : Shape := ⟨2, ![3, 1024]⟩
abbrev S_ : Shape := ⟨0, ![]⟩
abbrev S8x1024 : Shape := ⟨2, ![8, 1024]⟩
abbrev S512x1024 : Shape := ⟨2, ![512, 1024]⟩
abbrev S512x2560 : Shape := ⟨2, ![512, 2560]⟩
abbrev S2x1024x1280 : Shape := ⟨3, ![2, 1024, 1280]⟩
abbrev S512x1280 : Shape := ⟨2, ![512, 1280]⟩
abbrev S1x1024x1280 : Shape := ⟨3, ![1, 1024, 1280]⟩
abbrev S1024x1280 : Shape := ⟨2, ![1024, 1280]⟩
abbrev S512 : Shape := ⟨1, ![512]⟩
abbrev S512x1 : Shape := ⟨2, ![512, 1]⟩

abbrev nBuf : Space → Nat
  | .hbm => 21
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S4096x10240, .bf16⟩
  | .hbm, ⟨2, _⟩ => ⟨S1024x10240, .f32⟩
  | .hbm, ⟨3, _⟩ => ⟨S4096x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S4096x1024, .f32⟩
  | .hbm, ⟨8, _⟩ => ⟨S1024x10240, .bf16⟩
  | .hbm, ⟨9, _⟩ => ⟨S1024x8x1280, .bf16⟩
  | .hbm, ⟨10, _⟩ => ⟨S8x1024x1280, .bf16⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S3x1024, .f32⟩
  | .hbm, ⟨15, _⟩ => ⟨S_, .i32⟩
  | .hbm, ⟨16, _⟩ => ⟨S_, .f32⟩
  | .hbm, ⟨17, _⟩ => ⟨S8x1024, .f32⟩
  | .hbm, ⟨18, _⟩ => ⟨S4096x1024, .f32⟩
  | .hbm, ⟨19, _⟩ => ⟨S4096x1024, .bf16⟩
  | .hbm, ⟨20, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x2560, .bf16⟩
  | .local _ .vmem, ⟨3, _⟩ => ⟨S512x2560, .bf16⟩
  | .local _ .vmem, ⟨4, _⟩ => ⟨S2x1024x1280, .bf16⟩
  | .local _ .vmem, ⟨5, _⟩ => ⟨S2x1024x1280, .bf16⟩
  | .local _ .vmem, ⟨6, _⟩ => ⟨S512x1024, .f32⟩
  | .local _ .vmem, ⟨7, _⟩ => ⟨S512x1024, .f32⟩
  | .local _ .vmem, ⟨8, _⟩ => ⟨S8x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S8x1024, .f32⟩
  | .local _ .vmem, ⟨16, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_call0_v0 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev main_v8_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨2, ![8, 4], ![false, false]⟩

def k0_cond4 (i : grid0.Coords) : BitVec 1 :=
  let arg1 : BitVec 32 := BitVec.ofNat 32 (i 1).val
  let c3_i32 : BitVec 32 := 3#32
  let v20 : BitVec 1 := Scalar.cmpi .eq arg1 c3_i32
  let v21 : BitVec 32 := Scalar.extui v20
  let c0_i32_14 : BitVec 32 := 0#32
  let v22 : BitVec 1 := Scalar.cmpi .ne v21 c0_i32_14
  v22

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x1024x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== Reference2Ideal.lean ====
abbrev S4096x1024 : Shape := ⟨2, ![4096, 1024]⟩
abbrev S4096x10240 : Shape := ⟨2, ![4096, 10240]⟩
abbrev S1024x10240 : Shape := ⟨2, ![1024, 10240]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4x1024 : Shape := ⟨2, ![4, 1024]⟩
abbrev S8x1024 : Shape := ⟨2, ![8, 1024]⟩

abbrev nBuf : Space → Nat
  | .hbm => 102
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x10240, .bf16⟩
  | .hbm, ⟨2, _⟩ => ⟨S1024x10240, .f32⟩
  | .hbm, ⟨3, _⟩ => ⟨S4096x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S4096x1024, .f32⟩
  | .hbm, ⟨8, _⟩ => ⟨S_, .f32⟩
  | .hbm, ⟨9, _⟩ => ⟨S1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1024, .f32⟩
  | .hbm, ⟨29, _⟩ => ⟨S4096x1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1024, .f32⟩
  | .hbm, ⟨36, _⟩ => ⟨S1x1024, .f32⟩
  | .hbm, ⟨37, _⟩ => ⟨S4096x1024, .f32⟩
  | .hbm, ⟨38, _⟩ => ⟨S4096x1024, .f32⟩
  | .hbm, ⟨39, _⟩ => ⟨S1x1024, .f32⟩
  | .hbm, ⟨40, _⟩ => ⟨S4096x1024, .f32⟩
  | .hbm, ⟨41, _⟩ => ⟨S4096x1024, .f32⟩
  | .hbm, ⟨42, _⟩ => ⟨S4096x10240, .f32⟩
  | .hbm, ⟨43, _⟩ => ⟨S4096x10240, .f32⟩
  | .hbm, ⟨44, _⟩ => ⟨S4096x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S_, .f32⟩
  | .hbm, ⟨49, _⟩ => ⟨S1024, .f32⟩
  | .hbm, ⟨50, _⟩ => ⟨S4096x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S1024, .f32⟩
  | .hbm, ⟨58, _⟩ => ⟨S4096x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S4096x1024, .f32⟩
  | .hbm, ⟨63, _⟩ => ⟨S4096x1024, .f32⟩
  | .hbm, ⟨64, _⟩ => ⟨S_, .f32⟩
  | .hbm, ⟨65, _⟩ => ⟨S1024, .f32⟩
  | .hbm, ⟨66, _⟩ => ⟨S4096x1024, .f32⟩
  | .hbm, ⟨67, _⟩ => ⟨S_, .f32⟩
  | .hbm, ⟨68, _⟩ => ⟨S4096, .f32⟩
  | .hbm, ⟨69, _⟩ => ⟨S4096x1, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1, .f32⟩
  | .hbm, ⟨74, _⟩ => ⟨S_, .f32⟩
  | .hbm, ⟨75, _⟩ => ⟨S4096x1, .f32⟩
  | .hbm, ⟨76, _⟩ => ⟨S4096x1, .f32⟩
  | .hbm, ⟨77, _⟩ => ⟨S_, .f32⟩
  | .hbm, ⟨78, _⟩ => ⟨S4096, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S1x1024, .f32⟩
  | .hbm, ⟨83, _⟩ => ⟨S4096x1024, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S4096x1024, .f32⟩
  | .hbm, ⟨88, _⟩ => ⟨S_, .f32⟩
  | .hbm, ⟨89, _⟩ => ⟨S1024, .f32⟩
  | .hbm, ⟨90, _⟩ => ⟨S1x1024, .f32⟩
  | .hbm, ⟨91, _⟩ => ⟨S_, .f32⟩
  | .hbm, ⟨92, _⟩ => ⟨S1024, .f32⟩
  | .hbm, ⟨93, _⟩ => ⟨S4096x1024, .bf16⟩
  | .hbm, ⟨94, _⟩ => ⟨S1x1024, .f32⟩
  | .hbm, ⟨95, _⟩ => ⟨S1x1024, .f32⟩
  | .hbm, ⟨96, _⟩ => ⟨S1x1024, .f32⟩
  | .hbm, ⟨97, _⟩ => ⟨S1x1024, .f32⟩
  | .hbm, ⟨98, _⟩ => ⟨S4x1024, .f32⟩
  | .hbm, ⟨99, _⟩ => ⟨S_, .f32⟩
  | .hbm, ⟨100, _⟩ => ⟨S4x1024, .f32⟩
  | .hbm, ⟨101, _⟩ => ⟨S8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_cst_2 : Ref sig .tc := ⟨.hbm, 17, rfl⟩
abbrev main_v6 : Ref sig .tc := ⟨.hbm, 18, rfl⟩
abbrev main_v7 : Ref sig .tc := ⟨.hbm, 19, rfl⟩
abbrev main_cst_3 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_4 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_6 : Ref sig .tc := ⟨.hbm, 45, rfl⟩
abbrev main_v30 : Ref sig .tc := ⟨.hbm, 46, rfl⟩
abbrev main_v31 : Ref sig .tc := ⟨.hbm, 47, rfl⟩
abbrev main_cst_7 : Ref sig .tc := ⟨.hbm, 48, rfl⟩
abbrev main_v32 : Ref sig .tc := ⟨.hbm, 49, rfl⟩
abbrev main_v33 : Ref sig .tc := ⟨.hbm, 50, rfl⟩
abbrev main_cst_8 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_9 : Ref sig .tc := ⟨.hbm, 56, rfl⟩
abbrev main_v38 : Ref sig .tc := ⟨.hbm, 57, rfl⟩
abbrev main_v39 : Ref sig .tc := ⟨.hbm, 58, rfl⟩
abbrev main_cst_10 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_11 : Ref sig .tc := ⟨.hbm, 64, rfl⟩
abbrev main_v44 : Ref sig .tc := ⟨.hbm, 65, rfl⟩
abbrev main_v45 : Ref sig .tc := ⟨.hbm, 66, rfl⟩
abbrev main_cst_12 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_13 : Ref sig .tc := ⟨.hbm, 74, rfl⟩
abbrev main_v52 : Ref sig .tc := ⟨.hbm, 75, rfl⟩
abbrev main_v53 : Ref sig .tc := ⟨.hbm, 76, rfl⟩
abbrev main_cst_14 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_15 : Ref sig .tc := ⟨.hbm, 88, rfl⟩
abbrev main_v64 : Ref sig .tc := ⟨.hbm, 89, rfl⟩
abbrev main_v65 : Ref sig .tc := ⟨.hbm, 90, rfl⟩
abbrev main_cst_16 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_17 : Ref sig .tc := ⟨.hbm, 99, rfl⟩
abbrev main_v73 : Ref sig .tc := ⟨.hbm, 100, rfl⟩
abbrev main_v74 : Ref sig .tc := ⟨.hbm, 101, rfl⟩

abbrev nD : Nat := 1
abbrev τ : Topo := Topo.v7x

variable {F : FTy → Type} [FloatOps F]
-- ==== Kernel3.lean ====
abbrev S4096x1024 : Shape := ⟨2, ![4096, 1024]⟩
abbrev S4096x5632 : Shape := ⟨2, ![4096, 5632]⟩
abbrev S1024x5632 : Shape := ⟨2, ![1024, 5632]⟩
abbrev S1024 : Shape := ⟨1, ![1024]⟩
abbrev S1x1024x5632 : Shape := ⟨3, ![1, 1024, 5632]⟩
abbrev S1x1024 : Shape := ⟨2, ![1, 1024]⟩
abbrev S3x1024 : Shape := ⟨2, ![3, 1024]⟩
abbrev S_ : Shape := ⟨0, ![]⟩
abbrev S8x1024 : Shape := ⟨2, ![8, 1024]⟩
abbrev S512x1024 : Shape := ⟨2, ![512, 1024]⟩
abbrev S512x5632 : Shape := ⟨2, ![512, 5632]⟩
abbrev S512 : Shape := ⟨1, ![512]⟩
abbrev S512x1 : Shape := ⟨2, ![512, 1]⟩

abbrev nBuf : Space → Nat
  | .hbm => 20
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S4096x5632, .bf16⟩
  | .hbm, ⟨2, _⟩ => ⟨S1024x5632, .f32⟩
  | .hbm, ⟨3, _⟩ => ⟨S4096x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S4096x1024, .f32⟩
  | .hbm, ⟨8, _⟩ => ⟨S1024x5632, .bf16⟩
  | .hbm, ⟨9, _⟩ => ⟨S1x1024x5632, .bf16⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S3x1024, .f32⟩
  | .hbm, ⟨14, _⟩ => ⟨S_, .i32⟩
  | .hbm, ⟨15, _⟩ => ⟨S_, .f32⟩
  | .hbm, ⟨16, _⟩ => ⟨S8x1024, .f32⟩
  | .hbm, ⟨17, _⟩ => ⟨S4096x1024, .f32⟩
  | .hbm, ⟨18, _⟩ => ⟨S4096x1024, .bf16⟩
  | .hbm, ⟨19, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x5632, .bf16⟩
  | .local _ .vmem, ⟨3, _⟩ => ⟨S512x5632, .bf16⟩
  | .local _ .vmem, ⟨4, _⟩ => ⟨S1x1024x5632, .bf16⟩
  | .local _ .vmem, ⟨5, _⟩ => ⟨S512x1024, .f32⟩
  | .local _ .vmem, ⟨6, _⟩ => ⟨S512x1024, .f32⟩
  | .local _ .vmem, ⟨7, _⟩ => ⟨S8x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_call0_v0 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev main_v7_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== Reference3Ideal.lean ====
abbrev S4096x1024 : Shape := ⟨2, ![4096, 1024]⟩
abbrev S4096x5632 : Shape := ⟨2, ![4096, 5632]⟩
abbrev S1024x5632 : Shape := ⟨2, ![1024, 5632]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4x1024 : Shape := ⟨2, ![4, 1024]⟩
abbrev S8x1024 : Shape := ⟨2, ![8, 1024]⟩

abbrev nBuf : Space → Nat
  | .hbm => 102
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x5632, .bf16⟩
  | .hbm, ⟨2, _⟩ => ⟨S1024x5632, .f32⟩
  | .hbm, ⟨3, _⟩ => ⟨S4096x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S4096x1024, .f32⟩
  | .hbm, ⟨8, _⟩ => ⟨S_, .f32⟩
  | .hbm, ⟨9, _⟩ => ⟨S1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1024, .f32⟩
  | .hbm, ⟨29, _⟩ => ⟨S4096x1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1024, .f32⟩
  | .hbm, ⟨36, _⟩ => ⟨S1x1024, .f32⟩
  | .hbm, ⟨37, _⟩ => ⟨S4096x1024, .f32⟩
  | .hbm, ⟨38, _⟩ => ⟨S4096x1024, .f32⟩
  | .hbm, ⟨39, _⟩ => ⟨S1x1024, .f32⟩
  | .hbm, ⟨40, _⟩ => ⟨S4096x1024, .f32⟩
  | .hbm, ⟨41, _⟩ => ⟨S4096x1024, .f32⟩
  | .hbm, ⟨42, _⟩ => ⟨S4096x5632, .f32⟩
  | .hbm, ⟨43, _⟩ => ⟨S4096x5632, .f32⟩
  | .hbm, ⟨44, _⟩ => ⟨S4096x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S_, .f32⟩
  | .hbm, ⟨49, _⟩ => ⟨S1024, .f32⟩
  | .hbm, ⟨50, _⟩ => ⟨S4096x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S1024, .f32⟩
  | .hbm, ⟨58, _⟩ => ⟨S4096x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S4096x1024, .f32⟩
  | .hbm, ⟨63, _⟩ => ⟨S4096x1024, .f32⟩
  | .hbm, ⟨64, _⟩ => ⟨S_, .f32⟩
  | .hbm, ⟨65, _⟩ => ⟨S1024, .f32⟩
  | .hbm, ⟨66, _⟩ => ⟨S4096x1024, .f32⟩
  | .hbm, ⟨67, _⟩ => ⟨S_, .f32⟩
  | .hbm, ⟨68, _⟩ => ⟨S4096, .f32⟩
  | .hbm, ⟨69, _⟩ => ⟨S4096x1, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1, .f32⟩
  | .hbm, ⟨74, _⟩ => ⟨S_, .f32⟩
  | .hbm, ⟨75, _⟩ => ⟨S4096x1, .f32⟩
  | .hbm, ⟨76, _⟩ => ⟨S4096x1, .f32⟩
  | .hbm, ⟨77, _⟩ => ⟨S_, .f32⟩
  | .hbm, ⟨78, _⟩ => ⟨S4096, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S1x1024, .f32⟩
  | .hbm, ⟨83, _⟩ => ⟨S4096x1024, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S4096x1024, .f32⟩
  | .hbm, ⟨88, _⟩ => ⟨S_, .f32⟩
  | .hbm, ⟨89, _⟩ => ⟨S1024, .f32⟩
  | .hbm, ⟨90, _⟩ => ⟨S1x1024, .f32⟩
  | .hbm, ⟨91, _⟩ => ⟨S_, .f32⟩
  | .hbm, ⟨92, _⟩ => ⟨S1024, .f32⟩
  | .hbm, ⟨93, _⟩ => ⟨S4096x1024, .bf16⟩
  | .hbm, ⟨94, _⟩ => ⟨S1x1024, .f32⟩
  | .hbm, ⟨95, _⟩ => ⟨S1x1024, .f32⟩
  | .hbm, ⟨96, _⟩ => ⟨S1x1024, .f32⟩
  | .hbm, ⟨97, _⟩ => ⟨S1x1024, .f32⟩
  | .hbm, ⟨98, _⟩ => ⟨S4x1024, .f32⟩
  | .hbm, ⟨99, _⟩ => ⟨S_, .f32⟩
  | .hbm, ⟨100, _⟩ => ⟨S4x1024, .f32⟩
  | .hbm, ⟨101, _⟩ => ⟨S8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_cst_2 : Ref sig .tc := ⟨.hbm, 17, rfl⟩
abbrev main_v6 : Ref sig .tc := ⟨.hbm, 18, rfl⟩
abbrev main_v7 : Ref sig .tc := ⟨.hbm, 19, rfl⟩
abbrev main_cst_3 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_4 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_6 : Ref sig .tc := ⟨.hbm, 45, rfl⟩
abbrev main_v30 : Ref sig .tc := ⟨.hbm, 46, rfl⟩
abbrev main_v31 : Ref sig .tc := ⟨.hbm, 47, rfl⟩
abbrev main_cst_7 : Ref sig .tc := ⟨.hbm, 48, rfl⟩
abbrev main_v32 : Ref sig .tc := ⟨.hbm, 49, rfl⟩
abbrev main_v33 : Ref sig .tc := ⟨.hbm, 50, rfl⟩
abbrev main_cst_8 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_9 : Ref sig .tc := ⟨.hbm, 56, rfl⟩
abbrev main_v38 : Ref sig .tc := ⟨.hbm, 57, rfl⟩
abbrev main_v39 : Ref sig .tc := ⟨.hbm, 58, rfl⟩
abbrev main_cst_10 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_11 : Ref sig .tc := ⟨.hbm, 64, rfl⟩
abbrev main_v44 : Ref sig .tc := ⟨.hbm, 65, rfl⟩
abbrev main_v45 : Ref sig .tc := ⟨.hbm, 66, rfl⟩
abbrev main_cst_12 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_13 : Ref sig .tc := ⟨.hbm, 74, rfl⟩
abbrev main_v52 : Ref sig .tc := ⟨.hbm, 75, rfl⟩
abbrev main_v53 : Ref sig .tc := ⟨.hbm, 76, rfl⟩
abbrev main_cst_14 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_15 : Ref sig .tc := ⟨.hbm, 88, rfl⟩
abbrev main_v64 : Ref sig .tc := ⟨.hbm, 89, rfl⟩
abbrev main_v65 : Ref sig .tc := ⟨.hbm, 90, rfl⟩
abbrev main_cst_16 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_17 : Ref sig .tc := ⟨.hbm, 99, rfl⟩
abbrev main_v73 : Ref sig .tc := ⟨.hbm, 100, rfl⟩
abbrev main_v74 : Ref sig .tc := ⟨.hbm, 101, rfl⟩

abbrev nD : Nat := 1
abbrev τ : Topo := Topo.v7x

variable {F : FTy → Type} [FloatOps F]
-- ==== Kernel4.lean ====
abbrev S4096x1024 : Shape := ⟨2, ![4096, 1024]⟩
abbrev S2816x1024 : Shape := ⟨2, ![2816, 1024]⟩
abbrev S2x4096x2816 : Shape := ⟨3, ![2, 4096, 2816]⟩
abbrev S1x2816x1024 : Shape := ⟨3, ![1, 2816, 1024]⟩
abbrev S4096x5632 : Shape := ⟨2, ![4096, 5632]⟩
abbrev S256x1024 : Shape := ⟨2, ![256, 1024]⟩
abbrev S1x256x2816 : Shape := ⟨3, ![1, 256, 2816]⟩
abbrev S256x5632 : Shape := ⟨2, ![256, 5632]⟩
abbrev S256x2816 : Shape := ⟨2, ![256, 2816]⟩

abbrev nBuf : Space → Nat
  | .hbm => 6
  | .vmem => 9
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .f32⟩
  | .hbm, ⟨2, _⟩ => ⟨S2x4096x2816, .bf16⟩
  | .hbm, ⟨3, _⟩ => ⟨S2816x1024, .bf16⟩
  | .hbm, ⟨4, _⟩ => ⟨S1x2816x1024, .bf16⟩
  | .hbm, ⟨5, _⟩ => ⟨S4096x5632, .bf16⟩
  | .local _ .vmem, ⟨0, _⟩ => ⟨S256x1024, .bf16⟩
  | .local _ .vmem, ⟨1, _⟩ => ⟨S256x1024, .bf16⟩
  | .local _ .vmem, ⟨2, _⟩ => ⟨S1x2816x1024, .bf16⟩
  | .local _ .vmem, ⟨3, _⟩ => ⟨S1x256x2816, .bf16⟩
  | .local _ .vmem, ⟨4, _⟩ => ⟨S1x256x2816, .bf16⟩
  | .local _ .vmem, ⟨5, _⟩ => ⟨S1x256x2816, .bf16⟩
  | .local _ .vmem, ⟨6, _⟩ => ⟨S1x256x2816, .bf16⟩
  | .local _ .vmem, ⟨7, _⟩ => ⟨S256x5632, .bf16⟩
  | .local _ .vmem, ⟨8, _⟩ => ⟨S256x5632, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4Ideal.lean ====
abbrev S4096x1024 : Shape := ⟨2, ![4096, 1024]⟩
abbrev S2816x1024 : Shape := ⟨2, ![2816, 1024]⟩
abbrev S2x4096x2816 : Shape := ⟨3, ![2, 4096, 2816]⟩
abbrev S1x4096x2816 : Shape := ⟨3, ![1, 4096, 2816]⟩
abbrev S4096x2816 : Shape := ⟨2, ![4096, 2816]⟩
abbrev S_ : Shape := ⟨0, ![]⟩
abbrev S4096x5632 : Shape := ⟨2, ![4096, 5632]⟩

abbrev nBuf : Space → Nat
  | .hbm => 33
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .f32⟩
  | .hbm, ⟨2, _⟩ => ⟨S2x4096x2816, .bf16⟩
  | .hbm, ⟨3, _⟩ => ⟨S2x4096x2816, .f32⟩
  | .hbm, ⟨4, _⟩ => ⟨S1x4096x2816, .f32⟩
  | .hbm, ⟨5, _⟩ => ⟨S4096x2816, .f32⟩
  | .hbm, ⟨6, _⟩ => ⟨S1x4096x2816, .f32⟩
  | .hbm, ⟨7, _⟩ => ⟨S4096x2816, .f32⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S_, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x1024, .f32⟩
  | .hbm, ⟨23, _⟩ => ⟨S4096x1024, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x5632, .f32⟩
  | .hbm, ⟨32, _⟩ => ⟨S4096x5632, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v5_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v5_1 : Ref sig .tc := ⟨.hbm, 19, rfl⟩
abbrev main_v5_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩

abbrev nD : Nat := 1
abbrev τ : Topo := Topo.v7x

variable {F : FTy → Type} [FloatOps F]
-- ==== Kernel5.lean ====
abbrev S4096x1024 : Shape := ⟨2, ![4096, 1024]⟩
abbrev S1024x5632 : Shape := ⟨2, ![1024, 5632]⟩
abbrev S1x1024x5632 : Shape := ⟨3, ![1, 1024, 5632]⟩
abbrev S2x4096x2816 : Shape := ⟨3, ![2, 4096, 2816]⟩
abbrev S4096x2816 : Shape := ⟨2, ![4096, 2816]⟩
abbrev S2816x4096 : Shape := ⟨2, ![2816, 4096]⟩
abbrev S2048x1024 : Shape := ⟨2, ![2048, 1024]⟩
abbrev S1x1024x256 : Shape := ⟨3, ![1, 1024, 256]⟩
abbrev S2x2048x256 : Shape := ⟨3, ![2, 2048, 256]⟩
abbrev S2048x256 : Shape := ⟨2, ![2048, 256]⟩
abbrev S256x2048 : Shape := ⟨2, ![256, 2048]⟩
abbrev S1024x256 : Shape := ⟨2, ![1024, 256]⟩
abbrev S1x2048x256 : Shape := ⟨3, ![1, 2048, 256]⟩

abbrev nBuf : Space → Nat
  | .hbm => 7
  | .vmem => 12
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .f32⟩
  | .hbm, ⟨2, _⟩ => ⟨S1024x5632, .bf16⟩
  | .hbm, ⟨3, _⟩ => ⟨S1x1024x5632, .bf16⟩
  | .hbm, ⟨4, _⟩ => ⟨S2x4096x2816, .bf16⟩
  | .hbm, ⟨5, _⟩ => ⟨S4096x2816, .bf16⟩
  | .hbm, ⟨6, _⟩ => ⟨S2816x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x256, .bf16⟩
  | .local _ .vmem, ⟨3, _⟩ => ⟨S1x1024x256, .bf16⟩
  | .local _ .vmem, ⟨4, _⟩ => ⟨S1x1024x256, .bf16⟩
  | .local _ .vmem, ⟨5, _⟩ => ⟨S1x1024x256, .bf16⟩
  | .local _ .vmem, ⟨6, _⟩ => ⟨S2x2048x256, .bf16⟩
  | .local _ .vmem, ⟨7, _⟩ => ⟨S2x2048x256, .bf16⟩
  | .local _ .vmem, ⟨8, _⟩ => ⟨S2048x256, .bf16⟩
  | .local _ .vmem, ⟨9, _⟩ => ⟨S2048x256, .bf16⟩
  | .local _ .vmem, ⟨10, _⟩ => ⟨S256x2048, .bf16⟩
  | .local _ .vmem, ⟨11, _⟩ => ⟨S256x2048, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference5Ideal.lean ====
abbrev S4096x1024 : Shape := ⟨2, ![4096, 1024]⟩
abbrev S1024x5632 : Shape := ⟨2, ![1024, 5632]⟩
abbrev S4096x5632 : Shape := ⟨2, ![4096, 5632]⟩
abbrev S4096x2816 : Shape := ⟨2, ![4096, 2816]⟩
abbrev S_ : Shape := ⟨0, ![]⟩
abbrev S1x4096x2816 : Shape := ⟨3, ![1, 4096, 2816]⟩
abbrev S2x4096x2816 : Shape := ⟨3, ![2, 4096, 2816]⟩
abbrev S2816x4096 : Shape := ⟨2, ![2816, 4096]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .f32⟩
  | .hbm, ⟨2, _⟩ => ⟨S4096x1024, .f32⟩
  | .hbm, ⟨3, _⟩ => ⟨S4096x5632, .f32⟩
  | .hbm, ⟨4, _⟩ => ⟨S4096x2816, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S_, .f32⟩
  | .hbm, ⟨9, _⟩ => ⟨S4096x2816, .f32⟩
  | .hbm, ⟨10, _⟩ => ⟨S4096x2816, .f32⟩
  | .hbm, ⟨11, _⟩ => ⟨S_, .f32⟩
  | .hbm, ⟨12, _⟩ => ⟨S4096x2816, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S1x4096x2816, .f32⟩
  | .hbm, ⟨17, _⟩ => ⟨S1x4096x2816, .f32⟩
  | .hbm, ⟨18, _⟩ => ⟨S2x4096x2816, .f32⟩
  | .hbm, ⟨19, _⟩ => ⟨S2x4096x2816, .bf16⟩
  | .hbm, ⟨20, _⟩ => ⟨S4096x2816, .bf16⟩
  | .hbm, ⟨21, _⟩ => ⟨S2816x4096, .f32⟩
  | .hbm, ⟨22, _⟩ => ⟨S2816x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩

abbrev nD : Nat := 1
abbrev τ : Topo := Topo.v7x

variable {F : FTy → Type} [FloatOps F]
-- ==== Kernel6.lean ====
abbrev S4096x1024 : Shape := ⟨2, ![4096, 1024]⟩
abbrev S1024x10240 : Shape := ⟨2, ![1024, 10240]⟩
abbrev S1024x8x1280 : Shape := ⟨3, ![1024, 8, 1280]⟩
abbrev S8x1024x1280 : Shape := ⟨3, ![8, 1024, 1280]⟩
abbrev S4096x10240 : Shape := ⟨2, ![4096, 10240]⟩
abbrev S2048x1024 : Shape := ⟨2, ![2048, 1024]⟩
abbrev S1x1024x1280 : Shape := ⟨3, ![1, 1024, 1280]⟩
abbrev S2048x1280 : Shape := ⟨2, ![2048, 1280]⟩
abbrev S1024x1280 : Shape := ⟨2, ![1024, 1280]⟩

abbrev nBuf : Space → Nat
  | .hbm => 6
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x10240, .f32⟩
  | .hbm, ⟨2, _⟩ => ⟨S1024x10240, .bf16⟩
  | .hbm, ⟨3, _⟩ => ⟨S1024x8x1280, .bf16⟩
  | .hbm, ⟨4, _⟩ => ⟨S8x1024x1280, .bf16⟩
  | .hbm, ⟨5, _⟩ => ⟨S4096x10240, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x1280, .bf16⟩
  | .local _ .vmem, ⟨3, _⟩ => ⟨S1x1024x1280, .bf16⟩
  | .local _ .vmem, ⟨4, _⟩ => ⟨S2048x1280, .bf16⟩
  | .local _ .vmem, ⟨5, _⟩ => ⟨S2048x1280, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2048x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x1024 : Shape := ⟨2, ![4096, 1024]⟩
abbrev S1024x10240 : Shape := ⟨2, ![1024, 10240]⟩
abbrev S4096x10240 : Shape := ⟨2, ![4096, 10240]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x10240, .f32⟩
  | .hbm, ⟨2, _⟩ => ⟨S4096x1024, .f32⟩
  | .hbm, ⟨3, _⟩ => ⟨S4096x10240, .f32⟩
  | .hbm, ⟨4, _⟩ => ⟨S4096x10240, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel7.lean ====
abbrev S4096x1024 : Shape := ⟨2, ![4096, 1024]⟩
abbrev S4096x10240 : Shape := ⟨2, ![4096, 10240]⟩
abbrev S1024x4096 : Shape := ⟨2, ![1024, 4096]⟩
abbrev S8x1024x1280 : Shape := ⟨3, ![8, 1024, 1280]⟩
abbrev S4096x1280 : Shape := ⟨2, ![4096, 1280]⟩
abbrev S1x1024x1280 : Shape := ⟨3, ![1, 1024, 1280]⟩
abbrev S1024x1280 : Shape := ⟨2, ![1024, 1280]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x10240, .bf16⟩
  | .hbm, ⟨2, _⟩ => ⟨S1024x4096, .bf16⟩
  | .hbm, ⟨3, _⟩ => ⟨S8x1024x1280, .bf16⟩
  | .local _ .vmem, ⟨0, _⟩ => ⟨S1024x4096, .bf16⟩
  | .local _ .vmem, ⟨1, _⟩ => ⟨S4096x1280, .bf16⟩
  | .local _ .vmem, ⟨2, _⟩ => ⟨S4096x1280, .bf16⟩
  | .local _ .vmem, ⟨3, _⟩ => ⟨S1x1024x1280, .bf16⟩
  | .local _ .vmem, ⟨4, _⟩ => ⟨S1x1024x1280, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x1024 : Shape := ⟨2, ![4096, 1024]⟩
abbrev S4096x10240 : Shape := ⟨2, ![4096, 10240]⟩
abbrev S_ : Shape := ⟨0, ![]⟩
abbrev S1024x10240 : Shape := ⟨2, ![1024, 10240]⟩
abbrev S10240x1024 : Shape := ⟨2, ![10240, 1024]⟩
abbrev S1024x8x1280 : Shape := ⟨3, ![1024, 8, 1280]⟩
abbrev S8x1024x1280 : Shape := ⟨3, ![8, 1024, 1280]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x10240, .bf16⟩
  | .hbm, ⟨2, _⟩ => ⟨S_, .f32⟩
  | .hbm, ⟨3, _⟩ => ⟨S1024x10240, .f32⟩
  | .hbm, ⟨4, _⟩ => ⟨S4096x1024, .f32⟩
  | .hbm, ⟨5, _⟩ => ⟨S4096x10240, .f32⟩
  | .hbm, ⟨6, _⟩ => ⟨S4096x10240, .f32⟩
  | .hbm, ⟨7, _⟩ => ⟨S10240x1024, .f32⟩
  | .hbm, ⟨8, _⟩ => ⟨S1024x10240, .f32⟩
  | .hbm, ⟨9, _⟩ => ⟨S1024x10240, .bf16⟩
  | .hbm, ⟨10, _⟩ => ⟨S1024x8x1280, .bf16⟩
  | .hbm, ⟨11, _⟩ => ⟨S8x1024x1280, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel8.lean ====
abbrev S4096x1024 : Shape := ⟨2, ![4096, 1024]⟩
abbrev S4096x5632 : Shape := ⟨2, ![4096, 5632]⟩
abbrev S1024x4096 : Shape := ⟨2, ![1024, 4096]⟩
abbrev S1x1024x5632 : Shape := ⟨3, ![1, 1024, 5632]⟩
abbrev S4096x512 : Shape := ⟨2, ![4096, 512]⟩
abbrev S1x1024x512 : Shape := ⟨3, ![1, 1024, 512]⟩
abbrev S1024x512 : Shape := ⟨2, ![1024, 512]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S1024x4096, .bf16⟩
  | .hbm, ⟨3, _⟩ => ⟨S1x1024x5632, .bf16⟩
  | .local _ .vmem, ⟨0, _⟩ => ⟨S1024x4096, .bf16⟩
  | .local _ .vmem, ⟨1, _⟩ => ⟨S4096x512, .bf16⟩
  | .local _ .vmem, ⟨2, _⟩ => ⟨S4096x512, .bf16⟩
  | .local _ .vmem, ⟨3, _⟩ => ⟨S1x1024x512, .bf16⟩
  | .local _ .vmem, ⟨4, _⟩ => ⟨S1x1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.divsi arg1 c11_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c11_i32 c0_i32_1
  let v7 : BitVec 32 := Scalar.extui v6
  let c0_i32_2 : BitVec 32 := 0#32
  let v8 : BitVec 1 := Scalar.cmpi .slt c11_i32 c0_i32_2
  let v9 : BitVec 32 := Scalar.extui v8
  let v10 : BitVec 32 := Scalar.subi v7 v9
  let v11 : BitVec 1 := Scalar.cmpi .ne v5 v10
  let v12 : BitVec 32 := Scalar.remsi arg1 c11_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c11_i32_4 : BitVec 32 := 11#32
  let c0_i32_5 : BitVec 32 := 0#32
  let v17 : BitVec 1 := Scalar.cmpi .eq c11_i32_4 c0_i32_5
  let c1_i32_6 : BitVec 32 := 1#32
  let v18 : BitVec 32 := Scalar.select v17 c1_i32_6 c11_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x1024 : Shape := ⟨2, ![4096, 1024]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩
abbrev S1x1024x5632 : Shape := ⟨3, ![1, 1024, 5632]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S_, .f32⟩
  | .hbm, ⟨3, _⟩ => ⟨S1024x5632, .f32⟩
  | .hbm, ⟨4, _⟩ => ⟨S4096x1024, .f32⟩
  | .hbm, ⟨5, _⟩ => ⟨S4096x5632, .f32⟩
  | .hbm, ⟨6, _⟩ => ⟨S4096x5632, .f32⟩
  | .hbm, ⟨7, _⟩ => ⟨S5632x1024, .f32⟩
  | .hbm, ⟨8, _⟩ => ⟨S1024x5632, .f32⟩
  | .hbm, ⟨9, _⟩ => ⟨S1024x5632, .bf16⟩
  | .hbm, ⟨10, _⟩ => ⟨S1x1024x5632, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel9.lean ====
abbrev S4096x2816 : Shape := ⟨2, ![4096, 2816]⟩
abbrev S4096x1024 : Shape := ⟨2, ![4096, 1024]⟩
abbrev S2816x4096 : Shape := ⟨2, ![2816, 4096]⟩
abbrev S1x2816x1024 : Shape := ⟨3, ![1, 2816, 1024]⟩
abbrev S1408x4096 : Shape := ⟨2, ![1408, 4096]⟩
abbrev S1x1408x1024 : Shape := ⟨3, ![1, 1408, 1024]⟩
abbrev S1408x1024 : Shape := ⟨2, ![1408, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x4096, .bf16⟩
  | .hbm, ⟨3, _⟩ => ⟨S1x2816x1024, .bf16⟩
  | .local _ .vmem, ⟨0, _⟩ => ⟨S1408x4096, .bf16⟩
  | .local _ .vmem, ⟨1, _⟩ => ⟨S1408x4096, .bf16⟩
  | .local _ .vmem, ⟨2, _⟩ => ⟨S4096x1024, .bf16⟩
  | .local _ .vmem, ⟨3, _⟩ => ⟨S1x1408x1024, .bf16⟩
  | .local _ .vmem, ⟨4, _⟩ => ⟨S1x1408x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1408x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩
abbrev S1x2816x1024 : Shape := ⟨3, ![1, 2816, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | .hbm, ⟨10, _⟩ => ⟨S1x2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel10.lean ====
abbrev S8x1024 : Shape := ⟨2, ![8, 1024]⟩
abbrev S2x8x768 : Shape := ⟨3, ![2, 8, 768]⟩
abbrev S2x1024x768 : Shape := ⟨3, ![2, 1024, 768]⟩
abbrev S_ : Shape := ⟨0, ![]⟩
abbrev S1024x8 : Shape := ⟨2, ![1024, 8]⟩
abbrev S512x8 : Shape := ⟨2, ![512, 8]⟩
abbrev S1x8x768 : Shape := ⟨3, ![1, 8, 768]⟩
abbrev S1x512x768 : Shape := ⟨3, ![1, 512, 768]⟩
abbrev S512x1 : Shape := ⟨2, ![512, 1]⟩
abbrev S1x1x768 : Shape := ⟨3, ![1, 1, 768]⟩
abbrev S1x768 : Shape := ⟨2, ![1, 768]⟩
abbrev S512x768 : Shape := ⟨2, ![512, 768]⟩

abbrev nBuf : Space → Nat
  | .hbm => 19
  | .vmem => 18
  | .smem => 0
  | _ => 0

abbrev bufTy : (tb : Table) → Fin (tcTables nBuf tb) → BufTy
  | .hbm, ⟨0, _⟩ => ⟨S8x1024, .f32⟩
  | .hbm, ⟨1, _⟩ => ⟨S2x8x768, .f32⟩
  | .hbm, ⟨2, _⟩ => ⟨S2x1024x768, .f32⟩
  | .hbm, ⟨3, _⟩ => ⟨S2x1024x768, .f32⟩
  | .hbm, ⟨4, _⟩ => ⟨S2x1024x768, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S1024x8, .f32⟩
  | .hbm, ⟨15, _⟩ => ⟨S2x1024x768, .f32⟩
  | .hbm, ⟨16, _⟩ => ⟨S2x1024x768, .f32⟩
  | .hbm, ⟨17, _⟩ => ⟨S2x1024x768, .f32⟩
  | .hbm, ⟨18, _⟩ => ⟨S2x1024x768, .f32⟩
  | .local _ .vmem, ⟨0, _⟩ => ⟨S512x8, .f32⟩
  | .local _ .vmem, ⟨1, _⟩ => ⟨S512x8, .f32⟩
  | .local _ .vmem, ⟨2, _⟩ => ⟨S1x8x768, .f32⟩
  | .local _ .vmem, ⟨3, _⟩ => ⟨S1x8x768, .f32⟩
  | .local _ .vmem, ⟨4, _⟩ => ⟨S1x512x768, .f32⟩
  | .local _ .vmem, ⟨5, _⟩ => ⟨S1x512x768, .f32⟩
  | .local _ .vmem, ⟨6, _⟩ => ⟨S1x512x768, .f32⟩
  | .local _ .vmem, ⟨7, _⟩ => ⟨S1x512x768, .f32⟩
  | .local _ .vmem, ⟨8, _⟩ => ⟨S1x512x768, .f32⟩
  | .local _ .vmem, ⟨9, _⟩ => ⟨S1x512x768, .f32⟩
  | .local _ .vmem, ⟨10, _⟩ => ⟨S1x512x768, .f32⟩
  | .local _ .vmem, ⟨11, _⟩ => ⟨S1x512x768, .f32⟩
  | .local _ .vmem, ⟨12, _⟩ => ⟨S1x512x768, .f32⟩
  | .local _ .vmem, ⟨13, _⟩ => ⟨S1x512x768, .f32⟩
  | .local _ .vmem, ⟨14, _⟩ => ⟨S1x512x768, .f32⟩
  | .local _ .vmem, ⟨15, _⟩ => ⟨S1x512x768, .f32⟩
  | .local _ .vmem, ⟨16, _⟩ => ⟨S1x512x768, .f32⟩
  | .local _ .vmem, ⟨17, _⟩ => ⟨S1x512x768, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev main_v8_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x8x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference10Ideal.lean ====
abbrev S8x1024 : Shape := ⟨2, ![8, 1024]⟩
abbrev S2x8x768 : Shape := ⟨3, ![2, 8, 768]⟩
abbrev S2x1024x768 : Shape := ⟨3, ![2, 1024, 768]⟩
abbrev S_ : Shape := ⟨0, ![]⟩
abbrev S2x768x8 : Shape := ⟨3, ![2, 768, 8]⟩
abbrev S2x768x1024 : Shape := ⟨3, ![2, 768, 1024]⟩

abbrev nBuf : Space → Nat
  | .hbm => 52
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S2x8x768, .f32⟩
  | .hbm, ⟨2, _⟩ => ⟨S2x1024x768, .f32⟩
  | .hbm, ⟨3, _⟩ => ⟨S2x1024x768, .f32⟩
  | .hbm, ⟨4, _⟩ => ⟨S2x1024x768, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S2x768x8, .f32⟩
  | .hbm, ⟨15, _⟩ => ⟨S2x8x768, .f32⟩
  | .hbm, ⟨16, _⟩ => ⟨S2x768x8, .f32⟩
  | .hbm, ⟨17, _⟩ => ⟨S2x768x1024, .f32⟩
  | .hbm, ⟨18, _⟩ => ⟨S2x1024x768, .f32⟩
  | .hbm, ⟨19, _⟩ => ⟨S_, .f32⟩
  | .hbm, ⟨20, _⟩ => ⟨S2x1024x768, .f32⟩
  | .hbm, ⟨21, _⟩ => ⟨S2x1024x768, .f32⟩
  | .hbm, ⟨22, _⟩ => ⟨S_, .f32⟩
  | .hbm, ⟨23, _⟩ => ⟨S2x1024x768, .f32⟩
  | .hbm, ⟨24, _⟩ => ⟨S2x1024x768, .f32⟩
  | .hbm, ⟨25, _⟩ => ⟨S2x1024x768, .f32⟩
  | .hbm, ⟨26, _⟩ => ⟨S_, .f32⟩
  | .hbm, ⟨27, _⟩ => ⟨S2x1024x768, .f32⟩
  | .hbm, ⟨28, _⟩ => ⟨S2x1024x768, .f32⟩
  | .hbm, ⟨29, _⟩ => ⟨S2x1024x768, .f32⟩
  | .hbm, ⟨30, _⟩ => ⟨S_, .f32⟩
  | .hbm, ⟨31, _⟩ => ⟨S2x1024x768, .f32⟩
  | .hbm, ⟨32, _⟩ => ⟨S2x1024x768, .f32⟩
  | .hbm, ⟨33, _⟩ => ⟨S2x1024x768, .f32⟩
  | .hbm, ⟨34, _⟩ => ⟨S_, .f32⟩
  | .hbm, ⟨35, _⟩ => ⟨S2x1024x768, .f32⟩
  | .hbm, ⟨36, _⟩ => ⟨S2x1024x768, .f32⟩
  | .hbm, ⟨37, _⟩ => ⟨S_, .f32⟩
  | .hbm, ⟨38, _⟩ => ⟨S2x1024x768, .f32⟩
  | .hbm, ⟨39, _⟩ => ⟨S2x1024x768, .f32⟩
  | .hbm, ⟨40, _⟩ => ⟨S2x1024x768, .f32⟩
  | .hbm, ⟨41, _⟩ => ⟨S_, .f32⟩
  | .hbm, ⟨42, _⟩ => ⟨S2x1024x768, .f32⟩
  | .hbm, ⟨43, _⟩ => ⟨S2x1024x768, .f32⟩
  | .hbm, ⟨44, _⟩ => ⟨S2x1024x768, .f32⟩
  | .hbm, ⟨45, _⟩ => ⟨S_, .f32⟩
  | .hbm, ⟨46, _⟩ => ⟨S2x1024x768, .f32⟩
  | .hbm, ⟨47, _⟩ => ⟨S2x1024x768, .f32⟩
  | .hbm, ⟨48, _⟩ => ⟨S2x1024x768, .f32⟩
  | .hbm, ⟨49, _⟩ => ⟨S_, .f32⟩
  | .hbm, ⟨50, _⟩ => ⟨S2x1024x768, .f32⟩
  | .hbm, ⟨51, _⟩ => ⟨S2x1024x768, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_3 : Ref sig .tc := ⟨.hbm, 34, rfl⟩
abbrev main_v17 : Ref sig .tc := ⟨.hbm, 35, rfl⟩
abbrev main_v18 : Ref sig .tc := ⟨.hbm, 36, rfl⟩
abbrev main_cst_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_6 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_7 : Ref sig .tc := ⟨.hbm, 49, rfl⟩
abbrev main_v28 : Ref sig .tc := ⟨.hbm, 50, rfl⟩
abbrev main_v29 : Ref sig .tc := ⟨.hbm, 51, rfl⟩

abbrev nD : Nat := 1
abbrev τ : Topo := Topo.v7x

variable {F : FTy → Type} [FloatOps F]
-- ==== Kernel11.lean ====
abbrev S72x128 : Shape := ⟨2, ![72, 128]⟩

abbrev nBuf : Space → Nat
  | .hbm => 7
  | .vmem => 7
  | .smem => 0
  | _ => 0

abbrev bufTy : (tb : Table) → Fin (tcTables nBuf tb) → BufTy
  | .hbm, ⟨0, _⟩ => ⟨S72x128, .f32⟩
  | .hbm, ⟨1, _⟩ => ⟨S72x128, .f32⟩
  | .hbm, ⟨2, _⟩ => ⟨S72x128, .f32⟩
  | .hbm, ⟨3, _⟩ => ⟨S72x128, .f32⟩
  | .hbm, ⟨4, _⟩ => ⟨S72x128, .f32⟩
  | .hbm, ⟨5, _⟩ => ⟨S72x128, .f32⟩
  | .hbm, ⟨6, _⟩ => ⟨S72x128, .f32⟩
  | .local _ .vmem, ⟨0, _⟩ => ⟨S72x128, .f32⟩
  | .local _ .vmem, ⟨1, _⟩ => ⟨S72x128, .f32⟩
  | .local _ .vmem, ⟨2, _⟩ => ⟨S72x128, .f32⟩
  | .local _ .vmem, ⟨3, _⟩ => ⟨S72x128, .f32⟩
  | .local _ .vmem, ⟨4, _⟩ => ⟨S72x128, .f32⟩
  | .local _ .vmem, ⟨5, _⟩ => ⟨S72x128, .f32⟩
  | .local _ .vmem, ⟨6, _⟩ => ⟨S72x128, .f32⟩
  | _, _ => ⟨S72x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S72x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S72x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S72x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S72x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S72x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S72x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S72x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference11Ideal.lean ====
abbrev S72x128 : Shape := ⟨2, ![72, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S72x128, .f32⟩
  | .hbm, ⟨1, _⟩ => ⟨S72x128, .f32⟩
  | .hbm, ⟨2, _⟩ => ⟨S72x128, .f32⟩
  | .hbm, ⟨3, _⟩ => ⟨S72x128, .f32⟩
  | .hbm, ⟨4, _⟩ => ⟨S_, .f32⟩
  | .hbm, ⟨5, _⟩ => ⟨S72x128, .f32⟩
  | .hbm, ⟨6, _⟩ => ⟨S72x128, .f32⟩
  | .hbm, ⟨7, _⟩ => ⟨S_, .f32⟩
  | .hbm, ⟨8, _⟩ => ⟨S72x128, .f32⟩
  | .hbm, ⟨9, _⟩ => ⟨S72x128, .f32⟩
  | .hbm, ⟨10, _⟩ => ⟨S72x128, .f32⟩
  | .hbm, ⟨11, _⟩ => ⟨S_, .f32⟩
  | .hbm, ⟨12, _⟩ => ⟨S72x128, .f32⟩
  | .hbm, ⟨13, _⟩ => ⟨S72x128, .f32⟩
  | .hbm, ⟨14, _⟩ => ⟨S72x128, .f32⟩
  | .hbm, ⟨15, _⟩ => ⟨S_, .f32⟩
  | .hbm, ⟨16, _⟩ => ⟨S72x128, .f32⟩
  | .hbm, ⟨17, _⟩ => ⟨S72x128, .f32⟩
  | .hbm, ⟨18, _⟩ => ⟨S72x128, .f32⟩
  | .hbm, ⟨19, _⟩ => ⟨S_, .f32⟩
  | .hbm, ⟨20, _⟩ => ⟨S72x128, .f32⟩
  | .hbm, ⟨21, _⟩ => ⟨S72x128, .f32⟩
  | .hbm, ⟨22, _⟩ => ⟨S_, .f32⟩
  | .hbm, ⟨23, _⟩ => ⟨S72x128, .f32⟩
  | .hbm, ⟨24, _⟩ => ⟨S72x128, .f32⟩
  | .hbm, ⟨25, _⟩ => ⟨S72x128, .f32⟩
  | .hbm, ⟨26, _⟩ => ⟨S_, .f32⟩
  | .hbm, ⟨27, _⟩ => ⟨S72x128, .f32⟩
  | .hbm, ⟨28, _⟩ => ⟨S72x128, .f32⟩
  | .hbm, ⟨29, _⟩ => ⟨S72x128, .f32⟩
  | .hbm, ⟨30, _⟩ => ⟨S_, .f32⟩
  | .hbm, ⟨31, _⟩ => ⟨S72x128, .f32⟩
  | .hbm, ⟨32, _⟩ => ⟨S72x128, .f32⟩
  | .hbm, ⟨33, _⟩ => ⟨S72x128, .f32⟩
  | .hbm, ⟨34, _⟩ => ⟨S_, .f32⟩
  | .hbm, ⟨35, _⟩ => ⟨S72x128, .f32⟩
  | .hbm, ⟨36, _⟩ => ⟨S72x128, .f32⟩
  | _, _ => ⟨S72x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel12.lean ====
abbrev S4x1024x1280 : Shape := ⟨3, ![4, 1024, 1280]⟩
abbrev S3x1024x1280 : Shape := ⟨3, ![3, 1024, 1280]⟩
abbrev S2x1024x1280 : Shape := ⟨3, ![2, 1024, 1280]⟩
abbrev S_ : Shape := ⟨0, ![]⟩
abbrev S1 : Shape := ⟨1, ![1]⟩
abbrev S1x256x1280 : Shape := ⟨3, ![1, 256, 1280]⟩
abbrev S3x256x1280 : Shape := ⟨3, ![3, 256, 1280]⟩
abbrev S256x1280 : Shape := ⟨2, ![256, 1280]⟩

abbrev nBuf : Space → Nat
  | .hbm => 14
  | .vmem => 18
  | .smem => 1
  | _ => 0

abbrev bufTy : (tb : Table) → Fin (tcTables nBuf tb) → BufTy
  | .hbm, ⟨0, _⟩ => ⟨S4x1024x1280, .bf16⟩
  | .hbm, ⟨1, _⟩ => ⟨S3x1024x1280, .bf16⟩
  | .hbm, ⟨2, _⟩ => ⟨S2x1024x1280, .f32⟩
  | .hbm, ⟨3, _⟩ => ⟨S2x1024x1280, .f32⟩
  | .hbm, ⟨4, _⟩ => ⟨S2x1024x1280, .f32⟩
  | .hbm, ⟨5, _⟩ => ⟨S2x1024x1280, .f32⟩
  | .hbm, ⟨6, _⟩ => ⟨S2x1024x1280, .f32⟩
  | .hbm, ⟨7, _⟩ => ⟨S2x1024x1280, .f32⟩
  | .hbm, ⟨8, _⟩ => ⟨S2x1024x1280, .f32⟩
  | .hbm, ⟨9, _⟩ => ⟨S_, .i32⟩
  | .hbm, ⟨10, _⟩ => ⟨S2x1024x1280, .f32⟩
  | .hbm, ⟨11, _⟩ => ⟨S2x1024x1280, .f32⟩
  | .hbm, ⟨12, _⟩ => ⟨S2x1024x1280, .f32⟩
  | .hbm, ⟨13, _⟩ => ⟨S2x1024x1280, .f32⟩
  | .local _ .vmem, ⟨0, _⟩ => ⟨S1x256x1280, .bf16⟩
  | .local _ .vmem, ⟨1, _⟩ => ⟨S1x256x1280, .bf16⟩
  | .local _ .vmem, ⟨2, _⟩ => ⟨S3x256x1280, .bf16⟩
  | .local _ .vmem, ⟨3, _⟩ => ⟨S3x256x1280, .bf16⟩
  | .local _ .vmem, ⟨4, _⟩ => ⟨S1x256x1280, .f32⟩
  | .local _ .vmem, ⟨5, _⟩ => ⟨S1x256x1280, .f32⟩
  | .local _ .vmem, ⟨6, _⟩ => ⟨S1x256x1280, .f32⟩
  | .local _ .vmem, ⟨7, _⟩ => ⟨S1x256x1280, .f32⟩
  | .local _ .vmem, ⟨8, _⟩ => ⟨S1x256x1280, .f32⟩
  | .local _ .vmem, ⟨9, _⟩ => ⟨S1x256x1280, .f32⟩
  | .local _ .vmem, ⟨10, _⟩ => ⟨S1x256x1280, .f32⟩
  | .local _ .vmem, ⟨11, _⟩ => ⟨S1x256x1280, .f32⟩
  | .local _ .vmem, ⟨12, _⟩ => ⟨S1x256x1280, .f32⟩
  | .local _ .vmem, ⟨13, _⟩ => ⟨S1x256x1280, .f32⟩
  | .local _ .vmem, ⟨14, _⟩ => ⟨S1x256x1280, .f32⟩
  | .local _ .vmem, ⟨15, _⟩ => ⟨S1x256x1280, .f32⟩
  | .local _ .vmem, ⟨16, _⟩ => ⟨S1x256x1280, .f32⟩
  | .local _ .vmem, ⟨17, _⟩ => ⟨S1x256x1280, .f32⟩
  | .local _ .smem, ⟨0, _⟩ => ⟨S1, .i32⟩
  | _, _ => ⟨S4x1024x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v1_3 : Ref sig .tc := ⟨.hbm, 13, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x256x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1280 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1280 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1280 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1280 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x1280 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference12Ideal.lean ====
abbrev S4x1024x1280 : Shape := ⟨3, ![4, 1024, 1280]⟩
abbrev S3x1024x1280 : Shape := ⟨3, ![3, 1024, 1280]⟩
abbrev S2x1024x1280 : Shape := ⟨3, ![2, 1024, 1280]⟩
abbrev S1x1024x1280 : Shape := ⟨3, ![1, 1024, 1280]⟩
abbrev S1024x1280 : Shape := ⟨2, ![1024, 1280]⟩
abbrev S_ : Shape := ⟨0, ![]⟩

abbrev nBuf : Space → Nat
  | .hbm => 75
  | .vmem => 0
  | .smem => 0
  | _ => 0

abbrev bufTy : (tb : Table) → Fin (tcTables nBuf tb) → BufTy
  | .hbm, ⟨0, _⟩ => ⟨S4x1024x1280, .bf16⟩
  | .hbm, ⟨1, _⟩ => ⟨S3x1024x1280, .bf16⟩
  | .hbm, ⟨2, _⟩ => ⟨S2x1024x1280, .f32⟩
  | .hbm, ⟨3, _⟩ => ⟨S2x1024x1280, .f32⟩
  | .hbm, ⟨4, _⟩ => ⟨S2x1024x1280, .f32⟩
  | .hbm, ⟨5, _⟩ => ⟨S2x1024x1280, .f32⟩
  | .hbm, ⟨6, _⟩ => ⟨S2x1024x1280, .f32⟩
  | .hbm, ⟨7, _⟩ => ⟨S2x1024x1280, .f32⟩
  | .hbm, ⟨8, _⟩ => ⟨S2x1024x1280, .f32⟩
  | .hbm, ⟨9, _⟩ => ⟨S1x1024x1280, .bf16⟩
  | .hbm, ⟨10, _⟩ => ⟨S1024x1280, .bf16⟩
  | .hbm, ⟨11, _⟩ => ⟨S1024x1280, .f32⟩
  | .hbm, ⟨12, _⟩ => ⟨S3x1024x1280, .f32⟩
  | .hbm, ⟨13, _⟩ => ⟨S_, .f32⟩
  | .hbm, ⟨14, _⟩ => ⟨S1024x1280, .f32⟩
  | .hbm, ⟨15, _⟩ => ⟨S1024x1280, .f32⟩
  | .hbm, ⟨16, _⟩ => ⟨S1x1024x1280, .f32⟩
  | .hbm, ⟨17, _⟩ => ⟨S1024x1280, .f32⟩
  | .hbm, ⟨18, _⟩ => ⟨S1x1024x1280, .f32⟩
  | .hbm, ⟨19, _⟩ => ⟨S1024x1280, .f32⟩
  | .hbm, ⟨20, _⟩ => ⟨S1x1024x1280, .f32⟩
  | .hbm, ⟨21, _⟩ => ⟨S1024x1280, .f32⟩
  | .hbm, ⟨22, _⟩ => ⟨S_, .f32⟩
  | .hbm, ⟨23, _⟩ => ⟨S1024x1280, .f32⟩
  | .hbm, ⟨24, _⟩ => ⟨S1024x1280, .f32⟩
  | .hbm, ⟨25, _⟩ => ⟨S_, .f32⟩
  | .hbm, ⟨26, _⟩ => ⟨S1024x1280, .f32⟩
  | .hbm, ⟨27, _⟩ => ⟨S1024x1280, .f32⟩
  | .hbm, ⟨28, _⟩ => ⟨S1024x1280, .f32⟩
  | .hbm, ⟨29, _⟩ => ⟨S_, .f32⟩
  | .hbm, ⟨30, _⟩ => ⟨S1024x1280, .f32⟩
  | .hbm, ⟨31, _⟩ => ⟨S1024x1280, .f32⟩
  | .hbm, ⟨32, _⟩ => ⟨S1024x1280, .f32⟩
  | .hbm, ⟨33, _⟩ => ⟨S_, .f32⟩
  | .hbm, ⟨34, _⟩ => ⟨S1024x1280, .f32⟩
  | .hbm, ⟨35, _⟩ => ⟨S1024x1280, .f32⟩
  | .hbm, ⟨36, _⟩ => ⟨S1024x1280, .f32⟩
  | .hbm, ⟨37, _⟩ => ⟨S_, .f32⟩
  | .hbm, ⟨38, _⟩ => ⟨S1024x1280, .f32⟩
  | .hbm, ⟨39, _⟩ => ⟨S1024x1280, .f32⟩
  | .hbm, ⟨40, _⟩ => ⟨S_, .f32⟩
  | .hbm, ⟨41, _⟩ => ⟨S1024x1280, .f32⟩
  | .hbm, ⟨42, _⟩ => ⟨S1024x1280, .f32⟩
  | .hbm, ⟨43, _⟩ => ⟨S1024x1280, .f32⟩
  | .hbm, ⟨44, _⟩ => ⟨S_, .f32⟩
  | .hbm, ⟨45, _⟩ => ⟨S1024x1280, .f32⟩
  | .hbm, ⟨46, _⟩ => ⟨S1024x1280, .f32⟩
  | .hbm, ⟨47, _⟩ => ⟨S1024x1280, .f32⟩
  | .hbm, ⟨48, _⟩ => ⟨S_, .f32⟩
  | .hbm, ⟨49, _⟩ => ⟨S1024x1280, .f32⟩
  | .hbm, ⟨50, _⟩ => ⟨S1024x1280, .f32⟩
  | .hbm, ⟨51, _⟩ => ⟨S1024x1280, .f32⟩
  | .hbm, ⟨52, _⟩ => ⟨S_, .f32⟩
  | .hbm, ⟨53, _⟩ => ⟨S1024x1280, .f32⟩
  | .hbm, ⟨54, _⟩ => ⟨S1024x1280, .f32⟩
  | .hbm, ⟨55, _⟩ => ⟨S1x1024x1280, .f32⟩
  | .hbm, ⟨56, _⟩ => ⟨S1024x1280, .f32⟩
  | .hbm, ⟨57, _⟩ => ⟨S1x1024x1280, .f32⟩
  | .hbm, ⟨58, _⟩ => ⟨S1x1024x1280, .f32⟩
  | .hbm, ⟨59, _⟩ => ⟨S2x1024x1280, .f32⟩
  | .hbm, ⟨60, _⟩ => ⟨S1x1024x1280, .f32⟩
  | .hbm, ⟨61, _⟩ => ⟨S1024x1280, .f32⟩
  | .hbm, ⟨62, _⟩ => ⟨S1x1024x1280, .f32⟩
  | .hbm, ⟨63, _⟩ => ⟨S1x1024x1280, .f32⟩
  | .hbm, ⟨64, _⟩ => ⟨S2x1024x1280, .f32⟩
  | .hbm, ⟨65, _⟩ => ⟨S1x1024x1280, .f32⟩
  | .hbm, ⟨66, _⟩ => ⟨S1024x1280, .f32⟩
  | .hbm, ⟨67, _⟩ => ⟨S1x1024x1280, .f32⟩
  | .hbm, ⟨68, _⟩ => ⟨S1x1024x1280, .f32⟩
  | .hbm, ⟨69, _⟩ => ⟨S2x1024x1280, .f32⟩
  | .hbm, ⟨70, _⟩ => ⟨S1x1024x1280, .f32⟩
  | .hbm, ⟨71, _⟩ => ⟨S1024x1280, .f32⟩
  | .hbm, ⟨72, _⟩ => ⟨S1x1024x1280, .f32⟩
  | .hbm, ⟨73, _⟩ => ⟨S1x1024x1280, .f32⟩
  | .hbm, ⟨74, _⟩ => ⟨S2x1024x1280, .f32⟩
  | _, _ => ⟨S4x1024x1280, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_6 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_7 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩

abbrev nD : Nat := 1
abbrev τ : Topo := Topo.v7x

variable {F : FTy → Type} [FloatOps F]
-- ==== Kernel13.lean ====
abbrev S4x128x1024 : Shape := ⟨3, ![4, 128, 1024]⟩
abbrev S3x128x1024 : Shape := ⟨3, ![3, 128, 1024]⟩
abbrev S2x128x1024 : Shape := ⟨3, ![2, 128, 1024]⟩
abbrev S_ : Shape := ⟨0, ![]⟩
abbrev S1 : Shape := ⟨1, ![1]⟩
abbrev S1x128x1024 : Shape := ⟨3, ![1, 128, 1024]⟩
abbrev S128x1024 : Shape := ⟨2, ![128, 1024]⟩

abbrev nBuf : Space → Nat
  | .hbm => 14
  | .vmem => 9
  | .smem => 1
  | _ => 0

abbrev bufTy : (tb : Table) → Fin (tcTables nBuf tb) → BufTy
  | .hbm, ⟨0, _⟩ => ⟨S4x128x1024, .bf16⟩
  | .hbm, ⟨1, _⟩ => ⟨S3x128x1024, .bf16⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S2x128x1024, .f32⟩
  | .hbm, ⟨9, _⟩ => ⟨S_, .i32⟩
  | .hbm, ⟨10, _⟩ => ⟨S2x128x1024, .f32⟩
  | .hbm, ⟨11, _⟩ => ⟨S2x128x1024, .f32⟩
  | .hbm, ⟨12, _⟩ => ⟨S2x128x1024, .f32⟩
  | .hbm, ⟨13, _⟩ => ⟨S2x128x1024, .f32⟩
  | .local _ .vmem, ⟨0, _⟩ => ⟨S1x128x1024, .bf16⟩
  | .local _ .vmem, ⟨1, _⟩ => ⟨S3x128x1024, .bf16⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .smem, ⟨0, _⟩ => ⟨S1, .i32⟩
  | _, _ => ⟨S4x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v1_3 : Ref sig .tc := ⟨.hbm, 13, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference13Ideal.lean ====
abbrev S4x128x1024 : Shape := ⟨3, ![4, 128, 1024]⟩
abbrev S3x128x1024 : Shape := ⟨3, ![3, 128, 1024]⟩
abbrev S2x128x1024 : Shape := ⟨3, ![2, 128, 1024]⟩
abbrev S1x128x1024 : Shape := ⟨3, ![1, 128, 1024]⟩
abbrev S128x1024 : Shape := ⟨2, ![128, 1024]⟩
abbrev S_ : Shape := ⟨0, ![]⟩

abbrev nBuf : Space → Nat
  | .hbm => 75
  | .vmem => 0
  | .smem => 0
  | _ => 0

abbrev bufTy : (tb : Table) → Fin (tcTables nBuf tb) → BufTy
  | .hbm, ⟨0, _⟩ => ⟨S4x128x1024, .bf16⟩
  | .hbm, ⟨1, _⟩ => ⟨S3x128x1024, .bf16⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S2x128x1024, .f32⟩
  | .hbm, ⟨9, _⟩ => ⟨S1x128x1024, .bf16⟩
  | .hbm, ⟨10, _⟩ => ⟨S128x1024, .bf16⟩
  | .hbm, ⟨11, _⟩ => ⟨S128x1024, .f32⟩
  | .hbm, ⟨12, _⟩ => ⟨S3x128x1024, .f32⟩
  | .hbm, ⟨13, _⟩ => ⟨S_, .f32⟩
  | .hbm, ⟨14, _⟩ => ⟨S128x1024, .f32⟩
  | .hbm, ⟨15, _⟩ => ⟨S128x1024, .f32⟩
  | .hbm, ⟨16, _⟩ => ⟨S1x128x1024, .f32⟩
  | .hbm, ⟨17, _⟩ => ⟨S128x1024, .f32⟩
  | .hbm, ⟨18, _⟩ => ⟨S1x128x1024, .f32⟩
  | .hbm, ⟨19, _⟩ => ⟨S128x1024, .f32⟩
  | .hbm, ⟨20, _⟩ => ⟨S1x128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | .hbm, ⟨40, _⟩ => ⟨S_, .f32⟩
  | .hbm, ⟨41, _⟩ => ⟨S128x1024, .f32⟩
  | .hbm, ⟨42, _⟩ => ⟨S128x1024, .f32⟩
  | .hbm, ⟨43, _⟩ => ⟨S128x1024, .f32⟩
  | .hbm, ⟨44, _⟩ => ⟨S_, .f32⟩
  | .hbm, ⟨45, _⟩ => ⟨S128x1024, .f32⟩
  | .hbm, ⟨46, _⟩ => ⟨S128x1024, .f32⟩
  | .hbm, ⟨47, _⟩ => ⟨S128x1024, .f32⟩
  | .hbm, ⟨48, _⟩ => ⟨S_, .f32⟩
  | .hbm, ⟨49, _⟩ => ⟨S128x1024, .f32⟩
  | .hbm, ⟨50, _⟩ => ⟨S128x1024, .f32⟩
  | .hbm, ⟨51, _⟩ => ⟨S128x1024, .f32⟩
  | .hbm, ⟨52, _⟩ => ⟨S_, .f32⟩
  | .hbm, ⟨53, _⟩ => ⟨S128x1024, .f32⟩
  | .hbm, ⟨54, _⟩ => ⟨S128x1024, .f32⟩
  | .hbm, ⟨55, _⟩ => ⟨S1x128x1024, .f32⟩
  | .hbm, ⟨56, _⟩ => ⟨S128x1024, .f32⟩
  | .hbm, ⟨57, _⟩ => ⟨S1x128x1024, .f32⟩
  | .hbm, ⟨58, _⟩ => ⟨S1x128x1024, .f32⟩
  | .hbm, ⟨59, _⟩ => ⟨S2x128x1024, .f32⟩
  | .hbm, ⟨60, _⟩ => ⟨S1x128x1024, .f32⟩
  | .hbm, ⟨61, _⟩ => ⟨S128x1024, .f32⟩
  | .hbm, ⟨62, _⟩ => ⟨S1x128x1024, .f32⟩
  | .hbm, ⟨63, _⟩ => ⟨S1x128x1024, .f32⟩
  | .hbm, ⟨64, _⟩ => ⟨S2x128x1024, .f32⟩
  | .hbm, ⟨65, _⟩ => ⟨S1x128x1024, .f32⟩
  | .hbm, ⟨66, _⟩ => ⟨S128x1024, .f32⟩
  | .hbm, ⟨67, _⟩ => ⟨S1x128x1024, .f32⟩
  | .hbm, ⟨68, _⟩ => ⟨S1x128x1024, .f32⟩
  | .hbm, ⟨69, _⟩ => ⟨S2x128x1024, .f32⟩
  | .hbm, ⟨70, _⟩ => ⟨S1x128x1024, .f32⟩
  | .hbm, ⟨71, _⟩ => ⟨S128x1024, .f32⟩
  | .hbm, ⟨72, _⟩ => ⟨S1x128x1024, .f32⟩
  | .hbm, ⟨73, _⟩ => ⟨S1x128x1024, .f32⟩
  | .hbm, ⟨74, _⟩ => ⟨S2x128x1024, .f32⟩
  | _, _ => ⟨S4x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_6 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_7 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩

abbrev nD : Nat := 1
abbrev τ : Topo := Topo.v7x

variable {F : FTy → Type} [FloatOps F]
-- ==== Kernel14.lean ====
abbrev S4x1024x704 : Shape := ⟨3, ![4, 1024, 704]⟩
abbrev S3x1024x704 : Shape := ⟨3, ![3, 1024, 704]⟩
abbrev S2x1024x704 : Shape := ⟨3, ![2, 1024, 704]⟩
abbrev S_ : Shape := ⟨0, ![]⟩
abbrev S1 : Shape := ⟨1, ![1]⟩
abbrev S1x512x704 : Shape := ⟨3, ![1, 512, 704]⟩
abbrev S3x512x704 : Shape := ⟨3, ![3, 512, 704]⟩
abbrev S512x704 : Shape := ⟨2, ![512, 704]⟩

abbrev nBuf : Space → Nat
  | .hbm => 14
  | .vmem => 18
  | .smem => 1
  | _ => 0

abbrev bufTy : (tb : Table) → Fin (tcTables nBuf tb) → BufTy
  | .hbm, ⟨0, _⟩ => ⟨S4x1024x704, .bf16⟩
  | .hbm, ⟨1, _⟩ => ⟨S3x1024x704, .bf16⟩
  | .hbm, ⟨2, _⟩ => ⟨S2x1024x704, .f32⟩
  | .hbm, ⟨3, _⟩ => ⟨S2x1024x704, .f32⟩
  | .hbm, ⟨4, _⟩ => ⟨S2x1024x704, .f32⟩
  | .hbm, ⟨5, _⟩ => ⟨S2x1024x704, .f32⟩
  | .hbm, ⟨6, _⟩ => ⟨S2x1024x704, .f32⟩
  | .hbm, ⟨7, _⟩ => ⟨S2x1024x704, .f32⟩
  | .hbm, ⟨8, _⟩ => ⟨S2x1024x704, .f32⟩
  | .hbm, ⟨9, _⟩ => ⟨S_, .i32⟩
  | .hbm, ⟨10, _⟩ => ⟨S2x1024x704, .f32⟩
  | .hbm, ⟨11, _⟩ => ⟨S2x1024x704, .f32⟩
  | .hbm, ⟨12, _⟩ => ⟨S2x1024x704, .f32⟩
  | .hbm, ⟨13, _⟩ => ⟨S2x1024x704, .f32⟩
  | .local _ .vmem, ⟨0, _⟩ => ⟨S1x512x704, .bf16⟩
  | .local _ .vmem, ⟨1, _⟩ => ⟨S1x512x704, .bf16⟩
  | .local _ .vmem, ⟨2, _⟩ => ⟨S3x512x704, .bf16⟩
  | .local _ .vmem, ⟨3, _⟩ => ⟨S3x512x704, .bf16⟩
  | .local _ .vmem, ⟨4, _⟩ => ⟨S1x512x704, .f32⟩
  | .local _ .vmem, ⟨5, _⟩ => ⟨S1x512x704, .f32⟩
  | .local _ .vmem, ⟨6, _⟩ => ⟨S1x512x704, .f32⟩
  | .local _ .vmem, ⟨7, _⟩ => ⟨S1x512x704, .f32⟩
  | .local _ .vmem, ⟨8, _⟩ => ⟨S1x512x704, .f32⟩
  | .local _ .vmem, ⟨9, _⟩ => ⟨S1x512x704, .f32⟩
  | .local _ .vmem, ⟨10, _⟩ => ⟨S1x512x704, .f32⟩
  | .local _ .vmem, ⟨11, _⟩ => ⟨S1x512x704, .f32⟩
  | .local _ .vmem, ⟨12, _⟩ => ⟨S1x512x704, .f32⟩
  | .local _ .vmem, ⟨13, _⟩ => ⟨S1x512x704, .f32⟩
  | .local _ .vmem, ⟨14, _⟩ => ⟨S1x512x704, .f32⟩
  | .local _ .vmem, ⟨15, _⟩ => ⟨S1x512x704, .f32⟩
  | .local _ .vmem, ⟨16, _⟩ => ⟨S1x512x704, .f32⟩
  | .local _ .vmem, ⟨17, _⟩ => ⟨S1x512x704, .f32⟩
  | .local _ .smem, ⟨0, _⟩ => ⟨S1, .i32⟩
  | _, _ => ⟨S4x1024x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v1_3 : Ref sig .tc := ⟨.hbm, 13, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512x704 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference14Ideal.lean ====
abbrev S4x1024x704 : Shape := ⟨3, ![4, 1024, 704]⟩
abbrev S3x1024x704 : Shape := ⟨3, ![3, 1024, 704]⟩
abbrev S2x1024x704 : Shape := ⟨3, ![2, 1024, 704]⟩
abbrev S1x1024x704 : Shape := ⟨3, ![1, 1024, 704]⟩
abbrev S1024x704 : Shape := ⟨2, ![1024, 704]⟩
abbrev S_ : Shape := ⟨0, ![]⟩

abbrev nBuf : Space → Nat
  | .hbm => 75
  | .vmem => 0
  | .smem => 0
  | _ => 0

abbrev bufTy : (tb : Table) → Fin (tcTables nBuf tb) → BufTy
  | .hbm, ⟨0, _⟩ => ⟨S4x1024x704, .bf16⟩
  | .hbm, ⟨1, _⟩ => ⟨S3x1024x704, .bf16⟩
  | .hbm, ⟨2, _⟩ => ⟨S2x1024x704, .f32⟩
  | .hbm, ⟨3, _⟩ => ⟨S2x1024x704, .f32⟩
  | .hbm, ⟨4, _⟩ => ⟨S2x1024x704, .f32⟩
  | .hbm, ⟨5, _⟩ => ⟨S2x1024x704, .f32⟩
  | .hbm, ⟨6, _⟩ => ⟨S2x1024x704, .f32⟩
  | .hbm, ⟨7, _⟩ => ⟨S2x1024x704, .f32⟩
  | .hbm, ⟨8, _⟩ => ⟨S2x1024x704, .f32⟩
  | .hbm, ⟨9, _⟩ => ⟨S1x1024x704, .bf16⟩
  | .hbm, ⟨10, _⟩ => ⟨S1024x704, .bf16⟩
  | .hbm, ⟨11, _⟩ => ⟨S1024x704, .f32⟩
  | .hbm, ⟨12, _⟩ => ⟨S3x1024x704, .f32⟩
  | .hbm, ⟨13, _⟩ => ⟨S_, .f32⟩
  | .hbm, ⟨14, _⟩ => ⟨S1024x704, .f32⟩
  | .hbm, ⟨15, _⟩ => ⟨S1024x704, .f32⟩
  | .hbm, ⟨16, _⟩ => ⟨S1x1024x704, .f32⟩
  | .hbm, ⟨17, _⟩ => ⟨S1024x704, .f32⟩
  | .hbm, ⟨18, _⟩ => ⟨S1x1024x704, .f32⟩
  | .hbm, ⟨19, _⟩ => ⟨S1024x704, .f32⟩
  | .hbm, ⟨20, _⟩ => ⟨S1x1024x704, .f32⟩
  | .hbm, ⟨21, _⟩ => ⟨S1024x704, .f32⟩
  | .hbm, ⟨22, _⟩ => ⟨S_, .f32⟩
  | .hbm, ⟨23, _⟩ => ⟨S1024x704, .f32⟩
  | .hbm, ⟨24, _⟩ => ⟨S1024x704, .f32⟩
  | .hbm, ⟨25, _⟩ => ⟨S_, .f32⟩
  | .hbm, ⟨26, _⟩ => ⟨S1024x704, .f32⟩
  | .hbm, ⟨27, _⟩ => ⟨S1024x704, .f32⟩
  | .hbm, ⟨28, _⟩ => ⟨S1024x704, .f32⟩
  | .hbm, ⟨29, _⟩ => ⟨S_, .f32⟩
  | .hbm, ⟨30, _⟩ => ⟨S1024x704, .f32⟩
  | .hbm, ⟨31, _⟩ => ⟨S1024x704, .f32⟩
  | .hbm, ⟨32, _⟩ => ⟨S1024x704, .f32⟩
  | .hbm, ⟨33, _⟩ => ⟨S_, .f32⟩
  | .hbm, ⟨34, _⟩ => ⟨S1024x704, .f32⟩
  | .hbm, ⟨35, _⟩ => ⟨S1024x704, .f32⟩
  | .hbm, ⟨36, _⟩ => ⟨S1024x704, .f32⟩
  | .hbm, ⟨37, _⟩ => ⟨S_, .f32⟩
  | .hbm, ⟨38, _⟩ => ⟨S1024x704, .f32⟩
  | .hbm, ⟨39, _⟩ => ⟨S1024x704, .f32⟩
  | .hbm, ⟨40, _⟩ => ⟨S_, .f32⟩
  | .hbm, ⟨41, _⟩ => ⟨S1024x704, .f32⟩
  | .hbm, ⟨42, _⟩ => ⟨S1024x704, .f32⟩
  | .hbm, ⟨43, _⟩ => ⟨S1024x704, .f32⟩
  | .hbm, ⟨44, _⟩ => ⟨S_, .f32⟩
  | .hbm, ⟨45, _⟩ => ⟨S1024x704, .f32⟩
  | .hbm, ⟨46, _⟩ => ⟨S1024x704, .f32⟩
  | .hbm, ⟨47, _⟩ => ⟨S1024x704, .f32⟩
  | .hbm, ⟨48, _⟩ => ⟨S_, .f32⟩
  | .hbm, ⟨49, _⟩ => ⟨S1024x704, .f32⟩
  | .hbm, ⟨50, _⟩ => ⟨S1024x704, .f32⟩
  | .hbm, ⟨51, _⟩ => ⟨S1024x704, .f32⟩
  | .hbm, ⟨52, _⟩ => ⟨S_, .f32⟩
  | .hbm, ⟨53, _⟩ => ⟨S1024x704, .f32⟩
  | .hbm, ⟨54, _⟩ => ⟨S1024x704, .f32⟩
  | .hbm, ⟨55, _⟩ => ⟨S1x1024x704, .f32⟩
  | .hbm, ⟨56, _⟩ => ⟨S1024x704, .f32⟩
  | .hbm, ⟨57, _⟩ => ⟨S1x1024x704, .f32⟩
  | .hbm, ⟨58, _⟩ => ⟨S1x1024x704, .f32⟩
  | .hbm, ⟨59, _⟩ => ⟨S2x1024x704, .f32⟩
  | .hbm, ⟨60, _⟩ => ⟨S1x1024x704, .f32⟩
  | .hbm, ⟨61, _⟩ => ⟨S1024x704, .f32⟩
  | .hbm, ⟨62, _⟩ => ⟨S1x1024x704, .f32⟩
  | .hbm, ⟨63, _⟩ => ⟨S1x1024x704, .f32⟩
  | .hbm, ⟨64, _⟩ => ⟨S2x1024x704, .f32⟩
  | .hbm, ⟨65, _⟩ => ⟨S1x1024x704, .f32⟩
  | .hbm, ⟨66, _⟩ => ⟨S1024x704, .f32⟩
  | .hbm, ⟨67, _⟩ => ⟨S1x1024x704, .f32⟩
  | .hbm, ⟨68, _⟩ => ⟨S1x1024x704, .f32⟩
  | .hbm, ⟨69, _⟩ => ⟨S2x1024x704, .f32⟩
  | .hbm, ⟨70, _⟩ => ⟨S1x1024x704, .f32⟩
  | .hbm, ⟨71, _⟩ => ⟨S1024x704, .f32⟩
  | .hbm, ⟨72, _⟩ => ⟨S1x1024x704, .f32⟩
  | .hbm, ⟨73, _⟩ => ⟨S1x1024x704, .f32⟩
  | .hbm, ⟨74, _⟩ => ⟨S2x1024x704, .f32⟩
  | _, _ => ⟨S4x1024x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_6 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_7 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩

abbrev nD : Nat := 1
abbrev τ : Topo := Topo.v7x

variable {F : FTy → Type} [FloatOps F]
-- ==== Kernel15.lean ====
abbrev S4x352x1024 : Shape := ⟨3, ![4, 352, 1024]⟩
abbrev S3x352x1024 : Shape := ⟨3, ![3, 352, 1024]⟩
abbrev S2x352x1024 : Shape := ⟨3, ![2, 352, 1024]⟩
abbrev S_ : Shape := ⟨0, ![]⟩
abbrev S1 : Shape := ⟨1, ![1]⟩
abbrev S1x352x1024 : Shape := ⟨3, ![1, 352, 1024]⟩
abbrev S352x1024 : Shape := ⟨2, ![352, 1024]⟩

abbrev nBuf : Space → Nat
  | .hbm => 14
  | .vmem => 9
  | .smem => 1
  | _ => 0

abbrev bufTy : (tb : Table) → Fin (tcTables nBuf tb) → BufTy
  | .hbm, ⟨0, _⟩ => ⟨S4x352x1024, .bf16⟩
  | .hbm, ⟨1, _⟩ => ⟨S3x352x1024, .bf16⟩
  | .hbm, ⟨2, _⟩ => ⟨S2x352x1024, .f32⟩
  | .hbm, ⟨3, _⟩ => ⟨S2x352x1024, .f32⟩
  | .hbm, ⟨4, _⟩ => ⟨S2x352x1024, .f32⟩
  | .hbm, ⟨5, _⟩ => ⟨S2x352x1024, .f32⟩
  | .hbm, ⟨6, _⟩ => ⟨S2x352x1024, .f32⟩
  | .hbm, ⟨7, _⟩ => ⟨S2x352x1024, .f32⟩
  | .hbm, ⟨8, _⟩ => ⟨S2x352x1024, .f32⟩
  | .hbm, ⟨9, _⟩ => ⟨S_, .i32⟩
  | .hbm, ⟨10, _⟩ => ⟨S2x352x1024, .f32⟩
  | .hbm, ⟨11, _⟩ => ⟨S2x352x1024, .f32⟩
  | .hbm, ⟨12, _⟩ => ⟨S2x352x1024, .f32⟩
  | .hbm, ⟨13, _⟩ => ⟨S2x352x1024, .f32⟩
  | .local _ .vmem, ⟨0, _⟩ => ⟨S1x352x1024, .bf16⟩
  | .local _ .vmem, ⟨1, _⟩ => ⟨S3x352x1024, .bf16⟩
  | .local _ .vmem, ⟨2, _⟩ => ⟨S1x352x1024, .f32⟩
  | .local _ .vmem, ⟨3, _⟩ => ⟨S1x352x1024, .f32⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | .local _ .vmem, ⟨8, _⟩ => ⟨S1x352x1024, .f32⟩
  | .local _ .smem, ⟨0, _⟩ => ⟨S1, .i32⟩
  | _, _ => ⟨S4x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v1_3 : Ref sig .tc := ⟨.hbm, 13, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x352x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x352x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x352x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x352x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x352x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x352x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x352x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x352x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x352x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference15Ideal.lean ====
abbrev S4x352x1024 : Shape := ⟨3, ![4, 352, 1024]⟩
abbrev S3x352x1024 : Shape := ⟨3, ![3, 352, 1024]⟩
abbrev S2x352x1024 : Shape := ⟨3, ![2, 352, 1024]⟩
abbrev S1x352x1024 : Shape := ⟨3, ![1, 352, 1024]⟩
abbrev S352x1024 : Shape := ⟨2, ![352, 1024]⟩
abbrev S_ : Shape := ⟨0, ![]⟩

abbrev nBuf : Space → Nat
  | .hbm => 75
  | .vmem => 0
  | .smem => 0
  | _ => 0

abbrev bufTy : (tb : Table) → Fin (tcTables nBuf tb) → BufTy
  | .hbm, ⟨0, _⟩ => ⟨S4x352x1024, .bf16⟩
  | .hbm, ⟨1, _⟩ => ⟨S3x352x1024, .bf16⟩
  | .hbm, ⟨2, _⟩ => ⟨S2x352x1024, .f32⟩
  | .hbm, ⟨3, _⟩ => ⟨S2x352x1024, .f32⟩
  | .hbm, ⟨4, _⟩ => ⟨S2x352x1024, .f32⟩
  | .hbm, ⟨5, _⟩ => ⟨S2x352x1024, .f32⟩
  | .hbm, ⟨6, _⟩ => ⟨S2x352x1024, .f32⟩
  | .hbm, ⟨7, _⟩ => ⟨S2x352x1024, .f32⟩
  | .hbm, ⟨8, _⟩ => ⟨S2x352x1024, .f32⟩
  | .hbm, ⟨9, _⟩ => ⟨S1x352x1024, .bf16⟩
  | .hbm, ⟨10, _⟩ => ⟨S352x1024, .bf16⟩
  | .hbm, ⟨11, _⟩ => ⟨S352x1024, .f32⟩
  | .hbm, ⟨12, _⟩ => ⟨S3x352x1024, .f32⟩
  | .hbm, ⟨13, _⟩ => ⟨S_, .f32⟩
  | .hbm, ⟨14, _⟩ => ⟨S352x1024, .f32⟩
  | .hbm, ⟨15, _⟩ => ⟨S352x1024, .f32⟩
  | .hbm, ⟨16, _⟩ => ⟨S1x352x1024, .f32⟩
  | .hbm, ⟨17, _⟩ => ⟨S352x1024, .f32⟩
  | .hbm, ⟨18, _⟩ => ⟨S1x352x1024, .f32⟩
  | .hbm, ⟨19, _⟩ => ⟨S352x1024, .f32⟩
  | .hbm, ⟨20, _⟩ => ⟨S1x352x1024, .f32⟩
  | .hbm, ⟨21, _⟩ => ⟨S352x1024, .f32⟩
  | .hbm, ⟨22, _⟩ => ⟨S_, .f32⟩
  | .hbm, ⟨23, _⟩ => ⟨S352x1024, .f32⟩
  | .hbm, ⟨24, _⟩ => ⟨S352x1024, .f32⟩
  | .hbm, ⟨25, _⟩ => ⟨S_, .f32⟩
  | .hbm, ⟨26, _⟩ => ⟨S352x1024, .f32⟩
  | .hbm, ⟨27, _⟩ => ⟨S352x1024, .f32⟩
  | .hbm, ⟨28, _⟩ => ⟨S352x1024, .f32⟩
  | .hbm, ⟨29, _⟩ => ⟨S_, .f32⟩
  | .hbm, ⟨30, _⟩ => ⟨S352x1024, .f32⟩
  | .hbm, ⟨31, _⟩ => ⟨S352x1024, .f32⟩
  | .hbm, ⟨32, _⟩ => ⟨S352x1024, .f32⟩
  | .hbm, ⟨33, _⟩ => ⟨S_, .f32⟩
  | .hbm, ⟨34, _⟩ => ⟨S352x1024, .f32⟩
  | .hbm, ⟨35, _⟩ => ⟨S352x1024, .f32⟩
  | .hbm, ⟨36, _⟩ => ⟨S352x1024, .f32⟩
  | .hbm, ⟨37, _⟩ => ⟨S_, .f32⟩
  | .hbm, ⟨38, _⟩ => ⟨S352x1024, .f32⟩
  | .hbm, ⟨39, _⟩ => ⟨S352x1024, .f32⟩
  | .hbm, ⟨40, _⟩ => ⟨S_, .f32⟩
  | .hbm, ⟨41, _⟩ => ⟨S352x1024, .f32⟩
  | .hbm, ⟨42, _⟩ => ⟨S352x1024, .f32⟩
  | .hbm, ⟨43, _⟩ => ⟨S352x1024, .f32⟩
  | .hbm, ⟨44, _⟩ => ⟨S_, .f32⟩
  | .hbm, ⟨45, _⟩ => ⟨S352x1024, .f32⟩
  | .hbm, ⟨46, _⟩ => ⟨S352x1024, .f32⟩
  | .hbm, ⟨47, _⟩ => ⟨S352x1024, .f32⟩
  | .hbm, ⟨48, _⟩ => ⟨S_, .f32⟩
  | .hbm, ⟨49, _⟩ => ⟨S352x1024, .f32⟩
  | .hbm, ⟨50, _⟩ => ⟨S352x1024, .f32⟩
  | .hbm, ⟨51, _⟩ => ⟨S352x1024, .f32⟩
  | .hbm, ⟨52, _⟩ => ⟨S_, .f32⟩
  | .hbm, ⟨53, _⟩ => ⟨S352x1024, .f32⟩
  | .hbm, ⟨54, _⟩ => ⟨S352x1024, .f32⟩
  | .hbm, ⟨55, _⟩ => ⟨S1x352x1024, .f32⟩
  | .hbm, ⟨56, _⟩ => ⟨S352x1024, .f32⟩
  | .hbm, ⟨57, _⟩ => ⟨S1x352x1024, .f32⟩
  | .hbm, ⟨58, _⟩ => ⟨S1x352x1024, .f32⟩
  | .hbm, ⟨59, _⟩ => ⟨S2x352x1024, .f32⟩
  | .hbm, ⟨60, _⟩ => ⟨S1x352x1024, .f32⟩
  | .hbm, ⟨61, _⟩ => ⟨S352x1024, .f32⟩
  | .hbm, ⟨62, _⟩ => ⟨S1x352x1024, .f32⟩
  | .hbm, ⟨63, _⟩ => ⟨S1x352x1024, .f32⟩
  | .hbm, ⟨64, _⟩ => ⟨S2x352x1024, .f32⟩
  | .hbm, ⟨65, _⟩ => ⟨S1x352x1024, .f32⟩
  | .hbm, ⟨66, _⟩ => ⟨S352x1024, .f32⟩
  | .hbm, ⟨67, _⟩ => ⟨S1x352x1024, .f32⟩
  | .hbm, ⟨68, _⟩ => ⟨S1x352x1024, .f32⟩
  | .hbm, ⟨69, _⟩ => ⟨S2x352x1024, .f32⟩
  | .hbm, ⟨70, _⟩ => ⟨S1x352x1024, .f32⟩
  | .hbm, ⟨71, _⟩ => ⟨S352x1024, .f32⟩
  | .hbm, ⟨72, _⟩ => ⟨S1x352x1024, .f32⟩
  | .hbm, ⟨73, _⟩ => ⟨S1x352x1024, .f32⟩
  | .hbm, ⟨74, _⟩ => ⟨S2x352x1024, .f32⟩
  | _, _ => ⟨S4x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_6 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_7 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩

abbrev nD : Nat := 1
abbrev τ : Topo := Topo.v7x

variable {F : FTy → Type} [FloatOps F]
-- ==== Kernel16.lean ====
abbrev S8x360x1024 : Shape := ⟨3, ![8, 360, 1024]⟩
abbrev S360x1024 : Shape := ⟨2, ![360, 1024]⟩
abbrev S8x72x1024 : Shape := ⟨3, ![8, 72, 1024]⟩
abbrev S72x1024 : Shape := ⟨2, ![72, 1024]⟩
abbrev S1x72x1024 : Shape := ⟨3, ![1, 72, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x360x1024, .f32⟩
  | .hbm, ⟨1, _⟩ => ⟨S360x1024, .f32⟩
  | .hbm, ⟨2, _⟩ => ⟨S360x1024, .f32⟩
  | .hbm, ⟨3, _⟩ => ⟨S360x1024, .f32⟩
  | .hbm, ⟨4, _⟩ => ⟨S360x1024, .f32⟩
  | .hbm, ⟨5, _⟩ => ⟨S360x1024, .f32⟩
  | .hbm, ⟨6, _⟩ => ⟨S360x1024, .f32⟩
  | .hbm, ⟨7, _⟩ => ⟨S360x1024, .f32⟩
  | .local _ .vmem, ⟨0, _⟩ => ⟨S8x72x1024, .f32⟩
  | .local _ .vmem, ⟨1, _⟩ => ⟨S8x72x1024, .f32⟩
  | .local _ .vmem, ⟨2, _⟩ => ⟨S72x1024, .f32⟩
  | .local _ .vmem, ⟨3, _⟩ => ⟨S72x1024, .f32⟩
  | .local _ .vmem, ⟨4, _⟩ => ⟨S72x1024, .f32⟩
  | .local _ .vmem, ⟨5, _⟩ => ⟨S72x1024, .f32⟩
  | .local _ .vmem, ⟨6, _⟩ => ⟨S72x1024, .f32⟩
  | .local _ .vmem, ⟨7, _⟩ => ⟨S72x1024, .f32⟩
  | .local _ .vmem, ⟨8, _⟩ => ⟨S72x1024, .f32⟩
  | .local _ .vmem, ⟨9, _⟩ => ⟨S72x1024, .f32⟩
  | .local _ .vmem, ⟨10, _⟩ => ⟨S72x1024, .f32⟩
  | .local _ .vmem, ⟨11, _⟩ => ⟨S72x1024, .f32⟩
  | .local _ .vmem, ⟨12, _⟩ => ⟨S72x1024, .f32⟩
  | .local _ .vmem, ⟨13, _⟩ => ⟨S72x1024, .f32⟩
  | .local _ .vmem, ⟨14, _⟩ => ⟨S72x1024, .f32⟩
  | .local _ .vmem, ⟨15, _⟩ => ⟨S72x1024, .f32⟩
  | _, _ => ⟨S8x360x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![5], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x72x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S72x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S72x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S72x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S72x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S72x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S72x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S72x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference16Ideal.lean ====
abbrev S8x360x1024 : Shape := ⟨3, ![8, 360, 1024]⟩
abbrev S360x1024 : Shape := ⟨2, ![360, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x360x1024, .f32⟩
  | .hbm, ⟨1, _⟩ => ⟨S360x1024, .f32⟩
  | .hbm, ⟨2, _⟩ => ⟨S360x1024, .f32⟩
  | .hbm, ⟨3, _⟩ => ⟨S360x1024, .f32⟩
  | .hbm, ⟨4, _⟩ => ⟨S_, .f32⟩
  | .hbm, ⟨5, _⟩ => ⟨S360x1024, .f32⟩
  | .hbm, ⟨6, _⟩ => ⟨S_, .f32⟩
  | .hbm, ⟨7, _⟩ => ⟨S360x1024, .f32⟩
  | .hbm, ⟨8, _⟩ => ⟨S360x1024, .f32⟩
  | .hbm, ⟨9, _⟩ => ⟨S_, .f32⟩
  | .hbm, ⟨10, _⟩ => ⟨S360x1024, .f32⟩
  | .hbm, ⟨11, _⟩ => ⟨S360x1024, .f32⟩
  | .hbm, ⟨12, _⟩ => ⟨S360x1024, .f32⟩
  | .hbm, ⟨13, _⟩ => ⟨S_, .f32⟩
  | .hbm, ⟨14, _⟩ => ⟨S360x1024, .f32⟩
  | .hbm, ⟨15, _⟩ => ⟨S360x1024, .f32⟩
  | .hbm, ⟨16, _⟩ => ⟨S360x1024, .f32⟩
  | .hbm, ⟨17, _⟩ => ⟨S_, .f32⟩
  | .hbm, ⟨18, _⟩ => ⟨S360x1024, .f32⟩
  | .hbm, ⟨19, _⟩ => ⟨S360x1024, .f32⟩
  | .hbm, ⟨20, _⟩ => ⟨S360x1024, .f32⟩
  | .hbm, ⟨21, _⟩ => ⟨S_, .f32⟩
  | .hbm, ⟨22, _⟩ => ⟨S360x1024, .f32⟩
  | .hbm, ⟨23, _⟩ => ⟨S360x1024, .f32⟩
  | .hbm, ⟨24, _⟩ => ⟨S_, .f32⟩
  | .hbm, ⟨25, _⟩ => ⟨S360x1024, .f32⟩
  | .hbm, ⟨26, _⟩ => ⟨S360x1024, .f32⟩
  | .hbm, ⟨27, _⟩ => ⟨S360x1024, .f32⟩
  | .hbm, ⟨28, _⟩ => ⟨S_, .f32⟩
  | .hbm, ⟨29, _⟩ => ⟨S360x1024, .f32⟩
  | .hbm, ⟨30, _⟩ => ⟨S360x1024, .f32⟩
  | .hbm, ⟨31, _⟩ => ⟨S360x1024, .f32⟩
  | .hbm, ⟨32, _⟩ => ⟨S_, .f32⟩
  | .hbm, ⟨33, _⟩ => ⟨S360x1024, .f32⟩
  | .hbm, ⟨34, _⟩ => ⟨S360x1024, .f32⟩
  | .hbm, ⟨35, _⟩ => ⟨S360x1024, .f32⟩
  | .hbm, ⟨36, _⟩ => ⟨S_, .f32⟩
  | .hbm, ⟨37, _⟩ => ⟨S360x1024, .f32⟩
  | .hbm, ⟨38, _⟩ => ⟨S360x1024, .f32⟩
  | _, _ => ⟨S8x360x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel17.lean ====
abbrev S4096x1024 : Shape := ⟨2, ![4096, 1024]⟩
abbrev S4096x10240 : Shape := ⟨2, ![4096, 10240]⟩
abbrev S3x4096x1024 : Shape := ⟨3, ![3, 4096, 1024]⟩
abbrev S512x1024 : Shape := ⟨2, ![512, 1024]⟩
abbrev S1x512x1024 : Shape := ⟨3, ![1, 512, 1024]⟩

abbrev nBuf : Space → Nat
  | .hbm => 5
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S4096x10240, .bf16⟩
  | .hbm, ⟨2, _⟩ => ⟨S3x4096x1024, .bf16⟩
  | .hbm, ⟨3, _⟩ => ⟨S3x4096x1024, .bf16⟩
  | .hbm, ⟨4, _⟩ => ⟨S4096x10240, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S512x1024, .bf16⟩
  | .local _ .vmem, ⟨9, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi c7_i32 arg1
  let c0_i32 : BitVec 32 := 0#32
  ![arg0.toNat, v0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi c7_i32 arg1
  let c0_i32 : BitVec 32 := 0#32
  ![arg0.toNat, v0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference17Ideal.lean ====
abbrev S4096x1024 : Shape := ⟨2, ![4096, 1024]⟩
abbrev S4096x10240 : Shape := ⟨2, ![4096, 10240]⟩
abbrev S3x4096x1024 : Shape := ⟨3, ![3, 4096, 1024]⟩
abbrev S1x4096x1024 : Shape := ⟨3, ![1, 4096, 1024]⟩
abbrev S4096x3072 : Shape := ⟨2, ![4096, 3072]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x10240, .bf16⟩
  | .hbm, ⟨2, _⟩ => ⟨S3x4096x1024, .bf16⟩
  | .hbm, ⟨3, _⟩ => ⟨S3x4096x1024, .f32⟩
  | .hbm, ⟨4, _⟩ => ⟨S1x4096x1024, .f32⟩
  | .hbm, ⟨5, _⟩ => ⟨S4096x1024, .f32⟩
  | .hbm, ⟨6, _⟩ => ⟨S1x4096x1024, .f32⟩
  | .hbm, ⟨7, _⟩ => ⟨S4096x1024, .f32⟩
  | .hbm, ⟨8, _⟩ => ⟨S1x4096x1024, .f32⟩
  | .hbm, ⟨9, _⟩ => ⟨S4096x1024, .f32⟩
  | .hbm, ⟨10, _⟩ => ⟨S4096x10240, .f32⟩
  | .hbm, ⟨11, _⟩ => ⟨S4096x3072, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S1x4096x1024, .f32⟩
  | .hbm, ⟨49, _⟩ => ⟨S1x4096x1024, .f32⟩
  | .hbm, ⟨50, _⟩ => ⟨S1x4096x1024, .f32⟩
  | .hbm, ⟨51, _⟩ => ⟨S3x4096x1024, .f32⟩
  | .hbm, ⟨52, _⟩ => ⟨S3x4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_v15 : Ref sig .tc := ⟨.hbm, 19, rfl⟩
abbrev main_cst_0 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_1 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_3 : Ref sig .tc := ⟨.hbm, 36, rfl⟩
abbrev main_v29 : Ref sig .tc := ⟨.hbm, 37, rfl⟩
abbrev main_v30 : Ref sig .tc := ⟨.hbm, 38, rfl⟩
abbrev main_cst_4 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩

abbrev nD : Nat := 1
abbrev τ : Topo := Topo.v7x

variable {F : FTy → Type} [FloatOps F]
-- ==== Kernel18.lean ====
abbrev S4096x1024 : Shape := ⟨2, ![4096, 1024]⟩
abbrev S1024x1024 : Shape := ⟨2, ![1024, 1024]⟩
abbrev S1x1024x1024 : Shape := ⟨3, ![1, 1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S1024x1024, .bf16⟩
  | .hbm, ⟨3, _⟩ => ⟨S1x1024x1024, .bf16⟩
  | .hbm, ⟨4, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1024x1024, .bf16⟩
  | .local _ .vmem, ⟨4, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S_, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel19.lean ====
abbrev S4096x1024 : Shape := ⟨2, ![4096, 1024]⟩
abbrev S1024x4096 : Shape := ⟨2, ![1024, 4096]⟩
abbrev S1x1024x1024 : Shape := ⟨3, ![1, 1024, 1024]⟩
abbrev S4096x256 : Shape := ⟨2, ![4096, 256]⟩
abbrev S1x1024x256 : Shape := ⟨3, ![1, 1024, 256]⟩
abbrev S1024x256 : Shape := ⟨2, ![1024, 256]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x4096, .bf16⟩
  | .hbm, ⟨3, _⟩ => ⟨S1x1024x1024, .bf16⟩
  | .local _ .vmem, ⟨0, _⟩ => ⟨S1024x4096, .bf16⟩
  | .local _ .vmem, ⟨1, _⟩ => ⟨S4096x256, .bf16⟩
  | .local _ .vmem, ⟨2, _⟩ => ⟨S4096x256, .bf16⟩
  | .local _ .vmem, ⟨3, _⟩ => ⟨S1x1024x256, .bf16⟩
  | .local _ .vmem, ⟨4, _⟩ => ⟨S1x1024x256, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S4096x1024 : Shape := ⟨2, ![4096, 1024]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | .hbm, ⟨10, _⟩ => ⟨S1x1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel20.lean ====
abbrev S3x4096x1024 : Shape := ⟨3, ![3, 4096, 1024]⟩
abbrev S1024x1024 : Shape := ⟨2, ![1024, 1024]⟩
abbrev S1x1024x1024 : Shape := ⟨3, ![1, 1024, 1024]⟩

abbrev nBuf : Space → Nat
  | .hbm => 11
  | .vmem => 7
  | .smem => 0
  | _ => 0

abbrev bufTy : (tb : Table) → Fin (tcTables nBuf tb) → BufTy
  | .hbm, ⟨0, _⟩ => ⟨S3x4096x1024, .bf16⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .bf16⟩
  | .hbm, ⟨5, _⟩ => ⟨S1x1024x1024, .bf16⟩
  | .hbm, ⟨6, _⟩ => ⟨S1024x1024, .bf16⟩
  | .hbm, ⟨7, _⟩ => ⟨S1x1024x1024, .bf16⟩
  | .hbm, ⟨8, _⟩ => ⟨S1024x1024, .bf16⟩
  | .hbm, ⟨9, _⟩ => ⟨S1x1024x1024, .bf16⟩
  | .hbm, ⟨10, _⟩ => ⟨S3x4096x1024, .bf16⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1024x1024, .bf16⟩
  | _, _ => ⟨S3x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![3, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference20Ideal.lean ====
abbrev S3x4096x1024 : Shape := ⟨3, ![3, 4096, 1024]⟩
abbrev S1024x1024 : Shape := ⟨2, ![1024, 1024]⟩
abbrev S1x4096x1024 : Shape := ⟨3, ![1, 4096, 1024]⟩
abbrev S4096x1024 : Shape := ⟨2, ![4096, 1024]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S3x4096x1024, .bf16⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1x4096x1024, .bf16⟩
  | .hbm, ⟨5, _⟩ => ⟨S4096x1024, .bf16⟩
  | .hbm, ⟨6, _⟩ => ⟨S1x4096x1024, .bf16⟩
  | .hbm, ⟨7, _⟩ => ⟨S4096x1024, .bf16⟩
  | .hbm, ⟨8, _⟩ => ⟨S1x4096x1024, .bf16⟩
  | .hbm, ⟨9, _⟩ => ⟨S4096x1024, .bf16⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .bf16⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .bf16⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .bf16⟩
  | .hbm, ⟨28, _⟩ => ⟨S1x4096x1024, .bf16⟩
  | .hbm, ⟨29, _⟩ => ⟨S1x4096x1024, .bf16⟩
  | .hbm, ⟨30, _⟩ => ⟨S1x4096x1024, .bf16⟩
  | .hbm, ⟨31, _⟩ => ⟨S3x4096x1024, .bf16⟩
  | _, _ => ⟨S3x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== Kernel21.lean ====
abbrev S3x4096x1024 : Shape := ⟨3, ![3, 4096, 1024]⟩
abbrev S3x1024x4096 : Shape := ⟨3, ![3, 1024, 4096]⟩
abbrev S3x1024x1024 : Shape := ⟨3, ![3, 1024, 1024]⟩
abbrev S1x1024x4096 : Shape := ⟨3, ![1, 1024, 4096]⟩
abbrev S1x4096x256 : Shape := ⟨3, ![1, 4096, 256]⟩
abbrev S1x1024x256 : Shape := ⟨3, ![1, 1024, 256]⟩
abbrev S1024x4096 : Shape := ⟨2, ![1024, 4096]⟩
abbrev S4096x256 : Shape := ⟨2, ![4096, 256]⟩
abbrev S1024x256 : Shape := ⟨2, ![1024, 256]⟩

abbrev nBuf : Space → Nat
  | .hbm => 4
  | .vmem => 6
  | .smem => 0
  | _ => 0

abbrev bufTy : (tb : Table) → Fin (tcTables nBuf tb) → BufTy
  | .hbm, ⟨0, _⟩ => ⟨S3x4096x1024, .bf16⟩
  | .hbm, ⟨1, _⟩ => ⟨S3x4096x1024, .bf16⟩
  | .hbm, ⟨2, _⟩ => ⟨S3x1024x4096, .bf16⟩
  | .hbm, ⟨3, _⟩ => ⟨S3x1024x1024, .bf16⟩
  | .local _ .vmem, ⟨0, _⟩ => ⟨S1x1024x4096, .bf16⟩
  | .local _ .vmem, ⟨1, _⟩ => ⟨S1x1024x4096, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x1024x256, .bf16⟩
  | .local _ .vmem, ⟨5, _⟩ => ⟨S1x1024x256, .bf16⟩
  | _, _ => ⟨S3x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference21Ideal.lean ====
abbrev S3x4096x1024 : Shape := ⟨3, ![3, 4096, 1024]⟩
abbrev S1x4096x1024 : Shape := ⟨3, ![1, 4096, 1024]⟩
abbrev S4096x1024 : Shape := ⟨2, ![4096, 1024]⟩
abbrev S_ : Shape := ⟨0, ![]⟩
abbrev S1024x1024 : Shape := ⟨2, ![1024, 1024]⟩
abbrev S1x1024x1024 : Shape := ⟨3, ![1, 1024, 1024]⟩
abbrev S3x1024x1024 : Shape := ⟨3, ![3, 1024, 1024]⟩

abbrev nBuf : Space → Nat
  | .hbm => 42
  | .vmem => 0
  | .smem => 0
  | _ => 0

abbrev bufTy : (tb : Table) → Fin (tcTables nBuf tb) → BufTy
  | .hbm, ⟨0, _⟩ => ⟨S3x4096x1024, .bf16⟩
  | .hbm, ⟨1, _⟩ => ⟨S3x4096x1024, .bf16⟩
  | .hbm, ⟨2, _⟩ => ⟨S1x4096x1024, .bf16⟩
  | .hbm, ⟨3, _⟩ => ⟨S4096x1024, .bf16⟩
  | .hbm, ⟨4, _⟩ => ⟨S1x4096x1024, .bf16⟩
  | .hbm, ⟨5, _⟩ => ⟨S4096x1024, .bf16⟩
  | .hbm, ⟨6, _⟩ => ⟨S1x4096x1024, .bf16⟩
  | .hbm, ⟨7, _⟩ => ⟨S4096x1024, .bf16⟩
  | .hbm, ⟨8, _⟩ => ⟨S1x4096x1024, .bf16⟩
  | .hbm, ⟨9, _⟩ => ⟨S4096x1024, .bf16⟩
  | .hbm, ⟨10, _⟩ => ⟨S1x4096x1024, .bf16⟩
  | .hbm, ⟨11, _⟩ => ⟨S4096x1024, .bf16⟩
  | .hbm, ⟨12, _⟩ => ⟨S1x4096x1024, .bf16⟩
  | .hbm, ⟨13, _⟩ => ⟨S4096x1024, .bf16⟩
  | .hbm, ⟨14, _⟩ => ⟨S_, .f32⟩
  | .hbm, ⟨15, _⟩ => ⟨S1024x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S1024x1024, .f32⟩
  | .hbm, ⟨20, _⟩ => ⟨S1024x1024, .f32⟩
  | .hbm, ⟨21, _⟩ => ⟨S1024x1024, .bf16⟩
  | .hbm, ⟨22, _⟩ => ⟨S_, .f32⟩
  | .hbm, ⟨23, _⟩ => ⟨S1024x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S1024x1024, .f32⟩
  | .hbm, ⟨28, _⟩ => ⟨S1024x1024, .f32⟩
  | .hbm, ⟨29, _⟩ => ⟨S1024x1024, .bf16⟩
  | .hbm, ⟨30, _⟩ => ⟨S_, .f32⟩
  | .hbm, ⟨31, _⟩ => ⟨S1024x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S1024x1024, .f32⟩
  | .hbm, ⟨36, _⟩ => ⟨S1024x1024, .f32⟩
  | .hbm, ⟨37, _⟩ => ⟨S1024x1024, .bf16⟩
  | .hbm, ⟨38, _⟩ => ⟨S1x1024x1024, .bf16⟩
  | .hbm, ⟨39, _⟩ => ⟨S1x1024x1024, .bf16⟩
  | .hbm, ⟨40, _⟩ => ⟨S1x1024x1024, .bf16⟩
  | .hbm, ⟨41, _⟩ => ⟨S3x1024x1024, .bf16⟩
  | _, _ => ⟨S3x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_cst_0 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_cst_1 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩

abbrev nD : Nat := 1
abbrev τ : Topo := Topo.v7x

variable {F : FTy → Type} [FloatOps F]
-- ==== Kernel22.lean ====
abbrev S4096x1024 : Shape := ⟨2, ![4096, 1024]⟩
abbrev S1024x1024 : Shape := ⟨2, ![1024, 1024]⟩
abbrev S4096x10240 : Shape := ⟨2, ![4096, 10240]⟩
abbrev S1024x4096 : Shape := ⟨2, ![1024, 4096]⟩
abbrev S3x4096x1024 : Shape := ⟨3, ![3, 4096, 1024]⟩
abbrev S512x1024 : Shape := ⟨2, ![512, 1024]⟩
abbrev S1024x512 : Shape := ⟨2, ![1024, 512]⟩
abbrev S3x512x1024 : Shape := ⟨3, ![3, 512, 1024]⟩
abbrev S1x512x1024 : Shape := ⟨3, ![1, 512, 1024]⟩

abbrev nBuf : Space → Nat
  | .hbm => 13
  | .vmem => 21
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S4096x10240, .bf16⟩
  | .hbm, ⟨7, _⟩ => ⟨S1024x1024, .bf16⟩
  | .hbm, ⟨8, _⟩ => ⟨S1024x1024, .bf16⟩
  | .hbm, ⟨9, _⟩ => ⟨S1024x1024, .bf16⟩
  | .hbm, ⟨10, _⟩ => ⟨S4096x1024, .bf16⟩
  | .hbm, ⟨11, _⟩ => ⟨S1024x4096, .bf16⟩
  | .hbm, ⟨12, _⟩ => ⟨S3x4096x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S1024x512, .bf16⟩
  | .local _ .vmem, ⟨18, _⟩ => ⟨S1024x512, .bf16⟩
  | .local _ .vmem, ⟨19, _⟩ => ⟨S3x512x1024, .bf16⟩
  | .local _ .vmem, ⟨20, _⟩ => ⟨S3x512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_7 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_8 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S3x512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference22Ideal.lean ====
abbrev S4096x1024 : Shape := ⟨2, ![4096, 1024]⟩
abbrev S1024x1024 : Shape := ⟨2, ![1024, 1024]⟩
abbrev S4096x10240 : Shape := ⟨2, ![4096, 10240]⟩
abbrev S4096x3072 : Shape := ⟨2, ![4096, 3072]⟩
abbrev S_ : Shape := ⟨0, ![]⟩
abbrev S1024x4096 : Shape := ⟨2, ![1024, 4096]⟩
abbrev S1x4096x1024 : Shape := ⟨3, ![1, 4096, 1024]⟩
abbrev S3x4096x1024 : Shape := ⟨3, ![3, 4096, 1024]⟩

abbrev nBuf : Space → Nat
  | .hbm => 55
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S4096x10240, .bf16⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x10240, .f32⟩
  | .hbm, ⟨14, _⟩ => ⟨S4096x3072, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .bf16⟩
  | .hbm, ⟨48, _⟩ => ⟨S1024x4096, .f32⟩
  | .hbm, ⟨49, _⟩ => ⟨S1024x4096, .bf16⟩
  | .hbm, ⟨50, _⟩ => ⟨S1x4096x1024, .f32⟩
  | .hbm, ⟨51, _⟩ => ⟨S1x4096x1024, .f32⟩
  | .hbm, ⟨52, _⟩ => ⟨S1x4096x1024, .f32⟩
  | .hbm, ⟨53, _⟩ => ⟨S3x4096x1024, .f32⟩
  | .hbm, ⟨54, _⟩ => ⟨S3x4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩

abbrev nD : Nat := 1
abbrev τ : Topo := Topo.v7x

variable {F : FTy → Type} [FloatOps F]
-- ==== Kernel23.lean ====
abbrev S4096x1024 : Shape := ⟨2, ![4096, 1024]⟩
abbrev S1024x1024 : Shape := ⟨2, ![1024, 1024]⟩
abbrev S1024 : Shape := ⟨1, ![1024]⟩
abbrev S1x1024x1024 : Shape := ⟨3, ![1, 1024, 1024]⟩
abbrev S1x1024 : Shape := ⟨2, ![1, 1024]⟩
abbrev S4x1024 : Shape := ⟨2, ![4, 1024]⟩
abbrev S_ : Shape := ⟨0, ![]⟩
abbrev S8x1024 : Shape := ⟨2, ![8, 1024]⟩
abbrev S1024x4096 : Shape := ⟨2, ![1024, 4096]⟩
abbrev S512x1024 : Shape := ⟨2, ![512, 1024]⟩
abbrev S1024x512 : Shape := ⟨2, ![1024, 512]⟩
abbrev S512 : Shape := ⟨1, ![512]⟩
abbrev S512x1 : Shape := ⟨2, ![512, 1]⟩

abbrev nBuf : Space → Nat
  | .hbm => 21
  | .vmem => 14
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024x1024, .bf16⟩
  | .hbm, ⟨8, _⟩ => ⟨S1x1024x1024, .bf16⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S4x1024, .f32⟩
  | .hbm, ⟨14, _⟩ => ⟨S_, .i32⟩
  | .hbm, ⟨15, _⟩ => ⟨S_, .f32⟩
  | .hbm, ⟨16, _⟩ => ⟨S8x1024, .f32⟩
  | .hbm, ⟨17, _⟩ => ⟨S4096x1024, .f32⟩
  | .hbm, ⟨18, _⟩ => ⟨S4096x1024, .f32⟩
  | .hbm, ⟨19, _⟩ => ⟨S4096x1024, .bf16⟩
  | .hbm, ⟨20, _⟩ => ⟨S1024x4096, .bf16⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S512x1024, .f32⟩
  | .local _ .vmem, ⟨4, _⟩ => ⟨S512x1024, .f32⟩
  | .local _ .vmem, ⟨5, _⟩ => ⟨S8x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1024x512, .bf16⟩
  | .local _ .vmem, ⟨13, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_call0_v0 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v8_2 : Ref sig .tc := ⟨.hbm, 19, rfl⟩
abbrev main_v8_3 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference23Ideal.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024x4096 : Shape := ⟨2, ![1024, 4096]⟩

abbrev nBuf : Space → Nat
  | .hbm => 41
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S4096x1024, .f32⟩
  | .hbm, ⟨8, _⟩ => ⟨S4096x1024, .f32⟩
  | .hbm, ⟨9, _⟩ => ⟨S1x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S4096x1024, .bf16⟩
  | .hbm, ⟨39, _⟩ => ⟨S1024x4096, .f32⟩
  | .hbm, ⟨40, _⟩ => ⟨S1024x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Kernel24.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S1x2816x1024 : Shape := ⟨3, ![1, 2816, 1024]⟩
abbrev S1x1024 : Shape := ⟨2, ![1, 1024]⟩
abbrev S4x1024 : Shape := ⟨2, ![4, 1024]⟩
abbrev S_ : Shape := ⟨0, ![]⟩
abbrev S8x1024 : Shape := ⟨2, ![8, 1024]⟩
abbrev S1024x4096 : Shape := ⟨2, ![1024, 4096]⟩
abbrev S512x2816 : Shape := ⟨2, ![512, 2816]⟩
abbrev S512x1024 : Shape := ⟨2, ![512, 1024]⟩
abbrev S1024x512 : Shape := ⟨2, ![1024, 512]⟩
abbrev S512 : Shape := ⟨1, ![512]⟩
abbrev S512x1 : Shape := ⟨2, ![512, 1]⟩

abbrev nBuf : Space → Nat
  | .hbm => 21
  | .vmem => 14
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S2816x1024, .bf16⟩
  | .hbm, ⟨8, _⟩ => ⟨S1x2816x1024, .bf16⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S4x1024, .f32⟩
  | .hbm, ⟨14, _⟩ => ⟨S_, .i32⟩
  | .hbm, ⟨15, _⟩ => ⟨S_, .f32⟩
  | .hbm, ⟨16, _⟩ => ⟨S8x1024, .f32⟩
  | .hbm, ⟨17, _⟩ => ⟨S4096x1024, .f32⟩
  | .hbm, ⟨18, _⟩ => ⟨S4096x1024, .f32⟩
  | .hbm, ⟨19, _⟩ => ⟨S4096x1024, .bf16⟩
  | .hbm, ⟨20, _⟩ => ⟨S1024x4096, .bf16⟩
  | .local _ .vmem, ⟨0, _⟩ => ⟨S512x2816, .bf16⟩
  | .local _ .vmem, ⟨1, _⟩ => ⟨S512x2816, .bf16⟩
  | .local _ .vmem, ⟨2, _⟩ => ⟨S1x2816x1024, .bf16⟩
  | .local _ .vmem, ⟨3, _⟩ => ⟨S512x1024, .f32⟩
  | .local _ .vmem, ⟨4, _⟩ => ⟨S512x1024, .f32⟩
  | .local _ .vmem, ⟨5, _⟩ => ⟨S8x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1024x512, .bf16⟩
  | .local _ .vmem, ⟨13, _⟩ => ⟨S1024x512, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_call0_v0 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v8_2 : Ref sig .tc := ⟨.hbm, 19, rfl⟩
abbrev main_v8_3 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference24Ideal.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024x4096 : Shape := ⟨2, ![1024, 4096]⟩

abbrev nBuf : Space → Nat
  | .hbm => 41
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S4096x2816, .f32⟩
  | .hbm, ⟨8, _⟩ => ⟨S4096x1024, .f32⟩
  | .hbm, ⟨9, _⟩ => ⟨S1x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S4096x1024, .bf16⟩
  | .hbm, ⟨39, _⟩ => ⟨S1024x4096, .f32⟩
  | .hbm, ⟨40, _⟩ => ⟨S1024x4096, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Kernel25.lean ====
abbrev S4096x1024 : Shape := ⟨2, ![4096, 1024]⟩
abbrev S4096x2816 : Shape := ⟨2, ![4096, 2816]⟩
abbrev S2816x1024 : Shape := ⟨2, ![2816, 1024]⟩
abbrev S1024 : Shape := ⟨1, ![1024]⟩
abbrev S1x2816x1024 : Shape := ⟨3, ![1, 2816, 1024]⟩
abbrev S1x1024 : Shape := ⟨2, ![1, 1024]⟩
abbrev S2x1024 : Shape := ⟨2, ![2, 1024]⟩
abbrev S_ : Shape := ⟨0, ![]⟩
abbrev S8x1024 : Shape := ⟨2, ![8, 1024]⟩
abbrev S8x128 : Shape := ⟨2, ![8, 128]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 18
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x2816, .bf16⟩
  | .hbm, ⟨2, _⟩ => ⟨S2816x1024, .f32⟩
  | .hbm, ⟨3, _⟩ => ⟨S4096x1024, .f32⟩
  | .hbm, ⟨4, _⟩ => ⟨S1024, .f32⟩
  | .hbm, ⟨5, _⟩ => ⟨S1024, .f32⟩
  | .hbm, ⟨6, _⟩ => ⟨S2816x1024, .bf16⟩
  | .hbm, ⟨7, _⟩ => ⟨S1x2816x1024, .bf16⟩
  | .hbm, ⟨8, _⟩ => ⟨S1x1024, .f32⟩
  | .hbm, ⟨9, _⟩ => ⟨S1x1024, .f32⟩
  | .hbm, ⟨10, _⟩ => ⟨S2x1024, .f32⟩
  | .hbm, ⟨11, _⟩ => ⟨S_, .i32⟩
  | .hbm, ⟨12, _⟩ => ⟨S_, .f32⟩
  | .hbm, ⟨13, _⟩ => ⟨S8x1024, .f32⟩
  | .hbm, ⟨14, _⟩ => ⟨S4096x1024, .f32⟩
  | .hbm, ⟨15, _⟩ => ⟨S4096x1024, .bf16⟩
  | .hbm, ⟨16, _⟩ => ⟨S8x1024, .f32⟩
  | .hbm, ⟨17, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S512x2816, .bf16⟩
  | .local _ .vmem, ⟨3, _⟩ => ⟨S512x2816, .bf16⟩
  | .local _ .vmem, ⟨4, _⟩ => ⟨S1x2816x1024, .bf16⟩
  | .local _ .vmem, ⟨5, _⟩ => ⟨S512x1024, .f32⟩
  | .local _ .vmem, ⟨6, _⟩ => ⟨S512x1024, .f32⟩
  | .local _ .vmem, ⟨7, _⟩ => ⟨S8x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S8x1024, .f32⟩
  | .local _ .vmem, ⟨13, _⟩ => ⟨S8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_call0_v0 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference25Ideal.lean ====
abbrev S4096x1024 : Shape := ⟨2, ![4096, 1024]⟩
abbrev S4096x2816 : Shape := ⟨2, ![4096, 2816]⟩
abbrev S2816x1024 : Shape := ⟨2, ![2816, 1024]⟩
abbrev S1024 : Shape := ⟨1, ![1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S2x1024 : Shape := ⟨2, ![2, 1024]⟩
abbrev S6x1024 : Shape := ⟨2, ![6, 1024]⟩
abbrev S8x1024 : Shape := ⟨2, ![8, 1024]⟩
abbrev S8x128 : Shape := ⟨2, ![8, 128]⟩

abbrev nBuf : Space → Nat
  | .hbm => 97
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2816, .bf16⟩
  | .hbm, ⟨2, _⟩ => ⟨S2816x1024, .f32⟩
  | .hbm, ⟨3, _⟩ => ⟨S4096x1024, .f32⟩
  | .hbm, ⟨4, _⟩ => ⟨S1024, .f32⟩
  | .hbm, ⟨5, _⟩ => ⟨S1024, .f32⟩
  | .hbm, ⟨6, _⟩ => ⟨S4096x2816, .f32⟩
  | .hbm, ⟨7, _⟩ => ⟨S4096x1024, .f32⟩
  | .hbm, ⟨8, _⟩ => ⟨S1x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1024, .f32⟩
  | .hbm, ⟨31, _⟩ => ⟨S4096x1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096, .f32⟩
  | .hbm, ⟨42, _⟩ => ⟨S_, .f32⟩
  | .hbm, ⟨43, _⟩ => ⟨S4096, .f32⟩
  | .hbm, ⟨44, _⟩ => ⟨S4096, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S4096, .f32⟩
  | .hbm, ⟨53, _⟩ => ⟨S_, .f32⟩
  | .hbm, ⟨54, _⟩ => ⟨S4096, .f32⟩
  | .hbm, ⟨55, _⟩ => ⟨S4096, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S4096x1024, .f32⟩
  | .hbm, ⟨63, _⟩ => ⟨S4096x1024, .f32⟩
  | .hbm, ⟨64, _⟩ => ⟨S_, .f32⟩
  | .hbm, ⟨65, _⟩ => ⟨S1024, .f32⟩
  | .hbm, ⟨66, _⟩ => ⟨S4096x1024, .f32⟩
  | .hbm, ⟨67, _⟩ => ⟨S_, .f32⟩
  | .hbm, ⟨68, _⟩ => ⟨S4096, .f32⟩
  | .hbm, ⟨69, _⟩ => ⟨S4096x1, .f32⟩
  | .hbm, ⟨70, _⟩ => ⟨S4096x1024, .f32⟩
  | .hbm, ⟨71, _⟩ => ⟨S4096x1024, .f32⟩
  | .hbm, ⟨72, _⟩ => ⟨S4096x1, .f32⟩
  | .hbm, ⟨73, _⟩ => ⟨S_, .f32⟩
  | .hbm, ⟨74, _⟩ => ⟨S4096x1, .f32⟩
  | .hbm, ⟨75, _⟩ => ⟨S4096x1, .f32⟩
  | .hbm, ⟨76, _⟩ => ⟨S_, .f32⟩
  | .hbm, ⟨77, _⟩ => ⟨S4096, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S4096x1024, .f32⟩
  | .hbm, ⟨84, _⟩ => ⟨S_, .f32⟩
  | .hbm, ⟨85, _⟩ => ⟨S1024, .f32⟩
  | .hbm, ⟨86, _⟩ => ⟨S1x1024, .f32⟩
  | .hbm, ⟨87, _⟩ => ⟨S_, .f32⟩
  | .hbm, ⟨88, _⟩ => ⟨S1024, .f32⟩
  | .hbm, ⟨89, _⟩ => ⟨S1x1024, .f32⟩
  | .hbm, ⟨90, _⟩ => ⟨S1x1024, .f32⟩
  | .hbm, ⟨91, _⟩ => ⟨S2x1024, .f32⟩
  | .hbm, ⟨92, _⟩ => ⟨S_, .f32⟩
  | .hbm, ⟨93, _⟩ => ⟨S6x1024, .f32⟩
  | .hbm, ⟨94, _⟩ => ⟨S8x1024, .f32⟩
  | .hbm, ⟨95, _⟩ => ⟨S4096x1024, .bf16⟩
  | .hbm, ⟨96, _⟩ => ⟨S8x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_cst_7 : Ref sig .tc := ⟨.hbm, 45, rfl⟩
abbrev main_v31 : Ref sig .tc := ⟨.hbm, 46, rfl⟩
abbrev main_cst_8 : Ref sig .tc := ⟨.hbm, 47, rfl⟩
abbrev main_v32 : Ref sig .tc := ⟨.hbm, 48, rfl⟩
abbrev main_cst_9 : Ref sig .tc := ⟨.hbm, 49, rfl⟩
abbrev main_cst_10 : Ref sig .tc := ⟨.hbm, 50, rfl⟩
abbrev main_v33 : Ref sig .tc := ⟨.hbm, 51, rfl⟩
abbrev main_v34 : Ref sig .tc := ⟨.hbm, 52, rfl⟩
abbrev main_cst_11 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_12 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_13 : Ref sig .tc := ⟨.hbm, 64, rfl⟩
abbrev main_v44 : Ref sig .tc := ⟨.hbm, 65, rfl⟩
abbrev main_v45 : Ref sig .tc := ⟨.hbm, 66, rfl⟩
abbrev main_cst_14 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_15 : Ref sig .tc := ⟨.hbm, 73, rfl⟩
abbrev main_v51 : Ref sig .tc := ⟨.hbm, 74, rfl⟩
abbrev main_v52 : Ref sig .tc := ⟨.hbm, 75, rfl⟩
abbrev main_cst_16 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_17 : Ref sig .tc := ⟨.hbm, 84, rfl⟩
abbrev main_v60 : Ref sig .tc := ⟨.hbm, 85, rfl⟩
abbrev main_v61 : Ref sig .tc := ⟨.hbm, 86, rfl⟩
abbrev main_cst_18 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_19 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩

abbrev nD : Nat := 1
abbrev τ : Topo := Topo.v7x

variable {F : FTy → Type} [FloatOps F]
-- ==== Kernel26.lean ====
abbrev S8x1024 : Shape := ⟨2, ![8, 1024]⟩
abbrev S2x1024x768 : Shape := ⟨3, ![2, 1024, 768]⟩
abbrev S2x8x768 : Shape := ⟨3, ![2, 8, 768]⟩
abbrev S1x1024x768 : Shape := ⟨3, ![1, 1024, 768]⟩
abbrev S1x8x768 : Shape := ⟨3, ![1, 8, 768]⟩
abbrev S1024x768 : Shape := ⟨2, ![1024, 768]⟩
abbrev S8x768 : Shape := ⟨2, ![8, 768]⟩

abbrev nBuf : Space → Nat
  | .hbm => 4
  | .vmem => 6
  | .smem => 0
  | _ => 0

abbrev bufTy : (tb : Table) → Fin (tcTables nBuf tb) → BufTy
  | .hbm, ⟨0, _⟩ => ⟨S8x1024, .f32⟩
  | .hbm, ⟨1, _⟩ => ⟨S2x1024x768, .f32⟩
  | .hbm, ⟨2, _⟩ => ⟨S2x8x768, .f32⟩
  | .hbm, ⟨3, _⟩ => ⟨S8x1024, .f32⟩
  | .local _ .vmem, ⟨0, _⟩ => ⟨S8x1024, .f32⟩
  | .local _ .vmem, ⟨1, _⟩ => ⟨S1x1024x768, .f32⟩
  | .local _ .vmem, ⟨2, _⟩ => ⟨S1x1024x768, .f32⟩
  | .local _ .vmem, ⟨3, _⟩ => ⟨S1x8x768, .f32⟩
  | .local _ .vmem, ⟨4, _⟩ => ⟨S1x8x768, .f32⟩
  | .local _ .vmem, ⟨5, _⟩ => ⟨S8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference26Ideal.lean ====
abbrev S8x1024 : Shape := ⟨2, ![8, 1024]⟩
abbrev S2x1024x768 : Shape := ⟨3, ![2, 1024, 768]⟩
abbrev S_ : Shape := ⟨0, ![]⟩
abbrev S2x768x8 : Shape := ⟨3, ![2, 768, 8]⟩
abbrev S2x8x768 : Shape := ⟨3, ![2, 8, 768]⟩

abbrev nBuf : Space → Nat
  | .hbm => 22
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S2x1024x768, .f32⟩
  | .hbm, ⟨2, _⟩ => ⟨S8x1024, .f32⟩
  | .hbm, ⟨3, _⟩ => ⟨S8x1024, .f32⟩
  | .hbm, ⟨4, _⟩ => ⟨S_, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S8x1024, .f32⟩
  | .hbm, ⟨11, _⟩ => ⟨S2x768x8, .f32⟩
  | .hbm, ⟨12, _⟩ => ⟨S2x8x768, .f32⟩
  | .hbm, ⟨13, _⟩ => ⟨S8x1024, .f32⟩
  | .hbm, ⟨14, _⟩ => ⟨S8x1024, .f32⟩
  | .hbm, ⟨15, _⟩ => ⟨S_, .f32⟩
  | .hbm, ⟨16, _⟩ => ⟨S8x1024, .f32⟩
  | .hbm, ⟨17, _⟩ => ⟨S8x1024, .f32⟩
  | .hbm, ⟨18, _⟩ => ⟨S_, .f32⟩
  | .hbm, ⟨19, _⟩ => ⟨S8x1024, .f32⟩
  | .hbm, ⟨20, _⟩ => ⟨S8x1024, .f32⟩
  | .hbm, ⟨21, _⟩ => ⟨S8x1024, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_call0_v5 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_call1_v0 : Ref sig .tc := ⟨.hbm, 13, rfl⟩
abbrev main_call1_v1 : Ref sig .tc := ⟨.hbm, 14, rfl⟩
abbrev main_call1_cst : Ref sig .tc := ⟨.hbm, 15, rfl⟩
abbrev main_call1_v2 : Ref sig .tc := ⟨.hbm, 16, rfl⟩
abbrev main_call1_v3 : Ref sig .tc := ⟨.hbm, 17, rfl⟩
abbrev main_call1_cst_0 : Ref sig .tc := ⟨.hbm, 18, rfl⟩
abbrev main_call1_v4 : Ref sig .tc := ⟨.hbm, 19, rfl⟩
abbrev main_call1_v5 : Ref sig .tc := ⟨.hbm, 20, rfl⟩
abbrev main_v3 : Ref sig .tc := ⟨.hbm, 21, rfl⟩

abbrev nD : Nat := 1
abbrev τ : Topo := Topo.v7x

variable {F : FTy → Type} [FloatOps F]
-- ==== Kernel27.lean ====
abbrev S4096x1024 : Shape := ⟨2, ![4096, 1024]⟩
abbrev S1024 : Shape := ⟨1, ![1024]⟩
abbrev S_ : Shape := ⟨0, ![]⟩
abbrev S1x1024 : Shape := ⟨2, ![1, 1024]⟩
abbrev S4x1024 : Shape := ⟨2, ![4, 1024]⟩
abbrev S8x1024 : Shape := ⟨2, ![8, 1024]⟩
abbrev S1024x4096 : Shape := ⟨2, ![1024, 4096]⟩
abbrev S512x1024 : Shape := ⟨2, ![512, 1024]⟩
abbrev S1024x512 : Shape := ⟨2, ![1024, 512]⟩
abbrev S512 : Shape := ⟨1, ![512]⟩
abbrev S512x1 : Shape := ⟨2, ![512, 1]⟩

abbrev nBuf : Space → Nat
  | .hbm => 16
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S_, .f32⟩
  | .hbm, ⟨5, _⟩ => ⟨S1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S4x1024, .f32⟩
  | .hbm, ⟨11, _⟩ => ⟨S_, .i32⟩
  | .hbm, ⟨12, _⟩ => ⟨S_, .f32⟩
  | .hbm, ⟨13, _⟩ => ⟨S8x1024, .f32⟩
  | .hbm, ⟨14, _⟩ => ⟨S4096x1024, .bf16⟩
  | .hbm, ⟨15, _⟩ => ⟨S1024x4096, .bf16⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S512x1024, .bf16⟩
  | .local _ .vmem, ⟨4, _⟩ => ⟨S512x1024, .bf16⟩
  | .local _ .vmem, ⟨5, _⟩ => ⟨S1024x512, .bf16⟩
  | .local _ .vmem, ⟨6, _⟩ => ⟨S1024x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference27Ideal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1024x4096 : Shape := ⟨2, ![1024, 4096]⟩

abbrev nBuf : Space → Nat
  | .hbm => 32
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S1024, .f32⟩
  | .hbm, ⟨22, _⟩ => ⟨S1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x1024, .bf16⟩
  | .hbm, ⟨30, _⟩ => ⟨S1024x4096, .f32⟩
  | .hbm, ⟨31, _⟩ => ⟨S1024x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Kernel28.lean ====
abbrev S8x1024x1280 : Shape := ⟨3, ![8, 1024, 1280]⟩
abbrev S4x1024x1280 : Shape := ⟨3, ![4, 1024, 1280]⟩
abbrev S_ : Shape := ⟨0, ![]⟩
abbrev S1 : Shape := ⟨1, ![1]⟩
abbrev S1x256x1280 : Shape := ⟨3, ![1, 256, 1280]⟩
abbrev S256x1280 : Shape := ⟨2, ![256, 1280]⟩

abbrev nBuf : Space → Nat
  | .hbm => 4
  | .vmem => 6
  | .smem => 1
  | _ => 0

abbrev bufTy : (tb : Table) → Fin (tcTables nBuf tb) → BufTy
  | .hbm, ⟨0, _⟩ => ⟨S8x1024x1280, .bf16⟩
  | .hbm, ⟨1, _⟩ => ⟨S4x1024x1280, .bf16⟩
  | .hbm, ⟨2, _⟩ => ⟨S_, .i32⟩
  | .hbm, ⟨3, _⟩ => ⟨S4x1024x1280, .bf16⟩
  | .local _ .vmem, ⟨0, _⟩ => ⟨S1x256x1280, .bf16⟩
  | .local _ .vmem, ⟨1, _⟩ => ⟨S1x256x1280, .bf16⟩
  | .local _ .vmem, ⟨2, _⟩ => ⟨S1x256x1280, .bf16⟩
  | .local _ .vmem, ⟨3, _⟩ => ⟨S1x256x1280, .bf16⟩
  | .local _ .vmem, ⟨4, _⟩ => ⟨S1x256x1280, .bf16⟩
  | .local _ .vmem, ⟨5, _⟩ => ⟨S1x256x1280, .bf16⟩
  | .local _ .smem, ⟨0, _⟩ => ⟨S1, .i32⟩
  | _, _ => ⟨S8x1024x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0 : Index := 0#32
  let v1 : BitVec 32 := pf.at 0 (Rect.unit (s := S1) ![0] S1.size inb_S1_S1_0) numel1_S1
  let v2 : BitVec 32 := Scalar.addi v0 v1
  let c0_i32 : BitVec 32 := 0#32
  let c0_i32_0 : BitVec 32 := 0#32
  ![v2.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference28Ideal.lean ====
abbrev S8x1024x1280 : Shape := ⟨3, ![8, 1024, 1280]⟩
abbrev S4x1024x1280 : Shape := ⟨3, ![4, 1024, 1280]⟩
abbrev S4x2x1024x1280 : Shape := ⟨4, ![4, 2, 1024, 1280]⟩
abbrev S4x1x1024x1280 : Shape := ⟨4, ![4, 1, 1024, 1280]⟩

abbrev nBuf : Space → Nat
  | .hbm => 9
  | .vmem => 0
  | .smem => 0
  | _ => 0

abbrev bufTy : (tb : Table) → Fin (tcTables nBuf tb) → BufTy
  | .hbm, ⟨0, _⟩ => ⟨S8x1024x1280, .bf16⟩
  | .hbm, ⟨1, _⟩ => ⟨S4x1024x1280, .bf16⟩
  | .hbm, ⟨2, _⟩ => ⟨S4x2x1024x1280, .bf16⟩
  | .hbm, ⟨3, _⟩ => ⟨S4x1x1024x1280, .bf16⟩
  | .hbm, ⟨4, _⟩ => ⟨S4x1024x1280, .bf16⟩
  | .hbm, ⟨5, _⟩ => ⟨S4x1024x1280, .f32⟩
  | .hbm, ⟨6, _⟩ => ⟨S4x1024x1280, .f32⟩
  | .hbm, ⟨7, _⟩ => ⟨S4x1024x1280, .f32⟩
  | .hbm, ⟨8, _⟩ => ⟨S4x1024x1280, .bf16⟩
  | _, _ => ⟨S8x1024x1280, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Kernel29.lean ====
abbrev S4096x10240 : Shape := ⟨2, ![4096, 10240]⟩
abbrev S3x1024 : Shape := ⟨2, ![3, 1024]⟩
abbrev S1024 : Shape := ⟨1, ![1024]⟩
abbrev S8x128x128 : Shape := ⟨3, ![8, 128, 128]⟩
abbrev S8x128 : Shape := ⟨2, ![8, 128]⟩
abbrev S31x1024 : Shape := ⟨2, ![31, 1024]⟩
abbrev S_ : Shape := ⟨0, ![]⟩
abbrev S128x128 : Shape := ⟨2, ![128, 128]⟩
abbrev S1x128x128 : Shape := ⟨3, ![1, 128, 128]⟩
abbrev S8x1024 : Shape := ⟨2, ![8, 1024]⟩
abbrev S1x1024 : Shape := ⟨2, ![1, 1024]⟩
abbrev S2x1024 : Shape := ⟨2, ![2, 1024]⟩
abbrev S128x8 : Shape := ⟨2, ![128, 8]⟩
abbrev S128x8x128 : Shape := ⟨3, ![128, 8, 128]⟩
abbrev S128x1024 : Shape := ⟨2, ![128, 1024]⟩
abbrev S32x1024 : Shape := ⟨2, ![32, 1024]⟩
abbrev S4096x1024 : Shape := ⟨2, ![4096, 1024]⟩
abbrev S3x1024x4096 : Shape := ⟨3, ![3, 1024, 4096]⟩
abbrev S128x7168 : Shape := ⟨2, ![128, 7168]⟩
abbrev S3x1024x128 : Shape := ⟨3, ![3, 1024, 128]⟩
abbrev S160x1024 : Shape := ⟨2, ![160, 1024]⟩
abbrev S7x160x1024 : Shape := ⟨3, ![7, 160, 1024]⟩
abbrev S1024x128 : Shape := ⟨2, ![1024, 128]⟩
abbrev S1x1024x128 : Shape := ⟨3, ![1, 1024, 128]⟩
abbrev S128 : Shape := ⟨1, ![128]⟩
abbrev S128x1 : Shape := ⟨2, ![128, 1]⟩
abbrev S1x160x1024 : Shape := ⟨3, ![1, 160, 1024]⟩
abbrev S1x128 : Shape := ⟨2, ![1, 128]⟩

abbrev nBuf : Space → Nat
  | .hbm => 55
  | .vmem => 22
  | .smem => 0
  | _ => 0

abbrev bufTy : (tb : Table) → Fin (tcTables nBuf tb) → BufTy
  | .hbm, ⟨0, _⟩ => ⟨S4096x10240, .bf16⟩
  | .hbm, ⟨1, _⟩ => ⟨S3x1024, .f32⟩
  | .hbm, ⟨2, _⟩ => ⟨S1024, .f32⟩
  | .hbm, ⟨3, _⟩ => ⟨S1024, .f32⟩
  | .hbm, ⟨4, _⟩ => ⟨S8x128x128, .f32⟩
  | .hbm, ⟨5, _⟩ => ⟨S8x128, .f32⟩
  | .hbm, ⟨6, _⟩ => ⟨S31x1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S_, .i1⟩
  | .hbm, ⟨11, _⟩ => ⟨S128x128, .i1⟩
  | .hbm, ⟨12, _⟩ => ⟨S128x128, .i32⟩
  | .hbm, ⟨13, _⟩ => ⟨S_, .i32⟩
  | .hbm, ⟨14, _⟩ => ⟨S128x128, .i32⟩
  | .hbm, ⟨15, _⟩ => ⟨S128x128, .i32⟩
  | .hbm, ⟨16, _⟩ => ⟨S128x128, .i32⟩
  | .hbm, ⟨17, _⟩ => ⟨S128x128, .i1⟩
  | .hbm, ⟨18, _⟩ => ⟨S_, .i1⟩
  | .hbm, ⟨19, _⟩ => ⟨S128x128, .i1⟩
  | .hbm, ⟨20, _⟩ => ⟨S128x128, .i1⟩
  | .hbm, ⟨21, _⟩ => ⟨S1x128x128, .i1⟩
  | .hbm, ⟨22, _⟩ => ⟨S_, .f32⟩
  | .hbm, ⟨23, _⟩ => ⟨S_, .f32⟩
  | .hbm, ⟨24, _⟩ => ⟨S8x128x128, .i1⟩
  | .hbm, ⟨25, _⟩ => ⟨S8x128x128, .f32⟩
  | .hbm, ⟨26, _⟩ => ⟨S8x128x128, .f32⟩
  | .hbm, ⟨27, _⟩ => ⟨S8x128x128, .bf16⟩
  | .hbm, ⟨28, _⟩ => ⟨S_, .i32⟩
  | .hbm, ⟨29, _⟩ => ⟨S_, .f32⟩
  | .hbm, ⟨30, _⟩ => ⟨S8x1024, .f32⟩
  | .hbm, ⟨31, _⟩ => ⟨S1x1024, .f32⟩
  | .hbm, ⟨32, _⟩ => ⟨S1x1024, .f32⟩
  | .hbm, ⟨33, _⟩ => ⟨S2x1024, .f32⟩
  | .hbm, ⟨34, _⟩ => ⟨S_, .i32⟩
  | .hbm, ⟨35, _⟩ => ⟨S_, .f32⟩
  | .hbm, ⟨36, _⟩ => ⟨S8x1024, .f32⟩
  | .hbm, ⟨37, _⟩ => ⟨S128x8, .f32⟩
  | .hbm, ⟨38, _⟩ => ⟨S128x8x128, .f32⟩
  | .hbm, ⟨39, _⟩ => ⟨S128x1024, .f32⟩
  | .hbm, ⟨40, _⟩ => ⟨S_, .i32⟩
  | .hbm, ⟨41, _⟩ => ⟨S_, .f32⟩
  | .hbm, ⟨42, _⟩ => ⟨S32x1024, .f32⟩
  | .hbm, ⟨43, _⟩ => ⟨S1x1024, .f32⟩
  | .hbm, ⟨44, _⟩ => ⟨S1x1024, .f32⟩
  | .hbm, ⟨45, _⟩ => ⟨S1x1024, .f32⟩
  | .hbm, ⟨46, _⟩ => ⟨S3x1024, .f32⟩
  | .hbm, ⟨47, _⟩ => ⟨S_, .i32⟩
  | .hbm, ⟨48, _⟩ => ⟨S_, .f32⟩
  | .hbm, ⟨49, _⟩ => ⟨S8x1024, .f32⟩
  | .hbm, ⟨50, _⟩ => ⟨S4096x1024, .bf16⟩
  | .hbm, ⟨51, _⟩ => ⟨S4096x1024, .bf16⟩
  | .hbm, ⟨52, _⟩ => ⟨S4096x1024, .bf16⟩
  | .hbm, ⟨53, _⟩ => ⟨S3x1024x4096, .bf16⟩
  | .hbm, ⟨54, _⟩ => ⟨S4096x1024, .bf16⟩
  | .local _ .vmem, ⟨0, _⟩ => ⟨S128x7168, .bf16⟩
  | .local _ .vmem, ⟨1, _⟩ => ⟨S128x7168, .bf16⟩
  | .local _ .vmem, ⟨2, _⟩ => ⟨S8x1024, .f32⟩
  | .local _ .vmem, ⟨3, _⟩ => ⟨S8x1024, .f32⟩
  | .local _ .vmem, ⟨4, _⟩ => ⟨S8x128x128, .bf16⟩
  | .local _ .vmem, ⟨5, _⟩ => ⟨S128x1024, .f32⟩
  | .local _ .vmem, ⟨6, _⟩ => ⟨S32x1024, .f32⟩
  | .local _ .vmem, ⟨7, _⟩ => ⟨S8x1024, .f32⟩
  | .local _ .vmem, ⟨8, _⟩ => ⟨S128x1024, .bf16⟩
  | .local _ .vmem, ⟨9, _⟩ => ⟨S128x1024, .bf16⟩
  | .local _ .vmem, ⟨10, _⟩ => ⟨S128x1024, .bf16⟩
  | .local _ .vmem, ⟨11, _⟩ => ⟨S128x1024, .bf16⟩
  | .local _ .vmem, ⟨12, _⟩ => ⟨S128x1024, .bf16⟩
  | .local _ .vmem, ⟨13, _⟩ => ⟨S128x1024, .bf16⟩
  | .local _ .vmem, ⟨14, _⟩ => ⟨S3x1024x128, .bf16⟩
  | .local _ .vmem, ⟨15, _⟩ => ⟨S3x1024x128, .bf16⟩
  | .local _ .vmem, ⟨16, _⟩ => ⟨S128x1024, .bf16⟩
  | .local _ .vmem, ⟨17, _⟩ => ⟨S128x1024, .bf16⟩
  | .local _ .vmem, ⟨18, _⟩ => ⟨S160x1024, .f32⟩
  | .local _ .vmem, ⟨19, _⟩ => ⟨S160x1024, .f32⟩
  | .local _ .vmem, ⟨20, _⟩ => ⟨S7x160x1024, .f32⟩
  | .local _ .vmem, ⟨21, _⟩ => ⟨S128x1024, .f32⟩
  | _, _ => ⟨S4096x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_call0_v0 : Ref sig .tc := ⟨.hbm, 12, rfl⟩
abbrev main_call0_c : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_c_0 : Ref sig .tc := ⟨.hbm, 18, rfl⟩
abbrev main_call0_v5 : Ref sig .tc := ⟨.hbm, 19, rfl⟩
abbrev main_v1 : Ref sig .tc := ⟨.hbm, 20, rfl⟩
abbrev main_v2 : Ref sig .tc := ⟨.hbm, 21, rfl⟩
abbrev main_cst : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v3 : Ref sig .tc := ⟨.hbm, 26, rfl⟩
abbrev main_v4 : Ref sig .tc := ⟨.hbm, 27, rfl⟩
abbrev main_c_0 : Ref sig .tc := ⟨.hbm, 28, rfl⟩
abbrev main_call2_v0 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_c_1 : Ref sig .tc := ⟨.hbm, 34, rfl⟩
abbrev main_call3_v0 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_c_2 : Ref sig .tc := ⟨.hbm, 40, rfl⟩
abbrev main_call4_v0 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_c_3 : Ref sig .tc := ⟨.hbm, 47, rfl⟩
abbrev main_call5_v0 : Ref sig .tc := ⟨.hbm, 48, rfl⟩
abbrev main_v18 : Ref sig .tc := ⟨.hbm, 49, rfl⟩
abbrev main_v19_0 : Ref sig .tc := ⟨.hbm, 50, rfl⟩
abbrev main_v19_1 : Ref sig .tc := ⟨.hbm, 51, rfl⟩
abbrev main_v19_2 : Ref sig .tc := ⟨.hbm, 52, rfl⟩
abbrev main_v19_3 : Ref sig .tc := ⟨.hbm, 53, rfl⟩
abbrev main_v19_4 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S3x1024x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference29Ideal.lean ====
abbrev S4096x10240 : Shape := ⟨2, ![4096, 10240]⟩
abbrev S3x1024 : Shape := ⟨2, ![3, 1024]⟩
abbrev S1024 : Shape := ⟨1, ![1024]⟩
abbrev S8x128x128 : Shape := ⟨3, ![8, 128, 128]⟩
abbrev S8x128 : Shape := ⟨2, ![8, 128]⟩
abbrev S31x1024 : Shape := ⟨2, ![31, 1024]⟩
abbrev S4096x1024 : Shape := ⟨2, ![4096, 1024]⟩
abbrev S_ : Shape := ⟨0, ![]⟩
abbrev S4098x1024 : Shape := ⟨2, ![4098, 1024]⟩
abbrev S1x1024 : Shape := ⟨2, ![1, 1024]⟩
abbrev S4096 : Shape := ⟨1, ![4096]⟩
abbrev S4096x1 : Shape := ⟨2, ![4096, 1]⟩
abbrev S32x128x8x128 : Shape := ⟨4, ![32, 128, 8, 128]⟩
abbrev S128x128 : Shape := ⟨2, ![128, 128]⟩
abbrev S1x128x128 : Shape := ⟨3, ![1, 128, 128]⟩
abbrev S8x32x128x128 : Shape := ⟨4, ![8, 32, 128, 128]⟩
abbrev S128x8 : Shape := ⟨2, ![128, 8]⟩
abbrev S1x128x8x1 : Shape := ⟨4, ![1, 128, 8, 1]⟩
abbrev S4126x1024 : Shape := ⟨2, ![4126, 1024]⟩

abbrev nBuf : Space → Nat
  | .hbm => 416
  | .vmem => 0
  | .smem => 0
  | _ => 0

abbrev hbmTy0_0 (i : Nat) : BufTy := match i % 128 with
  | 0 => ⟨S4096x10240, .bf16⟩
  | 1 => ⟨S3x1024, .f32⟩
  | 2 => ⟨S1024, .f32⟩
  | 3 => ⟨S1024, .f32⟩
  | 4 => ⟨S8x128x128, .f32⟩
  | 5 => ⟨S8x128, .f32⟩
  | 6 => ⟨S31x1024, .f32⟩
  | 7 => ⟨S1024, .f32⟩
  | 8 => ⟨S1024, .f32⟩
  | 9 => ⟨S1024, .f32⟩
  | 10 => ⟨S4096x1024, .bf16⟩
  | 11 => ⟨S4096x1024, .f32⟩
  | 12 => ⟨S4096x1024, .bf16⟩
  | 13 => ⟨S4096x1024, .f32⟩
  | 14 => ⟨S4096x1024, .bf16⟩
  | 15 => ⟨S4096x1024, .f32⟩
  | 16 => ⟨S4096x1024, .bf16⟩
  | 17 => ⟨S4096x1024, .f32⟩
  | 18 => ⟨S4096x1024, .bf16⟩
  | 19 => ⟨S4096x1024, .f32⟩
  | 20 => ⟨S4096x1024, .bf16⟩
  | 21 => ⟨S4096x1024, .f32⟩
  | 22 => ⟨S4096x1024, .bf16⟩
  | 23 => ⟨S4096x1024, .f32⟩
  | 24 => ⟨S4096x1024, .f32⟩
  | 25 => ⟨S_, .i32⟩
  | 26 => ⟨S_, .f32⟩
  | 27 => ⟨S4098x1024, .f32⟩
  | 28 => ⟨S1x1024, .f32⟩
  | 29 => ⟨S1024, .f32⟩
  | 30 => ⟨S4096x1024, .f32⟩
  | 31 => ⟨S1x1024, .f32⟩
  | 32 => ⟨S4096x1024, .f32⟩
  | 33 => ⟨S4096x1024, .f32⟩
  | 34 => ⟨S_, .f32⟩
  | 35 => ⟨S4096x1024, .f32⟩
  | 36 => ⟨S4096x1024, .f32⟩
  | 37 => ⟨S1x1024, .f32⟩
  | 38 => ⟨S1024, .f32⟩
  | 39 => ⟨S4096x1024, .f32⟩
  | 40 => ⟨S1x1024, .f32⟩
  | 41 => ⟨S4096x1024, .f32⟩
  | 42 => ⟨S4096x1024, .f32⟩
  | 43 => ⟨S4096x1024, .f32⟩
  | 44 => ⟨S1x1024, .f32⟩
  | 45 => ⟨S1024, .f32⟩
  | 46 => ⟨S4096x1024, .f32⟩
  | 47 => ⟨S1x1024, .f32⟩
  | 48 => ⟨S4096x1024, .f32⟩
  | 49 => ⟨S4096x1024, .f32⟩
  | 50 => ⟨S4096x1024, .f32⟩
  | 51 => ⟨S4096x1024, .f32⟩
  | 52 => ⟨S4096x1024, .f32⟩
  | 53 => ⟨S4096x1024, .f32⟩
  | 54 => ⟨S_, .f32⟩
  | 55 => ⟨S4096x1024, .f32⟩
  | 56 => ⟨S4096x1024, .f32⟩
  | 57 => ⟨S4096x1024, .f32⟩
  | 58 => ⟨S_, .f32⟩
  | 59 => ⟨S4096x1024, .f32⟩
  | 60 => ⟨S4096x1024, .f32⟩
  | 61 => ⟨S4096x1024, .f32⟩
  | 62 => ⟨S_, .f32⟩
  | 63 => ⟨S4096x1024, .f32⟩
  | 64 => ⟨S4096x1024, .f32⟩
  | 65 => ⟨S_, .f32⟩
  | 66 => ⟨S4096x1024, .f32⟩
  | 67 => ⟨S4096x1024, .f32⟩
  | 68 => ⟨S4096x1024, .f32⟩
  | 69 => ⟨S4096x1024, .f32⟩
  | 70 => ⟨S4096x1024, .f32⟩
  | 71 => ⟨S_, .f32⟩
  | 72 => ⟨S4096x1024, .f32⟩
  | 73 => ⟨S4096x1024, .f32⟩
  | 74 => ⟨S4096x1024, .f32⟩
  | 75 => ⟨S_, .f32⟩
  | 76 => ⟨S4096x1024, .f32⟩
  | 77 => ⟨S4096x1024, .f32⟩
  | 78 => ⟨S4096x1024, .f32⟩
  | 79 => ⟨S_, .f32⟩
  | 80 => ⟨S4096x1024, .f32⟩
  | 81 => ⟨S4096x1024, .f32⟩
  | 82 => ⟨S_, .f32⟩
  | 83 => ⟨S4096x1024, .f32⟩
  | 84 => ⟨S4096x1024, .f32⟩
  | 85 => ⟨S4096x1024, .f32⟩
  | 86 => ⟨S_, .f32⟩
  | 87 => ⟨S4096, .f32⟩
  | 88 => ⟨S4096x1, .f32⟩
  | 89 => ⟨S_, .f32⟩
  | 90 => ⟨S4096x1, .f32⟩
  | 91 => ⟨S4096x1, .f32⟩
  | 92 => ⟨S4096x1024, .f32⟩
  | 93 => ⟨S4096x1024, .f32⟩
  | 94 => ⟨S4096x1024, .f32⟩
  | 95 => ⟨S_, .f32⟩
  | 96 => ⟨S4096, .f32⟩
  | 97 => ⟨S4096x1, .f32⟩
  | 98 => ⟨S_, .f32⟩
  | 99 => ⟨S4096x1, .f32⟩
  | 100 => ⟨S4096x1, .f32⟩
  | 101 => ⟨S4096x1024, .f32⟩
  | 102 => ⟨S4096x1024, .f32⟩
  | 103 => ⟨S_, .f32⟩
  | 104 => ⟨S4096x1, .f32⟩
  | 105 => ⟨S4096x1, .f32⟩
  | 106 => ⟨S4096x1, .f32⟩
  | 107 => ⟨S4096x1024, .f32⟩
  | 108 => ⟨S4096x1024, .f32⟩
  | 109 => ⟨S1x1024, .f32⟩
  | 110 => ⟨S4096x1024, .f32⟩
  | 111 => ⟨S4096x1024, .f32⟩
  | 112 => ⟨S1x1024, .f32⟩
  | 113 => ⟨S4096x1024, .f32⟩
  | 114 => ⟨S4096x1024, .f32⟩
  | 115 => ⟨S32x128x8x128, .f32⟩
  | 116 => ⟨S_, .i1⟩
  | 117 => ⟨S128x128, .i1⟩
  | 118 => ⟨S128x128, .i32⟩
  | 119 => ⟨S_, .i32⟩
  | 120 => ⟨S128x128, .i32⟩
  | 121 => ⟨S128x128, .i32⟩
  | 122 => ⟨S128x128, .i32⟩
  | 123 => ⟨S128x128, .i1⟩
  | 124 => ⟨S_, .i1⟩
  | 125 => ⟨S128x128, .i1⟩
  | 126 => ⟨S128x128, .i1⟩
  | 127 => ⟨S1x128x128, .i1⟩
  | _ => ⟨S4096x10240, .bf16⟩

abbrev hbmTy0_1 (i : Nat) : BufTy := match i % 128 with
  | 0 => ⟨S_, .i32⟩
  | 1 => ⟨S_, .f32⟩
  | 2 => ⟨S8x128x128, .i1⟩
  | 3 => ⟨S8x128x128, .f32⟩
  | 4 => ⟨S8x128x128, .f32⟩
  | 5 => ⟨S8x32x128x128, .f32⟩
  | 6 => ⟨S32x128x8x128, .f32⟩
  | 7 => ⟨S128x8, .f32⟩
  | 8 => ⟨S1x128x8x1, .f32⟩
  | 9 => ⟨S32x128x8x128, .f32⟩
  | 10 => ⟨S32x128x8x128, .f32⟩
  | 11 => ⟨S4096x1024, .f32⟩
  | 12 => ⟨S4096x1024, .f32⟩
  | 13 => ⟨S4096x1024, .f32⟩
  | 14 => ⟨S4096x1024, .f32⟩
  | 15 => ⟨S_, .f32⟩
  | 16 => ⟨S4096x1024, .f32⟩
  | 17 => ⟨S4096x1024, .f32⟩
  | 18 => ⟨S_, .f32⟩
  | 19 => ⟨S4096x1024, .f32⟩
  | 20 => ⟨S4096x1024, .f32⟩
  | 21 => ⟨S4096x1024, .f32⟩
  | 22 => ⟨S_, .i32⟩
  | 23 => ⟨S_, .f32⟩
  | 24 => ⟨S4126x1024, .f32⟩
  | 25 => ⟨S1x1024, .f32⟩
  | 26 => ⟨S1024, .f32⟩
  | 27 => ⟨S4096x1024, .f32⟩
  | 28 => ⟨S1x1024, .f32⟩
  | 29 => ⟨S4096x1024, .f32⟩
  | 30 => ⟨S4096x1024, .f32⟩
  | 31 => ⟨S_, .f32⟩
  | 32 => ⟨S4096x1024, .f32⟩
  | 33 => ⟨S4096x1024, .f32⟩
  | 34 => ⟨S1x1024, .f32⟩
  | 35 => ⟨S1024, .f32⟩
  | 36 => ⟨S4096x1024, .f32⟩
  | 37 => ⟨S1x1024, .f32⟩
  | 38 => ⟨S4096x1024, .f32⟩
  | 39 => ⟨S4096x1024, .f32⟩
  | 40 => ⟨S4096x1024, .f32⟩
  | 41 => ⟨S1x1024, .f32⟩
  | 42 => ⟨S1024, .f32⟩
  | 43 => ⟨S4096x1024, .f32⟩
  | 44 => ⟨S1x1024, .f32⟩
  | 45 => ⟨S4096x1024, .f32⟩
  | 46 => ⟨S4096x1024, .f32⟩
  | 47 => ⟨S4096x1024, .f32⟩
  | 48 => ⟨S1x1024, .f32⟩
  | 49 => ⟨S1024, .f32⟩
  | 50 => ⟨S4096x1024, .f32⟩
  | 51 => ⟨S1x1024, .f32⟩
  | 52 => ⟨S4096x1024, .f32⟩
  | 53 => ⟨S4096x1024, .f32⟩
  | 54 => ⟨S4096x1024, .f32⟩
  | 55 => ⟨S1x1024, .f32⟩
  | 56 => ⟨S1024, .f32⟩
  | 57 => ⟨S4096x1024, .f32⟩
  | 58 => ⟨S1x1024, .f32⟩
  | 59 => ⟨S4096x1024, .f32⟩
  | 60 => ⟨S4096x1024, .f32⟩
  | 61 => ⟨S4096x1024, .f32⟩
  | 62 => ⟨S1x1024, .f32⟩
  | 63 => ⟨S1024, .f32⟩
  | 64 => ⟨S4096x1024, .f32⟩
  | 65 => ⟨S1x1024, .f32⟩
  | 66 => ⟨S4096x1024, .f32⟩
  | 67 => ⟨S4096x1024, .f32⟩
  | 68 => ⟨S4096x1024, .f32⟩
  | 69 => ⟨S1x1024, .f32⟩
  | 70 => ⟨S1024, .f32⟩
  | 71 => ⟨S4096x1024, .f32⟩
  | 72 => ⟨S1x1024, .f32⟩
  | 73 => ⟨S4096x1024, .f32⟩
  | 74 => ⟨S4096x1024, .f32⟩
  | 75 => ⟨S4096x1024, .f32⟩
  | 76 => ⟨S1x1024, .f32⟩
  | 77 => ⟨S1024, .f32⟩
  | 78 => ⟨S4096x1024, .f32⟩
  | 79 => ⟨S1x1024, .f32⟩
  | 80 => ⟨S4096x1024, .f32⟩
  | 81 => ⟨S4096x1024, .f32⟩
  | 82 => ⟨S4096x1024, .f32⟩
  | 83 => ⟨S1x1024, .f32⟩
  | 84 => ⟨S1024, .f32⟩
  | 85 => ⟨S4096x1024, .f32⟩
  | 86 => ⟨S1x1024, .f32⟩
  | 87 => ⟨S4096x1024, .f32⟩
  | 88 => ⟨S4096x1024, .f32⟩
  | 89 => ⟨S4096x1024, .f32⟩
  | 90 => ⟨S1x1024, .f32⟩
  | 91 => ⟨S1024, .f32⟩
  | 92 => ⟨S4096x1024, .f32⟩
  | 93 => ⟨S1x1024, .f32⟩
  | 94 => ⟨S4096x1024, .f32⟩
  | 95 => ⟨S4096x1024, .f32⟩
  | 96 => ⟨S4096x1024, .f32⟩
  | 97 => ⟨S1x1024, .f32⟩
  | 98 => ⟨S1024, .f32⟩
  | 99 => ⟨S4096x1024, .f32⟩
  | 100 => ⟨S1x1024, .f32⟩
  | 101 => ⟨S4096x1024, .f32⟩
  | 102 => ⟨S4096x1024, .f32⟩
  | 103 => ⟨S4096x1024, .f32⟩
  | 104 => ⟨S1x1024, .f32⟩
  | 105 => ⟨S1024, .f32⟩
  | 106 => ⟨S4096x1024, .f32⟩
  | 107 => ⟨S1x1024, .f32⟩
  | 108 => ⟨S4096x1024, .f32⟩
  | 109 => ⟨S4096x1024, .f32⟩
  | 110 => ⟨S4096x1024, .f32⟩
  | 111 => ⟨S1x1024, .f32⟩
  | 112 => ⟨S1024, .f32⟩
  | 113 => ⟨S4096x1024, .f32⟩
  | 114 => ⟨S1x1024, .f32⟩
  | 115 => ⟨S4096x1024, .f32⟩
  | 116 => ⟨S4096x1024, .f32⟩
  | 117 => ⟨S4096x1024, .f32⟩
  | 118 => ⟨S1x1024, .f32⟩
  | 119 => ⟨S1024, .f32⟩
  | 120 => ⟨S4096x1024, .f32⟩
  | 121 => ⟨S1x1024, .f32⟩
  | 122 => ⟨S4096x1024, .f32⟩
  | 123 => ⟨S4096x1024, .f32⟩
  | 124 => ⟨S4096x1024, .f32⟩
  | 125 => ⟨S1x1024, .f32⟩
  | 126 => ⟨S1024, .f32⟩
  | 127 => ⟨S4096x1024, .f32⟩
  | _ => ⟨S4096x10240, .bf16⟩

abbrev hbmTy0_2 (i : Nat) : BufTy := match i % 128 with
  | 0 => ⟨S1x1024, .f32⟩
  | 1 => ⟨S4096x1024, .f32⟩
  | 2 => ⟨S4096x1024, .f32⟩
  | 3 => ⟨S4096x1024, .f32⟩
  | 4 => ⟨S1x1024, .f32⟩
  | 5 => ⟨S1024, .f32⟩
  | 6 => ⟨S4096x1024, .f32⟩
  | 7 => ⟨S1x1024, .f32⟩
  | 8 => ⟨S4096x1024, .f32⟩
  | 9 => ⟨S4096x1024, .f32⟩
  | 10 => ⟨S4096x1024, .f32⟩
  | 11 => ⟨S1x1024, .f32⟩
  | 12 => ⟨S1024, .f32⟩
  | 13 => ⟨S4096x1024, .f32⟩
  | 14 => ⟨S1x1024, .f32⟩
  | 15 => ⟨S4096x1024, .f32⟩
  | 16 => ⟨S4096x1024, .f32⟩
  | 17 => ⟨S4096x1024, .f32⟩
  | 18 => ⟨S1x1024, .f32⟩
  | 19 => ⟨S1024, .f32⟩
  | 20 => ⟨S4096x1024, .f32⟩
  | 21 => ⟨S1x1024, .f32⟩
  | 22 => ⟨S4096x1024, .f32⟩
  | 23 => ⟨S4096x1024, .f32⟩
  | 24 => ⟨S4096x1024, .f32⟩
  | 25 => ⟨S1x1024, .f32⟩
  | 26 => ⟨S1024, .f32⟩
  | 27 => ⟨S4096x1024, .f32⟩
  | 28 => ⟨S1x1024, .f32⟩
  | 29 => ⟨S4096x1024, .f32⟩
  | 30 => ⟨S4096x1024, .f32⟩
  | 31 => ⟨S4096x1024, .f32⟩
  | 32 => ⟨S1x1024, .f32⟩
  | 33 => ⟨S1024, .f32⟩
  | 34 => ⟨S4096x1024, .f32⟩
  | 35 => ⟨S1x1024, .f32⟩
  | 36 => ⟨S4096x1024, .f32⟩
  | 37 => ⟨S4096x1024, .f32⟩
  | 38 => ⟨S4096x1024, .f32⟩
  | 39 => ⟨S1x1024, .f32⟩
  | 40 => ⟨S1024, .f32⟩
  | 41 => ⟨S4096x1024, .f32⟩
  | 42 => ⟨S1x1024, .f32⟩
  | 43 => ⟨S4096x1024, .f32⟩
  | 44 => ⟨S4096x1024, .f32⟩
  | 45 => ⟨S4096x1024, .f32⟩
  | 46 => ⟨S1x1024, .f32⟩
  | 47 => ⟨S1024, .f32⟩
  | 48 => ⟨S4096x1024, .f32⟩
  | 49 => ⟨S1x1024, .f32⟩
  | 50 => ⟨S4096x1024, .f32⟩
  | 51 => ⟨S4096x1024, .f32⟩
  | 52 => ⟨S4096x1024, .f32⟩
  | 53 => ⟨S1x1024, .f32⟩
  | 54 => ⟨S1024, .f32⟩
  | 55 => ⟨S4096x1024, .f32⟩
  | 56 => ⟨S1x1024, .f32⟩
  | 57 => ⟨S4096x1024, .f32⟩
  | 58 => ⟨S4096x1024, .f32⟩
  | 59 => ⟨S4096x1024, .f32⟩
  | 60 => ⟨S1x1024, .f32⟩
  | 61 => ⟨S1024, .f32⟩
  | 62 => ⟨S4096x1024, .f32⟩
  | 63 => ⟨S1x1024, .f32⟩
  | 64 => ⟨S4096x1024, .f32⟩
  | 65 => ⟨S4096x1024, .f32⟩
  | 66 => ⟨S4096x1024, .f32⟩
  | 67 => ⟨S1x1024, .f32⟩
  | 68 => ⟨S1024, .f32⟩
  | 69 => ⟨S4096x1024, .f32⟩
  | 70 => ⟨S1x1024, .f32⟩
  | 71 => ⟨S4096x1024, .f32⟩
  | 72 => ⟨S4096x1024, .f32⟩
  | 73 => ⟨S4096x1024, .f32⟩
  | 74 => ⟨S1x1024, .f32⟩
  | 75 => ⟨S1024, .f32⟩
  | 76 => ⟨S4096x1024, .f32⟩
  | 77 => ⟨S1x1024, .f32⟩
  | 78 => ⟨S4096x1024, .f32⟩
  | 79 => ⟨S4096x1024, .f32⟩
  | 80 => ⟨S4096x1024, .f32⟩
  | 81 => ⟨S1x1024, .f32⟩
  | 82 => ⟨S1024, .f32⟩
  | 83 => ⟨S4096x1024, .f32⟩
  | 84 => ⟨S1x1024, .f32⟩
  | 85 => ⟨S4096x1024, .f32⟩
  | 86 => ⟨S4096x1024, .f32⟩
  | 87 => ⟨S4096x1024, .f32⟩
  | 88 => ⟨S1x1024, .f32⟩
  | 89 => ⟨S1024, .f32⟩
  | 90 => ⟨S4096x1024, .f32⟩
  | 91 => ⟨S1x1024, .f32⟩
  | 92 => ⟨S4096x1024, .f32⟩
  | 93 => ⟨S4096x1024, .f32⟩
  | 94 => ⟨S4096x1024, .f32⟩
  | 95 => ⟨S1x1024, .f32⟩
  | 96 => ⟨S1024, .f32⟩
  | 97 => ⟨S4096x1024, .f32⟩
  | 98 => ⟨S1x1024, .f32⟩
  | 99 => ⟨S4096x1024, .f32⟩
  | 100 => ⟨S4096x1024, .f32⟩
  | 101 => ⟨S4096x1024, .f32⟩
  | 102 => ⟨S1x1024, .f32⟩
  | 103 => ⟨S1024, .f32⟩
  | 104 => ⟨S4096x1024, .f32⟩
  | 105 => ⟨S1x1024, .f32⟩
  | 106 => ⟨S4096x1024, .f32⟩
  | 107 => ⟨S4096x1024, .f32⟩
  | 108 => ⟨S4096x1024, .f32⟩
  | 109 => ⟨S1x1024, .f32⟩
  | 110 => ⟨S1024, .f32⟩
  | 111 => ⟨S4096x1024, .f32⟩
  | 112 => ⟨S1x1024, .f32⟩
  | 113 => ⟨S4096x1024, .f32⟩
  | 114 => ⟨S4096x1024, .f32⟩
  | 115 => ⟨S4096x1024, .f32⟩
  | 116 => ⟨S1x1024, .f32⟩
  | 117 => ⟨S4096x1024, .f32⟩
  | 118 => ⟨S4096x1024, .f32⟩
  | 119 => ⟨S_, .f32⟩
  | 120 => ⟨S4096, .f32⟩
  | 121 => ⟨S4096x1, .f32⟩
  | 122 => ⟨S_, .f32⟩
  | 123 => ⟨S4096x1, .f32⟩
  | 124 => ⟨S4096x1, .f32⟩
  | 125 => ⟨S4096x1024, .f32⟩
  | 126 => ⟨S4096x1024, .f32⟩
  | 127 => ⟨S4096x1024, .f32⟩
  | _ => ⟨S4096x10240, .bf16⟩

abbrev hbmTy0_3 (i : Nat) : BufTy := match i % 128 with
  | 0 => ⟨S_, .f32⟩
  | 1 => ⟨S4096, .f32⟩
  | 2 => ⟨S4096x1, .f32⟩
  | 3 => ⟨S_, .f32⟩
  | 4 => ⟨S4096x1, .f32⟩
  | 5 => ⟨S4096x1, .f32⟩
  | 6 => ⟨S4096x1024, .f32⟩
  | 7 => ⟨S4096x1024, .f32⟩
  | 8 => ⟨S_, .f32⟩
  | 9 => ⟨S4096x1, .f32⟩
  | 10 => ⟨S4096x1, .f32⟩
  | 11 => ⟨S4096x1, .f32⟩
  | 12 => ⟨S4096x1024, .f32⟩
  | 13 => ⟨S4096x1024, .f32⟩
  | 14 => ⟨S1x1024, .f32⟩
  | 15 => ⟨S4096x1024, .f32⟩
  | 16 => ⟨S4096x1024, .f32⟩
  | 17 => ⟨S1x1024, .f32⟩
  | 18 => ⟨S4096x1024, .f32⟩
  | 19 => ⟨S4096x1024, .f32⟩
  | 20 => ⟨S4096x1024, .f32⟩
  | 21 => ⟨S4096x1024, .f32⟩
  | 22 => ⟨S_, .f32⟩
  | 23 => ⟨S4096x1024, .f32⟩
  | 24 => ⟨S4096x1024, .f32⟩
  | 25 => ⟨S_, .f32⟩
  | 26 => ⟨S4096x1024, .f32⟩
  | 27 => ⟨S4096x1024, .f32⟩
  | 28 => ⟨S4096x1024, .f32⟩
  | 29 => ⟨S4096x1024, .bf16⟩
  | 30 => ⟨S4096x1024, .bf16⟩
  | 31 => ⟨S4096x1024, .bf16⟩
  | _ => ⟨S4096x10240, .bf16⟩

abbrev hbmTy (i : Nat) : BufTy := match i / 128 with
  | 0 => hbmTy0_0 i
  | 1 => hbmTy0_1 i
  | 2 => hbmTy0_2 i
  | 3 => hbmTy0_3 i
  | _ => ⟨S4096x10240, .bf16⟩

abbrev bufTy : (tb : Table) → Fin (tcTables nBuf tb) → BufTy
  | .hbm, ⟨i, _⟩ => hbmTy i
  | _, _ => ⟨S4096x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c : Ref sig .tc := ⟨.hbm, 25, rfl⟩
abbrev main_call0_v0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_0 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_1 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_2 : Ref sig .tc := ⟨.hbm, 62, rfl⟩
abbrev main_v47 : Ref sig .tc := ⟨.hbm, 63, rfl⟩
abbrev main_v48 : Ref sig .tc := ⟨.hbm, 64, rfl⟩
abbrev main_cst_3 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_4 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_5 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_6 : Ref sig .tc := ⟨.hbm, 79, rfl⟩
abbrev main_v60 : Ref sig .tc := ⟨.hbm, 80, rfl⟩
abbrev main_v61 : Ref sig .tc := ⟨.hbm, 81, rfl⟩
abbrev main_cst_7 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_8 : Ref sig .tc := ⟨.hbm, 86, rfl⟩
abbrev main_v65 : Ref sig .tc := ⟨.hbm, 87, rfl⟩
abbrev main_v66 : Ref sig .tc := ⟨.hbm, 88, rfl⟩
abbrev main_cst_9 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_cst_10 : Ref sig .tc := ⟨.hbm, 95, rfl⟩
abbrev main_v72 : Ref sig .tc := ⟨.hbm, 96, rfl⟩
abbrev main_v73 : Ref sig .tc := ⟨.hbm, 97, rfl⟩
abbrev main_cst_11 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_cst_12 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_c_13 : Ref sig .tc := ⟨.hbm, 116, rfl⟩
abbrev main_v90 : Ref sig .tc := ⟨.hbm, 117, rfl⟩
abbrev main_call1_v0 : Ref sig .tc := ⟨.hbm, 118, rfl⟩
abbrev main_call1_c : Ref sig .tc := ⟨.hbm, 119, rfl⟩
abbrev main_call1_v1 : Ref sig .tc := ⟨.hbm, 120, rfl⟩
abbrev main_call1_v2 : Ref sig .tc := ⟨.hbm, 121, rfl⟩
abbrev main_call1_v3 : Ref sig .tc := ⟨.hbm, 122, rfl⟩
abbrev main_call1_v4 : Ref sig .tc := ⟨.hbm, 123, rfl⟩
abbrev main_call1_c_0 : Ref sig .tc := ⟨.hbm, 124, rfl⟩
abbrev main_call1_v5 : Ref sig .tc := ⟨.hbm, 125, rfl⟩
abbrev main_v91 : Ref sig .tc := ⟨.hbm, 126, rfl⟩
abbrev main_v92 : Ref sig .tc := ⟨.hbm, 127, rfl⟩
abbrev main_c_14 : Ref sig .tc := ⟨.hbm, 128, rfl⟩
abbrev main_call2_v0 : Ref sig .tc := ⟨.hbm, 129, rfl⟩
abbrev main_call2_v1 : Ref sig .tc := ⟨.hbm, 130, rfl⟩
abbrev main_call2_v2 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_cst_15 : Ref sig .tc := ⟨.hbm, 143, rfl⟩
abbrev main_v104 : Ref sig .tc := ⟨.hbm, 144, rfl⟩
abbrev main_v105 : Ref sig .tc := ⟨.hbm, 145, rfl⟩
abbrev main_cst_16 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_c_17 : Ref sig .tc := ⟨.hbm, 150, rfl⟩
abbrev main_call3_v0 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_cst_18 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_v166 : Ref sig .tc := ⟨.hbm, 210, rfl⟩
abbrev main_v167 : Ref sig .tc := ⟨.hbm, 211, rfl⟩
abbrev main_v168 : Ref sig .tc := ⟨.hbm, 212, rfl⟩
abbrev main_v169 : Ref sig .tc := ⟨.hbm, 213, rfl⟩
abbrev main_v170 : Ref sig .tc := ⟨.hbm, 214, rfl⟩
abbrev main_v171 : Ref sig .tc := ⟨.hbm, 215, rfl⟩
abbrev main_v172 : Ref sig .tc := ⟨.hbm, 216, rfl⟩
abbrev main_v173 : Ref sig .tc := ⟨.hbm, 217, rfl⟩
abbrev main_v174 : Ref sig .tc := ⟨.hbm, 218, rfl⟩
abbrev main_v175 : Ref sig .tc := ⟨.hbm, 219, rfl⟩
abbrev main_v176 : Ref sig .tc := ⟨.hbm, 220, rfl⟩
abbrev main_v177 : Ref sig .tc := ⟨.hbm, 221, rfl⟩
abbrev main_v178 : Ref sig .tc := ⟨.hbm, 222, rfl⟩
abbrev main_v179 : Ref sig .tc := ⟨.hbm, 223, rfl⟩
abbrev main_v180 : Ref sig .tc := ⟨.hbm, 224, rfl⟩
abbrev main_v181 : Ref sig .tc := ⟨.hbm, 225, rfl⟩
abbrev main_v182 : Ref sig .tc := ⟨.hbm, 226, rfl⟩
abbrev main_v183 : Ref sig .tc := ⟨.hbm, 227, rfl⟩
abbrev main_v184 : Ref sig .tc := ⟨.hbm, 228, rfl⟩
abbrev main_v185 : Ref sig .tc := ⟨.hbm, 229, rfl⟩
abbrev main_v186 : Ref sig .tc := ⟨.hbm, 230, rfl⟩
abbrev main_v187 : Ref sig .tc := ⟨.hbm, 231, rfl⟩
abbrev main_v188 : Ref sig .tc := ⟨.hbm, 232, rfl⟩
abbrev main_v189 : Ref sig .tc := ⟨.hbm, 233, rfl⟩
abbrev main_v190 : Ref sig .tc := ⟨.hbm, 234, rfl⟩
abbrev main_v191 : Ref sig .tc := ⟨.hbm, 235, rfl⟩
abbrev main_v192 : Ref sig .tc := ⟨.hbm, 236, rfl⟩
abbrev main_v193 : Ref sig .tc := ⟨.hbm, 237, rfl⟩
abbrev main_v194 : Ref sig .tc := ⟨.hbm, 238, rfl⟩
abbrev main_v195 : Ref sig .tc := ⟨.hbm, 239, rfl⟩
abbrev main_v196 : Ref sig .tc := ⟨.hbm, 240, rfl⟩
abbrev main_v197 : Ref sig .tc := ⟨.hbm, 241, rfl⟩
abbrev main_v198 : Ref sig .tc := ⟨.hbm, 242, rfl⟩
abbrev main_v199 : Ref sig .tc := ⟨.hbm, 243, rfl⟩
abbrev main_v200 : Ref sig .tc := ⟨.hbm, 244, rfl⟩
abbrev main_v201 : Ref sig .tc := ⟨.hbm, 245, rfl⟩
abbrev main_v202 : Ref sig .tc := ⟨.hbm, 246, rfl⟩
abbrev main_v203 : Ref sig .tc := ⟨.hbm, 247, rfl⟩
abbrev main_v204 : Ref sig .tc := ⟨.hbm, 248, rfl⟩
abbrev main_v205 : Ref sig .tc := ⟨.hbm, 249, rfl⟩
abbrev main_v206 : Ref sig .tc := ⟨.hbm, 250, rfl⟩
abbrev main_v207 : Ref sig .tc := ⟨.hbm, 251, rfl⟩
abbrev main_v208 : Ref sig .tc := ⟨.hbm, 252, rfl⟩
abbrev main_v209 : Ref sig .tc := ⟨.hbm, 253, rfl⟩
abbrev main_v210 : Ref sig .tc := ⟨.hbm, 254, rfl⟩
abbrev main_v211 : Ref sig .tc := ⟨.hbm, 255, rfl⟩
abbrev main_v212 : Ref sig .tc := ⟨.hbm, 256, rfl⟩
abbrev main_v213 : Ref sig .tc := ⟨.hbm, 257, rfl⟩
abbrev main_v214 : Ref sig .tc := ⟨.hbm, 258, rfl⟩
abbrev main_v215 : Ref sig .tc := ⟨.hbm, 259, rfl⟩
abbrev main_v216 : Ref sig .tc := ⟨.hbm, 260, rfl⟩
abbrev main_v217 : Ref sig .tc := ⟨.hbm, 261, rfl⟩
abbrev main_v218 : Ref sig .tc := ⟨.hbm, 262, rfl⟩
abbrev main_v219 : Ref sig .tc := ⟨.hbm, 263, rfl⟩
abbrev main_v220 : Ref sig .tc := ⟨.hbm, 264, rfl⟩
abbrev main_v221 : Ref sig .tc := ⟨.hbm, 265, rfl⟩
abbrev main_v222 : Ref sig .tc := ⟨.hbm, 266, rfl⟩
abbrev main_v223 : Ref sig .tc := ⟨.hbm, 267, rfl⟩
abbrev main_v224 : Ref sig .tc := ⟨.hbm, 268, rfl⟩
abbrev main_v225 : Ref sig .tc := ⟨.hbm, 269, rfl⟩
abbrev main_v226 : Ref sig .tc := ⟨.hbm, 270, rfl⟩
abbrev main_v227 : Ref sig .tc := ⟨.hbm, 271, rfl⟩
abbrev main_v228 : Ref sig .tc := ⟨.hbm, 272, rfl⟩
abbrev main_v229 : Ref sig .tc := ⟨.hbm, 273, rfl⟩
abbrev main_v230 : Ref sig .tc := ⟨.hbm, 274, rfl⟩
abbrev main_v231 : Ref sig .tc := ⟨.hbm, 275, rfl⟩
abbrev main_v232 : Ref sig .tc := ⟨.hbm, 276, rfl⟩
abbrev main_v233 : Ref sig .tc := ⟨.hbm, 277, rfl⟩
abbrev main_v234 : Ref sig .tc := ⟨.hbm, 278, rfl⟩
abbrev main_v235 : Ref sig .tc := ⟨.hbm, 279, rfl⟩
abbrev main_v236 : Ref sig .tc := ⟨.hbm, 280, rfl⟩
abbrev main_v237 : Ref sig .tc := ⟨.hbm, 281, rfl⟩
abbrev main_v238 : Ref sig .tc := ⟨.hbm, 282, rfl⟩
abbrev main_v239 : Ref sig .tc := ⟨.hbm, 283, rfl⟩
abbrev main_v240 : Ref sig .tc := ⟨.hbm, 284, rfl⟩
abbrev main_v241 : Ref sig .tc := ⟨.hbm, 285, rfl⟩
abbrev main_v242 : Ref sig .tc := ⟨.hbm, 286, rfl⟩
abbrev main_v243 : Ref sig .tc := ⟨.hbm, 287, rfl⟩
abbrev main_v244 : Ref sig .tc := ⟨.hbm, 288, rfl⟩
abbrev main_v245 : Ref sig .tc := ⟨.hbm, 289, rfl⟩
abbrev main_v246 : Ref sig .tc := ⟨.hbm, 290, rfl⟩
abbrev main_v247 : Ref sig .tc := ⟨.hbm, 291, rfl⟩
abbrev main_v248 : Ref sig .tc := ⟨.hbm, 292, rfl⟩
abbrev main_v249 : Ref sig .tc := ⟨.hbm, 293, rfl⟩
abbrev main_v250 : Ref sig .tc := ⟨.hbm, 294, rfl⟩
abbrev main_v251 : Ref sig .tc := ⟨.hbm, 295, rfl⟩
abbrev main_v252 : Ref sig .tc := ⟨.hbm, 296, rfl⟩
abbrev main_v253 : Ref sig .tc := ⟨.hbm, 297, rfl⟩
abbrev main_v254 : Ref sig .tc := ⟨.hbm, 298, rfl⟩
abbrev main_v255 : Ref sig .tc := ⟨.hbm, 299, rfl⟩
abbrev main_v256 : Ref sig .tc := ⟨.hbm, 300, rfl⟩
abbrev main_v257 : Ref sig .tc := ⟨.hbm, 301, rfl⟩
abbrev main_v258 : Ref sig .tc := ⟨.hbm, 302, rfl⟩
abbrev main_v259 : Ref sig .tc := ⟨.hbm, 303, rfl⟩
abbrev main_v260 : Ref sig .tc := ⟨.hbm, 304, rfl⟩
abbrev main_v261 : Ref sig .tc := ⟨.hbm, 305, rfl⟩
abbrev main_v262 : Ref sig .tc := ⟨.hbm, 306, rfl⟩
abbrev main_v263 : Ref sig .tc := ⟨.hbm, 307, rfl⟩
abbrev main_v264 : Ref sig .tc := ⟨.hbm, 308, rfl⟩
abbrev main_v265 : Ref sig .tc := ⟨.hbm, 309, rfl⟩
abbrev main_v266 : Ref sig .tc := ⟨.hbm, 310, rfl⟩
abbrev main_v267 : Ref sig .tc := ⟨.hbm, 311, rfl⟩
abbrev main_v268 : Ref sig .tc := ⟨.hbm, 312, rfl⟩
abbrev main_v269 : Ref sig .tc := ⟨.hbm, 313, rfl⟩
abbrev main_v270 : Ref sig .tc := ⟨.hbm, 314, rfl⟩
abbrev main_v271 : Ref sig .tc := ⟨.hbm, 315, rfl⟩
abbrev main_v272 : Ref sig .tc := ⟨.hbm, 316, rfl⟩
abbrev main_v273 : Ref sig .tc := ⟨.hbm, 317, rfl⟩
abbrev main_v274 : Ref sig .tc := ⟨.hbm, 318, rfl⟩
abbrev main_v275 : Ref sig .tc := ⟨.hbm, 319, rfl⟩
abbrev main_v276 : Ref sig .tc := ⟨.hbm, 320, rfl⟩
abbrev main_v277 : Ref sig .tc := ⟨.hbm, 321, rfl⟩
abbrev main_v278 : Ref sig .tc := ⟨.hbm, 322, rfl⟩
abbrev main_v279 : Ref sig .tc := ⟨.hbm, 323, rfl⟩
abbrev main_v280 : Ref sig .tc := ⟨.hbm, 324, rfl⟩
abbrev main_v281 : Ref sig .tc := ⟨.hbm, 325, rfl⟩
abbrev main_v282 : Ref sig .tc := ⟨.hbm, 326, rfl⟩
abbrev main_v283 : Ref sig .tc := ⟨.hbm, 327, rfl⟩
abbrev main_v284 : Ref sig .tc := ⟨.hbm, 328, rfl⟩
abbrev main_v285 : Ref sig .tc := ⟨.hbm, 329, rfl⟩
abbrev main_v286 : Ref sig .tc := ⟨.hbm, 330, rfl⟩
abbrev main_v287 : Ref sig .tc := ⟨.hbm, 331, rfl⟩
abbrev main_v288 : Ref sig .tc := ⟨.hbm, 332, rfl⟩
abbrev main_v289 : Ref sig .tc := ⟨.hbm, 333, rfl⟩
abbrev main_v290 : Ref sig .tc := ⟨.hbm, 334, rfl⟩
abbrev main_v291 : Ref sig .tc := ⟨.hbm, 335, rfl⟩
abbrev main_v292 : Ref sig .tc := ⟨.hbm, 336, rfl⟩
abbrev main_v293 : Ref sig .tc := ⟨.hbm, 337, rfl⟩
abbrev main_v294 : Ref sig .tc := ⟨.hbm, 338, rfl⟩
abbrev main_v295 : Ref sig .tc := ⟨.hbm, 339, rfl⟩
abbrev main_v296 : Ref sig .tc := ⟨.hbm, 340, rfl⟩
abbrev main_v297 : Ref sig .tc := ⟨.hbm, 341, rfl⟩
abbrev main_v298 : Ref sig .tc := ⟨.hbm, 342, rfl⟩
abbrev main_v299 : Ref sig .tc := ⟨.hbm, 343, rfl⟩
abbrev main_v300 : Ref sig .tc := ⟨.hbm, 344, rfl⟩
abbrev main_v301 : Ref sig .tc := ⟨.hbm, 345, rfl⟩
abbrev main_v302 : Ref sig .tc := ⟨.hbm, 346, rfl⟩
abbrev main_v303 : Ref sig .tc := ⟨.hbm, 347, rfl⟩
abbrev main_v304 : Ref sig .tc := ⟨.hbm, 348, rfl⟩
abbrev main_v305 : Ref sig .tc := ⟨.hbm, 349, rfl⟩
abbrev main_v306 : Ref sig .tc := ⟨.hbm, 350, rfl⟩
abbrev main_v307 : Ref sig .tc := ⟨.hbm, 351, rfl⟩
abbrev main_v308 : Ref sig .tc := ⟨.hbm, 352, rfl⟩
abbrev main_v309 : Ref sig .tc := ⟨.hbm, 353, rfl⟩
abbrev main_v310 : Ref sig .tc := ⟨.hbm, 354, rfl⟩
abbrev main_v311 : Ref sig .tc := ⟨.hbm, 355, rfl⟩
abbrev main_v312 : Ref sig .tc := ⟨.hbm, 356, rfl⟩
abbrev main_v313 : Ref sig .tc := ⟨.hbm, 357, rfl⟩
abbrev main_v314 : Ref sig .tc := ⟨.hbm, 358, rfl⟩
abbrev main_v315 : Ref sig .tc := ⟨.hbm, 359, rfl⟩
abbrev main_v316 : Ref sig .tc := ⟨.hbm, 360, rfl⟩
abbrev main_v317 : Ref sig .tc := ⟨.hbm, 361, rfl⟩
abbrev main_v318 : Ref sig .tc := ⟨.hbm, 362, rfl⟩
abbrev main_v319 : Ref sig .tc := ⟨.hbm, 363, rfl⟩
abbrev main_v320 : Ref sig .tc := ⟨.hbm, 364, rfl⟩
abbrev main_v321 : Ref sig .tc := ⟨.hbm, 365, rfl⟩
abbrev main_v322 : Ref sig .tc := ⟨.hbm, 366, rfl⟩
abbrev main_v323 : Ref sig .tc := ⟨.hbm, 367, rfl⟩
abbrev main_v324 : Ref sig .tc := ⟨.hbm, 368, rfl⟩
abbrev main_v325 : Ref sig .tc := ⟨.hbm, 369, rfl⟩
abbrev main_v326 : Ref sig .tc := ⟨.hbm, 370, rfl⟩
abbrev main_v327 : Ref sig .tc := ⟨.hbm, 371, rfl⟩
abbrev main_v328 : Ref sig .tc := ⟨.hbm, 372, rfl⟩
abbrev main_v329 : Ref sig .tc := ⟨.hbm, 373, rfl⟩
abbrev main_v330 : Ref sig .tc := ⟨.hbm, 374, rfl⟩
abbrev main_cst_19 : Ref sig .tc := ⟨.hbm, 375, rfl⟩
abbrev main_v331 : Ref sig .tc := ⟨.hbm, 376, rfl⟩
abbrev main_v332 : Ref sig .tc := ⟨.hbm, 377, rfl⟩
abbrev main_cst_20 : Ref sig .tc := ⟨.hbm, 378, rfl⟩
abbrev main_v333 : Ref sig .tc := ⟨.hbm, 379, rfl⟩
abbrev main_v334 : Ref sig .tc := ⟨.hbm, 380, rfl⟩
abbrev main_v335 : Ref sig .tc := ⟨.hbm, 381, rfl⟩
abbrev main_v336 : Ref sig .tc := ⟨.hbm, 382, rfl⟩
abbrev main_v337 : Ref sig .tc := ⟨.hbm, 383, rfl⟩
abbrev main_cst_21 : Ref sig .tc := ⟨.hbm, 384, rfl⟩
abbrev main_v338 : Ref sig .tc := ⟨.hbm, 385, rfl⟩
abbrev main_v339 : Ref sig .tc := ⟨.hbm, 386, rfl⟩
abbrev main_cst_22 : Ref sig .tc := ⟨.hbm, 387, rfl⟩
abbrev main_v340 : Ref sig .tc := ⟨.hbm, 388, rfl⟩
abbrev main_v341 : Ref sig .tc := ⟨.hbm, 389, rfl⟩
abbrev main_v342 : Ref sig .tc := ⟨.hbm, 390, rfl⟩
abbrev main_v343 : Ref sig .tc := ⟨.hbm, 391, rfl⟩
abbrev main_cst_23 : Ref sig .tc := ⟨.hbm, 392, rfl⟩
abbrev main_v344 : Ref sig .tc := ⟨.hbm, 393, rfl⟩
abbrev main_v345 : Ref sig .tc := ⟨.hbm, 394, rfl⟩
abbrev main_v346 : Ref sig .tc := ⟨.hbm, 395, rfl⟩
abbrev main_v347 : Ref sig .tc := ⟨.hbm, 396, rfl⟩
abbrev main_v348 : Ref sig .tc := ⟨.hbm, 397, rfl⟩
abbrev main_v349 : Ref sig .tc := ⟨.hbm, 398, rfl⟩
abbrev main_v350 : Ref sig .tc := ⟨.hbm, 399, rfl⟩
abbrev main_v351 : Ref sig .tc := ⟨.hbm, 400, rfl⟩
abbrev main_v352 : Ref sig .tc := ⟨.hbm, 401, rfl⟩
abbrev main_v353 : Ref sig .tc := ⟨.hbm, 402, rfl⟩
abbrev main_v354 : Ref sig .tc := ⟨.hbm, 403, rfl⟩
abbrev main_call4_v0 : Ref sig .tc := ⟨.hbm, 404, rfl⟩
abbrev main_call4_v1 : Ref sig .tc := ⟨.hbm, 405, rfl⟩
abbrev main_call4_cst : Ref sig .tc := ⟨.hbm, 406, rfl⟩
abbrev main_call4_v2 : Ref sig .tc := ⟨.hbm, 407, rfl⟩
abbrev main_call4_v3 : Ref sig .tc := ⟨.hbm, 408, rfl⟩
abbrev main_call4_cst_0 : Ref sig .tc := ⟨.hbm, 409, rfl⟩
abbrev main_call4_v4 : Ref sig .tc := ⟨.hbm, 410, rfl⟩
abbrev main_call4_v5 : Ref sig .tc := ⟨.hbm, 411, rfl⟩
abbrev main_v355 : Ref sig .tc := ⟨.hbm, 412, rfl⟩
abbrev main_v356 : Ref sig .tc := ⟨.hbm, 413, rfl⟩
abbrev main_v357 : Ref sig .tc := ⟨.hbm, 414, rfl⟩
abbrev main_v358 : Ref sig .tc := ⟨.hbm, 415, rfl⟩

abbrev nD : Nat := 1
abbrev τ : Topo := Topo.v7x

variable {F : FTy → Type} [FloatOps F]
-- ==== Proof.Norm.lean ====
module
public import Idealize.ShloMosaic.Lib.Pipeline.ValueKit

/-! The gradient of one row of the modulated RMS norm, written two ways over the extended reals: as the kernel computes
it (the normalised row times its mean product with the incoming gradient is subtracted, then scaled by the reciprocal
root), and as the chain rule gives it (the reciprocal root is differentiated).  `dx_eq`: the two agree for all rows,
with infinite entries too. -/

@[expose] public section

noncomputable section

namespace Cert.Norm

open Idealize.ShloMosaic

/-- The single-precision number 1024. -/
abbrev cN : EReal := Ideal.ofBits .f32 0x44800000#32
/-- The single-precision number nearest to one millionth. -/
abbrev cE : EReal := Ideal.ofBits .f32 0x358637BD#32
/-- The single-precision number two. -/
abbrev cT : EReal := Ideal.ofBits .f32 0x40000000#32
/-- The single-precision number minus one half. -/
abbrev cH : EReal := Ideal.ofBits .f32 0xBF000000#32

theorem cN_eq : cN = ((1024 : ℝ) : EReal) := by
  simp [cN, Ideal.ofBits, Ideal.ieee, -EReal.coe_mul, -EReal.coe_neg]; norm_num

theorem cT_eq : cT = ((2 : ℝ) : EReal) := by
  simp [cT, Ideal.ofBits, Ideal.ieee, -EReal.coe_mul, -EReal.coe_neg]; norm_num

theorem cH_eq : cH = ((-(1 / 2) : ℝ) : EReal) := by
  simp [cH, Ideal.ofBits, Ideal.ieee, -EReal.coe_mul, -EReal.coe_neg]; norm_num

theorem cE_pos : ∃ e : ℝ, 0 < e ∧ cE = (e : EReal) := by
  refine ⟨8796093 * (2 : ℝ) ^ (-43 : ℤ), by positivity, ?_⟩
  simp [cE, Ideal.ofBits, Ideal.ieee, -EReal.coe_mul, -EReal.coe_neg]

variable {n : ℕ}

/-- The mean square of a row plus the small constant. -/
def ms (x : Fin n → EReal) : EReal := Ideal.div (∑ j, x j * x j) cN + cE

/-- The reciprocal root mean square of a row. -/
def rr (x : Fin n → EReal) : EReal := Ideal.rsqrt (ms x)

/-- The gradient of one entry as the kernel writes it: `u` the gradient that reaches the norm's input by the residual
path, `t` the gradient of the normalised row. -/
def dxK (u : EReal) (x t : Fin n → EReal) (j : Fin n) : EReal :=
  u + rr x * (t j - x j * rr x * Ideal.div (∑ l, t l * (x l * rr x)) cN)

/-- The same gradient as the chain rule writes it. -/
def dxR (u : EReal) (x t : Fin n → EReal) (j : Fin n) : EReal :=
  u + t j * rr x + Ideal.div ((∑ l, x l * t l) * (cH * Ideal.div (rr x) (ms x))) cN * (cT * x j)

theorem sq_nonneg' (a : EReal) : 0 ≤ a * a := by
  induction a with
  | bot => simp
  | top => simp
  | coe a => exact_mod_cast mul_self_nonneg a

/-- A sum of nonnegative terms is infinite if one is. -/
theorem sum_sq_top (x : Fin n → EReal) (h : ∃ l, x l = ⊤ ∨ x l = ⊥) : ∑ j, x j * x j = ⊤ := by
  obtain ⟨l, hl⟩ := h
  refine top_le_iff.mp (le_trans (le_of_eq ?_) (Finset.single_le_sum (fun i _ => sq_nonneg' (x i)) (Finset.mem_univ l)))
  rcases hl with hl | hl <;> simp [hl]

/-- A sum of reals is a real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative real factor moves out of a sum, whatever the terms. -/
theorem sum_mul_real {ι : Type} (s : Finset ι) (f : ι → EReal) (r : ℝ) (hr : 0 ≤ r) :
    ∑ i ∈ s, f i * (r : EReal) = (∑ i ∈ s, f i) * (r : EReal) := by
  classical
  induction s using Finset.induction_on with
  | empty => simp
  | insert a s ha ih =>
    rw [Finset.sum_insert ha, Finset.sum_insert ha, ih,
      EReal.right_distrib_of_nonneg_of_ne_top (by exact_mod_cast hr) (EReal.coe_ne_top r)]

theorem div_cN (a : EReal) : Ideal.div a cN = a * (((1024 : ℝ)⁻¹ : ℝ) : EReal) := by
  rw [cN_eq, Ideal.div, if_neg (by norm_num), ← EReal.coe_inv]

theorem dx_eq (u : EReal) (x t : Fin n → EReal) (j : Fin n) : dxK u x t j = dxR u x t j := by
  by_cases h : ∃ l, x l = ⊤ ∨ x l = ⊥
  · have hm : ms x = ⊤ := by
      obtain ⟨e, he, hE⟩ := cE_pos
      rw [ms, sum_sq_top x h, div_cN, hE, EReal.top_mul_coe_of_pos (by norm_num), EReal.top_add_coe]
    have hr : rr x = 0 := by rw [rr, hm]; rfl
    have h0 : Ideal.div 0 ⊤ = 0 := by simp [Ideal.div]
    simp [dxK, dxR, hr, hm, h0, div_cN]
  · push Not at h
    lift x to Fin n → ℝ using fun l => h l with y hy
    obtain ⟨e, he, hE⟩ := cE_pos
    set s : ℝ := (∑ l, y l * y l) * (1024 : ℝ)⁻¹ + e with hs
    have hs0 : 0 < s := by
      have : 0 ≤ ∑ l, y l * y l := Finset.sum_nonneg fun l _ => mul_self_nonneg _
      positivity
    have hm : ms (fun l => (y l : EReal)) = (s : EReal) := by
      rw [ms, div_cN, hE, hs, EReal.coe_add, EReal.coe_mul, coe_sum]
      simp only [EReal.coe_mul]
    have hr : rr (fun l => (y l : EReal)) = (((Real.sqrt s)⁻¹ : ℝ) : EReal) := by
      rw [rr, hm, Ideal.rsqrt_coe, if_neg (by linarith), if_neg hs0.ne']
    set ρ : ℝ := (Real.sqrt s)⁻¹ with hρ
    have hρ0 : 0 ≤ ρ := by positivity
    have hd : Ideal.div (ρ : EReal) (s : EReal) = ((ρ * s⁻¹ : ℝ) : EReal) := by
      rw [Ideal.div, if_neg (by exact_mod_cast hs0.ne'), ← EReal.coe_inv, ← EReal.coe_mul]
    have h1 : ∑ l, t l * ((y l : EReal) * (ρ : EReal)) = (∑ l, (y l : EReal) * t l) * (ρ : EReal) := by
      rw [← sum_mul_real _ _ _ hρ0]
      exact Finset.sum_congr rfl fun l _ => by rw [← mul_assoc, mul_comm (t l)]
    simp only [dxK, dxR, hr, hm, hd, h1, div_cN, cH_eq, cT_eq]
    generalize ∑ l, (y l : EReal) * t l = T
    have hρs : ρ * ρ = s⁻¹ := by rw [hρ, ← mul_inv, Real.mul_self_sqrt hs0.le]
    rw [sub_eq_add_neg, EReal.left_distrib_of_nonneg_of_ne_top (by exact_mod_cast hρ0) (EReal.coe_ne_top ρ), ← add_assoc,
      mul_comm (ρ : EReal) (t j)]
    congr 1
    have e1 : (ρ : EReal) * -((y j : EReal) * ρ * (T * ρ * ((1024 : ℝ)⁻¹ : ℝ)))
        = T * ((-(ρ * (y j * ρ) * ρ * (1024 : ℝ)⁻¹) : ℝ) : EReal) := by
      rw [EReal.coe_neg, mul_neg, mul_neg]
      simp only [EReal.coe_mul]
      congr 1
      ac_rfl
    have e2 : T * (((-(1 / 2) : ℝ) : EReal) * ((ρ * s⁻¹ : ℝ) : EReal)) * ((1024 : ℝ)⁻¹ : ℝ) * (((2 : ℝ) : EReal) * (y j : EReal))
        = T * ((-(1 / 2) * (ρ * s⁻¹) * (1024 : ℝ)⁻¹ * (2 * y j) : ℝ) : EReal) := by
      simp only [EReal.coe_mul]
      ac_rfl
    rw [e1, e2]
    congr 2
    rw [← hρs]
    ring

/-- The four row sums of a block of `R` rows: over `dh`, over `dh` times the scaled normalised row, over the gradient of
the scaled row times the normalised row, and over the result's gradient times the sub-layer's output.  `o` says which;
the other rows are zero. -/
def sums {R : ℕ} (x dh up fp : Fin R → Fin n → EReal) (g sc : Fin n → EReal) (o : ℕ) (j : Fin n) : EReal :=
  if o = 3 then ∑ p, dxK (up p j) (x p) (fun l => dh p l * (1 + sc l) * g l) j * fp p j
  else if o = 2 then ∑ p, dh p j * (1 + sc j) * (x p j * rr (x p))
  else if o = 1 then ∑ p, dh p j * (x p j * rr (x p) * g j)
  else if o = 0 then ∑ p, dh p j
  else 0

/-- The gradient of every row: `up` the gradient by the residual path, `dh` the gradient of the modulated rows, `g` the
norm's weight, `sc` the scale. -/
def dx {R : ℕ} (x dh up : Fin R → Fin n → EReal) (g sc : Fin n → EReal) (p : Fin R) (j : Fin n) : EReal :=
  dxK (up p j) (x p) (fun l => dh p l * (1 + sc l) * g l) j

theorem sums_zero {R o : ℕ} (ho : 4 ≤ o) (x dh up fp : Fin R → Fin n → EReal) (g sc : Fin n → EReal) (j : Fin n) :
    sums x dh up fp g sc o j = 0 := by
  rw [sums, if_neg (by omega), if_neg (by omega), if_neg (by omega), if_neg (by omega)]

/-- The sums over all rows, block by block. -/
theorem sums_split {T R R' : ℕ} (f : Fin T → Fin R → Fin R') (hf : ∀ F : Fin R' → EReal, ∑ t, ∑ p, F (f t p) = ∑ r, F r)
    (x dh up fp : Fin R' → Fin n → EReal) (g sc : Fin n → EReal) (o : ℕ) (j : Fin n) :
    ∑ t, sums (fun p => x (f t p)) (fun p => dh (f t p)) (fun p => up (f t p)) (fun p => fp (f t p)) g sc o j
      = sums x dh up fp g sc o j := by
  unfold sums
  split_ifs
  · exact hf fun r => dxK (up r j) (x r) (fun l => dh r l * (1 + sc l) * g l) j * fp r j
  · exact hf fun r => dh r j * (1 + sc j) * (x r j * rr (x r))
  · exact hf fun r => dh r j * (x r j * rr (x r) * g j)
  · exact hf fun r => dh r j
  · simp

/-- A matrix, as a function of its row and column; a vector, as a function of its position. -/
abbrev mat {a b : ℕ} (x : (⟨2, ![a, b]⟩ : Shape).Idx → EReal) : Fin a → Fin b → EReal := fun p l => x (ix2 p l)
abbrev vec {a : ℕ} (x : (⟨1, ![a]⟩ : Shape).Idx → EReal) : Fin a → EReal := fun l => x (ix1 l)

/-- The product of a matrix with a transposed matrix. -/
def prodT {a b k : ℕ} (x : Fin a → Fin k → EReal) (w : Fin b → Fin k → EReal) : Fin a → Fin b → EReal :=
  fun p j => ∑ l, x p l * w j l

section
variable {R k : ℕ} (x : (⟨2, ![R, n]⟩ : Shape).Idx → EReal) (z : (⟨2, ![R, k]⟩ : Shape).Idx → EReal)
  (w : (⟨2, ![n, k]⟩ : Shape).Idx → EReal) (up : (⟨2, ![R, n]⟩ : Shape).Idx → EReal)
  (g sc gate : (⟨1, ![n]⟩ : Shape).Idx → EReal) (fp : (⟨2, ![R, n]⟩ : Shape).Idx → EReal)

/-- What both programs return, from their arguments: the gradient of the residual stream, … -/
def outDx : (⟨2, ![R, n]⟩ : Shape).Idx → EReal := fun y =>
  dx (mat x) (prodT (mat z) (mat w)) (mat up) (vec g) (vec sc) (y 0) (y 1)

theorem outDx_at (p : Fin R) (j : Fin n) : outDx x z w up g sc (ix2 p j)
    = dxR (up (ix2 p j)) (mat x p) (fun l => (∑ i, z (ix2 p i) * w (ix2 l i)) * (1 + sc (ix1 l)) * g (ix1 l)) j :=
  dx_eq (up (ix2 p j)) (mat x p) (fun l => (∑ i, z (ix2 p i) * w (ix2 l i)) * (1 + sc (ix1 l)) * g (ix1 l)) j

/-- … the gradient of the sub-layer before it, … -/
def outDp : (⟨2, ![R, n]⟩ : Shape).Idx → EReal := fun y => gate (ix1 (y 1)) * outDx x z w up g sc y

theorem outDp_at (p : Fin R) (j : Fin n) : outDp x z w up g sc gate (ix2 p j) = gate (ix1 j)
    * dxR (up (ix2 p j)) (mat x p) (fun l => (∑ i, z (ix2 p i) * w (ix2 l i)) * (1 + sc (ix1 l)) * g (ix1 l)) j :=
  congrArg (gate (ix1 j) * ·) (outDx_at ..)

/-- … and the eight rows of sums. -/
def outSums : (⟨2, ![8, n]⟩ : Shape).Idx → EReal := fun y =>
  sums (mat x) (prodT (mat z) (mat w)) (mat up) (mat fp) (vec g) (vec sc) (y 0) (y 1)

/-- The gradient of the modulated rows, entry by entry. -/
abbrev dhAt (p : Fin R) (j : Fin n) : EReal := ∑ i, z (ix2 p i) * w (ix2 j i)

theorem outSums_at (o : Fin 8) (j : Fin n) : outSums x z w up g sc fp (ix2 o j)
    = if _ : (o : ℕ) < 4 then
        if _ : (o : ℕ) < 1 then ∑ p, dhAt z w p j
        else if _ : (o : ℕ) - 1 < 1 then ∑ p, x (ix2 p j) * rr (mat x p) * g (ix1 j) * dhAt z w p j
        else if _ : (o : ℕ) - 1 - 1 < 1 then ∑ p, x (ix2 p j) * rr (mat x p) * (dhAt z w p j * (1 + sc (ix1 j)))
        else ∑ p, dxR (up (ix2 p j)) (mat x p) (fun l => dhAt z w p l * (1 + sc (ix1 l)) * g (ix1 l)) j * fp (ix2 p j)
      else 0 := by
  by_cases h4 : (o : ℕ) < 4
  · rw [dif_pos h4]
    show sums _ _ _ _ _ _ (o : ℕ) j = _
    obtain h | h | h | h : (o : ℕ) = 0 ∨ (o : ℕ) = 1 ∨ (o : ℕ) = 2 ∨ (o : ℕ) = 3 := by omega
    all_goals simp only [h, sums, dx_eq, dhAt, prodT, mat, vec]; try norm_num
    · exact Finset.sum_congr rfl fun p _ => mul_comm _ _
    · exact Finset.sum_congr rfl fun p _ => mul_comm _ _
  · rw [dif_neg h4]
    exact sums_zero (not_lt.mp h4) ..

/-- The same where there is no sub-layer before it. -/
theorem outSums_at_zero (o : Fin 8) (j : Fin n) : outSums x z w up g sc (fun _ => 0) (ix2 o j)
    = if _ : (o : ℕ) < 3 then
        if _ : (o : ℕ) < 1 then ∑ p, dhAt z w p j
        else if _ : (o : ℕ) - 1 < 1 then ∑ p, x (ix2 p j) * rr (mat x p) * g (ix1 j) * dhAt z w p j
        else ∑ p, x (ix2 p j) * rr (mat x p) * (dhAt z w p j * (1 + sc (ix1 j)))
      else 0 := by
  rw [outSums_at]
  by_cases h3 : (o : ℕ) < 3
  · rw [dif_pos h3, dif_pos (by omega), dif_pos (show (o : ℕ) - 1 - 1 < 1 by omega)]
  · rw [dif_neg h3]
    simp only [mul_zero, Finset.sum_const_zero, dite_eq_ite]
    split_ifs <;> first | rfl | (exfalso; omega)

end

end Cert.Norm

end
-- ==== Proof.Rows.lean ====
module
public import Idealize.ShloMosaic.Lib.Pipeline.ValueKit
public import Idealize.ShloMosaic.Lib.Pipeline.ReadBack
public import Idealize.ShloMosaic.Lib.WritesUnit

/-! Stores of single rows of a buffer, read back row by row: an index in the stored row reads the stored row, any other
index what the stores before left. -/

@[expose] public section

noncomputable section

namespace Cert.Rows

open Idealize.ShloMosaic

variable {sig : RefSig} {κ : Kind} {sp : Space} {e : EltTy} {Val : EltTy → Type} {M n : ℕ}

/-- The newest store is row `o`. -/
theorem canon_row [∀ e, Nonempty (Val e)] {o : ℕ}
    (inb : ∀ a : Fin 2, (![o, 0] : Fin 2 → ℕ) a + (![1, n] : Fin 2 → ℕ) a ≤ (![M, n] : Fin 2 → ℕ) a)
    (w : (Rect.unit (s := ⟨2, ![M, n]⟩) ![o, 0] ![1, n] inb).shape.Idx → Val e) (L : List (View.Piece Val (⟨2, ![M, n]⟩ : Shape) e))
    (y : (⟨2, ![M, n]⟩ : Shape).Idx) :
    View.canon ((⟨Rect.unit (s := ⟨2, ![M, n]⟩) ![o, 0] ![1, n] inb, w⟩ : View.Piece Val (⟨2, ![M, n]⟩ : Shape) e) :: L) y
      = if (y 0 : ℕ) = o then w (ix2 (n0 := 1) (n1 := n) 0 (y 1)) else View.canon L y := by
  by_cases h : (y 0 : ℕ) = o
  · rw [if_pos h]
    refine Eq.trans (congrArg _ ?_) (View.canon_cons_emb _ w L (ix2 (n0 := 1) (n1 := n) 0 (y 1)))
    funext a
    apply Fin.ext
    match a with
    | ⟨0, _⟩ => show (y 0 : ℕ) = o + 1 * 0; omega
    | ⟨1, _⟩ => show (y 1 : ℕ) = 0 + 1 * (y 1 : ℕ); omega
  · rw [if_neg h]
    refine View.canon_cons_of_not_mem _ L ?_
    rw [Rect.mem_set_unit]
    intro hall
    have h0 := hall 0
    have : (![o, 0] : Fin 2 → ℕ) 0 = o := rfl
    have : (![1, n] : Fin 2 → ℕ) 0 = 1 := rfl
    simp only [Matrix.cons_val_zero] at h0
    omega

/-- The same over contents held before. -/
theorem read_row (v : View sig κ sp (⟨2, ![M, n]⟩ : Shape) e) (f : v.ty.Contents Val) {o : ℕ}
    (inb : ∀ a : Fin 2, (![o, 0] : Fin 2 → ℕ) a + (![1, n] : Fin 2 → ℕ) a ≤ (![M, n] : Fin 2 → ℕ) a)
    (w : (Rect.unit (s := ⟨2, ![M, n]⟩) ![o, 0] ![1, n] inb).shape.Idx → Val e) (L : List (View.Piece Val (⟨2, ![M, n]⟩ : Shape) e))
    (y : (⟨2, ![M, n]⟩ : Shape).Idx) :
    v.read Val (v.writes Val f ((⟨Rect.unit (s := ⟨2, ![M, n]⟩) ![o, 0] ![1, n] inb, w⟩ : View.Piece Val (⟨2, ![M, n]⟩ : Shape) e) :: L)) y
      = if (y 0 : ℕ) = o then w (ix2 (n0 := 1) (n1 := n) 0 (y 1)) else v.read Val (v.writes Val f L) y := by
  by_cases h : (y 0 : ℕ) = o
  · rw [if_pos h]
    exact View.read_writes_cons_rows_of_mem v f inb w L y _ rfl (by show (y 0 : ℕ) = o + 0; omega) rfl
  · rw [if_neg h]
    exact View.read_writes_cons_rows_of_not_mem v f inb w L y rfl (W := 1) rfl (by omega)

/-- Row `o` of eight rows of 1024 numbers, as a load of that row reads it. -/
def row (o : Fin 8) (vec : FVec Ideal ⟨2, ![8, 1024]⟩ .f32)
    (inb : ∀ a : Fin 2, (![(o : ℕ), 0] : Fin 2 → ℕ) a + (![1, 1024] : Fin 2 → ℕ) a ≤ (![8, 1024] : Fin 2 → ℕ) a) :
    FVec Ideal ⟨2, ![1, 1024]⟩ .f32 :=
  View.ld (Val := Elt Ideal) (e' := .f32) vec (Rect.unit (s := ⟨2, ![8, 1024]⟩) ![(o : ℕ), 0] ![1, 1024] inb)

theorem row_at (o : Fin 8) (vec : FVec Ideal ⟨2, ![8, 1024]⟩ .f32)
    (inb : ∀ a : Fin 2, (![(o : ℕ), 0] : Fin 2 → ℕ) a + (![1, 1024] : Fin 2 → ℕ) a ≤ (![8, 1024] : Fin 2 → ℕ) a)
    (j : Fin 1024) : row o vec inb (ix2 0 j) = vec (ix2 o j) := by
  refine congrArg vec (funext fun a => Fin.ext ?_)
  match a with
  | ⟨0, _⟩ => show (o : ℕ) + 1 * 0 = o; omega
  | ⟨1, _⟩ => show 0 + 1 * (j : ℕ) = j; omega

/-- Rows 0, 1 and 2 of `base` replaced by rows that add `s` to it, where `s` adds nothing to any other row. -/
theorem ladder3 (w0 w1 w2 : (⟨2, ![1, 1024]⟩ : Shape).Idx → EReal) (base : (⟨2, ![8, 1024]⟩ : Shape).Idx → EReal)
    (s : ℕ → Fin 1024 → EReal) (y : (⟨2, ![8, 1024]⟩ : Shape).Idx)
    (h2 : ∀ j, w2 (ix2 0 j) = base (ix2 2 j) + s 2 j) (h1 : ∀ j, w1 (ix2 0 j) = base (ix2 1 j) + s 1 j)
    (h0 : ∀ j, w0 (ix2 0 j) = base (ix2 0 j) + s 0 j) (hs : ∀ o j, 3 ≤ o → s o j = 0) :
    (if (y 0 : ℕ) = 2 then w2 (ix2 (n0 := 1) (n1 := 1024) 0 (y 1)) else if (y 0 : ℕ) = 1 then w1 (ix2 (n0 := 1) (n1 := 1024) 0 (y 1))
      else if (y 0 : ℕ) = 0 then w0 (ix2 (n0 := 1) (n1 := 1024) 0 (y 1)) else base y) = base y + s (y 0) (y 1) := by
  obtain ⟨o, j, rfl⟩ : ∃ (o : Fin 8) (j : Fin 1024), y = ix2 o j := ⟨_, _, eq_ix2 y⟩
  by_cases e2 : o = 2
  · subst e2; exact h2 j
  by_cases e1 : o = 1
  · subst e1; exact h1 j
  by_cases e0 : o = 0
  · subst e0; exact h0 j
  have n2 : ¬ (o : ℕ) = 2 := fun e => e2 (Fin.ext e)
  have n1 : ¬ (o : ℕ) = 1 := fun e => e1 (Fin.ext e)
  have n0 : ¬ (o : ℕ) = 0 := fun e => e0 (Fin.ext e)
  refine (if_neg n2).trans ((if_neg n1).trans ((if_neg n0).trans ?_))
  show _ = _ + s o j
  rw [hs o j (by omega), add_zero]

/-- The same with row 3 as well. -/
theorem ladder4 (w0 w1 w2 w3 : (⟨2, ![1, 1024]⟩ : Shape).Idx → EReal) (base : (⟨2, ![8, 1024]⟩ : Shape).Idx → EReal)
    (s : ℕ → Fin 1024 → EReal) (y : (⟨2, ![8, 1024]⟩ : Shape).Idx) (h3 : ∀ j, w3 (ix2 0 j) = base (ix2 3 j) + s 3 j)
    (h2 : ∀ j, w2 (ix2 0 j) = base (ix2 2 j) + s 2 j) (h1 : ∀ j, w1 (ix2 0 j) = base (ix2 1 j) + s 1 j)
    (h0 : ∀ j, w0 (ix2 0 j) = base (ix2 0 j) + s 0 j) (hs : ∀ o j, 4 ≤ o → s o j = 0) :
    (if (y 0 : ℕ) = 3 then w3 (ix2 (n0 := 1) (n1 := 1024) 0 (y 1)) else if (y 0 : ℕ) = 2 then w2 (ix2 (n0 := 1) (n1 := 1024) 0 (y 1))
      else if (y 0 : ℕ) = 1 then w1 (ix2 (n0 := 1) (n1 := 1024) 0 (y 1))
      else if (y 0 : ℕ) = 0 then w0 (ix2 (n0 := 1) (n1 := 1024) 0 (y 1)) else base y) = base y + s (y 0) (y 1) := by
  by_cases e3 : (y 0 : ℕ) = 3
  · rw [if_pos e3]
    obtain ⟨o, j, rfl⟩ : ∃ (o : Fin 8) (j : Fin 1024), y = ix2 o j := ⟨_, _, eq_ix2 y⟩
    obtain rfl : o = 3 := Fin.ext e3
    exact h3 j
  · rw [if_neg e3, ladder3 w0 w1 w2 base (fun o j => if o = 3 then 0 else s o j) y (by simpa using h2) (by simpa using h1)
      (by simpa using h0) (fun o j ho => by
        by_cases e : o = 3
        · simp [e]
        · simpa [e] using hs o j (by omega)), if_neg e3]

/-- A row of an array padded below to eight rows. -/
theorem pad_row {k : ℕ} {u : Shape} (hk : k ≤ 8) (hi : Fin 2 → ℕ) (x : (⟨2, ![k, 1024]⟩ : Shape).Idx → EReal) (v : u.Idx → EReal)
    (h : (⟨2, ![k, 1024]⟩ : Shape).Pads ![0, 0] hi ![0, 0] ⟨2, ![8, 1024]⟩) (hu : 0 < u.numel) (o : Fin k) (j : Fin 1024) :
    pad ⟨2, ![8, 1024]⟩ ![0, 0] hi ![0, 0] x v h hu (ix2 (Fin.castLE hk o) j) = x (ix2 o j) := by
  unfold pad
  rw [dif_pos]
  · congr 1
    funext a
    fin_cases a <;> simp
  · intro a
    fin_cases a <;> simp [Nat.mod_one]

/-- A sum over thirty-two points of which only the last of every four counts. -/
theorem sum_fourth (f : Fin 32 → EReal) (hf : ∀ s : Fin 32, ¬ s.val % 4 = 3 → f s = 0) :
    ∑ s, f s = ∑ i : Fin 8, f ⟨4 * i.val + 3, by omega⟩ := by
  rw [← Fin.sum_mul_add_congr (F := fun (i : Fin 8) (k : Fin 4) => f ⟨i.val * 4 + k.val, by omega⟩) (f := f) fun _ _ _ => rfl]
  refine Finset.sum_congr rfl fun i _ => ?_
  rw [Fin.sum_univ_four, hf _ (by dsimp only; omega), hf _ (by dsimp only; omega), hf _ (by dsimp only; omega), zero_add, zero_add, zero_add]
  exact congrArg f (Fin.ext (by dsimp only; omega))

/-- A sum over 10240 columns taken in four steps of twice 1280. -/
theorem sum_cols (f : Fin 10240 → EReal) :
    ∑ s : Fin 4, (∑ l : Fin 1280, f ⟨s.val * 2560 + l.val, by omega⟩ + ∑ l : Fin 1280, f ⟨s.val * 2560 + (1280 + l.val), by omega⟩)
      = ∑ l, f l := by
  rw [← Fin.sum_mul_add_congr (F := fun (i : Fin 8) (k : Fin 1280) => f ⟨i.val * 1280 + k.val, by omega⟩) (f := f) fun _ _ _ => rfl,
    ← Fin.sum_mul_add_congr (F := fun (s : Fin 4) (e : Fin 2) => ∑ l : Fin 1280, f ⟨(s.val * 2 + e.val) * 1280 + l.val, by omega⟩)
      (f := fun i : Fin 8 => ∑ l : Fin 1280, f ⟨i.val * 1280 + l.val, by omega⟩) fun _ _ _ => rfl]
  refine Finset.sum_congr rfl fun s _ => ?_
  rw [Fin.sum_univ_two]
  refine congrArg₂ (· + ·) (Finset.sum_congr rfl fun l _ => ?_) (Finset.sum_congr rfl fun l _ => ?_)
  all_goals exact congrArg f (Fin.ext (by simp; try omega))

end Cert.Rows

end
-- ==== Proof.Value1.lean ====
module
public import proofs.«01_k».proof.Proof.Gen.KernelIdeal.Value
public import proofs.«01_k».proof.Proof.Norm
public import proofs.«01_k».proof.Proof.Rows
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen
open Cert.Norm Cert.Rows

variable (m : (ℓ : Loc nD τ sig) → Buf (Elt Ideal) ℓ)

theorem idx : ∀ t : Fin cfg0.N, win0_0.index t = ![t.val / 4, 0]
    ∧ win0_1.index t = ![t.val / 4, t.val % 4]
    ∧ win0_2.index t = ![t.val % 4, 0, 0]
    ∧ win0_3.index t = ![t.val / 4, 0]
    ∧ win0_4.index t = ![0, 0]
    ∧ win0_5.index t = ![t.val / 4, 0]
    ∧ win0_6.index t = ![0, 0] :=
  (by decide +kernel : ∀ t : Fin grid0.N, _)

/-- The rows of the vector argument: the weight and the scale. -/
abbrev gRow (vec : FVec Ideal S8x1024 .f32) : Fin 1024 → EReal := fun l => vec (ix2 0 l)
abbrev scRow (vec : FVec Ideal S8x1024 .f32) : Fin 1024 → EReal := fun l => vec (ix2 1 l)

/-- Nothing stands in the place of the sub-layer before it. -/
abbrev noFp {R : ℕ} : Fin R → Fin 1024 → EReal := fun _ _ => 0

/-- Its row of sums is zero then, as are all rows after it. -/
theorem sums_noFp {R : ℕ} (x dh up : Fin R → Fin 1024 → EReal) (g sc : Fin 1024 → EReal) (o : ℕ) (j : Fin 1024) (ho : 3 ≤ o) :
    sums x dh up noFp g sc o j = 0 := by
  by_cases h : o = 3
  · simp [h, sums]
  · exact sums_zero (by omega) ..

section
variable (dh x up : FVec Ideal S512x1024 .f32) (vec prev : FVec Ideal S8x1024 .f32) (p : Fin 512) (j : Fin 1024)

theorem dx_at : k0_pay6 (F := Ideal) (k0_pay7 (F := Ideal) (row 0 vec inb_S8x1024_S1x1024_0_0)) (k0_pay8 x) (k0_pay9 x)
      (k0_pay12 (F := Ideal) dh (row 1 vec inb_S8x1024_S1x1024_1_0)) up (ix2 p j)
      = dxK (mat up p j) (mat x p) (fun l => mat dh p l * (1 + scRow vec l) * gRow vec l) j := by
  unfold dxK rr ms
  pointwise [k0_pay6, k0_pay12, k0_pay7, k0_pay8, k0_pay9]
  simp only [row_at]

theorem sum0_at : k0_pay10 (F := Ideal) dh (row 0 prev inb_S8x1024_S1x1024_0_0) (ix2 0 j)
      = prev (ix2 0 j) + sums (mat x) (mat dh) (mat up) noFp (gRow vec) (scRow vec) 0 j := by
  pointwise [k0_pay10, sums]
  simp only [row_at]

theorem sum1_at : k0_pay11 (F := Ideal) dh (row 0 vec inb_S8x1024_S1x1024_0_0) x (row 1 prev inb_S8x1024_S1x1024_1_0) (ix2 0 j)
      = prev (ix2 1 j) + sums (mat x) (mat dh) (mat up) noFp (gRow vec) (scRow vec) 1 j := by
  unfold sums rr ms
  pointwise [k0_pay11, k0_pay7, k0_pay8, k0_pay9]
  simp only [row_at]

theorem sum2_at : k0_pay5 (F := Ideal) (k0_pay9 x) (k0_pay12 (F := Ideal) dh (row 1 vec inb_S8x1024_S1x1024_1_0))
      (row 2 prev inb_S8x1024_S1x1024_2_0) (ix2 0 j)
      = prev (ix2 2 j) + sums (mat x) (mat dh) (mat up) noFp (gRow vec) (scRow vec) 2 j := by
  unfold sums rr ms
  pointwise [k0_pay5, k0_pay12, k0_pay8, k0_pay9]
  simp only [row_at]

end

/-- The product that one point adds to the gradient of the modulated rows. -/
abbrev partB (c : Dev nD) (t : Fin cfg0.N) : FVec Ideal S512x1024 .f32 :=
  k0_pay2 (F := Ideal) (View.ld (iblk m c 1 t) (Rect.unit ![0, 0] ![512, 1280] inb_S512x2560_S512x1280_0_0))
    (View.ld (iblk m c 2 t) (Rect.unit ![0, 0, 0] ![1, 1024, 1280] inb_S2x1024x1280_S1x1024x1280_0_0_0))
    (View.ld (iblk m c 1 t) (Rect.unit ![0, 1280] ![512, 1280] inb_S512x2560_S512x1280_0_1280))
    (View.ld (iblk m c 2 t) (Rect.unit ![1, 0, 0] ![1, 1024, 1280] inb_S2x1024x1280_S1x1024x1280_1_0_0))

/-- The gradient of the modulated rows of a block, as far as point `t` has summed it. -/
abbrev dhB (c : Dev nD) (t : Fin cfg0.N) : FVec Ideal S512x1024 .f32 := (outsAt0 m c t.val t.isLt).2.2

theorem dhB_reset (c : Dev nD) (t : Fin cfg0.N) (h1 : t.val % 4 = 0) (y : S512x1024.Idx) :
    (outsAt0 m c t.val t.isLt).2.2 y = 0 + partB m c t y := by
  by_cases h0 : t.val % 32 = 0
  · rw [outsAt0_A m c t h0 (by omega) (by omega) (by omega)]
    frame_out
    unfold k0_pay3
    pointwise
    rfl
  · rw [outsAt0_D m c t h0 h1 (by omega) (by omega)]
    frame_out
    unfold k0_pay3
    pointwise
    rfl

/-- What the last point of a block's four uses. -/
theorem dhB_last (c : Dev nD) (t : Fin cfg0.N) (h1 : t.val % 4 = 3) :
    k0_pay4 (F := Ideal) (View.ld (iblk m c 1 t) (Rect.unit ![0, 0] ![512, 1280] inb_S512x2560_S512x1280_0_0))
      (View.ld (iblk m c 2 t) (Rect.unit ![0, 0, 0] ![1, 1024, 1280] inb_S2x1024x1280_S1x1024x1280_0_0_0))
      (View.ld (iblk m c 1 t) (Rect.unit ![0, 1280] ![512, 1280] inb_S512x2560_S512x1280_0_1280))
      (View.ld (iblk m c 2 t) (Rect.unit ![1, 0, 0] ![1, 1024, 1280] inb_S2x1024x1280_S1x1024x1280_1_0_0))
      (outsAt0 m c (t.val - 1) (Nat.lt_of_le_of_lt (Nat.sub_le _ _) t.isLt)).2.2 = dhB m c t := by
  funext y
  unfold dhB
  rw [outsAt0_C m c t (by omega) (by omega) (by omega) h1]
  frame_out
  rw [read_unread_whole]
  rfl

theorem dhB_step (c : Dev nD) (t : Fin cfg0.N) (h1 : ¬ t.val % 4 = 0) (y : S512x1024.Idx) :
    (outsAt0 m c t.val t.isLt).2.2 y
      = (outsAt0 m c (t.val - 1) (Nat.lt_of_le_of_lt (Nat.sub_le _ _) t.isLt)).2.2 y + partB m c t y := by
  by_cases h3 : t.val % 4 = 3
  · refine (congrFun (dhB_last m c t h3) y).symm.trans ?_
    unfold k0_pay4
    pointwise
  · rw [outsAt0_B m c t (by omega) (by omega) (by omega) h3]
    frame_out
    rw [read_unread_whole]
    unfold k0_pay4
    pointwise
    rfl

/-- What the last point of a block's four adds to the eight rows of sums. -/
abbrev part (c : Dev nD) (t : Fin cfg0.N) (y : S8x1024.Idx) : EReal :=
  sums (mat (iblk m c 0 t)) (mat (dhB m c t)) (mat (iblk m c 3 t)) noFp (gRow (iblk m c 4 t))
    (scRow (iblk m c 4 t)) (y 0) (y 1)

/-- What any point adds. -/
def term (c : Dev nD) (t : Fin cfg0.N) (y : S8x1024.Idx) : EReal := if t.val % 4 = 3 then part m c t y else 0

theorem sums_reset (c : Dev nD) (t : Fin cfg0.N) (h0 : t.val % 32 = 0) (y : S8x1024.Idx) :
    (outsAt0 m c t.val t.isLt).2.1 y = 0 + term m c t y := by
  rw [term, if_neg (by omega), outsAt0_A m c t h0 (by omega) (by omega) (by omega)]
  frame_out
  pointwise [k0_pay1]

theorem sums_last (c : Dev nD) (t : Fin cfg0.N) (h1 : t.val % 4 = 3) (y : S8x1024.Idx) :
    (outsAt0 m c t.val t.isLt).2.1 y
      = (outsAt0 m c (t.val - 1) (Nat.lt_of_le_of_lt (Nat.sub_le _ _) t.isLt)).2.1 y + part m c t y := by
  rw [outsAt0_C m c t (by omega) (by omega) (by omega) h1]
  frame_open
  simp (disch := decide) only [↓ View.readCov_skip, ↓ View.readCov_cons_toLoadRect, ↓ View.readCov_fill]
  frame_out
  rw [read_row, read_row, read_row]
  simp only [View.writes_nil, Memref.IsWhole.read_unread, read_unread_whole]
  refine Eq.trans ?_ (congrArg (fun D => (outsAt0 m c (t.val - 1) (Nat.lt_of_le_of_lt (Nat.sub_le _ _) t.isLt)).2.1 y
    + sums (mat (iblk m c 0 t)) (mat D) (mat (iblk m c 3 t)) noFp (gRow (iblk m c 4 t))
      (scRow (iblk m c 4 t)) (y 0) (y 1)) (dhB_last m c t h1))
  exact ladder3 _ _ _ _ (sums _ _ _ noFp _ _) y (fun j => sum2_at ..) (fun j => sum1_at ..)
    (fun j => sum0_at ..) (fun o j ho => sums_noFp _ _ _ _ _ o j ho)

theorem sums_step (c : Dev nD) (t : Fin cfg0.N) (h0 : ¬ t.val % 32 = 0) (y : S8x1024.Idx) :
    (outsAt0 m c t.val t.isLt).2.1 y
      = (outsAt0 m c (t.val - 1) (Nat.lt_of_le_of_lt (Nat.sub_le _ _) t.isLt)).2.1 y + term m c t y := by
  by_cases h3 : t.val % 4 = 3
  · rw [term, if_pos h3]
    exact sums_last m c t h3 y
  · rw [term, if_neg h3, add_zero]
    by_cases h1 : t.val % 4 = 0
    · rw [outsAt0_D m c t h0 h1 (by omega) (by omega)]
      rfl
    · rw [outsAt0_B m c t h0 h1 (by omega) h3]
      rfl

/-- The row of the whole arrays that row `p` of point `t`'s block is. -/
def rowOf (t : Fin cfg0.N) (p : Fin 512) : Fin 4096 :=
  ⟨t.val / 4 * 512 + p.val, by have := lt_of_lt_of_eq t.isLt (show cfg0.N = 32 from N_0); omega⟩

theorem x_blk (c : Dev nD) (t : Fin cfg0.N) :
    mat (iblk m c 0 t) = fun p => mat (m ((c : Thread nD τ).loc main_arg0)) (rowOf t p) := by
  funext p l
  show iblk m c 0 t (ix2 p l) = m ((c : Thread nD τ).loc main_arg0) (ix2 (rowOf t p) l)
  unfold rowOf
  blk_ext [iblk, V, idx t]

theorem up_blk (c : Dev nD) (t : Fin cfg0.N) :
    mat (iblk m c 3 t) = fun p => mat (m ((c : Thread nD τ).loc main_arg3)) (rowOf t p) := by
  funext p l
  show iblk m c 3 t (ix2 p l) = m ((c : Thread nD τ).loc main_arg3) (ix2 (rowOf t p) l)
  unfold rowOf
  blk_ext [iblk, V, idx t]

theorem v2_at (c : Dev nD) (b : Fin 8) (j : Fin 1024) (l : Fin 1280) :
    V m c main_v2 (ix3 b j l) = m ((c : Thread nD τ).loc main_arg2) (ix2 j ⟨b.val * 1280 + l.val, by omega⟩) := by
  simp only [V, List.flatten_cons, List.flatten_nil, hostOps0, hostOps0_1, List.cons_append, List.nil_append]
  entry_read
  pointwise

theorem w_blk (c : Dev nD) (t : Fin cfg0.N) (e : Fin 2) (j : Fin 1024) (l : Fin 1280) :
    iblk m c 2 t (ix3 e j l) = m ((c : Thread nD τ).loc main_arg2)
      (ix2 j ⟨(t.val % 4 * 2 + e.val) * 1280 + l.val, by omega⟩) := by
  refine Eq.trans ?_ (v2_at m c ⟨t.val % 4 * 2 + e.val, by omega⟩ j l)
  blk_ext [iblk, idx t]

theorem z_blk (c : Dev nD) (t : Fin cfg0.N) (p : Fin 512) (l : Fin 2560) :
    iblk m c 1 t (ix2 p l) = m ((c : Thread nD τ).loc main_arg1) (ix2 (rowOf t p) ⟨t.val % 4 * 2560 + l.val, by omega⟩) := by
  unfold rowOf
  blk_ext [iblk, V, idx t]

/-- What a point adds, in the columns of the whole arrays. -/
theorem partB_at (c : Dev nD) (t : Fin cfg0.N) (p : Fin 512) (j : Fin 1024) :
    partB m c t (ix2 p j)
      = ∑ l : Fin 1280, mat (m ((c : Thread nD τ).loc main_arg1)) (rowOf t p) ⟨t.val % 4 * 2560 + l.val, by omega⟩
          * mat (m ((c : Thread nD τ).loc main_arg2)) j ⟨t.val % 4 * 2560 + l.val, by omega⟩
        + ∑ l : Fin 1280, mat (m ((c : Thread nD τ).loc main_arg1)) (rowOf t p) ⟨t.val % 4 * 2560 + (1280 + l.val), by omega⟩
          * mat (m ((c : Thread nD τ).loc main_arg2)) j ⟨t.val % 4 * 2560 + (1280 + l.val), by omega⟩ := by
  unfold partB
  pointwise [k0_pay2]
  simp only [z_blk, w_blk]
  refine congrArg₂ (· + ·) (Finset.sum_congr rfl fun l _ => ?_) (Finset.sum_congr rfl fun l _ => ?_)
  all_goals refine congrArg₂ (· * ·) (congrArg _ (congrArg (ix2 _) (Fin.ext ?_))) (congrArg _ (congrArg (ix2 _) (Fin.ext ?_)))
  all_goals (simp only [Fin.val_zero, Fin.val_one]; try omega)

theorem dh_blk (c : Dev nD) (t : Fin cfg0.N) (h3 : t.val % 4 = 3) :
    mat (dhB m c t) = fun p => prodT (mat (m ((c : Thread nD τ).loc main_arg1))) (mat (m ((c : Thread nD τ).loc main_arg2))) (rowOf t p) := by
  funext p j
  show (outsAt0 m c t.val t.isLt).2.2 (ix2 p j) = _
  rw [Pipeline.eq_sum_fin_of_reset_step_apply_of_flush (fun n h => (outsAt0 m c n h).2.2) 4 (fun _ => 0)
    (partB m c) (fun t h j => dhB_reset m c t h j) (fun t h j => dhB_step m c t h j) t h3 (ix2 p j), zero_add]
  unfold prodT
  rw [← sum_cols]
  refine Finset.sum_congr rfl fun s _ => (partB_at ..).trans ?_
  have hr : rowOf ⟨4 * (t.val / 4) + s.val, Pipeline.run_point_lt_of_flush t h3 s⟩ p = rowOf t p :=
    Fin.ext (by simp only [rowOf]; omega)
  have hs : (4 * (t.val / 4) + s.val) % 4 = s.val := by omega
  simp only [hr, hs]

theorem v6_at (c : Dev nD) (o : Fin 2) (j : Fin 1024) :
    V m c main_v6 (ix2 (Fin.castLE (by decide) o : Fin 8) j) = if (o : ℕ) < 1 then m ((c : Thread nD τ).loc main_arg4) (ix1 j)
      else m ((c : Thread nD τ).loc main_arg5) (ix1 j) := by
  show StableHlo.after hostOps0_1 (StableHlo.after hostOps0 (fun b => m (c, b))) (Proc.tc.devRef main_v6) _ = _
  have h5 : (StableHlo.after hostOps0 (fun b => m (c, b)) (Proc.tc.devRef main_v5) : FVec Ideal S2x1024 .f32) (ix2 o j)
      = if (o : ℕ) < 1 then m ((c : Thread nD τ).loc main_arg4) (ix1 j) else m ((c : Thread nD τ).loc main_arg5) (ix1 j) := by
    after_results_simp
    pointwise
    rfl
  refine Eq.trans ?_ h5
  generalize StableHlo.after hostOps0 (fun b => m (c, b)) = W
  after_results_simp
  show pad S8x1024 ![0, 0] ![6, 0] ![0, 0] (W (Proc.tc.devRef main_v5) : FVec Ideal S2x1024 .f32)
    (sitofp (F := Ideal) .f32 (W (Proc.tc.devRef main_c) : IVec S_ 32)) pads_S2x1024_S8x1024_060_000 h_S_ _ = _
  exact pad_row _ _ _ _ _ _ o j

theorem vec_blk (c : Dev nD) (t : Fin cfg0.N) (o : Fin 8) (j : Fin 1024) : iblk m c 4 t (ix2 o j) = V m c main_v6 (ix2 o j) := by
  blk_ext [iblk, idx t]

theorem g_blk (c : Dev nD) (t : Fin cfg0.N) : gRow (iblk m c 4 t) = vec (m ((c : Thread nD τ).loc main_arg4)) :=
  funext fun j => (vec_blk m c t 0 j).trans (v6_at m c 0 j)

theorem sc_blk (c : Dev nD) (t : Fin cfg0.N) : scRow (iblk m c 4 t) = vec (m ((c : Thread nD τ).loc main_arg5)) :=
  funext fun j => (vec_blk m c t 1 j).trans (v6_at m c 1 j)

/-- The result arrays as functions of the arguments. -/
abbrev resDx (c : Dev nD) := outDx (m ((c : Thread nD τ).loc main_arg0)) (m ((c : Thread nD τ).loc main_arg1))
  (m ((c : Thread nD τ).loc main_arg2)) (m ((c : Thread nD τ).loc main_arg3)) (m ((c : Thread nD τ).loc main_arg4))
  (m ((c : Thread nD τ).loc main_arg5))
abbrev resSums (c : Dev nD) := outSums (m ((c : Thread nD τ).loc main_arg0)) (m ((c : Thread nD τ).loc main_arg1))
  (m ((c : Thread nD τ).loc main_arg2)) (m ((c : Thread nD τ).loc main_arg3)) (m ((c : Thread nD τ).loc main_arg4))
  (m ((c : Thread nD τ).loc main_arg5)) (fun _ => 0)

theorem dx_blk (c : Dev nD) (t : Fin cfg0.N) (h3 : t.val % 4 = 3) (p : Fin 512) (j : Fin 1024) :
    dxK (mat (iblk m c 3 t) p j) (mat (iblk m c 0 t) p)
      (fun l => mat (dhB m c t) p l * (1 + scRow (iblk m c 4 t) l) * gRow (iblk m c 4 t) l) j
      = resDx m c (ix2 (rowOf t p) j) := by
  rw [x_blk, up_blk, dh_blk m c t h3, g_blk, sc_blk]
  rfl

theorem outs_5 (c : Dev nD) (t : Fin cfg0.N) (h3 : t.val % 4 = 3) (p : Fin 512) (j : Fin 1024) :
    (outsAt0 m c t.val t.isLt).1 (ix2 p j) = resDx m c (ix2 (rowOf t p) j) := by
  rw [← dx_blk m c t h3, outsAt0_C m c t (by omega) (by omega) (by omega) h3]
  frame_open
  simp (disch := decide) only [↓ View.readCov_skip, ↓ View.readCov_cons_toLoadRect, ↓ View.readCov_fill]
  frame_out
  simp only [read_unread_whole]
  exact (dx_at ..).trans (congrArg (fun D : FVec Ideal S512x1024 .f32 => dxK (mat (iblk m c 3 t) p j) (mat (iblk m c 0 t) p)
    (fun l => mat D p l * (1 + scRow (iblk m c 4 t) l) * gRow (iblk m c 4 t) l) j) (dhB_last m c t h3))

theorem final_5 (c : Dev nD) : (dats m 0 c).arrAt 5 (cfgs 0).N = resDx m c := by
  refine (dats m 0 c).arrAt_eq_of_covers 5 _ (by decide +kernel) fun t hf y => ?_
  blk_simp; rw [after0_5]
  obtain ⟨p, j, rfl⟩ : ∃ (p : Fin 512) (j : Fin 1024), y = ix2 p j := ⟨_, _, eq_ix2 y⟩
  refine (outs_5 m c t ((flush0_5 t).1 hf) p j).trans ?_
  unfold rowOf
  blk_ext [idx t]

/-- The last point. -/
def last : Fin cfg0.N := ⟨31, by have : cfg0.N = 32 := N_0; omega⟩

/-- The last point of the `i`th block's four. -/
def pt (i : Fin 8) : Fin cfg0.N := ⟨4 * i.val + 3, by have : cfg0.N = 32 := N_0; omega⟩

theorem pt_mod (i : Fin 8) : (pt i).val % 4 = 3 := by unfold pt; dsimp only; omega

theorem term_pt (c : Dev nD) (i : Fin 8) (y : S8x1024.Idx) : term m c (pt i) y
    = sums (fun p => mat (m ((c : Thread nD τ).loc main_arg0)) (rowOf (pt i) p))
      (fun p => prodT (mat (m ((c : Thread nD τ).loc main_arg1))) (mat (m ((c : Thread nD τ).loc main_arg2))) (rowOf (pt i) p))
      (fun p => mat (m ((c : Thread nD τ).loc main_arg3)) (rowOf (pt i) p))
      noFp
      (vec (m ((c : Thread nD τ).loc main_arg4))) (vec (m ((c : Thread nD τ).loc main_arg5))) (y 0) (y 1) := by
  rw [term, if_pos (pt_mod i), part, x_blk, up_blk, dh_blk m c _ (pt_mod i), g_blk, sc_blk]

theorem sum_rows (F : Fin 4096 → EReal) : ∑ i : Fin 8, ∑ p : Fin 512, F (rowOf (pt i) p) = ∑ r, F r :=
  Fin.sum_mul_add_congr (F := fun (i : Fin 8) (p : Fin 512) => F (rowOf (pt i) p))
    fun s k hl => congrArg F (Fin.ext (by simp only [rowOf, pt]; omega))

theorem final_6 (c : Dev nD) : (dats m 0 c).arrAt 6 (cfgs 0).N = resSums m c := by
  refine (dats m 0 c).arrAt_eq_of_after_last 6 last (by decide +kernel) _ fun y => ?_
  blk_simp
  rw [after0_6, Pipeline.eq_sum_fin_of_reset_step_apply_last (fun n h => (outsAt0 m c n h).2.1) 32 (fun _ => 0)
    (term m c) (fun t h j => sums_reset m c t h j) (fun t h j => sums_step m c t h j)
    (le_of_eq N_0) last rfl y, zero_add]
  refine (sum_fourth (fun t => term m c t y) fun s h => if_neg h).trans ?_
  refine (Finset.sum_congr rfl fun i _ => term_pt m c i y).trans ?_
  exact sums_split (fun i p => rowOf (pt i) p) sum_rows (mat (m ((c : Thread nD τ).loc main_arg0)))
    (prodT (mat (m ((c : Thread nD τ).loc main_arg1))) (mat (m ((c : Thread nD τ).loc main_arg2))))
    (mat (m ((c : Thread nD τ).loc main_arg3))) noFp (vec (m ((c : Thread nD τ).loc main_arg4)))
    (vec (m ((c : Thread nD τ).loc main_arg5))) (y 0) (y 1)

end Cert.KernelIdeal.Value
-- ==== Proof.Ref1.lean ====
module
public import proofs.«01_k».proof.Proof.Gen.ReferenceIdeal.Run
public import proofs.«01_k».proof.Proof.Norm
public import Idealize.ShloMosaic.Lib.Pipeline.ValueKit

/-! What the reference returns, entry by entry. -/

@[expose] public section
set_option maxRecDepth 16384
noncomputable section
open Idealize.ShloMosaic Idealize.ShloMosaic.TcCoe Idealize.SL.Sem
namespace Cert.ReferenceIdeal.Value
open Cert.ReferenceIdeal Cert.Norm

variable (m : (ℓ : Loc nD τ sig) → Buf (Elt Ideal) ℓ)

theorem run_spec (ρ : Dev nD → PrngReg) :
    θ_run defs (onTc (τ := τ) (main (F := Ideal))) ⟨m, fun _ => 0, ρ⟩ fun r => ∀ c : Dev nD,
      r.2.mem ((c.tc : Thread nD τ).loc main_v57) = outDx (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
      ∧ r.2.mem ((c.tc : Thread nD τ).loc main_v63) = outSums (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) (fun _ => 0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun _ h c => ⟨(h c).1.trans ?_, (h c).2.1.trans ?_, (h c).2.2⟩) (run m ρ)
  all_goals
    clear h
    funext y
  · obtain ⟨p, j, rfl⟩ : ∃ (p : Fin 4096) (j : Fin 1024), y = ix2 p j := ⟨_, _, eq_ix2 y⟩
    rw [outDx_at]
    unfold dxR rr ms
    pointwise
    simp only [Fin.sum_univ_one]
  · obtain ⟨o, j, rfl⟩ : ∃ (o : Fin 8) (j : Fin 1024), y = ix2 o j := ⟨_, _, eq_ix2 y⟩
    rw [outSums_at_zero]
    unfold rr ms
    pointwise
    simp only [Fin.sum_univ_one]

end Cert.ReferenceIdeal.Value
-- ==== Proof.Value2.lean ====
module
public import proofs.«01_k».proof.Proof.Gen.Kernel2Ideal.Value
public import proofs.«01_k».proof.Proof.Norm
public import proofs.«01_k».proof.Proof.Rows
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem
open Idealize.ShloMosaic.Pipeline (Dat)
namespace Cert.Kernel2Ideal.Value
open Cert.Kernel2Ideal Cert.Kernel2Ideal.Gen
open Cert.Norm Cert.Rows

variable (m : (ℓ : Loc nD τ sig) → Buf (Elt Ideal) ℓ)

theorem idx : ∀ t : Fin cfg0.N, win0_0.index t = ![t.val / 4, 0]
    ∧ win0_1.index t = ![t.val / 4, t.val % 4]
    ∧ win0_2.index t = ![t.val % 4, 0, 0]
    ∧ win0_3.index t = ![t.val / 4, 0]
    ∧ win0_4.index t = ![0, 0]
    ∧ win0_5.index t = ![t.val / 4, 0]
    ∧ win0_6.index t = ![t.val / 4, 0]
    ∧ win0_7.index t = ![t.val / 4, 0]
    ∧ win0_8.index t = ![0, 0] :=
  (by decide +kernel : ∀ t : Fin grid0.N, _)

/-- The rows of the vector argument: the weight and the scale. -/
abbrev gRow (vec : FVec Ideal S8x1024 .f32) : Fin 1024 → EReal := fun l => vec (ix2 0 l)
abbrev scRow (vec : FVec Ideal S8x1024 .f32) : Fin 1024 → EReal := fun l => vec (ix2 1 l)

section
variable (dh x up fp : FVec Ideal S512x1024 .f32) (vec prev : FVec Ideal S8x1024 .f32) (p : Fin 512) (j : Fin 1024)

theorem dx_at : k0_pay12 (F := Ideal) (k0_pay5 (F := Ideal) (row 0 vec inb_S8x1024_S1x1024_0_0)) (k0_pay6 x) (k0_pay7 x)
      (k0_pay10 (F := Ideal) dh (row 1 vec inb_S8x1024_S1x1024_1_0)) up (ix2 p j)
      = dxK (mat up p j) (mat x p) (fun l => mat dh p l * (1 + scRow vec l) * gRow vec l) j := by
  unfold dxK rr ms
  pointwise [k0_pay12, k0_pay10, k0_pay5, k0_pay6, k0_pay7]
  simp only [row_at]

theorem dp_at : k0_pay14 (F := Ideal) (k0_pay5 (F := Ideal) (row 0 vec inb_S8x1024_S1x1024_0_0)) (k0_pay6 x) (k0_pay7 x)
      (k0_pay10 (F := Ideal) dh (row 1 vec inb_S8x1024_S1x1024_1_0)) up (row 2 vec inb_S8x1024_S1x1024_2_0) (ix2 p j)
      = vec (ix2 2 j) * dxK (mat up p j) (mat x p) (fun l => mat dh p l * (1 + scRow vec l) * gRow vec l) j := by
  rw [← dx_at]
  unfold k0_pay14
  pointwise
  simp only [row_at, mul_comm]

theorem sum0_at : k0_pay8 (F := Ideal) dh (row 0 prev inb_S8x1024_S1x1024_0_0) (ix2 0 j)
      = prev (ix2 0 j) + sums (mat x) (mat dh) (mat up) (mat fp) (gRow vec) (scRow vec) 0 j := by
  pointwise [k0_pay8, sums]
  simp only [row_at]

theorem sum1_at : k0_pay9 (F := Ideal) dh (row 0 vec inb_S8x1024_S1x1024_0_0) x (row 1 prev inb_S8x1024_S1x1024_1_0) (ix2 0 j)
      = prev (ix2 1 j) + sums (mat x) (mat dh) (mat up) (mat fp) (gRow vec) (scRow vec) 1 j := by
  unfold sums rr ms
  pointwise [k0_pay9, k0_pay5, k0_pay6, k0_pay7]
  simp only [row_at]

theorem sum2_at : k0_pay11 (F := Ideal) (k0_pay7 x) (k0_pay10 (F := Ideal) dh (row 1 vec inb_S8x1024_S1x1024_1_0))
      (row 2 prev inb_S8x1024_S1x1024_2_0) (ix2 0 j)
      = prev (ix2 2 j) + sums (mat x) (mat dh) (mat up) (mat fp) (gRow vec) (scRow vec) 2 j := by
  unfold sums rr ms
  pointwise [k0_pay11, k0_pay10, k0_pay6, k0_pay7]
  simp only [row_at]

theorem sum3_at : k0_pay13 (F := Ideal) (k0_pay5 (F := Ideal) (row 0 vec inb_S8x1024_S1x1024_0_0)) (k0_pay6 x) (k0_pay7 x)
      (k0_pay10 (F := Ideal) dh (row 1 vec inb_S8x1024_S1x1024_1_0)) up (row 3 prev inb_S8x1024_S1x1024_3_0) fp (ix2 0 j)
      = prev (ix2 3 j) + sums (mat x) (mat dh) (mat up) (mat fp) (gRow vec) (scRow vec) 3 j := by
  unfold k0_pay13
  pointwise [sums]
  simp only [dx_at, row_at]
end

/-- The product that one point adds to the gradient of the modulated rows. -/
abbrev partB (c : Dev nD) (t : Fin cfg0.N) : FVec Ideal S512x1024 .f32 :=
  k0_pay2 (F := Ideal) (View.ld (iblk m c 1 t) (Rect.unit ![0, 0] ![512, 1280] inb_S512x2560_S512x1280_0_0))
    (View.ld (iblk m c 2 t) (Rect.unit ![0, 0, 0] ![1, 1024, 1280] inb_S2x1024x1280_S1x1024x1280_0_0_0))
    (View.ld (iblk m c 1 t) (Rect.unit ![0, 1280] ![512, 1280] inb_S512x2560_S512x1280_0_1280))
    (View.ld (iblk m c 2 t) (Rect.unit ![1, 0, 0] ![1, 1024, 1280] inb_S2x1024x1280_S1x1024x1280_1_0_0))

/-- The gradient of the modulated rows of a block, as far as point `t` has summed it. -/
abbrev dhB (c : Dev nD) (t : Fin cfg0.N) : FVec Ideal S512x1024 .f32 := (outsAt0 m c t.val t.isLt).2.2.2

theorem dhB_reset (c : Dev nD) (t : Fin cfg0.N) (h1 : t.val % 4 = 0) (y : S512x1024.Idx) :
    (outsAt0 m c t.val t.isLt).2.2.2 y = 0 + partB m c t y := by
  by_cases h0 : t.val % 32 = 0
  · rw [outsAt0_A m c t h0 (by omega) (by omega) (by omega)]
    frame_out
    unfold k0_pay3
    pointwise
    rfl
  · rw [outsAt0_D m c t h0 h1 (by omega) (by omega)]
    frame_out
    unfold k0_pay3
    pointwise
    rfl

/-- What the last point of a block's four uses. -/
theorem dhB_last (c : Dev nD) (t : Fin cfg0.N) (h1 : t.val % 4 = 3) :
    k0_pay4 (F := Ideal) (View.ld (iblk m c 1 t) (Rect.unit ![0, 0] ![512, 1280] inb_S512x2560_S512x1280_0_0))
      (View.ld (iblk m c 2 t) (Rect.unit ![0, 0, 0] ![1, 1024, 1280] inb_S2x1024x1280_S1x1024x1280_0_0_0))
      (View.ld (iblk m c 1 t) (Rect.unit ![0, 1280] ![512, 1280] inb_S512x2560_S512x1280_0_1280))
      (View.ld (iblk m c 2 t) (Rect.unit ![1, 0, 0] ![1, 1024, 1280] inb_S2x1024x1280_S1x1024x1280_1_0_0))
      (outsAt0 m c (t.val - 1) (Nat.lt_of_le_of_lt (Nat.sub_le _ _) t.isLt)).2.2.2 = dhB m c t := by
  funext y
  unfold dhB
  rw [outsAt0_C m c t (by omega) (by omega) (by omega) h1]
  frame_out
  rw [read_unread_whole]
  rfl

theorem dhB_step (c : Dev nD) (t : Fin cfg0.N) (h1 : ¬ t.val % 4 = 0) (y : S512x1024.Idx) :
    (outsAt0 m c t.val t.isLt).2.2.2 y
      = (outsAt0 m c (t.val - 1) (Nat.lt_of_le_of_lt (Nat.sub_le _ _) t.isLt)).2.2.2 y + partB m c t y := by
  by_cases h3 : t.val % 4 = 3
  · refine (congrFun (dhB_last m c t h3) y).symm.trans ?_
    unfold k0_pay4
    pointwise
  · rw [outsAt0_B m c t (by omega) (by omega) (by omega) h3]
    frame_out
    rw [read_unread_whole]
    unfold k0_pay4
    pointwise
    rfl

/-- What the last point of a block's four adds to the eight rows of sums. -/
abbrev part (c : Dev nD) (t : Fin cfg0.N) (y : S8x1024.Idx) : EReal :=
  sums (mat (iblk m c 0 t)) (mat (dhB m c t)) (mat (iblk m c 3 t)) (mat (iblk m c 5 t)) (gRow (iblk m c 4 t))
    (scRow (iblk m c 4 t)) (y 0) (y 1)

/-- What any point adds. -/
def term (c : Dev nD) (t : Fin cfg0.N) (y : S8x1024.Idx) : EReal := if t.val % 4 = 3 then part m c t y else 0

theorem sums_reset (c : Dev nD) (t : Fin cfg0.N) (h0 : t.val % 32 = 0) (y : S8x1024.Idx) :
    (outsAt0 m c t.val t.isLt).2.2.1 y = 0 + term m c t y := by
  rw [term, if_neg (by omega), outsAt0_A m c t h0 (by omega) (by omega) (by omega)]
  frame_out
  pointwise [k0_pay1]

theorem sums_last (c : Dev nD) (t : Fin cfg0.N) (h1 : t.val % 4 = 3) (y : S8x1024.Idx) :
    (outsAt0 m c t.val t.isLt).2.2.1 y
      = (outsAt0 m c (t.val - 1) (Nat.lt_of_le_of_lt (Nat.sub_le _ _) t.isLt)).2.2.1 y + part m c t y := by
  rw [outsAt0_C m c t (by omega) (by omega) (by omega) h1]
  frame_open
  simp (disch := decide) only [↓ View.readCov_skip, ↓ View.readCov_cons_toLoadRect, ↓ View.readCov_fill]
  frame_out
  rw [read_row, read_row, read_row, read_row]
  simp only [View.writes_nil, Memref.IsWhole.read_unread, read_unread_whole]
  refine Eq.trans ?_ (congrArg (fun D => (outsAt0 m c (t.val - 1) (Nat.lt_of_le_of_lt (Nat.sub_le _ _) t.isLt)).2.2.1 y
    + sums (mat (iblk m c 0 t)) (mat D) (mat (iblk m c 3 t)) (mat (iblk m c 5 t)) (gRow (iblk m c 4 t))
      (scRow (iblk m c 4 t)) (y 0) (y 1)) (dhB_last m c t h1))
  exact ladder4 _ _ _ _ _ (sums _ _ _ _ _ _) y (fun j => sum3_at ..) (fun j => sum2_at ..) (fun j => sum1_at ..)
    (fun j => sum0_at ..) (fun o j ho => sums_zero ho ..)

theorem sums_step (c : Dev nD) (t : Fin cfg0.N) (h0 : ¬ t.val % 32 = 0) (y : S8x1024.Idx) :
    (outsAt0 m c t.val t.isLt).2.2.1 y
      = (outsAt0 m c (t.val - 1) (Nat.lt_of_le_of_lt (Nat.sub_le _ _) t.isLt)).2.2.1 y + term m c t y := by
  by_cases h3 : t.val % 4 = 3
  · rw [term, if_pos h3]
    exact sums_last m c t h3 y
  · rw [term, if_neg h3, add_zero]
    by_cases h1 : t.val % 4 = 0
    · rw [outsAt0_D m c t h0 h1 (by omega) (by omega)]
      rfl
    · rw [outsAt0_B m c t h0 h1 (by omega) h3]
      rfl

/-- The row of the whole arrays that row `p` of point `t`'s block is. -/
def rowOf (t : Fin cfg0.N) (p : Fin 512) : Fin 4096 :=
  ⟨t.val / 4 * 512 + p.val, by have := lt_of_lt_of_eq t.isLt (show cfg0.N = 32 from N_0); omega⟩

theorem x_blk (c : Dev nD) (t : Fin cfg0.N) :
    mat (iblk m c 0 t) = fun p => mat (m ((c : Thread nD τ).loc main_arg0)) (rowOf t p) := by
  funext p l
  show iblk m c 0 t (ix2 p l) = m ((c : Thread nD τ).loc main_arg0) (ix2 (rowOf t p) l)
  unfold rowOf
  blk_ext [iblk, V, idx t]

theorem up_blk (c : Dev nD) (t : Fin cfg0.N) :
    mat (iblk m c 3 t) = fun p => mat (m ((c : Thread nD τ).loc main_arg3)) (rowOf t p) := by
  funext p l
  show iblk m c 3 t (ix2 p l) = m ((c : Thread nD τ).loc main_arg3) (ix2 (rowOf t p) l)
  unfold rowOf
  blk_ext [iblk, V, idx t]

theorem fp_blk (c : Dev nD) (t : Fin cfg0.N) :
    mat (iblk m c 5 t) = fun p => mat (m ((c : Thread nD τ).loc main_arg7)) (rowOf t p) := by
  funext p l
  show iblk m c 5 t (ix2 p l) = m ((c : Thread nD τ).loc main_arg7) (ix2 (rowOf t p) l)
  unfold rowOf
  blk_ext [iblk, V, idx t]

theorem v2_at (c : Dev nD) (b : Fin 8) (j : Fin 1024) (l : Fin 1280) :
    V m c main_v2 (ix3 b j l) = m ((c : Thread nD τ).loc main_arg2) (ix2 j ⟨b.val * 1280 + l.val, by omega⟩) := by
  simp only [V, List.flatten_cons, List.flatten_nil, hostOps0, hostOps0_1, List.cons_append, List.nil_append]
  entry_read
  pointwise

theorem w_blk (c : Dev nD) (t : Fin cfg0.N) (e : Fin 2) (j : Fin 1024) (l : Fin 1280) :
    iblk m c 2 t (ix3 e j l) = m ((c : Thread nD τ).loc main_arg2)
      (ix2 j ⟨(t.val % 4 * 2 + e.val) * 1280 + l.val, by omega⟩) := by
  refine Eq.trans ?_ (v2_at m c ⟨t.val % 4 * 2 + e.val, by omega⟩ j l)
  blk_ext [iblk, idx t]

theorem z_blk (c : Dev nD) (t : Fin cfg0.N) (p : Fin 512) (l : Fin 2560) :
    iblk m c 1 t (ix2 p l) = m ((c : Thread nD τ).loc main_arg1) (ix2 (rowOf t p) ⟨t.val % 4 * 2560 + l.val, by omega⟩) := by
  unfold rowOf
  blk_ext [iblk, V, idx t]

/-- What a point adds, in the columns of the whole arrays. -/
theorem partB_at (c : Dev nD) (t : Fin cfg0.N) (p : Fin 512) (j : Fin 1024) :
    partB m c t (ix2 p j)
      = ∑ l : Fin 1280, mat (m ((c : Thread nD τ).loc main_arg1)) (rowOf t p) ⟨t.val % 4 * 2560 + l.val, by omega⟩
          * mat (m ((c : Thread nD τ).loc main_arg2)) j ⟨t.val % 4 * 2560 + l.val, by omega⟩
        + ∑ l : Fin 1280, mat (m ((c : Thread nD τ).loc main_arg1)) (rowOf t p) ⟨t.val % 4 * 2560 + (1280 + l.val), by omega⟩
          * mat (m ((c : Thread nD τ).loc main_arg2)) j ⟨t.val % 4 * 2560 + (1280 + l.val), by omega⟩ := by
  unfold partB
  pointwise [k0_pay2]
  simp only [z_blk, w_blk]
  refine congrArg₂ (· + ·) (Finset.sum_congr rfl fun l _ => ?_) (Finset.sum_congr rfl fun l _ => ?_)
  all_goals refine congrArg₂ (· * ·) (congrArg _ (congrArg (ix2 _) (Fin.ext ?_))) (congrArg _ (congrArg (ix2 _) (Fin.ext ?_)))
  all_goals (simp only [Fin.val_zero, Fin.val_one]; try omega)

theorem dh_blk (c : Dev nD) (t : Fin cfg0.N) (h3 : t.val % 4 = 3) :
    mat (dhB m c t) = fun p => prodT (mat (m ((c : Thread nD τ).loc main_arg1))) (mat (m ((c : Thread nD τ).loc main_arg2))) (rowOf t p) := by
  funext p j
  show (outsAt0 m c t.val t.isLt).2.2.2 (ix2 p j) = _
  rw [Pipeline.eq_sum_fin_of_reset_step_apply_of_flush (fun n h => (outsAt0 m c n h).2.2.2) 4 (fun _ => 0)
    (partB m c) (fun t h j => dhB_reset m c t h j) (fun t h j => dhB_step m c t h j) t h3 (ix2 p j), zero_add]
  unfold prodT
  rw [← sum_cols]
  refine Finset.sum_congr rfl fun s _ => (partB_at ..).trans ?_
  have hr : rowOf ⟨4 * (t.val / 4) + s.val, Pipeline.run_point_lt_of_flush t h3 s⟩ p = rowOf t p :=
    Fin.ext (by simp only [rowOf]; omega)
  have hs : (4 * (t.val / 4) + s.val) % 4 = s.val := by omega
  simp only [hr, hs]

theorem v7_at (c : Dev nD) (o : Fin 3) (j : Fin 1024) :
    V m c main_v7 (ix2 (Fin.castLE (by decide) o : Fin 8) j) = if (o : ℕ) < 1 then m ((c : Thread nD τ).loc main_arg4) (ix1 j)
      else if (o : ℕ) - 1 < 1 then m ((c : Thread nD τ).loc main_arg5) (ix1 j) else m ((c : Thread nD τ).loc main_arg6) (ix1 j) := by
  show StableHlo.after hostOps0_1 (StableHlo.after hostOps0 (fun b => m (c, b))) (Proc.tc.devRef main_v7) _ = _
  have h5 : (StableHlo.after hostOps0 (fun b => m (c, b)) (Proc.tc.devRef main_v6) : FVec Ideal S3x1024 .f32) (ix2 o j)
      = if (o : ℕ) < 1 then m ((c : Thread nD τ).loc main_arg4) (ix1 j)
        else if (o : ℕ) - 1 < 1 then m ((c : Thread nD τ).loc main_arg5) (ix1 j) else m ((c : Thread nD τ).loc main_arg6) (ix1 j) := by
    after_results_simp
    dsimp only [Matrix.cons_val]
    after_results_simp
    pointwise
    rfl
  refine Eq.trans ?_ h5
  generalize StableHlo.after hostOps0 (fun b => m (c, b)) = W
  after_results_simp
  show pad S8x1024 ![0, 0] ![5, 0] ![0, 0] (W (Proc.tc.devRef main_v6) : FVec Ideal S3x1024 .f32)
    (sitofp (F := Ideal) .f32 (W (Proc.tc.devRef main_c) : IVec S_ 32)) pads_S3x1024_S8x1024_050_000 h_S_ _ = _
  exact pad_row _ _ _ _ _ _ o j

theorem vec_blk (c : Dev nD) (t : Fin cfg0.N) (o : Fin 8) (j : Fin 1024) : iblk m c 4 t (ix2 o j) = V m c main_v7 (ix2 o j) := by
  blk_ext [iblk, idx t]

theorem g_blk (c : Dev nD) (t : Fin cfg0.N) : gRow (iblk m c 4 t) = vec (m ((c : Thread nD τ).loc main_arg4)) :=
  funext fun j => (vec_blk m c t 0 j).trans (v7_at m c 0 j)

theorem sc_blk (c : Dev nD) (t : Fin cfg0.N) : scRow (iblk m c 4 t) = vec (m ((c : Thread nD τ).loc main_arg5)) :=
  funext fun j => (vec_blk m c t 1 j).trans (v7_at m c 1 j)

theorem gate_blk (c : Dev nD) (t : Fin cfg0.N) (j : Fin 1024) :
    iblk m c 4 t (ix2 2 j) = m ((c : Thread nD τ).loc main_arg6) (ix1 j) :=
  (vec_blk m c t 2 j).trans (v7_at m c 2 j)

/-- The result arrays as functions of the arguments. -/
abbrev resDx (c : Dev nD) := outDx (m ((c : Thread nD τ).loc main_arg0)) (m ((c : Thread nD τ).loc main_arg1))
  (m ((c : Thread nD τ).loc main_arg2)) (m ((c : Thread nD τ).loc main_arg3)) (m ((c : Thread nD τ).loc main_arg4))
  (m ((c : Thread nD τ).loc main_arg5))
abbrev resDp (c : Dev nD) := outDp (m ((c : Thread nD τ).loc main_arg0)) (m ((c : Thread nD τ).loc main_arg1))
  (m ((c : Thread nD τ).loc main_arg2)) (m ((c : Thread nD τ).loc main_arg3)) (m ((c : Thread nD τ).loc main_arg4))
  (m ((c : Thread nD τ).loc main_arg5)) (m ((c : Thread nD τ).loc main_arg6))
abbrev resSums (c : Dev nD) := outSums (m ((c : Thread nD τ).loc main_arg0)) (m ((c : Thread nD τ).loc main_arg1))
  (m ((c : Thread nD τ).loc main_arg2)) (m ((c : Thread nD τ).loc main_arg3)) (m ((c : Thread nD τ).loc main_arg4))
  (m ((c : Thread nD τ).loc main_arg5)) (m ((c : Thread nD τ).loc main_arg7))

theorem dx_blk (c : Dev nD) (t : Fin cfg0.N) (h3 : t.val % 4 = 3) (p : Fin 512) (j : Fin 1024) :
    dxK (mat (iblk m c 3 t) p j) (mat (iblk m c 0 t) p)
      (fun l => mat (dhB m c t) p l * (1 + scRow (iblk m c 4 t) l) * gRow (iblk m c 4 t) l) j
      = resDx m c (ix2 (rowOf t p) j) := by
  rw [x_blk, up_blk, dh_blk m c t h3, g_blk, sc_blk]
  rfl

theorem outs_6 (c : Dev nD) (t : Fin cfg0.N) (h3 : t.val % 4 = 3) (p : Fin 512) (j : Fin 1024) :
    (outsAt0 m c t.val t.isLt).1 (ix2 p j) = resDx m c (ix2 (rowOf t p) j) := by
  rw [← dx_blk m c t h3, outsAt0_C m c t (by omega) (by omega) (by omega) h3]
  frame_open
  simp (disch := decide) only [↓ View.readCov_skip, ↓ View.readCov_cons_toLoadRect, ↓ View.readCov_fill]
  frame_out
  simp only [read_unread_whole]
  exact (dx_at ..).trans (congrArg (fun D : FVec Ideal S512x1024 .f32 => dxK (mat (iblk m c 3 t) p j) (mat (iblk m c 0 t) p)
    (fun l => mat D p l * (1 + scRow (iblk m c 4 t) l) * gRow (iblk m c 4 t) l) j) (dhB_last m c t h3))

theorem outs_7 (c : Dev nD) (t : Fin cfg0.N) (h3 : t.val % 4 = 3) (p : Fin 512) (j : Fin 1024) :
    (outsAt0 m c t.val t.isLt).2.1 (ix2 p j) = resDp m c (ix2 (rowOf t p) j) := by
  rw [outsAt0_C m c t (by omega) (by omega) (by omega) h3]
  frame_open
  simp (disch := decide) only [↓ View.readCov_skip, ↓ View.readCov_cons_toLoadRect, ↓ View.readCov_fill]
  frame_out
  simp only [read_unread_whole]
  refine (dp_at ..).trans (congrArg₂ (· * ·) (gate_blk ..) (Eq.trans ?_ (dx_blk m c t h3 ..)))
  exact congrArg (fun D : FVec Ideal S512x1024 .f32 => dxK (mat (iblk m c 3 t) p j) (mat (iblk m c 0 t) p)
    (fun l => mat D p l * (1 + scRow (iblk m c 4 t) l) * gRow (iblk m c 4 t) l) j) (dhB_last m c t h3)

theorem final_6 (c : Dev nD) : (dats m 0 c).arrAt 6 (cfgs 0).N = resDx m c := by
  refine (dats m 0 c).arrAt_eq_of_covers 6 _ (by decide +kernel) fun t hf y => ?_
  blk_simp; rw [after0_6]
  obtain ⟨p, j, rfl⟩ : ∃ (p : Fin 512) (j : Fin 1024), y = ix2 p j := ⟨_, _, eq_ix2 y⟩
  refine (outs_6 m c t ((flush0_6 t).1 hf) p j).trans ?_
  unfold rowOf
  blk_ext [idx t]

theorem final_7 (c : Dev nD) : (dats m 0 c).arrAt 7 (cfgs 0).N = resDp m c := by
  refine (dats m 0 c).arrAt_eq_of_covers 7 _ (by decide +kernel) fun t hf y => ?_
  blk_simp; rw [after0_7]
  obtain ⟨p, j, rfl⟩ : ∃ (p : Fin 512) (j : Fin 1024), y = ix2 p j := ⟨_, _, eq_ix2 y⟩
  refine (outs_7 m c t ((flush0_7 t).1 hf) p j).trans ?_
  unfold rowOf
  blk_ext [idx t]

/-- The last point. -/
def last : Fin cfg0.N := ⟨31, by have : cfg0.N = 32 := N_0; omega⟩

/-- The last point of the `i`th block's four. -/
def pt (i : Fin 8) : Fin cfg0.N := ⟨4 * i.val + 3, by have : cfg0.N = 32 := N_0; omega⟩

theorem pt_mod (i : Fin 8) : (pt i).val % 4 = 3 := by unfold pt; dsimp only; omega

theorem term_pt (c : Dev nD) (i : Fin 8) (y : S8x1024.Idx) : term m c (pt i) y
    = sums (fun p => mat (m ((c : Thread nD τ).loc main_arg0)) (rowOf (pt i) p))
      (fun p => prodT (mat (m ((c : Thread nD τ).loc main_arg1))) (mat (m ((c : Thread nD τ).loc main_arg2))) (rowOf (pt i) p))
      (fun p => mat (m ((c : Thread nD τ).loc main_arg3)) (rowOf (pt i) p))
      (fun p => mat (m ((c : Thread nD τ).loc main_arg7)) (rowOf (pt i) p))
      (vec (m ((c : Thread nD τ).loc main_arg4))) (vec (m ((c : Thread nD τ).loc main_arg5))) (y 0) (y 1) := by
  rw [term, if_pos (pt_mod i), part, x_blk, up_blk, fp_blk, dh_blk m c _ (pt_mod i), g_blk, sc_blk]

theorem sum_rows (F : Fin 4096 → EReal) : ∑ i : Fin 8, ∑ p : Fin 512, F (rowOf (pt i) p) = ∑ r, F r :=
  Fin.sum_mul_add_congr (F := fun (i : Fin 8) (p : Fin 512) => F (rowOf (pt i) p))
    fun s k hl => congrArg F (Fin.ext (by simp only [rowOf, pt]; omega))

theorem final_8 (c : Dev nD) : (dats m 0 c).arrAt 8 (cfgs 0).N = resSums m c := by
  refine (dats m 0 c).arrAt_eq_of_after_last 8 last (by decide +kernel) _ fun y => ?_
  blk_simp
  rw [after0_8, Pipeline.eq_sum_fin_of_reset_step_apply_last (fun n h => (outsAt0 m c n h).2.2.1) 32 (fun _ => 0)
    (term m c) (fun t h j => sums_reset m c t h j) (fun t h j => sums_step m c t h j)
    (le_of_eq N_0) last rfl y, zero_add]
  refine (sum_fourth (fun t => term m c t y) fun s h => if_neg h).trans ?_
  refine (Finset.sum_congr rfl fun i _ => term_pt m c i y).trans ?_
  exact sums_split (fun i p => rowOf (pt i) p) sum_rows ..

end Cert.Kernel2Ideal.Value
-- ==== Proof.Ref2.lean ====
module
public import proofs.«01_k».proof.Proof.Gen.Reference2Ideal.Run
public import proofs.«01_k».proof.Proof.Norm
public import Idealize.ShloMosaic.Lib.Pipeline.ValueKit

/-! What the reference returns, entry by entry. -/

@[expose] public section
set_option maxRecDepth 16384
noncomputable section
open Idealize.ShloMosaic Idealize.ShloMosaic.TcCoe Idealize.SL.Sem
namespace Cert.Reference2Ideal.Value
open Cert.Reference2Ideal Cert.Norm

variable (m : (ℓ : Loc nD τ sig) → Buf (Elt Ideal) ℓ)

theorem run_spec (ρ : Dev nD → PrngReg) :
    θ_run defs (onTc (τ := τ) (main (F := Ideal))) ⟨m, fun _ => 0, ρ⟩ fun r => ∀ c : Dev nD,
      r.2.mem ((c.tc : Thread nD τ).loc main_v57) = outDx (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
      ∧ r.2.mem ((c.tc : Thread nD τ).loc main_v67) = outDp (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v74) = outSums (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run defs _ _).mono (fun _ h c => ⟨(h c).1.trans ?_, (h c).2.1.trans ?_, (h c).2.2.1.trans ?_, (h c).2.2.2⟩) (run m ρ)
  all_goals
    clear h
    funext y
  · obtain ⟨p, j, rfl⟩ : ∃ (p : Fin 4096) (j : Fin 1024), y = ix2 p j := ⟨_, _, eq_ix2 y⟩
    rw [outDx_at]
    unfold dxR rr ms
    pointwise
    simp only [Fin.sum_univ_one]
  · obtain ⟨p, j, rfl⟩ : ∃ (p : Fin 4096) (j : Fin 1024), y = ix2 p j := ⟨_, _, eq_ix2 y⟩
    rw [outDp_at]
    unfold dxR rr ms
    pointwise
    simp only [Fin.sum_univ_one]
  · obtain ⟨o, j, rfl⟩ : ∃ (o : Fin 8) (j : Fin 1024), y = ix2 o j := ⟨_, _, eq_ix2 y⟩
    rw [outSums_at]
    unfold dxR rr ms
    pointwise [res_main_v74]
    simp only [Fin.sum_univ_one]

end Cert.Reference2Ideal.Value
-- ==== Proof.Value3.lean ====
module
public import proofs.«01_k».proof.Proof.Gen.Kernel3Ideal.Value
public import proofs.«01_k».proof.Proof.Norm
public import proofs.«01_k».proof.Proof.Rows
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem
open Idealize.ShloMosaic.Pipeline (Dat)
namespace Cert.Kernel3Ideal.Value
open Cert.Kernel3Ideal Cert.Kernel3Ideal.Gen
open Cert.Norm Cert.Rows

variable (m : (ℓ : Loc nD τ sig) → Buf (Elt Ideal) ℓ)

theorem idx : ∀ t : Fin cfg0.N, win0_0.index t = ![t.val, 0]
    ∧ win0_1.index t = ![t.val, 0]
    ∧ win0_2.index t = ![0, 0, 0]
    ∧ win0_3.index t = ![t.val, 0]
    ∧ win0_4.index t = ![0, 0]
    ∧ win0_5.index t = ![t.val, 0]
    ∧ win0_6.index t = ![t.val, 0]
    ∧ win0_7.index t = ![t.val, 0]
    ∧ win0_8.index t = ![0, 0] :=
  (by decide +kernel : ∀ t : Fin grid0.N, _)

/-- The rows of the vector argument: the weight and the scale. -/
abbrev gRow (vec : FVec Ideal S8x1024 .f32) : Fin 1024 → EReal := fun l => vec (ix2 0 l)
abbrev scRow (vec : FVec Ideal S8x1024 .f32) : Fin 1024 → EReal := fun l => vec (ix2 1 l)
theorem pay13_at (dh x up : FVec Ideal S512x1024 .f32) (vec : FVec Ideal S8x1024 .f32) (p : Fin 512) (j : Fin 1024) :
    k0_pay13 (F := Ideal) dh (k0_pay5 (F := Ideal) (row 0 vec inb_S8x1024_S1x1024_0_0))
      (k0_pay6 (F := Ideal) (row 1 vec inb_S8x1024_S1x1024_1_0)) (k0_pay7 x) (k0_pay8 x) up (ix2 p j)
      = dxK (mat up p j) (mat x p) (fun l => mat dh p l * (1 + scRow vec l) * gRow vec l) j := by
  unfold dxK rr ms
  pointwise [k0_pay13, k0_pay11, k0_pay5, k0_pay6, k0_pay7, k0_pay8]
  simp only [row_at]

section
variable (dh x up fp : FVec Ideal S512x1024 .f32) (vec prev : FVec Ideal S8x1024 .f32) (j : Fin 1024)

theorem sum0_at (a : FVec Ideal S512x5632 .bf16) (w : FVec Ideal S1x1024x5632 .bf16) (h : dh = k0_pay4 (F := Ideal) a w) :
    k0_pay9 (F := Ideal) a w (row 0 prev inb_S8x1024_S1x1024_0_0) (ix2 0 j)
      = prev (ix2 0 j) + sums (mat x) (mat dh) (mat up) (mat fp) (gRow vec) (scRow vec) 0 j := by
  subst h
  pointwise [k0_pay9, sums]
  simp only [row_at]

theorem sum1_at : k0_pay10 (F := Ideal) dh (k0_pay5 (F := Ideal) (row 0 vec inb_S8x1024_S1x1024_0_0)) (k0_pay8 x)
      (row 1 prev inb_S8x1024_S1x1024_1_0) (ix2 0 j)
      = prev (ix2 1 j) + sums (mat x) (mat dh) (mat up) (mat fp) (gRow vec) (scRow vec) 1 j := by
  unfold sums rr ms
  pointwise [k0_pay10, k0_pay5, k0_pay8, k0_pay7]
  simp only [row_at]

theorem sum2_at : k0_pay12 (F := Ideal) dh (k0_pay6 (F := Ideal) (row 1 vec inb_S8x1024_S1x1024_1_0)) (k0_pay8 x)
      (row 2 prev inb_S8x1024_S1x1024_2_0) (ix2 0 j)
      = prev (ix2 2 j) + sums (mat x) (mat dh) (mat up) (mat fp) (gRow vec) (scRow vec) 2 j := by
  unfold sums rr ms
  pointwise [k0_pay12, k0_pay11, k0_pay6, k0_pay8, k0_pay7]
  simp only [row_at]

theorem sum3_at : k0_pay1 (F := Ideal) (k0_pay14 (F := Ideal) (row 3 prev inb_S8x1024_S1x1024_3_0))
      (k0_pay15 (F := Ideal) dh (k0_pay5 (F := Ideal) (row 0 vec inb_S8x1024_S1x1024_0_0))
        (k0_pay6 (F := Ideal) (row 1 vec inb_S8x1024_S1x1024_1_0)) (k0_pay7 x) (k0_pay8 x) up fp) (ix2 0 j)
      = prev (ix2 3 j) + sums (mat x) (mat dh) (mat up) (mat fp) (gRow vec) (scRow vec) 3 j := by
  unfold k0_pay15
  pointwise [k0_pay1, k0_pay14, sums]
  simp only [pay13_at, row_at]
end

/-- The gradient of the normalised rows at one point's block. -/
abbrev dhB (c : Dev nD) (t : Fin cfg0.N) : FVec Ideal S512x1024 .f32 := k0_pay4 (F := Ideal) (iblk m c 1 t) (iblk m c 2 t)

/-- What one point adds to the eight rows of sums. -/
abbrev part (c : Dev nD) (t : Fin cfg0.N) (y : S8x1024.Idx) : EReal :=
  sums (mat (iblk m c 0 t)) (mat (dhB m c t)) (mat (iblk m c 3 t)) (mat (iblk m c 5 t)) (gRow (iblk m c 4 t))
    (scRow (iblk m c 4 t)) (y 0) (y 1)

theorem step_B (c : Dev nD) (t : Fin cfg0.N) (h0 : ¬t.val % 8 = 0) (y : S8x1024.Idx) :
    (outsAt0 m c t.val t.isLt).2.2 y
      = (outsAt0 m c (t.val - 1) (Nat.lt_of_le_of_lt (Nat.sub_le _ _) t.isLt)).2.2 y + part m c t y := by
  rw [outsAt0_B m c t h0]
  frame_out
  rw [read_row, read_row, read_row, read_row]
  simp only [View.writes_nil, Memref.IsWhole.read_unread]
  exact ladder4 _ _ _ _ _ (sums _ _ _ _ _ _) y (fun j => sum3_at ..) (fun j => sum2_at ..) (fun j => sum1_at ..)
    (fun j => sum0_at _ _ _ _ _ _ _ _ _ rfl) (fun o j ho => sums_zero ho ..)

theorem step_A (c : Dev nD) (t : Fin cfg0.N) (h0 : t.val % 8 = 0) (y : S8x1024.Idx) :
    (outsAt0 m c t.val t.isLt).2.2 y = 0 + part m c t y := by
  rw [outsAt0_A m c t h0]
  frame_open
  simp (disch := decide) only [↓ View.readCov_skip, ↓ View.readCov_cons_toLoadRect, ↓ View.readCov_fill]
  frame_out
  rw [canon_row, canon_row, canon_row, canon_row, View.canon_cons_unit_lit _ _ _ (by decide),
    show (0 : EReal) = k0_pay3 (F := Ideal) y from (by pointwise [k0_pay3])]
  exact ladder4 _ _ _ _ _ (sums _ _ _ _ _ _) y (fun j => sum3_at ..) (fun j => sum2_at ..) (fun j => sum1_at ..)
    (fun j => sum0_at _ _ _ _ _ _ _ _ _ rfl) (fun o j ho => sums_zero ho ..)

/-- The row of the arrays that row `p` of the block of point `t` is. -/
def rowOf (t : Fin cfg0.N) (p : Fin 512) : Fin 4096 :=
  ⟨t.val * 512 + p.val, by have := lt_of_lt_of_eq t.isLt (show cfg0.N = 8 from N_0); omega⟩

theorem x_blk (c : Dev nD) (t : Fin cfg0.N) :
    mat (iblk m c 0 t) = fun p => mat (m ((c : Thread nD τ).loc main_arg0)) (rowOf t p) := by
  funext p l
  show iblk m c 0 t (ix2 p l) = m ((c : Thread nD τ).loc main_arg0) (ix2 (rowOf t p) l)
  unfold rowOf
  blk_ext [iblk, V, idx t]

theorem up_blk (c : Dev nD) (t : Fin cfg0.N) :
    mat (iblk m c 3 t) = fun p => mat (m ((c : Thread nD τ).loc main_arg3)) (rowOf t p) := by
  funext p l
  show iblk m c 3 t (ix2 p l) = m ((c : Thread nD τ).loc main_arg3) (ix2 (rowOf t p) l)
  unfold rowOf
  blk_ext [iblk, V, idx t]

theorem fp_blk (c : Dev nD) (t : Fin cfg0.N) :
    mat (iblk m c 5 t) = fun p => mat (m ((c : Thread nD τ).loc main_arg7)) (rowOf t p) := by
  funext p l
  show iblk m c 5 t (ix2 p l) = m ((c : Thread nD τ).loc main_arg7) (ix2 (rowOf t p) l)
  unfold rowOf
  blk_ext [iblk, V, idx t]

theorem v1_at (c : Dev nD) (j : Fin 1024) (l : Fin 5632) :
    V m c main_v1 (ix3 0 j l) = m ((c : Thread nD τ).loc main_arg2) (ix2 j l) := by
  simp only [V, List.flatten_cons, List.flatten_nil, hostOps0, hostOps0_1, List.cons_append, List.nil_append]
  entry_read
  pointwise

theorem w_blk (c : Dev nD) (t : Fin cfg0.N) (j : Fin 1024) (l : Fin 5632) :
    iblk m c 2 t (ix3 0 j l) = m ((c : Thread nD τ).loc main_arg2) (ix2 j l) := by
  refine Eq.trans ?_ (v1_at m c j l)
  blk_ext [iblk, idx t]

theorem dh_blk (c : Dev nD) (t : Fin cfg0.N) :
    mat (dhB m c t) = fun p => prodT (mat (m ((c : Thread nD τ).loc main_arg1))) (mat (m ((c : Thread nD τ).loc main_arg2))) (rowOf t p) := by
  funext p j
  unfold prodT
  show k0_pay4 (F := Ideal) _ _ (ix2 p j) = _
  pointwise [k0_pay4]
  refine Finset.sum_congr rfl fun l _ => ?_
  rw [w_blk]
  refine congrArg (· * _) ?_
  show _ = m ((c : Thread nD τ).loc main_arg1) (ix2 (rowOf t p) l)
  unfold rowOf
  blk_ext [iblk, V, idx t]

theorem v6_at (c : Dev nD) (o : Fin 3) (j : Fin 1024) :
    V m c main_v6 (ix2 (Fin.castLE (by decide) o : Fin 8) j) = if (o : ℕ) < 1 then m ((c : Thread nD τ).loc main_arg4) (ix1 j)
      else if (o : ℕ) - 1 < 1 then m ((c : Thread nD τ).loc main_arg5) (ix1 j) else m ((c : Thread nD τ).loc main_arg6) (ix1 j) := by
  show StableHlo.after hostOps0_1 (StableHlo.after hostOps0 (fun b => m (c, b))) (Proc.tc.devRef main_v6) _ = _
  have h5 : (StableHlo.after hostOps0 (fun b => m (c, b)) (Proc.tc.devRef main_v5) : FVec Ideal S3x1024 .f32) (ix2 o j)
      = if (o : ℕ) < 1 then m ((c : Thread nD τ).loc main_arg4) (ix1 j)
        else if (o : ℕ) - 1 < 1 then m ((c : Thread nD τ).loc main_arg5) (ix1 j) else m ((c : Thread nD τ).loc main_arg6) (ix1 j) := by
    after_results_simp
    dsimp only [Matrix.cons_val]
    after_results_simp
    pointwise
    rfl
  refine Eq.trans ?_ h5
  generalize StableHlo.after hostOps0 (fun b => m (c, b)) = W
  after_results_simp
  show pad S8x1024 ![0, 0] ![5, 0] ![0, 0] (W (Proc.tc.devRef main_v5) : FVec Ideal S3x1024 .f32)
    (sitofp (F := Ideal) .f32 (W (Proc.tc.devRef main_c) : IVec S_ 32)) pads_S3x1024_S8x1024_050_000 h_S_ _ = _
  exact pad_row _ _ _ _ _ _ o j

theorem vec_blk (c : Dev nD) (t : Fin cfg0.N) (o : Fin 8) (j : Fin 1024) : iblk m c 4 t (ix2 o j) = V m c main_v6 (ix2 o j) := by
  blk_ext [iblk, idx t]

theorem g_blk (c : Dev nD) (t : Fin cfg0.N) : gRow (iblk m c 4 t) = vec (m ((c : Thread nD τ).loc main_arg4)) :=
  funext fun j => (vec_blk m c t 0 j).trans (v6_at m c 0 j)

theorem sc_blk (c : Dev nD) (t : Fin cfg0.N) : scRow (iblk m c 4 t) = vec (m ((c : Thread nD τ).loc main_arg5)) :=
  funext fun j => (vec_blk m c t 1 j).trans (v6_at m c 1 j)

theorem gate_blk (c : Dev nD) (t : Fin cfg0.N) (j : Fin 1024) :
    iblk m c 4 t (ix2 2 j) = m ((c : Thread nD τ).loc main_arg6) (ix1 j) :=
  (vec_blk m c t 2 j).trans (v6_at m c 2 j)

/-- The result arrays as functions of the arguments. -/
abbrev resDx (c : Dev nD) := outDx (m ((c : Thread nD τ).loc main_arg0)) (m ((c : Thread nD τ).loc main_arg1))
  (m ((c : Thread nD τ).loc main_arg2)) (m ((c : Thread nD τ).loc main_arg3)) (m ((c : Thread nD τ).loc main_arg4))
  (m ((c : Thread nD τ).loc main_arg5))
abbrev resDp (c : Dev nD) := outDp (m ((c : Thread nD τ).loc main_arg0)) (m ((c : Thread nD τ).loc main_arg1))
  (m ((c : Thread nD τ).loc main_arg2)) (m ((c : Thread nD τ).loc main_arg3)) (m ((c : Thread nD τ).loc main_arg4))
  (m ((c : Thread nD τ).loc main_arg5)) (m ((c : Thread nD τ).loc main_arg6))
abbrev resSums (c : Dev nD) := outSums (m ((c : Thread nD τ).loc main_arg0)) (m ((c : Thread nD τ).loc main_arg1))
  (m ((c : Thread nD τ).loc main_arg2)) (m ((c : Thread nD τ).loc main_arg3)) (m ((c : Thread nD τ).loc main_arg4))
  (m ((c : Thread nD τ).loc main_arg5)) (m ((c : Thread nD τ).loc main_arg7))

theorem dx_blk (c : Dev nD) (t : Fin cfg0.N) (p : Fin 512) (j : Fin 1024) :
    dxK (mat (iblk m c 3 t) p j) (mat (iblk m c 0 t) p)
      (fun l => mat (dhB m c t) p l * (1 + scRow (iblk m c 4 t) l) * gRow (iblk m c 4 t) l) j
      = resDx m c (ix2 (rowOf t p) j) := by
  rw [x_blk, up_blk, dh_blk, g_blk, sc_blk]
  rfl

theorem outs_6 (c : Dev nD) (t : Fin cfg0.N) (p : Fin 512) (j : Fin 1024) :
    (outsAt0 m c t.val t.isLt).1 (ix2 p j) = resDx m c (ix2 (rowOf t p) j) := by
  rw [← dx_blk]
  by_cases h0 : t.val % 8 = 0
  · rw [outsAt0_A m c t h0]
    frame_out
    exact pay13_at ..
  · rw [outsAt0_B m c t h0]
    frame_out
    exact pay13_at ..

theorem dp_at (d : FVec Ideal S512x1024 .f32) (vec : FVec Ideal S8x1024 .f32) (p : Fin 512) (j : Fin 1024) :
    k0_pay2 (F := Ideal) d (row 2 vec inb_S8x1024_S1x1024_2_0) (ix2 p j) = vec (ix2 2 j) * d (ix2 p j) := by
  pointwise [k0_pay2]
  simp only [row_at, mul_comm]

theorem outs_7 (c : Dev nD) (t : Fin cfg0.N) (p : Fin 512) (j : Fin 1024) :
    (outsAt0 m c t.val t.isLt).2.1 (ix2 p j) = resDp m c (ix2 (rowOf t p) j) := by
  by_cases h0 : t.val % 8 = 0
  · rw [outsAt0_A m c t h0]
    frame_out
    exact (dp_at ..).trans (congrArg₂ (· * ·) (gate_blk ..) ((pay13_at ..).trans (dx_blk ..)))
  · rw [outsAt0_B m c t h0]
    frame_out
    exact (dp_at ..).trans (congrArg₂ (· * ·) (gate_blk ..) ((pay13_at ..).trans (dx_blk ..)))

theorem final_6 (c : Dev nD) : (dats m 0 c).arrAt 6 (cfgs 0).N = resDx m c := by
  refine (dats m 0 c).arrAt_eq_of_covers 6 _ (by decide +kernel) fun t hf y => ?_
  blk_simp; rw [after0_6]
  obtain ⟨p, j, rfl⟩ : ∃ (p : Fin 512) (j : Fin 1024), y = ix2 p j := ⟨_, _, eq_ix2 y⟩
  refine (outs_6 m c t p j).trans ?_
  unfold rowOf
  blk_ext [idx t]

theorem final_7 (c : Dev nD) : (dats m 0 c).arrAt 7 (cfgs 0).N = resDp m c := by
  refine (dats m 0 c).arrAt_eq_of_covers 7 _ (by decide +kernel) fun t hf y => ?_
  blk_simp; rw [after0_7]
  obtain ⟨p, j, rfl⟩ : ∃ (p : Fin 512) (j : Fin 1024), y = ix2 p j := ⟨_, _, eq_ix2 y⟩
  refine (outs_7 m c t p j).trans ?_
  unfold rowOf
  blk_ext [idx t]

theorem final_8 (c : Dev nD) : (dats m 0 c).arrAt 8 (cfgs 0).N = resSums m c := by
  refine (dats m 0 c).arrAt_eq_of_after_last 8 t0_7 (by decide +kernel) _ fun y => ?_
  blk_simp
  rw [after0_8, Pipeline.eq_sum_fin_of_reset_step_apply_last (fun n h => (outsAt0 m c n h).2.2) 8 (fun _ => 0)
    (part m c) (fun t h j => step_A m c t h j) (fun t h j => step_B m c t h j)
    (le_of_eq N_0) t0_7 rfl y, zero_add]
  show ∑ t : Fin cfg0.N, part m c t y = _
  unfold part
  simp only [x_blk, up_blk, fp_blk, dh_blk, g_blk, sc_blk]
  exact sums_split rowOf (fun F => Fin.sum_mul_add_congr (F := fun (t : Fin cfg0.N) p => F (rowOf t p)) fun s k hl => rfl) ..

end Cert.Kernel3Ideal.Value
-- ==== Proof.Ref3.lean ====
module
public import proofs.«01_k».proof.Proof.Gen.Reference3Ideal.Run
public import proofs.«01_k».proof.Proof.Norm
public import Idealize.ShloMosaic.Lib.Pipeline.ValueKit

/-! What the reference returns, entry by entry. -/

@[expose] public section
set_option maxRecDepth 16384
noncomputable section
open Idealize.ShloMosaic Idealize.ShloMosaic.TcCoe Idealize.SL.Sem
namespace Cert.Reference3Ideal.Value
open Cert.Reference3Ideal Cert.Norm

variable (m : (ℓ : Loc nD τ sig) → Buf (Elt Ideal) ℓ)

theorem run_spec (ρ : Dev nD → PrngReg) :
    θ_run defs (onTc (τ := τ) (main (F := Ideal))) ⟨m, fun _ => 0, ρ⟩ fun r => ∀ c : Dev nD,
      r.2.mem ((c.tc : Thread nD τ).loc main_v57) = outDx (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
      ∧ r.2.mem ((c.tc : Thread nD τ).loc main_v67) = outDp (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v74) = outSums (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run defs _ _).mono (fun _ h c => ⟨(h c).1.trans ?_, (h c).2.1.trans ?_, (h c).2.2.1.trans ?_, (h c).2.2.2⟩) (run m ρ)
  all_goals
    clear h
    funext y
  · obtain ⟨p, j, rfl⟩ : ∃ (p : Fin 4096) (j : Fin 1024), y = ix2 p j := ⟨_, _, eq_ix2 y⟩
    rw [outDx_at]
    unfold dxR rr ms
    pointwise
    simp only [Fin.sum_univ_one]
  · obtain ⟨p, j, rfl⟩ : ∃ (p : Fin 4096) (j : Fin 1024), y = ix2 p j := ⟨_, _, eq_ix2 y⟩
    rw [outDp_at]
    unfold dxR rr ms
    pointwise
    simp only [Fin.sum_univ_one]
  · obtain ⟨o, j, rfl⟩ : ∃ (o : Fin 8) (j : Fin 1024), y = ix2 o j := ⟨_, _, eq_ix2 y⟩
    rw [outSums_at]
    unfold dxR rr ms
    pointwise [res_main_v74]
    simp only [Fin.sum_univ_one]

end Cert.Reference3Ideal.Value
-- ==== Proof.Product.lean ====
module
public import Idealize.ShloMosaic.Lib.Pipeline.ValueKit

/-! Products of matrices, and what the gated product computes, as functions of whole arrays. -/

@[expose] public section
noncomputable section
open Idealize.ShloMosaic
namespace Cert.Product

/-- A matrix, by its rows and columns. -/
abbrev Mat (a b : ℕ) := (⟨2, ![a, b]⟩ : Shape).Idx → EReal

/-- The product of two matrices. -/
def prod {a k b : ℕ} (A : Mat a k) (B : Mat k b) : Mat a b := fun y => ∑ l, A (ix2 (y 0) l) * B (ix2 l (y 1))

/-- The gradient of a product's rows: the gradient's rows against the weight's rows. -/
def pgrad {a k b : ℕ} (A : Mat a k) (B : Mat b k) : Mat a b := fun y => ∑ l, A (ix2 (y 0) l) * B (ix2 (y 1) l)

/-- A column of a block, among all columns. -/
theorem col_lt {g b n i j : ℕ} (hn : g * b = n) (hi : i < g) (hj : j < b) : i * b + j < n := by
  subst hn
  calc i * b + j < (i + 1) * b := by rw [Nat.succ_mul]; omega
    _ ≤ g * b := Nat.mul_le_mul_right b hi

/-- The gradient of a product's weight: the rows `A` against the rows `Z` of the gradient, the columns of `Z` in `g`
blocks of `b`. -/
def wgrad {r a g b n : ℕ} (hn : g * b = n) (A : Mat r a) (Z : Mat r n) : (⟨3, ![g, a, b]⟩ : Shape).Idx → EReal :=
  fun y => ∑ l, A (ix2 l (y 1)) * Z (ix2 l ⟨(y 0).val * b + (y 2).val, by
    exact col_lt hn (y 0).isLt (y 2).isLt⟩)

/-- The weight gradients of several products, one behind the other. -/
def wgrads {g r a b : ℕ} (A : (⟨3, ![g, r, a]⟩ : Shape).Idx → EReal) (Z : (⟨3, ![g, r, b]⟩ : Shape).Idx → EReal) :
    (⟨3, ![g, a, b]⟩ : Shape).Idx → EReal := fun y => ∑ l, A (ix3 (y 0) l (y 1)) * Z (ix3 (y 0) l (y 2))

/-- The rows' gradients of several products, one behind the other. -/
def pgrads {g a k b : ℕ} (A : (⟨3, ![g, a, k]⟩ : Shape).Idx → EReal) (W : Fin g → Mat b k) :
    (⟨3, ![g, a, b]⟩ : Shape).Idx → EReal := fun y => ∑ l, A (ix3 (y 0) (y 1) l) * W (y 0) (ix2 (y 2) l)

end Cert.Product

end
-- ==== Proof.Gate.lean ====
module
public import proofs.«01_k».proof.Proof.Norm
public import proofs.«01_k».proof.Proof.Product

/-! The gated product: the two ways its gate is computed, and the two ways its gradient is. -/

@[expose] public section
noncomputable section
open Idealize.ShloMosaic
namespace Cert.Gate

/-- The single-precision number one half. -/
abbrev cF : EReal := Ideal.ofBits .f32 0x3F000000#32
/-- The single-precision number one. -/
abbrev cO : EReal := Ideal.ofBits .f32 0x3F800000#32

theorem cF_eq : cF = ((1 / 2 : ℝ) : EReal) := by
  simp [cF, Ideal.ofBits, Ideal.ieee, -EReal.coe_mul, -EReal.coe_neg]; norm_num

theorem cO_eq : cO = ((1 : ℝ) : EReal) := by
  simp [cO, Ideal.ofBits, Ideal.ieee, -EReal.coe_mul, -EReal.coe_neg]; norm_num

theorem one_add_top : (1 : EReal) + ⊤ = ⊤ := by simpa using EReal.coe_add_top 1

theorem one_sub_one : (1 : EReal) - 1 = 0 := by simpa using (EReal.coe_sub 1 1).symm

/-- The gate through the hyperbolic tangent. -/
def sgK (x : EReal) : EReal := cF * Ideal.tanh (cF * x) + cF

/-- The gate through the exponential. -/
def sgR (x : EReal) : EReal := Ideal.div cO (cO + Ideal.exp (-x))

theorem real_tanh_half (r : ℝ) : 1 / 2 * Real.tanh (1 / 2 * r) + 1 / 2 = (1 + Real.exp (-r))⁻¹ := by
  have hp : 0 < Real.exp (1 / 2 * r) := Real.exp_pos _
  have hn : Real.exp (-r) = (Real.exp (1 / 2 * r))⁻¹ * (Real.exp (1 / 2 * r))⁻¹ := by
    rw [← Real.exp_neg, ← Real.exp_add]; congr 1; ring
  rw [Real.tanh_eq_sinh_div_cosh, Real.sinh_eq, Real.cosh_eq, hn, Real.exp_neg]
  generalize Real.exp (1 / 2 * r) = e at hp
  have h1 : e + e⁻¹ ≠ 0 := by positivity
  have h2 : 1 + e⁻¹ * e⁻¹ ≠ 0 := by positivity
  field_simp
  ring

/-- The two gates are one function. -/
theorem sg_eq (x : EReal) : sgK x = sgR x := by
  unfold sgK sgR
  rw [cF_eq, cO_eq]
  induction x with
  | bot =>
    rw [EReal.coe_mul_bot_of_pos (by norm_num)]
    simp [Ideal.div, one_add_top]
    norm_cast; norm_num
  | top =>
    rw [EReal.coe_mul_top_of_pos (by norm_num)]
    simp [Ideal.div]
    norm_cast; norm_num
  | coe r =>
    rw [← EReal.coe_mul, Ideal.tanh_coe, ← EReal.coe_mul, ← EReal.coe_add, real_tanh_half, ← EReal.coe_neg, Ideal.exp_coe,
      ← EReal.coe_add, Ideal.div, if_neg (by exact_mod_cast (by positivity : (1 + Real.exp (-r)) ≠ 0)), ← EReal.coe_inv,
      ← EReal.coe_mul, one_mul]

/-- The gate of a number. -/
theorem sgR_coe (r : ℝ) : ∃ s : ℝ, sgR r = s := by
  refine ⟨(1 + Real.exp (-r))⁻¹, ?_⟩
  unfold sgR
  rw [cO_eq, ← EReal.coe_neg, Ideal.exp_coe, ← EReal.coe_add, Ideal.div,
    if_neg (by exact_mod_cast (by positivity : (1 + Real.exp (-r)) ≠ 0)), ← EReal.coe_inv, ← EReal.coe_mul, one_mul]

/-- The gradient of the gated product by its gate: `P` is the gradient times the other factor, a number; `g` is anything. -/
theorem dgate_eq (p : ℝ) (g : EReal) : (p : EReal) * (sgR g * (cO + g * (cO - sgR g)))
    = (p : EReal) * sgR g + g * (p : EReal) * (sgR g * (cO - sgR g)) := by
  induction g with
  | bot =>
    have h : sgR ⊥ = 0 := by rw [sgR, cO_eq]; simp [Ideal.div, one_add_top]
    simp [h]
  | top =>
    have h : sgR ⊤ = 1 := by rw [sgR, cO_eq]; simp [Ideal.div]
    rw [h, cO_eq, EReal.coe_one, one_sub_one]; simp
  | coe r =>
    obtain ⟨s, hs⟩ := sgR_coe r
    rw [hs, cO_eq]
    norm_cast
    ring

/-- The two halves of a product with twice the columns, one behind the other. -/
def halves {a k : ℕ} {b c : ℕ} (hc : 2 * b = c) (A : Product.Mat a k) (W : Product.Mat k c) :
    (⟨3, ![2, a, b]⟩ : Shape).Idx → EReal :=
  fun y => Product.prod A W (ix2 (y 1) ⟨(y 0).val * b + (y 2).val, Product.col_lt hc (y 0).isLt (y 2).isLt⟩)

/-- The gated product: the first half times its gate times the second half. -/
def gated {a b : ℕ} (H : (⟨3, ![2, a, b]⟩ : Shape).Idx → EReal) : Product.Mat a b :=
  fun y => H (ix3 0 (y 0) (y 1)) * sgR (H (ix3 0 (y 0) (y 1))) * H (ix3 1 (y 0) (y 1))

end Cert.Gate

end
-- ==== Proof.Value4.lean ====
module
public import proofs.«01_k».proof.Pre_finite
public import proofs.«01_k».proof.Proof.Gen.Kernel4Ideal.Value
public import proofs.«01_k».proof.Proof.Gen.Reference4Ideal.Run
public import proofs.«01_k».proof.Proof.Gate
public import Idealize.ShloMosaic.Lib.Pipeline.ValueKit
public import Idealize.ShloMosaic.Lib.ReduceAll

/-! The gradient of the gated product: what the kernel leaves where the incoming gradient, the weight and the second half
are finite, and what the reference returns. -/

@[expose] public section
set_option maxRecDepth 16384
noncomputable section
open Idealize.ShloMosaic Idealize.ShloMosaic.TcCoe Idealize.SL.Sem
open Idealize.ShloMosaic.Pipeline (Dat)
open Cert.Product Cert.Gate

namespace Cert.Pre_finite

instance facts : Facts where
  bcast_S_S4096x1024 := by decide
  reducesTo_S4096x1024_S_d0_1 := by decide
  h_S_ := by decide
  bcast_S_S2816x1024 := by decide
  reducesTo_S2816x1024_S_d0_1 := by decide
  slices_S2x4096x2816_S1x4096x2816_1_0_0 := by decide
  shapeCasts_S1x4096x2816_S4096x2816 := by decide
  bcast_S_S4096x2816 := by decide
  reducesTo_S4096x2816_S_d0_1 := by decide

theorem one_of {b : Bool} (h : BitVec.ofBool b = 1#1) : b = true := by cases b <;> simp_all

/-- A number whose magnitude is below infinity is a real. -/
theorem real_of_lt {x b : EReal} (hb : b = ⊤) (h : max x (-x) < b) : ∃ r : ℝ, x = r := by
  subst hb
  induction x with
  | bot => simp at h
  | top => simp at h
  | coe r => exact ⟨r, rfl⟩

theorem top_bf16 : Ideal.ofBits .bf16 0x7F80#16 = ⊤ := by simp [Ideal.ofBits, Ideal.ieee]

theorem top_f32 : Ideal.ofBits .f32 0x7F800000#32 = ⊤ := by simp [Ideal.ofBits, Ideal.ieee]

/-- The precondition, read: the incoming gradient, the weight and the second half are reals. -/
theorem reals (a : FVec Ideal S4096x1024 .bf16) (w : FVec Ideal S2816x1024 .f32) (g : FVec Ideal S2x4096x2816 .bf16)
    (h : fn (F := Ideal) a w g = fun _ => 1#1) :
    (∀ i, ∃ r : ℝ, a i = r) ∧ (∀ i, ∃ r : ℝ, w i = r) ∧ (∀ p j, ∃ r : ℝ, g (ix3 1 p j) = r) := by
  have h := congrFun h ix0
  simp only [fn, andi] at h
  obtain ⟨h, hg⟩ := IntOp.andi_eq_one.1 h
  obtain ⟨ha, hw⟩ := IntOp.andi_eq_one.1 h
  refine ⟨fun i => ?_, fun i => ?_, fun p j => ?_⟩
  · have := Host.reduce_andi_all _ _ _ _ _ ha i
    pointwise at this
    exact real_of_lt top_bf16 (of_decide_eq_true (one_of this))
  · have := Host.reduce_andi_all _ _ _ _ _ hw i
    pointwise at this
    exact real_of_lt top_f32 (of_decide_eq_true (one_of this))
  · have := Host.reduce_andi_all _ _ _ _ _ hg (ix2 p j)
    pointwise at this
    exact real_of_lt top_bf16 (of_decide_eq_true (one_of this))

end Cert.Pre_finite

namespace Cert.Gate

/-- The product with a turned weight. -/
def prodT {a k b : ℕ} (A : Mat a k) (W : Mat b k) : Mat a b := fun y => ∑ l, A (ix2 (y 0) l) * W (ix2 (y 1) l)

/-- The gradient of the gated product, of the gradient `D` of its value: by the first half, then by the second. -/
def dgated {a b n : ℕ} (hn : 2 * b = n) (D : Mat a b) (H : (⟨3, ![2, a, b]⟩ : Shape).Idx → EReal) : Mat a n :=
  fun y =>
    if h : (y 1).val < b then
      let j : Fin b := ⟨(y 1).val, h⟩
      D (ix2 (y 0) j) * H (ix3 1 (y 0) j) * sgR (H (ix3 0 (y 0) j))
        + H (ix3 0 (y 0) j) * (D (ix2 (y 0) j) * H (ix3 1 (y 0) j)) * (sgR (H (ix3 0 (y 0) j)) * (cO - sgR (H (ix3 0 (y 0) j))))
    else
      let j : Fin b := ⟨(y 1).val - b, by have : (y 1).val < n := (y 1).isLt; omega⟩
      H (ix3 0 (y 0) j) * sgR (H (ix3 0 (y 0) j)) * D (ix2 (y 0) j)

theorem dgated_lo {a b n : ℕ} (hn : 2 * b = n) (D : Mat a b) (H : (⟨3, ![2, a, b]⟩ : Shape).Idx → EReal) (p : Fin a) (j : Fin b)
    (k : Fin n) (hk : k.val = j.val) : dgated hn D H (ix2 p k) = D (ix2 p j) * H (ix3 1 p j) * sgR (H (ix3 0 p j))
      + H (ix3 0 p j) * (D (ix2 p j) * H (ix3 1 p j)) * (sgR (H (ix3 0 p j)) * (cO - sgR (H (ix3 0 p j)))) := by
  obtain ⟨j, hj⟩ := j
  obtain rfl : k.val = j := hk
  exact dif_pos hj

theorem dgated_hi {a b n : ℕ} (hn : 2 * b = n) (D : Mat a b) (H : (⟨3, ![2, a, b]⟩ : Shape).Idx → EReal) (p : Fin a) (j : Fin b)
    (k : Fin n) (hk : k.val = b + j.val) : dgated hn D H (ix2 p k) = H (ix3 0 p j) * sgR (H (ix3 0 p j)) * D (ix2 p j) := by
  have hj : (⟨k.val - b, by omega⟩ : Fin b) = j := Fin.ext (by show k.val - b = j.val; omega)
  refine (dif_neg (by show ¬ k.val < b; omega)).trans ?_
  show H (ix3 0 p ⟨k.val - b, _⟩) * sgR (H (ix3 0 p ⟨k.val - b, _⟩)) * D (ix2 p ⟨k.val - b, _⟩) = _
  rw [hj]

/-- A sum of products of reals is a real. -/
theorem sum_real {n : ℕ} (f g : Fin n → EReal) (hf : ∀ i, ∃ r : ℝ, f i = r) (hg : ∀ i, ∃ r : ℝ, g i = r) :
    ∃ r : ℝ, ∑ i, f i * g i = r := by
  choose f' hf using hf
  choose g' hg using hg
  refine ⟨∑ i, f' i * g' i, ?_⟩
  rw [Norm.coe_sum]
  exact Finset.sum_congr rfl fun i _ => by rw [hf, hg, EReal.coe_mul]

end Cert.Gate

namespace Cert.Kernel4Ideal.Value
open Cert.Kernel4Ideal Cert.Kernel4Ideal.Gen

variable (m : (ℓ : Loc nD τ sig) → Buf (Elt Ideal) ℓ)

theorem idx : ∀ t : Fin cfg0.N, win0_0.index t = ![t.val, 0]
    ∧ win0_1.index t = ![0, 0, 0]
    ∧ win0_2.index t = ![0, t.val, 0]
    ∧ win0_3.index t = ![1, t.val, 0]
    ∧ win0_4.index t = ![t.val, 0] :=
  (by decide +kernel : ∀ t : Fin grid0.N, _)

/-- The weight as the call takes it. -/
theorem v1_at (c : Dev nD) (j : Fin 2816) (l : Fin 1024) :
    V m c main_v1 (ix3 0 j l) = m ((c : Thread nD τ).loc main_arg1) (ix2 j l) := by
  simp only [V, List.flatten_cons, List.flatten_nil, hostOps0, List.cons_append, List.nil_append]
  entry_read
  pointwise

theorem lt_N (t : Fin cfg0.N) : t.val < 16 := lt_of_lt_of_eq t.isLt (show cfg0.N = 16 from N_0)

/-- A row of the arrays, by the point and the block's row. -/
abbrev row (t : Fin cfg0.N) (p : Fin 256) : Fin 4096 := ⟨t.val * 256 + p.val, by have := lt_N t; omega⟩

theorem a_blk (c : Dev nD) (t : Fin cfg0.N) (p : Fin 256) (l : Fin 1024) :
    iblk m c 0 t (ix2 p l) = m ((c : Thread nD τ).loc main_arg0) (ix2 (row t p) l) := by
  blk_ext [iblk, V, idx t]

theorem w_blk (c : Dev nD) (t : Fin cfg0.N) (j : Fin 2816) (l : Fin 1024) :
    iblk m c 1 t (ix3 0 j l) = m ((c : Thread nD τ).loc main_arg1) (ix2 j l) := by
  refine Eq.trans ?_ (v1_at m c j l)
  blk_ext [iblk, idx t]

theorem g_blk (c : Dev nD) (t : Fin cfg0.N) (p : Fin 256) (j : Fin 2816) :
    iblk m c 2 t (ix3 0 p j) = m ((c : Thread nD τ).loc main_arg2) (ix3 0 (row t p) j) := by
  blk_ext [iblk, V, idx t]

theorem u_blk (c : Dev nD) (t : Fin cfg0.N) (p : Fin 256) (j : Fin 2816) :
    iblk m c 3 t (ix3 0 p j) = m ((c : Thread nD τ).loc main_arg2) (ix3 1 (row t p) j) := by
  blk_ext [iblk, V, idx t]

/-- The gradient of the gated product's value, of the whole arrays. -/
abbrev DD (c : Dev nD) := prodT (m ((c : Thread nD τ).loc main_arg0)) (m ((c : Thread nD τ).loc main_arg1))

theorem d_at (c : Dev nD) (t : Fin cfg0.N) (p : Fin 256) (j : Fin 2816) :
    k0_pay1 (iblk m c 0 t) (iblk m c 1 t) (ix2 p j) = DD m c (ix2 (row t p) j) := by
  pointwise [k0_pay1]
  exact Finset.sum_congr rfl fun l _ => congrArg₂ _ (a_blk m c t p l) (w_blk m c t j l)

theorem s_at (c : Dev nD) (t : Fin cfg0.N) (p : Fin 256) (j : Fin 2816) :
    k0_pay3 (iblk m c 2 t) (ix2 p j) = sgR (m ((c : Thread nD τ).loc main_arg2) (ix3 0 (row t p) j)) := by
  pointwise [k0_pay3, k0_pay2]
  rw [g_blk, ← sg_eq]
  rfl

/-- The array the call leaves is the gradient of the gated product. -/
theorem final_4 (c : Dev nD) (hpre : Cert.Pre_finite.fn (F := Ideal) (m ((c : Thread nD τ).loc main_arg0))
      (m ((c : Thread nD τ).loc main_arg1)) (m ((c : Thread nD τ).loc main_arg2)) = fun _ => 1#1) :
    (dats m 0 c).arrAt 4 (cfgs 0).N = dgated (b := 2816) rfl (DD m c) (m ((c : Thread nD τ).loc main_arg2)) := by
  obtain ⟨ha, hw, hu⟩ := Cert.Pre_finite.reals _ _ _ hpre
  refine (dats m 0 c).arrAt_eq_of_covers 4 _ (by decide +kernel) fun t hf y => ?_
  blk_simp; rw [after0_4]
  frame_out
  canon_tiles x w
  · obtain ⟨p, j, rfl⟩ : ∃ (p : Fin 256) (j : Fin 2816), x = ix2 p j := ⟨_, _, eq_ix2 x⟩
    replace w0 : (y 0).val = p.val := w0
    replace w1 : (y 1).val = 2816 + j.val := w1
    pointwise [k0_pay5, k0_pay2]
    refine Eq.trans (b := dgated (b := 2816) rfl (DD m c) (m ((c : Thread nD τ).loc main_arg2))
      (ix2 (row t p) ⟨2816 + j.val, by omega⟩)) ?_ (by blk_ext [idx t])
    rw [d_at, s_at, g_blk, dgated_hi rfl _ _ _ j _ rfl, mul_comm]
  · obtain ⟨p, j, rfl⟩ : ∃ (p : Fin 256) (j : Fin 2816), x = ix2 p j := ⟨_, _, eq_ix2 x⟩
    replace w0 : (y 0).val = p.val := w0
    replace w1 : (y 1).val = j.val := w1
    pointwise [k0_pay4, k0_pay2]
    refine Eq.trans (b := dgated (b := 2816) rfl (DD m c) (m ((c : Thread nD τ).loc main_arg2))
      (ix2 (row t p) ⟨j.val, by omega⟩)) ?_ (by blk_ext [idx t])
    obtain ⟨d, hd⟩ := sum_real _ _ (fun l => ha (ix2 (row t p) l)) (fun l => hw (ix2 j l))
    obtain ⟨u, hu⟩ := hu (row t p) j
    have hD : DD m c (ix2 (row t p) j) = (d : EReal) := hd
    rw [d_at, s_at, g_blk, u_blk, dgated_lo rfl _ _ _ j _ rfl, hD, hu, ← EReal.coe_mul, ← dgate_eq, cO_eq, EReal.coe_one]

end Cert.Kernel4Ideal.Value

namespace Cert.Reference4Ideal.Value
open Cert.Reference4Ideal

theorem run_spec (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v14) = dgated (b := 2816) rfl
          (prodT (m ((c.tc : Thread nD τ).loc main_arg0)) (m ((c.tc : Thread nD τ).loc main_arg1))) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun _ h c => ⟨(h c).1.trans ?_, (h c).2⟩) (run m ρ)
  clear h
  funext y
  obtain ⟨p, j, rfl⟩ : ∃ (p : Fin 4096) (j : Fin 5632), y = ix2 p j := ⟨_, _, eq_ix2 y⟩
  unfold dgated sgR prodT
  pointwise

end Cert.Reference4Ideal.Value

end
-- ==== Proof.Value5.lean ====
module
public import proofs.«01_k».proof.Proof.Gen.Kernel5Ideal.Value
public import proofs.«01_k».proof.Proof.Gen.Reference5Ideal.Run
public import proofs.«01_k».proof.Proof.Gate
public import Idealize.ShloMosaic.Lib.Pipeline.ValueKit

/-! The feed-forward input product and its gate: what the kernel leaves and what the reference returns. -/

@[expose] public section
set_option maxRecDepth 16384
noncomputable section
open Idealize.ShloMosaic Idealize.ShloMosaic.TcCoe Idealize.SL.Sem
open Idealize.ShloMosaic.Pipeline (Dat)
open Cert.Product Cert.Gate

namespace Cert.Kernel5Ideal.Value
open Cert.Kernel5Ideal Cert.Kernel5Ideal.Gen

variable (m : (ℓ : Loc nD τ sig) → Buf (Elt Ideal) ℓ)

theorem idx : ∀ t : Fin cfg0.N, win0_0.index t = ![t.val / 11, 0]
    ∧ win0_1.index t = ![0, 0, t.val % 11]
    ∧ win0_2.index t = ![0, 0, t.val % 11 + 11]
    ∧ win0_3.index t = ![0, t.val / 11, t.val % 11]
    ∧ win0_4.index t = ![t.val / 11, t.val % 11]
    ∧ win0_5.index t = ![t.val % 11, t.val / 11] :=
  (by decide +kernel : ∀ t : Fin grid0.N, _)

/-- The weight as the call takes it. -/
theorem v1_at (c : Dev nD) (j : Fin 1024) (l : Fin 5632) :
    V m c main_v1 (ix3 0 j l) = m ((c : Thread nD τ).loc main_arg1) (ix2 j l) := by
  simp only [V, List.flatten_cons, List.flatten_nil, hostOps0, List.cons_append, List.nil_append]
  entry_read
  pointwise

theorem lt_N (t : Fin cfg0.N) : t.val < 22 := lt_of_lt_of_eq t.isLt (show cfg0.N = 22 from N_0)

/-- A row of the arrays, by the point and the block's row. -/
abbrev row (t : Fin cfg0.N) (p : Fin 2048) : Fin 4096 := ⟨t.val / 11 * 2048 + p.val, by have := lt_N t; omega⟩
/-- A column of one half, by the point and the block's column. -/
abbrev col (t : Fin cfg0.N) (q : Fin 256) : Fin 2816 := ⟨t.val % 11 * 256 + q.val, by omega⟩

theorem a_blk (c : Dev nD) (t : Fin cfg0.N) (p : Fin 2048) (l : Fin 1024) :
    iblk m c 0 t (ix2 p l) = m ((c : Thread nD τ).loc main_arg0) (ix2 (row t p) l) := by
  blk_ext [iblk, V, idx t]

theorem b_blk (c : Dev nD) (t : Fin cfg0.N) (l : Fin 1024) (q : Fin 256) (i : Fin 5632) (hi : i.val = t.val % 11 * 256 + q.val) :
    iblk m c 1 t (ix3 0 l q) = m ((c : Thread nD τ).loc main_arg1) (ix2 l i) := by
  refine Eq.trans ?_ (v1_at m c l i)
  blk_ext [iblk, idx t, hi]

theorem u_blk (c : Dev nD) (t : Fin cfg0.N) (l : Fin 1024) (q : Fin 256) (i : Fin 5632)
    (hi : i.val = 2816 + (t.val % 11 * 256 + q.val)) :
    iblk m c 2 t (ix3 0 l q) = m ((c : Thread nD τ).loc main_arg1) (ix2 l i) := by
  refine Eq.trans ?_ (v1_at m c l i)
  blk_ext [iblk, idx t, hi]

/-- The two halves the whole arrays give. -/
abbrev HH (c : Dev nD) := halves (b := 2816) rfl (m ((c : Thread nD τ).loc main_arg0)) (m ((c : Thread nD τ).loc main_arg1))

theorem gate_at (c : Dev nD) (t : Fin cfg0.N) (p : Fin 2048) (q : Fin 256) :
    k0_pay1 (iblk m c 0 t) (iblk m c 1 t) (ix2 p q) = HH m c (ix3 0 (row t p) (col t q)) := by
  pointwise [k0_pay1]
  unfold HH halves prod
  exact Finset.sum_congr rfl fun l _ => congrArg₂ _ (a_blk m c t p l)
    (b_blk m c t l q _ ((congrArg (· + _) (Nat.zero_mul 2816)).trans (Nat.zero_add _)))

theorem up_at (c : Dev nD) (t : Fin cfg0.N) (p : Fin 2048) (q : Fin 256) :
    k0_pay2 (iblk m c 0 t) (iblk m c 2 t) (ix2 p q) = HH m c (ix3 1 (row t p) (col t q)) := by
  pointwise [k0_pay2]
  unfold HH halves prod
  exact Finset.sum_congr rfl fun l _ => congrArg₂ _ (a_blk m c t p l)
    (u_blk m c t l q _ (congrArg (· + _) (Nat.one_mul 2816)))

theorem act_at (c : Dev nD) (t : Fin cfg0.N) (p : Fin 2048) (q : Fin 256) :
    k0_pay5 (iblk m c 0 t) (iblk m c 1 t) (iblk m c 2 t) (ix2 p q) = gated (HH m c) (ix2 (row t p) (col t q)) := by
  pointwise [k0_pay5]
  rw [gate_at, up_at]
  unfold gated
  rw [← sg_eq]
  rfl

theorem final_3 (c : Dev nD) : (dats m 0 c).arrAt 3 (cfgs 0).N = HH m c := by
  refine (dats m 0 c).arrAt_eq_of_covers 3 _ (by decide +kernel) fun t hf y => ?_
  blk_simp; rw [after0_3]
  frame_out
  canon_tiles x w
  · obtain ⟨z, p, j, rfl⟩ : ∃ (z : Fin 1) (p : Fin 2048) (j : Fin 256), x = ix3 z p j := ⟨_, _, _, eq_ix3 x⟩
    obtain rfl : z = 0 := Subsingleton.elim _ _
    replace w0 : (y 0).val = 1 := w0
    replace w1 : (y 1).val = p.val := w1
    replace w2 : (y 2).val = j.val := w2
    pointwise [k0_pay4]
    refine (up_at m c t p j).trans ?_
    blk_ext [idx t]
  · obtain ⟨z, p, j, rfl⟩ : ∃ (z : Fin 1) (p : Fin 2048) (j : Fin 256), x = ix3 z p j := ⟨_, _, _, eq_ix3 x⟩
    obtain rfl : z = 0 := Subsingleton.elim _ _
    replace w0 : (y 0).val = 0 := w0
    replace w1 : (y 1).val = p.val := w1
    replace w2 : (y 2).val = j.val := w2
    pointwise [k0_pay3]
    refine (gate_at m c t p j).trans ?_
    blk_ext [idx t]

theorem final_4 (c : Dev nD) : (dats m 0 c).arrAt 4 (cfgs 0).N = gated (HH m c) := by
  refine (dats m 0 c).arrAt_eq_of_covers 4 _ (by decide +kernel) fun t hf y => ?_
  blk_simp; rw [after0_4]
  obtain ⟨p, j, rfl⟩ : ∃ (p : Fin 2048) (j : Fin 256), y = ix2 p j := ⟨_, _, eq_ix2 y⟩
  frame_out
  pointwise [k0_pay6]
  refine (act_at m c t p j).trans ?_
  blk_ext [idx t]

theorem final_5 (c : Dev nD) : (dats m 0 c).arrAt 5 (cfgs 0).N = fun y => gated (HH m c) (ix2 (y 1) (y 0)) := by
  refine (dats m 0 c).arrAt_eq_of_covers 5 _ (by decide +kernel) fun t hf y => ?_
  blk_simp; rw [after0_5]
  obtain ⟨j, p, rfl⟩ : ∃ (j : Fin 256) (p : Fin 2048), y = ix2 j p := ⟨_, _, eq_ix2 y⟩
  frame_out
  pointwise [k0_pay7]
  refine (act_at m c t p j).trans ?_
  blk_ext [idx t]

end Cert.Kernel5Ideal.Value

namespace Cert.Reference5Ideal.Value
open Cert.Reference5Ideal

theorem run_spec (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v9) = halves (b := 2816) rfl (m ((c.tc : Thread nD τ).loc main_arg0)) (m ((c.tc : Thread nD τ).loc main_arg1))
      ∧ r.2.mem ((c.tc : Thread nD τ).loc main_v10) = gated (halves (b := 2816) rfl (m ((c.tc : Thread nD τ).loc main_arg0)) (m ((c.tc : Thread nD τ).loc main_arg1)))
      ∧ r.2.mem ((c.tc : Thread nD τ).loc main_v12) = (fun y => gated (halves (b := 2816) rfl (m ((c.tc : Thread nD τ).loc main_arg0)) (m ((c.tc : Thread nD τ).loc main_arg1))) (ix2 (y 1) (y 0)))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun _ h c => ⟨(h c).1.trans ?_, (h c).2.1.trans ?_, (h c).2.2.1.trans ?_, (h c).2.2.2⟩) (run m ρ)
  all_goals (clear h; funext y)
  · obtain ⟨z, p, j, rfl⟩ : ∃ (z : Fin 2) (p : Fin 4096) (j : Fin 2816), y = ix3 z p j := ⟨_, _, _, eq_ix3 y⟩
    unfold halves prod
    match z with
    | 0 => pointwise
    | 1 => pointwise
  · obtain ⟨p, j, rfl⟩ : ∃ (p : Fin 4096) (j : Fin 2816), y = ix2 p j := ⟨_, _, eq_ix2 y⟩
    unfold gated sgR halves prod
    pointwise
  · obtain ⟨j, p, rfl⟩ : ∃ (j : Fin 2816) (p : Fin 4096), y = ix2 j p := ⟨_, _, eq_ix2 y⟩
    unfold gated sgR halves prod
    pointwise

end Cert.Reference5Ideal.Value

end
-- ==== Proof.Value6.lean ====
module
public import proofs.«01_k».proof.Proof.Gen.Kernel6Ideal.Value
public import proofs.«01_k».proof.Proof.Gen.Reference6Ideal.Run
public import proofs.«01_k».proof.Proof.Product
public import Idealize.ShloMosaic.Lib.Pipeline.ValueKit

/-! The layer's input product: what the kernel leaves and what the reference returns. -/

@[expose] public section
set_option maxRecDepth 16384
noncomputable section
open Idealize.ShloMosaic Idealize.ShloMosaic.TcCoe Idealize.SL.Sem
open Idealize.ShloMosaic.Pipeline (Dat)
open Cert.Product

namespace Cert.Kernel6Ideal.Value
open Cert.Kernel6Ideal Cert.Kernel6Ideal.Gen

variable (m : (ℓ : Loc nD τ sig) → Buf (Elt Ideal) ℓ)

theorem idx : ∀ t : Fin cfg0.N, win0_0.index t = ![t.val % 2, 0]
    ∧ win0_1.index t = ![t.val / 2, 0, 0]
    ∧ win0_2.index t = ![t.val % 2, t.val / 2] :=
  (by decide +kernel : ∀ t : Fin grid0.N, _)

/-- The weight as the call takes it. -/
theorem v2_at (c : Dev nD) (b : Fin 8) (j : Fin 1024) (l : Fin 1280) :
    V m c main_v2 (ix3 b j l) = m ((c : Thread nD τ).loc main_arg1) (ix2 j ⟨b.val * 1280 + l.val, by omega⟩) := by
  simp only [V, List.flatten_cons, List.flatten_nil, hostOps0, List.cons_append, List.nil_append]
  entry_read
  pointwise

theorem lt_N (t : Fin cfg0.N) : t.val < 16 := lt_of_lt_of_eq t.isLt (show cfg0.N = 16 from N_0)

theorem a_blk (c : Dev nD) (t : Fin cfg0.N) (p : Fin 2048) (l : Fin 1024) :
    iblk m c 0 t (ix2 p l) = m ((c : Thread nD τ).loc main_arg0) (ix2 ⟨t.val % 2 * 2048 + p.val, by omega⟩ l) := by
  blk_ext [iblk, V, idx t]

theorem b_blk (c : Dev nD) (t : Fin cfg0.N) (l : Fin 1024) (q : Fin 1280) :
    iblk m c 1 t (ix3 0 l q) = m ((c : Thread nD τ).loc main_arg1)
      (ix2 l ⟨t.val / 2 * 1280 + q.val, by have := lt_N t; omega⟩) := by
  refine Eq.trans ?_ (v2_at m c ⟨t.val / 2, by have := lt_N t; omega⟩ l q)
  blk_ext [iblk, idx t]

/-- The array the call leaves is the product of its arguments. -/
theorem final_2 (c : Dev nD) : (dats m 0 c).arrAt 2 (cfgs 0).N
    = prod (m ((c : Thread nD τ).loc main_arg0)) (m ((c : Thread nD τ).loc main_arg1)) := by
  refine (dats m 0 c).arrAt_eq_of_covers 2 _ (by decide +kernel) fun t hf y => ?_
  blk_simp; rw [after0_2]
  obtain ⟨p, j, rfl⟩ : ∃ (p : Fin 2048) (j : Fin 1280), y = ix2 p j := ⟨_, _, eq_ix2 y⟩
  frame_out
  pointwise [k0_pay1]
  refine Eq.trans (b := prod (m ((c : Thread nD τ).loc main_arg0)) (m ((c : Thread nD τ).loc main_arg1))
    (ix2 ⟨t.val % 2 * 2048 + p.val, by omega⟩ ⟨t.val / 2 * 1280 + j.val, by have := lt_N t; omega⟩)) ?_ ?_
  · unfold prod
    exact Finset.sum_congr rfl fun l _ => congrArg₂ _ (a_blk m c t p l) (b_blk m c t l j)
  · blk_ext [idx t]

end Cert.Kernel6Ideal.Value

namespace Cert.Reference6Ideal.Value
open Cert.Reference6Ideal

theorem run_spec (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2) = prod (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun _ h c => ⟨(h c).1.trans ?_, (h c).2⟩) (run m ρ)
  clear h
  funext y
  obtain ⟨p, j, rfl⟩ : ∃ (p : Fin 4096) (j : Fin 10240), y = ix2 p j := ⟨_, _, eq_ix2 y⟩
  unfold prod
  pointwise

end Cert.Reference6Ideal.Value

end
-- ==== Proof.Value7.lean ====
module
public import proofs.«01_k».proof.Proof.Gen.Kernel7Ideal.Value
public import proofs.«01_k».proof.Proof.Gen.Reference7Ideal.Run
public import proofs.«01_k».proof.Proof.Product
public import Idealize.ShloMosaic.Lib.Pipeline.ValueKit

/-! The weight gradient of the input product: what the kernel leaves and what the reference returns. -/

@[expose] public section
set_option maxRecDepth 16384
noncomputable section
open Idealize.ShloMosaic Idealize.ShloMosaic.TcCoe Idealize.SL.Sem
open Idealize.ShloMosaic.Pipeline (Dat)
open Cert.Product

namespace Cert.Kernel7Ideal.Value
open Cert.Kernel7Ideal Cert.Kernel7Ideal.Gen

variable (m : (ℓ : Loc nD τ sig) → Buf (Elt Ideal) ℓ)

theorem idx : ∀ t : Fin cfg0.N, win0_0.index t = ![0, 0]
    ∧ win0_1.index t = ![0, t.val]
    ∧ win0_2.index t = ![t.val, 0, 0] :=
  (by decide +kernel : ∀ t : Fin grid0.N, _)

/-- The rows as the call takes them, turned. -/
theorem v0_at (c : Dev nD) (j : Fin 1024) (l : Fin 4096) :
    V m c main_v0 (ix2 j l) = m ((c : Thread nD τ).loc main_arg0) (ix2 l j) := by
  simp only [V, List.flatten_cons, List.flatten_nil, hostOps0, List.cons_append, List.nil_append]
  entry_read
  pointwise

theorem lt_N (t : Fin cfg0.N) : t.val < 8 := lt_of_lt_of_eq t.isLt (show cfg0.N = 8 from N_0)

theorem a_blk (c : Dev nD) (t : Fin cfg0.N) (p : Fin 1024) (l : Fin 4096) :
    iblk m c 0 t (ix2 p l) = m ((c : Thread nD τ).loc main_arg0) (ix2 l p) := by
  refine Eq.trans ?_ (v0_at m c p l)
  blk_ext [iblk, idx t]

theorem b_blk (c : Dev nD) (t : Fin cfg0.N) (l : Fin 4096) (q : Fin 1280) :
    iblk m c 1 t (ix2 l q) = m ((c : Thread nD τ).loc main_arg1) (ix2 l ⟨t.val * 1280 + q.val, by have := lt_N t; omega⟩) := by
  blk_ext [iblk, V, idx t]

/-- The array the call leaves is the weight gradient. -/
theorem final_2 (c : Dev nD) : (dats m 0 c).arrAt 2 (cfgs 0).N = wgrad (g := 8) (b := 1280) rfl
    (m ((c : Thread nD τ).loc main_arg0)) (m ((c : Thread nD τ).loc main_arg1)) := by
  refine (dats m 0 c).arrAt_eq_of_covers 2 _ (by decide +kernel) fun t hf y => ?_
  blk_simp; rw [after0_2]
  obtain ⟨z, p, j, rfl⟩ : ∃ (z : Fin 1) (p : Fin 1024) (j : Fin 1280), y = ix3 z p j := ⟨_, _, _, eq_ix3 y⟩
  obtain rfl : z = 0 := Subsingleton.elim _ _
  frame_out
  pointwise [k0_pay1]
  refine Eq.trans (b := wgrad (g := 8) (b := 1280) rfl (m ((c : Thread nD τ).loc main_arg0))
    (m ((c : Thread nD τ).loc main_arg1)) (ix3 ⟨t.val, lt_N t⟩ p j)) ?_ ?_
  · unfold wgrad
    exact Finset.sum_congr rfl fun l _ => congrArg₂ _ (a_blk m c t p l) (b_blk m c t l j)
  · blk_ext [idx t]

end Cert.Kernel7Ideal.Value

namespace Cert.Reference7Ideal.Value
open Cert.Reference7Ideal

theorem run_spec (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v8) = wgrad (g := 8) (b := 1280) rfl
          (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun _ h c => ⟨(h c).1.trans ?_, (h c).2⟩) (run m ρ)
  clear h
  funext y
  obtain ⟨z, p, j, rfl⟩ : ∃ (z : Fin 8) (p : Fin 1024) (j : Fin 1280), y = ix3 z p j := ⟨_, _, _, eq_ix3 y⟩
  unfold wgrad
  pointwise
  exact Finset.sum_congr rfl fun l _ => mul_comm _ _

end Cert.Reference7Ideal.Value

end
-- ==== Proof.Value8.lean ====
module
public import proofs.«01_k».proof.Proof.Gen.Kernel8Ideal.Value
public import proofs.«01_k».proof.Proof.Gen.Reference8Ideal.Run
public import proofs.«01_k».proof.Proof.Product
public import Idealize.ShloMosaic.Lib.Pipeline.ValueKit

/-! The weight gradient of the feed-forward input product: what the kernel leaves and what the reference returns. -/

@[expose] public section
set_option maxRecDepth 16384
noncomputable section
open Idealize.ShloMosaic Idealize.ShloMosaic.TcCoe Idealize.SL.Sem
open Idealize.ShloMosaic.Pipeline (Dat)
open Cert.Product

namespace Cert.Kernel8Ideal.Value
open Cert.Kernel8Ideal Cert.Kernel8Ideal.Gen

variable (m : (ℓ : Loc nD τ sig) → Buf (Elt Ideal) ℓ)

theorem idx : ∀ t : Fin cfg0.N, win0_0.index t = ![0, 0]
    ∧ win0_1.index t = ![0, t.val]
    ∧ win0_2.index t = ![0, 0, t.val] :=
  (by decide +kernel : ∀ t : Fin grid0.N, _)

/-- The rows as the call takes them, turned. -/
theorem v0_at (c : Dev nD) (j : Fin 1024) (l : Fin 4096) :
    V m c main_v0 (ix2 j l) = m ((c : Thread nD τ).loc main_arg0) (ix2 l j) := by
  simp only [V, List.flatten_cons, List.flatten_nil, hostOps0, List.cons_append, List.nil_append]
  entry_read
  pointwise

theorem lt_N (t : Fin cfg0.N) : t.val < 11 := lt_of_lt_of_eq t.isLt (show cfg0.N = 11 from N_0)

theorem a_blk (c : Dev nD) (t : Fin cfg0.N) (p : Fin 1024) (l : Fin 4096) :
    iblk m c 0 t (ix2 p l) = m ((c : Thread nD τ).loc main_arg0) (ix2 l p) := by
  refine Eq.trans ?_ (v0_at m c p l)
  blk_ext [iblk, idx t]

theorem b_blk (c : Dev nD) (t : Fin cfg0.N) (l : Fin 4096) (q : Fin 512) (i : Fin 5632) (hi : i.val = t.val * 512 + q.val) :
    iblk m c 1 t (ix2 l q) = m ((c : Thread nD τ).loc main_arg1) (ix2 l i) := by
  refine Eq.trans (b := m ((c : Thread nD τ).loc main_arg1)
    (ix2 l (⟨t.val * 512 + q.val, lt_of_eq_of_lt hi.symm i.isLt⟩ : Fin 5632))) ?_
    (congrArg (fun i : Fin 5632 => m ((c : Thread nD τ).loc main_arg1) (ix2 l i)) (Fin.ext hi.symm))
  blk_ext [iblk, V, idx t]

/-- The array the call leaves is the weight gradient. -/
theorem final_2 (c : Dev nD) : (dats m 0 c).arrAt 2 (cfgs 0).N = wgrad (g := 1) (b := 5632) rfl
    (m ((c : Thread nD τ).loc main_arg0)) (m ((c : Thread nD τ).loc main_arg1)) := by
  refine (dats m 0 c).arrAt_eq_of_covers 2 _ (by decide +kernel) fun t hf y => ?_
  blk_simp; rw [after0_2]
  obtain ⟨z, p, j, rfl⟩ : ∃ (z : Fin 1) (p : Fin 1024) (j : Fin 512), y = ix3 z p j := ⟨_, _, _, eq_ix3 y⟩
  obtain rfl : z = 0 := Subsingleton.elim _ _
  frame_out
  pointwise [k0_pay1]
  refine Eq.trans (b := wgrad (g := 1) (b := 5632) rfl (m ((c : Thread nD τ).loc main_arg0))
    (m ((c : Thread nD τ).loc main_arg1)) (ix3 0 p ⟨t.val * 512 + j.val, by have := lt_N t; omega⟩)) ?_ ?_
  · unfold wgrad
    exact Finset.sum_congr rfl fun l _ => congrArg₂ _ (a_blk m c t p l) (b_blk m c t l j _ ((congrArg (· + _) (Nat.zero_mul 5632)).trans (Nat.zero_add _)))
  · blk_ext [idx t]

end Cert.Kernel8Ideal.Value

namespace Cert.Reference8Ideal.Value
open Cert.Reference8Ideal

theorem run_spec (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v7) = wgrad (g := 1) (b := 5632) rfl
          (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun _ h c => ⟨(h c).1.trans ?_, (h c).2⟩) (run m ρ)
  clear h
  funext y
  obtain ⟨z, p, j, rfl⟩ : ∃ (z : Fin 1) (p : Fin 1024) (j : Fin 5632), y = ix3 z p j := ⟨_, _, _, eq_ix3 y⟩
  unfold wgrad
  pointwise
  exact Finset.sum_congr rfl fun l _ => mul_comm _ _

end Cert.Reference8Ideal.Value

end
-- ==== Proof.Value9.lean ====
module
public import proofs.«01_k».proof.Proof.Gen.Kernel9Ideal.Value
public import proofs.«01_k».proof.Proof.Gen.Reference9Ideal.Run
public import proofs.«01_k».proof.Proof.Product
public import Idealize.ShloMosaic.Lib.Pipeline.ValueKit

/-! The weight gradient of the feed-forward output product: what the kernel leaves and what the reference returns. -/

@[expose] public section
set_option maxRecDepth 16384
noncomputable section
open Idealize.ShloMosaic Idealize.ShloMosaic.TcCoe Idealize.SL.Sem
open Idealize.ShloMosaic.Pipeline (Dat)
open Cert.Product

namespace Cert.Kernel9Ideal.Value
open Cert.Kernel9Ideal Cert.Kernel9Ideal.Gen

variable (m : (ℓ : Loc nD τ sig) → Buf (Elt Ideal) ℓ)

theorem idx : ∀ t : Fin cfg0.N, win0_0.index t = ![t.val, 0]
    ∧ win0_1.index t = ![0, 0]
    ∧ win0_2.index t = ![0, t.val, 0] :=
  (by decide +kernel : ∀ t : Fin grid0.N, _)

/-- The rows as the call takes them, turned. -/
theorem v0_at (c : Dev nD) (j : Fin 2816) (l : Fin 4096) :
    V m c main_v0 (ix2 j l) = m ((c : Thread nD τ).loc main_arg0) (ix2 l j) := by
  simp only [V, List.flatten_cons, List.flatten_nil, hostOps0, List.cons_append, List.nil_append]
  entry_read
  pointwise

theorem lt_N (t : Fin cfg0.N) : t.val < 2 := lt_of_lt_of_eq t.isLt (show cfg0.N = 2 from N_0)

theorem a_blk (c : Dev nD) (t : Fin cfg0.N) (p : Fin 1408) (l : Fin 4096) :
    iblk m c 0 t (ix2 p l) = m ((c : Thread nD τ).loc main_arg0) (ix2 l ⟨t.val * 1408 + p.val, by have := lt_N t; omega⟩) := by
  refine Eq.trans ?_ (v0_at m c ⟨t.val * 1408 + p.val, by have := lt_N t; omega⟩ l)
  blk_ext [iblk, idx t]

theorem b_blk (c : Dev nD) (t : Fin cfg0.N) (l : Fin 4096) (q : Fin 1024) :
    iblk m c 1 t (ix2 l q) = m ((c : Thread nD τ).loc main_arg1) (ix2 l q) := by
  blk_ext [iblk, V, idx t]

/-- The array the call leaves is the weight gradient. -/
theorem final_2 (c : Dev nD) : (dats m 0 c).arrAt 2 (cfgs 0).N = wgrad (g := 1) (b := 1024) rfl
    (m ((c : Thread nD τ).loc main_arg0)) (m ((c : Thread nD τ).loc main_arg1)) := by
  refine (dats m 0 c).arrAt_eq_of_covers 2 _ (by decide +kernel) fun t hf y => ?_
  blk_simp; rw [after0_2]
  obtain ⟨z, p, j, rfl⟩ : ∃ (z : Fin 1) (p : Fin 1408) (j : Fin 1024), y = ix3 z p j := ⟨_, _, _, eq_ix3 y⟩
  obtain rfl : z = 0 := Subsingleton.elim _ _
  frame_out
  pointwise [k0_pay1]
  refine Eq.trans (b := wgrad (g := 1) (b := 1024) rfl (m ((c : Thread nD τ).loc main_arg0))
    (m ((c : Thread nD τ).loc main_arg1)) (ix3 0 ⟨t.val * 1408 + p.val, by have := lt_N t; omega⟩ j)) ?_ ?_
  · unfold wgrad
    exact Finset.sum_congr rfl fun l _ => congrArg₂ _ (a_blk m c t p l) ((b_blk m c t l j).trans (by congr 2; exact Fin.ext (by simp)))
  · blk_ext [idx t]

end Cert.Kernel9Ideal.Value

namespace Cert.Reference9Ideal.Value
open Cert.Reference9Ideal

theorem run_spec (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v7) = wgrad (g := 1) (b := 1024) rfl
          (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun _ h c => ⟨(h c).1.trans ?_, (h c).2⟩) (run m ρ)
  clear h
  funext y
  obtain ⟨z, p, j, rfl⟩ : ∃ (z : Fin 1) (p : Fin 2816) (j : Fin 1024), y = ix3 z p j := ⟨_, _, _, eq_ix3 y⟩
  unfold wgrad
  pointwise
  exact Finset.sum_congr rfl fun l _ => mul_comm _ _

end Cert.Reference9Ideal.Value

end
-- ==== Proof.Adam.lean ====
module
public import Idealize.ShloMosaic.Lib.Pipeline.ValueKit

/-! An AdamW step: the moments and the change of the weight, at one entry and over an array. -/

@[expose] public section
noncomputable section
open Idealize.ShloMosaic

namespace Cert.Adam

/-- The new first moment. -/
def newM (g m : EReal) : EReal :=
  Ideal.ofBits .f32 0x3F666666#32 * m + Ideal.ofBits .f32 0x3DCCCCCD#32 * g

/-- The new second moment. -/
def newV (g v : EReal) : EReal :=
  Ideal.ofBits .f32 0x3F7FBE77#32 * v + Ideal.ofBits .f32 0x3A83126F#32 * (g * g)

/-- The change of the weight. -/
def delta (g w m v : EReal) : EReal :=
  Ideal.ofBits .f32 0xBA83126F#32 *
    (Ideal.div (Ideal.div (newM g m) (Ideal.ofBits .f32 0x3F26BD02#32))
        (Ideal.sqrt (Ideal.div (newV g v) (Ideal.ofBits .f32 0x3C231ACC#32)) + Ideal.ofBits .f32 0x322BCC77#32)
      + Ideal.ofBits .f32 0x3C23D70A#32 * w)

variable {s : Shape}

/-- The new first moments of an array of gradients. -/
def moments (g m : s.Idx → EReal) : s.Idx → EReal := fun y => newM (g y) (m y)

/-- The new second moments. -/
def squares (g v : s.Idx → EReal) : s.Idx → EReal := fun y => newV (g y) (v y)

/-- The changes of the weights. -/
def changes (g w m v : s.Idx → EReal) : s.Idx → EReal := fun y => delta (g y) (w y) (m y) (v y)

/-! A weight of two layers: the step of the first, the second's arrays as they were. The gradient is the chip's own part,
in bfloat16, and three more summed onto it. -/

variable {R C : ℕ}

/-- The gradient of the first layer (the same at both). -/
def summed (p : (⟨3, ![4, R, C]⟩ : Shape).Idx → EReal) (r : (⟨3, ![3, R, C]⟩ : Shape).Idx → EReal) :
    (⟨3, ![2, R, C]⟩ : Shape).Idx → EReal := fun y =>
  p (ix3 0 (y 1) (y 2)) + ∑ k, r (ix3 k (y 1) (y 2))

/-- New entries in the first layer, the old ones in the second. -/
def first (new old : (⟨3, ![2, R, C]⟩ : Shape).Idx → EReal) : (⟨3, ![2, R, C]⟩ : Shape).Idx → EReal := fun y =>
  if (y 0 : ℕ) / 1 = 0 then new y else old y

theorem summed_at (p : (⟨3, ![4, R, C]⟩ : Shape).Idx → EReal) (r : (⟨3, ![3, R, C]⟩ : Shape).Idx → EReal)
    (l : Fin 2) (i : Fin R) (j : Fin C) :
    p (ix3 0 i j) + r (ix3 0 i j) + r (ix3 1 i j) + r (ix3 2 i j) = summed p r (ix3 l i j) := by
  show _ = p (ix3 0 i j) + ∑ k, r (ix3 k i j)
  simp only [Fin.sum_univ_three, add_assoc]

end Cert.Adam
end
-- ==== Proof.Value10.lean ====
module
public import proofs.«01_k».proof.Proof.Gen.Kernel10Ideal.Value
public import proofs.«01_k».proof.Proof.Gen.Reference10Ideal.Run
public import proofs.«01_k».proof.Proof.Adam
public import Idealize.ShloMosaic.Lib.Pipeline.ValueKit

/-! The step of the conditioning's weights: what the kernel leaves and what the reference returns. -/

@[expose] public section
set_option maxRecDepth 16384
noncomputable section
open Idealize.ShloMosaic Idealize.ShloMosaic.TcCoe Idealize.SL.Sem
open Idealize.ShloMosaic.Pipeline (Dat)
open Cert.Adam

namespace Cert.Adam

/-- The conditioning's activation. -/
def act (c : EReal) : EReal := c * Ideal.div 1 (1 + Ideal.exp (-c))

/-- The gradient of the conditioning's weights, over the batch of eight. -/
def adaGrad (c : (⟨2, ![8, 1024]⟩ : Shape).Idx → EReal) (d : (⟨3, ![2, 8, 768]⟩ : Shape).Idx → EReal) :
    (⟨3, ![2, 1024, 768]⟩ : Shape).Idx → EReal :=
  fun y => ∑ b : Fin 8, d (ix3 (y 0) b (y 2)) * act (c (ix2 b (y 1)))

theorem adaGrad_at (c : (⟨2, ![8, 1024]⟩ : Shape).Idx → EReal) (d : (⟨3, ![2, 8, 768]⟩ : Shape).Idx → EReal)
    (l : Fin 2) (p : Fin 1024) (j : Fin 768) :
    act (c (ix2 0 p)) * d (ix3 l 0 j) + act (c (ix2 1 p)) * d (ix3 l 1 j) + act (c (ix2 2 p)) * d (ix3 l 2 j)
      + act (c (ix2 3 p)) * d (ix3 l 3 j) + act (c (ix2 4 p)) * d (ix3 l 4 j) + act (c (ix2 5 p)) * d (ix3 l 5 j)
      + act (c (ix2 6 p)) * d (ix3 l 6 j) + act (c (ix2 7 p)) * d (ix3 l 7 j) = adaGrad c d (ix3 l p j) := by
  refine Eq.trans (Fin.sum_univ_eight fun b : Fin 8 => act (c (ix2 b p)) * d (ix3 l b j)).symm ?_
  exact Finset.sum_congr rfl fun b _ => mul_comm _ _

end Cert.Adam

namespace Cert.Kernel10Ideal.Value
open Cert.Kernel10Ideal Cert.Kernel10Ideal.Gen

variable (m : (ℓ : Loc nD τ sig) → Buf (Elt Ideal) ℓ)

theorem idx : ∀ t : Fin cfg0.N, win0_0.index t = ![t.val % 2, 0] ∧ win0_1.index t = ![t.val / 2, 0, 0]
    ∧ win0_2.index t = ![t.val / 2, t.val % 2, 0] ∧ win0_3.index t = ![t.val / 2, t.val % 2, 0]
    ∧ win0_4.index t = ![t.val / 2, t.val % 2, 0] ∧ win0_5.index t = ![t.val / 2, t.val % 2, 0]
    ∧ win0_6.index t = ![t.val / 2, t.val % 2, 0] ∧ win0_7.index t = ![t.val / 2, t.val % 2, 0]
    ∧ win0_8.index t = ![t.val / 2, t.val % 2, 0] :=
  (by decide +kernel : ∀ t : Fin grid0.N, _)

theorem lt_N (t : Fin cfg0.N) : t.val < 4 := lt_of_lt_of_eq t.isLt (show cfg0.N = 4 from N_0)

/-- The layer of a block. -/
def lay (t : Fin cfg0.N) : Fin 2 := ⟨t.val / 2, by have := lt_N t; omega⟩

/-- The row of the whole array that a row of a block is. -/
def row (t : Fin cfg0.N) (p : Fin 512) : Fin 1024 := ⟨t.val % 2 * 512 + p.val, by omega⟩

/-- The activation as the call takes it. -/
theorem v7_at (c : Dev nD) (p : Fin 1024) (b : Fin 8) :
    V m c main_v7 (ix2 p b) = act (m ((c : Thread nD τ).loc main_arg0) (ix2 b p)) := by
  unfold act
  simp only [V, List.flatten_cons, List.flatten_nil, hostOps0, List.cons_append, List.nil_append]
  entry_read
  pointwise

theorem c_blk (c : Dev nD) (t : Fin cfg0.N) (p : Fin 512) (b : Fin 8) :
    iblk m c 0 t (ix2 p b) = act (m ((c : Thread nD τ).loc main_arg0) (ix2 b (row t p))) := by
  refine Eq.trans ?_ (v7_at m c (row t p) b)
  blk_ext [iblk, row, idx t]
theorem d_blk (c : Dev nD) (t : Fin cfg0.N) (b : Fin 8) (j : Fin 768) :
    iblk m c 1 t (ix3 0 b j) = m ((c : Thread nD τ).loc main_arg1) (ix3 (lay t) b j) := by
  blk_ext [iblk, V, lay, idx t]
theorem w_blk (c : Dev nD) (t : Fin cfg0.N) (p : Fin 512) (j : Fin 768) :
    iblk m c 2 t (ix3 0 p j) = m ((c : Thread nD τ).loc main_arg2) (ix3 (lay t) (row t p) j) := by
  blk_ext [iblk, V, lay, row, idx t]
theorem m_blk (c : Dev nD) (t : Fin cfg0.N) (p : Fin 512) (j : Fin 768) :
    iblk m c 3 t (ix3 0 p j) = m ((c : Thread nD τ).loc main_arg3) (ix3 (lay t) (row t p) j) := by
  blk_ext [iblk, V, lay, row, idx t]
theorem v_blk (c : Dev nD) (t : Fin cfg0.N) (p : Fin 512) (j : Fin 768) :
    iblk m c 4 t (ix3 0 p j) = m ((c : Thread nD τ).loc main_arg4) (ix3 (lay t) (row t p) j) := by
  blk_ext [iblk, V, lay, row, idx t]

/-- The gradients. -/
theorem final_5 (c : Dev nD) : (dats m 0 c).arrAt 5 (cfgs 0).N
    = adaGrad (m ((c : Thread nD τ).loc main_arg0))
        (m ((c : Thread nD τ).loc main_arg1)) := by
  refine (dats m 0 c).arrAt_eq_of_covers 5 _ (by decide +kernel) fun t hf y => ?_
  blk_simp; rw [after0_5]
  obtain ⟨a, p, j, rfl⟩ : ∃ (a : Fin 1) (p : Fin 512) (j : Fin 768), y = ix3 a p j := ⟨_, _, _, eq_ix3 y⟩
  obtain rfl : a = 0 := Subsingleton.elim _ _
  frame_out
  pointwise [k0_pay1, k0_pay2, k0_pay3, k0_pay4, k0_pay5, k0_pay6, k0_pay7, k0_pay8, k0_pay9, k0_pay10, k0_pay11,
    k0_pay12, k0_pay13]
  simp only [c_blk, d_blk, w_blk, m_blk, v_blk, adaGrad_at]
  refine Eq.trans (b := adaGrad (m ((c : Thread nD τ).loc main_arg0))
        (m ((c : Thread nD τ).loc main_arg1))
    (ix3 (lay t) (row t p) j)) ?_ ?_
  · rfl
  · blk_ext [lay, row, idx t]

/-- The changes of the weights. -/
theorem final_6 (c : Dev nD) : (dats m 0 c).arrAt 6 (cfgs 0).N
    = changes (adaGrad (m ((c : Thread nD τ).loc main_arg0))
        (m ((c : Thread nD τ).loc main_arg1))) (m ((c : Thread nD τ).loc main_arg2))
        (m ((c : Thread nD τ).loc main_arg3)) (m ((c : Thread nD τ).loc main_arg4)) := by
  refine (dats m 0 c).arrAt_eq_of_covers 6 _ (by decide +kernel) fun t hf y => ?_
  blk_simp; rw [after0_6]
  obtain ⟨a, p, j, rfl⟩ : ∃ (a : Fin 1) (p : Fin 512) (j : Fin 768), y = ix3 a p j := ⟨_, _, _, eq_ix3 y⟩
  obtain rfl : a = 0 := Subsingleton.elim _ _
  frame_out
  pointwise [k0_pay1, k0_pay2, k0_pay3, k0_pay4, k0_pay5, k0_pay6, k0_pay7, k0_pay8, k0_pay9, k0_pay10, k0_pay11,
    k0_pay12, k0_pay13]
  simp only [c_blk, d_blk, w_blk, m_blk, v_blk, adaGrad_at]
  refine Eq.trans (b := changes (adaGrad (m ((c : Thread nD τ).loc main_arg0))
        (m ((c : Thread nD τ).loc main_arg1))) (m ((c : Thread nD τ).loc main_arg2))
        (m ((c : Thread nD τ).loc main_arg3)) (m ((c : Thread nD τ).loc main_arg4))
    (ix3 (lay t) (row t p) j)) ?_ ?_
  · rfl
  · blk_ext [lay, row, idx t]

/-- The new first moments. -/
theorem final_7 (c : Dev nD) : (dats m 0 c).arrAt 7 (cfgs 0).N
    = moments (adaGrad (m ((c : Thread nD τ).loc main_arg0))
        (m ((c : Thread nD τ).loc main_arg1))) (m ((c : Thread nD τ).loc main_arg3)) := by
  refine (dats m 0 c).arrAt_eq_of_covers 7 _ (by decide +kernel) fun t hf y => ?_
  blk_simp; rw [after0_7]
  obtain ⟨a, p, j, rfl⟩ : ∃ (a : Fin 1) (p : Fin 512) (j : Fin 768), y = ix3 a p j := ⟨_, _, _, eq_ix3 y⟩
  obtain rfl : a = 0 := Subsingleton.elim _ _
  frame_out
  pointwise [k0_pay1, k0_pay2, k0_pay3, k0_pay4, k0_pay5, k0_pay6, k0_pay7, k0_pay8, k0_pay9, k0_pay10, k0_pay11,
    k0_pay12, k0_pay13]
  simp only [c_blk, d_blk, w_blk, m_blk, v_blk, adaGrad_at]
  refine Eq.trans (b := moments (adaGrad (m ((c : Thread nD τ).loc main_arg0))
        (m ((c : Thread nD τ).loc main_arg1))) (m ((c : Thread nD τ).loc main_arg3))
    (ix3 (lay t) (row t p) j)) ?_ ?_
  · rfl
  · blk_ext [lay, row, idx t]

/-- The new second moments. -/
theorem final_8 (c : Dev nD) : (dats m 0 c).arrAt 8 (cfgs 0).N
    = squares (adaGrad (m ((c : Thread nD τ).loc main_arg0))
        (m ((c : Thread nD τ).loc main_arg1))) (m ((c : Thread nD τ).loc main_arg4)) := by
  refine (dats m 0 c).arrAt_eq_of_covers 8 _ (by decide +kernel) fun t hf y => ?_
  blk_simp; rw [after0_8]
  obtain ⟨a, p, j, rfl⟩ : ∃ (a : Fin 1) (p : Fin 512) (j : Fin 768), y = ix3 a p j := ⟨_, _, _, eq_ix3 y⟩
  obtain rfl : a = 0 := Subsingleton.elim _ _
  frame_out
  pointwise [k0_pay1, k0_pay2, k0_pay3, k0_pay4, k0_pay5, k0_pay6, k0_pay7, k0_pay8, k0_pay9, k0_pay10, k0_pay11,
    k0_pay12, k0_pay13]
  simp only [c_blk, d_blk, w_blk, m_blk, v_blk, adaGrad_at]
  refine Eq.trans (b := squares (adaGrad (m ((c : Thread nD τ).loc main_arg0))
        (m ((c : Thread nD τ).loc main_arg1))) (m ((c : Thread nD τ).loc main_arg4))
    (ix3 (lay t) (row t p) j)) ?_ ?_
  · rfl
  · blk_ext [lay, row, idx t]

end Cert.Kernel10Ideal.Value

namespace Cert.Reference10Ideal.Value
open Cert.Reference10Ideal

theorem run_spec (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5) = adaGrad (m ((c.tc : Thread nD τ).loc main_arg0))
          (m ((c.tc : Thread nD τ).loc main_arg1))
      ∧ r.2.mem ((c.tc : Thread nD τ).loc main_v29) = changes (adaGrad (m ((c.tc : Thread nD τ).loc main_arg0))
          (m ((c.tc : Thread nD τ).loc main_arg1))) (m ((c.tc : Thread nD τ).loc main_arg2))
          (m ((c.tc : Thread nD τ).loc main_arg3)) (m ((c.tc : Thread nD τ).loc main_arg4))
      ∧ r.2.mem ((c.tc : Thread nD τ).loc main_v10) = moments (adaGrad (m ((c.tc : Thread nD τ).loc main_arg0))
          (m ((c.tc : Thread nD τ).loc main_arg1))) (m ((c.tc : Thread nD τ).loc main_arg3))
      ∧ r.2.mem ((c.tc : Thread nD τ).loc main_v16) = squares (adaGrad (m ((c.tc : Thread nD τ).loc main_arg0))
          (m ((c.tc : Thread nD τ).loc main_arg1))) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun _ h c => ⟨(h c).1.trans ?_, (h c).2.1.trans ?_, (h c).2.2.1.trans ?_, (h c).2.2.2.1.trans ?_, (h c).2.2.2.2⟩) (run m ρ)
  all_goals
    clear h
    funext y
    obtain ⟨a, p, j, rfl⟩ : ∃ (a : Fin 2) (p : Fin 1024) (j : Fin 768), y = ix3 a p j := ⟨_, _, _, eq_ix3 y⟩
    simp only [changes, moments, squares, delta, newM, newV, adaGrad, act]
    pointwise

end Cert.Reference10Ideal.Value

end
-- ==== Proof.Value11.lean ====
module
public import proofs.«01_k».proof.Proof.Gen.Kernel11Ideal.Value
public import proofs.«01_k».proof.Proof.Gen.Reference11Ideal.Run
public import proofs.«01_k».proof.Proof.Adam
public import Idealize.ShloMosaic.Lib.Pipeline.ValueKit

/-! The step of the convolutions' weights: what the kernel leaves and what the reference returns. -/

@[expose] public section
set_option maxRecDepth 16384
noncomputable section
open Idealize.ShloMosaic Idealize.ShloMosaic.TcCoe Idealize.SL.Sem
open Idealize.ShloMosaic.Pipeline (Dat)
open Cert.Adam

namespace Cert.Kernel11Ideal.Value
open Cert.Kernel11Ideal Cert.Kernel11Ideal.Gen

variable (m : (ℓ : Loc nD τ sig) → Buf (Elt Ideal) ℓ)

theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0] :=
  (by decide +kernel : ∀ t : Fin grid0.N, _)

theorem g_blk (c : Dev nD) (t : Fin cfg0.N) (y : S72x128.Idx) : iblk m c 0 t y = m ((c : Thread nD τ).loc main_arg0) y := by
  blk_ext [iblk, V, idx t]
theorem w_blk (c : Dev nD) (t : Fin cfg0.N) (y : S72x128.Idx) : iblk m c 1 t y = m ((c : Thread nD τ).loc main_arg1) y := by
  blk_ext [iblk, V, idx t]
theorem m_blk (c : Dev nD) (t : Fin cfg0.N) (y : S72x128.Idx) : iblk m c 2 t y = m ((c : Thread nD τ).loc main_arg2) y := by
  blk_ext [iblk, V, idx t]
theorem v_blk (c : Dev nD) (t : Fin cfg0.N) (y : S72x128.Idx) : iblk m c 3 t y = m ((c : Thread nD τ).loc main_arg3) y := by
  blk_ext [iblk, V, idx t]

/-- The changes of the weights. -/
theorem final_4 (c : Dev nD) : (dats m 0 c).arrAt 4 (cfgs 0).N
    = changes (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t hf y => ?_
  blk_simp; rw [after0_4]
  obtain ⟨p, j, rfl⟩ : ∃ (p : Fin 72) (j : Fin 128), y = ix2 p j := ⟨_, _, eq_ix2 y⟩
  frame_out
  pointwise [k0_pay1, k0_pay2, k0_pay3]
  rw [g_blk, w_blk, m_blk, v_blk]
  refine Eq.trans (b := changes (m ((c : Thread nD τ).loc main_arg0)) (m ((c : Thread nD τ).loc main_arg1))
        (m ((c : Thread nD τ).loc main_arg2)) (m ((c : Thread nD τ).loc main_arg3)) (ix2 p j)) rfl ?_
  blk_ext [idx t]

/-- The new first moments. -/
theorem final_5 (c : Dev nD) : (dats m 0 c).arrAt 5 (cfgs 0).N
    = moments (m ((c : Thread nD τ).loc main_arg0)) (m ((c : Thread nD τ).loc main_arg2)) := by
  refine (dats m 0 c).arrAt_eq_of_covers 5 _ (by decide +kernel) fun t hf y => ?_
  blk_simp; rw [after0_5]
  obtain ⟨p, j, rfl⟩ : ∃ (p : Fin 72) (j : Fin 128), y = ix2 p j := ⟨_, _, eq_ix2 y⟩
  frame_out
  pointwise [k0_pay1]
  rw [g_blk, m_blk]
  refine Eq.trans (b := moments (m ((c : Thread nD τ).loc main_arg0)) (m ((c : Thread nD τ).loc main_arg2)) (ix2 p j)) rfl ?_
  blk_ext [idx t]

/-- The new second moments. -/
theorem final_6 (c : Dev nD) : (dats m 0 c).arrAt 6 (cfgs 0).N
    = squares (m ((c : Thread nD τ).loc main_arg0)) (m ((c : Thread nD τ).loc main_arg3)) := by
  refine (dats m 0 c).arrAt_eq_of_covers 6 _ (by decide +kernel) fun t hf y => ?_
  blk_simp; rw [after0_6]
  obtain ⟨p, j, rfl⟩ : ∃ (p : Fin 72) (j : Fin 128), y = ix2 p j := ⟨_, _, eq_ix2 y⟩
  frame_out
  pointwise [k0_pay2]
  rw [g_blk, v_blk]
  refine Eq.trans (b := squares (m ((c : Thread nD τ).loc main_arg0)) (m ((c : Thread nD τ).loc main_arg3)) (ix2 p j)) rfl ?_
  blk_ext [idx t]

end Cert.Kernel11Ideal.Value

namespace Cert.Reference11Ideal.Value
open Cert.Reference11Ideal

theorem run_spec (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v23) = changes (m ((c.tc : Thread nD τ).loc main_arg0))
          (m ((c.tc : Thread nD τ).loc main_arg1)) (m ((c.tc : Thread nD τ).loc main_arg2)) (m ((c.tc : Thread nD τ).loc main_arg3))
      ∧ r.2.mem ((c.tc : Thread nD τ).loc main_v4) = moments (m ((c.tc : Thread nD τ).loc main_arg0)) (m ((c.tc : Thread nD τ).loc main_arg2))
      ∧ r.2.mem ((c.tc : Thread nD τ).loc main_v10) = squares (m ((c.tc : Thread nD τ).loc main_arg0)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun _ h c => ⟨(h c).1.trans ?_, (h c).2.1.trans ?_, (h c).2.2.1.trans ?_, (h c).2.2.2⟩) (run m ρ)
  all_goals
    clear h
    funext y
    obtain ⟨p, j, rfl⟩ : ∃ (p : Fin 72) (j : Fin 128), y = ix2 p j := ⟨_, _, eq_ix2 y⟩
    simp only [changes, moments, squares, delta, newM, newV]
    pointwise

end Cert.Reference11Ideal.Value

end
-- ==== Proof.Value12.lean ====
module
public import proofs.«01_k».proof.Proof.Gen.Kernel12Ideal.Frame
public import proofs.«01_k».proof.Proof.Gen.Kernel12.Frame
public import proofs.«01_k».proof.Proof.Gen.Reference12Ideal.Run
public import proofs.«01_k».proof.Proof.Adam
public import Idealize.ShloMosaic.Lib.Pipeline.ValueKit

/-! The step of the first layer's input projection: what the kernel leaves and what the reference returns. -/

@[expose] public section
set_option maxRecDepth 16384
noncomputable section
open Idealize.ShloMosaic Idealize.ShloMosaic.TcCoe Idealize.SL.Sem
open Idealize.ShloMosaic.Pipeline (Dat)
open Cert.Adam

namespace Cert.Kernel12.Value
open Cert.Kernel12 Cert.Kernel12.Gen

variable {F : FTy → Type} [FloatOps F] (m : (ℓ : Loc nD τ sig) → Buf (Elt F) ℓ)

/-- The table of the chip's index holds zero. -/
theorem tbl_zero : tbl m 0 = (fun _ => 0#32 : main_v0.ty.shape.Idx → BitVec 32) := by
  funext y
  show V m (0 : Dev nD) main_v0 y = 0#32
  simp only [V, List.flatten_cons, List.flatten_nil, hostOps0, List.cons_append, List.nil_append]
  entry_read
  pointwise

theorem index_zero (i : grid0.Coords) : cc0_transform_0 inb_S1_S1_0 numel1_S1 (tbl m) i = ![0, (i 0).val, 0] := by
  have h : (tbl m).at 0 (Rect.unit (s := S1) ![0] S1.size inb_S1_S1_0) numel1_S1 = 0#32 := by
    show tbl m 0 _ = _
    rw [tbl_zero]
  have hi : (i 0).val < 2 ^ 32 := lt_of_lt_of_le (i 0).isLt (by decide +kernel)
  simp only [cc0_transform_0, h, BitVec.toNat_ofNat, Nat.mod_eq_of_lt hi]

theorem blk_ok : ∀ i : grid0.Coords, ∃ h : ∀ a, ((![0, (i 0).val, 0] : Fin 3 → Nat) a + 1) * S1x256x1280.size a ≤ S4x1024x1280.size a,
    EltTy.bits .bf16 = 32 ∨ (Rect.block (s := S4x1024x1280) S1x256x1280.size ![0, (i 0).val, 0] h).WholeWords (EltTy.packing .bf16) := by
  decide +kernel

theorem ok : Ok m := by
  intro i
  simp only [index_zero]
  exact blk_ok i

end Cert.Kernel12.Value

namespace Cert.Kernel12Ideal.Value
open Cert.Kernel12Ideal Cert.Kernel12Ideal.Gen

variable {F : FTy → Type} [FloatOps F] (m : (ℓ : Loc nD τ sig) → Buf (Elt F) ℓ)

/-- The table of the chip's index holds zero. -/
theorem tbl_zero : tbl m 0 = (fun _ => 0#32 : main_v0.ty.shape.Idx → BitVec 32) := by
  funext y
  show V m (0 : Dev nD) main_v0 y = 0#32
  simp only [V, List.flatten_cons, List.flatten_nil, hostOps0, List.cons_append, List.nil_append]
  entry_read
  pointwise

theorem index_zero (i : grid0.Coords) : cc0_transform_0 inb_S1_S1_0 numel1_S1 (tbl m) i = ![0, (i 0).val, 0] := by
  have h : (tbl m).at 0 (Rect.unit (s := S1) ![0] S1.size inb_S1_S1_0) numel1_S1 = 0#32 := by
    show tbl m 0 _ = _
    rw [tbl_zero]
  have hi : (i 0).val < 2 ^ 32 := lt_of_lt_of_le (i 0).isLt (by decide +kernel)
  simp only [cc0_transform_0, h, BitVec.toNat_ofNat, Nat.mod_eq_of_lt hi]

theorem blk_ok : ∀ i : grid0.Coords, ∃ h : ∀ a, ((![0, (i 0).val, 0] : Fin 3 → Nat) a + 1) * S1x256x1280.size a ≤ S4x1024x1280.size a,
    EltTy.bits .bf16 = 32 ∨ (Rect.block (s := S4x1024x1280) S1x256x1280.size ![0, (i 0).val, 0] h).WholeWords (EltTy.packing .bf16) := by
  decide +kernel

theorem ok : Ok m := by
  intro i
  simp only [index_zero]
  exact blk_ok i

section
variable (m : (ℓ : Loc nD τ sig) → Buf (Elt Ideal) ℓ)

theorem maps : ∀ t : Fin grid0.N, ((grid0.coords t) 0).val = t.val ∧ cc0_transform_1 (grid0.coords t) = ![0, t.val, 0]
    ∧ cc0_transform_2 (grid0.coords t) = ![0, t.val, 0] ∧ cc0_transform_3 (grid0.coords t) = ![0, t.val, 0]
    ∧ cc0_transform_4 (grid0.coords t) = ![0, t.val, 0] ∧ cc0_transform_9 (grid0.coords t) = ![0, t.val, 0]
    ∧ cc0_transform_10 (grid0.coords t) = ![0, t.val, 0] ∧ cc0_transform_11 (grid0.coords t) = ![0, t.val, 0]
    ∧ cc0_transform_12 (grid0.coords t) = ![0, t.val, 0] := by
  decide +kernel

theorem idx (t : Fin grid0.N) : ((cfgM m (ok m)).win 0).index t = ![0, t.val, 0]
    ∧ ((cfgM m (ok m)).win 1).index t = ![0, t.val, 0] ∧ ((cfgM m (ok m)).win 2).index t = ![0, t.val, 0]
    ∧ ((cfgM m (ok m)).win 3).index t = ![0, t.val, 0] ∧ ((cfgM m (ok m)).win 4).index t = ![0, t.val, 0]
    ∧ ((cfgM m (ok m)).win 5).index t = ![0, t.val, 0] ∧ ((cfgM m (ok m)).win 6).index t = ![0, t.val, 0]
    ∧ ((cfgM m (ok m)).win 7).index t = ![0, t.val, 0] ∧ ((cfgM m (ok m)).win 8).index t = ![0, t.val, 0] :=
  ⟨(index_zero m (grid0.coords t)).trans (by rw [(maps t).1]), (maps t).2⟩

theorem lt_N (t : Fin grid0.N) : t.val < 4 := t.isLt.trans_eq (by decide +kernel)

/-- A row of a block, in the weight. -/
def row (t : Fin grid0.N) (q : Fin 256) : Fin 1024 := ⟨256 * t.val + q.val, by have := lt_N t; omega⟩

theorem p_blk (c : Dev nD) (t : Fin grid0.N) (q : Fin 256) (j : Fin 1280) :
    iblk m (ok m) c 0 t (ix3 0 q j) = m ((c : Thread nD τ).loc main_arg0) (ix3 0 (row t q) j) := by
  blk_ext [iblk, V, row, idx m t]
theorem r_blk (c : Dev nD) (t : Fin grid0.N) (k : Fin 3) (q : Fin 256) (j : Fin 1280) :
    iblk m (ok m) c 1 t (ix3 k q j) = m ((c : Thread nD τ).loc main_arg1) (ix3 k (row t q) j) := by
  blk_ext [iblk, V, row, idx m t]
theorem w_blk (c : Dev nD) (t : Fin grid0.N) (q : Fin 256) (j : Fin 1280) :
    iblk m (ok m) c 2 t (ix3 0 q j) = m ((c : Thread nD τ).loc main_arg2) (ix3 0 (row t q) j) := by
  blk_ext [iblk, V, row, idx m t]
theorem m_blk (c : Dev nD) (t : Fin grid0.N) (q : Fin 256) (j : Fin 1280) :
    iblk m (ok m) c 3 t (ix3 0 q j) = m ((c : Thread nD τ).loc main_arg3) (ix3 0 (row t q) j) := by
  blk_ext [iblk, V, row, idx m t]
theorem v_blk (c : Dev nD) (t : Fin grid0.N) (q : Fin 256) (j : Fin 1280) :
    iblk m (ok m) c 4 t (ix3 0 q j) = m ((c : Thread nD τ).loc main_arg4) (ix3 0 (row t q) j) := by
  blk_ext [iblk, V, row, idx m t]

variable (c : Dev nD)

/-- The gradients. -/
abbrev grad : S2x1024x1280.Idx → EReal :=
  summed (m ((c : Thread nD τ).loc main_arg0)) (m ((c : Thread nD τ).loc main_arg1))

/-- What the body writes, from the blocks it reads. -/
theorem outs (t : Fin grid0.N) (x0 : Vec Ideal S1x256x1280 .bf16) (x1 : Vec Ideal S3x256x1280 .bf16)
    (x2 x3 x4 : Vec Ideal S1x256x1280 .f32) (xt0 : TbBuf0 (F := Ideal) c tbM0_0) (p : Fin 256) (j : Fin 1280) (g : EReal)
    (hg : x0 (ix3 0 p j) + x1 (ix3 0 p j) + x1 (ix3 1 p j) + x1 (ix3 2 p j) = g) :
    out0_A_5 c (grid0.coords t) _ (hs0_0 m (ok m) t) _ (hs0_1 m (ok m) t) _ (hs0_2 m (ok m) t) _ (hs0_3 m (ok m) t) _ (hs0_4 m (ok m) t) _ (hs0_5 m (ok m) t) _ (hs0_6 m (ok m) t) _ (hs0_7 m (ok m) t) _ (hs0_8 m (ok m) t)
        x0 x1 x2 x3 x4 xt0 (ix3 0 p j) = g
    ∧ out0_A_6 c (grid0.coords t) _ (hs0_0 m (ok m) t) _ (hs0_1 m (ok m) t) _ (hs0_2 m (ok m) t) _ (hs0_3 m (ok m) t) _ (hs0_4 m (ok m) t) _ (hs0_5 m (ok m) t) _ (hs0_6 m (ok m) t) _ (hs0_7 m (ok m) t) _ (hs0_8 m (ok m) t)
        x0 x1 x2 x3 x4 xt0 (ix3 0 p j) = delta g (x2 (ix3 0 p j)) (x3 (ix3 0 p j)) (x4 (ix3 0 p j))
    ∧ out0_A_7 c (grid0.coords t) _ (hs0_0 m (ok m) t) _ (hs0_1 m (ok m) t) _ (hs0_2 m (ok m) t) _ (hs0_3 m (ok m) t) _ (hs0_4 m (ok m) t) _ (hs0_5 m (ok m) t) _ (hs0_6 m (ok m) t) _ (hs0_7 m (ok m) t) _ (hs0_8 m (ok m) t)
        x0 x1 x2 x3 x4 xt0 (ix3 0 p j) = newM g (x3 (ix3 0 p j))
    ∧ out0_A_8 c (grid0.coords t) _ (hs0_0 m (ok m) t) _ (hs0_1 m (ok m) t) _ (hs0_2 m (ok m) t) _ (hs0_3 m (ok m) t) _ (hs0_4 m (ok m) t) _ (hs0_5 m (ok m) t) _ (hs0_6 m (ok m) t) _ (hs0_7 m (ok m) t) _ (hs0_8 m (ok m) t)
        x0 x1 x2 x3 x4 xt0 (ix3 0 p j) = newV g (x4 (ix3 0 p j)) := by
  subst hg
  refine ⟨?_, ?_, ?_, ?_⟩
  all_goals
    simp only [out0_A_5, out0_A_6, out0_A_7, out0_A_8, delta, newM, newV]
    frame_out
    pointwise [k0_pay1, k0_pay2, k0_pay3, k0_pay4, k0_pay5, k0_pay6, k0_pay7, k0_pay8, k0_pay9]

/-- The same at a point, from the arrays. -/
theorem outs_at (t : Fin grid0.N) (p : Fin 256) (j : Fin 1280) :
    (outsAt0 m (ok m) c t).1 (ix3 0 p j) = grad m c (ix3 0 (row t p) j)
    ∧ (outsAt0 m (ok m) c t).2.1 (ix3 0 p j) = changes (grad m c) (m ((c : Thread nD τ).loc main_arg2))
        (m ((c : Thread nD τ).loc main_arg3)) (m ((c : Thread nD τ).loc main_arg4)) (ix3 0 (row t p) j)
    ∧ (outsAt0 m (ok m) c t).2.2.1 (ix3 0 p j) = moments (grad m c) (m ((c : Thread nD τ).loc main_arg3)) (ix3 0 (row t p) j)
    ∧ (outsAt0 m (ok m) c t).2.2.2 (ix3 0 p j) = squares (grad m c) (m ((c : Thread nD τ).loc main_arg4)) (ix3 0 (row t p) j) := by
  have h := outs m c t (iblk m (ok m) c 0 t) (iblk m (ok m) c 1 t) (iblk m (ok m) c 2 t) (iblk m (ok m) c 3 t)
    (iblk m (ok m) c 4 t) (tbl m 0) p j (grad m c (ix3 0 (row t p) j))
    (by rw [p_blk, r_blk, r_blk, r_blk]; exact summed_at _ _ _ _ _)
  rw [w_blk, m_blk, v_blk] at h
  unfold outsAt0
  dsimp only
  rw [h.1, h.2.1, h.2.2.1, h.2.2.2]
  exact ⟨rfl, rfl, rfl, rfl⟩

/-- The gradients. -/
theorem final_5 : (dats m (ok m) 0 c).arrAt 5 (cfgM m (ok m)).N = first (grad m c) (m ((c : Thread nD τ).loc main_arg5)) := by
  refine ((dats m (ok m) 0 c).arrAt_eq_of_coversWhere 5 (grad m c) (P := fun i : S2x1024x1280.Idx => (i 0 : ℕ) / 1 = 0)
    (fun β => β (0 : Fin 3) = 0) (of_decide_eq_true (by sl_kernel_rfl)) (fun t hf y => ?_) (fun j => Iff.rfl)).trans rfl
  blk_simp; rw [after0_5]
  obtain ⟨a, p, j, rfl⟩ : ∃ (a : Fin 1) (p : Fin 256) (j : Fin 1280), y = ix3 a p j := ⟨_, _, _, eq_ix3 y⟩
  obtain rfl : a = 0 := Subsingleton.elim _ _
  refine (outs_at m c t p j).1.trans ?_
  blk_ext [row, idx m t]

/-- The changes of the weights. -/
theorem final_6 : (dats m (ok m) 0 c).arrAt 6 (cfgM m (ok m)).N
    = first (changes (grad m c) (m ((c : Thread nD τ).loc main_arg2)) (m ((c : Thread nD τ).loc main_arg3))
        (m ((c : Thread nD τ).loc main_arg4))) (m ((c : Thread nD τ).loc main_arg6)) := by
  refine ((dats m (ok m) 0 c).arrAt_eq_of_coversWhere 6 (changes (grad m c) (m ((c : Thread nD τ).loc main_arg2))
      (m ((c : Thread nD τ).loc main_arg3)) (m ((c : Thread nD τ).loc main_arg4)))
    (P := fun i : S2x1024x1280.Idx => (i 0 : ℕ) / 1 = 0)
    (fun β => β (0 : Fin 3) = 0) (of_decide_eq_true (by sl_kernel_rfl)) (fun t hf y => ?_) (fun j => Iff.rfl)).trans rfl
  blk_simp; rw [after0_6]
  obtain ⟨a, p, j, rfl⟩ : ∃ (a : Fin 1) (p : Fin 256) (j : Fin 1280), y = ix3 a p j := ⟨_, _, _, eq_ix3 y⟩
  obtain rfl : a = 0 := Subsingleton.elim _ _
  refine (outs_at m c t p j).2.1.trans ?_
  blk_ext [row, idx m t]

/-- The new first moments. -/
theorem final_7 : (dats m (ok m) 0 c).arrAt 7 (cfgM m (ok m)).N
    = first (moments (grad m c) (m ((c : Thread nD τ).loc main_arg3))) (m ((c : Thread nD τ).loc main_arg7)) := by
  refine ((dats m (ok m) 0 c).arrAt_eq_of_coversWhere 7 (moments (grad m c) (m ((c : Thread nD τ).loc main_arg3)))
    (P := fun i : S2x1024x1280.Idx => (i 0 : ℕ) / 1 = 0)
    (fun β => β (0 : Fin 3) = 0) (of_decide_eq_true (by sl_kernel_rfl)) (fun t hf y => ?_) (fun j => Iff.rfl)).trans rfl
  blk_simp; rw [after0_7]
  obtain ⟨a, p, j, rfl⟩ : ∃ (a : Fin 1) (p : Fin 256) (j : Fin 1280), y = ix3 a p j := ⟨_, _, _, eq_ix3 y⟩
  obtain rfl : a = 0 := Subsingleton.elim _ _
  refine (outs_at m c t p j).2.2.1.trans ?_
  blk_ext [row, idx m t]

/-- The new second moments. -/
theorem final_8 : (dats m (ok m) 0 c).arrAt 8 (cfgM m (ok m)).N
    = first (squares (grad m c) (m ((c : Thread nD τ).loc main_arg4))) (m ((c : Thread nD τ).loc main_arg8)) := by
  refine ((dats m (ok m) 0 c).arrAt_eq_of_coversWhere 8 (squares (grad m c) (m ((c : Thread nD τ).loc main_arg4)))
    (P := fun i : S2x1024x1280.Idx => (i 0 : ℕ) / 1 = 0)
    (fun β => β (0 : Fin 3) = 0) (of_decide_eq_true (by sl_kernel_rfl)) (fun t hf y => ?_) (fun j => Iff.rfl)).trans rfl
  blk_simp; rw [after0_8]
  obtain ⟨a, p, j, rfl⟩ : ∃ (a : Fin 1) (p : Fin 256) (j : Fin 1280), y = ix3 a p j := ⟨_, _, _, eq_ix3 y⟩
  obtain rfl : a = 0 := Subsingleton.elim _ _
  refine (outs_at m c t p j).2.2.2.trans ?_
  blk_ext [row, idx m t]
/-- What the run leaves. -/
theorem run_blocks (ρ : Dev nD → PrngReg) :
    θ_run defs (onTc (τ := τ) (main (F := Ideal))) ⟨m, fun _ => 0, ρ⟩ fun r => ∀ c : Dev nD,
      r.2.mem ((c.tc : Thread nD τ).loc main_v1_0) = (dats m (ok m) 0 c).arrAt 5 (cfgM m (ok m)).N
      ∧ r.2.mem ((c.tc : Thread nD τ).loc main_v1_1) = (dats m (ok m) 0 c).arrAt 6 (cfgM m (ok m)).N
      ∧ r.2.mem ((c.tc : Thread nD τ).loc main_v1_2) = (dats m (ok m) 0 c).arrAt 7 (cfgM m (ok m)).N
      ∧ r.2.mem ((c.tc : Thread nD τ).loc main_v1_3) = (dats m (ok m) 0 c).arrAt 8 (cfgM m (ok m)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨(h.2 c).1 5, (h.2 c).1 6, (h.2 c).1 7, (h.2 c).1 8, h.1 c⟩)
    (θ_run_and (unchanged m ρ (ok m)) (run_main m ρ (ok m)))
end

end Cert.Kernel12Ideal.Value

namespace Cert.Reference12Ideal.Value
open Cert.Reference12Ideal

theorem run_spec (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v40) = first (summed (m ((c.tc : Thread nD τ).loc main_arg0))
          (m ((c.tc : Thread nD τ).loc main_arg1))) (m ((c.tc : Thread nD τ).loc main_arg5))
      ∧ r.2.mem ((c.tc : Thread nD τ).loc main_v45) = first (changes (summed (m ((c.tc : Thread nD τ).loc main_arg0))
          (m ((c.tc : Thread nD τ).loc main_arg1))) (m ((c.tc : Thread nD τ).loc main_arg2)) (m ((c.tc : Thread nD τ).loc main_arg3))
          (m ((c.tc : Thread nD τ).loc main_arg4))) (m ((c.tc : Thread nD τ).loc main_arg6))
      ∧ r.2.mem ((c.tc : Thread nD τ).loc main_v50) = first (moments (summed (m ((c.tc : Thread nD τ).loc main_arg0))
          (m ((c.tc : Thread nD τ).loc main_arg1))) (m ((c.tc : Thread nD τ).loc main_arg3))) (m ((c.tc : Thread nD τ).loc main_arg7))
      ∧ r.2.mem ((c.tc : Thread nD τ).loc main_v55) = first (squares (summed (m ((c.tc : Thread nD τ).loc main_arg0))
          (m ((c.tc : Thread nD τ).loc main_arg1))) (m ((c.tc : Thread nD τ).loc main_arg4))) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine (θ_run defs _ _).mono (fun _ h c => ⟨(h c).1.trans ?_, (h c).2.1.trans ?_, (h c).2.2.1.trans ?_, (h c).2.2.2.1.trans ?_, (h c).2.2.2.2⟩)
    (run m ρ)
  all_goals
    clear h
    funext y
    obtain ⟨l, p, j, rfl⟩ : ∃ (l : Fin 2) (p : Fin 1024) (j : Fin 1280), y = ix3 l p j := ⟨_, _, _, eq_ix3 y⟩
    simp only [first]
    fin_cases l
    · pointwise
      rfl
    · pointwise

end Cert.Reference12Ideal.Value

end
-- ==== Proof.Value13.lean ====
module
public import proofs.«01_k».proof.Proof.Gen.Kernel13Ideal.Frame
public import proofs.«01_k».proof.Proof.Gen.Kernel13.Frame
public import proofs.«01_k».proof.Proof.Gen.Reference13Ideal.Run
public import proofs.«01_k».proof.Proof.Adam
public import Idealize.ShloMosaic.Lib.Pipeline.ValueKit

/-! The step of the first layer's output projection, and of the three branches' output projections, which have its shape: what the kernel leaves and what the reference returns. -/

@[expose] public section
set_option maxRecDepth 16384
noncomputable section
open Idealize.ShloMosaic Idealize.ShloMosaic.TcCoe Idealize.SL.Sem
open Idealize.ShloMosaic.Pipeline (Dat)
open Cert.Adam

namespace Cert.Kernel13.Value
open Cert.Kernel13 Cert.Kernel13.Gen

variable {F : FTy → Type} [FloatOps F] (m : (ℓ : Loc nD τ sig) → Buf (Elt F) ℓ)

/-- The table of the chip's index holds zero. -/
theorem tbl_zero : tbl m 0 = (fun _ => 0#32 : main_v0.ty.shape.Idx → BitVec 32) := by
  funext y
  show V m (0 : Dev nD) main_v0 y = 0#32
  simp only [V, List.flatten_cons, List.flatten_nil, hostOps0, List.cons_append, List.nil_append]
  entry_read
  pointwise

theorem index_zero (i : grid0.Coords) : cc0_transform_0 inb_S1_S1_0 numel1_S1 (tbl m) i = ![0, (i 0).val, 0] := by
  have h : (tbl m).at 0 (Rect.unit (s := S1) ![0] S1.size inb_S1_S1_0) numel1_S1 = 0#32 := by
    show tbl m 0 _ = _
    rw [tbl_zero]
  have hi : (i 0).val < 2 ^ 32 := lt_of_lt_of_le (i 0).isLt (by decide +kernel)
  simp only [cc0_transform_0, h, BitVec.toNat_ofNat, Nat.mod_eq_of_lt hi]

theorem blk_ok : ∀ i : grid0.Coords, ∃ h : ∀ a, ((![0, (i 0).val, 0] : Fin 3 → Nat) a + 1) * S1x128x1024.size a ≤ S4x128x1024.size a,
    EltTy.bits .bf16 = 32 ∨ (Rect.block (s := S4x128x1024) S1x128x1024.size ![0, (i 0).val, 0] h).WholeWords (EltTy.packing .bf16) := by
  decide +kernel

theorem ok : Ok m := by
  intro i
  simp only [index_zero]
  exact blk_ok i

end Cert.Kernel13.Value

namespace Cert.Kernel13Ideal.Value
open Cert.Kernel13Ideal Cert.Kernel13Ideal.Gen

variable {F : FTy → Type} [FloatOps F] (m : (ℓ : Loc nD τ sig) → Buf (Elt F) ℓ)

/-- The table of the chip's index holds zero. -/
theorem tbl_zero : tbl m 0 = (fun _ => 0#32 : main_v0.ty.shape.Idx → BitVec 32) := by
  funext y
  show V m (0 : Dev nD) main_v0 y = 0#32
  simp only [V, List.flatten_cons, List.flatten_nil, hostOps0, List.cons_append, List.nil_append]
  entry_read
  pointwise

theorem index_zero (i : grid0.Coords) : cc0_transform_0 inb_S1_S1_0 numel1_S1 (tbl m) i = ![0, (i 0).val, 0] := by
  have h : (tbl m).at 0 (Rect.unit (s := S1) ![0] S1.size inb_S1_S1_0) numel1_S1 = 0#32 := by
    show tbl m 0 _ = _
    rw [tbl_zero]
  have hi : (i 0).val < 2 ^ 32 := lt_of_lt_of_le (i 0).isLt (by decide +kernel)
  simp only [cc0_transform_0, h, BitVec.toNat_ofNat, Nat.mod_eq_of_lt hi]

theorem blk_ok : ∀ i : grid0.Coords, ∃ h : ∀ a, ((![0, (i 0).val, 0] : Fin 3 → Nat) a + 1) * S1x128x1024.size a ≤ S4x128x1024.size a,
    EltTy.bits .bf16 = 32 ∨ (Rect.block (s := S4x128x1024) S1x128x1024.size ![0, (i 0).val, 0] h).WholeWords (EltTy.packing .bf16) := by
  decide +kernel

theorem ok : Ok m := by
  intro i
  simp only [index_zero]
  exact blk_ok i

section
variable (m : (ℓ : Loc nD τ sig) → Buf (Elt Ideal) ℓ)

theorem maps : ∀ t : Fin grid0.N, ((grid0.coords t) 0).val = t.val ∧ cc0_transform_1 (grid0.coords t) = ![0, t.val, 0]
    ∧ cc0_transform_2 (grid0.coords t) = ![0, t.val, 0] ∧ cc0_transform_3 (grid0.coords t) = ![0, t.val, 0]
    ∧ cc0_transform_4 (grid0.coords t) = ![0, t.val, 0] ∧ cc0_transform_9 (grid0.coords t) = ![0, t.val, 0]
    ∧ cc0_transform_10 (grid0.coords t) = ![0, t.val, 0] ∧ cc0_transform_11 (grid0.coords t) = ![0, t.val, 0]
    ∧ cc0_transform_12 (grid0.coords t) = ![0, t.val, 0] := by
  decide +kernel

theorem idx (t : Fin grid0.N) : ((cfgM m (ok m)).win 0).index t = ![0, t.val, 0]
    ∧ ((cfgM m (ok m)).win 1).index t = ![0, t.val, 0] ∧ ((cfgM m (ok m)).win 2).index t = ![0, t.val, 0]
    ∧ ((cfgM m (ok m)).win 3).index t = ![0, t.val, 0] ∧ ((cfgM m (ok m)).win 4).index t = ![0, t.val, 0]
    ∧ ((cfgM m (ok m)).win 5).index t = ![0, t.val, 0] ∧ ((cfgM m (ok m)).win 6).index t = ![0, t.val, 0]
    ∧ ((cfgM m (ok m)).win 7).index t = ![0, t.val, 0] ∧ ((cfgM m (ok m)).win 8).index t = ![0, t.val, 0] :=
  ⟨(index_zero m (grid0.coords t)).trans (by rw [(maps t).1]), (maps t).2⟩

theorem lt_N (t : Fin grid0.N) : t.val < 1 := t.isLt.trans_eq (by decide +kernel)

/-- A row of a block, in the weight. -/
def row (t : Fin grid0.N) (q : Fin 128) : Fin 128 := ⟨128 * t.val + q.val, by have := lt_N t; omega⟩

theorem p_blk (c : Dev nD) (t : Fin grid0.N) (q : Fin 128) (j : Fin 1024) :
    iblk m (ok m) c 0 t (ix3 0 q j) = m ((c : Thread nD τ).loc main_arg0) (ix3 0 (row t q) j) := by
  blk_ext [iblk, V, row, idx m t]
theorem r_blk (c : Dev nD) (t : Fin grid0.N) (k : Fin 3) (q : Fin 128) (j : Fin 1024) :
    iblk m (ok m) c 1 t (ix3 k q j) = m ((c : Thread nD τ).loc main_arg1) (ix3 k (row t q) j) := by
  blk_ext [iblk, V, row, idx m t]
theorem w_blk (c : Dev nD) (t : Fin grid0.N) (q : Fin 128) (j : Fin 1024) :
    iblk m (ok m) c 2 t (ix3 0 q j) = m ((c : Thread nD τ).loc main_arg2) (ix3 0 (row t q) j) := by
  blk_ext [iblk, V, row, idx m t]
theorem m_blk (c : Dev nD) (t : Fin grid0.N) (q : Fin 128) (j : Fin 1024) :
    iblk m (ok m) c 3 t (ix3 0 q j) = m ((c : Thread nD τ).loc main_arg3) (ix3 0 (row t q) j) := by
  blk_ext [iblk, V, row, idx m t]
theorem v_blk (c : Dev nD) (t : Fin grid0.N) (q : Fin 128) (j : Fin 1024) :
    iblk m (ok m) c 4 t (ix3 0 q j) = m ((c : Thread nD τ).loc main_arg4) (ix3 0 (row t q) j) := by
  blk_ext [iblk, V, row, idx m t]

variable (c : Dev nD)

/-- The gradients. -/
abbrev grad : S2x128x1024.Idx → EReal :=
  summed (m ((c : Thread nD τ).loc main_arg0)) (m ((c : Thread nD τ).loc main_arg1))

/-- What the body writes, from the blocks it reads. -/
theorem outs (t : Fin grid0.N) (x0 : Vec Ideal S1x128x1024 .bf16) (x1 : Vec Ideal S3x128x1024 .bf16)
    (x2 x3 x4 : Vec Ideal S1x128x1024 .f32) (xt0 : TbBuf0 (F := Ideal) c tbM0_0) (p : Fin 128) (j : Fin 1024) (g : EReal)
    (hg : x0 (ix3 0 p j) + x1 (ix3 0 p j) + x1 (ix3 1 p j) + x1 (ix3 2 p j) = g) :
    out0_A_5 c (grid0.coords t) _ (hs0_0 m (ok m) t) _ (hs0_1 m (ok m) t) _ (hs0_2 m (ok m) t) _ (hs0_3 m (ok m) t) _ (hs0_4 m (ok m) t) _ (hs0_5 m (ok m) t) _ (hs0_6 m (ok m) t) _ (hs0_7 m (ok m) t) _ (hs0_8 m (ok m) t)
        x0 x1 x2 x3 x4 xt0 (ix3 0 p j) = g
    ∧ out0_A_6 c (grid0.coords t) _ (hs0_0 m (ok m) t) _ (hs0_1 m (ok m) t) _ (hs0_2 m (ok m) t) _ (hs0_3 m (ok m) t) _ (hs0_4 m (ok m) t) _ (hs0_5 m (ok m) t) _ (hs0_6 m (ok m) t) _ (hs0_7 m (ok m) t) _ (hs0_8 m (ok m) t)
        x0 x1 x2 x3 x4 xt0 (ix3 0 p j) = delta g (x2 (ix3 0 p j)) (x3 (ix3 0 p j)) (x4 (ix3 0 p j))
    ∧ out0_A_7 c (grid0.coords t) _ (hs0_0 m (ok m) t) _ (hs0_1 m (ok m) t) _ (hs0_2 m (ok m) t) _ (hs0_3 m (ok m) t) _ (hs0_4 m (ok m) t) _ (hs0_5 m (ok m) t) _ (hs0_6 m (ok m) t) _ (hs0_7 m (ok m) t) _ (hs0_8 m (ok m) t)
        x0 x1 x2 x3 x4 xt0 (ix3 0 p j) = newM g (x3 (ix3 0 p j))
    ∧ out0_A_8 c (grid0.coords t) _ (hs0_0 m (ok m) t) _ (hs0_1 m (ok m) t) _ (hs0_2 m (ok m) t) _ (hs0_3 m (ok m) t) _ (hs0_4 m (ok m) t) _ (hs0_5 m (ok m) t) _ (hs0_6 m (ok m) t) _ (hs0_7 m (ok m) t) _ (hs0_8 m (ok m) t)
        x0 x1 x2 x3 x4 xt0 (ix3 0 p j) = newV g (x4 (ix3 0 p j)) := by
  subst hg
  refine ⟨?_, ?_, ?_, ?_⟩
  all_goals
    simp only [out0_A_5, out0_A_6, out0_A_7, out0_A_8, delta, newM, newV]
    frame_out
    pointwise [k0_pay1, k0_pay2, k0_pay3, k0_pay4, k0_pay5, k0_pay6, k0_pay7, k0_pay8, k0_pay9]

/-- The same at a point, from the arrays. -/
theorem outs_at (t : Fin grid0.N) (p : Fin 128) (j : Fin 1024) :
    (outsAt0 m (ok m) c t).1 (ix3 0 p j) = grad m c (ix3 0 (row t p) j)
    ∧ (outsAt0 m (ok m) c t).2.1 (ix3 0 p j) = changes (grad m c) (m ((c : Thread nD τ).loc main_arg2))
        (m ((c : Thread nD τ).loc main_arg3)) (m ((c : Thread nD τ).loc main_arg4)) (ix3 0 (row t p) j)
    ∧ (outsAt0 m (ok m) c t).2.2.1 (ix3 0 p j) = moments (grad m c) (m ((c : Thread nD τ).loc main_arg3)) (ix3 0 (row t p) j)
    ∧ (outsAt0 m (ok m) c t).2.2.2 (ix3 0 p j) = squares (grad m c) (m ((c : Thread nD τ).loc main_arg4)) (ix3 0 (row t p) j) := by
  have h := outs m c t (iblk m (ok m) c 0 t) (iblk m (ok m) c 1 t) (iblk m (ok m) c 2 t) (iblk m (ok m) c 3 t)
    (iblk m (ok m) c 4 t) (tbl m 0) p j (grad m c (ix3 0 (row t p) j))
    (by rw [p_blk, r_blk, r_blk, r_blk]; exact summed_at _ _ _ _ _)
  rw [w_blk, m_blk, v_blk] at h
  unfold outsAt0
  dsimp only
  rw [h.1, h.2.1, h.2.2.1, h.2.2.2]
  exact ⟨rfl, rfl, rfl, rfl⟩

/-- The gradients. -/
theorem final_5 : (dats m (ok m) 0 c).arrAt 5 (cfgM m (ok m)).N = first (grad m c) (m ((c : Thread nD τ).loc main_arg5)) := by
  refine ((dats m (ok m) 0 c).arrAt_eq_of_coversWhere 5 (grad m c) (P := fun i : S2x128x1024.Idx => (i 0 : ℕ) / 1 = 0)
    (fun β => β (0 : Fin 3) = 0) (of_decide_eq_true (by sl_kernel_rfl)) (fun t hf y => ?_) (fun j => Iff.rfl)).trans rfl
  blk_simp; rw [after0_5]
  obtain ⟨a, p, j, rfl⟩ : ∃ (a : Fin 1) (p : Fin 128) (j : Fin 1024), y = ix3 a p j := ⟨_, _, _, eq_ix3 y⟩
  obtain rfl : a = 0 := Subsingleton.elim _ _
  refine (outs_at m c t p j).1.trans ?_
  blk_ext [row, idx m t]

/-- The changes of the weights. -/
theorem final_6 : (dats m (ok m) 0 c).arrAt 6 (cfgM m (ok m)).N
    = first (changes (grad m c) (m ((c : Thread nD τ).loc main_arg2)) (m ((c : Thread nD τ).loc main_arg3))
        (m ((c : Thread nD τ).loc main_arg4))) (m ((c : Thread nD τ).loc main_arg6)) := by
  refine ((dats m (ok m) 0 c).arrAt_eq_of_coversWhere 6 (changes (grad m c) (m ((c : Thread nD τ).loc main_arg2))
      (m ((c : Thread nD τ).loc main_arg3)) (m ((c : Thread nD τ).loc main_arg4)))
    (P := fun i : S2x128x1024.Idx => (i 0 : ℕ) / 1 = 0)
    (fun β => β (0 : Fin 3) = 0) (of_decide_eq_true (by sl_kernel_rfl)) (fun t hf y => ?_) (fun j => Iff.rfl)).trans rfl
  blk_simp; rw [after0_6]
  obtain ⟨a, p, j, rfl⟩ : ∃ (a : Fin 1) (p : Fin 128) (j : Fin 1024), y = ix3 a p j := ⟨_, _, _, eq_ix3 y⟩
  obtain rfl : a = 0 := Subsingleton.elim _ _
  refine (outs_at m c t p j).2.1.trans ?_
  blk_ext [row, idx m t]

/-- The new first moments. -/
theorem final_7 : (dats m (ok m) 0 c).arrAt 7 (cfgM m (ok m)).N
    = first (moments (grad m c) (m ((c : Thread nD τ).loc main_arg3))) (m ((c : Thread nD τ).loc main_arg7)) := by
  refine ((dats m (ok m) 0 c).arrAt_eq_of_coversWhere 7 (moments (grad m c) (m ((c : Thread nD τ).loc main_arg3)))
    (P := fun i : S2x128x1024.Idx => (i 0 : ℕ) / 1 = 0)
    (fun β => β (0 : Fin 3) = 0) (of_decide_eq_true (by sl_kernel_rfl)) (fun t hf y => ?_) (fun j => Iff.rfl)).trans rfl
  blk_simp; rw [after0_7]
  obtain ⟨a, p, j, rfl⟩ : ∃ (a : Fin 1) (p : Fin 128) (j : Fin 1024), y = ix3 a p j := ⟨_, _, _, eq_ix3 y⟩
  obtain rfl : a = 0 := Subsingleton.elim _ _
  refine (outs_at m c t p j).2.2.1.trans ?_
  blk_ext [row, idx m t]

/-- The new second moments. -/
theorem final_8 : (dats m (ok m) 0 c).arrAt 8 (cfgM m (ok m)).N
    = first (squares (grad m c) (m ((c : Thread nD τ).loc main_arg4))) (m ((c : Thread nD τ).loc main_arg8)) := by
  refine ((dats m (ok m) 0 c).arrAt_eq_of_coversWhere 8 (squares (grad m c) (m ((c : Thread nD τ).loc main_arg4)))
    (P := fun i : S2x128x1024.Idx => (i 0 : ℕ) / 1 = 0)
    (fun β => β (0 : Fin 3) = 0) (of_decide_eq_true (by sl_kernel_rfl)) (fun t hf y => ?_) (fun j => Iff.rfl)).trans rfl
  blk_simp; rw [after0_8]
  obtain ⟨a, p, j, rfl⟩ : ∃ (a : Fin 1) (p : Fin 128) (j : Fin 1024), y = ix3 a p j := ⟨_, _, _, eq_ix3 y⟩
  obtain rfl : a = 0 := Subsingleton.elim _ _
  refine (outs_at m c t p j).2.2.2.trans ?_
  blk_ext [row, idx m t]
/-- What the run leaves. -/
theorem run_blocks (ρ : Dev nD → PrngReg) :
    θ_run defs (onTc (τ := τ) (main (F := Ideal))) ⟨m, fun _ => 0, ρ⟩ fun r => ∀ c : Dev nD,
      r.2.mem ((c.tc : Thread nD τ).loc main_v1_0) = (dats m (ok m) 0 c).arrAt 5 (cfgM m (ok m)).N
      ∧ r.2.mem ((c.tc : Thread nD τ).loc main_v1_1) = (dats m (ok m) 0 c).arrAt 6 (cfgM m (ok m)).N
      ∧ r.2.mem ((c.tc : Thread nD τ).loc main_v1_2) = (dats m (ok m) 0 c).arrAt 7 (cfgM m (ok m)).N
      ∧ r.2.mem ((c.tc : Thread nD τ).loc main_v1_3) = (dats m (ok m) 0 c).arrAt 8 (cfgM m (ok m)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨(h.2 c).1 5, (h.2 c).1 6, (h.2 c).1 7, (h.2 c).1 8, h.1 c⟩)
    (θ_run_and (unchanged m ρ (ok m)) (run_main m ρ (ok m)))
end

end Cert.Kernel13Ideal.Value

namespace Cert.Reference13Ideal.Value
open Cert.Reference13Ideal

theorem run_spec (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v40) = first (summed (m ((c.tc : Thread nD τ).loc main_arg0))
          (m ((c.tc : Thread nD τ).loc main_arg1))) (m ((c.tc : Thread nD τ).loc main_arg5))
      ∧ r.2.mem ((c.tc : Thread nD τ).loc main_v45) = first (changes (summed (m ((c.tc : Thread nD τ).loc main_arg0))
          (m ((c.tc : Thread nD τ).loc main_arg1))) (m ((c.tc : Thread nD τ).loc main_arg2)) (m ((c.tc : Thread nD τ).loc main_arg3))
          (m ((c.tc : Thread nD τ).loc main_arg4))) (m ((c.tc : Thread nD τ).loc main_arg6))
      ∧ r.2.mem ((c.tc : Thread nD τ).loc main_v50) = first (moments (summed (m ((c.tc : Thread nD τ).loc main_arg0))
          (m ((c.tc : Thread nD τ).loc main_arg1))) (m ((c.tc : Thread nD τ).loc main_arg3))) (m ((c.tc : Thread nD τ).loc main_arg7))
      ∧ r.2.mem ((c.tc : Thread nD τ).loc main_v55) = first (squares (summed (m ((c.tc : Thread nD τ).loc main_arg0))
          (m ((c.tc : Thread nD τ).loc main_arg1))) (m ((c.tc : Thread nD τ).loc main_arg4))) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine (θ_run defs _ _).mono (fun _ h c => ⟨(h c).1.trans ?_, (h c).2.1.trans ?_, (h c).2.2.1.trans ?_, (h c).2.2.2.1.trans ?_, (h c).2.2.2.2⟩)
    (run m ρ)
  all_goals
    clear h
    funext y
    obtain ⟨l, p, j, rfl⟩ : ∃ (l : Fin 2) (p : Fin 128) (j : Fin 1024), y = ix3 l p j := ⟨_, _, _, eq_ix3 y⟩
    simp only [first]
    fin_cases l
    · pointwise
      rfl
    · pointwise

end Cert.Reference13Ideal.Value

end
-- ==== Proof.Value14.lean ====
module
public import proofs.«01_k».proof.Proof.Gen.Kernel14Ideal.Frame
public import proofs.«01_k».proof.Proof.Gen.Kernel14.Frame
public import proofs.«01_k».proof.Proof.Gen.Reference14Ideal.Run
public import proofs.«01_k».proof.Proof.Adam
public import Idealize.ShloMosaic.Lib.Pipeline.ValueKit

/-! The step of the first layer's feed-forward input projection: what the kernel leaves and what the reference returns. -/

@[expose] public section
set_option maxRecDepth 16384
noncomputable section
open Idealize.ShloMosaic Idealize.ShloMosaic.TcCoe Idealize.SL.Sem
open Idealize.ShloMosaic.Pipeline (Dat)
open Cert.Adam

namespace Cert.Kernel14.Value
open Cert.Kernel14 Cert.Kernel14.Gen

variable {F : FTy → Type} [FloatOps F] (m : (ℓ : Loc nD τ sig) → Buf (Elt F) ℓ)

/-- The table of the chip's index holds zero. -/
theorem tbl_zero : tbl m 0 = (fun _ => 0#32 : main_v0.ty.shape.Idx → BitVec 32) := by
  funext y
  show V m (0 : Dev nD) main_v0 y = 0#32
  simp only [V, List.flatten_cons, List.flatten_nil, hostOps0, List.cons_append, List.nil_append]
  entry_read
  pointwise

theorem index_zero (i : grid0.Coords) : cc0_transform_0 inb_S1_S1_0 numel1_S1 (tbl m) i = ![0, (i 0).val, 0] := by
  have h : (tbl m).at 0 (Rect.unit (s := S1) ![0] S1.size inb_S1_S1_0) numel1_S1 = 0#32 := by
    show tbl m 0 _ = _
    rw [tbl_zero]
  have hi : (i 0).val < 2 ^ 32 := lt_of_lt_of_le (i 0).isLt (by decide +kernel)
  simp only [cc0_transform_0, h, BitVec.toNat_ofNat, Nat.mod_eq_of_lt hi]

theorem blk_ok : ∀ i : grid0.Coords, ∃ h : ∀ a, ((![0, (i 0).val, 0] : Fin 3 → Nat) a + 1) * S1x512x704.size a ≤ S4x1024x704.size a,
    EltTy.bits .bf16 = 32 ∨ (Rect.block (s := S4x1024x704) S1x512x704.size ![0, (i 0).val, 0] h).WholeWords (EltTy.packing .bf16) := by
  decide +kernel

theorem ok : Ok m := by
  intro i
  simp only [index_zero]
  exact blk_ok i

end Cert.Kernel14.Value

namespace Cert.Kernel14Ideal.Value
open Cert.Kernel14Ideal Cert.Kernel14Ideal.Gen

variable {F : FTy → Type} [FloatOps F] (m : (ℓ : Loc nD τ sig) → Buf (Elt F) ℓ)

/-- The table of the chip's index holds zero. -/
theorem tbl_zero : tbl m 0 = (fun _ => 0#32 : main_v0.ty.shape.Idx → BitVec 32) := by
  funext y
  show V m (0 : Dev nD) main_v0 y = 0#32
  simp only [V, List.flatten_cons, List.flatten_nil, hostOps0, List.cons_append, List.nil_append]
  entry_read
  pointwise

theorem index_zero (i : grid0.Coords) : cc0_transform_0 inb_S1_S1_0 numel1_S1 (tbl m) i = ![0, (i 0).val, 0] := by
  have h : (tbl m).at 0 (Rect.unit (s := S1) ![0] S1.size inb_S1_S1_0) numel1_S1 = 0#32 := by
    show tbl m 0 _ = _
    rw [tbl_zero]
  have hi : (i 0).val < 2 ^ 32 := lt_of_lt_of_le (i 0).isLt (by decide +kernel)
  simp only [cc0_transform_0, h, BitVec.toNat_ofNat, Nat.mod_eq_of_lt hi]

theorem blk_ok : ∀ i : grid0.Coords, ∃ h : ∀ a, ((![0, (i 0).val, 0] : Fin 3 → Nat) a + 1) * S1x512x704.size a ≤ S4x1024x704.size a,
    EltTy.bits .bf16 = 32 ∨ (Rect.block (s := S4x1024x704) S1x512x704.size ![0, (i 0).val, 0] h).WholeWords (EltTy.packing .bf16) := by
  decide +kernel

theorem ok : Ok m := by
  intro i
  simp only [index_zero]
  exact blk_ok i

section
variable (m : (ℓ : Loc nD τ sig) → Buf (Elt Ideal) ℓ)

theorem maps : ∀ t : Fin grid0.N, ((grid0.coords t) 0).val = t.val ∧ cc0_transform_1 (grid0.coords t) = ![0, t.val, 0]
    ∧ cc0_transform_2 (grid0.coords t) = ![0, t.val, 0] ∧ cc0_transform_3 (grid0.coords t) = ![0, t.val, 0]
    ∧ cc0_transform_4 (grid0.coords t) = ![0, t.val, 0] ∧ cc0_transform_9 (grid0.coords t) = ![0, t.val, 0]
    ∧ cc0_transform_10 (grid0.coords t) = ![0, t.val, 0] ∧ cc0_transform_11 (grid0.coords t) = ![0, t.val, 0]
    ∧ cc0_transform_12 (grid0.coords t) = ![0, t.val, 0] := by
  decide +kernel

theorem idx (t : Fin grid0.N) : ((cfgM m (ok m)).win 0).index t = ![0, t.val, 0]
    ∧ ((cfgM m (ok m)).win 1).index t = ![0, t.val, 0] ∧ ((cfgM m (ok m)).win 2).index t = ![0, t.val, 0]
    ∧ ((cfgM m (ok m)).win 3).index t = ![0, t.val, 0] ∧ ((cfgM m (ok m)).win 4).index t = ![0, t.val, 0]
    ∧ ((cfgM m (ok m)).win 5).index t = ![0, t.val, 0] ∧ ((cfgM m (ok m)).win 6).index t = ![0, t.val, 0]
    ∧ ((cfgM m (ok m)).win 7).index t = ![0, t.val, 0] ∧ ((cfgM m (ok m)).win 8).index t = ![0, t.val, 0] :=
  ⟨(index_zero m (grid0.coords t)).trans (by rw [(maps t).1]), (maps t).2⟩

theorem lt_N (t : Fin grid0.N) : t.val < 2 := t.isLt.trans_eq (by decide +kernel)

/-- A row of a block, in the weight. -/
def row (t : Fin grid0.N) (q : Fin 512) : Fin 1024 := ⟨512 * t.val + q.val, by have := lt_N t; omega⟩

theorem p_blk (c : Dev nD) (t : Fin grid0.N) (q : Fin 512) (j : Fin 704) :
    iblk m (ok m) c 0 t (ix3 0 q j) = m ((c : Thread nD τ).loc main_arg0) (ix3 0 (row t q) j) := by
  blk_ext [iblk, V, row, idx m t]
theorem r_blk (c : Dev nD) (t : Fin grid0.N) (k : Fin 3) (q : Fin 512) (j : Fin 704) :
    iblk m (ok m) c 1 t (ix3 k q j) = m ((c : Thread nD τ).loc main_arg1) (ix3 k (row t q) j) := by
  blk_ext [iblk, V, row, idx m t]
theorem w_blk (c : Dev nD) (t : Fin grid0.N) (q : Fin 512) (j : Fin 704) :
    iblk m (ok m) c 2 t (ix3 0 q j) = m ((c : Thread nD τ).loc main_arg2) (ix3 0 (row t q) j) := by
  blk_ext [iblk, V, row, idx m t]
theorem m_blk (c : Dev nD) (t : Fin grid0.N) (q : Fin 512) (j : Fin 704) :
    iblk m (ok m) c 3 t (ix3 0 q j) = m ((c : Thread nD τ).loc main_arg3) (ix3 0 (row t q) j) := by
  blk_ext [iblk, V, row, idx m t]
theorem v_blk (c : Dev nD) (t : Fin grid0.N) (q : Fin 512) (j : Fin 704) :
    iblk m (ok m) c 4 t (ix3 0 q j) = m ((c : Thread nD τ).loc main_arg4) (ix3 0 (row t q) j) := by
  blk_ext [iblk, V, row, idx m t]

variable (c : Dev nD)

/-- The gradients. -/
abbrev grad : S2x1024x704.Idx → EReal :=
  summed (m ((c : Thread nD τ).loc main_arg0)) (m ((c : Thread nD τ).loc main_arg1))

/-- What the body writes, from the blocks it reads. -/
theorem outs (t : Fin grid0.N) (x0 : Vec Ideal S1x512x704 .bf16) (x1 : Vec Ideal S3x512x704 .bf16)
    (x2 x3 x4 : Vec Ideal S1x512x704 .f32) (xt0 : TbBuf0 (F := Ideal) c tbM0_0) (p : Fin 512) (j : Fin 704) (g : EReal)
    (hg : x0 (ix3 0 p j) + x1 (ix3 0 p j) + x1 (ix3 1 p j) + x1 (ix3 2 p j) = g) :
    out0_A_5 c (grid0.coords t) _ (hs0_0 m (ok m) t) _ (hs0_1 m (ok m) t) _ (hs0_2 m (ok m) t) _ (hs0_3 m (ok m) t) _ (hs0_4 m (ok m) t) _ (hs0_5 m (ok m) t) _ (hs0_6 m (ok m) t) _ (hs0_7 m (ok m) t) _ (hs0_8 m (ok m) t)
        x0 x1 x2 x3 x4 xt0 (ix3 0 p j) = g
    ∧ out0_A_6 c (grid0.coords t) _ (hs0_0 m (ok m) t) _ (hs0_1 m (ok m) t) _ (hs0_2 m (ok m) t) _ (hs0_3 m (ok m) t) _ (hs0_4 m (ok m) t) _ (hs0_5 m (ok m) t) _ (hs0_6 m (ok m) t) _ (hs0_7 m (ok m) t) _ (hs0_8 m (ok m) t)
        x0 x1 x2 x3 x4 xt0 (ix3 0 p j) = delta g (x2 (ix3 0 p j)) (x3 (ix3 0 p j)) (x4 (ix3 0 p j))
    ∧ out0_A_7 c (grid0.coords t) _ (hs0_0 m (ok m) t) _ (hs0_1 m (ok m) t) _ (hs0_2 m (ok m) t) _ (hs0_3 m (ok m) t) _ (hs0_4 m (ok m) t) _ (hs0_5 m (ok m) t) _ (hs0_6 m (ok m) t) _ (hs0_7 m (ok m) t) _ (hs0_8 m (ok m) t)
        x0 x1 x2 x3 x4 xt0 (ix3 0 p j) = newM g (x3 (ix3 0 p j))
    ∧ out0_A_8 c (grid0.coords t) _ (hs0_0 m (ok m) t) _ (hs0_1 m (ok m) t) _ (hs0_2 m (ok m) t) _ (hs0_3 m (ok m) t) _ (hs0_4 m (ok m) t) _ (hs0_5 m (ok m) t) _ (hs0_6 m (ok m) t) _ (hs0_7 m (ok m) t) _ (hs0_8 m (ok m) t)
        x0 x1 x2 x3 x4 xt0 (ix3 0 p j) = newV g (x4 (ix3 0 p j)) := by
  subst hg
  refine ⟨?_, ?_, ?_, ?_⟩
  all_goals
    simp only [out0_A_5, out0_A_6, out0_A_7, out0_A_8, delta, newM, newV]
    frame_out
    pointwise [k0_pay1, k0_pay2, k0_pay3, k0_pay4, k0_pay5, k0_pay6, k0_pay7, k0_pay8, k0_pay9]

/-- The same at a point, from the arrays. -/
theorem outs_at (t : Fin grid0.N) (p : Fin 512) (j : Fin 704) :
    (outsAt0 m (ok m) c t).1 (ix3 0 p j) = grad m c (ix3 0 (row t p) j)
    ∧ (outsAt0 m (ok m) c t).2.1 (ix3 0 p j) = changes (grad m c) (m ((c : Thread nD τ).loc main_arg2))
        (m ((c : Thread nD τ).loc main_arg3)) (m ((c : Thread nD τ).loc main_arg4)) (ix3 0 (row t p) j)
    ∧ (outsAt0 m (ok m) c t).2.2.1 (ix3 0 p j) = moments (grad m c) (m ((c : Thread nD τ).loc main_arg3)) (ix3 0 (row t p) j)
    ∧ (outsAt0 m (ok m) c t).2.2.2 (ix3 0 p j) = squares (grad m c) (m ((c : Thread nD τ).loc main_arg4)) (ix3 0 (row t p) j) := by
  have h := outs m c t (iblk m (ok m) c 0 t) (iblk m (ok m) c 1 t) (iblk m (ok m) c 2 t) (iblk m (ok m) c 3 t)
    (iblk m (ok m) c 4 t) (tbl m 0) p j (grad m c (ix3 0 (row t p) j))
    (by rw [p_blk, r_blk, r_blk, r_blk]; exact summed_at _ _ _ _ _)
  rw [w_blk, m_blk, v_blk] at h
  unfold outsAt0
  dsimp only
  rw [h.1, h.2.1, h.2.2.1, h.2.2.2]
  exact ⟨rfl, rfl, rfl, rfl⟩

/-- The gradients. -/
theorem final_5 : (dats m (ok m) 0 c).arrAt 5 (cfgM m (ok m)).N = first (grad m c) (m ((c : Thread nD τ).loc main_arg5)) := by
  refine ((dats m (ok m) 0 c).arrAt_eq_of_coversWhere 5 (grad m c) (P := fun i : S2x1024x704.Idx => (i 0 : ℕ) / 1 = 0)
    (fun β => β (0 : Fin 3) = 0) (of_decide_eq_true (by sl_kernel_rfl)) (fun t hf y => ?_) (fun j => Iff.rfl)).trans rfl
  blk_simp; rw [after0_5]
  obtain ⟨a, p, j, rfl⟩ : ∃ (a : Fin 1) (p : Fin 512) (j : Fin 704), y = ix3 a p j := ⟨_, _, _, eq_ix3 y⟩
  obtain rfl : a = 0 := Subsingleton.elim _ _
  refine (outs_at m c t p j).1.trans ?_
  blk_ext [row, idx m t]

/-- The changes of the weights. -/
theorem final_6 : (dats m (ok m) 0 c).arrAt 6 (cfgM m (ok m)).N
    = first (changes (grad m c) (m ((c : Thread nD τ).loc main_arg2)) (m ((c : Thread nD τ).loc main_arg3))
        (m ((c : Thread nD τ).loc main_arg4))) (m ((c : Thread nD τ).loc main_arg6)) := by
  refine ((dats m (ok m) 0 c).arrAt_eq_of_coversWhere 6 (changes (grad m c) (m ((c : Thread nD τ).loc main_arg2))
      (m ((c : Thread nD τ).loc main_arg3)) (m ((c : Thread nD τ).loc main_arg4)))
    (P := fun i : S2x1024x704.Idx => (i 0 : ℕ) / 1 = 0)
    (fun β => β (0 : Fin 3) = 0) (of_decide_eq_true (by sl_kernel_rfl)) (fun t hf y => ?_) (fun j => Iff.rfl)).trans rfl
  blk_simp; rw [after0_6]
  obtain ⟨a, p, j, rfl⟩ : ∃ (a : Fin 1) (p : Fin 512) (j : Fin 704), y = ix3 a p j := ⟨_, _, _, eq_ix3 y⟩
  obtain rfl : a = 0 := Subsingleton.elim _ _
  refine (outs_at m c t p j).2.1.trans ?_
  blk_ext [row, idx m t]

/-- The new first moments. -/
theorem final_7 : (dats m (ok m) 0 c).arrAt 7 (cfgM m (ok m)).N
    = first (moments (grad m c) (m ((c : Thread nD τ).loc main_arg3))) (m ((c : Thread nD τ).loc main_arg7)) := by
  refine ((dats m (ok m) 0 c).arrAt_eq_of_coversWhere 7 (moments (grad m c) (m ((c : Thread nD τ).loc main_arg3)))
    (P := fun i : S2x1024x704.Idx => (i 0 : ℕ) / 1 = 0)
    (fun β => β (0 : Fin 3) = 0) (of_decide_eq_true (by sl_kernel_rfl)) (fun t hf y => ?_) (fun j => Iff.rfl)).trans rfl
  blk_simp; rw [after0_7]
  obtain ⟨a, p, j, rfl⟩ : ∃ (a : Fin 1) (p : Fin 512) (j : Fin 704), y = ix3 a p j := ⟨_, _, _, eq_ix3 y⟩
  obtain rfl : a = 0 := Subsingleton.elim _ _
  refine (outs_at m c t p j).2.2.1.trans ?_
  blk_ext [row, idx m t]

/-- The new second moments. -/
theorem final_8 : (dats m (ok m) 0 c).arrAt 8 (cfgM m (ok m)).N
    = first (squares (grad m c) (m ((c : Thread nD τ).loc main_arg4))) (m ((c : Thread nD τ).loc main_arg8)) := by
  refine ((dats m (ok m) 0 c).arrAt_eq_of_coversWhere 8 (squares (grad m c) (m ((c : Thread nD τ).loc main_arg4)))
    (P := fun i : S2x1024x704.Idx => (i 0 : ℕ) / 1 = 0)
    (fun β => β (0 : Fin 3) = 0) (of_decide_eq_true (by sl_kernel_rfl)) (fun t hf y => ?_) (fun j => Iff.rfl)).trans rfl
  blk_simp; rw [after0_8]
  obtain ⟨a, p, j, rfl⟩ : ∃ (a : Fin 1) (p : Fin 512) (j : Fin 704), y = ix3 a p j := ⟨_, _, _, eq_ix3 y⟩
  obtain rfl : a = 0 := Subsingleton.elim _ _
  refine (outs_at m c t p j).2.2.2.trans ?_
  blk_ext [row, idx m t]
/-- What the run leaves. -/
theorem run_blocks (ρ : Dev nD → PrngReg) :
    θ_run defs (onTc (τ := τ) (main (F := Ideal))) ⟨m, fun _ => 0, ρ⟩ fun r => ∀ c : Dev nD,
      r.2.mem ((c.tc : Thread nD τ).loc main_v1_0) = (dats m (ok m) 0 c).arrAt 5 (cfgM m (ok m)).N
      ∧ r.2.mem ((c.tc : Thread nD τ).loc main_v1_1) = (dats m (ok m) 0 c).arrAt 6 (cfgM m (ok m)).N
      ∧ r.2.mem ((c.tc : Thread nD τ).loc main_v1_2) = (dats m (ok m) 0 c).arrAt 7 (cfgM m (ok m)).N
      ∧ r.2.mem ((c.tc : Thread nD τ).loc main_v1_3) = (dats m (ok m) 0 c).arrAt 8 (cfgM m (ok m)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨(h.2 c).1 5, (h.2 c).1 6, (h.2 c).1 7, (h.2 c).1 8, h.1 c⟩)
    (θ_run_and (unchanged m ρ (ok m)) (run_main m ρ (ok m)))
end

end Cert.Kernel14Ideal.Value

namespace Cert.Reference14Ideal.Value
open Cert.Reference14Ideal

theorem run_spec (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v40) = first (summed (m ((c.tc : Thread nD τ).loc main_arg0))
          (m ((c.tc : Thread nD τ).loc main_arg1))) (m ((c.tc : Thread nD τ).loc main_arg5))
      ∧ r.2.mem ((c.tc : Thread nD τ).loc main_v45) = first (changes (summed (m ((c.tc : Thread nD τ).loc main_arg0))
          (m ((c.tc : Thread nD τ).loc main_arg1))) (m ((c.tc : Thread nD τ).loc main_arg2)) (m ((c.tc : Thread nD τ).loc main_arg3))
          (m ((c.tc : Thread nD τ).loc main_arg4))) (m ((c.tc : Thread nD τ).loc main_arg6))
      ∧ r.2.mem ((c.tc : Thread nD τ).loc main_v50) = first (moments (summed (m ((c.tc : Thread nD τ).loc main_arg0))
          (m ((c.tc : Thread nD τ).loc main_arg1))) (m ((c.tc : Thread nD τ).loc main_arg3))) (m ((c.tc : Thread nD τ).loc main_arg7))
      ∧ r.2.mem ((c.tc : Thread nD τ).loc main_v55) = first (squares (summed (m ((c.tc : Thread nD τ).loc main_arg0))
          (m ((c.tc : Thread nD τ).loc main_arg1))) (m ((c.tc : Thread nD τ).loc main_arg4))) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine (θ_run defs _ _).mono (fun _ h c => ⟨(h c).1.trans ?_, (h c).2.1.trans ?_, (h c).2.2.1.trans ?_, (h c).2.2.2.1.trans ?_, (h c).2.2.2.2⟩)
    (run m ρ)
  all_goals
    clear h
    funext y
    obtain ⟨l, p, j, rfl⟩ : ∃ (l : Fin 2) (p : Fin 1024) (j : Fin 704), y = ix3 l p j := ⟨_, _, _, eq_ix3 y⟩
    simp only [first]
    fin_cases l
    · pointwise
      rfl
    · pointwise

end Cert.Reference14Ideal.Value

end
-- ==== Proof.Value15.lean ====
module
public import proofs.«01_k».proof.Proof.Gen.Kernel15Ideal.Frame
public import proofs.«01_k».proof.Proof.Gen.Kernel15.Frame
public import proofs.«01_k».proof.Proof.Gen.Reference15Ideal.Run
public import proofs.«01_k».proof.Proof.Adam
public import Idealize.ShloMosaic.Lib.Pipeline.ValueKit

/-! The step of the first layer's feed-forward output projection: what the kernel leaves and what the reference returns. -/

@[expose] public section
set_option maxRecDepth 16384
noncomputable section
open Idealize.ShloMosaic Idealize.ShloMosaic.TcCoe Idealize.SL.Sem
open Idealize.ShloMosaic.Pipeline (Dat)
open Cert.Adam

namespace Cert.Kernel15.Value
open Cert.Kernel15 Cert.Kernel15.Gen

variable {F : FTy → Type} [FloatOps F] (m : (ℓ : Loc nD τ sig) → Buf (Elt F) ℓ)

/-- The table of the chip's index holds zero. -/
theorem tbl_zero : tbl m 0 = (fun _ => 0#32 : main_v0.ty.shape.Idx → BitVec 32) := by
  funext y
  show V m (0 : Dev nD) main_v0 y = 0#32
  simp only [V, List.flatten_cons, List.flatten_nil, hostOps0, List.cons_append, List.nil_append]
  entry_read
  pointwise

theorem index_zero (i : grid0.Coords) : cc0_transform_0 inb_S1_S1_0 numel1_S1 (tbl m) i = ![0, (i 0).val, 0] := by
  have h : (tbl m).at 0 (Rect.unit (s := S1) ![0] S1.size inb_S1_S1_0) numel1_S1 = 0#32 := by
    show tbl m 0 _ = _
    rw [tbl_zero]
  have hi : (i 0).val < 2 ^ 32 := lt_of_lt_of_le (i 0).isLt (by decide +kernel)
  simp only [cc0_transform_0, h, BitVec.toNat_ofNat, Nat.mod_eq_of_lt hi]

theorem blk_ok : ∀ i : grid0.Coords, ∃ h : ∀ a, ((![0, (i 0).val, 0] : Fin 3 → Nat) a + 1) * S1x352x1024.size a ≤ S4x352x1024.size a,
    EltTy.bits .bf16 = 32 ∨ (Rect.block (s := S4x352x1024) S1x352x1024.size ![0, (i 0).val, 0] h).WholeWords (EltTy.packing .bf16) := by
  decide +kernel

theorem ok : Ok m := by
  intro i
  simp only [index_zero]
  exact blk_ok i

end Cert.Kernel15.Value

namespace Cert.Kernel15Ideal.Value
open Cert.Kernel15Ideal Cert.Kernel15Ideal.Gen

variable {F : FTy → Type} [FloatOps F] (m : (ℓ : Loc nD τ sig) → Buf (Elt F) ℓ)

/-- The table of the chip's index holds zero. -/
theorem tbl_zero : tbl m 0 = (fun _ => 0#32 : main_v0.ty.shape.Idx → BitVec 32) := by
  funext y
  show V m (0 : Dev nD) main_v0 y = 0#32
  simp only [V, List.flatten_cons, List.flatten_nil, hostOps0, List.cons_append, List.nil_append]
  entry_read
  pointwise

theorem index_zero (i : grid0.Coords) : cc0_transform_0 inb_S1_S1_0 numel1_S1 (tbl m) i = ![0, (i 0).val, 0] := by
  have h : (tbl m).at 0 (Rect.unit (s := S1) ![0] S1.size inb_S1_S1_0) numel1_S1 = 0#32 := by
    show tbl m 0 _ = _
    rw [tbl_zero]
  have hi : (i 0).val < 2 ^ 32 := lt_of_lt_of_le (i 0).isLt (by decide +kernel)
  simp only [cc0_transform_0, h, BitVec.toNat_ofNat, Nat.mod_eq_of_lt hi]

theorem blk_ok : ∀ i : grid0.Coords, ∃ h : ∀ a, ((![0, (i 0).val, 0] : Fin 3 → Nat) a + 1) * S1x352x1024.size a ≤ S4x352x1024.size a,
    EltTy.bits .bf16 = 32 ∨ (Rect.block (s := S4x352x1024) S1x352x1024.size ![0, (i 0).val, 0] h).WholeWords (EltTy.packing .bf16) := by
  decide +kernel

theorem ok : Ok m := by
  intro i
  simp only [index_zero]
  exact blk_ok i

section
variable (m : (ℓ : Loc nD τ sig) → Buf (Elt Ideal) ℓ)

theorem maps : ∀ t : Fin grid0.N, ((grid0.coords t) 0).val = t.val ∧ cc0_transform_1 (grid0.coords t) = ![0, t.val, 0]
    ∧ cc0_transform_2 (grid0.coords t) = ![0, t.val, 0] ∧ cc0_transform_3 (grid0.coords t) = ![0, t.val, 0]
    ∧ cc0_transform_4 (grid0.coords t) = ![0, t.val, 0] ∧ cc0_transform_9 (grid0.coords t) = ![0, t.val, 0]
    ∧ cc0_transform_10 (grid0.coords t) = ![0, t.val, 0] ∧ cc0_transform_11 (grid0.coords t) = ![0, t.val, 0]
    ∧ cc0_transform_12 (grid0.coords t) = ![0, t.val, 0] := by
  decide +kernel

theorem idx (t : Fin grid0.N) : ((cfgM m (ok m)).win 0).index t = ![0, t.val, 0]
    ∧ ((cfgM m (ok m)).win 1).index t = ![0, t.val, 0] ∧ ((cfgM m (ok m)).win 2).index t = ![0, t.val, 0]
    ∧ ((cfgM m (ok m)).win 3).index t = ![0, t.val, 0] ∧ ((cfgM m (ok m)).win 4).index t = ![0, t.val, 0]
    ∧ ((cfgM m (ok m)).win 5).index t = ![0, t.val, 0] ∧ ((cfgM m (ok m)).win 6).index t = ![0, t.val, 0]
    ∧ ((cfgM m (ok m)).win 7).index t = ![0, t.val, 0] ∧ ((cfgM m (ok m)).win 8).index t = ![0, t.val, 0] :=
  ⟨(index_zero m (grid0.coords t)).trans (by rw [(maps t).1]), (maps t).2⟩

theorem lt_N (t : Fin grid0.N) : t.val < 1 := t.isLt.trans_eq (by decide +kernel)

/-- A row of a block, in the weight. -/
def row (t : Fin grid0.N) (q : Fin 352) : Fin 352 := ⟨352 * t.val + q.val, by have := lt_N t; omega⟩

theorem p_blk (c : Dev nD) (t : Fin grid0.N) (q : Fin 352) (j : Fin 1024) :
    iblk m (ok m) c 0 t (ix3 0 q j) = m ((c : Thread nD τ).loc main_arg0) (ix3 0 (row t q) j) := by
  blk_ext [iblk, V, row, idx m t]
theorem r_blk (c : Dev nD) (t : Fin grid0.N) (k : Fin 3) (q : Fin 352) (j : Fin 1024) :
    iblk m (ok m) c 1 t (ix3 k q j) = m ((c : Thread nD τ).loc main_arg1) (ix3 k (row t q) j) := by
  blk_ext [iblk, V, row, idx m t]
theorem w_blk (c : Dev nD) (t : Fin grid0.N) (q : Fin 352) (j : Fin 1024) :
    iblk m (ok m) c 2 t (ix3 0 q j) = m ((c : Thread nD τ).loc main_arg2) (ix3 0 (row t q) j) := by
  blk_ext [iblk, V, row, idx m t]
theorem m_blk (c : Dev nD) (t : Fin grid0.N) (q : Fin 352) (j : Fin 1024) :
    iblk m (ok m) c 3 t (ix3 0 q j) = m ((c : Thread nD τ).loc main_arg3) (ix3 0 (row t q) j) := by
  blk_ext [iblk, V, row, idx m t]
theorem v_blk (c : Dev nD) (t : Fin grid0.N) (q : Fin 352) (j : Fin 1024) :
    iblk m (ok m) c 4 t (ix3 0 q j) = m ((c : Thread nD τ).loc main_arg4) (ix3 0 (row t q) j) := by
  blk_ext [iblk, V, row, idx m t]

variable (c : Dev nD)

/-- The gradients. -/
abbrev grad : S2x352x1024.Idx → EReal :=
  summed (m ((c : Thread nD τ).loc main_arg0)) (m ((c : Thread nD τ).loc main_arg1))

/-- What the body writes, from the blocks it reads. -/
theorem outs (t : Fin grid0.N) (x0 : Vec Ideal S1x352x1024 .bf16) (x1 : Vec Ideal S3x352x1024 .bf16)
    (x2 x3 x4 : Vec Ideal S1x352x1024 .f32) (xt0 : TbBuf0 (F := Ideal) c tbM0_0) (p : Fin 352) (j : Fin 1024) (g : EReal)
    (hg : x0 (ix3 0 p j) + x1 (ix3 0 p j) + x1 (ix3 1 p j) + x1 (ix3 2 p j) = g) :
    out0_A_5 c (grid0.coords t) _ (hs0_0 m (ok m) t) _ (hs0_1 m (ok m) t) _ (hs0_2 m (ok m) t) _ (hs0_3 m (ok m) t) _ (hs0_4 m (ok m) t) _ (hs0_5 m (ok m) t) _ (hs0_6 m (ok m) t) _ (hs0_7 m (ok m) t) _ (hs0_8 m (ok m) t)
        x0 x1 x2 x3 x4 xt0 (ix3 0 p j) = g
    ∧ out0_A_6 c (grid0.coords t) _ (hs0_0 m (ok m) t) _ (hs0_1 m (ok m) t) _ (hs0_2 m (ok m) t) _ (hs0_3 m (ok m) t) _ (hs0_4 m (ok m) t) _ (hs0_5 m (ok m) t) _ (hs0_6 m (ok m) t) _ (hs0_7 m (ok m) t) _ (hs0_8 m (ok m) t)
        x0 x1 x2 x3 x4 xt0 (ix3 0 p j) = delta g (x2 (ix3 0 p j)) (x3 (ix3 0 p j)) (x4 (ix3 0 p j))
    ∧ out0_A_7 c (grid0.coords t) _ (hs0_0 m (ok m) t) _ (hs0_1 m (ok m) t) _ (hs0_2 m (ok m) t) _ (hs0_3 m (ok m) t) _ (hs0_4 m (ok m) t) _ (hs0_5 m (ok m) t) _ (hs0_6 m (ok m) t) _ (hs0_7 m (ok m) t) _ (hs0_8 m (ok m) t)
        x0 x1 x2 x3 x4 xt0 (ix3 0 p j) = newM g (x3 (ix3 0 p j))
    ∧ out0_A_8 c (grid0.coords t) _ (hs0_0 m (ok m) t) _ (hs0_1 m (ok m) t) _ (hs0_2 m (ok m) t) _ (hs0_3 m (ok m) t) _ (hs0_4 m (ok m) t) _ (hs0_5 m (ok m) t) _ (hs0_6 m (ok m) t) _ (hs0_7 m (ok m) t) _ (hs0_8 m (ok m) t)
        x0 x1 x2 x3 x4 xt0 (ix3 0 p j) = newV g (x4 (ix3 0 p j)) := by
  subst hg
  refine ⟨?_, ?_, ?_, ?_⟩
  all_goals
    simp only [out0_A_5, out0_A_6, out0_A_7, out0_A_8, delta, newM, newV]
    frame_out
    pointwise [k0_pay1, k0_pay2, k0_pay3, k0_pay4, k0_pay5, k0_pay6, k0_pay7, k0_pay8, k0_pay9]

/-- The same at a point, from the arrays. -/
theorem outs_at (t : Fin grid0.N) (p : Fin 352) (j : Fin 1024) :
    (outsAt0 m (ok m) c t).1 (ix3 0 p j) = grad m c (ix3 0 (row t p) j)
    ∧ (outsAt0 m (ok m) c t).2.1 (ix3 0 p j) = changes (grad m c) (m ((c : Thread nD τ).loc main_arg2))
        (m ((c : Thread nD τ).loc main_arg3)) (m ((c : Thread nD τ).loc main_arg4)) (ix3 0 (row t p) j)
    ∧ (outsAt0 m (ok m) c t).2.2.1 (ix3 0 p j) = moments (grad m c) (m ((c : Thread nD τ).loc main_arg3)) (ix3 0 (row t p) j)
    ∧ (outsAt0 m (ok m) c t).2.2.2 (ix3 0 p j) = squares (grad m c) (m ((c : Thread nD τ).loc main_arg4)) (ix3 0 (row t p) j) := by
  have h := outs m c t (iblk m (ok m) c 0 t) (iblk m (ok m) c 1 t) (iblk m (ok m) c 2 t) (iblk m (ok m) c 3 t)
    (iblk m (ok m) c 4 t) (tbl m 0) p j (grad m c (ix3 0 (row t p) j))
    (by rw [p_blk, r_blk, r_blk, r_blk]; exact summed_at _ _ _ _ _)
  rw [w_blk, m_blk, v_blk] at h
  unfold outsAt0
  dsimp only
  rw [h.1, h.2.1, h.2.2.1, h.2.2.2]
  exact ⟨rfl, rfl, rfl, rfl⟩

/-- The gradients. -/
theorem final_5 : (dats m (ok m) 0 c).arrAt 5 (cfgM m (ok m)).N = first (grad m c) (m ((c : Thread nD τ).loc main_arg5)) := by
  refine ((dats m (ok m) 0 c).arrAt_eq_of_coversWhere 5 (grad m c) (P := fun i : S2x352x1024.Idx => (i 0 : ℕ) / 1 = 0)
    (fun β => β (0 : Fin 3) = 0) (of_decide_eq_true (by sl_kernel_rfl)) (fun t hf y => ?_) (fun j => Iff.rfl)).trans rfl
  blk_simp; rw [after0_5]
  obtain ⟨a, p, j, rfl⟩ : ∃ (a : Fin 1) (p : Fin 352) (j : Fin 1024), y = ix3 a p j := ⟨_, _, _, eq_ix3 y⟩
  obtain rfl : a = 0 := Subsingleton.elim _ _
  refine (outs_at m c t p j).1.trans ?_
  blk_ext [row, idx m t]

/-- The changes of the weights. -/
theorem final_6 : (dats m (ok m) 0 c).arrAt 6 (cfgM m (ok m)).N
    = first (changes (grad m c) (m ((c : Thread nD τ).loc main_arg2)) (m ((c : Thread nD τ).loc main_arg3))
        (m ((c : Thread nD τ).loc main_arg4))) (m ((c : Thread nD τ).loc main_arg6)) := by
  refine ((dats m (ok m) 0 c).arrAt_eq_of_coversWhere 6 (changes (grad m c) (m ((c : Thread nD τ).loc main_arg2))
      (m ((c : Thread nD τ).loc main_arg3)) (m ((c : Thread nD τ).loc main_arg4)))
    (P := fun i : S2x352x1024.Idx => (i 0 : ℕ) / 1 = 0)
    (fun β => β (0 : Fin 3) = 0) (of_decide_eq_true (by sl_kernel_rfl)) (fun t hf y => ?_) (fun j => Iff.rfl)).trans rfl
  blk_simp; rw [after0_6]
  obtain ⟨a, p, j, rfl⟩ : ∃ (a : Fin 1) (p : Fin 352) (j : Fin 1024), y = ix3 a p j := ⟨_, _, _, eq_ix3 y⟩
  obtain rfl : a = 0 := Subsingleton.elim _ _
  refine (outs_at m c t p j).2.1.trans ?_
  blk_ext [row, idx m t]

/-- The new first moments. -/
theorem final_7 : (dats m (ok m) 0 c).arrAt 7 (cfgM m (ok m)).N
    = first (moments (grad m c) (m ((c : Thread nD τ).loc main_arg3))) (m ((c : Thread nD τ).loc main_arg7)) := by
  refine ((dats m (ok m) 0 c).arrAt_eq_of_coversWhere 7 (moments (grad m c) (m ((c : Thread nD τ).loc main_arg3)))
    (P := fun i : S2x352x1024.Idx => (i 0 : ℕ) / 1 = 0)
    (fun β => β (0 : Fin 3) = 0) (of_decide_eq_true (by sl_kernel_rfl)) (fun t hf y => ?_) (fun j => Iff.rfl)).trans rfl
  blk_simp; rw [after0_7]
  obtain ⟨a, p, j, rfl⟩ : ∃ (a : Fin 1) (p : Fin 352) (j : Fin 1024), y = ix3 a p j := ⟨_, _, _, eq_ix3 y⟩
  obtain rfl : a = 0 := Subsingleton.elim _ _
  refine (outs_at m c t p j).2.2.1.trans ?_
  blk_ext [row, idx m t]

/-- The new second moments. -/
theorem final_8 : (dats m (ok m) 0 c).arrAt 8 (cfgM m (ok m)).N
    = first (squares (grad m c) (m ((c : Thread nD τ).loc main_arg4))) (m ((c : Thread nD τ).loc main_arg8)) := by
  refine ((dats m (ok m) 0 c).arrAt_eq_of_coversWhere 8 (squares (grad m c) (m ((c : Thread nD τ).loc main_arg4)))
    (P := fun i : S2x352x1024.Idx => (i 0 : ℕ) / 1 = 0)
    (fun β => β (0 : Fin 3) = 0) (of_decide_eq_true (by sl_kernel_rfl)) (fun t hf y => ?_) (fun j => Iff.rfl)).trans rfl
  blk_simp; rw [after0_8]
  obtain ⟨a, p, j, rfl⟩ : ∃ (a : Fin 1) (p : Fin 352) (j : Fin 1024), y = ix3 a p j := ⟨_, _, _, eq_ix3 y⟩
  obtain rfl : a = 0 := Subsingleton.elim _ _
  refine (outs_at m c t p j).2.2.2.trans ?_
  blk_ext [row, idx m t]
/-- What the run leaves. -/
theorem run_blocks (ρ : Dev nD → PrngReg) :
    θ_run defs (onTc (τ := τ) (main (F := Ideal))) ⟨m, fun _ => 0, ρ⟩ fun r => ∀ c : Dev nD,
      r.2.mem ((c.tc : Thread nD τ).loc main_v1_0) = (dats m (ok m) 0 c).arrAt 5 (cfgM m (ok m)).N
      ∧ r.2.mem ((c.tc : Thread nD τ).loc main_v1_1) = (dats m (ok m) 0 c).arrAt 6 (cfgM m (ok m)).N
      ∧ r.2.mem ((c.tc : Thread nD τ).loc main_v1_2) = (dats m (ok m) 0 c).arrAt 7 (cfgM m (ok m)).N
      ∧ r.2.mem ((c.tc : Thread nD τ).loc main_v1_3) = (dats m (ok m) 0 c).arrAt 8 (cfgM m (ok m)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨(h.2 c).1 5, (h.2 c).1 6, (h.2 c).1 7, (h.2 c).1 8, h.1 c⟩)
    (θ_run_and (unchanged m ρ (ok m)) (run_main m ρ (ok m)))
end

end Cert.Kernel15Ideal.Value

namespace Cert.Reference15Ideal.Value
open Cert.Reference15Ideal

theorem run_spec (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v40) = first (summed (m ((c.tc : Thread nD τ).loc main_arg0))
          (m ((c.tc : Thread nD τ).loc main_arg1))) (m ((c.tc : Thread nD τ).loc main_arg5))
      ∧ r.2.mem ((c.tc : Thread nD τ).loc main_v45) = first (changes (summed (m ((c.tc : Thread nD τ).loc main_arg0))
          (m ((c.tc : Thread nD τ).loc main_arg1))) (m ((c.tc : Thread nD τ).loc main_arg2)) (m ((c.tc : Thread nD τ).loc main_arg3))
          (m ((c.tc : Thread nD τ).loc main_arg4))) (m ((c.tc : Thread nD τ).loc main_arg6))
      ∧ r.2.mem ((c.tc : Thread nD τ).loc main_v50) = first (moments (summed (m ((c.tc : Thread nD τ).loc main_arg0))
          (m ((c.tc : Thread nD τ).loc main_arg1))) (m ((c.tc : Thread nD τ).loc main_arg3))) (m ((c.tc : Thread nD τ).loc main_arg7))
      ∧ r.2.mem ((c.tc : Thread nD τ).loc main_v55) = first (squares (summed (m ((c.tc : Thread nD τ).loc main_arg0))
          (m ((c.tc : Thread nD τ).loc main_arg1))) (m ((c.tc : Thread nD τ).loc main_arg4))) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine (θ_run defs _ _).mono (fun _ h c => ⟨(h c).1.trans ?_, (h c).2.1.trans ?_, (h c).2.2.1.trans ?_, (h c).2.2.2.1.trans ?_, (h c).2.2.2.2⟩)
    (run m ρ)
  all_goals
    clear h
    funext y
    obtain ⟨l, p, j, rfl⟩ : ∃ (l : Fin 2) (p : Fin 352) (j : Fin 1024), y = ix3 l p j := ⟨_, _, _, eq_ix3 y⟩
    simp only [first]
    fin_cases l
    · pointwise
      rfl
    · pointwise

end Cert.Reference15Ideal.Value

end
-- ==== Proof.Value16.lean ====
module
public import proofs.«01_k».proof.Proof.Gen.Kernel16Ideal.Value
public import proofs.«01_k».proof.Proof.Gen.Reference16Ideal.Run
public import proofs.«01_k».proof.Proof.Adam
public import Idealize.ShloMosaic.Lib.Pipeline.ValueKit

/-! The step of the small weights, packed in rows: what the kernel leaves and what the reference returns. -/

@[expose] public section
set_option maxRecDepth 16384
noncomputable section
open Idealize.ShloMosaic Idealize.ShloMosaic.TcCoe Idealize.SL.Sem
open Idealize.ShloMosaic.Pipeline (Dat)
open Cert.Adam

namespace Cert.Adam

/-- The sum of the eight devices' gradients. -/
def total (p : (⟨3, ![8, 360, 1024]⟩ : Shape).Idx → EReal) : (⟨2, ![360, 1024]⟩ : Shape).Idx → EReal :=
  fun y => ∑ k : Fin 8, p (ix3 k (y 0) (y 1))

theorem total_at (q : (⟨3, ![8, 360, 1024]⟩ : Shape).Idx → EReal) (p : Fin 360) (j : Fin 1024) :
    q (ix3 0 p j) + q (ix3 1 p j) + q (ix3 2 p j) + q (ix3 3 p j) + q (ix3 4 p j) + q (ix3 5 p j) + q (ix3 6 p j)
      + q (ix3 7 p j) = total q (ix2 p j) := by
  refine Eq.trans ?_ (Fin.sum_univ_eight fun k : Fin 8 => q (ix3 k p j)).symm
  rfl

end Cert.Adam

namespace Cert.Kernel16Ideal.Value
open Cert.Kernel16Ideal Cert.Kernel16Ideal.Gen

variable (m : (ℓ : Loc nD τ sig) → Buf (Elt Ideal) ℓ)

theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![t.val, 0] ∧ win0_7.index t = ![t.val, 0] :=
  (by decide +kernel : ∀ t : Fin grid0.N, _)

theorem lt_N (t : Fin cfg0.N) : t.val < 5 := lt_of_lt_of_eq t.isLt (show cfg0.N = 5 from N_0)

/-- The row of the whole array that a row of a block is. -/
def row (t : Fin cfg0.N) (p : Fin 72) : Fin 360 := ⟨t.val * 72 + p.val, by have := lt_N t; omega⟩

theorem p_blk (c : Dev nD) (t : Fin cfg0.N) (k : Fin 8) (p : Fin 72) (j : Fin 1024) :
    iblk m c 0 t (ix3 k p j) = m ((c : Thread nD τ).loc main_arg0) (ix3 k (row t p) j) := by
  blk_ext [iblk, V, row, idx t]
theorem w_blk (c : Dev nD) (t : Fin cfg0.N) (p : Fin 72) (j : Fin 1024) :
    iblk m c 1 t (ix2 p j) = m ((c : Thread nD τ).loc main_arg1) (ix2 (row t p) j) := by
  blk_ext [iblk, V, row, idx t]
theorem m_blk (c : Dev nD) (t : Fin cfg0.N) (p : Fin 72) (j : Fin 1024) :
    iblk m c 2 t (ix2 p j) = m ((c : Thread nD τ).loc main_arg2) (ix2 (row t p) j) := by
  blk_ext [iblk, V, row, idx t]
theorem v_blk (c : Dev nD) (t : Fin cfg0.N) (p : Fin 72) (j : Fin 1024) :
    iblk m c 3 t (ix2 p j) = m ((c : Thread nD τ).loc main_arg3) (ix2 (row t p) j) := by
  blk_ext [iblk, V, row, idx t]

/-- The gradients, summed over the devices. -/
theorem final_4 (c : Dev nD) : (dats m 0 c).arrAt 4 (cfgs 0).N
    = total (m ((c : Thread nD τ).loc main_arg0)) := by
  refine (dats m 0 c).arrAt_eq_of_covers 4 _ (by decide +kernel) fun t hf y => ?_
  blk_simp; rw [after0_4]
  obtain ⟨p, j, rfl⟩ : ∃ (p : Fin 72) (j : Fin 1024), y = ix2 p j := ⟨_, _, eq_ix2 y⟩
  frame_out
  pointwise [k0_pay1, k0_pay2, k0_pay3, k0_pay4, k0_pay5, k0_pay6, k0_pay7]
  simp only [p_blk, w_blk, m_blk, v_blk, total_at]
  refine Eq.trans (b := total (m ((c : Thread nD τ).loc main_arg0)) (ix2 (row t p) j)) ?_ ?_
  · rfl
  · blk_ext [row, idx t]

/-- The changes of the weights. -/
theorem final_5 (c : Dev nD) : (dats m 0 c).arrAt 5 (cfgs 0).N
    = changes (total (m ((c : Thread nD τ).loc main_arg0))) (m ((c : Thread nD τ).loc main_arg1))
        (m ((c : Thread nD τ).loc main_arg2)) (m ((c : Thread nD τ).loc main_arg3)) := by
  refine (dats m 0 c).arrAt_eq_of_covers 5 _ (by decide +kernel) fun t hf y => ?_
  blk_simp; rw [after0_5]
  obtain ⟨p, j, rfl⟩ : ∃ (p : Fin 72) (j : Fin 1024), y = ix2 p j := ⟨_, _, eq_ix2 y⟩
  frame_out
  pointwise [k0_pay1, k0_pay2, k0_pay3, k0_pay4, k0_pay5, k0_pay6, k0_pay7]
  simp only [p_blk, w_blk, m_blk, v_blk, total_at]
  refine Eq.trans (b := changes (total (m ((c : Thread nD τ).loc main_arg0))) (m ((c : Thread nD τ).loc main_arg1))
        (m ((c : Thread nD τ).loc main_arg2)) (m ((c : Thread nD τ).loc main_arg3)) (ix2 (row t p) j)) ?_ ?_
  · rfl
  · blk_ext [row, idx t]

/-- The new first moments. -/
theorem final_6 (c : Dev nD) : (dats m 0 c).arrAt 6 (cfgs 0).N
    = moments (total (m ((c : Thread nD τ).loc main_arg0))) (m ((c : Thread nD τ).loc main_arg2)) := by
  refine (dats m 0 c).arrAt_eq_of_covers 6 _ (by decide +kernel) fun t hf y => ?_
  blk_simp; rw [after0_6]
  obtain ⟨p, j, rfl⟩ : ∃ (p : Fin 72) (j : Fin 1024), y = ix2 p j := ⟨_, _, eq_ix2 y⟩
  frame_out
  pointwise [k0_pay1, k0_pay2, k0_pay3, k0_pay4, k0_pay5, k0_pay6, k0_pay7]
  simp only [p_blk, w_blk, m_blk, v_blk, total_at]
  refine Eq.trans (b := moments (total (m ((c : Thread nD τ).loc main_arg0))) (m ((c : Thread nD τ).loc main_arg2)) (ix2 (row t p) j)) ?_ ?_
  · rfl
  · blk_ext [row, idx t]

/-- The new second moments. -/
theorem final_7 (c : Dev nD) : (dats m 0 c).arrAt 7 (cfgs 0).N
    = squares (total (m ((c : Thread nD τ).loc main_arg0))) (m ((c : Thread nD τ).loc main_arg3)) := by
  refine (dats m 0 c).arrAt_eq_of_covers 7 _ (by decide +kernel) fun t hf y => ?_
  blk_simp; rw [after0_7]
  obtain ⟨p, j, rfl⟩ : ∃ (p : Fin 72) (j : Fin 1024), y = ix2 p j := ⟨_, _, eq_ix2 y⟩
  frame_out
  pointwise [k0_pay1, k0_pay2, k0_pay3, k0_pay4, k0_pay5, k0_pay6, k0_pay7]
  simp only [p_blk, w_blk, m_blk, v_blk, total_at]
  refine Eq.trans (b := squares (total (m ((c : Thread nD τ).loc main_arg0))) (m ((c : Thread nD τ).loc main_arg3)) (ix2 (row t p) j)) ?_ ?_
  · rfl
  · blk_ext [row, idx t]

end Cert.Kernel16Ideal.Value

namespace Cert.Reference16Ideal.Value
open Cert.Reference16Ideal

theorem run_spec (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v0) = (total (m ((c.tc : Thread nD τ).loc main_arg0)))
      ∧ r.2.mem ((c.tc : Thread nD τ).loc main_v24) = changes (total (m ((c.tc : Thread nD τ).loc main_arg0)))
          (m ((c.tc : Thread nD τ).loc main_arg1)) (m ((c.tc : Thread nD τ).loc main_arg2)) (m ((c.tc : Thread nD τ).loc main_arg3))
      ∧ r.2.mem ((c.tc : Thread nD τ).loc main_v5) = moments (total (m ((c.tc : Thread nD τ).loc main_arg0))) (m ((c.tc : Thread nD τ).loc main_arg2))
      ∧ r.2.mem ((c.tc : Thread nD τ).loc main_v11) = squares (total (m ((c.tc : Thread nD τ).loc main_arg0))) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun _ h c => ⟨(h c).1.trans ?_, (h c).2.1.trans ?_, (h c).2.2.1.trans ?_, (h c).2.2.2.1.trans ?_, (h c).2.2.2.2⟩) (run m ρ)
  all_goals
    clear h
    funext y
    obtain ⟨p, j, rfl⟩ : ∃ (p : Fin 360) (j : Fin 1024), y = ix2 p j := ⟨_, _, eq_ix2 y⟩
    simp only [changes, moments, squares, delta, newM, newV, total]
    pointwise

end Cert.Reference16Ideal.Value

end
-- ==== Proof.Merge.lean ====
module
public import proofs.«01_k».proof.Proof.Gate

/-! The mixer's merge of its three branches and the normed rows that start a sub-layer, as functions of whole arrays. -/

@[expose] public section
noncomputable section
open Idealize.ShloMosaic
namespace Cert.Merge
open Cert.Product Cert.Gate

/-- The column of the input product that holds column `j` of branch `n`'s gate. -/
abbrev gcol (n : Fin 3) (j : Fin 1024) : Fin 10240 := ⟨(7 + n.val) * 1024 + j.val, by omega⟩

/-- A branch's gate. -/
def gate {a : ℕ} (Z : Mat a 10240) (n : Fin 3) : Mat a 1024 := fun y => sgR (Z (ix2 (y 0) (gcol n (y 1))))

theorem gate_at {a : ℕ} (Z : Mat a 10240) (n : Fin 3) (p : Fin a) (j : Fin 1024) (i : Fin 10240) (h : i.val = (7 + n.val) * 1024 + j.val) :
    Ideal.div 1 (1 + Ideal.exp (-Z (ix2 p i))) = gate Z n (ix2 p j) := by
  obtain rfl : i = gcol n j := Fin.ext h
  unfold gate sgR
  rw [cO_eq, EReal.coe_one]
  rfl

/-- The sum of the gated branches. -/
def merge {a : ℕ} (Z : Mat a 10240) (A B C : Mat a 1024) : Mat a 1024 :=
  fun y => gate Z 0 y * A y + gate Z 1 y * B y + gate Z 2 y * C y

/-- The gradients of the branches: the merge's gradient times each gate. -/
def dbranches {a : ℕ} (Z : Mat a 10240) (DM : Mat a 1024) : (⟨3, ![3, a, 1024]⟩ : Shape).Idx → EReal :=
  fun y => gate Z (y 0) (ix2 (y 1) (y 2)) * DM (ix2 (y 1) (y 2))

/-- Three arrays, one behind the other. -/
def stack3 {a b : ℕ} (A B C : Mat a b) : (⟨3, ![3, a, b]⟩ : Shape).Idx → EReal :=
  fun y => (![A, B, C] : Fin 3 → Mat a b) (y 0) (ix2 (y 1) (y 2))

/-- A vector of numbers. -/
abbrev Vec1 (n : ℕ) := (⟨1, ![n]⟩ : Shape).Idx → EReal

/-- The residual stream behind a sub-layer: the stream before it and what the sub-layer leaves, gated. -/
def resid {a b : ℕ} (X F : Mat a b) (g : Vec1 b) : Mat a b := fun y => X y + g (ix1 (y 1)) * F y

/-- The rows over their root mean square, weighted, scaled and shifted. -/
def normed {a b : ℕ} (X : Mat a b) (g sc sh : Vec1 b) : Mat a b :=
  fun y => X y * Norm.rr (fun l => X (ix2 (y 0) l)) * g (ix1 (y 1)) * (1 + sc (ix1 (y 1))) + sh (ix1 (y 1))

/-- The conditioning, activated. -/
def act {a b : ℕ} (C : Mat a b) : Mat a b := fun y => C y * sgR (C y)

/-- The products of one array with each layer's weight. -/
def layers {n a k b : ℕ} (C : Mat a k) (W : (⟨3, ![n, k, b]⟩ : Shape).Idx → EReal) :
    (⟨3, ![n, a, b]⟩ : Shape).Idx → EReal := fun y => ∑ l, C (ix2 (y 1) l) * W (ix3 (y 0) l (y 2))

/-- An array turned. -/
def turned {a b : ℕ} (A : Mat a b) : Mat b a := fun y => A (ix2 (y 1) (y 0))

end Cert.Merge

end
-- ==== Proof.Value17.lean ====
module
public import proofs.«01_k».proof.Proof.Gen.Kernel17Ideal.Value
public import proofs.«01_k».proof.Proof.Gen.Reference17Ideal.Run
public import proofs.«01_k».proof.Proof.Merge
public import Idealize.ShloMosaic.Lib.Pipeline.ValueKit

/-! The gradients of the mixer's branches through its merge: what the kernel leaves and what the reference returns. -/

@[expose] public section
set_option maxRecDepth 16384
noncomputable section
open Idealize.ShloMosaic Idealize.ShloMosaic.TcCoe Idealize.SL.Sem
open Idealize.ShloMosaic.Pipeline (Dat)
open Cert.Product Cert.Gate Cert.Merge

namespace Cert.Kernel17Ideal.Value
open Cert.Kernel17Ideal Cert.Kernel17Ideal.Gen

variable (m : (ℓ : Loc nD τ sig) → Buf (Elt Ideal) ℓ)

theorem idx : ∀ t : Fin cfg0.N, win0_0.index t = ![t.val / 3, 0]
    ∧ win0_1.index t = ![t.val / 3, 7 + t.val % 3]
    ∧ win0_3.index t = ![t.val % 3, t.val / 3, 0] :=
  (by decide +kernel : ∀ t : Fin grid0.N, _)

theorem lt_N (t : Fin cfg0.N) : t.val < 24 := lt_of_lt_of_eq t.isLt (show cfg0.N = 24 from N_0)

/-- The point's branch. -/
abbrev br (t : Fin cfg0.N) : Fin 3 := ⟨t.val % 3, by omega⟩
/-- A row of the arrays, by the point and the block's row. -/
abbrev row (t : Fin cfg0.N) (p : Fin 512) : Fin 4096 := ⟨t.val / 3 * 512 + p.val, by have := lt_N t; omega⟩

theorem dm_blk (c : Dev nD) (t : Fin cfg0.N) (p : Fin 512) (j : Fin 1024) :
    iblk m c 0 t (ix2 p j) = m ((c : Thread nD τ).loc main_arg0) (ix2 (row t p) j) := by
  blk_ext [iblk, V, row, idx t]

theorem z_blk (c : Dev nD) (t : Fin cfg0.N) (p : Fin 512) (j : Fin 1024) :
    iblk m c 1 t (ix2 p j) = m ((c : Thread nD τ).loc main_arg1) (ix2 (row t p) (gcol (br t) j)) := by
  blk_ext [iblk, V, row, br, gcol, idx t]

/-- The array the call leaves is the branches' gradients. -/
theorem final_3 (c : Dev nD) : (dats m 0 c).arrAt 3 (cfgs 0).N = dbranches
    (m ((c : Thread nD τ).loc main_arg1)) (m ((c : Thread nD τ).loc main_arg0)) := by
  refine (dats m 0 c).arrAt_eq_of_covers 3 _ (by decide +kernel) fun t hf y => ?_
  blk_simp; rw [after0_3]
  obtain ⟨z, p, j, rfl⟩ : ∃ (z : Fin 1) (p : Fin 512) (j : Fin 1024), y = ix3 z p j := ⟨_, _, _, eq_ix3 y⟩
  obtain rfl : z = 0 := Subsingleton.elim _ _
  frame_out
  pointwise [k0_pay1, k0_pay2, k0_pay3]
  rw [dm_blk, z_blk]
  refine Eq.trans (b := dbranches (m ((c : Thread nD τ).loc main_arg1))
    (m ((c : Thread nD τ).loc main_arg0)) (ix3 (br t) (row t p) j)) ?_ ?_
  · unfold dbranches gate
    rw [← sg_eq]
    exact mul_comm _ _
  · blk_ext [br, row, idx t]

end Cert.Kernel17Ideal.Value

namespace Cert.Reference17Ideal.Value
open Cert.Reference17Ideal

theorem run_spec (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v43) = dbranches
          (m ((c.tc : Thread nD τ).loc main_arg1)) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun _ h c => ⟨(h c).1.trans ?_, (h c).2⟩) (run m ρ)
  clear h
  funext y
  obtain ⟨z, p, j, rfl⟩ : ∃ (z : Fin 3) (p : Fin 4096) (j : Fin 1024), y = ix3 z p j := ⟨_, _, _, eq_ix3 y⟩
  unfold dbranches
  match z with
  | 0 => pointwise; exact congrArg (· * _) (gate_at _ 0 p j _ (by show 7168 + j.val = (7 + 0) * 1024 + j.val; omega))
  | 1 => pointwise; exact congrArg (· * _) (gate_at _ 1 p j _ (by show 7168 + (1024 + j.val) = (7 + 1) * 1024 + j.val; omega))
  | 2 => pointwise; exact congrArg (· * _) (gate_at _ 2 p j _ (by show 7168 + (2048 + j.val) = (7 + 2) * 1024 + j.val; omega))

end Cert.Reference17Ideal.Value

end
-- ==== Proof.Value18.lean ====
module
public import proofs.«01_k».proof.Proof.Gen.Kernel18Ideal.Value
public import proofs.«01_k».proof.Proof.Gen.Reference18Ideal.Run
public import proofs.«01_k».proof.Proof.Product
public import Idealize.ShloMosaic.Lib.Pipeline.ValueKit

/-! The gradient of the rows of the mixer's output product: what the kernel leaves and what the reference returns. -/

@[expose] public section
set_option maxRecDepth 16384
noncomputable section
open Idealize.ShloMosaic Idealize.ShloMosaic.TcCoe Idealize.SL.Sem
open Idealize.ShloMosaic.Pipeline (Dat)
open Cert.Product

namespace Cert.Kernel18Ideal.Value
open Cert.Kernel18Ideal Cert.Kernel18Ideal.Gen

variable (m : (ℓ : Loc nD τ sig) → Buf (Elt Ideal) ℓ)

theorem idx : ∀ t : Fin cfg0.N, win0_0.index t = ![t.val, 0]
    ∧ win0_1.index t = ![0, 0, 0]
    ∧ win0_2.index t = ![t.val, 0] :=
  (by decide +kernel : ∀ t : Fin grid0.N, _)

/-- The weight as the call takes it. -/
theorem v1_at (c : Dev nD) (j l : Fin 1024) :
    V m c main_v1 (ix3 0 j l) = m ((c : Thread nD τ).loc main_arg1) (ix2 j l) := by
  simp only [V, List.flatten_cons, List.flatten_nil, hostOps0, List.cons_append, List.nil_append]
  entry_read
  pointwise

theorem lt_N (t : Fin cfg0.N) : t.val < 4 := lt_of_lt_of_eq t.isLt (show cfg0.N = 4 from N_0)

/-- A row of the arrays, by the point and the block's row. -/
abbrev row (t : Fin cfg0.N) (p : Fin 1024) : Fin 4096 := ⟨t.val * 1024 + p.val, by have := lt_N t; omega⟩

theorem a_blk (c : Dev nD) (t : Fin cfg0.N) (p : Fin 1024) (l : Fin 1024) :
    iblk m c 0 t (ix2 p l) = m ((c : Thread nD τ).loc main_arg0) (ix2 (row t p) l) := by
  blk_ext [iblk, V, row, idx t]

theorem b_blk (c : Dev nD) (t : Fin cfg0.N) (j l : Fin 1024) :
    iblk m c 1 t (ix3 0 j l) = m ((c : Thread nD τ).loc main_arg1) (ix2 j l) := by
  refine Eq.trans ?_ (v1_at m c j l)
  blk_ext [iblk, idx t]

/-- The array the call leaves is the rows' gradient. -/
theorem final_2 (c : Dev nD) : (dats m 0 c).arrAt 2 (cfgs 0).N = pgrad
    (m ((c : Thread nD τ).loc main_arg0)) (m ((c : Thread nD τ).loc main_arg1)) := by
  refine (dats m 0 c).arrAt_eq_of_covers 2 _ (by decide +kernel) fun t hf y => ?_
  blk_simp; rw [after0_2]
  obtain ⟨p, j, rfl⟩ : ∃ (p : Fin 1024) (j : Fin 1024), y = ix2 p j := ⟨_, _, eq_ix2 y⟩
  frame_out
  pointwise [k0_pay1]
  refine Eq.trans (b := pgrad (m ((c : Thread nD τ).loc main_arg0))
    (m ((c : Thread nD τ).loc main_arg1)) (ix2 (row t p) j)) ?_ ?_
  · unfold pgrad
    exact Finset.sum_congr rfl fun l _ => congrArg₂ _ (a_blk m c t p l) (b_blk m c t j l)
  · blk_ext [row, idx t]

end Cert.Kernel18Ideal.Value

namespace Cert.Reference18Ideal.Value
open Cert.Reference18Ideal

theorem run_spec (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v4) = pgrad
          (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun _ h c => ⟨(h c).1.trans ?_, (h c).2⟩) (run m ρ)
  clear h
  funext y
  obtain ⟨p, j, rfl⟩ : ∃ (p : Fin 4096) (j : Fin 1024), y = ix2 p j := ⟨_, _, eq_ix2 y⟩
  unfold pgrad
  pointwise

end Cert.Reference18Ideal.Value

end
-- ==== Proof.Value19.lean ====
module
public import proofs.«01_k».proof.Proof.Gen.Kernel19Ideal.Value
public import proofs.«01_k».proof.Proof.Gen.Reference19Ideal.Run
public import proofs.«01_k».proof.Proof.Product
public import Idealize.ShloMosaic.Lib.Pipeline.ValueKit

/-! The weight gradient of the mixer's output product: what the kernel leaves and what the reference returns. -/

@[expose] public section
set_option maxRecDepth 16384
noncomputable section
open Idealize.ShloMosaic Idealize.ShloMosaic.TcCoe Idealize.SL.Sem
open Idealize.ShloMosaic.Pipeline (Dat)
open Cert.Product

namespace Cert.Kernel19Ideal.Value
open Cert.Kernel19Ideal Cert.Kernel19Ideal.Gen

variable (m : (ℓ : Loc nD τ sig) → Buf (Elt Ideal) ℓ)

theorem idx : ∀ t : Fin cfg0.N, win0_0.index t = ![0, 0]
    ∧ win0_1.index t = ![0, t.val]
    ∧ win0_2.index t = ![0, 0, t.val] :=
  (by decide +kernel : ∀ t : Fin grid0.N, _)

/-- The rows as the call takes them, turned. -/
theorem v0_at (c : Dev nD) (j : Fin 1024) (l : Fin 4096) :
    V m c main_v0 (ix2 j l) = m ((c : Thread nD τ).loc main_arg0) (ix2 l j) := by
  simp only [V, List.flatten_cons, List.flatten_nil, hostOps0, List.cons_append, List.nil_append]
  entry_read
  pointwise

theorem lt_N (t : Fin cfg0.N) : t.val < 4 := lt_of_lt_of_eq t.isLt (show cfg0.N = 4 from N_0)

/-- A column, by the point and the block's column. -/
abbrev col (t : Fin cfg0.N) (q : Fin 256) : Fin 1024 := ⟨t.val * 256 + q.val, by have := lt_N t; omega⟩

theorem a_blk (c : Dev nD) (t : Fin cfg0.N) (p : Fin 1024) (l : Fin 4096) :
    iblk m c 0 t (ix2 p l) = m ((c : Thread nD τ).loc main_arg0) (ix2 l p) := by
  refine Eq.trans ?_ (v0_at m c p l)
  blk_ext [iblk, idx t]

theorem b_blk (c : Dev nD) (t : Fin cfg0.N) (l : Fin 4096) (q : Fin 256) (i : Fin 1024) (hi : i.val = t.val * 256 + q.val) :
    iblk m c 1 t (ix2 l q) = m ((c : Thread nD τ).loc main_arg1) (ix2 l i) := by
  blk_ext [iblk, V, hi, idx t]

/-- The array the call leaves is the weight gradient. -/
theorem final_2 (c : Dev nD) : (dats m 0 c).arrAt 2 (cfgs 0).N = wgrad (g := 1) (b := 1024) rfl
    (m ((c : Thread nD τ).loc main_arg0)) (m ((c : Thread nD τ).loc main_arg1)) := by
  refine (dats m 0 c).arrAt_eq_of_covers 2 _ (by decide +kernel) fun t hf y => ?_
  blk_simp; rw [after0_2]
  obtain ⟨z, p, j, rfl⟩ : ∃ (z : Fin 1) (p : Fin 1024) (j : Fin 256), y = ix3 z p j := ⟨_, _, _, eq_ix3 y⟩
  obtain rfl : z = 0 := Subsingleton.elim _ _
  frame_out
  pointwise [k0_pay1]
  refine Eq.trans (b := wgrad (g := 1) (b := 1024) rfl (m ((c : Thread nD τ).loc main_arg0))
    (m ((c : Thread nD τ).loc main_arg1)) (ix3 0 p (col t j))) ?_ ?_
  · unfold wgrad
    exact Finset.sum_congr rfl fun l _ => congrArg₂ _ (a_blk m c t p l) (b_blk m c t l j _ ((congrArg (· + _) (Nat.zero_mul 1024)).trans (Nat.zero_add _)))
  · blk_ext [col, idx t]

end Cert.Kernel19Ideal.Value

namespace Cert.Reference19Ideal.Value
open Cert.Reference19Ideal

theorem run_spec (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v7) = wgrad (g := 1) (b := 1024) rfl
          (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun _ h c => ⟨(h c).1.trans ?_, (h c).2⟩) (run m ρ)
  clear h
  funext y
  obtain ⟨z, p, j, rfl⟩ : ∃ (z : Fin 1) (p : Fin 1024) (j : Fin 1024), y = ix3 z p j := ⟨_, _, _, eq_ix3 y⟩
  unfold wgrad
  pointwise
  exact Finset.sum_congr rfl fun l _ => mul_comm _ _

end Cert.Reference19Ideal.Value

end
-- ==== Proof.Value20.lean ====
module
public import proofs.«01_k».proof.Proof.Gen.Kernel20Ideal.Value
public import proofs.«01_k».proof.Proof.Gen.Reference20Ideal.Run
public import proofs.«01_k».proof.Proof.Product
public import Idealize.ShloMosaic.Lib.Pipeline.ValueKit

/-! The gradients of the rows of the three branches' output products: what the kernel leaves and what the reference returns. -/

@[expose] public section
set_option maxRecDepth 16384
noncomputable section
open Idealize.ShloMosaic Idealize.ShloMosaic.TcCoe Idealize.SL.Sem
open Idealize.ShloMosaic.Pipeline (Dat)
open Cert.Product

namespace Cert.Kernel20Ideal.Value
open Cert.Kernel20Ideal Cert.Kernel20Ideal.Gen

variable (m : (ℓ : Loc nD τ sig) → Buf (Elt Ideal) ℓ)

theorem idx : ∀ t : Fin cfg0.N, win0_0.index t = ![t.val / 4, t.val % 4, 0]
    ∧ win0_1.index t = ![0, 0, 0]
    ∧ win0_2.index t = ![0, 0, 0]
    ∧ win0_3.index t = ![0, 0, 0]
    ∧ win0_4.index t = ![t.val / 4, t.val % 4, 0] :=
  (by decide +kernel : ∀ t : Fin grid0.N, _)

/-- The first weight as the call takes it. -/
theorem w0_at (c : Dev nD) (j l : Fin 1024) :
    V m c main_v1 (ix3 0 j l) = m ((c : Thread nD τ).loc main_arg1) (ix2 j l) := by
  simp only [V, List.flatten_cons, List.flatten_nil, hostOps0, List.cons_append, List.nil_append]
  entry_read
  pointwise

/-- The second weight as the call takes it. -/
theorem w1_at (c : Dev nD) (j l : Fin 1024) :
    V m c main_v3 (ix3 0 j l) = m ((c : Thread nD τ).loc main_arg2) (ix2 j l) := by
  simp only [V, List.flatten_cons, List.flatten_nil, hostOps0, List.cons_append, List.nil_append]
  entry_read
  pointwise

/-- The third weight as the call takes it. -/
theorem w2_at (c : Dev nD) (j l : Fin 1024) :
    V m c main_v5 (ix3 0 j l) = m ((c : Thread nD τ).loc main_arg3) (ix2 j l) := by
  simp only [V, List.flatten_cons, List.flatten_nil, hostOps0, List.cons_append, List.nil_append]
  entry_read
  pointwise

theorem lt_N (t : Fin cfg0.N) : t.val < 12 := lt_of_lt_of_eq t.isLt (show cfg0.N = 12 from N_0)

/-- The point's branch. -/
abbrev br (t : Fin cfg0.N) : Fin 3 := ⟨t.val / 4, by have := lt_N t; omega⟩
/-- A row of the arrays, by the point and the block's row. -/
abbrev row (t : Fin cfg0.N) (p : Fin 1024) : Fin 4096 := ⟨t.val % 4 * 1024 + p.val, by omega⟩

theorem a_blk (c : Dev nD) (t : Fin cfg0.N) (p : Fin 1024) (l : Fin 1024) :
    iblk m c 0 t (ix3 0 p l) = m ((c : Thread nD τ).loc main_arg0) (ix3 (br t) (row t p) l) := by
  blk_ext [iblk, V, br, row, idx t]

theorem b0_blk (c : Dev nD) (t : Fin cfg0.N) (j l : Fin 1024) :
    iblk m c 1 t (ix3 0 j l) = m ((c : Thread nD τ).loc main_arg1) (ix2 j l) := by
  refine Eq.trans ?_ (w0_at m c j l)
  blk_ext [iblk, idx t]

theorem b1_blk (c : Dev nD) (t : Fin cfg0.N) (j l : Fin 1024) :
    iblk m c 2 t (ix3 0 j l) = m ((c : Thread nD τ).loc main_arg2) (ix2 j l) := by
  refine Eq.trans ?_ (w1_at m c j l)
  blk_ext [iblk, idx t]

theorem b2_blk (c : Dev nD) (t : Fin cfg0.N) (j l : Fin 1024) :
    iblk m c 3 t (ix3 0 j l) = m ((c : Thread nD τ).loc main_arg3) (ix2 j l) := by
  refine Eq.trans ?_ (w2_at m c j l)
  blk_ext [iblk, idx t]

/-- The three branches' weights, by the branch. -/
abbrev ws (c : Dev nD) : Fin 3 → Mat 1024 1024 :=
  ![m ((c : Thread nD τ).loc main_arg1), m ((c : Thread nD τ).loc main_arg2), m ((c : Thread nD τ).loc main_arg3)]

/-- What a point leaves: its branch's rows' gradient. -/
theorem outs_at (c : Dev nD) (t : Fin cfg0.N) (p j : Fin 1024) :
    outsAt0 m c t.val t.isLt (ix3 0 p j) = pgrads (m ((c : Thread nD τ).loc main_arg0)) (ws m c) (ix3 (br t) (row t p) j) := by
  have hN := lt_N t
  unfold pgrads
  by_cases h0 : t.val < 4
  · have hb : br t = 0 := Fin.ext (by simp only [br]; omega)
    rw [outsAt0_A m c t h0 (by omega) (by omega)]
    frame_out
    pointwise [k0_pay1]
    exact Finset.sum_congr rfl fun l _ => congrArg₂ _ (a_blk m c t p l) ((b0_blk m c t j l).trans (by rw [hb]; rfl))
  by_cases h2 : 8 ≤ t.val
  · have hb : br t = 2 := Fin.ext (by simp only [br]; omega)
    rw [outsAt0_C m c t h0 (by omega) h2]
    frame_out
    pointwise [k0_pay3]
    exact Finset.sum_congr rfl fun l _ => congrArg₂ _ (a_blk m c t p l) ((b2_blk m c t j l).trans (by rw [hb]; rfl))
  · have hb : br t = 1 := Fin.ext (by simp only [br]; omega)
    rw [outsAt0_B m c t h0 (by omega) h2]
    frame_out
    pointwise [k0_pay2]
    exact Finset.sum_congr rfl fun l _ => congrArg₂ _ (a_blk m c t p l) ((b1_blk m c t j l).trans (by rw [hb]; rfl))

/-- The array the call leaves is the three rows' gradients. -/
theorem final_4 (c : Dev nD) : (dats m 0 c).arrAt 4 (cfgs 0).N = pgrads (m ((c : Thread nD τ).loc main_arg0)) (ws m c) := by
  refine (dats m 0 c).arrAt_eq_of_covers 4 _ (by decide +kernel) fun t hf y => ?_
  blk_simp; rw [after0_4]
  obtain ⟨z, p, j, rfl⟩ : ∃ (z : Fin 1) (p : Fin 1024) (j : Fin 1024), y = ix3 z p j := ⟨_, _, _, eq_ix3 y⟩
  obtain rfl : z = 0 := Subsingleton.elim _ _
  refine (outs_at m c t p j).trans ?_
  blk_ext [br, row, idx t]

end Cert.Kernel20Ideal.Value

namespace Cert.Reference20Ideal.Value
open Cert.Reference20Ideal

theorem run_spec (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v24) = pgrads (m ((c.tc : Thread nD τ).loc main_arg0))
          ![m ((c.tc : Thread nD τ).loc main_arg1), m ((c.tc : Thread nD τ).loc main_arg2), m ((c.tc : Thread nD τ).loc main_arg3)]
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun _ h c => ⟨(h c).1.trans ?_, (h c).2⟩) (run m ρ)
  clear h
  funext y
  obtain ⟨z, p, j, rfl⟩ : ∃ (z : Fin 3) (p : Fin 4096) (j : Fin 1024), y = ix3 z p j := ⟨_, _, _, eq_ix3 y⟩
  unfold pgrads
  match z with
  | 0 => pointwise
  | 1 => pointwise
  | 2 => pointwise

end Cert.Reference20Ideal.Value

end
-- ==== Proof.Value21.lean ====
module
public import proofs.«01_k».proof.Proof.Gen.Kernel21Ideal.Value
public import proofs.«01_k».proof.Proof.Gen.Reference21Ideal.Run
public import proofs.«01_k».proof.Proof.Product
public import Idealize.ShloMosaic.Lib.Pipeline.ValueKit

/-! The weight gradients of the three branches' output products: what the kernel leaves and what the reference returns. -/

@[expose] public section
set_option maxRecDepth 16384
noncomputable section
open Idealize.ShloMosaic Idealize.ShloMosaic.TcCoe Idealize.SL.Sem
open Idealize.ShloMosaic.Pipeline (Dat)
open Cert.Product

namespace Cert.Kernel21Ideal.Value
open Cert.Kernel21Ideal Cert.Kernel21Ideal.Gen

variable (m : (ℓ : Loc nD τ sig) → Buf (Elt Ideal) ℓ)

theorem idx : ∀ t : Fin cfg0.N, win0_0.index t = ![t.val / 4, 0, 0]
    ∧ win0_1.index t = ![t.val / 4, 0, t.val % 4]
    ∧ win0_2.index t = ![t.val / 4, 0, t.val % 4] :=
  (by decide +kernel : ∀ t : Fin grid0.N, _)

/-- The rows as the call takes them, each branch's turned. -/
theorem v0_at (c : Dev nD) (n : Fin 3) (j : Fin 1024) (l : Fin 4096) :
    V m c main_v0 (ix3 n j l) = m ((c : Thread nD τ).loc main_arg0) (ix3 n l j) := by
  simp only [V, List.flatten_cons, List.flatten_nil, hostOps0, List.cons_append, List.nil_append]
  entry_read
  pointwise

theorem lt_N (t : Fin cfg0.N) : t.val < 12 := lt_of_lt_of_eq t.isLt (show cfg0.N = 12 from N_0)

/-- The point's branch. -/
abbrev br (t : Fin cfg0.N) : Fin 3 := ⟨t.val / 4, by have := lt_N t; omega⟩
/-- A column, by the point and the block's column. -/
abbrev col (t : Fin cfg0.N) (q : Fin 256) : Fin 1024 := ⟨t.val % 4 * 256 + q.val, by omega⟩

theorem a_blk (c : Dev nD) (t : Fin cfg0.N) (p : Fin 1024) (l : Fin 4096) :
    iblk m c 0 t (ix3 0 p l) = m ((c : Thread nD τ).loc main_arg0) (ix3 (br t) l p) := by
  refine Eq.trans ?_ (v0_at m c (br t) p l)
  blk_ext [iblk, br, idx t]

theorem b_blk (c : Dev nD) (t : Fin cfg0.N) (l : Fin 4096) (q : Fin 256) :
    iblk m c 1 t (ix3 0 l q) = m ((c : Thread nD τ).loc main_arg1) (ix3 (br t) l (col t q)) := by
  blk_ext [iblk, V, br, col, idx t]

/-- The array the call leaves is the three weight gradients. -/
theorem final_2 (c : Dev nD) : (dats m 0 c).arrAt 2 (cfgs 0).N = wgrads
    (m ((c : Thread nD τ).loc main_arg0)) (m ((c : Thread nD τ).loc main_arg1)) := by
  refine (dats m 0 c).arrAt_eq_of_covers 2 _ (by decide +kernel) fun t hf y => ?_
  blk_simp; rw [after0_2]
  obtain ⟨z, p, j, rfl⟩ : ∃ (z : Fin 1) (p : Fin 1024) (j : Fin 256), y = ix3 z p j := ⟨_, _, _, eq_ix3 y⟩
  obtain rfl : z = 0 := Subsingleton.elim _ _
  frame_out
  pointwise [k0_pay1]
  refine Eq.trans (b := wgrads (m ((c : Thread nD τ).loc main_arg0))
    (m ((c : Thread nD τ).loc main_arg1)) (ix3 (br t) p (col t j))) ?_ ?_
  · unfold wgrads
    exact Finset.sum_congr rfl fun l _ => congrArg₂ _ (a_blk m c t p l) (b_blk m c t l j)
  · blk_ext [br, col, idx t]

end Cert.Kernel21Ideal.Value

namespace Cert.Reference21Ideal.Value
open Cert.Reference21Ideal

theorem run_spec (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v36) = wgrads
          (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun _ h c => ⟨(h c).1.trans ?_, (h c).2⟩) (run m ρ)
  clear h
  funext y
  obtain ⟨z, p, j, rfl⟩ : ∃ (z : Fin 3) (p : Fin 1024) (j : Fin 1024), y = ix3 z p j := ⟨_, _, _, eq_ix3 y⟩
  unfold wgrads
  match z with
  | 0 => pointwise; exact Finset.sum_congr rfl fun l _ => mul_comm _ _
  | 1 => pointwise; exact Finset.sum_congr rfl fun l _ => mul_comm _ _
  | 2 => pointwise; exact Finset.sum_congr rfl fun l _ => mul_comm _ _

end Cert.Reference21Ideal.Value

end
-- ==== Proof.Value22.lean ====
module
public import proofs.«01_k».proof.Proof.Gen.Kernel22Ideal.Value
public import proofs.«01_k».proof.Proof.Gen.Reference22Ideal.Run
public import proofs.«01_k».proof.Proof.Merge
public import Idealize.ShloMosaic.Lib.Pipeline.ValueKit

/-! The branches' output products and their gated merge: what the kernel leaves and what the reference returns. -/

@[expose] public section
set_option maxRecDepth 16384
noncomputable section
open Idealize.ShloMosaic Idealize.ShloMosaic.TcCoe Idealize.SL.Sem
open Idealize.ShloMosaic.Pipeline (Dat)
open Cert.Product Cert.Gate Cert.Merge

namespace Cert.Kernel22Ideal.Value
open Cert.Kernel22Ideal Cert.Kernel22Ideal.Gen

variable (m : (ℓ : Loc nD τ sig) → Buf (Elt Ideal) ℓ)

theorem idx : ∀ t : Fin cfg0.N, win0_0.index t = ![t.val, 0]
    ∧ win0_1.index t = ![t.val, 0]
    ∧ win0_2.index t = ![t.val, 0]
    ∧ win0_3.index t = ![0, 0]
    ∧ win0_4.index t = ![0, 0]
    ∧ win0_5.index t = ![0, 0]
    ∧ win0_6.index t = ![t.val, 7]
    ∧ win0_7.index t = ![t.val, 8]
    ∧ win0_8.index t = ![t.val, 9]
    ∧ win0_9.index t = ![t.val, 0]
    ∧ win0_10.index t = ![0, t.val]
    ∧ win0_11.index t = ![0, t.val, 0] :=
  (by decide +kernel : ∀ t : Fin grid0.N, _)

theorem lt_N (t : Fin cfg0.N) : t.val < 8 := lt_of_lt_of_eq t.isLt (show cfg0.N = 8 from N_0)

/-- A row of the arrays, by the point and the block's row. -/
abbrev row (t : Fin cfg0.N) (p : Fin 512) : Fin 4096 := ⟨t.val * 512 + p.val, by have := lt_N t; omega⟩

/-- The weights as the call takes them. -/
theorem w_at (c : Dev nD) (l j : Fin 1024) :
    V m c main_v0 (ix2 l j) = m ((c : Thread nD τ).loc main_arg3) (ix2 l j)
    ∧ V m c main_v1 (ix2 l j) = m ((c : Thread nD τ).loc main_arg4) (ix2 l j)
    ∧ V m c main_v2 (ix2 l j) = m ((c : Thread nD τ).loc main_arg5) (ix2 l j) := by
  refine ⟨?_, ?_, ?_⟩ <;>
  · simp only [V, List.flatten_cons, List.flatten_nil, hostOps0, List.cons_append, List.nil_append]
    entry_read
    pointwise

theorem a_blk (c : Dev nD) (t : Fin cfg0.N) (p : Fin 512) (l : Fin 1024) :
    iblk m c 0 t (ix2 p l) = m ((c : Thread nD τ).loc main_arg0) (ix2 (row t p) l) := by
  blk_ext [iblk, V, row, idx t]

theorem b_blk (c : Dev nD) (t : Fin cfg0.N) (p : Fin 512) (l : Fin 1024) :
    iblk m c 1 t (ix2 p l) = m ((c : Thread nD τ).loc main_arg1) (ix2 (row t p) l) := by
  blk_ext [iblk, V, row, idx t]

theorem c_blk (c : Dev nD) (t : Fin cfg0.N) (p : Fin 512) (l : Fin 1024) :
    iblk m c 2 t (ix2 p l) = m ((c : Thread nD τ).loc main_arg2) (ix2 (row t p) l) := by
  blk_ext [iblk, V, row, idx t]

theorem wa_blk (c : Dev nD) (t : Fin cfg0.N) (l j : Fin 1024) :
    iblk m c 3 t (ix2 l j) = m ((c : Thread nD τ).loc main_arg3) (ix2 l j) := by
  refine Eq.trans ?_ (w_at m c l j).1
  blk_ext [iblk, idx t]

theorem wb_blk (c : Dev nD) (t : Fin cfg0.N) (l j : Fin 1024) :
    iblk m c 4 t (ix2 l j) = m ((c : Thread nD τ).loc main_arg4) (ix2 l j) := by
  refine Eq.trans ?_ (w_at m c l j).2.1
  blk_ext [iblk, idx t]

theorem wc_blk (c : Dev nD) (t : Fin cfg0.N) (l j : Fin 1024) :
    iblk m c 5 t (ix2 l j) = m ((c : Thread nD τ).loc main_arg5) (ix2 l j) := by
  refine Eq.trans ?_ (w_at m c l j).2.2
  blk_ext [iblk, idx t]

theorem z0_blk (c : Dev nD) (t : Fin cfg0.N) (p : Fin 512) (j : Fin 1024) :
    iblk m c 6 t (ix2 p j) = m ((c : Thread nD τ).loc main_arg6) (ix2 (row t p) (gcol 0 j)) := by
  blk_ext [iblk, V, row, gcol, idx t]

theorem z1_blk (c : Dev nD) (t : Fin cfg0.N) (p : Fin 512) (j : Fin 1024) :
    iblk m c 7 t (ix2 p j) = m ((c : Thread nD τ).loc main_arg6) (ix2 (row t p) (gcol 1 j)) := by
  blk_ext [iblk, V, row, gcol, idx t]

theorem z2_blk (c : Dev nD) (t : Fin cfg0.N) (p : Fin 512) (j : Fin 1024) :
    iblk m c 8 t (ix2 p j) = m ((c : Thread nD τ).loc main_arg6) (ix2 (row t p) (gcol 2 j)) := by
  blk_ext [iblk, V, row, gcol, idx t]

/-- The three branches' products of the whole arrays, and their gated sum. -/
abbrev A0 (c : Dev nD) := prod (m ((c : Thread nD τ).loc main_arg0)) (m ((c : Thread nD τ).loc main_arg3))
abbrev A1 (c : Dev nD) := prod (m ((c : Thread nD τ).loc main_arg1)) (m ((c : Thread nD τ).loc main_arg4))
abbrev A2 (c : Dev nD) := prod (m ((c : Thread nD τ).loc main_arg2)) (m ((c : Thread nD τ).loc main_arg5))
abbrev MM (c : Dev nD) := merge (m ((c : Thread nD τ).loc main_arg6)) (A0 m c) (A1 m c) (A2 m c)

theorem y0_at (c : Dev nD) (t : Fin cfg0.N) (p : Fin 512) (j : Fin 1024) :
    k0_pay6 (F := Ideal) (iblk m c 0 t) (iblk m c 3 t) (ix2 p j) = A0 m c (ix2 (row t p) j) := by
  pointwise [k0_pay6]
  exact Finset.sum_congr rfl fun l _ => congrArg₂ _ (a_blk m c t p l) (wa_blk m c t l j)

theorem y1_at (c : Dev nD) (t : Fin cfg0.N) (p : Fin 512) (j : Fin 1024) :
    k0_pay9 (F := Ideal) (iblk m c 1 t) (iblk m c 4 t) (ix2 p j) = A1 m c (ix2 (row t p) j) := by
  pointwise [k0_pay9]
  exact Finset.sum_congr rfl fun l _ => congrArg₂ _ (b_blk m c t p l) (wb_blk m c t l j)

theorem y2_at (c : Dev nD) (t : Fin cfg0.N) (p : Fin 512) (j : Fin 1024) :
    k0_pay1 (F := Ideal) (iblk m c 2 t) (iblk m c 5 t) (ix2 p j) = A2 m c (ix2 (row t p) j) := by
  pointwise [k0_pay1]
  exact Finset.sum_congr rfl fun l _ => congrArg₂ _ (c_blk m c t p l) (wc_blk m c t l j)

/-- The block's gated sum, at the values read. -/
theorem pay3_eq (x0 x1 x2 : FVec Ideal S512x1024 .bf16) (x3 x4 x5 : FVec Ideal S1024x1024 .bf16) (x6 x7 x8 : FVec Ideal S512x1024 .bf16)
    (p : Fin 512) (j : Fin 1024) :
    k0_pay3 (F := Ideal) (k0_pay13 (F := Ideal) x0 x1 x2 x3 x4 x5 x6 x7 x8) (k0_pay14 (F := Ideal) x0 x1 x2 x3 x4 x5 x6 x7 x8)
      (k0_pay15 (F := Ideal) x0 x1 x2 x3 x4 x5 x6 x7 x8) (k0_pay16 (F := Ideal) x0 x1 x2 x3 x4 x5 x6 x7 x8) x2 x5 x8 (ix2 p j)
    = sgK (x6 (ix2 p j)) * k0_pay6 (F := Ideal) x0 x3 (ix2 p j) + sgK (x7 (ix2 p j)) * k0_pay9 (F := Ideal) x1 x4 (ix2 p j)
      + sgK (x8 (ix2 p j)) * k0_pay1 (F := Ideal) x2 x5 (ix2 p j) := by
  have e (x : FVec Ideal S512x1024 .bf16) : View.ld (Val := Elt Ideal) (e' := .bf16) x r0_0 = x :=
    View.ld_unit_lit (Val := Elt Ideal) (e := .bf16) (S := S512x1024) (off := ![0, 0]) inb_S512x1024_S512x1024_0_0 x (by decide)
  have e' (x : FVec Ideal S1024x1024 .bf16) : View.ld (Val := Elt Ideal) (e' := .bf16) x r0_1 = x :=
    View.ld_unit_lit (Val := Elt Ideal) (e := .bf16) (S := S1024x1024) (off := ![0, 0]) inb_S1024x1024_S1024x1024_0_0 x (by decide)
  unfold k0_pay13 k0_pay14 k0_pay15 k0_pay16
  rw [e x0, e x1, e x6, e x7, e' x3, e' x4]
  pointwise [k0_pay3, k0_pay8, k0_pay11, k0_pay12]
  rfl

theorem merged_at (c : Dev nD) (t : Fin cfg0.N) (p : Fin 512) (j : Fin 1024) :
    k0_pay3 (F := Ideal)
      (k0_pay13 (F := Ideal) (iblk m c 0 t) (iblk m c 1 t) (iblk m c 2 t) (iblk m c 3 t) (iblk m c 4 t) (iblk m c 5 t) (iblk m c 6 t) (iblk m c 7 t) (iblk m c 8 t))
      (k0_pay14 (F := Ideal) (iblk m c 0 t) (iblk m c 1 t) (iblk m c 2 t) (iblk m c 3 t) (iblk m c 4 t) (iblk m c 5 t) (iblk m c 6 t) (iblk m c 7 t) (iblk m c 8 t))
      (k0_pay15 (F := Ideal) (iblk m c 0 t) (iblk m c 1 t) (iblk m c 2 t) (iblk m c 3 t) (iblk m c 4 t) (iblk m c 5 t) (iblk m c 6 t) (iblk m c 7 t) (iblk m c 8 t))
      (k0_pay16 (F := Ideal) (iblk m c 0 t) (iblk m c 1 t) (iblk m c 2 t) (iblk m c 3 t) (iblk m c 4 t) (iblk m c 5 t) (iblk m c 6 t) (iblk m c 7 t) (iblk m c 8 t))
      (iblk m c 2 t) (iblk m c 5 t) (iblk m c 8 t) (ix2 p j) = MM m c (ix2 (row t p) j) := by
  rw [pay3_eq, y0_at, y1_at, y2_at, z0_blk, z1_blk, z2_blk, sg_eq, sg_eq, sg_eq]
  rfl

theorem final_9 (c : Dev nD) : (dats m 0 c).arrAt 9 (cfgs 0).N = MM m c := by
  refine (dats m 0 c).arrAt_eq_of_covers 9 _ (by decide +kernel) fun t hf y => ?_
  blk_simp; rw [after0_9]
  obtain ⟨p, j, rfl⟩ : ∃ (p : Fin 512) (j : Fin 1024), y = ix2 p j := ⟨_, _, eq_ix2 y⟩
  frame_out
  pointwise [k0_pay4]
  refine (merged_at m c t p j).trans ?_
  blk_ext [row, idx t]

theorem final_10 (c : Dev nD) : (dats m 0 c).arrAt 10 (cfgs 0).N = turned (MM m c) := by
  refine (dats m 0 c).arrAt_eq_of_covers 10 _ (by decide +kernel) fun t hf y => ?_
  blk_simp; rw [after0_10]
  obtain ⟨j, p, rfl⟩ : ∃ (j : Fin 1024) (p : Fin 512), y = ix2 j p := ⟨_, _, eq_ix2 y⟩
  frame_out
  pointwise [k0_pay5]
  refine (merged_at m c t p j).trans ?_
  unfold turned
  blk_ext [row, idx t]

theorem final_11 (c : Dev nD) : (dats m 0 c).arrAt 11 (cfgs 0).N = stack3 (A0 m c) (A1 m c) (A2 m c) := by
  refine (dats m 0 c).arrAt_eq_of_covers 11 _ (by decide +kernel) fun t hf y => ?_
  blk_simp; rw [after0_11]
  frame_out
  canon_tiles x w
  · obtain ⟨z, p, j, rfl⟩ : ∃ (z : Fin 1) (p : Fin 512) (j : Fin 1024), x = ix3 z p j := ⟨_, _, _, eq_ix3 x⟩
    obtain rfl : z = 0 := Subsingleton.elim _ _
    replace w0 : (y 0).val = 2 := w0
    replace w1 : (y 1).val = p.val := w1
    replace w2 : (y 2).val = j.val := w2
    pointwise [k0_pay2]
    refine (y2_at m c t p j).trans (show stack3 (A0 m c) (A1 m c) (A2 m c) (ix3 2 (row t p) j) = _ from ?_)
    blk_ext [idx t]
  · obtain ⟨z, p, j, rfl⟩ : ∃ (z : Fin 1) (p : Fin 512) (j : Fin 1024), x = ix3 z p j := ⟨_, _, _, eq_ix3 x⟩
    obtain rfl : z = 0 := Subsingleton.elim _ _
    replace w0 : (y 0).val = 1 := w0
    replace w1 : (y 1).val = p.val := w1
    replace w2 : (y 2).val = j.val := w2
    pointwise [k0_pay10]
    refine (y1_at m c t p j).trans (show stack3 (A0 m c) (A1 m c) (A2 m c) (ix3 1 (row t p) j) = _ from ?_)
    blk_ext [idx t]
  · obtain ⟨z, p, j, rfl⟩ : ∃ (z : Fin 1) (p : Fin 512) (j : Fin 1024), x = ix3 z p j := ⟨_, _, _, eq_ix3 x⟩
    obtain rfl : z = 0 := Subsingleton.elim _ _
    replace w0 : (y 0).val = 0 := w0
    replace w1 : (y 1).val = p.val := w1
    replace w2 : (y 2).val = j.val := w2
    pointwise [k0_pay7]
    refine (y0_at m c t p j).trans (show stack3 (A0 m c) (A1 m c) (A2 m c) (ix3 0 (row t p) j) = _ from ?_)
    blk_ext [idx t]

end Cert.Kernel22Ideal.Value

namespace Cert.Reference22Ideal.Value
open Cert.Reference22Ideal

variable (m : (ℓ : Loc nD τ sig) → Buf (Elt Ideal) ℓ)

/-- The three branches' products, and their gated sum. -/
abbrev A0 (c : Dev nD) := prod (m ((c.tc : Thread nD τ).loc main_arg0)) (m ((c.tc : Thread nD τ).loc main_arg3))
abbrev A1 (c : Dev nD) := prod (m ((c.tc : Thread nD τ).loc main_arg1)) (m ((c.tc : Thread nD τ).loc main_arg4))
abbrev A2 (c : Dev nD) := prod (m ((c.tc : Thread nD τ).loc main_arg2)) (m ((c.tc : Thread nD τ).loc main_arg5))
abbrev MM (c : Dev nD) := merge (m ((c.tc : Thread nD τ).loc main_arg6)) (A0 m c) (A1 m c) (A2 m c)

/-- The gated sum, from the gates' columns as the mathematics reads them. -/
theorem merge_at (Z : Mat 4096 10240) (A B C : Mat 4096 1024) (p : Fin 4096) (j : Fin 1024) (i0 i1 i2 : Fin 10240)
    (h0 : i0.val = 7168 + j.val) (h1 : i1.val = 7168 + (1024 + j.val)) (h2 : i2.val = 7168 + (2048 + j.val)) :
    Ideal.div 1 (1 + Ideal.exp (-Z (ix2 p i0))) * A (ix2 p j) + Ideal.div 1 (1 + Ideal.exp (-Z (ix2 p i1))) * B (ix2 p j)
      + Ideal.div 1 (1 + Ideal.exp (-Z (ix2 p i2))) * C (ix2 p j) = merge Z A B C (ix2 p j) := by
  rw [gate_at Z 0 p j i0 (by show _ = (7 + 0) * 1024 + j.val; omega), gate_at Z 1 p j i1 (by show _ = (7 + 1) * 1024 + j.val; omega),
    gate_at Z 2 p j i2 (by show _ = (7 + 2) * 1024 + j.val; omega)]
  rfl

theorem run_spec (ρ : Dev nD → PrngReg) :
    θ_run defs (onTc (τ := τ) (main (F := Ideal))) ⟨m, fun _ => 0, ρ⟩ fun r => ∀ c : Dev nD,
      r.2.mem ((c.tc : Thread nD τ).loc main_v34) = MM m c
      ∧ r.2.mem ((c.tc : Thread nD τ).loc main_v36) = turned (MM m c)
      ∧ r.2.mem ((c.tc : Thread nD τ).loc main_v41) = stack3 (A0 m c) (A1 m c) (A2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun _ h c => ⟨(h c).1.trans ?_, (h c).2.1.trans ?_, (h c).2.2.1.trans ?_, (h c).2.2.2⟩) (run m ρ)
  all_goals (clear h; funext y)
  · obtain ⟨p, j, rfl⟩ : ∃ (p : Fin 4096) (j : Fin 1024), y = ix2 p j := ⟨_, _, eq_ix2 y⟩
    pointwise
    exact merge_at _ (A0 m c) (A1 m c) (A2 m c) p j _ _ _ rfl rfl rfl
  · obtain ⟨j, p, rfl⟩ : ∃ (j : Fin 1024) (p : Fin 4096), y = ix2 j p := ⟨_, _, eq_ix2 y⟩
    pointwise
    exact merge_at _ (A0 m c) (A1 m c) (A2 m c) p j _ _ _ rfl rfl rfl
  · obtain ⟨z, p, j, rfl⟩ : ∃ (z : Fin 3) (p : Fin 4096) (j : Fin 1024), y = ix3 z p j := ⟨_, _, _, eq_ix3 y⟩
    match z with
    | 0 => pointwise; rfl
    | 1 => pointwise; rfl
    | 2 => pointwise; rfl

end Cert.Reference22Ideal.Value

end
-- ==== Proof.Value23.lean ====
module
public import proofs.«01_k».proof.Proof.Gen.Kernel23Ideal.Value
public import proofs.«01_k».proof.Proof.Gen.Reference23Ideal.Run
public import proofs.«01_k».proof.Proof.Merge
public import proofs.«01_k».proof.Proof.Rows
public import Idealize.ShloMosaic.Lib.Pipeline.ValueKit

/-! The mixer's output product, the residual stream and the second norm: what the kernel leaves and what the reference returns. -/

@[expose] public section
set_option maxRecDepth 16384
noncomputable section
open Idealize.ShloMosaic Idealize.ShloMosaic.TcCoe Idealize.SL.Sem
open Idealize.ShloMosaic.Pipeline (Dat)
open Cert.Product Cert.Merge Cert.Rows

namespace Cert.Kernel23Ideal.Value
open Cert.Kernel23Ideal Cert.Kernel23Ideal.Gen

variable (m : (ℓ : Loc nD τ sig) → Buf (Elt Ideal) ℓ)

theorem idx : ∀ t : Fin cfg0.N, win0_0.index t = ![t.val, 0]
    ∧ win0_1.index t = ![0, 0, 0]
    ∧ win0_2.index t = ![t.val, 0]
    ∧ win0_3.index t = ![0, 0]
    ∧ win0_4.index t = ![t.val, 0]
    ∧ win0_5.index t = ![t.val, 0]
    ∧ win0_6.index t = ![t.val, 0]
    ∧ win0_7.index t = ![0, t.val] :=
  (by decide +kernel : ∀ t : Fin grid0.N, _)

theorem lt_N (t : Fin cfg0.N) : t.val < 8 := lt_of_lt_of_eq t.isLt (show cfg0.N = 8 from N_0)

/-- A row of the arrays, by the point and the block's row. -/
abbrev rowOf (t : Fin cfg0.N) (p : Fin 512) : Fin 4096 := ⟨t.val * 512 + p.val, by have := lt_N t; omega⟩

/-- The weight as the call takes it. -/
theorem v1_at (c : Dev nD) (l : Fin 1024) (j : Fin 1024) :
    V m c main_v1 (ix3 0 l j) = m ((c : Thread nD τ).loc main_arg1) (ix2 l j) := by
  show StableHlo.after hostOps0_1 (StableHlo.after hostOps0 (fun b => m (c, b))) (Proc.tc.devRef main_v1) _ = _
  after_results_simp
  pointwise

/-- The vectors as the call takes them, one behind the other. -/
theorem v7_at (c : Dev nD) (o : Fin 4) (j : Fin 1024) :
    V m c main_v7 (ix2 (Fin.castLE (by decide) o : Fin 8) j) = if (o : ℕ) < 1 then m ((c : Thread nD τ).loc main_arg3) (ix1 j)
      else if (o : ℕ) - 1 < 1 then m ((c : Thread nD τ).loc main_arg4) (ix1 j)
      else if (o : ℕ) - 2 < 1 then m ((c : Thread nD τ).loc main_arg5) (ix1 j) else m ((c : Thread nD τ).loc main_arg6) (ix1 j) := by
  show StableHlo.after hostOps0_1 (StableHlo.after hostOps0 (fun b => m (c, b))) (Proc.tc.devRef main_v7) _ = _
  have h5 : (StableHlo.after hostOps0 (fun b => m (c, b)) (Proc.tc.devRef main_v6) : FVec Ideal S4x1024 .f32) (ix2 o j)
      = if (o : ℕ) < 1 then m ((c : Thread nD τ).loc main_arg3) (ix1 j)
        else if (o : ℕ) - 1 < 1 then m ((c : Thread nD τ).loc main_arg4) (ix1 j)
        else if (o : ℕ) - 2 < 1 then m ((c : Thread nD τ).loc main_arg5) (ix1 j) else m ((c : Thread nD τ).loc main_arg6) (ix1 j) := by
    after_results_simp
    dsimp only [Matrix.cons_val]
    after_results_simp
    pointwise
    rfl
  refine Eq.trans ?_ h5
  generalize StableHlo.after hostOps0 (fun b => m (c, b)) = W
  after_results_simp
  show pad S8x1024 ![0, 0] ![4, 0] ![0, 0] (W (Proc.tc.devRef main_v6) : FVec Ideal S4x1024 .f32)
    (sitofp (F := Ideal) .f32 (W (Proc.tc.devRef main_c) : IVec S_ 32)) pads_S4x1024_S8x1024_040_000 h_S_ _ = _
  exact pad_row _ _ _ _ _ _ o j

theorem a_blk (c : Dev nD) (t : Fin cfg0.N) (p : Fin 512) (l : Fin 1024) :
    iblk m c 0 t (ix2 p l) = m ((c : Thread nD τ).loc main_arg0) (ix2 (rowOf t p) l) := by
  blk_ext [iblk, V, rowOf, idx t]

theorem w_blk (c : Dev nD) (t : Fin cfg0.N) (l : Fin 1024) (j : Fin 1024) :
    iblk m c 1 t (ix3 0 l j) = m ((c : Thread nD τ).loc main_arg1) (ix2 l j) := by
  refine Eq.trans ?_ (v1_at m c l j)
  blk_ext [iblk, idx t]

theorem x_blk (c : Dev nD) (t : Fin cfg0.N) (p : Fin 512) (j : Fin 1024) :
    iblk m c 2 t (ix2 p j) = m ((c : Thread nD τ).loc main_arg2) (ix2 (rowOf t p) j) := by
  blk_ext [iblk, V, rowOf, idx t]

theorem vec_blk (c : Dev nD) (t : Fin cfg0.N) (o : Fin 8) (j : Fin 1024) : iblk m c 3 t (ix2 o j) = V m c main_v7 (ix2 o j) := by
  blk_ext [iblk, idx t]

theorem gate_blk (c : Dev nD) (t : Fin cfg0.N) (j : Fin 1024) :
    iblk m c 3 t (ix2 0 j) = m ((c : Thread nD τ).loc main_arg3) (ix1 j) := (vec_blk m c t 0 j).trans (v7_at m c 0 j)

theorem g_blk (c : Dev nD) (t : Fin cfg0.N) (j : Fin 1024) :
    iblk m c 3 t (ix2 1 j) = m ((c : Thread nD τ).loc main_arg4) (ix1 j) := (vec_blk m c t 1 j).trans (v7_at m c 1 j)

theorem sc_blk (c : Dev nD) (t : Fin cfg0.N) (j : Fin 1024) :
    iblk m c 3 t (ix2 2 j) = m ((c : Thread nD τ).loc main_arg5) (ix1 j) := (vec_blk m c t 2 j).trans (v7_at m c 2 j)

theorem sh_blk (c : Dev nD) (t : Fin cfg0.N) (j : Fin 1024) :
    iblk m c 3 t (ix2 3 j) = m ((c : Thread nD τ).loc main_arg6) (ix1 j) := (vec_blk m c t 3 j).trans (v7_at m c 3 j)

/-- The product, the residual stream behind it and its normed rows, of the whole arrays. -/
abbrev PP (c : Dev nD) := prod (m ((c : Thread nD τ).loc main_arg0)) (m ((c : Thread nD τ).loc main_arg1))
abbrev XX (c : Dev nD) := resid (m ((c : Thread nD τ).loc main_arg2)) (PP m c) (m ((c : Thread nD τ).loc main_arg3))
abbrev HH (c : Dev nD) := normed (XX m c) (m ((c : Thread nD τ).loc main_arg4))
  (m ((c : Thread nD τ).loc main_arg5)) (m ((c : Thread nD τ).loc main_arg6))

theorem p_at (c : Dev nD) (t : Fin cfg0.N) (p : Fin 512) (j : Fin 1024) :
    k0_pay4 (F := Ideal) (iblk m c 0 t) (iblk m c 1 t) (ix2 p j) = PP m c (ix2 (rowOf t p) j) := by
  pointwise [k0_pay4]
  exact Finset.sum_congr rfl fun l _ => congrArg₂ _ (a_blk m c t p l) (w_blk m c t l j)

theorem x_at (c : Dev nD) (t : Fin cfg0.N) (p : Fin 512) (j : Fin 1024) :
    k0_pay5 (F := Ideal) (iblk m c 0 t) (iblk m c 1 t) (iblk m c 2 t) (row 0 (iblk m c 3 t) inb_S8x1024_S1x1024_0_0) (ix2 p j)
      = XX m c (ix2 (rowOf t p) j) := by
  pointwise [k0_pay5]
  rw [row_at, p_at, x_blk, gate_blk]
  rfl

/-- The block's normed rows before the shift, at the values read. -/
theorem pay7_eq (x0 : FVec Ideal S512x1024 .bf16) (x1 : FVec Ideal S1x1024x1024 .bf16) (x2 : FVec Ideal S512x1024 .f32)
    (x3 : FVec Ideal S8x1024 .f32) : k0_pay7 (F := Ideal) x0 x1 x2 x3 = k0_pay6 (F := Ideal) x0 x1 x2
      (row 0 x3 inb_S8x1024_S1x1024_0_0) (row 1 x3 inb_S8x1024_S1x1024_1_0) (row 2 x3 inb_S8x1024_S1x1024_2_0) := by
  have e0 : View.ld (Val := Elt Ideal) (e' := .bf16) x0 r0_0 = x0 :=
    View.ld_unit_lit (Val := Elt Ideal) (e := .bf16) (S := S512x1024) (off := ![0, 0]) inb_S512x1024_S512x1024_0_0 x0 (by decide)
  have e1 : View.ld (Val := Elt Ideal) (e' := .bf16) x1 r0_1 = x1 :=
    View.ld_unit_lit (Val := Elt Ideal) (e := .bf16) (S := S1x1024x1024) (off := ![0, 0, 0]) inb_S1x1024x1024_S1x1024x1024_0_0_0 x1 (by decide)
  have e2 : View.ld (Val := Elt Ideal) (e' := .f32) x2 r0_0 = x2 :=
    View.ld_unit_lit (Val := Elt Ideal) (e := .f32) (S := S512x1024) (off := ![0, 0]) inb_S512x1024_S512x1024_0_0 x2 (by decide)
  unfold k0_pay7
  rw [e0, e1, e2]
  rfl

theorem h_at (c : Dev nD) (t : Fin cfg0.N) (p : Fin 512) (j : Fin 1024) :
    k0_pay1 (F := Ideal) (k0_pay7 (F := Ideal) (iblk m c 0 t) (iblk m c 1 t) (iblk m c 2 t) (iblk m c 3 t))
      (row 3 (iblk m c 3 t) inb_S8x1024_S1x1024_3_0) (ix2 p j) = HH m c (ix2 (rowOf t p) j) := by
  refine (congrArg (fun X => k0_pay1 (F := Ideal) X (row 3 (iblk m c 3 t) inb_S8x1024_S1x1024_3_0) (ix2 p j))
    (pay7_eq (iblk m c 0 t) (iblk m c 1 t) (iblk m c 2 t) (iblk m c 3 t))).trans ?_
  pointwise [k0_pay1, k0_pay6]
  simp only [row_at, x_at, g_blk, sc_blk, sh_blk]
  rfl

theorem final_4 (c : Dev nD) : (dats m 0 c).arrAt 4 (cfgs 0).N = PP m c := by
  refine (dats m 0 c).arrAt_eq_of_covers 4 _ (by decide +kernel) fun t hf y => ?_
  blk_simp; rw [after0_4]
  obtain ⟨p, j, rfl⟩ : ∃ (p : Fin 512) (j : Fin 1024), y = ix2 p j := ⟨_, _, eq_ix2 y⟩
  frame_out
  refine (p_at m c t p j).trans ?_
  blk_ext [rowOf, idx t]

theorem final_5 (c : Dev nD) : (dats m 0 c).arrAt 5 (cfgs 0).N = XX m c := by
  refine (dats m 0 c).arrAt_eq_of_covers 5 _ (by decide +kernel) fun t hf y => ?_
  blk_simp; rw [after0_5]
  obtain ⟨p, j, rfl⟩ : ∃ (p : Fin 512) (j : Fin 1024), y = ix2 p j := ⟨_, _, eq_ix2 y⟩
  frame_out
  refine (x_at m c t p j).trans ?_
  blk_ext [rowOf, idx t]

theorem final_6 (c : Dev nD) : (dats m 0 c).arrAt 6 (cfgs 0).N = HH m c := by
  refine (dats m 0 c).arrAt_eq_of_covers 6 _ (by decide +kernel) fun t hf y => ?_
  blk_simp; rw [after0_6]
  obtain ⟨p, j, rfl⟩ : ∃ (p : Fin 512) (j : Fin 1024), y = ix2 p j := ⟨_, _, eq_ix2 y⟩
  frame_out
  pointwise [k0_pay2]
  refine (h_at m c t p j).trans ?_
  blk_ext [rowOf, idx t]

theorem final_7 (c : Dev nD) : (dats m 0 c).arrAt 7 (cfgs 0).N = turned (HH m c) := by
  refine (dats m 0 c).arrAt_eq_of_covers 7 _ (by decide +kernel) fun t hf y => ?_
  blk_simp; rw [after0_7]
  obtain ⟨j, p, rfl⟩ : ∃ (j : Fin 1024) (p : Fin 512), y = ix2 j p := ⟨_, _, eq_ix2 y⟩
  frame_out
  pointwise [k0_pay3]
  refine (h_at m c t p j).trans ?_
  unfold turned
  blk_ext [rowOf, idx t]

end Cert.Kernel23Ideal.Value

namespace Cert.Reference23Ideal.Value
open Cert.Reference23Ideal

variable (m : (ℓ : Loc nD τ sig) → Buf (Elt Ideal) ℓ)

/-- The product, the residual stream behind it and its normed rows. -/
abbrev PP (c : Dev nD) := prod (m ((c.tc : Thread nD τ).loc main_arg0)) (m ((c.tc : Thread nD τ).loc main_arg1))
abbrev XX (c : Dev nD) := resid (m ((c.tc : Thread nD τ).loc main_arg2)) (PP m c) (m ((c.tc : Thread nD τ).loc main_arg3))
abbrev HH (c : Dev nD) := normed (XX m c) (m ((c.tc : Thread nD τ).loc main_arg4))
  (m ((c.tc : Thread nD τ).loc main_arg5)) (m ((c.tc : Thread nD τ).loc main_arg6))

theorem run_spec (ρ : Dev nD → PrngReg) :
    θ_run defs (onTc (τ := τ) (main (F := Ideal))) ⟨m, fun _ => 0, ρ⟩ fun r => ∀ c : Dev nD,
      r.2.mem ((c.tc : Thread nD τ).loc main_v1) = PP m c
      ∧ r.2.mem ((c.tc : Thread nD τ).loc main_v5) = XX m c
      ∧ r.2.mem ((c.tc : Thread nD τ).loc main_v27) = HH m c
      ∧ r.2.mem ((c.tc : Thread nD τ).loc main_v29) = turned (HH m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun _ h c => ⟨(h c).1.trans ?_, (h c).2.1.trans ?_, (h c).2.2.1.trans ?_,
    (h c).2.2.2.1.trans ?_, (h c).2.2.2.2⟩) (run m ρ)
  all_goals (clear h; funext y)
  · obtain ⟨p, j, rfl⟩ : ∃ (p : Fin 4096) (j : Fin 1024), y = ix2 p j := ⟨_, _, eq_ix2 y⟩
    unfold PP prod
    pointwise
  · obtain ⟨p, j, rfl⟩ : ∃ (p : Fin 4096) (j : Fin 1024), y = ix2 p j := ⟨_, _, eq_ix2 y⟩
    unfold XX resid PP prod
    pointwise
  · obtain ⟨p, j, rfl⟩ : ∃ (p : Fin 4096) (j : Fin 1024), y = ix2 p j := ⟨_, _, eq_ix2 y⟩
    unfold HH normed Norm.rr Norm.ms XX resid PP prod
    pointwise
  · obtain ⟨j, p, rfl⟩ : ∃ (j : Fin 1024) (p : Fin 4096), y = ix2 j p := ⟨_, _, eq_ix2 y⟩
    unfold turned HH normed Norm.rr Norm.ms XX resid PP prod
    pointwise

end Cert.Reference23Ideal.Value

end
-- ==== Proof.Value24.lean ====
module
public import proofs.«01_k».proof.Proof.Gen.Kernel24Ideal.Value
public import proofs.«01_k».proof.Proof.Gen.Reference24Ideal.Run
public import proofs.«01_k».proof.Proof.Merge
public import proofs.«01_k».proof.Proof.Rows
public import Idealize.ShloMosaic.Lib.Pipeline.ValueKit

/-! The feed-forward output product, the residual stream and the next norm: what the kernel leaves and what the reference returns. -/

@[expose] public section
set_option maxRecDepth 16384
noncomputable section
open Idealize.ShloMosaic Idealize.ShloMosaic.TcCoe Idealize.SL.Sem
open Idealize.ShloMosaic.Pipeline (Dat)
open Cert.Product Cert.Merge Cert.Rows

namespace Cert.Kernel24Ideal.Value
open Cert.Kernel24Ideal Cert.Kernel24Ideal.Gen

variable (m : (ℓ : Loc nD τ sig) → Buf (Elt Ideal) ℓ)

theorem idx : ∀ t : Fin cfg0.N, win0_0.index t = ![t.val, 0]
    ∧ win0_1.index t = ![0, 0, 0]
    ∧ win0_2.index t = ![t.val, 0]
    ∧ win0_3.index t = ![0, 0]
    ∧ win0_4.index t = ![t.val, 0]
    ∧ win0_5.index t = ![t.val, 0]
    ∧ win0_6.index t = ![t.val, 0]
    ∧ win0_7.index t = ![0, t.val] :=
  (by decide +kernel : ∀ t : Fin grid0.N, _)

theorem lt_N (t : Fin cfg0.N) : t.val < 8 := lt_of_lt_of_eq t.isLt (show cfg0.N = 8 from N_0)

/-- A row of the arrays, by the point and the block's row. -/
abbrev rowOf (t : Fin cfg0.N) (p : Fin 512) : Fin 4096 := ⟨t.val * 512 + p.val, by have := lt_N t; omega⟩

/-- The weight as the call takes it. -/
theorem v1_at (c : Dev nD) (l : Fin 2816) (j : Fin 1024) :
    V m c main_v1 (ix3 0 l j) = m ((c : Thread nD τ).loc main_arg1) (ix2 l j) := by
  show StableHlo.after hostOps0_1 (StableHlo.after hostOps0 (fun b => m (c, b))) (Proc.tc.devRef main_v1) _ = _
  after_results_simp
  pointwise

/-- The vectors as the call takes them, one behind the other. -/
theorem v7_at (c : Dev nD) (o : Fin 4) (j : Fin 1024) :
    V m c main_v7 (ix2 (Fin.castLE (by decide) o : Fin 8) j) = if (o : ℕ) < 1 then m ((c : Thread nD τ).loc main_arg3) (ix1 j)
      else if (o : ℕ) - 1 < 1 then m ((c : Thread nD τ).loc main_arg4) (ix1 j)
      else if (o : ℕ) - 2 < 1 then m ((c : Thread nD τ).loc main_arg5) (ix1 j) else m ((c : Thread nD τ).loc main_arg6) (ix1 j) := by
  show StableHlo.after hostOps0_1 (StableHlo.after hostOps0 (fun b => m (c, b))) (Proc.tc.devRef main_v7) _ = _
  have h5 : (StableHlo.after hostOps0 (fun b => m (c, b)) (Proc.tc.devRef main_v6) : FVec Ideal S4x1024 .f32) (ix2 o j)
      = if (o : ℕ) < 1 then m ((c : Thread nD τ).loc main_arg3) (ix1 j)
        else if (o : ℕ) - 1 < 1 then m ((c : Thread nD τ).loc main_arg4) (ix1 j)
        else if (o : ℕ) - 2 < 1 then m ((c : Thread nD τ).loc main_arg5) (ix1 j) else m ((c : Thread nD τ).loc main_arg6) (ix1 j) := by
    after_results_simp
    dsimp only [Matrix.cons_val]
    after_results_simp
    pointwise
    rfl
  refine Eq.trans ?_ h5
  generalize StableHlo.after hostOps0 (fun b => m (c, b)) = W
  after_results_simp
  show pad S8x1024 ![0, 0] ![4, 0] ![0, 0] (W (Proc.tc.devRef main_v6) : FVec Ideal S4x1024 .f32)
    (sitofp (F := Ideal) .f32 (W (Proc.tc.devRef main_c) : IVec S_ 32)) pads_S4x1024_S8x1024_040_000 h_S_ _ = _
  exact pad_row _ _ _ _ _ _ o j

theorem a_blk (c : Dev nD) (t : Fin cfg0.N) (p : Fin 512) (l : Fin 2816) :
    iblk m c 0 t (ix2 p l) = m ((c : Thread nD τ).loc main_arg0) (ix2 (rowOf t p) l) := by
  blk_ext [iblk, V, rowOf, idx t]

theorem w_blk (c : Dev nD) (t : Fin cfg0.N) (l : Fin 2816) (j : Fin 1024) :
    iblk m c 1 t (ix3 0 l j) = m ((c : Thread nD τ).loc main_arg1) (ix2 l j) := by
  refine Eq.trans ?_ (v1_at m c l j)
  blk_ext [iblk, idx t]

theorem x_blk (c : Dev nD) (t : Fin cfg0.N) (p : Fin 512) (j : Fin 1024) :
    iblk m c 2 t (ix2 p j) = m ((c : Thread nD τ).loc main_arg2) (ix2 (rowOf t p) j) := by
  blk_ext [iblk, V, rowOf, idx t]

theorem vec_blk (c : Dev nD) (t : Fin cfg0.N) (o : Fin 8) (j : Fin 1024) : iblk m c 3 t (ix2 o j) = V m c main_v7 (ix2 o j) := by
  blk_ext [iblk, idx t]

theorem gate_blk (c : Dev nD) (t : Fin cfg0.N) (j : Fin 1024) :
    iblk m c 3 t (ix2 0 j) = m ((c : Thread nD τ).loc main_arg3) (ix1 j) := (vec_blk m c t 0 j).trans (v7_at m c 0 j)

theorem g_blk (c : Dev nD) (t : Fin cfg0.N) (j : Fin 1024) :
    iblk m c 3 t (ix2 1 j) = m ((c : Thread nD τ).loc main_arg4) (ix1 j) := (vec_blk m c t 1 j).trans (v7_at m c 1 j)

theorem sc_blk (c : Dev nD) (t : Fin cfg0.N) (j : Fin 1024) :
    iblk m c 3 t (ix2 2 j) = m ((c : Thread nD τ).loc main_arg5) (ix1 j) := (vec_blk m c t 2 j).trans (v7_at m c 2 j)

theorem sh_blk (c : Dev nD) (t : Fin cfg0.N) (j : Fin 1024) :
    iblk m c 3 t (ix2 3 j) = m ((c : Thread nD τ).loc main_arg6) (ix1 j) := (vec_blk m c t 3 j).trans (v7_at m c 3 j)

/-- The product, the residual stream behind it and its normed rows, of the whole arrays. -/
abbrev PP (c : Dev nD) := prod (m ((c : Thread nD τ).loc main_arg0)) (m ((c : Thread nD τ).loc main_arg1))
abbrev XX (c : Dev nD) := resid (m ((c : Thread nD τ).loc main_arg2)) (PP m c) (m ((c : Thread nD τ).loc main_arg3))
abbrev HH (c : Dev nD) := normed (XX m c) (m ((c : Thread nD τ).loc main_arg4))
  (m ((c : Thread nD τ).loc main_arg5)) (m ((c : Thread nD τ).loc main_arg6))

theorem p_at (c : Dev nD) (t : Fin cfg0.N) (p : Fin 512) (j : Fin 1024) :
    k0_pay4 (F := Ideal) (iblk m c 0 t) (iblk m c 1 t) (ix2 p j) = PP m c (ix2 (rowOf t p) j) := by
  pointwise [k0_pay4]
  exact Finset.sum_congr rfl fun l _ => congrArg₂ _ (a_blk m c t p l) (w_blk m c t l j)

theorem x_at (c : Dev nD) (t : Fin cfg0.N) (p : Fin 512) (j : Fin 1024) :
    k0_pay5 (F := Ideal) (iblk m c 0 t) (iblk m c 1 t) (iblk m c 2 t) (row 0 (iblk m c 3 t) inb_S8x1024_S1x1024_0_0) (ix2 p j)
      = XX m c (ix2 (rowOf t p) j) := by
  pointwise [k0_pay5]
  rw [row_at, p_at, x_blk, gate_blk]
  rfl

/-- The block's normed rows before the shift, at the values read. -/
theorem pay7_eq (x0 : FVec Ideal S512x2816 .bf16) (x1 : FVec Ideal S1x2816x1024 .bf16) (x2 : FVec Ideal S512x1024 .f32)
    (x3 : FVec Ideal S8x1024 .f32) : k0_pay7 (F := Ideal) x0 x1 x2 x3 = k0_pay6 (F := Ideal) x0 x1 x2
      (row 0 x3 inb_S8x1024_S1x1024_0_0) (row 1 x3 inb_S8x1024_S1x1024_1_0) (row 2 x3 inb_S8x1024_S1x1024_2_0) := by
  have e0 : View.ld (Val := Elt Ideal) (e' := .bf16) x0 r0_0 = x0 :=
    View.ld_unit_lit (Val := Elt Ideal) (e := .bf16) (S := S512x2816) (off := ![0, 0]) inb_S512x2816_S512x2816_0_0 x0 (by decide)
  have e1 : View.ld (Val := Elt Ideal) (e' := .bf16) x1 r0_1 = x1 :=
    View.ld_unit_lit (Val := Elt Ideal) (e := .bf16) (S := S1x2816x1024) (off := ![0, 0, 0]) inb_S1x2816x1024_S1x2816x1024_0_0_0 x1 (by decide)
  have e2 : View.ld (Val := Elt Ideal) (e' := .f32) x2 r0_2 = x2 :=
    View.ld_unit_lit (Val := Elt Ideal) (e := .f32) (S := S512x1024) (off := ![0, 0]) inb_S512x1024_S512x1024_0_0 x2 (by decide)
  unfold k0_pay7
  rw [e0, e1, e2]
  rfl

theorem h_at (c : Dev nD) (t : Fin cfg0.N) (p : Fin 512) (j : Fin 1024) :
    k0_pay1 (F := Ideal) (k0_pay7 (F := Ideal) (iblk m c 0 t) (iblk m c 1 t) (iblk m c 2 t) (iblk m c 3 t))
      (row 3 (iblk m c 3 t) inb_S8x1024_S1x1024_3_0) (ix2 p j) = HH m c (ix2 (rowOf t p) j) := by
  refine (congrArg (fun X => k0_pay1 (F := Ideal) X (row 3 (iblk m c 3 t) inb_S8x1024_S1x1024_3_0) (ix2 p j))
    (pay7_eq (iblk m c 0 t) (iblk m c 1 t) (iblk m c 2 t) (iblk m c 3 t))).trans ?_
  pointwise [k0_pay1, k0_pay6]
  simp only [row_at, x_at, g_blk, sc_blk, sh_blk]
  rfl

theorem final_4 (c : Dev nD) : (dats m 0 c).arrAt 4 (cfgs 0).N = PP m c := by
  refine (dats m 0 c).arrAt_eq_of_covers 4 _ (by decide +kernel) fun t hf y => ?_
  blk_simp; rw [after0_4]
  obtain ⟨p, j, rfl⟩ : ∃ (p : Fin 512) (j : Fin 1024), y = ix2 p j := ⟨_, _, eq_ix2 y⟩
  frame_out
  refine (p_at m c t p j).trans ?_
  blk_ext [rowOf, idx t]

theorem final_5 (c : Dev nD) : (dats m 0 c).arrAt 5 (cfgs 0).N = XX m c := by
  refine (dats m 0 c).arrAt_eq_of_covers 5 _ (by decide +kernel) fun t hf y => ?_
  blk_simp; rw [after0_5]
  obtain ⟨p, j, rfl⟩ : ∃ (p : Fin 512) (j : Fin 1024), y = ix2 p j := ⟨_, _, eq_ix2 y⟩
  frame_out
  refine (x_at m c t p j).trans ?_
  blk_ext [rowOf, idx t]

theorem final_6 (c : Dev nD) : (dats m 0 c).arrAt 6 (cfgs 0).N = HH m c := by
  refine (dats m 0 c).arrAt_eq_of_covers 6 _ (by decide +kernel) fun t hf y => ?_
  blk_simp; rw [after0_6]
  obtain ⟨p, j, rfl⟩ : ∃ (p : Fin 512) (j : Fin 1024), y = ix2 p j := ⟨_, _, eq_ix2 y⟩
  frame_out
  pointwise [k0_pay2]
  refine (h_at m c t p j).trans ?_
  blk_ext [rowOf, idx t]

theorem final_7 (c : Dev nD) : (dats m 0 c).arrAt 7 (cfgs 0).N = turned (HH m c) := by
  refine (dats m 0 c).arrAt_eq_of_covers 7 _ (by decide +kernel) fun t hf y => ?_
  blk_simp; rw [after0_7]
  obtain ⟨j, p, rfl⟩ : ∃ (j : Fin 1024) (p : Fin 512), y = ix2 j p := ⟨_, _, eq_ix2 y⟩
  frame_out
  pointwise [k0_pay3]
  refine (h_at m c t p j).trans ?_
  unfold turned
  blk_ext [rowOf, idx t]

end Cert.Kernel24Ideal.Value

namespace Cert.Reference24Ideal.Value
open Cert.Reference24Ideal

variable (m : (ℓ : Loc nD τ sig) → Buf (Elt Ideal) ℓ)

/-- The product, the residual stream behind it and its normed rows. -/
abbrev PP (c : Dev nD) := prod (m ((c.tc : Thread nD τ).loc main_arg0)) (m ((c.tc : Thread nD τ).loc main_arg1))
abbrev XX (c : Dev nD) := resid (m ((c.tc : Thread nD τ).loc main_arg2)) (PP m c) (m ((c.tc : Thread nD τ).loc main_arg3))
abbrev HH (c : Dev nD) := normed (XX m c) (m ((c.tc : Thread nD τ).loc main_arg4))
  (m ((c.tc : Thread nD τ).loc main_arg5)) (m ((c.tc : Thread nD τ).loc main_arg6))

theorem run_spec (ρ : Dev nD → PrngReg) :
    θ_run defs (onTc (τ := τ) (main (F := Ideal))) ⟨m, fun _ => 0, ρ⟩ fun r => ∀ c : Dev nD,
      r.2.mem ((c.tc : Thread nD τ).loc main_v1) = PP m c
      ∧ r.2.mem ((c.tc : Thread nD τ).loc main_v5) = XX m c
      ∧ r.2.mem ((c.tc : Thread nD τ).loc main_v27) = HH m c
      ∧ r.2.mem ((c.tc : Thread nD τ).loc main_v29) = turned (HH m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun _ h c => ⟨(h c).1.trans ?_, (h c).2.1.trans ?_, (h c).2.2.1.trans ?_,
    (h c).2.2.2.1.trans ?_, (h c).2.2.2.2⟩) (run m ρ)
  all_goals (clear h; funext y)
  · obtain ⟨p, j, rfl⟩ : ∃ (p : Fin 4096) (j : Fin 1024), y = ix2 p j := ⟨_, _, eq_ix2 y⟩
    unfold PP prod
    pointwise
  · obtain ⟨p, j, rfl⟩ : ∃ (p : Fin 4096) (j : Fin 1024), y = ix2 p j := ⟨_, _, eq_ix2 y⟩
    unfold XX resid PP prod
    pointwise
  · obtain ⟨p, j, rfl⟩ : ∃ (p : Fin 4096) (j : Fin 1024), y = ix2 p j := ⟨_, _, eq_ix2 y⟩
    unfold HH normed Norm.rr Norm.ms XX resid PP prod
    pointwise
  · obtain ⟨j, p, rfl⟩ : ∃ (j : Fin 1024) (p : Fin 4096), y = ix2 j p := ⟨_, _, eq_ix2 y⟩
    unfold turned HH normed Norm.rr Norm.ms XX resid PP prod
    pointwise

end Cert.Reference24Ideal.Value

end
-- ==== Proof.Loss.lean ====
module
public import proofs.«01_k».proof.Proof.Merge
public import proofs.«01_k».proof.Proof.Rows

/-! The loss head over the extended reals: the last residual stream is normed and weighted, its distance from the target
squared and averaged over the columns, half of it summed over the rows; with the gradients of the stream, of the weight
and of the gate. -/

@[expose] public section
noncomputable section
open Idealize.ShloMosaic
namespace Cert.Loss
open Cert.Norm

/-- The single-precision number one half. -/
abbrev cF : EReal := Ideal.ofBits .f32 0x3F000000#32
/-- The single-precision number one over 1024. -/
abbrev cI : EReal := Ideal.ofBits .f32 0x3A800000#32

theorem cF_eq : cF = ((1 / 2 : ℝ) : EReal) := by
  simp [cF, Ideal.ofBits, Ideal.ieee, -EReal.coe_mul, -EReal.coe_neg]; norm_num

theorem cI_eq : cI = (((1024 : ℝ)⁻¹ : ℝ) : EReal) := by
  simp [cI, Ideal.ofBits, Ideal.ieee, -EReal.coe_mul, -EReal.coe_neg]; norm_num

/-- The chain rule's factor of a distance: half of the mean of a square, differentiated. -/
theorem coef (d : EReal) : Ideal.div (cF * 1) cN * (cT * d) = d * cI := by
  rw [div_cN, cF_eq, cI_eq, cT_eq, mul_one, ← mul_assoc, ← EReal.coe_mul, ← EReal.coe_mul, mul_comm d]
  congr 2
  norm_num

variable {R : ℕ} (x f tg : Fin R → Fin 1024 → EReal) (g ga : Fin 1024 → EReal)

/-- The rows over their root mean square. -/
def xn (p : Fin R) (j : Fin 1024) : EReal := x p j * rr (x p)

/-- The distance from the target. -/
def dist (p : Fin R) (j : Fin 1024) : EReal := xn x p j * g j - tg p j

/-- The gradient of the normed rows, before the weight and behind it. -/
def dy (p : Fin R) (j : Fin 1024) : EReal := dist x tg g p j * cI
def dt (p : Fin R) (j : Fin 1024) : EReal := dy x tg g p j * g j

/-- The gradient of the stream. -/
def dx (p : Fin R) (j : Fin 1024) : EReal := dxR 0 (x p) (dt x tg g p) j

/-- The row of the weight's gradient, the row of the gate's, and six rows of zeros. -/
def rows (o : ℕ) (j : Fin 1024) : EReal :=
  if o = 0 then ∑ p, xn x p j * dy x tg g p j else if o = 1 then ∑ p, dx x tg g p j * f p j else 0

theorem rows_at (o : ℕ) (j : Fin 1024) : rows x f tg g o j = if _ : o < 2 then
    if _ : o < 1 then ∑ p, xn x p j * dy x tg g p j else ∑ p, dx x tg g p j * f p j else 0 := by
  unfold rows
  split_ifs <;> first | rfl | (exfalso; omega)

/-- The mean square distance of a row. -/
def perRow (p : Fin R) : EReal := Ideal.div (∑ j, dist x tg g p j * dist x tg g p j) cN

/-- The loss. -/
def loss : EReal := cF * ∑ p, perRow x tg g p

/-- The host's sum of a vector, at the one index of its result. -/
theorem hostSum {n : ℕ} {t : Shape} (h : (⟨1, ![n]⟩ : Shape).ReducesTo [0] t) (ht : ∀ b, t.size b = 1)
    (v : (⟨1, ![n]⟩ : Shape).Idx → EReal) (i : EReal) (j : t.Idx) :
    Ideal.hostReduceAdd h v i j = i + ∑ k, v (ix1 k) := by
  rw [Ideal.hostReduceAdd_total h ht]
  exact congrArg _ (Function.Bijective.sum_comp (e := fun k : Fin n => (ix1 k : (⟨1, ![n]⟩ : Shape).Idx))
    ⟨fun a b e => congrFun e 0, fun y => ⟨y 0, (eq_ix1 y).symm⟩⟩ v).symm

/-- Rows 0 and 1 of `base` replaced by rows that add `s` to it, where `s` adds nothing to any other row. -/
theorem ladder2 (w0 w1 : (⟨2, ![1, 1024]⟩ : Shape).Idx → EReal) (base : (⟨2, ![8, 1024]⟩ : Shape).Idx → EReal)
    (s : ℕ → Fin 1024 → EReal) (y : (⟨2, ![8, 1024]⟩ : Shape).Idx)
    (h1 : ∀ j, w1 (ix2 0 j) = base (ix2 1 j) + s 1 j)
    (h0 : ∀ j, w0 (ix2 0 j) = base (ix2 0 j) + s 0 j) (hs : ∀ o j, 2 ≤ o → s o j = 0) :
    (if (y 0 : ℕ) = 1 then w1 (ix2 (n0 := 1) (n1 := 1024) 0 (y 1))
      else if (y 0 : ℕ) = 0 then w0 (ix2 (n0 := 1) (n1 := 1024) 0 (y 1)) else base y) = base y + s (y 0) (y 1) := by
  obtain ⟨o, j, rfl⟩ : ∃ (o : Fin 8) (j : Fin 1024), y = ix2 o j := ⟨_, _, eq_ix2 y⟩
  by_cases e1 : o = 1
  · subst e1; exact h1 j
  by_cases e0 : o = 0
  · subst e0; exact h0 j
  have n1 : ¬ (o : ℕ) = 1 := fun e => e1 (Fin.ext e)
  have n0 : ¬ (o : ℕ) = 0 := fun e => e0 (Fin.ext e)
  refine (if_neg n1).trans ((if_neg n0).trans ?_)
  show _ = _ + s o j
  rw [hs o j (by omega), add_zero]

theorem rows_zero {o : ℕ} (ho : 2 ≤ o) (j : Fin 1024) : rows x f tg g o j = 0 := by
  rw [rows, if_neg (by omega), if_neg (by omega)]

/-- The rows of the blocks' sums are the whole arrays'. -/
theorem rows_split {N M : ℕ} (r : Fin N → Fin M → Fin R) (h : ∀ F : Fin R → EReal, ∑ i, ∑ p, F (r i p) = ∑ q, F q)
    (o : ℕ) (j : Fin 1024) :
    ∑ i, rows (fun p => x (r i p)) (fun p => f (r i p)) (fun p => tg (r i p)) g o j = rows x f tg g o j := by
  unfold rows
  by_cases h0 : o = 0
  · simp only [if_pos h0]
    exact h fun q => xn x q j * dy x tg g q j
  by_cases h1 : o = 1
  · simp only [if_neg h0, if_pos h1]
    exact h fun q => dx x tg g q j * f q j
  simp only [if_neg h0, if_neg h1]
  exact Finset.sum_const_zero

/-- So is the loss. -/
theorem loss_split {N M : ℕ} (r : Fin N → Fin M → Fin R) (h : ∀ F : Fin R → EReal, ∑ i, ∑ p, F (r i p) = ∑ q, F q) :
    ∑ i, loss (fun p => x (r i p)) (fun p => tg (r i p)) g = loss x tg g := by
  unfold loss
  rw [← h, cF_eq]
  simp only [mul_comm (((1 / 2 : ℝ) : ℝ) : EReal)]
  exact sum_mul_real _ _ _ (by norm_num)

end Cert.Loss

end
-- ==== Proof.Value25.lean ====
module
public import proofs.«01_k».proof.Proof.Gen.Kernel25Ideal.Value
public import proofs.«01_k».proof.Proof.Gen.Reference25Ideal.Run
public import proofs.«01_k».proof.Proof.Loss
public import Idealize.ShloMosaic.Lib.Pipeline.ValueKit
public import Idealize.ShloMosaic.Lib.Pipeline.ReadBack

/-! The loss head: what the kernel leaves and what the reference returns. -/

@[expose] public section
set_option maxRecDepth 16384
noncomputable section
open Idealize.ShloMosaic Idealize.ShloMosaic.TcCoe Idealize.SL.Sem
open Idealize.ShloMosaic.Pipeline (Dat)
open Cert.Product Cert.Merge Cert.Rows
open Cert.Loss (ladder2)

namespace Cert.Kernel25Ideal.Value
open Cert.Kernel25Ideal Cert.Kernel25Ideal.Gen

variable (m : (ℓ : Loc nD τ sig) → Buf (Elt Ideal) ℓ)

theorem idx : ∀ t : Fin cfg0.N, win0_0.index t = ![t.val, 0]
    ∧ win0_1.index t = ![t.val, 0]
    ∧ win0_2.index t = ![0, 0, 0]
    ∧ win0_3.index t = ![t.val, 0]
    ∧ win0_4.index t = ![0, 0]
    ∧ win0_5.index t = ![t.val, 0]
    ∧ win0_6.index t = ![t.val, 0]
    ∧ win0_7.index t = ![0, 0]
    ∧ win0_8.index t = ![0, 0] :=
  (by decide +kernel : ∀ t : Fin grid0.N, _)

theorem lt_N (t : Fin cfg0.N) : t.val < 8 := lt_of_lt_of_eq t.isLt (show cfg0.N = 8 from N_0)

/-- A row of the arrays, by the point and the block's row. -/
abbrev rowOf (t : Fin cfg0.N) (p : Fin 512) : Fin 4096 := ⟨t.val * 512 + p.val, by have := lt_N t; omega⟩

section
variable (x tg : FVec Ideal S512x1024 .f32) (a : FVec Ideal S512x2816 .bf16) (w : FVec Ideal S1x2816x1024 .bf16)
  (vec prev : FVec Ideal S8x1024 .f32) (p : Fin 512) (j : Fin 1024)

/-- A block's stream, its product, its target's rows and the rows of the vector argument. -/
abbrev xB (p : Fin 512) (j : Fin 1024) : EReal :=
  k0_pay7 (F := Ideal) (row 0 vec inb_S8x1024_S1x1024_0_0) a w x (ix2 p j)
abbrev fB (p : Fin 512) (j : Fin 1024) : EReal := k0_pay6 (F := Ideal) a w (ix2 p j)
abbrev tB (p : Fin 512) (j : Fin 1024) : EReal := tg (ix2 p j)
abbrev gaB (j : Fin 1024) : EReal := vec (ix2 0 j)
abbrev gB (j : Fin 1024) : EReal := vec (ix2 1 j)

theorem x_at : xB x a w vec p j = x (ix2 p j) + gaB vec j * fB a w p j := by
  show k0_pay7 (F := Ideal) (row 0 vec inb_S8x1024_S1x1024_0_0) a w x (ix2 p j) = _
  pointwise [k0_pay7, k0_pay4]
  rw [row_at]

theorem rr_at : k0_pay8 (F := Ideal) (row 0 vec inb_S8x1024_S1x1024_0_0) a w x (ix2 p 0) = Norm.rr (xB x a w vec p) := by
  unfold Norm.rr Norm.ms
  pointwise [k0_pay8]

theorem xn_at : k0_pay9 (F := Ideal) (row 0 vec inb_S8x1024_S1x1024_0_0) a w x (ix2 p j) = Loss.xn (xB x a w vec) p j := by
  unfold Loss.xn
  pointwise [k0_pay9]
  rw [rr_at]

theorem dist_at : k0_pay10 (F := Ideal) (row 0 vec inb_S8x1024_S1x1024_0_0) (row 1 vec inb_S8x1024_S1x1024_1_0) a w x tg (ix2 p j)
      = Loss.dist (xB x a w vec) (tB tg) (gB vec) p j := by
  unfold Loss.dist
  pointwise [k0_pay10, k0_pay5]
  rw [xn_at, row_at]

theorem dx_at : k0_pay15 (F := Ideal) (k0_pay5 (row 1 vec inb_S8x1024_S1x1024_1_0))
      (k0_pay8 (row 0 vec inb_S8x1024_S1x1024_0_0) a w x) (k0_pay9 (row 0 vec inb_S8x1024_S1x1024_0_0) a w x)
      (k0_pay10 (row 0 vec inb_S8x1024_S1x1024_0_0) (row 1 vec inb_S8x1024_S1x1024_1_0) a w x tg) (ix2 p j)
      = Loss.dx (xB x a w vec) (tB tg) (gB vec) p j := by
  unfold Loss.dx
  rw [← Norm.dx_eq]
  unfold Norm.dxK Loss.dt Loss.dy
  pointwise [k0_pay15, k0_pay13, k0_pay5]
  simp only [rr_at, xn_at, dist_at, row_at, zero_add]
  rfl

theorem df_at : k0_pay1 (F := Ideal) (k0_pay4 (row 0 vec inb_S8x1024_S1x1024_0_0))
      (k0_pay15 (F := Ideal) (k0_pay5 (row 1 vec inb_S8x1024_S1x1024_1_0))
      (k0_pay8 (row 0 vec inb_S8x1024_S1x1024_0_0) a w x) (k0_pay9 (row 0 vec inb_S8x1024_S1x1024_0_0) a w x)
      (k0_pay10 (row 0 vec inb_S8x1024_S1x1024_0_0) (row 1 vec inb_S8x1024_S1x1024_1_0) a w x tg)) (ix2 p j)
      = gaB vec j * Loss.dx (xB x a w vec) (tB tg) (gB vec) p j := by
  pointwise [k0_pay1, k0_pay4]
  rw [dx_at, row_at, mul_comm]

theorem sum0_at : k0_pay14 (F := Ideal) (k0_pay9 (row 0 vec inb_S8x1024_S1x1024_0_0) a w x)
      (k0_pay10 (row 0 vec inb_S8x1024_S1x1024_0_0) (row 1 vec inb_S8x1024_S1x1024_1_0) a w x tg)
      (row 0 prev inb_S8x1024_S1x1024_0_0) (ix2 0 j)
      = prev (ix2 0 j) + Loss.rows (xB x a w vec) (fB a w) (tB tg) (gB vec) 0 j := by
  unfold Loss.rows Loss.dy
  pointwise [k0_pay14, k0_pay13]
  simp only [xn_at, dist_at, row_at]
  exact congrArg _ (Finset.sum_congr rfl fun p _ => mul_comm _ _)

theorem sum1_at : k0_pay16 (F := Ideal) (k0_pay5 (row 1 vec inb_S8x1024_S1x1024_1_0)) (k0_pay6 a w)
      (k0_pay8 (row 0 vec inb_S8x1024_S1x1024_0_0) a w x) (k0_pay9 (row 0 vec inb_S8x1024_S1x1024_0_0) a w x)
      (k0_pay10 (row 0 vec inb_S8x1024_S1x1024_0_0) (row 1 vec inb_S8x1024_S1x1024_1_0) a w x tg)
      (row 1 prev inb_S8x1024_S1x1024_1_0) (ix2 0 j)
      = prev (ix2 1 j) + Loss.rows (xB x a w vec) (fB a w) (tB tg) (gB vec) 1 j := by
  unfold Loss.rows
  pointwise [k0_pay16]
  simp only [dx_at, row_at]

theorem loss_at (acc : FVec Ideal S8x128 .f32) (o : Fin 8) (l : Fin 128) :
    k0_pay12 (F := Ideal) (k0_pay11 (row 0 vec inb_S8x1024_S1x1024_0_0) (row 1 vec inb_S8x1024_S1x1024_1_0) a w x tg) acc (ix2 o l)
      = acc (ix2 o l) + Loss.loss (xB x a w vec) (tB tg) (gB vec) := by
  unfold Loss.loss Loss.perRow
  pointwise [k0_pay12, k0_pay11]
  simp only [dist_at]

end

/-- What a point adds to the rows of sums, and to the loss. -/
abbrev term (c : Dev nD) (t : Fin cfg0.N) (y : S8x1024.Idx) : EReal :=
  Loss.rows (xB (iblk m c 0 t) (iblk m c 1 t) (iblk m c 2 t) (iblk m c 4 t)) (fB (iblk m c 1 t) (iblk m c 2 t))
    (tB (iblk m c 3 t)) (gB (iblk m c 4 t)) (y 0) (y 1)
abbrev lterm (c : Dev nD) (t : Fin cfg0.N) : EReal :=
  Loss.loss (xB (iblk m c 0 t) (iblk m c 1 t) (iblk m c 2 t) (iblk m c 4 t)) (tB (iblk m c 3 t)) (gB (iblk m c 4 t))

theorem sums_step (c : Dev nD) (t : Fin cfg0.N) (h0 : ¬ t.val % 8 = 0) (y : S8x1024.Idx) :
    (outsAt0 m c t.val t.isLt).2.2.1 y
      = (outsAt0 m c (t.val - 1) (Nat.lt_of_le_of_lt (Nat.sub_le _ _) t.isLt)).2.2.1 y + term m c t y := by
  rw [outsAt0_B m c t h0]
  frame_open
  simp (disch := decide) only [↓ View.readCov_skip, ↓ View.readCov_cons_toLoadRect, ↓ View.readCov_fill]
  frame_out
  rw [read_row, read_row]
  simp only [View.writes_nil, Memref.IsWhole.read_unread]
  exact ladder2 _ _ _ (Loss.rows _ _ _ _) y (fun j => sum1_at ..) (fun j => sum0_at ..) (fun o j ho => Loss.rows_zero _ _ _ _ ho j)

theorem sums_reset (c : Dev nD) (t : Fin cfg0.N) (h0 : t.val % 8 = 0) (y : S8x1024.Idx) :
    (outsAt0 m c t.val t.isLt).2.2.1 y = 0 + term m c t y := by
  rw [outsAt0_A m c t h0]
  frame_open
  simp (disch := decide) only [↓ View.readCov_skip, ↓ View.readCov_cons_toLoadRect, ↓ View.readCov_fill]
  frame_out
  rw [canon_row, canon_row, View.canon_cons_unit_lit _ _ _ (by decide),
    show (0 : EReal) = k0_pay2 (F := Ideal) y from (by pointwise [k0_pay2])]
  exact ladder2 _ _ _ (Loss.rows _ _ _ _) y (fun j => sum1_at ..) (fun j => sum0_at ..) (fun o j ho => Loss.rows_zero _ _ _ _ ho j)

theorem loss_step (c : Dev nD) (t : Fin cfg0.N) (h0 : ¬ t.val % 8 = 0) (y : S8x128.Idx) :
    (outsAt0 m c t.val t.isLt).2.2.2 y
      = (outsAt0 m c (t.val - 1) (Nat.lt_of_le_of_lt (Nat.sub_le _ _) t.isLt)).2.2.2 y + lterm m c t := by
  obtain ⟨o, l, rfl⟩ : ∃ (o : Fin 8) (l : Fin 128), y = ix2 o l := ⟨_, _, eq_ix2 y⟩
  rw [outsAt0_B m c t h0]
  frame_out
  exact loss_at ..

theorem loss_reset (c : Dev nD) (t : Fin cfg0.N) (h0 : t.val % 8 = 0) (y : S8x128.Idx) :
    (outsAt0 m c t.val t.isLt).2.2.2 y = 0 + lterm m c t := by
  obtain ⟨o, l, rfl⟩ : ∃ (o : Fin 8) (l : Fin 128), y = ix2 o l := ⟨_, _, eq_ix2 y⟩
  rw [outsAt0_A m c t h0]
  frame_out
  refine (loss_at ..).trans (congrArg (· + lterm m c t) ?_)
  pointwise [k0_pay3]

theorem dx_out (c : Dev nD) (t : Fin cfg0.N) (p : Fin 512) (j : Fin 1024) : (outsAt0 m c t.val t.isLt).1 (ix2 p j)
    = Loss.dx (xB (iblk m c 0 t) (iblk m c 1 t) (iblk m c 2 t) (iblk m c 4 t)) (tB (iblk m c 3 t)) (gB (iblk m c 4 t)) p j := by
  by_cases h0 : t.val % 8 = 0
  · rw [outsAt0_A m c t h0]
    frame_out
    exact dx_at ..
  · rw [outsAt0_B m c t h0]
    frame_out
    exact dx_at ..

theorem df_out (c : Dev nD) (t : Fin cfg0.N) (p : Fin 512) (j : Fin 1024) : (outsAt0 m c t.val t.isLt).2.1 (ix2 p j)
    = gaB (iblk m c 4 t) j * Loss.dx (xB (iblk m c 0 t) (iblk m c 1 t) (iblk m c 2 t) (iblk m c 4 t)) (tB (iblk m c 3 t))
      (gB (iblk m c 4 t)) p j := by
  by_cases h0 : t.val % 8 = 0
  · rw [outsAt0_A m c t h0]
    frame_out
    exact df_at ..
  · rw [outsAt0_B m c t h0]
    frame_out
    exact df_at ..

/-- The weight as the call takes it. -/
theorem v1_at (c : Dev nD) (l : Fin 2816) (j : Fin 1024) :
    V m c main_v1 (ix3 0 l j) = m ((c : Thread nD τ).loc main_arg2) (ix2 l j) := by
  show StableHlo.after hostOps0_1 (StableHlo.after hostOps0 (fun b => m (c, b))) (Proc.tc.devRef main_v1) _ = _
  after_results_simp
  pointwise

/-- The vectors as the call takes them, one behind the other. -/
theorem v5_at (c : Dev nD) (o : Fin 2) (j : Fin 1024) :
    V m c main_v5 (ix2 (Fin.castLE (by decide) o : Fin 8) j) = if (o : ℕ) < 1 then m ((c : Thread nD τ).loc main_arg4) (ix1 j)
      else m ((c : Thread nD τ).loc main_arg5) (ix1 j) := by
  show StableHlo.after hostOps0_1 (StableHlo.after hostOps0 (fun b => m (c, b))) (Proc.tc.devRef main_v5) _ = _
  have h5 : (StableHlo.after hostOps0 (fun b => m (c, b)) (Proc.tc.devRef main_v4) : FVec Ideal S2x1024 .f32) (ix2 o j)
      = if (o : ℕ) < 1 then m ((c : Thread nD τ).loc main_arg4) (ix1 j) else m ((c : Thread nD τ).loc main_arg5) (ix1 j) := by
    after_results_simp
    pointwise
    rfl
  refine Eq.trans ?_ h5
  generalize StableHlo.after hostOps0 (fun b => m (c, b)) = W
  after_results_simp
  show pad S8x1024 ![0, 0] ![6, 0] ![0, 0] (W (Proc.tc.devRef main_v4) : FVec Ideal S2x1024 .f32)
    (sitofp (F := Ideal) .f32 (W (Proc.tc.devRef main_c) : IVec S_ 32)) pads_S2x1024_S8x1024_060_000 h_S_ _ = _
  exact pad_row _ _ _ _ _ _ o j

theorem x_blk (c : Dev nD) (t : Fin cfg0.N) (p : Fin 512) (j : Fin 1024) :
    iblk m c 0 t (ix2 p j) = m ((c : Thread nD τ).loc main_arg0) (ix2 (rowOf t p) j) := by
  blk_ext [iblk, V, rowOf, idx t]

theorem a_blk (c : Dev nD) (t : Fin cfg0.N) (p : Fin 512) (l : Fin 2816) :
    iblk m c 1 t (ix2 p l) = m ((c : Thread nD τ).loc main_arg1) (ix2 (rowOf t p) l) := by
  blk_ext [iblk, V, rowOf, idx t]

theorem w_blk (c : Dev nD) (t : Fin cfg0.N) (l : Fin 2816) (j : Fin 1024) :
    iblk m c 2 t (ix3 0 l j) = m ((c : Thread nD τ).loc main_arg2) (ix2 l j) := by
  refine Eq.trans ?_ (v1_at m c l j)
  blk_ext [iblk, idx t]

theorem t_blk (c : Dev nD) (t : Fin cfg0.N) :
    tB (iblk m c 3 t) = fun p j => m ((c : Thread nD τ).loc main_arg3) (ix2 (rowOf t p) j) := by
  funext p j
  show iblk m c 3 t (ix2 p j) = _
  blk_ext [iblk, V, rowOf, idx t]

theorem vec_blk (c : Dev nD) (t : Fin cfg0.N) (o : Fin 8) (j : Fin 1024) : iblk m c 4 t (ix2 o j) = V m c main_v5 (ix2 o j) := by
  blk_ext [iblk, idx t]

theorem ga_blk (c : Dev nD) (t : Fin cfg0.N) : gaB (iblk m c 4 t) = fun j => m ((c : Thread nD τ).loc main_arg4) (ix1 j) :=
  funext fun j => (vec_blk m c t 0 j).trans (v5_at m c 0 j)

theorem g_blk (c : Dev nD) (t : Fin cfg0.N) : gB (iblk m c 4 t) = fun j => m ((c : Thread nD τ).loc main_arg5) (ix1 j) :=
  funext fun j => (vec_blk m c t 1 j).trans (v5_at m c 1 j)

/-- The product and the residual stream behind it, of the whole arrays; the target and the weight. -/
abbrev PP (c : Dev nD) := prod (m ((c : Thread nD τ).loc main_arg1)) (m ((c : Thread nD τ).loc main_arg2))
abbrev XX (c : Dev nD) := resid (m ((c : Thread nD τ).loc main_arg0)) (PP m c) (m ((c : Thread nD τ).loc main_arg4))
abbrev XR (c : Dev nD) : Fin 4096 → Fin 1024 → EReal := fun p j => XX m c (ix2 p j)
abbrev FR (c : Dev nD) : Fin 4096 → Fin 1024 → EReal := fun p j => PP m c (ix2 p j)
abbrev TR (c : Dev nD) : Fin 4096 → Fin 1024 → EReal := fun p j => m ((c : Thread nD τ).loc main_arg3) (ix2 p j)
abbrev GR (c : Dev nD) : Fin 1024 → EReal := fun j => m ((c : Thread nD τ).loc main_arg5) (ix1 j)
abbrev AR (c : Dev nD) : Fin 1024 → EReal := fun j => m ((c : Thread nD τ).loc main_arg4) (ix1 j)

theorem f_blk (c : Dev nD) (t : Fin cfg0.N) : fB (iblk m c 1 t) (iblk m c 2 t) = fun p => FR m c (rowOf t p) := by
  funext p j
  show k0_pay6 (F := Ideal) (iblk m c 1 t) (iblk m c 2 t) (ix2 p j) = PP m c (ix2 (rowOf t p) j)
  pointwise [k0_pay6]
  exact Finset.sum_congr rfl fun l _ => congrArg₂ _ (a_blk m c t p l) (w_blk m c t l j)

theorem xr_blk (c : Dev nD) (t : Fin cfg0.N) :
    xB (iblk m c 0 t) (iblk m c 1 t) (iblk m c 2 t) (iblk m c 4 t) = fun p => XR m c (rowOf t p) := by
  funext p j
  refine (x_at ..).trans (congrArg₂ (· + ·) (x_blk m c t p j) (congrArg₂ (· * ·) (congrFun (ga_blk m c t) j)
    (congrFun (congrFun (f_blk m c t) p) j)))

/-- The result arrays as functions of the arguments. -/
abbrev outDx (c : Dev nD) : S4096x1024.Idx → EReal := fun y => Loss.dx (XR m c) (TR m c) (GR m c) (y 0) (y 1)
abbrev outDf (c : Dev nD) : S4096x1024.Idx → EReal := fun y => AR m c (y 1) * Loss.dx (XR m c) (TR m c) (GR m c) (y 0) (y 1)
abbrev outSums (c : Dev nD) : S8x1024.Idx → EReal := fun y => Loss.rows (XR m c) (FR m c) (TR m c) (GR m c) (y 0) (y 1)
abbrev outLoss (c : Dev nD) : S8x128.Idx → EReal := fun _ => Loss.loss (XR m c) (TR m c) (GR m c)

theorem final_5 (c : Dev nD) : (dats m 0 c).arrAt 5 (cfgs 0).N = outDx m c := by
  refine (dats m 0 c).arrAt_eq_of_covers 5 _ (by decide +kernel) fun t hf y => ?_
  blk_simp; rw [after0_5]
  obtain ⟨p, j, rfl⟩ : ∃ (p : Fin 512) (j : Fin 1024), y = ix2 p j := ⟨_, _, eq_ix2 y⟩
  refine (dx_out m c t p j).trans ?_
  rw [xr_blk, t_blk, g_blk]
  refine Eq.trans (b := outDx m c (ix2 (rowOf t p) j)) rfl ?_
  blk_ext [rowOf, idx t]

theorem final_6 (c : Dev nD) : (dats m 0 c).arrAt 6 (cfgs 0).N = outDf m c := by
  refine (dats m 0 c).arrAt_eq_of_covers 6 _ (by decide +kernel) fun t hf y => ?_
  blk_simp; rw [after0_6]
  obtain ⟨p, j, rfl⟩ : ∃ (p : Fin 512) (j : Fin 1024), y = ix2 p j := ⟨_, _, eq_ix2 y⟩
  refine (df_out m c t p j).trans ?_
  rw [xr_blk, t_blk, g_blk, ga_blk]
  refine Eq.trans (b := outDf m c (ix2 (rowOf t p) j)) rfl ?_
  blk_ext [rowOf, idx t]

/-- The last point. -/
def last : Fin cfg0.N := ⟨7, by have : cfg0.N = 8 := N_0; omega⟩

/-- The `i`th point. -/
def pt (i : Fin 8) : Fin cfg0.N := ⟨i.val, by have : cfg0.N = 8 := N_0; omega⟩

theorem sum_rows (F : Fin 4096 → EReal) : ∑ i : Fin 8, ∑ p : Fin 512, F (rowOf (pt i) p) = ∑ r, F r :=
  Fin.sum_mul_add_congr (F := fun (i : Fin 8) (p : Fin 512) => F (rowOf (pt i) p))
    fun s k hl => congrArg F (Fin.ext (by simp only [rowOf, pt]))

theorem final_7 (c : Dev nD) : (dats m 0 c).arrAt 7 (cfgs 0).N = outSums m c := by
  refine (dats m 0 c).arrAt_eq_of_after_last 7 last (by decide +kernel) _ fun y => ?_
  blk_simp
  rw [after0_7, Pipeline.eq_sum_fin_of_reset_step_apply_last (fun n h => (outsAt0 m c n h).2.2.1) 8 (fun _ => 0)
    (term m c) (fun t h j => sums_reset m c t h j) (fun t h j => sums_step m c t h j)
    (le_of_eq N_0) last rfl y, zero_add]
  refine Eq.trans (b := (∑ i : Fin 8, term m c (pt i) y : EReal)) rfl ?_
  refine (Finset.sum_congr rfl fun i _ => ?_).trans
    (Loss.rows_split (XR m c) (FR m c) (TR m c) (GR m c) (fun i p => rowOf (pt i) p) sum_rows (y 0) (y 1))
  unfold term
  rw [xr_blk, f_blk, t_blk, g_blk]

theorem final_8 (c : Dev nD) : (dats m 0 c).arrAt 8 (cfgs 0).N = outLoss m c := by
  refine (dats m 0 c).arrAt_eq_of_after_last 8 last (by decide +kernel) _ fun y => ?_
  blk_simp
  rw [after0_8, Pipeline.eq_sum_fin_of_reset_step_apply_last (fun n h => (outsAt0 m c n h).2.2.2) 8 (fun _ => 0)
    (fun t _ => lterm m c t) (fun t h j => loss_reset m c t h j) (fun t h j => loss_step m c t h j)
    (le_of_eq N_0) last rfl y, zero_add]
  refine Eq.trans (b := (∑ i : Fin 8, lterm m c (pt i) : EReal)) rfl ?_
  refine (Finset.sum_congr rfl fun i _ => ?_).trans
    (Loss.loss_split (XR m c) (TR m c) (GR m c) (fun i p => rowOf (pt i) p) sum_rows)
  unfold lterm
  rw [xr_blk, t_blk, g_blk]

end Cert.Kernel25Ideal.Value

namespace Cert.Reference25Ideal.Value
open Cert.Reference25Ideal

variable (m : (ℓ : Loc nD τ sig) → Buf (Elt Ideal) ℓ)

/-- The product and the residual stream behind it, of the whole arrays; the target and the weight. -/
abbrev PP (c : Dev nD) := prod (m ((c : Thread nD τ).loc main_arg1)) (m ((c : Thread nD τ).loc main_arg2))
abbrev XX (c : Dev nD) := resid (m ((c : Thread nD τ).loc main_arg0)) (PP m c) (m ((c : Thread nD τ).loc main_arg4))
abbrev XR (c : Dev nD) : Fin 4096 → Fin 1024 → EReal := fun p j => XX m c (ix2 p j)
abbrev FR (c : Dev nD) : Fin 4096 → Fin 1024 → EReal := fun p j => PP m c (ix2 p j)
abbrev TR (c : Dev nD) : Fin 4096 → Fin 1024 → EReal := fun p j => m ((c : Thread nD τ).loc main_arg3) (ix2 p j)
abbrev GR (c : Dev nD) : Fin 1024 → EReal := fun j => m ((c : Thread nD τ).loc main_arg5) (ix1 j)
abbrev AR (c : Dev nD) : Fin 1024 → EReal := fun j => m ((c : Thread nD τ).loc main_arg4) (ix1 j)

/-- The result arrays as functions of the arguments. -/
abbrev outDx (c : Dev nD) : S4096x1024.Idx → EReal := fun y => Loss.dx (XR m c) (TR m c) (GR m c) (y 0) (y 1)
abbrev outDf (c : Dev nD) : S4096x1024.Idx → EReal := fun y => AR m c (y 1) * Loss.dx (XR m c) (TR m c) (GR m c) (y 0) (y 1)
abbrev outSums (c : Dev nD) : S8x1024.Idx → EReal := fun y => Loss.rows (XR m c) (FR m c) (TR m c) (GR m c) (y 0) (y 1)
abbrev outLoss (c : Dev nD) : S8x128.Idx → EReal := fun _ => Loss.loss (XR m c) (TR m c) (GR m c)

theorem run_spec (ρ : Dev nD → PrngReg) :
    θ_run defs (onTc (τ := τ) (main (F := Ideal))) ⟨m, fun _ => 0, ρ⟩ fun r => ∀ c : Dev nD,
      r.2.mem ((c.tc : Thread nD τ).loc main_v56) = outDx m c
      ∧ r.2.mem ((c.tc : Thread nD τ).loc main_v68) = outDf m c
      ∧ r.2.mem ((c.tc : Thread nD τ).loc main_v67) = outSums m c
      ∧ r.2.mem ((c.tc : Thread nD τ).loc main_v69) = outLoss m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun _ h c => ⟨(h c).1.trans ?_, (h c).2.1.trans ?_, (h c).2.2.1.trans ?_,
    (h c).2.2.2.1.trans ?_, (h c).2.2.2.2⟩) (run m ρ)
  all_goals (clear h; funext y)
  · obtain ⟨p, j, rfl⟩ : ∃ (p : Fin 4096) (j : Fin 1024), y = ix2 p j := ⟨_, _, eq_ix2 y⟩
    unfold outDx Loss.dx Norm.dxR Loss.dt Loss.dy Loss.dist Loss.xn Norm.rr Norm.ms XR XX resid PP prod
    simp only [← Loss.coef]
    pointwise [res_main_v56]
    simp only [Fin.sum_univ_one]
  · obtain ⟨p, j, rfl⟩ : ∃ (p : Fin 4096) (j : Fin 1024), y = ix2 p j := ⟨_, _, eq_ix2 y⟩
    unfold outDf Loss.dx Norm.dxR Loss.dt Loss.dy Loss.dist Loss.xn Norm.rr Norm.ms XR XX resid PP prod
    simp only [← Loss.coef]
    pointwise [res_main_v68]
    simp only [Fin.sum_univ_one]
  · obtain ⟨o, j, rfl⟩ : ∃ (o : Fin 8) (j : Fin 1024), y = ix2 o j := ⟨_, _, eq_ix2 y⟩
    refine Eq.trans ?_ (Loss.rows_at (XR m c) (FR m c) (TR m c) (GR m c) (o : ℕ) j).symm
    unfold Loss.dx Norm.dxR Loss.dt Loss.dy Loss.dist Loss.xn Norm.rr Norm.ms XR XX resid FR PP prod
    simp only [← Loss.coef]
    pointwise [res_main_v67]
    simp only [Fin.sum_univ_one]
  · obtain ⟨o, l, rfl⟩ : ∃ (o : Fin 8) (l : Fin 128), y = ix2 o l := ⟨_, _, eq_ix2 y⟩
    unfold outLoss Loss.loss Loss.perRow Loss.dist Loss.xn Norm.rr Norm.ms XR XX resid PP prod
    have hs : ∀ b : Fin S_.rank, S_.size b = 1 := fun b => b.elim0
    pointwise [Loss.hostSum (n := 4096) (t := S_) _ hs]

end Cert.Reference25Ideal.Value

namespace Cert.Outs25

/-- Where the arguments agree, so do the four result arrays of the program and of its reference. -/
theorem outs_eq (m : (ℓ : Loc Kernel25Ideal.nD Kernel25Ideal.τ Kernel25Ideal.sig) → Buf (Elt Ideal) ℓ)
    (m' : (ℓ : Loc Reference25Ideal.nD Reference25Ideal.τ Reference25Ideal.sig) → Buf (Elt Ideal) ℓ) (c : Dev Kernel25Ideal.nD)
    (h0 : m' ((c.tc : Thread _ Reference25Ideal.τ).loc Reference25Ideal.main_arg0) = m ((c.tc : Thread _ Kernel25Ideal.τ).loc Kernel25Ideal.main_arg0))
    (h1 : m' ((c.tc : Thread _ Reference25Ideal.τ).loc Reference25Ideal.main_arg1) = m ((c.tc : Thread _ Kernel25Ideal.τ).loc Kernel25Ideal.main_arg1))
    (h2 : m' ((c.tc : Thread _ Reference25Ideal.τ).loc Reference25Ideal.main_arg2) = m ((c.tc : Thread _ Kernel25Ideal.τ).loc Kernel25Ideal.main_arg2))
    (h3 : m' ((c.tc : Thread _ Reference25Ideal.τ).loc Reference25Ideal.main_arg3) = m ((c.tc : Thread _ Kernel25Ideal.τ).loc Kernel25Ideal.main_arg3))
    (h4 : m' ((c.tc : Thread _ Reference25Ideal.τ).loc Reference25Ideal.main_arg4) = m ((c.tc : Thread _ Kernel25Ideal.τ).loc Kernel25Ideal.main_arg4))
    (h5 : m' ((c.tc : Thread _ Reference25Ideal.τ).loc Reference25Ideal.main_arg5) = m ((c.tc : Thread _ Kernel25Ideal.τ).loc Kernel25Ideal.main_arg5)) :
    Reference25Ideal.Value.outDx m' c = Kernel25Ideal.Value.outDx m c
      ∧ Reference25Ideal.Value.outDf m' c = Kernel25Ideal.Value.outDf m c
      ∧ Reference25Ideal.Value.outSums m' c = Kernel25Ideal.Value.outSums m c
      ∧ Reference25Ideal.Value.outLoss m' c = Kernel25Ideal.Value.outLoss m c := by
  have hP : Reference25Ideal.Value.PP m' c = Kernel25Ideal.Value.PP m c := congrArg₂ prod h1 h2
  have hX : Reference25Ideal.Value.XR m' c = Kernel25Ideal.Value.XR m c :=
    funext fun p => funext fun j => congrArg₂ (fun a b : EReal => a + b) (congrFun h0 (ix2 p j))
      (congrArg₂ (fun a b : EReal => a * b) (congrFun h4 (ix1 j)) (congrFun hP (ix2 p j)))
  have hF : Reference25Ideal.Value.FR m' c = Kernel25Ideal.Value.FR m c := funext fun p => funext fun j => congrFun hP (ix2 p j)
  have hT : Reference25Ideal.Value.TR m' c = Kernel25Ideal.Value.TR m c := funext fun p => funext fun j => congrFun h3 (ix2 p j)
  have hG : Reference25Ideal.Value.GR m' c = Kernel25Ideal.Value.GR m c := funext fun j => congrFun h5 (ix1 j)
  have hA : Reference25Ideal.Value.AR m' c = Kernel25Ideal.Value.AR m c := funext fun j => congrFun h4 (ix1 j)
  have hd : Loss.dx (Reference25Ideal.Value.XR m' c) (Reference25Ideal.Value.TR m' c) (Reference25Ideal.Value.GR m' c)
      = Loss.dx (Kernel25Ideal.Value.XR m c) (Kernel25Ideal.Value.TR m c) (Kernel25Ideal.Value.GR m c) := by rw [hX, hT, hG]
  have hr : Loss.rows (Reference25Ideal.Value.XR m' c) (Reference25Ideal.Value.FR m' c) (Reference25Ideal.Value.TR m' c)
      (Reference25Ideal.Value.GR m' c)
      = Loss.rows (Kernel25Ideal.Value.XR m c) (Kernel25Ideal.Value.FR m c) (Kernel25Ideal.Value.TR m c)
        (Kernel25Ideal.Value.GR m c) := by rw [hX, hF, hT, hG]
  have hl : Loss.loss (Reference25Ideal.Value.XR m' c) (Reference25Ideal.Value.TR m' c) (Reference25Ideal.Value.GR m' c)
      = Loss.loss (Kernel25Ideal.Value.XR m c) (Kernel25Ideal.Value.TR m c) (Kernel25Ideal.Value.GR m c) := by rw [hX, hT, hG]
  refine ⟨funext fun y => congrFun (congrFun hd (y 0)) (y 1), funext fun y => ?_,
    funext fun y => congrFun (congrFun hr (y 0)) (y 1), funext fun _ => hl⟩
  exact congrArg₂ (fun a b : EReal => a * b) (congrFun hA (y 1)) (congrFun (congrFun hd (y 0)) (y 1))

end Cert.Outs25

end
-- ==== Proof.Value26.lean ====
module
public import proofs.«01_k».proof.Proof.Gen.Kernel26Ideal.Value
public import proofs.«01_k».proof.Proof.Gen.Reference26Ideal.Run
public import proofs.«01_k».proof.Proof.Merge
public import Idealize.ShloMosaic.Lib.Pipeline.ValueKit

/-! The modulation of all layers, of the activated conditioning: what the kernel leaves and what the reference returns. -/

@[expose] public section
set_option maxRecDepth 16384
noncomputable section
open Idealize.ShloMosaic Idealize.ShloMosaic.TcCoe Idealize.SL.Sem
open Idealize.ShloMosaic.Pipeline (Dat)
open Cert.Product Cert.Gate Cert.Merge

namespace Cert.Kernel26Ideal.Value
open Cert.Kernel26Ideal Cert.Kernel26Ideal.Gen

variable (m : (ℓ : Loc nD τ sig) → Buf (Elt Ideal) ℓ)

theorem idx : ∀ t : Fin cfg0.N, win0_0.index t = ![0, 0]
    ∧ win0_1.index t = ![t.val, 0, 0]
    ∧ win0_2.index t = ![t.val, 0, 0]
    ∧ win0_3.index t = ![0, 0] :=
  (by decide +kernel : ∀ t : Fin grid0.N, _)

theorem lt_N (t : Fin cfg0.N) : t.val < 2 := lt_of_lt_of_eq t.isLt (show cfg0.N = 2 from N_0)

/-- The point's layer. -/
abbrev lay (t : Fin cfg0.N) : Fin 2 := ⟨t.val, lt_N t⟩

theorem c_blk (c : Dev nD) (t : Fin cfg0.N) (p : Fin 8) (j : Fin 1024) :
    iblk m c 0 t (ix2 p j) = m ((c : Thread nD τ).loc main_arg0) (ix2 p j) := by
  blk_ext [iblk, V, idx t]

theorem w_blk (c : Dev nD) (t : Fin cfg0.N) (l : Fin 1024) (j : Fin 768) :
    iblk m c 1 t (ix3 0 l j) = m ((c : Thread nD τ).loc main_arg1) (ix3 (lay t) l j) := by
  blk_ext [iblk, V, lay, idx t]

theorem act_at (c : Dev nD) (t : Fin cfg0.N) (p : Fin 8) (j : Fin 1024) :
    k0_pay1 (iblk m c 0 t) (ix2 p j) = act (m ((c : Thread nD τ).loc main_arg0)) (ix2 p j) := by
  pointwise [k0_pay1]
  rw [c_blk]
  unfold act
  rw [← sg_eq]
  rfl

theorem final_2 (c : Dev nD) : (dats m 0 c).arrAt 2 (cfgs 0).N = layers
    (act (m ((c : Thread nD τ).loc main_arg0))) (m ((c : Thread nD τ).loc main_arg1)) := by
  refine (dats m 0 c).arrAt_eq_of_covers 2 _ (by decide +kernel) fun t hf y => ?_
  blk_simp; rw [after0_2]
  obtain ⟨z, p, j, rfl⟩ : ∃ (z : Fin 1) (p : Fin 8) (j : Fin 768), y = ix3 z p j := ⟨_, _, _, eq_ix3 y⟩
  obtain rfl : z = 0 := Subsingleton.elim _ _
  frame_out
  pointwise [k0_pay2]
  refine Eq.trans (b := layers (act (m ((c : Thread nD τ).loc main_arg0)))
    (m ((c : Thread nD τ).loc main_arg1)) (ix3 (lay t) p j)) ?_ ?_
  · unfold layers
    exact Finset.sum_congr rfl fun l _ => congrArg₂ _ (act_at m c t p l) (w_blk m c t l j)
  · blk_ext [lay, idx t]

theorem final_3 (c : Dev nD) : (dats m 0 c).arrAt 3 (cfgs 0).N = act (m ((c : Thread nD τ).loc main_arg0)) := by
  refine (dats m 0 c).arrAt_eq_of_covers 3 _ (by decide +kernel) fun t hf y => ?_
  blk_simp; rw [after0_3]
  obtain ⟨p, j, rfl⟩ : ∃ (p : Fin 8) (j : Fin 1024), y = ix2 p j := ⟨_, _, eq_ix2 y⟩
  frame_out
  refine (act_at m c t p j).trans ?_
  blk_ext [idx t]

end Cert.Kernel26Ideal.Value

namespace Cert.Reference26Ideal.Value
open Cert.Reference26Ideal

theorem run_spec (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2) = layers
          (act (m ((c.tc : Thread nD τ).loc main_arg0))) (m ((c.tc : Thread nD τ).loc main_arg1))
      ∧ r.2.mem ((c.tc : Thread nD τ).loc main_v3) = act (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun _ h c => ⟨(h c).1.trans ?_, (h c).2.1.trans ?_, (h c).2.2⟩) (run m ρ)
  all_goals (clear h; funext y)
  · obtain ⟨z, p, j, rfl⟩ : ∃ (z : Fin 2) (p : Fin 8) (j : Fin 768), y = ix3 z p j := ⟨_, _, _, eq_ix3 y⟩
    unfold layers act sgR
    pointwise
    exact Finset.sum_congr rfl fun l _ => mul_comm _ _
  · obtain ⟨p, j, rfl⟩ : ∃ (p : Fin 8) (j : Fin 1024), y = ix2 p j := ⟨_, _, eq_ix2 y⟩
    unfold act sgR
    pointwise

end Cert.Reference26Ideal.Value

end
-- ==== Proof.Value27.lean ====
module
public import proofs.«01_k».proof.Proof.Gen.Kernel27Ideal.Value
public import proofs.«01_k».proof.Proof.Gen.Reference27Ideal.Run
public import proofs.«01_k».proof.Proof.Merge
public import proofs.«01_k».proof.Proof.Rows
public import Idealize.ShloMosaic.Lib.Pipeline.ValueKit

/-! The first norm: what the kernel leaves and what the reference returns. -/

@[expose] public section
set_option maxRecDepth 16384
noncomputable section
open Idealize.ShloMosaic Idealize.ShloMosaic.TcCoe Idealize.SL.Sem
open Idealize.ShloMosaic.Pipeline (Dat)
open Cert.Product Cert.Merge Cert.Rows

namespace Cert.Kernel27Ideal.Value
open Cert.Kernel27Ideal Cert.Kernel27Ideal.Gen

variable (m : (ℓ : Loc nD τ sig) → Buf (Elt Ideal) ℓ)

theorem idx : ∀ t : Fin cfg0.N, win0_0.index t = ![t.val, 0]
    ∧ win0_1.index t = ![0, 0]
    ∧ win0_2.index t = ![t.val, 0]
    ∧ win0_3.index t = ![0, t.val] :=
  (by decide +kernel : ∀ t : Fin grid0.N, _)

theorem lt_N (t : Fin cfg0.N) : t.val < 8 := lt_of_lt_of_eq t.isLt (show cfg0.N = 8 from N_0)

/-- A row of the arrays, by the point and the block's row. -/
abbrev rowOf (t : Fin cfg0.N) (p : Fin 512) : Fin 4096 := ⟨t.val * 512 + p.val, by have := lt_N t; omega⟩

theorem x_blk (c : Dev nD) (t : Fin cfg0.N) (p : Fin 512) (j : Fin 1024) :
    iblk m c 0 t (ix2 p j) = m ((c : Thread nD τ).loc main_arg0) (ix2 (rowOf t p) j) := by
  blk_ext [iblk, V, rowOf, idx t]

theorem vec_blk (c : Dev nD) (t : Fin cfg0.N) (o : Fin 8) (j : Fin 1024) : iblk m c 1 t (ix2 o j) = V m c main_v6 (ix2 o j) := by
  blk_ext [iblk, idx t]

theorem v6_at (c : Dev nD) (o : Fin 4) (j : Fin 1024) :
    V m c main_v6 (ix2 (Fin.castLE (by decide) o : Fin 8) j) = if (o : ℕ) < 1 then (0 : EReal) else if (o : ℕ) - 1 < 1 then m ((c : Thread nD τ).loc main_arg1) (ix1 j)
      else if (o : ℕ) - 2 < 1 then m ((c : Thread nD τ).loc main_arg2) (ix1 j) else m ((c : Thread nD τ).loc main_arg3) (ix1 j) := by
  show StableHlo.after hostOps0_1 (StableHlo.after hostOps0 (fun b => m (c, b))) (Proc.tc.devRef main_v6) _ = _
  have h5 : (StableHlo.after hostOps0 (fun b => m (c, b)) (Proc.tc.devRef main_v5) : FVec Ideal S4x1024 .f32) (ix2 o j)
      = if (o : ℕ) < 1 then (0 : EReal) else if (o : ℕ) - 1 < 1 then m ((c : Thread nD τ).loc main_arg1) (ix1 j)
        else if (o : ℕ) - 2 < 1 then m ((c : Thread nD τ).loc main_arg2) (ix1 j) else m ((c : Thread nD τ).loc main_arg3) (ix1 j) := by
    after_results_simp
    dsimp only [Matrix.cons_val]
    after_results_simp
    pointwise
    rfl
  refine Eq.trans ?_ h5
  generalize StableHlo.after hostOps0 (fun b => m (c, b)) = W
  after_results_simp
  show pad S8x1024 ![0, 0] ![4, 0] ![0, 0] (W (Proc.tc.devRef main_v5) : FVec Ideal S4x1024 .f32)
    (sitofp (F := Ideal) .f32 (W (Proc.tc.devRef main_c) : IVec S_ 32)) pads_S4x1024_S8x1024_040_000 h_S_ _ = _
  exact pad_row _ _ _ _ _ _ o j

/-- The normed rows of the whole array. -/
abbrev HH (c : Dev nD) := normed (m ((c : Thread nD τ).loc main_arg0)) (m ((c : Thread nD τ).loc main_arg1))
  (m ((c : Thread nD τ).loc main_arg2)) (m ((c : Thread nD τ).loc main_arg3))

theorem h_at (c : Dev nD) (t : Fin cfg0.N) (p : Fin 512) (j : Fin 1024) :
    k0_pay1 (F := Ideal) (iblk m c 0 t) (row 1 (iblk m c 1 t) inb_S8x1024_S1x1024_1_0) (row 2 (iblk m c 1 t) inb_S8x1024_S1x1024_2_0)
      (row 3 (iblk m c 1 t) inb_S8x1024_S1x1024_3_0) (ix2 p j) = HH m c (ix2 (rowOf t p) j) := by
  pointwise [k0_pay1]
  simp only [row_at, vec_blk, x_blk]
  rw [show V m c main_v6 (ix2 1 j) = _ from v6_at m c 1 j, show V m c main_v6 (ix2 2 j) = _ from v6_at m c 2 j,
    show V m c main_v6 (ix2 3 j) = _ from v6_at m c 3 j]
  rfl

theorem final_2 (c : Dev nD) : (dats m 0 c).arrAt 2 (cfgs 0).N = HH m c := by
  refine (dats m 0 c).arrAt_eq_of_covers 2 _ (by decide +kernel) fun t hf y => ?_
  blk_simp; rw [after0_2]
  obtain ⟨p, j, rfl⟩ : ∃ (p : Fin 512) (j : Fin 1024), y = ix2 p j := ⟨_, _, eq_ix2 y⟩
  frame_out
  pointwise [k0_pay2]
  refine (h_at m c t p j).trans ?_
  blk_ext [rowOf, idx t]

theorem final_3 (c : Dev nD) : (dats m 0 c).arrAt 3 (cfgs 0).N = turned (HH m c) := by
  refine (dats m 0 c).arrAt_eq_of_covers 3 _ (by decide +kernel) fun t hf y => ?_
  blk_simp; rw [after0_3]
  obtain ⟨j, p, rfl⟩ : ∃ (j : Fin 1024) (p : Fin 512), y = ix2 j p := ⟨_, _, eq_ix2 y⟩
  frame_out
  pointwise [k0_pay3]
  refine (h_at m c t p j).trans ?_
  unfold turned
  blk_ext [rowOf, idx t]

end Cert.Kernel27Ideal.Value

namespace Cert.Reference27Ideal.Value
open Cert.Reference27Ideal

theorem run_spec (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v21) = normed (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_v23) = turned (normed (m ((c.tc : Thread nD τ).loc main_arg0)) (m ((c.tc : Thread nD τ).loc main_arg1))
          (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun _ h c => ⟨(h c).1.trans ?_, (h c).2.1.trans ?_, (h c).2.2⟩) (run m ρ)
  all_goals (clear h; funext y)
  · obtain ⟨p, j, rfl⟩ : ∃ (p : Fin 4096) (j : Fin 1024), y = ix2 p j := ⟨_, _, eq_ix2 y⟩
    unfold normed Norm.rr Norm.ms
    pointwise
  · obtain ⟨j, p, rfl⟩ : ∃ (j : Fin 1024) (p : Fin 4096), y = ix2 j p := ⟨_, _, eq_ix2 y⟩
    unfold turned normed Norm.rr Norm.ms
    pointwise

end Cert.Reference27Ideal.Value

end
-- ==== Proof.Value28.lean ====
module
public import proofs.«01_k».proof.Proof.Gen.Kernel28Ideal.Frame
public import proofs.«01_k».proof.Proof.Gen.Kernel28.Frame
public import proofs.«01_k».proof.Proof.Gen.Reference28Ideal.Run
public import Idealize.ShloMosaic.Lib.Pipeline.ValueKit

/-! The sum of a pair's gradients: what the kernel leaves and what the reference returns. -/

@[expose] public section
set_option maxRecDepth 16384
noncomputable section
open Idealize.ShloMosaic Idealize.ShloMosaic.TcCoe Idealize.SL.Sem
open Idealize.ShloMosaic.Pipeline (Dat)

namespace Cert.PairSum

/-- Of each pair of blocks the first one, and the block received, added. -/
def pairSum (g : (⟨3, ![8, 1024, 1280]⟩ : Shape).Idx → EReal) (r : (⟨3, ![4, 1024, 1280]⟩ : Shape).Idx → EReal) :
    (⟨3, ![4, 1024, 1280]⟩ : Shape).Idx → EReal :=
  fun y => g (ix3 ⟨2 * (y 0).val, by have : (y 0).val < 4 := (y 0).isLt; omega⟩ (y 1) (y 2)) + r y

/-- The first of each pair of blocks, taken by a split of the leading axis. -/
theorem firsts (g : (⟨3, ![8, 1024, 1280]⟩ : Shape).Idx → EReal)
    (h1 : (⟨3, ![8, 1024, 1280]⟩ : Shape).ShapeCasts ⟨4, ![4, 2, 1024, 1280]⟩)
    (h2 : (⟨4, ![4, 2, 1024, 1280]⟩ : Shape).Slices ![0, 0, 0, 0] ⟨4, ![4, 1, 1024, 1280]⟩)
    (h3 : (⟨4, ![4, 1, 1024, 1280]⟩ : Shape).ShapeCasts ⟨3, ![4, 1024, 1280]⟩)
    (a : Fin 4) (p : Fin 1024) (j : Fin 1280) :
    shapeCast ⟨3, ![4, 1024, 1280]⟩ (extractStridedSlice ⟨4, ![4, 1, 1024, 1280]⟩ ![0, 0, 0, 0]
      (shapeCast ⟨4, ![4, 2, 1024, 1280]⟩ g h1) h2) h3 (ix3 a p j) = g (ix3 ⟨2 * a.val, by omega⟩ p j) := by
  rw [shapeCast_apply _ h3 (ix3 a p j) (ix4 a (0 : Fin 1) p j) ?_,
    extractStridedSlice_apply _ _ h2 _ (ix4 a (0 : Fin 2) p j) ?_,
    shapeCast_apply _ h1 _ (ix3 (⟨2 * a.val, by omega⟩ : Fin 8) p j) ?_]
  · rw [Shape.rowMajor_val_three, Shape.rowMajor_val_four]
    show (2 * a.val * 1024 + p.val) * 1280 + j.val = ((a.val * 2 + 0) * 1024 + p.val) * 1280 + j.val
    omega
  · intro b
    fin_cases b <;> exact (Nat.zero_add _).symm
  · rw [Shape.rowMajor_val_three, Shape.rowMajor_val_four]
    show ((a.val * 1 + 0) * 1024 + p.val) * 1280 + j.val = (a.val * 1024 + p.val) * 1280 + j.val
    omega

end Cert.PairSum
open Cert.PairSum

namespace Cert.Kernel28.Value
open Cert.Kernel28 Cert.Kernel28.Gen

variable {F : FTy → Type} [FloatOps F] (m : (ℓ : Loc nD τ sig) → Buf (Elt F) ℓ)

/-- The table of the core's index holds zero. -/
theorem tbl_zero : tbl m 0 = (fun _ => 0#32 : main_v0.ty.shape.Idx → BitVec 32) := by
  funext y
  show V m (0 : Dev nD) main_v0 y = 0#32
  simp only [V, List.flatten_cons, List.flatten_nil, hostOps0, List.cons_append, List.nil_append]
  entry_read
  pointwise

theorem twice : ∀ i : grid0.Coords, (2#32 * BitVec.ofNat 32 (i 0).val + 0#32).toNat = 2 * (i 0).val
    ∧ (BitVec.ofNat 32 (i 1).val).toNat = (i 1).val := by
  decide +kernel

theorem index_zero (i : grid0.Coords) :
    cc0_transform_0 inb_S1_S1_0 numel1_S1 (tbl m) i = ![2 * (i 0).val, (i 1).val, 0] := by
  have h : (tbl m).at 0 (Rect.unit (s := S1) ![0] S1.size inb_S1_S1_0) numel1_S1 = 0#32 := by
    show tbl m 0 _ = _
    rw [tbl_zero]
  simp only [cc0_transform_0, h]
  refine Eq.trans (b := ![(2#32 * BitVec.ofNat 32 (i 0).val + 0#32).toNat, (BitVec.ofNat 32 (i 1).val).toNat, 0]) rfl ?_
  rw [(twice i).1, (twice i).2]

theorem blk_ok : ∀ i : grid0.Coords,
    ∃ h : ∀ a, ((![2 * (i 0).val, (i 1).val, 0] : Fin 3 → Nat) a + 1) * S1x256x1280.size a ≤ S8x1024x1280.size a,
    EltTy.bits .bf16 = 32 ∨ (Rect.block (s := S8x1024x1280) S1x256x1280.size ![2 * (i 0).val, (i 1).val, 0] h).WholeWords (EltTy.packing .bf16) := by
  decide +kernel

theorem ok : Ok m := by
  intro i
  simp only [index_zero]
  exact blk_ok i

end Cert.Kernel28.Value

namespace Cert.Kernel28Ideal.Value
open Cert.Kernel28Ideal Cert.Kernel28Ideal.Gen

variable {F : FTy → Type} [FloatOps F] (m : (ℓ : Loc nD τ sig) → Buf (Elt F) ℓ)

/-- The table of the core's index holds zero. -/
theorem tbl_zero : tbl m 0 = (fun _ => 0#32 : main_v0.ty.shape.Idx → BitVec 32) := by
  funext y
  show V m (0 : Dev nD) main_v0 y = 0#32
  simp only [V, List.flatten_cons, List.flatten_nil, hostOps0, List.cons_append, List.nil_append]
  entry_read
  pointwise

theorem twice : ∀ i : grid0.Coords, (2#32 * BitVec.ofNat 32 (i 0).val + 0#32).toNat = 2 * (i 0).val
    ∧ (BitVec.ofNat 32 (i 1).val).toNat = (i 1).val := by
  decide +kernel

theorem index_zero (i : grid0.Coords) :
    cc0_transform_0 inb_S1_S1_0 numel1_S1 (tbl m) i = ![2 * (i 0).val, (i 1).val, 0] := by
  have h : (tbl m).at 0 (Rect.unit (s := S1) ![0] S1.size inb_S1_S1_0) numel1_S1 = 0#32 := by
    show tbl m 0 _ = _
    rw [tbl_zero]
  simp only [cc0_transform_0, h]
  refine Eq.trans (b := ![(2#32 * BitVec.ofNat 32 (i 0).val + 0#32).toNat, (BitVec.ofNat 32 (i 1).val).toNat, 0]) rfl ?_
  rw [(twice i).1, (twice i).2]

theorem blk_ok : ∀ i : grid0.Coords,
    ∃ h : ∀ a, ((![2 * (i 0).val, (i 1).val, 0] : Fin 3 → Nat) a + 1) * S1x256x1280.size a ≤ S8x1024x1280.size a,
    EltTy.bits .bf16 = 32 ∨ (Rect.block (s := S8x1024x1280) S1x256x1280.size ![2 * (i 0).val, (i 1).val, 0] h).WholeWords (EltTy.packing .bf16) := by
  decide +kernel

theorem ok : Ok m := by
  intro i
  simp only [index_zero]
  exact blk_ok i

section
variable (m : (ℓ : Loc nD τ sig) → Buf (Elt Ideal) ℓ)

theorem maps : ∀ t : Fin grid0.N, ((grid0.coords t) 0).val = t.val / 4 ∧ ((grid0.coords t) 1).val = t.val % 4
    ∧ cc0_transform_1 (grid0.coords t) = ![t.val / 4, t.val % 4, 0]
    ∧ cc0_transform_2 (grid0.coords t) = ![t.val / 4, t.val % 4, 0] := by
  decide +kernel

theorem idx (t : Fin grid0.N) : ((cfgM m (ok m)).win 0).index t = ![2 * (t.val / 4), t.val % 4, 0]
    ∧ ((cfgM m (ok m)).win 1).index t = ![t.val / 4, t.val % 4, 0]
    ∧ ((cfgM m (ok m)).win 2).index t = ![t.val / 4, t.val % 4, 0] :=
  ⟨(index_zero m (grid0.coords t)).trans (by rw [(maps t).1, (maps t).2.1]), (maps t).2.2⟩

theorem lt_N (t : Fin grid0.N) : t.val < 16 := t.isLt.trans_eq (by decide +kernel)

/-- The pair of a point; a row of its block, in the gradient. -/
def pair (t : Fin grid0.N) : Fin 4 := ⟨t.val / 4, by have := lt_N t; omega⟩
def own (t : Fin grid0.N) : Fin 8 := ⟨2 * (t.val / 4), by have := lt_N t; omega⟩
def row (t : Fin grid0.N) (q : Fin 256) : Fin 1024 := ⟨256 * (t.val % 4) + q.val, by omega⟩

theorem g_blk (c : Dev nD) (t : Fin grid0.N) (q : Fin 256) (j : Fin 1280) :
    iblk m (ok m) c 0 t (ix3 0 q j) = m ((c : Thread nD τ).loc main_arg0) (ix3 (own t) (row t q) j) := by
  blk_ext [iblk, V, row, own, idx m t]
theorem r_blk (c : Dev nD) (t : Fin grid0.N) (q : Fin 256) (j : Fin 1280) :
    iblk m (ok m) c 1 t (ix3 0 q j) = m ((c : Thread nD τ).loc main_arg1) (ix3 (pair t) (row t q) j) := by
  blk_ext [iblk, V, row, pair, idx m t]

variable (c : Dev nD)

/-- What the body writes, from the blocks it reads. -/
theorem outs (t : Fin grid0.N) (x0 x1 : Vec Ideal S1x256x1280 .bf16) (xt0 : TbBuf0 (F := Ideal) c tbM0_0)
    (p : Fin 256) (j : Fin 1280) :
    out0_A_2 c (grid0.coords t) _ (hs0_0 m (ok m) t) _ (hs0_1 m (ok m) t) _ (hs0_2 m (ok m) t) x0 x1 xt0 (ix3 0 p j)
      = (x0 (ix3 0 p j) + x1 (ix3 0 p j) : EReal) := by
  simp only [out0_A_2]
  frame_out
  pointwise [k0_pay1]

/-- The sums. -/
theorem final_2 : (dats m (ok m) 0 c).arrAt 2 (cfgM m (ok m)).N
    = pairSum (m ((c : Thread nD τ).loc main_arg0)) (m ((c : Thread nD τ).loc main_arg1)) := by
  refine (dats m (ok m) 0 c).arrAt_eq_of_covers 2 _ (of_decide_eq_true (by sl_kernel_rfl)) fun t hf y => ?_
  blk_simp; rw [after0_2]
  obtain ⟨a, p, j, rfl⟩ : ∃ (a : Fin 1) (p : Fin 256) (j : Fin 1280), y = ix3 a p j := ⟨_, _, _, eq_ix3 y⟩
  obtain rfl : a = 0 := Subsingleton.elim _ _
  refine (outs m c t _ _ _ p j).trans ?_
  rw [g_blk, r_blk]
  refine Eq.trans (b := pairSum (m ((c : Thread nD τ).loc main_arg0)) (m ((c : Thread nD τ).loc main_arg1))
    (ix3 (pair t) (row t p) j)) rfl ?_
  blk_ext [row, pair, idx m t]

/-- What the run leaves. -/
theorem run_blocks (ρ : Dev nD → PrngReg) :
    θ_run defs (onTc (τ := τ) (main (F := Ideal))) ⟨m, fun _ => 0, ρ⟩ fun r => ∀ c : Dev nD,
      r.2.mem ((c.tc : Thread nD τ).loc main_v1) = (dats m (ok m) 0 c).arrAt 2 (cfgM m (ok m)).N
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h.2 c).1 2, h.1 c⟩)
    (θ_run_and (unchanged m ρ (ok m)) (run_main m ρ (ok m)))
end

end Cert.Kernel28Ideal.Value

namespace Cert.Reference28Ideal.Value
open Cert.Reference28Ideal

theorem sums (g : FVec Ideal S8x1024x1280 .bf16) (r : FVec Ideal S4x1024x1280 .bf16)
    (h1 : S8x1024x1280.ShapeCasts S4x2x1024x1280) (h2 : S4x2x1024x1280.Slices ![0, 0, 0, 0] S4x1x1024x1280)
    (h3 : S4x1x1024x1280.ShapeCasts S4x1024x1280) (hb : FTy.bits .bf16 < FTy.bits .f32) :
    truncf .bf16 (addf (extf .f32 (shapeCast S4x1024x1280 (extractStridedSlice S4x1x1024x1280 ![0, 0, 0, 0]
      (shapeCast S4x2x1024x1280 g h1) h2) h3) hb) (extf .f32 r hb)) hb = pairSum g r := by
  funext y
  obtain ⟨a, p, j, rfl⟩ : ∃ (a : Fin 4) (p : Fin 1024) (j : Fin 1280), y = ix3 a p j := ⟨_, _, _, eq_ix3 y⟩
  have e := firsts g h1 h2 h3 a p j
  generalize shapeCast S4x1024x1280 _ _ = X at e ⊢
  exact congrArg (fun b : EReal => b + r (ix3 a p j)) e

theorem run_spec (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v6)
        = pairSum (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  exact (θ_run defs _ _).mono (fun _ h c => ⟨(h c).1.trans (sums _ _ _ _ _ _), (h c).2⟩) (run m ρ)

end Cert.Reference28Ideal.Value

end
-- ==== Proof.Value29.lean ====
module
public import proofs.«01_k».proof.Proof.Gen.Kernel29Ideal.Value
public import proofs.«01_k».proof.Proof.Gen.Reference29Ideal.Run
public import Idealize.ShloMosaic.Lib.Pipeline.ValueKit
public import Idealize.ShloMosaic.Lib.Pipeline.ReadBack
public import Idealize.ShloMosaic.Lib.WritesUnit
public import proofs.«01_k».proof.Proof.Rows
public import proofs.«01_k».proof.Proof.Gate

/-! The mixer's forward call: the gated short convolution, the spatial gating and the conformer convolution, what the kernel
leaves and what the reference returns. -/

@[expose] public section
set_option maxRecDepth 16384
noncomputable section
open Idealize.ShloMosaic Idealize.ShloMosaic.TcCoe Idealize.SL.Sem
open Idealize.ShloMosaic.Pipeline (Dat)

namespace Cert.Mixer

variable {e : EltTy} {Val : EltTy → Type} {M N m n : ℕ}

/-- An index inside the newest store reads it. -/
theorem canon_in [∀ e, Nonempty (Val e)] {a b : ℕ}
    (inb : ∀ x : Fin 2, (![a, b] : Fin 2 → ℕ) x + (![m, n] : Fin 2 → ℕ) x ≤ (![M, N] : Fin 2 → ℕ) x)
    (w : (Rect.unit (s := ⟨2, ![M, N]⟩) ![a, b] ![m, n] inb).shape.Idx → Val e) (L : List (View.Piece Val (⟨2, ![M, N]⟩ : Shape) e))
    (y : (⟨2, ![M, N]⟩ : Shape).Idx) (p : Fin m) (j : Fin n) (hp : (y 0 : ℕ) = a + p.val) (hj : (y 1 : ℕ) = b + j.val) :
    View.canon ((⟨Rect.unit (s := ⟨2, ![M, N]⟩) ![a, b] ![m, n] inb, w⟩ : View.Piece Val (⟨2, ![M, N]⟩ : Shape) e) :: L) y
      = w (ix2 (n0 := m) (n1 := n) p j) := by
  refine Eq.trans (congrArg _ ?_) (View.canon_cons_emb _ w L (ix2 (n0 := m) (n1 := n) p j))
  funext x
  apply Fin.ext
  match x with
  | ⟨0, _⟩ => show (y 0 : ℕ) = a + 1 * p.val; omega
  | ⟨1, _⟩ => show (y 1 : ℕ) = b + 1 * j.val; omega

/-- An index outside the rows and columns of the newest store reads the stores before it. -/
theorem canon_out [∀ e, Nonempty (Val e)] {a b : ℕ}
    (inb : ∀ x : Fin 2, (![a, b] : Fin 2 → ℕ) x + (![m, n] : Fin 2 → ℕ) x ≤ (![M, N] : Fin 2 → ℕ) x)
    (w : (Rect.unit (s := ⟨2, ![M, N]⟩) ![a, b] ![m, n] inb).shape.Idx → Val e) (L : List (View.Piece Val (⟨2, ![M, N]⟩ : Shape) e))
    (y : (⟨2, ![M, N]⟩ : Shape).Idx)
    (h : (y 0 : ℕ) < a ∨ a + m ≤ (y 0 : ℕ) ∨ (y 1 : ℕ) < b ∨ b + n ≤ (y 1 : ℕ)) :
    View.canon ((⟨Rect.unit (s := ⟨2, ![M, N]⟩) ![a, b] ![m, n] inb, w⟩ : View.Piece Val (⟨2, ![M, N]⟩ : Shape) e) :: L) y
      = View.canon L y := by
  refine View.canon_cons_of_not_mem _ L ?_
  rw [Rect.mem_set_unit]
  intro hall
  have h0 := hall 0
  have h1 := hall 1
  simp only [Matrix.cons_val_zero] at h0
  simp only [Matrix.cons_val_one, Matrix.cons_val_fin_one] at h1
  omega

/-- A load of `m` rows from row `o` of a buffer of which the rows from row 32 on were stored last, the first 32 before. -/
theorem rows_at [∀ e, Nonempty (Val e)] {sig : RefSig} {κ : Kind} {sp : Space} (v : View sig κ sp (⟨2, ![160, 1024]⟩ : Shape) e)
    {o : ℕ} (inb) (inb') (inbL)
    (w : (Rect.unit (s := ⟨2, ![160, 1024]⟩) ![32, 0] ![128, 1024] inb).shape.Idx → Val e)
    (w' : (Rect.unit (s := ⟨2, ![160, 1024]⟩) ![0, 0] ![32, 1024] inb').shape.Idx → Val e)
    (L : List (View.Piece Val (⟨2, ![160, 1024]⟩ : Shape) e)) (p : Fin m) (j : Fin 1024) (ho : o + p.val < 160) :
    v.readCov ((⟨Rect.unit (s := ⟨2, ![160, 1024]⟩) ![32, 0] ![128, 1024] inb, w⟩ : View.Piece Val (⟨2, ![160, 1024]⟩ : Shape) e)
        :: ⟨Rect.unit (s := ⟨2, ![160, 1024]⟩) ![0, 0] ![32, 1024] inb', w'⟩ :: L)
        (Rect.unit (s := ⟨2, ![160, 1024]⟩) ![o, 0] ![m, 1024] inbL).toLoadRect (ix2 (n0 := m) (n1 := 1024) p j)
      = if h : 32 ≤ o + p.val then w (ix2 (n0 := 128) (n1 := 1024) ⟨o + p.val - 32, by omega⟩ j)
        else w' (ix2 (n0 := 32) (n1 := 1024) ⟨o + p.val, by omega⟩ j) := by
  rw [View.readCov_eq_canon']
  by_cases h : 32 ≤ o + p.val
  · rw [dif_pos h]
    refine canon_in inb w _ _ _ _ ?_ ?_
    · show o + 1 * p.val = 32 + (o + p.val - 32); omega
    · show 0 + 1 * j.val = 0 + j.val; omega
  · rw [dif_neg h]
    refine (canon_out inb w _ _ ?_).trans (canon_in inb' w' L _ _ _ ?_ ?_)
    · left; show o + 1 * p.val < 32; omega
    · show o + 1 * p.val = 0 + (o + p.val); omega
    · show 0 + 1 * j.val = 0 + j.val; omega

/-- A load that lies inside the newest store reads it. -/
theorem rows_in [∀ e, Nonempty (Val e)] {sig : RefSig} {κ : Kind} {sp : Space} (v : View sig κ sp (⟨2, ![160, 1024]⟩ : Shape) e)
    {o a k : ℕ} (inb) (inbL)
    (w : (Rect.unit (s := ⟨2, ![160, 1024]⟩) ![a, 0] ![k, 1024] inb).shape.Idx → Val e)
    (L : List (View.Piece Val (⟨2, ![160, 1024]⟩ : Shape) e)) (p : Fin m) (q : Fin k) (j : Fin 1024) (ho : o + p.val = a + q.val) :
    v.readCov ((⟨Rect.unit (s := ⟨2, ![160, 1024]⟩) ![a, 0] ![k, 1024] inb, w⟩ : View.Piece Val (⟨2, ![160, 1024]⟩ : Shape) e) :: L)
        (Rect.unit (s := ⟨2, ![160, 1024]⟩) ![o, 0] ![m, 1024] inbL).toLoadRect (ix2 (n0 := m) (n1 := 1024) p j)
      = w (ix2 (n0 := k) (n1 := 1024) q j) := by
  rw [View.readCov_eq_canon']
  refine canon_in inb w _ _ _ _ ?_ ?_
  · show o + 1 * p.val = a + q.val; omega
  · show 0 + 1 * j.val = 0 + j.val; omega

/-- The rows from row 32 on stored over what the buffer held. -/
theorem read_at {sig : RefSig} {κ : Kind} {sp : Space} (v : View sig κ sp (⟨2, ![160, 1024]⟩ : Shape) e) (f : v.ty.Contents Val) (inb)
    (w : (Rect.unit (s := ⟨2, ![160, 1024]⟩) ![32, 0] ![128, 1024] inb).shape.Idx → Val e) (r : ℕ) (hr : r < 160) (j : Fin 1024) :
    v.read Val (v.writes Val f [(⟨Rect.unit (s := ⟨2, ![160, 1024]⟩) ![32, 0] ![128, 1024] inb, w⟩ : View.Piece Val (⟨2, ![160, 1024]⟩ : Shape) e)])
        (ix2 ⟨r, hr⟩ j)
      = if h : 32 ≤ r then w (ix2 (n0 := 128) (n1 := 1024) ⟨r - 32, by omega⟩ j) else v.read Val f (ix2 ⟨r, hr⟩ j) := by
  by_cases h : 32 ≤ r
  · rw [dif_pos h]
    exact View.read_writes_cons_rows_of_mem v f inb w [] _ _ rfl (by show r = 32 + (r - 32); omega) rfl
  · rw [dif_neg h]
    exact View.read_writes_cons_rows_of_not_mem v f inb w [] _ rfl (W := 128) rfl (by left; show r < 32; omega)

/-- Column group `g` of the projected rows. -/
abbrev gc (g : Fin 10) (j : Fin 1024) : Fin 10240 := ⟨g.val * 1024 + j.val, by omega⟩

/-- What the short convolution runs over: the product of two column groups, zero before the first row; `d` rows above row `r`. -/
def above (z : (⟨2, ![4096, 10240]⟩ : Shape).Idx → EReal) (d : ℕ) (r : Fin 4096) (j : Fin 1024) : EReal :=
  if h : d ≤ r.val then z (ix2 ⟨r.val - d, by omega⟩ (gc 1 j)) * z (ix2 ⟨r.val - d, by omega⟩ (gc 2 j)) else 0

/-- The gated short convolution. -/
def shortConv (z : (⟨2, ![4096, 10240]⟩ : Shape).Idx → EReal) (w : (⟨2, ![3, 1024]⟩ : Shape).Idx → EReal) :
    (⟨2, ![4096, 1024]⟩ : Shape).Idx → EReal := fun y =>
  z (ix2 (y 0) (gc 0 (y 1))) * (w (ix2 0 (y 1)) * above z 2 (y 0) (y 1) + w (ix2 1 (y 1)) * above z 1 (y 0) (y 1)
    + w (ix2 2 (y 1)) * above z 0 (y 0) (y 1))

theorem above_in (z) (T : ℕ) (hT : T < 32) (p q : Fin 128) (d : ℕ) (j : Fin 1024) (h : q.val + d = p.val) :
    above z d ⟨T * 128 + p.val, by omega⟩ j = above z 0 ⟨T * 128 + q.val, by omega⟩ j := by
  unfold above
  rw [dif_pos (by show d ≤ T * 128 + p.val; omega), dif_pos (Nat.zero_le _)]
  have e : (⟨T * 128 + p.val - d, by omega⟩ : Fin 4096) = ⟨T * 128 + q.val - 0, by omega⟩ := Fin.ext (by
    show T * 128 + p.val - d = T * 128 + q.val - 0; omega)
  exact congrArg (fun r => z (ix2 r (gc 1 j)) * z (ix2 r (gc 2 j))) e

/-- A tap of the short convolution in the first block: the rows before it are zero. -/
theorem tap_first {sig : RefSig} {κ : Kind} {sp : Space} (v : View sig κ sp (⟨2, ![160, 1024]⟩ : Shape) .f32)
    (z : (⟨2, ![4096, 10240]⟩ : Shape).Idx → EReal) {o d T : ℕ} (hd : o + d = 32) (hT : T < 32) (hT0 : T % 32 = 0) (inb) (inb') (inbL)
    (w : FVec Ideal ⟨2, ![128, 1024]⟩ .f32) (w' : FVec Ideal ⟨2, ![32, 1024]⟩ .f32)
    (hw : ∀ q j, w (ix2 q j) = above z 0 ⟨T * 128 + q.val, by omega⟩ j) (hw' : ∀ q j, w' (ix2 q j) = 0)
    (L : List (View.Piece (Elt Ideal) (⟨2, ![160, 1024]⟩ : Shape) .f32)) (p : Fin 128) (j : Fin 1024) :
    v.readCov ((⟨Rect.unit (s := ⟨2, ![160, 1024]⟩) ![32, 0] ![128, 1024] inb, w⟩ : View.Piece (Elt Ideal) (⟨2, ![160, 1024]⟩ : Shape) .f32)
        :: ⟨Rect.unit (s := ⟨2, ![160, 1024]⟩) ![0, 0] ![32, 1024] inb', w'⟩ :: L)
        (Rect.unit (s := ⟨2, ![160, 1024]⟩) ![o, 0] ![128, 1024] inbL).toLoadRect (ix2 (n0 := 128) (n1 := 1024) p j)
      = above z d ⟨T * 128 + p.val, by omega⟩ j := by
  refine (rows_at (Val := Elt Ideal) (e := .f32) v inb inb' inbL w w' L p j (by omega)).trans ?_
  by_cases h : 32 ≤ o + p.val
  · rw [dif_pos h]
    exact (hw _ _).trans (above_in z T hT p _ d j (by show o + p.val - 32 + d = p.val; omega)).symm
  · rw [dif_neg h]
    refine (hw' _ _).trans ?_
    unfold above
    rw [dif_neg (by show ¬ d ≤ T * 128 + p.val; omega)]

/-- A tap in a later block: the rows before it were carried. -/
theorem tap_next {sig : RefSig} {κ : Kind} {sp : Space} (v : View sig κ sp (⟨2, ![160, 1024]⟩ : Shape) .f32) (f : v.ty.Contents (Elt Ideal))
    (z : (⟨2, ![4096, 10240]⟩ : Shape).Idx → EReal) {o d T : ℕ} (hd : o + d = 32) (hT : T < 32) (hT0 : ¬ T % 32 = 0) (inb)
    (w : FVec Ideal ⟨2, ![128, 1024]⟩ .f32) (hw : ∀ q j, w (ix2 q j) = above z 0 ⟨T * 128 + q.val, by omega⟩ j)
    (X : FVec Ideal ⟨2, ![160, 1024]⟩ .f32) (hX : v.read (Elt Ideal) f = X)
    (hc : ∀ (q : Fin 32) j, X (ix2 ⟨q.val, by omega⟩ j) = above z 0 ⟨(T - 1) * 128 + (96 + q.val), by omega⟩ j)
    (p : Fin 128) (j : Fin 1024) (ho : o + p.val < 160) :
    v.read (Elt Ideal) (v.writes (Elt Ideal) f [⟨Rect.unit (s := ⟨2, ![160, 1024]⟩) ![32, 0] ![128, 1024] inb, w⟩]) (ix2 ⟨o + p.val, ho⟩ j)
      = above z d ⟨T * 128 + p.val, by omega⟩ j := by
  refine (read_at v f inb w _ ho j).trans ?_
  by_cases h : 32 ≤ o + p.val
  · rw [dif_pos h]
    exact (hw _ _).trans (above_in z T hT p _ d j (by show o + p.val - 32 + d = p.val; omega)).symm
  · rw [dif_neg h]
    refine (congrFun hX _).trans ((hc ⟨o + p.val, by omega⟩ j).trans ?_)
    unfold above
    rw [dif_pos (Nat.zero_le _), dif_pos (by show d ≤ T * 128 + p.val; omega)]
    have e : (⟨(T - 1) * 128 + (96 + (o + p.val)) - 0, by omega⟩ : Fin 4096) = ⟨T * 128 + p.val - d, by omega⟩ := Fin.ext (by
      show (T - 1) * 128 + (96 + (o + p.val)) - 0 = T * 128 + p.val - d; omega)
    exact congrArg (fun r => z (ix2 r (gc 1 j)) * z (ix2 r (gc 2 j))) e

end Cert.Mixer

namespace Cert.Kernel29Ideal.Value
open Cert.Kernel29Ideal Cert.Kernel29Ideal.Gen Cert.Mixer Cert.Rows

variable (m : (ℓ : Loc nD τ sig) → Buf (Elt Ideal) ℓ)

theorem idx : ∀ t : Fin cfg0.N, win0_0.index t = ![t.val, 0] ∧ win0_7.index t = ![t.val, 0] ∧ win0_8.index t = ![t.val, 0]
    ∧ win0_1.index t = ![0, 0] ∧ win0_2.index t = ![0, 0] ∧ win0_3.index t = ![0, 0, 0] ∧ win0_4.index t = ![0, 0] :=
  (by decide +kernel : ∀ t : Fin grid0.N, _)

theorem lt_N (t : Fin cfg0.N) : t.val < 32 := lt_of_lt_of_eq t.isLt (show cfg0.N = 32 from N_0)

/-- A row of the arrays, by the point and the block's row. -/
abbrev row (t : Fin cfg0.N) (p : Fin 128) : Fin 4096 := ⟨t.val * 128 + p.val, by have := lt_N t; omega⟩

theorem z_blk (c : Dev nD) (t : Fin cfg0.N) (p : Fin 128) (j : Fin 7168) :
    X0_0 m c t (ix2 p j) = m ((c : Thread nD τ).loc main_arg0) (ix2 (row t p) ⟨j.val, by omega⟩) := by
  unfold X0_0 Pipeline.Window.fill
  rw [dif_pos (moved0_0 t _)]
  blk_ext [iblk, V, row, idx t]

theorem w_blk (c : Dev nD) (t : Fin cfg0.N) (p : Fin 8) (hp : p.val < 3) (j : Fin 1024) :
    iblk m c 1 t (ix2 p j) = m ((c : Thread nD τ).loc main_arg1) (ix2 ⟨p.val, hp⟩ j) := by
  have e : iblk m c 1 t (ix2 p j) = V m c main_v5 (ix2 p j) := by blk_ext [iblk, V, idx t]
  refine e.trans ?_
  simp only [V, List.flatten_cons, List.flatten_nil, hostOps0, hostOps0_1, hostOps0_2, hostOps0_3, hostOps0_4, hostOps0_5, hostOps0_6,
    hostOps0_7, hostOps0_8, hostOps0_9, hostOps0_10, hostOps0_11, List.cons_append, List.nil_append]
  entry_read
  show pad S8x1024 ![0, 0] ![5, 0] ![0, 0] (m ((c : Thread nD τ).loc main_arg1) : FVec Ideal S3x1024 .f32)
    (sitofp (F := Ideal) .f32 (constantI S_ 32 0#32)) pads_S3x1024_S8x1024_050_000 h_S_ _ = _
  exact pad_row (by decide) _ _ _ _ _ ⟨p.val, hp⟩ j

theorem prod_at (c : Dev nD) (t : Fin cfg0.N) (i1) (i2) (q : Fin 128) (j : Fin 1024) :
    k0_pay8 (View.ld (X0_0 m c t) (Rect.unit ![0, 1024] ![128, 1024] i1)) (View.ld (X0_0 m c t) (Rect.unit ![0, 2048] ![128, 1024] i2)) (ix2 q j)
      = above (m ((c : Thread nD τ).loc main_arg0)) 0 (row t q) j := by
  pointwise [k0_pay8]
  rw [z_blk, z_blk]
  unfold above
  rw [dif_pos (Nat.zero_le _)]
  rfl

/-- What a point leaves in the first 32 rows of the first carried scratch: the product at the last rows of its block. -/
theorem carried (c : Dev nD) (t : Fin cfg0.N) (p : Fin 32) (j : Fin 1024) :
    (outsAt0 m c t.val t.isLt).2.2.2.2.2.1 (ix2 ⟨p.val, by omega⟩ j)
      = above (m ((c : Thread nD τ).loc main_arg0)) 0 (row t ⟨96 + p.val, by omega⟩) j := by
  by_cases h0 : t.val % 32 = 0
  · rw [outsAt0_A m c t h0]
    dsimp only
    simp only [sout0_A_0]
    frame_out
    refine (canon_in _ _ _ _ p j (by show p.val = 0 + p.val; omega) (by show j.val = 0 + j.val; omega)).trans ?_
    pointwise [k0_pay4]
    exact (rows_in _ _ _ _ _ _ ⟨96 + p.val, by omega⟩ _ (by show 128 + p.val = 32 + (96 + p.val); omega)).trans (prod_at m c t _ _ _ _)
  · rw [outsAt0_B m c t h0]
    dsimp only
    simp only [sout0_B_0]
    frame_out
    refine (canon_in _ _ _ _ p j (by show p.val = 0 + p.val; omega) (by show j.val = 0 + j.val; omega)).trans ?_
    pointwise [k0_pay4]
    exact (rows_in _ _ _ _ _ _ ⟨96 + p.val, by omega⟩ _ (by show 128 + p.val = 32 + (96 + p.val); omega)).trans (prod_at m c t _ _ _ _)

theorem final_7 (c : Dev nD) : (dats m 0 c).arrAt 7 (cfgs 0).N
    = shortConv (m ((c : Thread nD τ).loc main_arg0)) (m ((c : Thread nD τ).loc main_arg1)) := by
  refine (dats m 0 c).arrAt_eq_of_covers 7 _ (by decide +kernel) fun t hf y => ?_
  blk_simp; rw [after0_7]
  obtain ⟨p, j, rfl⟩ : ∃ (p : Fin 128) (j : Fin 1024), y = ix2 p j := ⟨_, _, eq_ix2 y⟩
  have ht := lt_N t
  have hz : X0_0 m c t (ix2 p ⟨j.val, by omega⟩) = m ((c : Thread nD τ).loc main_arg0) (ix2 (row t p) (gc 0 j)) :=
    (z_blk m c t p _).trans (congrArg (fun r => m ((c : Thread nD τ).loc main_arg0) (ix2 (row t p) r)) (Fin.ext (by
      show j.val = 0 * 1024 + j.val; omega)))
  refine Eq.trans (b := shortConv (m ((c : Thread nD τ).loc main_arg0)) (m ((c : Thread nD τ).loc main_arg1)) (ix2 (row t p) j)) ?_ ?_
  · unfold shortConv
    by_cases h0 : t.val % 32 = 0
    · rw [outsAt0_A m c t h0]
      dsimp only
      simp only [out0_A_7]
      frame_out
      pointwise [k0_pay10, k0_pay9]
      refine congrArg₂ (· * ·) hz (congrArg₂ (· + ·) (congrArg₂ (· + ·)
        (congrArg₂ (· * ·) (w_blk m c t 0 (by decide) j) ?_) (congrArg₂ (· * ·) (w_blk m c t 1 (by decide) j) ?_))
        (congrArg₂ (· * ·) (w_blk m c t 2 (by decide) j) ?_))
      · exact tap_first _ _ rfl ht h0 _ _ _ _ _ (prod_at m c t _ _) (fun _ _ => by pointwise [k0_pay6]) _ p j
      · exact tap_first _ _ rfl ht h0 _ _ _ _ _ (prod_at m c t _ _) (fun _ _ => by pointwise [k0_pay6]) _ p j
      · exact tap_first _ _ rfl ht h0 _ _ _ _ _ (prod_at m c t _ _) (fun _ _ => by pointwise [k0_pay6]) _ p j
    · rw [outsAt0_B m c t h0]
      dsimp only
      simp only [out0_B_7]
      frame_out
      pointwise [k0_pay10, k0_pay9]
      refine congrArg₂ (· * ·) hz (congrArg₂ (· + ·) (congrArg₂ (· + ·)
        (congrArg₂ (· * ·) (w_blk m c t 0 (by decide) j) ?_) (congrArg₂ (· * ·) (w_blk m c t 1 (by decide) j) ?_))
        (congrArg₂ (· * ·) (w_blk m c t 2 (by decide) j) ?_))
      · exact tap_next _ _ _ rfl ht h0 _ _ (prod_at m c t _ _) _ (read_unread_whole _ _ _) (fun q j => carried m c ⟨t.val - 1, by omega⟩ q j) p j _
      · exact tap_next _ _ _ rfl ht h0 _ _ (prod_at m c t _ _) _ (read_unread_whole _ _ _) (fun q j => carried m c ⟨t.val - 1, by omega⟩ q j) p j _
      · exact (rows_in _ _ _ _ _ p p j rfl).trans (prod_at m c t _ _ p j)
  · blk_ext [row, idx t]

end Cert.Kernel29Ideal.Value

namespace Cert.Mixer

/-- The activation of the gating branch's two halves. -/
def act (x : EReal) : EReal :=
  x * (Ideal.ofBits FTy.f32 1056964608#32 * (1 + Ideal.tanh (Ideal.ofBits FTy.f32 1061962282#32
    * (x + Ideal.ofBits FTy.f32 1027024659#32 * (x * x * x)))))

/-- A row less its mean. -/
def centred (f : Fin 1024 → EReal) (j : Fin 1024) : EReal := f j - Ideal.div (∑ x, f x) (Ideal.ofBits FTy.f32 1149239296#32)

/-- A centred row over the root of its mean square, weighted and shifted. -/
def spread (d : Fin 1024 → EReal) (g b : EReal) (j : Fin 1024) : EReal :=
  d j * Ideal.rsqrt (Ideal.div (∑ x, d x * d x) (Ideal.ofBits FTy.f32 1149239296#32) + Ideal.ofBits FTy.f32 897988541#32) * g + b

/-- The normed second half of the gating branch at a row. -/
def normed (z : (⟨2, ![4096, 10240]⟩ : Shape).Idx → EReal) (g b : (⟨1, ![1024]⟩ : Shape).Idx → EReal) (r : Fin 4096) (j : Fin 1024) : EReal :=
  spread (centred fun x => act (z (ix2 r (gc 4 x)))) (g (ix1 j)) (b (ix1 j)) j

/-- The spatial gating at row `p` of chunk `T`, column `j`. -/
def gateAt (z : (⟨2, ![4096, 10240]⟩ : Shape).Idx → EReal) (g b : (⟨1, ![1024]⟩ : Shape).Idx → EReal)
    (ws : (⟨3, ![8, 128, 128]⟩ : Shape).Idx → EReal) (bs : (⟨2, ![8, 128]⟩ : Shape).Idx → EReal)
    (T : ℕ) (hT : T < 32) (p : Fin 128) (j : Fin 1024) : EReal :=
  act (z (ix2 ⟨T * 128 + p.val, by omega⟩ (gc 3 j)))
    * (∑ s : Fin 128, (if s ≤ p then ws (ix3 ⟨j.val / 128, by omega⟩ p s) else 0) * normed z g b ⟨T * 128 + s.val, by omega⟩ j
      + bs (ix2 ⟨j.val / 128, by omega⟩ p))

/-- The spatial gating: each chunk of 128 rows mixed by the lower triangle of its column group's weights. -/
def gating (z : (⟨2, ![4096, 10240]⟩ : Shape).Idx → EReal) (g b : (⟨1, ![1024]⟩ : Shape).Idx → EReal)
    (ws : (⟨3, ![8, 128, 128]⟩ : Shape).Idx → EReal) (bs : (⟨2, ![8, 128]⟩ : Shape).Idx → EReal) :
    (⟨2, ![4096, 1024]⟩ : Shape).Idx → EReal := fun y =>
  gateAt z g b ws bs ((y 0).val / 128) (by have h : (y 0).val < 4096 := (y 0).isLt; omega) ⟨(y 0).val % 128, by omega⟩ (y 1)

theorem gating_row (z) (g b) (ws) (bs) (T : ℕ) (hT : T < 32) (p : Fin 128) (j : Fin 1024) :
    gating z g b ws bs (ix2 ⟨T * 128 + p.val, by omega⟩ j) = gateAt z g b ws bs T hT p j := by
  have e : ∀ (T' : ℕ) (hT' : T' < 32) (p' : Fin 128), T' = T → p' = p → gateAt z g b ws bs T' hT' p' j = gateAt z g b ws bs T hT p j := by
    rintro _ _ _ rfl rfl; rfl
  exact e _ _ _ (by show (T * 128 + p.val) / 128 = T; omega) (Fin.ext (by show (T * 128 + p.val) % 128 = p.val; omega))

theorem zero_int : (FloatOps.sitofp (F := Ideal) FTy.f32 (0#32 : BitVec 32) : EReal) = 0 := by
  simp [FloatOps.sitofp]

/-- The padded product, read at row `k` of the padded array, is the product of `d` rows above row `p`. -/
theorem above_pad (z : (⟨2, ![4096, 10240]⟩ : Shape).Idx → EReal) (p : Fin 4096) (j : Fin 1024) (d k : ℕ) (hk : k + d = p.val + 2) (o : EReal)
    (ho : o = 0) (hd : d ≤ 2) :
    (if h : 2 ≤ k ∧ k - 2 < 4096 then z (ix2 ⟨k - 2, h.2⟩ (gc 1 j)) * z (ix2 ⟨k - 2, h.2⟩ (gc 2 j)) else o) = above z d p j := by
  unfold above
  by_cases h : d ≤ p.val
  · rw [dif_pos h, dif_pos (by omega)]
    have e : (⟨k - 2, by omega⟩ : Fin 4096) = ⟨p.val - d, by omega⟩ := Fin.ext (by show k - 2 = p.val - d; omega)
    rw [e]
  · rw [dif_neg h, dif_neg (by omega), ho]

theorem above_self (z : (⟨2, ![4096, 10240]⟩ : Shape).Idx → EReal) (p : Fin 4096) (j : Fin 1024) :
    above z 0 p j = z (ix2 p (gc 1 j)) * z (ix2 p (gc 2 j)) := dif_pos (Nat.zero_le p.val)

theorem mask_bit : ∀ p l : Fin 128, Scalar.select (IntOp.cmpi CmpIPredicate.sge (IntOp.addi (BitVec.ofNat 32 p.val) 0#32) (BitVec.ofNat 32 l.val)) 1#1 0#1
    = if l ≤ p then 1#1 else 0#1 := by decide +kernel

/-- The mask the host makes keeps the lower triangle. -/
theorem masked (p l : Fin 128) (a o : EReal) (ho : o = 0) :
    Scalar.select (Scalar.select (IntOp.cmpi CmpIPredicate.sge (IntOp.addi (BitVec.ofNat 32 p.val) 0#32) (BitVec.ofNat 32 l.val)) 1#1 0#1) a o
      = if l ≤ p then a else 0 := by
  rw [mask_bit, ho]
  by_cases h : l ≤ p
  · rw [if_pos h, if_pos h]; rfl
  · rw [if_neg h, if_neg h]; rfl

/-- Eight stores of 128 columns each, read back group by group. -/
theorem groups {e : EltTy} {Val : EltTy → Type} [∀ e, Nonempty (Val e)] (i0) (i1) (i2) (i3) (i4) (i5) (i6) (i7)
    (P0 : (Rect.unit (s := ⟨2, ![128, 1024]⟩) ![0, 0] ![128, 128] i0).shape.Idx → Val e)
    (P1 : (Rect.unit (s := ⟨2, ![128, 1024]⟩) ![0, 128] ![128, 128] i1).shape.Idx → Val e)
    (P2 : (Rect.unit (s := ⟨2, ![128, 1024]⟩) ![0, 256] ![128, 128] i2).shape.Idx → Val e)
    (P3 : (Rect.unit (s := ⟨2, ![128, 1024]⟩) ![0, 384] ![128, 128] i3).shape.Idx → Val e)
    (P4 : (Rect.unit (s := ⟨2, ![128, 1024]⟩) ![0, 512] ![128, 128] i4).shape.Idx → Val e)
    (P5 : (Rect.unit (s := ⟨2, ![128, 1024]⟩) ![0, 640] ![128, 128] i5).shape.Idx → Val e)
    (P6 : (Rect.unit (s := ⟨2, ![128, 1024]⟩) ![0, 768] ![128, 128] i6).shape.Idx → Val e)
    (P7 : (Rect.unit (s := ⟨2, ![128, 1024]⟩) ![0, 896] ![128, 128] i7).shape.Idx → Val e)
    (p : Fin 128) (G : Fin 1024 → Fin 8 → Val e)
    (h0 : ∀ l : Fin 128, P0 (ix2 (n0 := 128) (n1 := 128) p l) = G ⟨l.val, by omega⟩ 0)
    (h1 : ∀ l : Fin 128, P1 (ix2 (n0 := 128) (n1 := 128) p l) = G ⟨128 + l.val, by omega⟩ 1)
    (h2 : ∀ l : Fin 128, P2 (ix2 (n0 := 128) (n1 := 128) p l) = G ⟨256 + l.val, by omega⟩ 2)
    (h3 : ∀ l : Fin 128, P3 (ix2 (n0 := 128) (n1 := 128) p l) = G ⟨384 + l.val, by omega⟩ 3)
    (h4 : ∀ l : Fin 128, P4 (ix2 (n0 := 128) (n1 := 128) p l) = G ⟨512 + l.val, by omega⟩ 4)
    (h5 : ∀ l : Fin 128, P5 (ix2 (n0 := 128) (n1 := 128) p l) = G ⟨640 + l.val, by omega⟩ 5)
    (h6 : ∀ l : Fin 128, P6 (ix2 (n0 := 128) (n1 := 128) p l) = G ⟨768 + l.val, by omega⟩ 6)
    (h7 : ∀ l : Fin 128, P7 (ix2 (n0 := 128) (n1 := 128) p l) = G ⟨896 + l.val, by omega⟩ 7) (j : Fin 1024) :
    View.canon [(⟨Rect.unit (s := ⟨2, ![128, 1024]⟩) ![0, 896] ![128, 128] i7, P7⟩ : View.Piece Val (⟨2, ![128, 1024]⟩ : Shape) e),
      ⟨Rect.unit (s := ⟨2, ![128, 1024]⟩) ![0, 768] ![128, 128] i6, P6⟩, ⟨Rect.unit (s := ⟨2, ![128, 1024]⟩) ![0, 640] ![128, 128] i5, P5⟩,
      ⟨Rect.unit (s := ⟨2, ![128, 1024]⟩) ![0, 512] ![128, 128] i4, P4⟩, ⟨Rect.unit (s := ⟨2, ![128, 1024]⟩) ![0, 384] ![128, 128] i3, P3⟩,
      ⟨Rect.unit (s := ⟨2, ![128, 1024]⟩) ![0, 256] ![128, 128] i2, P2⟩, ⟨Rect.unit (s := ⟨2, ![128, 1024]⟩) ![0, 128] ![128, 128] i1, P1⟩,
      ⟨Rect.unit (s := ⟨2, ![128, 1024]⟩) ![0, 0] ![128, 128] i0, P0⟩] (ix2 p j) = G j ⟨j.val / 128, by omega⟩ := by
  have hit : ∀ {b : ℕ} (i) (P : (Rect.unit (s := ⟨2, ![128, 1024]⟩) ![0, b] ![128, 128] i).shape.Idx → Val e) (L) (k : Fin 8) (hb : b = k.val * 128)
      (hP : ∀ (l : Fin 128) (hl : b + l.val < 1024), P (ix2 (n0 := 128) (n1 := 128) p l) = G ⟨b + l.val, hl⟩ k)
      (hj : b ≤ j.val ∧ j.val < b + 128),
      View.canon ((⟨Rect.unit (s := ⟨2, ![128, 1024]⟩) ![0, b] ![128, 128] i, P⟩ : View.Piece Val (⟨2, ![128, 1024]⟩ : Shape) e) :: L) (ix2 p j)
        = G j ⟨j.val / 128, by omega⟩ := by
    intro b i P L k hb hP hj
    refine (canon_in i P L _ p ⟨j.val - b, by omega⟩ (by show p.val = 0 + p.val; omega) (by show j.val = b + (j.val - b); omega)).trans ?_
    rw [hP ⟨j.val - b, by omega⟩ (by show b + (j.val - b) < 1024; omega)]
    exact congrArg₂ G (Fin.ext (by show b + (j.val - b) = j.val; omega)) (Fin.ext (by show k.val = j.val / 128; omega))
  have miss : ∀ {b : ℕ} (i) (P : (Rect.unit (s := ⟨2, ![128, 1024]⟩) ![0, b] ![128, 128] i).shape.Idx → Val e) (L) (hj : j.val < b),
      View.canon ((⟨Rect.unit (s := ⟨2, ![128, 1024]⟩) ![0, b] ![128, 128] i, P⟩ : View.Piece Val (⟨2, ![128, 1024]⟩ : Shape) e) :: L) (ix2 p j)
        = View.canon L (ix2 p j) := fun i P L hj => canon_out i P L _ (by right; right; left; exact hj)
  have hj := j.isLt
  by_cases c7 : j.val < 896
  swap; exact hit i7 P7 _ 7 rfl (fun l _ => h7 l) (by omega)
  rw [miss i7 P7 _ c7]
  by_cases c6 : j.val < 768
  swap; exact hit i6 P6 _ 6 rfl (fun l _ => h6 l) (by omega)
  rw [miss i6 P6 _ c6]
  by_cases c5 : j.val < 640
  swap; exact hit i5 P5 _ 5 rfl (fun l _ => h5 l) (by omega)
  rw [miss i5 P5 _ c5]
  by_cases c4 : j.val < 512
  swap; exact hit i4 P4 _ 4 rfl (fun l _ => h4 l) (by omega)
  rw [miss i4 P4 _ c4]
  by_cases c3 : j.val < 384
  swap; exact hit i3 P3 _ 3 rfl (fun l _ => h3 l) (by omega)
  rw [miss i3 P3 _ c3]
  by_cases c2 : j.val < 256
  swap; exact hit i2 P2 _ 2 rfl (fun l _ => h2 l) (by omega)
  rw [miss i2 P2 _ c2]
  by_cases c1 : j.val < 128
  swap; exact hit i1 P1 _ 1 rfl (fun l _ => h1 l) (by omega)
  rw [miss i1 P1 _ c1]
  refine hit i0 P0 _ 0 rfl (fun l hl => (h0 l).trans (congrArg (fun x => G x 0) (Fin.ext ?_))) (by omega)
  show l.val = 0 + l.val
  omega

end Cert.Mixer

namespace Cert.Kernel29Ideal.Value
open Cert.Kernel29Ideal Cert.Kernel29Ideal.Gen Cert.Mixer Cert.Rows
variable (m : (ℓ : Loc nD τ sig) → Buf (Elt Ideal) ℓ)

theorem ln_blk (c : Dev nD) (t : Fin cfg0.N) (o : Fin 2) (j : Fin 1024) :
    iblk m c 2 t (ix2 (Fin.castLE (by decide) o : Fin 8) j)
      = if (o : ℕ) < 1 then m ((c : Thread nD τ).loc main_arg2) (ix1 j) else m ((c : Thread nD τ).loc main_arg3) (ix1 j) := by
  have e : iblk m c 2 t (ix2 (Fin.castLE (by decide) o : Fin 8) j) = V m c main_v9 (ix2 (Fin.castLE (by decide) o : Fin 8) j) := by
    blk_ext [iblk, V, idx t]
  refine e.trans ?_
  simp only [V, List.flatten_cons, List.flatten_nil, hostOps0, hostOps0_1, hostOps0_2, hostOps0_3, hostOps0_4, hostOps0_5, hostOps0_6,
    hostOps0_7, hostOps0_8, hostOps0_9, hostOps0_10, hostOps0_11, List.cons_append, List.nil_append]
  entry_read
  simp only [StableHlo.TRef.toBuf, StableHlo.TRef.ofBuf, cast_eq]
  refine (pad_row (by decide) _ _ _ _ _ o j).trans ?_
  pointwise
  rfl

theorem b_blk (c : Dev nD) (t : Fin cfg0.N) (p : Fin 128) (j : Fin 1024) :
    iblk m c 4 t (ix2 p j) = m ((c : Thread nD τ).loc main_arg5) (ix2 ⟨j.val / 128, by omega⟩ p) := by
  have e : iblk m c 4 t (ix2 p j) = V m c main_v12 (ix2 p j) := by blk_ext [iblk, V, idx t]
  refine e.trans ?_
  simp only [V, List.flatten_cons, List.flatten_nil, hostOps0, hostOps0_1, hostOps0_2, hostOps0_3, hostOps0_4, hostOps0_5, hostOps0_6,
    hostOps0_7, hostOps0_8, hostOps0_9, hostOps0_10, hostOps0_11, List.cons_append, List.nil_append]
  entry_read
  pointwise

theorem wt_blk (c : Dev nD) (t : Fin cfg0.N) (g : Fin 8) (p : Fin 128) (l : Fin 128) :
    iblk m c 3 t (ix3 g p l) = if l ≤ p then m ((c : Thread nD τ).loc main_arg4) (ix3 g p l) else (0 : EReal) := by
  have e : iblk m c 3 t (ix3 g p l) = V m c main_v4 (ix3 g p l) := by blk_ext [iblk, V, idx t]
  refine e.trans ?_
  simp only [V, List.flatten_cons, List.flatten_nil, hostOps0, hostOps0_1, hostOps0_2, hostOps0_3, hostOps0_4, hostOps0_5, hostOps0_6,
    hostOps0_7, hostOps0_8, hostOps0_9, hostOps0_10, hostOps0_11, List.cons_append, List.nil_append]
  entry_read
  simp only [StableHlo.TRef.toBuf, StableHlo.TRef.ofBuf, cast_eq]
  pointwise
  exact masked p l _ _ rfl

theorem z_col (c : Dev nD) (t : Fin cfg0.N) (p : Fin 128) (g : Fin 7) (j : Fin 1024) (k : Fin 7168) (hk : k.val = g.val * 1024 + j.val) :
    X0_0 m c t (ix2 p k) = m ((c : Thread nD τ).loc main_arg0) (ix2 (row t p) (gc ⟨g.val, by omega⟩ j)) :=
  (z_blk m c t p k).trans (congrArg (fun r => m ((c : Thread nD τ).loc main_arg0) (ix2 (row t p) r)) (Fin.ext hk))

theorem first_half (c : Dev nD) (t : Fin cfg0.N) (i) (p : Fin 128) (j : Fin 1024) :
    k0_pay12 (View.ld (X0_0 m c t) (Rect.unit ![0, 3072] ![128, 1024] i)) (ix2 p j)
      = act (m ((c : Thread nD τ).loc main_arg0) (ix2 (row t p) (gc 3 j))) := by
  pointwise [k0_pay12]
  exact congrArg act (z_col m c t p 3 j _ rfl)

theorem second_half (c : Dev nD) (t : Fin cfg0.N) (i) (p : Fin 128) (j : Fin 1024) :
    k0_pay13 (View.ld (X0_0 m c t) (Rect.unit ![0, 4096] ![128, 1024] i)) (ix2 p j)
      = centred (fun x => act (m ((c : Thread nD τ).loc main_arg0) (ix2 (row t p) (gc 4 x)))) j := by
  pointwise [k0_pay13]
  have h : ∀ x : Fin 1024, X0_0 m c t (ix2 p ⟨4096 + x.val, by omega⟩) = m ((c : Thread nD τ).loc main_arg0) (ix2 (row t p) (gc 4 x)) :=
    fun x => z_col m c t p 4 x _ rfl
  simp only [h]
  rfl

theorem normed_at (c : Dev nD) (t : Fin cfg0.N) (i) (i0) (i1) (p : Fin 128) (j : Fin 1024) :
    k0_pay14 (k0_pay13 (View.ld (X0_0 m c t) (Rect.unit ![0, 4096] ![128, 1024] i)))
        (View.ld (iblk m c 2 t) (Rect.unit ![0, 0] ![1, 1024] i0)) (View.ld (iblk m c 2 t) (Rect.unit ![1, 0] ![1, 1024] i1)) (ix2 p j)
      = normed (m ((c : Thread nD τ).loc main_arg0)) (m ((c : Thread nD τ).loc main_arg2)) (m ((c : Thread nD τ).loc main_arg3)) (row t p) j := by
  pointwise [k0_pay14]
  simp only [second_half]
  have e0 := (ln_blk m c t 0 j).trans (if_pos (by decide))
  have e1 := (ln_blk m c t 1 j).trans (if_neg (by decide))
  unfold normed spread
  exact congrArg₂ (· + ·) (congrArg₂ (· * ·) rfl e0) e1

/-- What a group's store holds, from the branch's two halves as vectors. -/
theorem group_at (c : Dev nD) (t : Fin cfg0.N) (U N : (⟨2, ![128, 1024]⟩ : Shape).Idx → EReal)
    (W : (⟨3, ![8, 128, 128]⟩ : Shape).Idx → EReal) (hW : W = iblk m c 3 t) (B : (⟨2, ![128, 1024]⟩ : Shape).Idx → EReal) (hB : B = iblk m c 4 t)
    (hU : ∀ p j, U (ix2 p j) = act (m ((c : Thread nD τ).loc main_arg0) (ix2 (row t p) (gc 3 j))))
    (hN : ∀ p j, N (ix2 p j) = normed (m ((c : Thread nD τ).loc main_arg0)) (m ((c : Thread nD τ).loc main_arg2))
      (m ((c : Thread nD τ).loc main_arg3)) (row t p) j)
    (p : Fin 128) (j : Fin 1024) (g : Fin 8) (hg : g.val = j.val / 128) :
    U (ix2 p j) * (∑ x, W (ix3 g p x) * N (ix2 x j) + B (ix2 p j))
      = gateAt (m ((c : Thread nD τ).loc main_arg0)) (m ((c : Thread nD τ).loc main_arg2)) (m ((c : Thread nD τ).loc main_arg3))
        (m ((c : Thread nD τ).loc main_arg4)) (m ((c : Thread nD τ).loc main_arg5)) t.val (lt_N t) p j := by
  have e : g = ⟨j.val / 128, by omega⟩ := Fin.ext hg
  unfold gateAt
  rw [hU, hB, b_blk, e]
  refine congrArg₂ (· * ·) rfl (congrArg₂ (· + ·) (Finset.sum_congr rfl fun s _ => ?_) rfl)
  rw [hW, wt_blk, hN]

theorem final_8 (c : Dev nD) : (dats m 0 c).arrAt 8 (cfgs 0).N
    = gating (m ((c : Thread nD τ).loc main_arg0)) (m ((c : Thread nD τ).loc main_arg2)) (m ((c : Thread nD τ).loc main_arg3))
      (m ((c : Thread nD τ).loc main_arg4)) (m ((c : Thread nD τ).loc main_arg5)) := by
  refine (dats m 0 c).arrAt_eq_of_covers 8 _ (by decide +kernel) fun t hf y => ?_
  blk_simp; rw [after0_8]
  obtain ⟨p, j, rfl⟩ : ∃ (p : Fin 128) (j : Fin 1024), y = ix2 p j := ⟨_, _, eq_ix2 y⟩
  have ht := lt_N t
  refine Eq.trans (b := gating (m ((c : Thread nD τ).loc main_arg0)) (m ((c : Thread nD τ).loc main_arg2)) (m ((c : Thread nD τ).loc main_arg3))
      (m ((c : Thread nD τ).loc main_arg4)) (m ((c : Thread nD τ).loc main_arg5)) (ix2 (row t p) j)) ?_ ?_
  · refine Eq.trans (b := gateAt (m ((c : Thread nD τ).loc main_arg0)) (m ((c : Thread nD τ).loc main_arg2)) (m ((c : Thread nD τ).loc main_arg3))
      (m ((c : Thread nD τ).loc main_arg4)) (m ((c : Thread nD τ).loc main_arg5)) t.val (lt_N t) p j) ?_ ?_
    · have at_group := fun (i i' i0 i1) (l : Fin 1024) (g : Fin 8) (hg : g.val = l.val / 128) =>
        group_at m c t (k0_pay12 (View.ld (X0_0 m c t) (Rect.unit ![0, 3072] ![128, 1024] i)))
          (k0_pay14 (k0_pay13 (View.ld (X0_0 m c t) (Rect.unit ![0, 4096] ![128, 1024] i')))
            (View.ld (iblk m c 2 t) (Rect.unit ![0, 0] ![1, 1024] i0)) (View.ld (iblk m c 2 t) (Rect.unit ![1, 0] ![1, 1024] i1)))
          (iblk m c 3 t) rfl (iblk m c 4 t) rfl (first_half m c t i) (normed_at m c t i' i0 i1) p l g hg
      by_cases h0 : t.val % 32 = 0
      · rw [outsAt0_A m c t h0]
        dsimp only
        simp only [out0_A_8]
        frame_out
        refine groups (Val := Elt Ideal) (e := .bf16) _ _ _ _ _ _ _ _ _ _ _ _ _ _ _ _ p (fun l _ => gateAt (m ((c : Thread nD τ).loc main_arg0)) (m ((c : Thread nD τ).loc main_arg2))
          (m ((c : Thread nD τ).loc main_arg3)) (m ((c : Thread nD τ).loc main_arg4)) (m ((c : Thread nD τ).loc main_arg5)) t.val (lt_N t) p l)
          ?_ ?_ ?_ ?_ ?_ ?_ ?_ ?_ j
        · intro l; pointwise [k0_pay16, k0_pay15]; exact at_group _ _ _ _ _ 0 (by show 0 = l.val / 128; omega)
        · intro l; pointwise [k0_pay20, k0_pay19, k0_pay18]; exact at_group _ _ _ _ _ 1 (by show 1 = (128 + l.val) / 128; omega)
        · intro l; pointwise [k0_pay23, k0_pay22]; exact at_group _ _ _ _ _ 2 (by show 2 = (256 + l.val) / 128; omega)
        · intro l; pointwise [k0_pay28, k0_pay27, k0_pay26, k0_pay25]; exact at_group _ _ _ _ _ 3 (by show 3 = (384 + l.val) / 128; omega)
        · intro l; pointwise [k0_pay31, k0_pay30]; exact at_group _ _ _ _ _ 4 (by show 4 = (512 + l.val) / 128; omega)
        · intro l; pointwise [k0_pay35, k0_pay34, k0_pay33]; exact at_group _ _ _ _ _ 5 (by show 5 = (640 + l.val) / 128; omega)
        · intro l; pointwise [k0_pay38, k0_pay37]; exact at_group _ _ _ _ _ 6 (by show 6 = (768 + l.val) / 128; omega)
        · intro l; pointwise [k0_pay42, k0_pay41, k0_pay40]; exact at_group _ _ _ _ _ 7 (by show 7 = (896 + l.val) / 128; omega)
      · rw [outsAt0_B m c t h0]
        dsimp only
        simp only [out0_B_8]
        frame_out
        refine groups (Val := Elt Ideal) (e := .bf16) _ _ _ _ _ _ _ _ _ _ _ _ _ _ _ _ p (fun l _ => gateAt (m ((c : Thread nD τ).loc main_arg0)) (m ((c : Thread nD τ).loc main_arg2))
          (m ((c : Thread nD τ).loc main_arg3)) (m ((c : Thread nD τ).loc main_arg4)) (m ((c : Thread nD τ).loc main_arg5)) t.val (lt_N t) p l)
          ?_ ?_ ?_ ?_ ?_ ?_ ?_ ?_ j
        · intro l; pointwise [k0_pay16, k0_pay15]; exact at_group _ _ _ _ _ 0 (by show 0 = l.val / 128; omega)
        · intro l; pointwise [k0_pay20, k0_pay19, k0_pay18]; exact at_group _ _ _ _ _ 1 (by show 1 = (128 + l.val) / 128; omega)
        · intro l; pointwise [k0_pay23, k0_pay22]; exact at_group _ _ _ _ _ 2 (by show 2 = (256 + l.val) / 128; omega)
        · intro l; pointwise [k0_pay28, k0_pay27, k0_pay26, k0_pay25]; exact at_group _ _ _ _ _ 3 (by show 3 = (384 + l.val) / 128; omega)
        · intro l; pointwise [k0_pay31, k0_pay30]; exact at_group _ _ _ _ _ 4 (by show 4 = (512 + l.val) / 128; omega)
        · intro l; pointwise [k0_pay35, k0_pay34, k0_pay33]; exact at_group _ _ _ _ _ 5 (by show 5 = (640 + l.val) / 128; omega)
        · intro l; pointwise [k0_pay38, k0_pay37]; exact at_group _ _ _ _ _ 6 (by show 6 = (768 + l.val) / 128; omega)
        · intro l; pointwise [k0_pay42, k0_pay41, k0_pay40]; exact at_group _ _ _ _ _ 7 (by show 7 = (896 + l.val) / 128; omega)
    · exact (gating_row _ _ _ _ _ t.val ht p j).symm
  · blk_ext [row, idx t]

end Cert.Kernel29Ideal.Value

namespace Cert.Mixer

variable {e : EltTy} {Val : EltTy → Type}

/-- What the conformer convolution runs over: a column group times the logistic of the next, in rows counted from 32 rows
before the first, where it is zero. -/
def glu (z : (⟨2, ![4096, 10240]⟩ : Shape).Idx → EReal) (k : ℕ) (j : Fin 1024) : EReal :=
  if h : 32 ≤ k ∧ k - 32 < 4096 then z (ix2 ⟨k - 32, h.2⟩ (gc 5 j)) * Cert.Gate.sgR (z (ix2 ⟨k - 32, h.2⟩ (gc 6 j))) else 0

/-- The sum of the first terms of a sequence, added one by one. -/
def taps (f : ℕ → EReal) : ℕ → EReal
  | 0 => f 0
  | n + 1 => taps f n + f (n + 1)

theorem taps_step {f : ℕ → EReal} {n : ℕ} {a b : EReal} (ha : a = taps f n) (hb : b = f (n + 1)) : a + b = taps f (n + 1) := by
  rw [ha, hb]; rfl

/-- A tap of the convolution: the weight of row `k` times the row `k` rows on. -/
def tap (z : (⟨2, ![4096, 10240]⟩ : Shape).Idx → EReal) (w : (⟨2, ![31, 1024]⟩ : Shape).Idx → EReal) (r : ℕ) (j : Fin 1024) (k : ℕ) : EReal :=
  if h : k < 31 then w (ix2 ⟨k, h⟩ j) * glu z (r + 2 + k) j else 0

theorem tap_mul {z : (⟨2, ![4096, 10240]⟩ : Shape).Idx → EReal} {w : (⟨2, ![31, 1024]⟩ : Shape).Idx → EReal} {r : ℕ} {j : Fin 1024} {k : ℕ}
    (h : k < 31) {a b : EReal} (ha : a = w (ix2 ⟨k, h⟩ j)) (hb : b = glu z (r + 2 + k) j) : a * b = tap z w r j k := by
  unfold tap; rw [dif_pos h, ha, hb]

/-- The conformer convolution. -/
def wideConv (z : (⟨2, ![4096, 10240]⟩ : Shape).Idx → EReal) (w : (⟨2, ![31, 1024]⟩ : Shape).Idx → EReal)
    (b : (⟨1, ![1024]⟩ : Shape).Idx → EReal) (r : Fin 4096) (j : Fin 1024) : EReal :=
  taps (tap z w r.val j) 30 + b (ix1 j)

/-- A row of an array that was padded below. -/
theorem pad_to {k n : ℕ} {u : Shape} (hk : k ≤ n) (hi : Fin 2 → ℕ) (x : (⟨2, ![k, 1024]⟩ : Shape).Idx → EReal) (v : u.Idx → EReal)
    (h : (⟨2, ![k, 1024]⟩ : Shape).Pads ![0, 0] hi ![0, 0] ⟨2, ![n, 1024]⟩) (hu : 0 < u.numel) (o : Fin k) (j : Fin 1024) :
    pad ⟨2, ![n, 1024]⟩ ![0, 0] hi ![0, 0] x v h hu (ix2 (Fin.castLE hk o) j) = x (ix2 o j) := by
  unfold pad
  rw [dif_pos]
  · congr 1
    funext a
    fin_cases a <;> simp
  · intro a
    fin_cases a <;> simp [Nat.mod_one]

/-- The newest of the shifted copies, or one stored before it. -/
theorem canon_copy [∀ e, Nonempty (Val e)] {k : ℕ} (inb)
    (P : (Rect.unit (s := ⟨3, ![7, 160, 1024]⟩) ![k, 0, 0] ![1, 160, 1024] inb).shape.Idx → Val e)
    (L : List (View.Piece Val (⟨3, ![7, 160, 1024]⟩ : Shape) e)) (b : Fin 7) (r : Fin 160) (q : Fin 1024) :
    View.canon ((⟨Rect.unit (s := ⟨3, ![7, 160, 1024]⟩) ![k, 0, 0] ![1, 160, 1024] inb, P⟩ : View.Piece Val (⟨3, ![7, 160, 1024]⟩ : Shape) e) :: L)
        (ix3 b r q)
      = if b.val = k then P (ix3 (n0 := 1) (n1 := 160) (n2 := 1024) 0 r q) else View.canon L (ix3 b r q) := by
  by_cases h : b.val = k
  · rw [if_pos h]
    refine Eq.trans (congrArg _ ?_) (View.canon_cons_emb _ P L (ix3 (n0 := 1) (n1 := 160) (n2 := 1024) 0 r q))
    funext x
    apply Fin.ext
    match x with
    | ⟨0, _⟩ => show b.val = k + 1 * 0; omega
    | ⟨1, _⟩ => show r.val = 0 + 1 * r.val; omega
    | ⟨2, _⟩ => show q.val = 0 + 1 * q.val; omega
  · rw [if_neg h]
    refine View.canon_cons_of_not_mem _ L ?_
    rw [Rect.mem_set_unit]
    intro hall
    have h0 : k ≤ b.val ∧ b.val < k + 1 := hall 0
    omega

/-- A load of 128 rows and 128 columns of one of the seven shifted copies. -/
theorem copies [∀ e, Nonempty (Val e)] {sig : RefSig} {κ : Kind} {sp : Space} (v : View sig κ sp (⟨3, ![7, 160, 1024]⟩ : Shape) e)
    (i0) (i1) (i2) (i3) (i4) (i5) (i6)
    (P0 : (Rect.unit (s := ⟨3, ![7, 160, 1024]⟩) ![0, 0, 0] ![1, 160, 1024] i0).shape.Idx → Val e)
    (P1 : (Rect.unit (s := ⟨3, ![7, 160, 1024]⟩) ![1, 0, 0] ![1, 160, 1024] i1).shape.Idx → Val e)
    (P2 : (Rect.unit (s := ⟨3, ![7, 160, 1024]⟩) ![2, 0, 0] ![1, 160, 1024] i2).shape.Idx → Val e)
    (P3 : (Rect.unit (s := ⟨3, ![7, 160, 1024]⟩) ![3, 0, 0] ![1, 160, 1024] i3).shape.Idx → Val e)
    (P4 : (Rect.unit (s := ⟨3, ![7, 160, 1024]⟩) ![4, 0, 0] ![1, 160, 1024] i4).shape.Idx → Val e)
    (P5 : (Rect.unit (s := ⟨3, ![7, 160, 1024]⟩) ![5, 0, 0] ![1, 160, 1024] i5).shape.Idx → Val e)
    (P6 : (Rect.unit (s := ⟨3, ![7, 160, 1024]⟩) ![6, 0, 0] ![1, 160, 1024] i6).shape.Idx → Val e)
    (E : ℕ → Fin 1024 → Val e)
    (h0 : ∀ (r : Fin 160) q, r.val + 1 < 160 → P0 (ix3 (n0 := 1) (n1 := 160) (n2 := 1024) 0 r q) = E (r.val + 0 + 1) q)
    (h1 : ∀ (r : Fin 160) q, r.val + 2 < 160 → P1 (ix3 (n0 := 1) (n1 := 160) (n2 := 1024) 0 r q) = E (r.val + 1 + 1) q)
    (h2 : ∀ (r : Fin 160) q, r.val + 3 < 160 → P2 (ix3 (n0 := 1) (n1 := 160) (n2 := 1024) 0 r q) = E (r.val + 2 + 1) q)
    (h3 : ∀ (r : Fin 160) q, r.val + 4 < 160 → P3 (ix3 (n0 := 1) (n1 := 160) (n2 := 1024) 0 r q) = E (r.val + 3 + 1) q)
    (h4 : ∀ (r : Fin 160) q, r.val + 5 < 160 → P4 (ix3 (n0 := 1) (n1 := 160) (n2 := 1024) 0 r q) = E (r.val + 4 + 1) q)
    (h5 : ∀ (r : Fin 160) q, r.val + 6 < 160 → P5 (ix3 (n0 := 1) (n1 := 160) (n2 := 1024) 0 r q) = E (r.val + 5 + 1) q)
    (h6 : ∀ (r : Fin 160) q, r.val + 7 < 160 → P6 (ix3 (n0 := 1) (n1 := 160) (n2 := 1024) 0 r q) = E (r.val + 6 + 1) q)
    {b o q : ℕ} (inbL) (p l : Fin 128) (hb : b < 7) (ho : o + p.val + b + 1 < 160) (hq : q + l.val < 1024) :
    v.readCov [(⟨Rect.unit (s := ⟨3, ![7, 160, 1024]⟩) ![6, 0, 0] ![1, 160, 1024] i6, P6⟩ : View.Piece Val (⟨3, ![7, 160, 1024]⟩ : Shape) e),
        ⟨Rect.unit (s := ⟨3, ![7, 160, 1024]⟩) ![5, 0, 0] ![1, 160, 1024] i5, P5⟩, ⟨Rect.unit (s := ⟨3, ![7, 160, 1024]⟩) ![4, 0, 0] ![1, 160, 1024] i4, P4⟩,
        ⟨Rect.unit (s := ⟨3, ![7, 160, 1024]⟩) ![3, 0, 0] ![1, 160, 1024] i3, P3⟩, ⟨Rect.unit (s := ⟨3, ![7, 160, 1024]⟩) ![2, 0, 0] ![1, 160, 1024] i2, P2⟩,
        ⟨Rect.unit (s := ⟨3, ![7, 160, 1024]⟩) ![1, 0, 0] ![1, 160, 1024] i1, P1⟩, ⟨Rect.unit (s := ⟨3, ![7, 160, 1024]⟩) ![0, 0, 0] ![1, 160, 1024] i0, P0⟩]
        (Rect.unit (s := ⟨3, ![7, 160, 1024]⟩) ![b, o, q] ![1, 128, 128] inbL).toLoadRect (ix3 (n0 := 1) (n1 := 128) (n2 := 128) 0 p l)
      = E (o + p.val + b + 1) ⟨q + l.val, hq⟩ := by
  rw [View.readCov_eq_canon']
  have ix : ∀ y : (⟨3, ![7, 160, 1024]⟩ : Shape).Idx, (y 0).val = b → (y 1).val = o + p.val → (y 2).val = q + l.val →
      y = ix3 (n0 := 7) (n1 := 160) (n2 := 1024) ⟨b, hb⟩ ⟨o + p.val, by omega⟩ ⟨q + l.val, hq⟩ := by
    intro y e0 e1 e2
    funext x
    apply Fin.ext
    match x with
    | ⟨0, _⟩ => exact e0
    | ⟨1, _⟩ => exact e1
    | ⟨2, _⟩ => exact e2
  refine (congrArg _ (ix _ ?_ ?_ ?_)).trans ?_
  · show b + 1 * 0 = b; omega
  · show o + 1 * p.val = o + p.val; omega
  · show q + 1 * l.val = q + l.val; omega
  refine (canon_copy i6 P6 _ _ _ _).trans ?_
  by_cases c6 : b = 6
  · subst c6; exact (if_pos rfl).trans (h6 _ _ (by show o + p.val + 7 < 160; omega))
  refine (if_neg c6).trans ((canon_copy i5 P5 _ _ _ _).trans ?_)
  by_cases c5 : b = 5
  · subst c5; exact (if_pos rfl).trans (h5 _ _ (by show o + p.val + 6 < 160; omega))
  refine (if_neg c5).trans ((canon_copy i4 P4 _ _ _ _).trans ?_)
  by_cases c4 : b = 4
  · subst c4; exact (if_pos rfl).trans (h4 _ _ (by show o + p.val + 5 < 160; omega))
  refine (if_neg c4).trans ((canon_copy i3 P3 _ _ _ _).trans ?_)
  by_cases c3 : b = 3
  · subst c3; exact (if_pos rfl).trans (h3 _ _ (by show o + p.val + 4 < 160; omega))
  refine (if_neg c3).trans ((canon_copy i2 P2 _ _ _ _).trans ?_)
  by_cases c2 : b = 2
  · subst c2; exact (if_pos rfl).trans (h2 _ _ (by show o + p.val + 3 < 160; omega))
  refine (if_neg c2).trans ((canon_copy i1 P1 _ _ _ _).trans ?_)
  by_cases c1 : b = 1
  · subst c1; exact (if_pos rfl).trans (h1 _ _ (by show o + p.val + 2 < 160; omega))
  refine (if_neg c1).trans ((canon_copy i0 P0 _ _ _ _).trans ?_)
  by_cases c0 : b = 0
  · subst c0; exact (if_pos rfl).trans (h0 _ _ (by show o + p.val + 1 < 160; omega))
  omega

/-- A load from a buffer of which the rows from row 32 on were stored last, the first 32 before. -/
theorem ext_at [∀ e, Nonempty (Val e)] {sig : RefSig} {κ : Kind} {sp : Space} (v : View sig κ sp (⟨2, ![160, 1024]⟩ : Shape) e)
    (inb) (inb') (w : (Rect.unit (s := ⟨2, ![160, 1024]⟩) ![32, 0] ![128, 1024] inb).shape.Idx → Val e)
    (w' : (Rect.unit (s := ⟨2, ![160, 1024]⟩) ![0, 0] ![32, 1024] inb').shape.Idx → Val e)
    (L : List (View.Piece Val (⟨2, ![160, 1024]⟩ : Shape) e)) (E : ℕ → Fin 1024 → Val e)
    (hw : ∀ (q : Fin 128) j, w (ix2 (n0 := 128) (n1 := 1024) q j) = E (32 + q.val) j)
    (hw' : ∀ (q : Fin 32) j, w' (ix2 (n0 := 32) (n1 := 1024) q j) = E q.val j)
    {m n o c : ℕ} (inbL) (p : Fin m) (l : Fin n) (ho : o + p.val < 160) (hc : c + l.val < 1024) :
    v.readCov ((⟨Rect.unit (s := ⟨2, ![160, 1024]⟩) ![32, 0] ![128, 1024] inb, w⟩ : View.Piece Val (⟨2, ![160, 1024]⟩ : Shape) e)
        :: ⟨Rect.unit (s := ⟨2, ![160, 1024]⟩) ![0, 0] ![32, 1024] inb', w'⟩ :: L)
        (Rect.unit (s := ⟨2, ![160, 1024]⟩) ![o, c] ![m, n] inbL).toLoadRect (ix2 (n0 := m) (n1 := n) p l)
      = E (o + p.val) ⟨c + l.val, hc⟩ := by
  rw [View.readCov_eq_canon']
  by_cases h : 32 ≤ o + p.val
  · refine (canon_in inb w _ _ ⟨o + p.val - 32, by omega⟩ ⟨c + l.val, hc⟩ ?_ ?_).trans ((hw _ _).trans (congrArg (fun s => E s _) ?_))
    · show o + 1 * p.val = 32 + (o + p.val - 32); omega
    · show c + 1 * l.val = 0 + (c + l.val); omega
    · show 32 + (o + p.val - 32) = o + p.val; omega
  · refine (canon_out inb w _ _ ?_).trans ((canon_in inb' w' L _ ⟨o + p.val, by omega⟩ ⟨c + l.val, hc⟩ ?_ ?_).trans (hw' _ _))
    · left; show o + 1 * p.val < 32; omega
    · show o + 1 * p.val = 0 + (o + p.val); omega
    · show c + 1 * l.val = 0 + (c + l.val); omega

/-- The rows from row 32 on stored over what the buffer held, read at a row. -/
theorem over_at [∀ e, Nonempty (Val e)] {sig : RefSig} {κ : Kind} {sp : Space} (v : View sig κ sp (⟨2, ![160, 1024]⟩ : Shape) e)
    (f : v.ty.Contents Val) (inb) (w : (Rect.unit (s := ⟨2, ![160, 1024]⟩) ![32, 0] ![128, 1024] inb).shape.Idx → Val e) (E : ℕ → Fin 1024 → Val e)
    (hw : ∀ (q : Fin 128) j, w (ix2 (n0 := 128) (n1 := 1024) q j) = E (32 + q.val) j)
    (X : (⟨2, ![160, 1024]⟩ : Shape).Idx → Val e) (hX : v.read Val f = X)
    (hc : ∀ (q : Fin 32) j, X (ix2 ⟨q.val, by omega⟩ j) = E q.val j) (r : ℕ) (hr : r < 160) (j : Fin 1024) :
    v.read Val (v.writes Val f [(⟨Rect.unit (s := ⟨2, ![160, 1024]⟩) ![32, 0] ![128, 1024] inb, w⟩ : View.Piece Val (⟨2, ![160, 1024]⟩ : Shape) e)])
      (ix2 ⟨r, hr⟩ j) = E r j := by
  refine (read_at v f inb w r hr j).trans ?_
  by_cases h : 32 ≤ r
  · rw [dif_pos h]
    exact (hw _ _).trans (congrArg (fun s => E s j) (by show 32 + (r - 32) = r; omega))
  · rw [dif_neg h]
    exact (congrFun hX _).trans (hc ⟨r, by omega⟩ j)

end Cert.Mixer

namespace Cert.Kernel29Ideal.Value
open Cert.Kernel29Ideal Cert.Kernel29Ideal.Gen Cert.Mixer Cert.Rows

/-- A load of one of the kernel's shifted copies of the rows `W`. -/
theorem copy_at {sig' : RefSig} {κ : Kind} {sp : Space} (v : View sig' κ sp (⟨3, ![7, 160, 1024]⟩ : Shape) .f32) (W : Vec Ideal S160x1024 .f32)
    (E : ℕ → Fin 1024 → EReal) (hW : ∀ (r : ℕ) (hr : r < 160) q, W (ix2 ⟨r, hr⟩ q) = E r q) (i0) (i1) (i2) (i3) (i4) (i5) (i6)
    {b o q : ℕ} (inbL) (p l : Fin 128) (hb : b < 7) (ho : o + p.val + b + 1 < 160) (hq : q + l.val < 1024) :
    v.readCov [(⟨Rect.unit (s := ⟨3, ![7, 160, 1024]⟩) ![6, 0, 0] ![1, 160, 1024] i6, k0_pay52 W⟩ : View.Piece (Elt Ideal) (⟨3, ![7, 160, 1024]⟩ : Shape) .f32),
        ⟨Rect.unit (s := ⟨3, ![7, 160, 1024]⟩) ![5, 0, 0] ![1, 160, 1024] i5, k0_pay51 W⟩,
        ⟨Rect.unit (s := ⟨3, ![7, 160, 1024]⟩) ![4, 0, 0] ![1, 160, 1024] i4, k0_pay50 W⟩,
        ⟨Rect.unit (s := ⟨3, ![7, 160, 1024]⟩) ![3, 0, 0] ![1, 160, 1024] i3, k0_pay49 W⟩,
        ⟨Rect.unit (s := ⟨3, ![7, 160, 1024]⟩) ![2, 0, 0] ![1, 160, 1024] i2, k0_pay48 W⟩,
        ⟨Rect.unit (s := ⟨3, ![7, 160, 1024]⟩) ![1, 0, 0] ![1, 160, 1024] i1, k0_pay47 (k0_pay46 W)⟩,
        ⟨Rect.unit (s := ⟨3, ![7, 160, 1024]⟩) ![0, 0, 0] ![1, 160, 1024] i0, k0_pay45 W⟩]
        (Rect.unit (s := ⟨3, ![7, 160, 1024]⟩) ![b, o, q] ![1, 128, 128] inbL).toLoadRect (ix3 (n0 := 1) (n1 := 128) (n2 := 128) 0 p l)
      = E (o + p.val + b + 1) ⟨q + l.val, hq⟩ := by
  refine copies (Val := Elt Ideal) (e := .f32) v i0 i1 i2 i3 i4 i5 i6 _ _ _ _ _ _ _ E ?_ ?_ ?_ ?_ ?_ ?_ ?_ inbL p l hb ho hq
  all_goals
    intro r x h
    pointwise [k0_pay45, k0_pay46, k0_pay47, k0_pay48, k0_pay49, k0_pay50, k0_pay51, k0_pay52]
    refine (hW _ _ x).trans (congrArg (fun s => E s x) ?_)
    omega

end Cert.Kernel29Ideal.Value

namespace Cert.Kernel29Ideal.Value
open Cert.Kernel29Ideal Cert.Kernel29Ideal.Gen Cert.Mixer Cert.Rows

variable (m : (ℓ : Loc nD τ sig) → Buf (Elt Ideal) ℓ)

theorem idx_c : ∀ t : Fin cfg0.N, win0_9.index t = ![t.val, 0] ∧ win0_5.index t = ![0, 0] ∧ win0_6.index t = ![0, 0] :=
  (by decide +kernel : ∀ t : Fin grid0.N, _)

theorem cw_blk (c : Dev nD) (t : Fin cfg0.N) (p : Fin 32) (hp : p.val < 31) (j : Fin 1024) :
    iblk m c 5 t (ix2 p j) = m ((c : Thread nD τ).loc main_arg6) (ix2 ⟨p.val, hp⟩ j) := by
  have e : iblk m c 5 t (ix2 p j) = V m c main_v13 (ix2 p j) := by blk_ext [iblk, V, idx_c t]
  refine e.trans ?_
  simp only [V, List.flatten_cons, List.flatten_nil, hostOps0, hostOps0_1, hostOps0_2, hostOps0_3, hostOps0_4, hostOps0_5, hostOps0_6,
    hostOps0_7, hostOps0_8, hostOps0_9, hostOps0_10, hostOps0_11, List.cons_append, List.nil_append]
  entry_read
  show pad S32x1024 ![0, 0] ![1, 0] ![0, 0] (m ((c : Thread nD τ).loc main_arg6) : FVec Ideal S31x1024 .f32)
    (sitofp (F := Ideal) .f32 (constantI S_ 32 0#32)) pads_S31x1024_S32x1024_010_000 h_S_ _ = _
  exact pad_to (by decide) _ _ _ _ _ ⟨p.val, hp⟩ j

/-- The buffers before the rows of the small vectors are stacked: each of the three vectors is as it was. -/
theorem cv_before (c : Dev nD) : ∃ σ : Valuation τ sig (Elt Ideal),
    V m c main_v18 = StableHlo.after (hostOps0_10 ++ hostOps0_11) σ (Proc.devRef .tc main_v18)
    ∧ σ (Proc.devRef .tc main_arg7) = m ((c : Thread nD τ).loc main_arg7) ∧ σ (Proc.devRef .tc main_arg8) = m ((c : Thread nD τ).loc main_arg8)
    ∧ σ (Proc.devRef .tc main_arg9) = m ((c : Thread nD τ).loc main_arg9) := by
  refine ⟨StableHlo.after (List.flatten [hostOps0, hostOps0_1, hostOps0_2, hostOps0_3, hostOps0_4, hostOps0_5, hostOps0_6, hostOps0_7, hostOps0_8,
    hostOps0_9]) (fun b => m (c, b)), rfl, ?_, ?_, ?_⟩
  all_goals
    refine StableHlo.after_of_forall_not_mem _ _ (List.forall_iff_forall_mem.mp (by
      simp only [hostOps0, hostOps0_1, hostOps0_2, hostOps0_3, hostOps0_4, hostOps0_5, hostOps0_6, hostOps0_7, hostOps0_8, hostOps0_9,
        List.flatten_cons, List.flatten_nil, List.append_nil, List.cons_append, List.nil_append, List.Forall, StableHlo.nullary_writes,
        StableHlo.unary_writes, StableHlo.binary_writes, StableHlo.ternary_writes, StableHlo.reshape_writes, StableHlo.nary_writes, Finset.mem_singleton]
      repeat' apply And.intro
      all_goals exact StableHlo.devRef_ne_of_ne (by decide)))

theorem cv_rows (σ : Valuation τ sig (Elt Ideal)) (o : Fin 3) (j : Fin 1024) :
    (StableHlo.after (hostOps0_10 ++ hostOps0_11) σ (Proc.devRef .tc main_v18) : FVec Ideal S8x1024 .f32) (ix2 (Fin.castLE (by decide) o : Fin 8) j)
      = if (o : ℕ) < 1 then (σ (Proc.devRef .tc main_arg7) : FVec Ideal S1024 .f32) (ix1 j)
        else if (o : ℕ) - 1 < 1 then (σ (Proc.devRef .tc main_arg8) : FVec Ideal S1024 .f32) (ix1 j)
        else (σ (Proc.devRef .tc main_arg9) : FVec Ideal S1024 .f32) (ix1 j) := by
  show StableHlo.after hostOps0_11 (StableHlo.after hostOps0_10 σ) (Proc.tc.devRef main_v18) _ = _
  have h5 : (StableHlo.after hostOps0_10 σ (Proc.tc.devRef main_v17) : FVec Ideal S3x1024 .f32) (ix2 o j)
      = if (o : ℕ) < 1 then (σ (Proc.devRef .tc main_arg7) : FVec Ideal S1024 .f32) (ix1 j)
        else if (o : ℕ) - 1 < 1 then (σ (Proc.devRef .tc main_arg8) : FVec Ideal S1024 .f32) (ix1 j)
        else (σ (Proc.devRef .tc main_arg9) : FVec Ideal S1024 .f32) (ix1 j) := by
    after_results_simp
    dsimp only [Matrix.cons_val]
    after_results_simp
    pointwise
    rfl
  refine Eq.trans ?_ h5
  generalize StableHlo.after hostOps0_10 σ = W
  after_results_simp
  show pad S8x1024 ![0, 0] ![5, 0] ![0, 0] (W (Proc.tc.devRef main_v17) : FVec Ideal S3x1024 .f32)
    (sitofp (F := Ideal) .f32 (W (Proc.tc.devRef main_c_3) : IVec S_ 32)) pads_S3x1024_S8x1024_050_000 h_S_ _ = _
  exact pad_row _ _ _ _ _ _ o j

theorem cv_blk (c : Dev nD) (t : Fin cfg0.N) (o : Fin 3) (j : Fin 1024) :
    iblk m c 6 t (ix2 (Fin.castLE (by decide) o : Fin 8) j)
      = if (o : ℕ) < 1 then m ((c : Thread nD τ).loc main_arg7) (ix1 j) else if (o : ℕ) - 1 < 1 then m ((c : Thread nD τ).loc main_arg8) (ix1 j)
        else m ((c : Thread nD τ).loc main_arg9) (ix1 j) := by
  have e : iblk m c 6 t (ix2 (Fin.castLE (by decide) o : Fin 8) j) = V m c main_v18 (ix2 (Fin.castLE (by decide) o : Fin 8) j) := by
    blk_ext [iblk, V, idx_c t]
  obtain ⟨σ, eσ, e7, e8, e9⟩ := cv_before m c
  refine e.trans ((congrFun eσ _).trans ((cv_rows σ o j).trans ?_))
  rw [e7, e8, e9]

/-- The new rows of the conformer convolution's operand. -/
theorem glu_at (c : Dev nD) (t : Fin cfg0.N) (i1) (i2) (q : Fin 128) (j : Fin 1024) :
    k0_pay44 (View.ld (X0_0 m c t) (Rect.unit ![0, 5120] ![128, 1024] i1)) (View.ld (X0_0 m c t) (Rect.unit ![0, 6144] ![128, 1024] i2)) (ix2 q j)
      = glu (m ((c : Thread nD τ).loc main_arg0)) (t.val * 128 + (32 + q.val)) j := by
  pointwise [k0_pay44]
  have ht := lt_N t
  unfold glu
  rw [dif_pos ⟨by omega, by omega⟩, ← Cert.Gate.sg_eq]
  have e : (⟨t.val * 128 + (32 + q.val) - 32, by omega⟩ : Fin 4096) = row t q := Fin.ext (by show t.val * 128 + (32 + q.val) - 32 = t.val * 128 + q.val; omega)
  rw [e]
  exact congrArg₂ (fun a b => a * Cert.Gate.sgK b) (z_col m c t q 5 j _ rfl) (z_col m c t q 6 j _ rfl)

/-- What a point leaves in the first 32 rows of the second carried scratch: the operand at the last rows of its block. -/
theorem carried_c (c : Dev nD) (t : Fin cfg0.N) (p : Fin 32) (j : Fin 1024) :
    (outsAt0 m c t.val t.isLt).2.2.2.2.2.2 (ix2 ⟨p.val, by omega⟩ j)
      = glu (m ((c : Thread nD τ).loc main_arg0)) (t.val * 128 + (128 + p.val)) j := by
  have e : t.val * 128 + (32 + (⟨96 + p.val, by omega⟩ : Fin 128).val) = t.val * 128 + (128 + p.val) := by
    show t.val * 128 + (32 + (96 + p.val)) = _; omega
  by_cases h0 : t.val % 32 = 0
  · rw [outsAt0_A m c t h0]
    dsimp only
    simp only [sout0_A_1]
    frame_out
    refine (canon_in _ _ _ _ p j (by show p.val = 0 + p.val; omega) (by show j.val = 0 + j.val; omega)).trans ?_
    pointwise [k0_pay5]
    refine (rows_in _ _ _ _ _ _ ⟨96 + p.val, by omega⟩ _ (by show 128 + p.val = 32 + (96 + p.val); omega)).trans ?_
    exact (glu_at m c t _ _ _ _).trans (congrArg (fun s => glu _ s j) e)
  · rw [outsAt0_B m c t h0]
    dsimp only
    simp only [sout0_B_1]
    frame_out
    refine (canon_in _ _ _ _ p j (by show p.val = 0 + p.val; omega) (by show j.val = 0 + j.val; omega)).trans ?_
    pointwise [k0_pay5]
    refine (rows_in _ _ _ _ _ _ ⟨96 + p.val, by omega⟩ _ (by show 128 + p.val = 32 + (96 + p.val); omega)).trans ?_
    exact (glu_at m c t _ _ _ _).trans (congrArg (fun s => glu _ s j) e)

end Cert.Kernel29Ideal.Value

namespace Cert.Mixer

/-- A value times its logistic. -/
def silu (x : EReal) : EReal := x * Cert.Gate.sgR x

/-- The conformer branch: the convolution over the operand, normed over the columns, times its own logistic. -/
def conformer (z : (⟨2, ![4096, 10240]⟩ : Shape).Idx → EReal) (w : (⟨2, ![31, 1024]⟩ : Shape).Idx → EReal)
    (b g s : (⟨1, ![1024]⟩ : Shape).Idx → EReal) : (⟨2, ![4096, 1024]⟩ : Shape).Idx → EReal := fun y =>
  silu (spread (centred fun x => wideConv z w b (y 0) x) (g (ix1 (y 1))) (s (ix1 (y 1))) (y 1))

end Cert.Mixer

namespace Cert.Kernel29Ideal.Value
open Cert.Kernel29Ideal Cert.Kernel29Ideal.Gen Cert.Mixer Cert.Rows

variable (m : (ℓ : Loc nD τ sig) → Buf (Elt Ideal) ℓ)

/-- What the kernel does with the convolution's sums. -/
theorem tail_at (c : Dev nD) (t : Fin cfg0.N) (v : Vec Ideal S128x1024 .f32)
    (hv : ∀ p j, v (ix2 p j) = wideConv (m ((c : Thread nD τ).loc main_arg0)) (m ((c : Thread nD τ).loc main_arg6)) (m ((c : Thread nD τ).loc main_arg7)) (row t p) j)
    (i1) (i2) (p : Fin 128) (j : Fin 1024) :
    k0_pay2 (k0_pay144 v) (k0_pay145 (View.ld (iblk m c 6 t) (Rect.unit ![1, 0] ![1, 1024] i1))) (View.ld (iblk m c 6 t) (Rect.unit ![2, 0] ![1, 1024] i2)) (ix2 p j)
      = conformer (m ((c : Thread nD τ).loc main_arg0)) (m ((c : Thread nD τ).loc main_arg6)) (m ((c : Thread nD τ).loc main_arg7))
        (m ((c : Thread nD τ).loc main_arg8)) (m ((c : Thread nD τ).loc main_arg9)) (ix2 (row t p) j) := by
  pointwise [k0_pay2, k0_pay1, k0_pay144, k0_pay145]
  simp only [hv]
  have e1 := (cv_blk m c t 1 j).trans ((if_neg (by decide)).trans (if_pos (by decide)))
  have e2 := (cv_blk m c t 2 j).trans ((if_neg (by decide)).trans (if_neg (by decide)))
  unfold conformer silu
  rw [← Cert.Gate.sg_eq]
  show _ = spread (centred fun x => wideConv _ _ _ (row t p) x) (m ((c : Thread nD τ).loc main_arg8) (ix1 j)) (m ((c : Thread nD τ).loc main_arg9) (ix1 j)) j
    * Cert.Gate.sgK (spread (centred fun x => wideConv _ _ _ (row t p) x) (m ((c : Thread nD τ).loc main_arg8) (ix1 j)) (m ((c : Thread nD τ).loc main_arg9) (ix1 j)) j)
  rw [← e1, ← e2]
  rfl

/-- The rows the convolution reads at a point that begins with rows of zeros. -/
theorem zero_rows (c : Dev nD) (t : Fin cfg0.N) (h0 : t.val % 32 = 0) (q : Fin 32) (j : Fin 1024) :
    (k0_pay7 : FVec Ideal S32x1024 .f32) (ix2 q j) = glu (m ((c : Thread nD τ).loc main_arg0)) (t.val * 128 + q.val) j := by
  have ht := lt_N t
  unfold glu
  rw [dif_neg (by omega)]
  pointwise [k0_pay7]

end Cert.Kernel29Ideal.Value

namespace Cert.Kernel29Ideal.Value
open Cert.Kernel29Ideal Cert.Kernel29Ideal.Gen Cert.Mixer Cert.Rows

variable (m : (ℓ : Loc nD τ sig) → Buf (Elt Ideal) ℓ)

/-- The convolution's operand as a point finds it that begins with rows of zeros. -/
theorem rows_A (c : Dev nD) (t : Fin cfg0.N) (h0 : t.val % 32 = 0) (i1) (i2) (j1) (j2) {k n o q : ℕ} (inbL) (p : Fin k) (l : Fin n)
    (ho : o + p.val < 160) (hq : q + l.val < 1024) :
    @Eq EReal ((View.whole cc0_scratch1).readCov
        [(⟨Rect.unit (s := ⟨2, ![160, 1024]⟩) ![32, 0] ![128, 1024] j1,
            k0_pay44 (View.ld (X0_0 m c t) (Rect.unit ![0, 5120] ![128, 1024] i1)) (View.ld (X0_0 m c t) (Rect.unit ![0, 6144] ![128, 1024] i2))⟩ :
            View.Piece (Elt Ideal) (⟨2, ![160, 1024]⟩ : Shape) .f32),
          ⟨Rect.unit (s := ⟨2, ![160, 1024]⟩) ![0, 0] ![32, 1024] j2, (k0_pay7 (F := Ideal) : FVec Ideal S32x1024 .f32)⟩]
        (Rect.unit (s := ⟨2, ![160, 1024]⟩) ![o, q] ![k, n] inbL).toLoadRect (ix2 p l))
      (glu (m ((c : Thread nD τ).loc main_arg0)) (t.val * 128 + (o + p.val)) ⟨q + l.val, hq⟩) :=
  ext_at (Val := Elt Ideal) (e := .f32) _ _ _ _ _ _ (fun r j => glu (m ((c : Thread nD τ).loc main_arg0)) (t.val * 128 + r) j)
    (fun q' j => glu_at m c t i1 i2 q' j) (fun q' j => zero_rows m c t h0 q' j) inbL p l ho hq

end Cert.Kernel29Ideal.Value

namespace Cert.Kernel29Ideal.Value
open Cert.Kernel29Ideal Cert.Kernel29Ideal.Gen Cert.Mixer Cert.Rows

variable (m : (ℓ : Loc nD τ sig) → Buf (Elt Ideal) ℓ)

/-- A tap of the convolution that is read from the operand itself. -/
theorem tap_row {f : EReal} {z : (⟨2, ![4096, 10240]⟩ : Shape).Idx → EReal} {r r' k k' : ℕ} {hk : k < 1024} {hk' : k' < 1024} (h : f = glu z r ⟨k, hk⟩)
    (hr : r = r') (hx : k = k') : f = glu z r' ⟨k', hk'⟩ := by
  subst hr hx; exact h

end Cert.Kernel29Ideal.Value

namespace Cert.Kernel29Ideal.Value
open Cert.Kernel29Ideal Cert.Kernel29Ideal.Gen Cert.Mixer Cert.Rows

variable (m : (ℓ : Loc nD τ sig) → Buf (Elt Ideal) ℓ)

/-- The rows a point finds of the point before. -/
theorem carried_before (c : Dev nD) (t : Fin cfg0.N) (h0 : ¬ t.val % 32 = 0) (q : Fin 32) (j : Fin 1024) :
    (outsAt0 m c (t.val - 1) (by omega)).2.2.2.2.2.2 (ix2 ⟨q.val, by omega⟩ j)
      = glu (m ((c : Thread nD τ).loc main_arg0)) (t.val * 128 + q.val) j :=
  (carried_c m c ⟨t.val - 1, by omega⟩ q j).trans (congrArg (fun s => glu _ s j) (by show (t.val - 1) * 128 + (128 + q.val) = _; omega))

/-- The convolution's operand as a later point finds it. -/
theorem rows_B (c : Dev nD) (t : Fin cfg0.N) (h0 : ¬ t.val % 32 = 0) (i1) (i2) (j1) (hu : (Memref.whole cc0_scratch1).IsWhole) (r : ℕ) (hr : r < 160) (j : Fin 1024) :
    @Eq EReal ((View.whole cc0_scratch1).read (Elt Ideal) ((View.whole cc0_scratch1).writes (Elt Ideal)
        (hu.unread (outsAt0 m c (t.val - 1) (by omega)).2.2.2.2.2.2)
        [(⟨Rect.unit (s := ⟨2, ![160, 1024]⟩) ![32, 0] ![128, 1024] j1,
            k0_pay44 (View.ld (X0_0 m c t) (Rect.unit ![0, 5120] ![128, 1024] i1)) (View.ld (X0_0 m c t) (Rect.unit ![0, 6144] ![128, 1024] i2))⟩ :
            View.Piece (Elt Ideal) (⟨2, ![160, 1024]⟩ : Shape) .f32)]) (ix2 ⟨r, hr⟩ j))
      (glu (m ((c : Thread nD τ).loc main_arg0)) (t.val * 128 + r) j) :=
  over_at (Val := Elt Ideal) (e := .f32) _ _ _ _ (fun r j => glu (m ((c : Thread nD τ).loc main_arg0)) (t.val * 128 + r) j)
    (fun q' j => glu_at m c t i1 i2 q' j) _ (read_unread_whole _ _ _) (fun q' j => carried_before m c t h0 q' j) r hr j

/-- The new rows of the operand as a later point loads them. -/
theorem new_rows (c : Dev nD) (t : Fin cfg0.N) (i1) (i2) (j1) {k n o q : ℕ} (inbL) (p : Fin k) (l : Fin n)
    (h32 : 32 ≤ o + p.val) (ho : o + p.val < 160) (hq : q + l.val < 1024) :
    @Eq EReal ((View.whole cc0_scratch1).readCov
        [(⟨Rect.unit (s := ⟨2, ![160, 1024]⟩) ![32, 0] ![128, 1024] j1,
            k0_pay44 (View.ld (X0_0 m c t) (Rect.unit ![0, 5120] ![128, 1024] i1)) (View.ld (X0_0 m c t) (Rect.unit ![0, 6144] ![128, 1024] i2))⟩ :
            View.Piece (Elt Ideal) (⟨2, ![160, 1024]⟩ : Shape) .f32)]
        (Rect.unit (s := ⟨2, ![160, 1024]⟩) ![o, q] ![k, n] inbL).toLoadRect (ix2 p l))
      (glu (m ((c : Thread nD τ).loc main_arg0)) (t.val * 128 + (o + p.val)) ⟨q + l.val, hq⟩) := by
  rw [View.readCov_eq_canon']
  refine (canon_in (Val := Elt Ideal) (e := .f32) j1 _ _ _ ⟨o + p.val - 32, by omega⟩ ⟨q + l.val, hq⟩ ?_ ?_).trans ((glu_at m c t i1 i2 _ _).trans
    (congrArg (fun s => glu _ s _) ?_))
  · show o + 1 * p.val = 32 + (o + p.val - 32); omega
  · show q + 1 * l.val = 0 + (q + l.val); omega
  · show t.val * 128 + (32 + (o + p.val - 32)) = _; omega

end Cert.Kernel29Ideal.Value

namespace Cert.Kernel29Ideal.Value
open Cert.Kernel29Ideal Cert.Kernel29Ideal.Gen Cert.Mixer Cert.Rows

variable (m : (ℓ : Loc nD τ sig) → Buf (Elt Ideal) ℓ)

set_option maxHeartbeats 4000000 in
set_option maxRecDepth 100000 in
/-- What the third output holds after a point that begins with rows of zeros. -/
theorem third_A (c : Dev nD) (t : Fin cfg0.N) (h0 : t.val % 32 = 0) (p : Fin 128) (j : Fin 1024) : (outsAt0 m c t.val t.isLt).2.2.1 (ix2 p j) =
     conformer (m ((c : Thread nD τ).loc main_arg0)) (m ((c : Thread nD τ).loc main_arg6)) (m ((c : Thread nD τ).loc main_arg7))
        (m ((c : Thread nD τ).loc main_arg8)) (m ((c : Thread nD τ).loc main_arg9)) (ix2 (row t p) j) := by
  rw [outsAt0_A m c t h0]
  dsimp only
  simp only [out0_A_9]
  frame_out
  refine tail_at m c t _ ?_ _ _ p j
  intro p j
  rw [View.readCov_eq_canon']
  refine (congrArg _ (?_ : _ = ix2 p j)).trans ?_
  · funext x
    apply Fin.ext
    match x with
    | ⟨0, _⟩ => show 0 + 1 * p.val = p.val; omega
    | ⟨1, _⟩ => show 0 + 1 * j.val = j.val; omega
  have ht := lt_N t
  refine groups (Val := Elt Ideal) (e := .f32) _ _ _ _ _ _ _ _ _ _ _ _ _ _ _ _ p (fun l _ => wideConv (m ((c : Thread nD τ).loc main_arg0)) (m ((c : Thread nD τ).loc main_arg6)) (m ((c : Thread nD τ).loc main_arg7)) (row t p) l) ?_ ?_ ?_ ?_ ?_ ?_ ?_ ?_ j
  all_goals
    intro l
    pointwise [k0_pay53, k0_pay54, k0_pay55, k0_pay56, k0_pay57, k0_pay58, k0_pay59, k0_pay60, k0_pay61, k0_pay62, k0_pay63, k0_pay64, k0_pay65, k0_pay66,
      k0_pay67, k0_pay68, k0_pay69, k0_pay70, k0_pay71, k0_pay72, k0_pay73, k0_pay74, k0_pay75, k0_pay76, k0_pay77, k0_pay78, k0_pay79, k0_pay80,
      k0_pay81, k0_pay82, k0_pay83, k0_pay84, k0_pay85, k0_pay86, k0_pay87, k0_pay88, k0_pay89, k0_pay90, k0_pay91, k0_pay92, k0_pay93, k0_pay94,
      k0_pay95, k0_pay96, k0_pay97, k0_pay98, k0_pay99, k0_pay100, k0_pay101, k0_pay102, k0_pay103, k0_pay104, k0_pay105, k0_pay106, k0_pay107,
      k0_pay108, k0_pay109, k0_pay110, k0_pay111, k0_pay112, k0_pay113, k0_pay114, k0_pay115, k0_pay116, k0_pay117, k0_pay118, k0_pay119,
      k0_pay120, k0_pay121, k0_pay122, k0_pay123, k0_pay124, k0_pay125, k0_pay126, k0_pay127, k0_pay128, k0_pay129, k0_pay130, k0_pay131,
      k0_pay132, k0_pay133, k0_pay134, k0_pay135, k0_pay136, k0_pay137, k0_pay138, k0_pay139, k0_pay140, k0_pay141, k0_pay142]
    unfold wideConv
    refine congrArg₂ (· + ·) ?_ ((cv_blk m c t 0 _).trans (if_pos (by decide)))
    have hW := fun i1 i2 j1 j2 iw (r : ℕ) (hr : r < 160) (q : Fin 1024) =>
      (rows_A m c t h0 i1 i2 j1 j2 (k := 160) (n := 1024) (o := 0) (q := 0) iw (⟨r, hr⟩ : Fin 160) q (by show 0 + r < 160; omega) (by omega)).trans
            (congrArg₂ (glu _) (by show t.val * 128 + (0 + r) = t.val * 128 + r; omega) (Fin.ext (by show 0 + q.val = q.val; omega) : _ = q))
    iterate 30 on_goal 1 => refine taps_step ?_ (tap_mul (by decide) (cw_blk m c t _ (by decide) _) ?_)
    on_goal 1 => refine tap_mul (k := 0) (by decide) (cw_blk m c t _ (by decide) _) ?_
    on_goal 31 => exact tap_row (rows_A m c t h0 _ _ _ _ _ p l (by omega) (by omega)) (by show _ = t.val * 128 + p.val + 2 + _; omega) (by omega)
    on_goal 23 => exact tap_row (rows_A m c t h0 _ _ _ _ _ p l (by omega) (by omega)) (by show _ = t.val * 128 + p.val + 2 + _; omega) (by omega)
    on_goal 15 => exact tap_row (rows_A m c t h0 _ _ _ _ _ p l (by omega) (by omega)) (by show _ = t.val * 128 + p.val + 2 + _; omega) (by omega)
    on_goal 7 => exact tap_row (rows_A m c t h0 _ _ _ _ _ p l (by omega) (by omega)) (by show _ = t.val * 128 + p.val + 2 + _; omega) (by omega)
    all_goals exact tap_row (copy_at (View.whole cc0_scratch2) _ (fun r j => glu (m ((c : Thread nD τ).loc main_arg0)) (t.val * 128 + r) j) (hW _ _ _ _ _)
      _ _ _ _ _ _ _ _ p l (by decide) (by omega) (by omega)) (by show _ = t.val * 128 + p.val + 2 + _; omega) (by omega)

set_option maxHeartbeats 4000000 in
set_option maxRecDepth 100000 in
/-- What the third output holds after a point that follows another. -/
theorem third_B (c : Dev nD) (t : Fin cfg0.N) (h0 : ¬ t.val % 32 = 0) (p : Fin 128) (j : Fin 1024) : (outsAt0 m c t.val t.isLt).2.2.1 (ix2 p j) =
     conformer (m ((c : Thread nD τ).loc main_arg0)) (m ((c : Thread nD τ).loc main_arg6)) (m ((c : Thread nD τ).loc main_arg7))
        (m ((c : Thread nD τ).loc main_arg8)) (m ((c : Thread nD τ).loc main_arg9)) (ix2 (row t p) j) := by
  rw [outsAt0_B m c t h0]
  dsimp only
  simp only [out0_B_9]
  frame_out
  refine tail_at m c t _ ?_ _ _ p j
  intro p j
  rw [View.readCov_eq_canon']
  refine (congrArg _ (?_ : _ = ix2 p j)).trans ?_
  · funext x
    apply Fin.ext
    match x with
    | ⟨0, _⟩ => show 0 + 1 * p.val = p.val; omega
    | ⟨1, _⟩ => show 0 + 1 * j.val = j.val; omega
  have ht := lt_N t
  refine groups (Val := Elt Ideal) (e := .f32) _ _ _ _ _ _ _ _ _ _ _ _ _ _ _ _ p (fun l _ => wideConv (m ((c : Thread nD τ).loc main_arg0)) (m ((c : Thread nD τ).loc main_arg6)) (m ((c : Thread nD τ).loc main_arg7)) (row t p) l) ?_ ?_ ?_ ?_ ?_ ?_ ?_ ?_ j
  all_goals
    intro l
    pointwise [k0_pay53, k0_pay54, k0_pay55, k0_pay56, k0_pay57, k0_pay58, k0_pay59, k0_pay60, k0_pay61, k0_pay62, k0_pay63, k0_pay64, k0_pay65, k0_pay66,
      k0_pay67, k0_pay68, k0_pay69, k0_pay70, k0_pay71, k0_pay72, k0_pay73, k0_pay74, k0_pay75, k0_pay76, k0_pay77, k0_pay78, k0_pay79, k0_pay80,
      k0_pay81, k0_pay82, k0_pay83, k0_pay84, k0_pay85, k0_pay86, k0_pay87, k0_pay88, k0_pay89, k0_pay90, k0_pay91, k0_pay92, k0_pay93, k0_pay94,
      k0_pay95, k0_pay96, k0_pay97, k0_pay98, k0_pay99, k0_pay100, k0_pay101, k0_pay102, k0_pay103, k0_pay104, k0_pay105, k0_pay106, k0_pay107,
      k0_pay108, k0_pay109, k0_pay110, k0_pay111, k0_pay112, k0_pay113, k0_pay114, k0_pay115, k0_pay116, k0_pay117, k0_pay118, k0_pay119,
      k0_pay120, k0_pay121, k0_pay122, k0_pay123, k0_pay124, k0_pay125, k0_pay126, k0_pay127, k0_pay128, k0_pay129, k0_pay130, k0_pay131,
      k0_pay132, k0_pay133, k0_pay134, k0_pay135, k0_pay136, k0_pay137, k0_pay138, k0_pay139, k0_pay140, k0_pay141, k0_pay142]
    unfold wideConv
    refine congrArg₂ (· + ·) ?_ ((cv_blk m c t 0 _).trans (if_pos (by decide)))
    iterate 30 on_goal 1 => refine taps_step ?_ (tap_mul (by decide) (cw_blk m c t _ (by decide) _) ?_)
    on_goal 1 => refine tap_mul (k := 0) (by decide) (cw_blk m c t _ (by decide) _) ?_
    on_goal 31 => exact tap_row (new_rows m c t _ _ _ _ p l (by omega) (by omega) (by omega)) (by show _ = t.val * 128 + p.val + 2 + _; omega) (by omega)
    on_goal 23 => exact tap_row (rows_B m c t h0 _ _ _ _ _ (by omega) _) (by show _ = t.val * 128 + p.val + 2 + _; omega) (by omega)
    on_goal 15 => exact tap_row (rows_B m c t h0 _ _ _ _ _ (by omega) _) (by show _ = t.val * 128 + p.val + 2 + _; omega) (by omega)
    on_goal 7 => exact tap_row (rows_B m c t h0 _ _ _ _ _ (by omega) _) (by show _ = t.val * 128 + p.val + 2 + _; omega) (by omega)
    all_goals exact tap_row (copy_at (View.whole cc0_scratch2) _ (fun r j => glu (m ((c : Thread nD τ).loc main_arg0)) (t.val * 128 + r) j) (rows_B m c t h0 _ _ _ _)
      _ _ _ _ _ _ _ _ p l (by decide) (by omega) (by omega)) (by show _ = t.val * 128 + p.val + 2 + _; omega) (by omega)

theorem final_9 (c : Dev nD) : (dats m 0 c).arrAt 9 (cfgs 0).N
    = conformer (m ((c : Thread nD τ).loc main_arg0)) (m ((c : Thread nD τ).loc main_arg6)) (m ((c : Thread nD τ).loc main_arg7))
      (m ((c : Thread nD τ).loc main_arg8)) (m ((c : Thread nD τ).loc main_arg9)) := by
  refine (dats m 0 c).arrAt_eq_of_covers 9 _ (by decide +kernel) fun t hf y => ?_
  blk_simp; rw [after0_9]
  obtain ⟨p, j, rfl⟩ : ∃ (p : Fin 128) (j : Fin 1024), y = ix2 p j := ⟨_, _, eq_ix2 y⟩
  have ht := lt_N t
  refine Eq.trans (b := conformer (m ((c : Thread nD τ).loc main_arg0)) (m ((c : Thread nD τ).loc main_arg6)) (m ((c : Thread nD τ).loc main_arg7))
      (m ((c : Thread nD τ).loc main_arg8)) (m ((c : Thread nD τ).loc main_arg9)) (ix2 (row t p) j)) ?_ ?_
  · by_cases h0 : t.val % 32 = 0
    · exact third_A m c t h0 p j
    · exact third_B m c t h0 p j
  · blk_ext [row, idx_c t]

end Cert.Kernel29Ideal.Value

namespace Cert.Reference29Ideal.Value
open Cert.Reference29Ideal Cert.Mixer

/-- The short convolution's operand as the reference pads it. -/
theorem product (V0 : Valuation τ sig (Elt Ideal)) (k : ℕ) (hk : k < 4098) (p : Fin 4096) (j : Fin 1024) (d : ℕ) (h : k + d = p.val + 2) (hd : d ≤ 2) :
    (res_main_v15 V0 : FVec Ideal S4098x1024 .f32) (ix2 ⟨k, hk⟩ j) = above (V0 (Proc.devRef .tc main_arg0)) d p j := by
  unfold res_main_v15
  pointwise
  exact above_pad _ p j d k h _ zero_int hd

/-- The convolution's operand as the reference pads it. -/
theorem operand (V0 : Valuation τ sig (Elt Ideal)) (k : ℕ) (hk : k < 4126) (j : Fin 1024) :
    (res_main_v109 V0 : FVec Ideal S4126x1024 .f32) (ix2 ⟨k, hk⟩ j) = glu (V0 (Proc.devRef .tc main_arg0)) (2 + k) j := by
  unfold res_main_v109
  pointwise
  unfold glu
  by_cases h : 30 ≤ k
  · rw [dif_pos ⟨h, by omega⟩, dif_pos ⟨by omega, by omega⟩]
    have e : (⟨k - 30, by omega⟩ : Fin 4096) = ⟨2 + k - 32, by omega⟩ := Fin.ext (by show k - 30 = 2 + k - 32; omega)
    rw [e]
    unfold Cert.Gate.sgR
    rw [Cert.Gate.cO_eq]
    rfl
  · rw [dif_neg (by omega), dif_neg (by omega)]
    exact zero_int

set_option maxHeartbeats 4000000 in
set_option maxRecDepth 100000 in
/-- The convolution as the reference sums it. -/
theorem sums (V0 : Valuation τ sig (Elt Ideal)) (r : Fin 4096) (j : Fin 1024) :
    (res_main_v330 V0 : FVec Ideal S4096x1024 .f32) (ix2 r j)
      = wideConv (V0 (Proc.devRef .tc main_arg0)) (V0 (Proc.devRef .tc main_arg6)) (V0 (Proc.devRef .tc main_arg7)) r j := by
  unfold res_main_v330 res_main_v264 res_main_v187
  pointwise
  unfold wideConv
  refine congrArg₂ (· + ·) ?_ rfl
  iterate 30 on_goal 1 => refine taps_step ?_ (tap_mul (by decide) rfl ?_)
  on_goal 1 => refine tap_mul (k := 0) (by decide) rfl ?_
  all_goals exact (operand V0 _ _ j).trans (congrArg (fun s => glu _ s j) (by omega))

/-- The conformer branch as the reference computes it. -/
theorem conformer_ref (V0 : Valuation τ sig (Elt Ideal)) (r : Fin 4096) (j : Fin 1024) :
    silu ((res_main_v354 V0 : FVec Ideal S4096x1024 .f32) (ix2 r j))
      = conformer (V0 (Proc.devRef .tc main_arg0)) (V0 (Proc.devRef .tc main_arg6)) (V0 (Proc.devRef .tc main_arg7))
        (V0 (Proc.devRef .tc main_arg8)) (V0 (Proc.devRef .tc main_arg9)) (ix2 r j) := by
  unfold res_main_v354 res_main_v336 res_main_v334
  pointwise
  simp only [sums]
  rfl

theorem run_spec (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v356) = shortConv (m ((c.tc : Thread nD τ).loc main_arg0)) (m ((c.tc : Thread nD τ).loc main_arg1))
      ∧ r.2.mem ((c.tc : Thread nD τ).loc main_v357) = gating (m ((c.tc : Thread nD τ).loc main_arg0)) (m ((c.tc : Thread nD τ).loc main_arg2))
        (m ((c.tc : Thread nD τ).loc main_arg3)) (m ((c.tc : Thread nD τ).loc main_arg4)) (m ((c.tc : Thread nD τ).loc main_arg5))
      ∧ r.2.mem ((c.tc : Thread nD τ).loc main_v358) = conformer (m ((c.tc : Thread nD τ).loc main_arg0)) (m ((c.tc : Thread nD τ).loc main_arg6))
        (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  refine (θ_run defs _ _).mono (fun _ h c => ⟨(h c).1.trans ?_, (h c).2.1.trans ?_, (h c).2.2.1.trans ?_, (h c).2.2.2⟩) (run m ρ)
  all_goals clear h
  · funext y
    obtain ⟨p, j, rfl⟩ : ∃ (p : Fin 4096) (j : Fin 1024), y = ix2 p j := ⟨_, _, eq_ix2 y⟩
    pointwise
    have own : (⟨0 * 1024 + j.val, by omega⟩ : Fin 10240) = ⟨j.val, by omega⟩ := Fin.ext (by show 0 * 1024 + j.val = j.val; omega)
    refine congrArg₂ (· * ·) (congrArg (fun q => m ((c.tc : Thread nD τ).loc main_arg0) (ix2 p q)) own.symm) ?_
    exact congrArg₂ (· + ·) (congrArg₂ (· + ·) (congrArg₂ (· * ·) rfl (product _ _ _ p j 2 (by omega) (by omega)))
      (congrArg₂ (· * ·) rfl (product _ _ _ p j 1 (by omega) (by omega)))) (congrArg₂ (· * ·) rfl (product _ _ _ p j 0 (by omega) (by omega)))
  · funext y
    obtain ⟨p, j, rfl⟩ : ∃ (p : Fin 4096) (j : Fin 1024), y = ix2 p j := ⟨_, _, eq_ix2 y⟩
    pointwise [res_main_v7, res_main_v9, res_main_v64, res_main_v68, res_main_v70]
    have e : (⟨p.val / 128 * 128 + p.val % 128, by omega⟩ : Fin 4096) = p := Fin.ext (by show p.val / 128 * 128 + p.val % 128 = p.val; omega)
    unfold gating gateAt
    refine congrArg₂ (· * ·) (congrArg (fun r => act (m ((c.tc : Thread nD τ).loc main_arg0) (ix2 r (gc 3 j)))) e.symm)
      (congrArg₂ (· + ·) (Finset.sum_congr rfl fun s _ => ?_) rfl)
    refine (mul_comm _ _).trans (congrArg₂ (· * ·) (masked ⟨p.val % 128, by omega⟩ s _ _ zero_int) rfl)
  · funext y
    obtain ⟨p, j, rfl⟩ : ∃ (p : Fin 4096) (j : Fin 1024), y = ix2 p j := ⟨_, _, eq_ix2 y⟩
    refine Eq.trans ?_ (conformer_ref (StableHlo.launchContents m c) p j)
    pointwise
    unfold silu Cert.Gate.sgR
    rw [Cert.Gate.cO_eq]
    rfl

end Cert.Reference29Ideal.Value

end
-- ==== Proof.lean ====
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Kernel12.Frame
public import proofs.«01_k».proof.Proof.Gen.Kernel12Ideal.Frame
public import proofs.«01_k».proof.Proof.Gen.Reference12Ideal.Run
public import proofs.«01_k».proof.Proof.Gen.Kernel13.Frame
public import proofs.«01_k».proof.Proof.Gen.Kernel13Ideal.Frame
public import proofs.«01_k».proof.Proof.Gen.Reference13Ideal.Run
public import proofs.«01_k».proof.Proof.Gen.Kernel14.Frame
public import proofs.«01_k».proof.Proof.Gen.Kernel14Ideal.Frame
public import proofs.«01_k».proof.Proof.Gen.Reference14Ideal.Run
public import proofs.«01_k».proof.Proof.Gen.Kernel15.Frame
public import proofs.«01_k».proof.Proof.Gen.Kernel15Ideal.Frame
public import proofs.«01_k».proof.Proof.Gen.Reference15Ideal.Run
public import proofs.«01_k».proof.Proof.Gen.Kernel16.Frame
public import proofs.«01_k».proof.Proof.Gen.Kernel16Ideal.Frame
public import proofs.«01_k».proof.Proof.Gen.Kernel16Ideal.Value
public import proofs.«01_k».proof.Proof.Gen.Reference16Ideal.Run
public import proofs.«01_k».proof.Proof.Gen.Kernel17.Frame
public import proofs.«01_k».proof.Proof.Gen.Kernel17Ideal.Frame
public import proofs.«01_k».proof.Proof.Gen.Kernel17Ideal.Value
public import proofs.«01_k».proof.Proof.Gen.Reference17Ideal.Run
public import proofs.«01_k».proof.Proof.Gen.Kernel18.Frame
public import proofs.«01_k».proof.Proof.Gen.Kernel18Ideal.Frame
public import proofs.«01_k».proof.Proof.Gen.Kernel18Ideal.Value
public import proofs.«01_k».proof.Proof.Gen.Reference18Ideal.Run
public import proofs.«01_k».proof.Proof.Gen.Kernel19.Frame
public import proofs.«01_k».proof.Proof.Gen.Kernel19Ideal.Frame
public import proofs.«01_k».proof.Proof.Gen.Kernel19Ideal.Value
public import proofs.«01_k».proof.Proof.Gen.Reference19Ideal.Run
public import proofs.«01_k».proof.Proof.Gen.Kernel20.Frame
public import proofs.«01_k».proof.Proof.Gen.Kernel20Ideal.Frame
public import proofs.«01_k».proof.Proof.Gen.Kernel20Ideal.Value
public import proofs.«01_k».proof.Proof.Gen.Reference20Ideal.Run
public import proofs.«01_k».proof.Proof.Gen.Kernel21.Frame
public import proofs.«01_k».proof.Proof.Gen.Kernel21Ideal.Frame
public import proofs.«01_k».proof.Proof.Gen.Kernel21Ideal.Value
public import proofs.«01_k».proof.Proof.Gen.Reference21Ideal.Run
public import proofs.«01_k».proof.Proof.Gen.Kernel22.Frame
public import proofs.«01_k».proof.Proof.Gen.Kernel22Ideal.Frame
public import proofs.«01_k».proof.Proof.Gen.Kernel22Ideal.Value
public import proofs.«01_k».proof.Proof.Gen.Reference22Ideal.Run
public import proofs.«01_k».proof.Proof.Gen.Kernel23.Frame
public import proofs.«01_k».proof.Proof.Gen.Kernel23Ideal.Frame
public import proofs.«01_k».proof.Proof.Gen.Kernel23Ideal.Value
public import proofs.«01_k».proof.Proof.Gen.Reference23Ideal.Run
public import proofs.«01_k».proof.Proof.Gen.Kernel24.Frame
public import proofs.«01_k».proof.Proof.Gen.Kernel24Ideal.Frame
public import proofs.«01_k».proof.Proof.Gen.Kernel24Ideal.Value
public import proofs.«01_k».proof.Proof.Gen.Reference24Ideal.Run
public import proofs.«01_k».proof.Proof.Gen.Kernel25.Frame
public import proofs.«01_k».proof.Proof.Gen.Kernel25Ideal.Frame
public import proofs.«01_k».proof.Proof.Gen.Kernel25Ideal.Value
public import proofs.«01_k».proof.Proof.Gen.Reference25Ideal.Run
public import proofs.«01_k».proof.Proof.Gen.Kernel26.Frame
public import proofs.«01_k».proof.Proof.Gen.Kernel26Ideal.Frame
public import proofs.«01_k».proof.Proof.Gen.Kernel26Ideal.Value
public import proofs.«01_k».proof.Proof.Gen.Reference26Ideal.Run
public import proofs.«01_k».proof.Proof.Gen.Kernel27.Frame
public import proofs.«01_k».proof.Proof.Gen.Kernel27Ideal.Frame
public import proofs.«01_k».proof.Proof.Gen.Kernel27Ideal.Value
public import proofs.«01_k».proof.Proof.Gen.Reference27Ideal.Run
public import proofs.«01_k».proof.Proof.Gen.Kernel28.Frame
public import proofs.«01_k».proof.Proof.Gen.Kernel28Ideal.Frame
public import proofs.«01_k».proof.Proof.Gen.Reference28Ideal.Run
public import proofs.«01_k».proof.Proof.Gen.Kernel29.Frame
public import proofs.«01_k».proof.Proof.Gen.Kernel29Ideal.Frame
public import proofs.«01_k».proof.Proof.Gen.Kernel29Ideal.Value
public import proofs.«01_k».proof.Proof.Gen.Reference29Ideal.Run
public import proofs.«01_k».proof.Proof.Value1
public import proofs.«01_k».proof.Proof.Ref1
public import proofs.«01_k».proof.Proof.Value2
public import proofs.«01_k».proof.Proof.Ref2
public import proofs.«01_k».proof.Proof.Value3
public import proofs.«01_k».proof.Proof.Ref3
public import proofs.«01_k».proof.Proof.Value4
public import proofs.«01_k».proof.Proof.Value5
public import proofs.«01_k».proof.Proof.Value6
public import proofs.«01_k».proof.Proof.Value7
public import proofs.«01_k».proof.Proof.Value8
public import proofs.«01_k».proof.Proof.Value9
public import proofs.«01_k».proof.Proof.Value10
public import proofs.«01_k».proof.Proof.Value11
public import proofs.«01_k».proof.Proof.Value12
public import proofs.«01_k».proof.Proof.Value13
public import proofs.«01_k».proof.Proof.Value14
public import proofs.«01_k».proof.Proof.Value15
public import proofs.«01_k».proof.Proof.Value16
public import proofs.«01_k».proof.Proof.Value17
public import proofs.«01_k».proof.Proof.Value18
public import proofs.«01_k».proof.Proof.Value19
public import proofs.«01_k».proof.Proof.Value20
public import proofs.«01_k».proof.Proof.Value21
public import proofs.«01_k».proof.Proof.Value22
public import proofs.«01_k».proof.Proof.Value23
public import proofs.«01_k».proof.Proof.Value24
public import proofs.«01_k».proof.Proof.Value25
public import proofs.«01_k».proof.Proof.Value26
public import proofs.«01_k».proof.Proof.Value27
public import proofs.«01_k».proof.Proof.Value28
public import proofs.«01_k».proof.Proof.Value29
public import Idealize.ShloMosaic.Lib.Claim
public import Idealize.ShloMosaic.Adequacy
public import Idealize.ShloMosaic.Init

/-! The claims, put together from the runs and the values. -/

@[expose] public section

noncomputable section

namespace Cert.Proof

open Idealize.ShloMosaic Idealize.SL.Sem Cert.Kernel

/-- The reference of program 1 runs, leaves its arguments unchanged and declares no semaphore. -/
theorem frame_ref1 : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run_spec m ρ)

/-- Program 1 and its reference compute the same arrays of the same arguments. -/
theorem algebraic1 : Cert.algebraic_KernelIdeal_ReferenceIdeal := by
  intro m g m' g' _ hagree
  refine ⟨_, _, (θ_run Cert.KernelIdeal.defs _ _).mono (fun r h c => ⟨((h c).1).trans (Cert.KernelIdeal.Value.final_5 m c), ((h c).2.1).trans (Cert.KernelIdeal.Value.final_6 m c), (h c).2.2⟩)
      (Cert.KernelIdeal.Value.run_blocks m g),
    (θ_run Cert.ReferenceIdeal.defs _ _).mono (fun r h c => ?_) (Cert.ReferenceIdeal.Value.run_spec m' g')⟩
  obtain ⟨h0, h1, h2, h3, h4, h5⟩ := hagree c
  exact ⟨((h c).1).trans (by simp only [h0, h1, h2, h3, h4, h5]), ((h c).2.1).trans (by simp only [h0, h1, h2, h3, h4, h5]), (h c).2.2⟩

/-- The reference of program 2 runs, leaves its arguments unchanged and declares no semaphore. -/
theorem frame_ref2 : Cert.quiescent_Reference2Ideal := fun m ρ _ =>
  (θ_run Cert.Reference2Ideal.defs _ _).mono (fun r h => ⟨fun c => (h c).2.2.2, sem_eq_zero_of_no_sems (by decide) r.2⟩)
    (Cert.Reference2Ideal.Value.run_spec m ρ)

/-- Program 2 and its reference compute the same arrays of the same arguments. -/
theorem algebraic2 : Cert.algebraic_Kernel2Ideal_Reference2Ideal := by
  intro m g m' g' _ hagree
  refine ⟨_, _, _, (θ_run Cert.Kernel2Ideal.defs _ _).mono (fun r h c => ⟨((h c).1).trans (Cert.Kernel2Ideal.Value.final_6 m c), ((h c).2.1).trans (Cert.Kernel2Ideal.Value.final_7 m c), ((h c).2.2.1).trans (Cert.Kernel2Ideal.Value.final_8 m c), (h c).2.2.2⟩)
      (Cert.Kernel2Ideal.Value.run_blocks m g),
    (θ_run Cert.Reference2Ideal.defs _ _).mono (fun r h c => ?_) (Cert.Reference2Ideal.Value.run_spec m' g')⟩
  obtain ⟨h0, h1, h2, h3, h4, h5, h6, h7⟩ := hagree c
  exact ⟨((h c).1).trans (by simp only [h0, h1, h2, h3, h4, h5, h6, h7]), ((h c).2.1).trans (by simp only [h0, h1, h2, h3, h4, h5, h6, h7]), ((h c).2.2.1).trans (by simp only [h0, h1, h2, h3, h4, h5, h6, h7]), (h c).2.2.2⟩

/-- The reference of program 3 runs, leaves its arguments unchanged and declares no semaphore. -/
theorem frame_ref3 : Cert.quiescent_Reference3Ideal := fun m ρ _ =>
  (θ_run Cert.Reference3Ideal.defs _ _).mono (fun r h => ⟨fun c => (h c).2.2.2, sem_eq_zero_of_no_sems (by decide) r.2⟩)
    (Cert.Reference3Ideal.Value.run_spec m ρ)

/-- Program 3 and its reference compute the same arrays of the same arguments. -/
theorem algebraic3 : Cert.algebraic_Kernel3Ideal_Reference3Ideal := by
  intro m g m' g' _ hagree
  refine ⟨_, _, _, (θ_run Cert.Kernel3Ideal.defs _ _).mono (fun r h c => ⟨((h c).1).trans (Cert.Kernel3Ideal.Value.final_6 m c), ((h c).2.1).trans (Cert.Kernel3Ideal.Value.final_7 m c), ((h c).2.2.1).trans (Cert.Kernel3Ideal.Value.final_8 m c), (h c).2.2.2⟩)
      (Cert.Kernel3Ideal.Value.run_blocks m g),
    (θ_run Cert.Reference3Ideal.defs _ _).mono (fun r h c => ?_) (Cert.Reference3Ideal.Value.run_spec m' g')⟩
  obtain ⟨h0, h1, h2, h3, h4, h5, h6, h7⟩ := hagree c
  exact ⟨((h c).1).trans (by simp only [h0, h1, h2, h3, h4, h5, h6, h7]), ((h c).2.1).trans (by simp only [h0, h1, h2, h3, h4, h5, h6, h7]), ((h c).2.2.1).trans (by simp only [h0, h1, h2, h3, h4, h5, h6, h7]), (h c).2.2.2⟩

/-- The reference of program 4 runs, leaves its arguments unchanged and declares no semaphore. -/
theorem frame_ref4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run_spec m ρ)

/-- Program 4 and its reference compute the same arrays of the same arguments. -/
theorem algebraic4 : Cert.algebraic_Kernel4Ideal_Reference4Ideal_pre_finite := by
  intro m g m' g' hpre hagree
  refine ⟨_, (θ_run Cert.Kernel4Ideal.defs _ _).mono (fun r h c => ⟨((h c).1).trans (Cert.Kernel4Ideal.Value.final_4 m c (hpre c)), (h c).2⟩)
      (Cert.Kernel4Ideal.Value.run_blocks m g),
    (θ_run Cert.Reference4Ideal.defs _ _).mono (fun r h c => ?_) (Cert.Reference4Ideal.Value.run_spec m' g')⟩
  obtain ⟨h0, h1, h2⟩ := hagree c
  exact ⟨((h c).1).trans (by simp only [h0, h1, h2]), (h c).2⟩

/-- The reference of program 5 runs, leaves its arguments unchanged and declares no semaphore. -/
theorem frame_ref5 : Cert.quiescent_Reference5Ideal := fun m ρ _ =>
  (θ_run Cert.Reference5Ideal.defs _ _).mono (fun r h => ⟨fun c => (h c).2.2.2, sem_eq_zero_of_no_sems (by decide) r.2⟩)
    (Cert.Reference5Ideal.Value.run_spec m ρ)

/-- Program 5 and its reference compute the same arrays of the same arguments. -/
theorem algebraic5 : Cert.algebraic_Kernel5Ideal_Reference5Ideal := by
  intro m g m' g' _ hagree
  refine ⟨_, _, _, (θ_run Cert.Kernel5Ideal.defs _ _).mono (fun r h c => ⟨((h c).1).trans (Cert.Kernel5Ideal.Value.final_3 m c), ((h c).2.1).trans (Cert.Kernel5Ideal.Value.final_4 m c), ((h c).2.2.1).trans (Cert.Kernel5Ideal.Value.final_5 m c), (h c).2.2.2⟩)
      (Cert.Kernel5Ideal.Value.run_blocks m g),
    (θ_run Cert.Reference5Ideal.defs _ _).mono (fun r h c => ?_) (Cert.Reference5Ideal.Value.run_spec m' g')⟩
  obtain ⟨h0, h1⟩ := hagree c
  exact ⟨((h c).1).trans (by simp only [h0, h1]), ((h c).2.1).trans (by simp only [h0, h1]), ((h c).2.2.1).trans (by simp only [h0, h1]; rfl), (h c).2.2.2⟩

/-- The reference of program 6 runs, leaves its arguments unchanged and declares no semaphore. -/
theorem frame_ref6 : Cert.quiescent_Reference6Ideal := fun m ρ _ =>
  (θ_run Cert.Reference6Ideal.defs _ _).mono (fun r h => ⟨fun c => (h c).2, sem_eq_zero_of_no_sems (by decide) r.2⟩)
    (Cert.Reference6Ideal.Value.run_spec m ρ)

/-- Program 6 and its reference compute the same arrays of the same arguments. -/
theorem algebraic6 : Cert.algebraic_Kernel6Ideal_Reference6Ideal := by
  intro m g m' g' _ hagree
  refine ⟨_, (θ_run Cert.Kernel6Ideal.defs _ _).mono (fun r h c => ⟨((h c).1).trans (Cert.Kernel6Ideal.Value.final_2 m c), (h c).2⟩)
      (Cert.Kernel6Ideal.Value.run_blocks m g),
    (θ_run Cert.Reference6Ideal.defs _ _).mono (fun r h c => ?_) (Cert.Reference6Ideal.Value.run_spec m' g')⟩
  obtain ⟨h0, h1⟩ := hagree c
  exact ⟨((h c).1).trans (by simp only [h0, h1]), (h c).2⟩

/-- The reference of program 7 runs, leaves its arguments unchanged and declares no semaphore. -/
theorem frame_ref7 : Cert.quiescent_Reference7Ideal := fun m ρ _ =>
  (θ_run Cert.Reference7Ideal.defs _ _).mono (fun r h => ⟨fun c => (h c).2, sem_eq_zero_of_no_sems (by decide) r.2⟩)
    (Cert.Reference7Ideal.Value.run_spec m ρ)

/-- Program 7 and its reference compute the same arrays of the same arguments. -/
theorem algebraic7 : Cert.algebraic_Kernel7Ideal_Reference7Ideal := by
  intro m g m' g' _ hagree
  refine ⟨_, (θ_run Cert.Kernel7Ideal.defs _ _).mono (fun r h c => ⟨((h c).1).trans (Cert.Kernel7Ideal.Value.final_2 m c), (h c).2⟩)
      (Cert.Kernel7Ideal.Value.run_blocks m g),
    (θ_run Cert.Reference7Ideal.defs _ _).mono (fun r h c => ?_) (Cert.Reference7Ideal.Value.run_spec m' g')⟩
  obtain ⟨h0, h1⟩ := hagree c
  exact ⟨((h c).1).trans (by simp only [h0, h1]), (h c).2⟩

/-- The reference of program 8 runs, leaves its arguments unchanged and declares no semaphore. -/
theorem frame_ref8 : Cert.quiescent_Reference8Ideal := fun m ρ _ =>
  (θ_run Cert.Reference8Ideal.defs _ _).mono (fun r h => ⟨fun c => (h c).2, sem_eq_zero_of_no_sems (by decide) r.2⟩)
    (Cert.Reference8Ideal.Value.run_spec m ρ)

/-- Program 8 and its reference compute the same arrays of the same arguments. -/
theorem algebraic8 : Cert.algebraic_Kernel8Ideal_Reference8Ideal := by
  intro m g m' g' _ hagree
  refine ⟨_, (θ_run Cert.Kernel8Ideal.defs _ _).mono (fun r h c => ⟨((h c).1).trans (Cert.Kernel8Ideal.Value.final_2 m c), (h c).2⟩)
      (Cert.Kernel8Ideal.Value.run_blocks m g),
    (θ_run Cert.Reference8Ideal.defs _ _).mono (fun r h c => ?_) (Cert.Reference8Ideal.Value.run_spec m' g')⟩
  obtain ⟨h0, h1⟩ := hagree c
  exact ⟨((h c).1).trans (by simp only [h0, h1]), (h c).2⟩

/-- The reference of program 9 runs, leaves its arguments unchanged and declares no semaphore. -/
theorem frame_ref9 : Cert.quiescent_Reference9Ideal := fun m ρ _ =>
  (θ_run Cert.Reference9Ideal.defs _ _).mono (fun r h => ⟨fun c => (h c).2, sem_eq_zero_of_no_sems (by decide) r.2⟩)
    (Cert.Reference9Ideal.Value.run_spec m ρ)

/-- Program 9 and its reference compute the same arrays of the same arguments. -/
theorem algebraic9 : Cert.algebraic_Kernel9Ideal_Reference9Ideal := by
  intro m g m' g' _ hagree
  refine ⟨_, (θ_run Cert.Kernel9Ideal.defs _ _).mono (fun r h c => ⟨((h c).1).trans (Cert.Kernel9Ideal.Value.final_2 m c), (h c).2⟩)
      (Cert.Kernel9Ideal.Value.run_blocks m g),
    (θ_run Cert.Reference9Ideal.defs _ _).mono (fun r h c => ?_) (Cert.Reference9Ideal.Value.run_spec m' g')⟩
  obtain ⟨h0, h1⟩ := hagree c
  exact ⟨((h c).1).trans (by simp only [h0, h1]), (h c).2⟩

/-- The reference of program 10 runs, leaves its arguments unchanged and declares no semaphore. -/
theorem frame_ref10 : Cert.quiescent_Reference10Ideal := fun m ρ _ =>
  (θ_run Cert.Reference10Ideal.defs _ _).mono (fun r h => ⟨fun c => (h c).2.2.2.2, sem_eq_zero_of_no_sems (by decide) r.2⟩)
    (Cert.Reference10Ideal.Value.run_spec m ρ)

/-- Program 10 and its reference compute the same arrays of the same arguments. -/
theorem algebraic10 : Cert.algebraic_Kernel10Ideal_Reference10Ideal := by
  intro m g m' g' _ hagree
  refine ⟨_, _, _, _, (θ_run Cert.Kernel10Ideal.defs _ _).mono (fun r h c => ⟨((h c).1).trans (Cert.Kernel10Ideal.Value.final_5 m c), ((h c).2.1).trans (Cert.Kernel10Ideal.Value.final_6 m c), ((h c).2.2.1).trans (Cert.Kernel10Ideal.Value.final_7 m c), ((h c).2.2.2.1).trans (Cert.Kernel10Ideal.Value.final_8 m c), (h c).2.2.2.2⟩)
      (Cert.Kernel10Ideal.Value.run_blocks m g),
    (θ_run Cert.Reference10Ideal.defs _ _).mono (fun r h c => ?_) (Cert.Reference10Ideal.Value.run_spec m' g')⟩
  obtain ⟨h0, h1, h2, h3, h4⟩ := hagree c
  exact ⟨((h c).1).trans (by simp only [h0, h1, h2, h3, h4]), ((h c).2.1).trans (by simp only [h0, h1, h2, h3, h4]), ((h c).2.2.1).trans (by simp only [h0, h1, h2, h3, h4]), ((h c).2.2.2.1).trans (by simp only [h0, h1, h2, h3, h4]), (h c).2.2.2.2⟩

/-- The reference of program 11 runs, leaves its arguments unchanged and declares no semaphore. -/
theorem frame_ref11 : Cert.quiescent_Reference11Ideal := fun m ρ _ =>
  (θ_run Cert.Reference11Ideal.defs _ _).mono (fun r h => ⟨fun c => (h c).2.2.2, sem_eq_zero_of_no_sems (by decide) r.2⟩)
    (Cert.Reference11Ideal.Value.run_spec m ρ)

/-- Program 11 and its reference compute the same arrays of the same arguments. -/
theorem algebraic11 : Cert.algebraic_Kernel11Ideal_Reference11Ideal := by
  intro m g m' g' _ hagree
  refine ⟨_, _, _, (θ_run Cert.Kernel11Ideal.defs _ _).mono (fun r h c => ⟨((h c).1).trans (Cert.Kernel11Ideal.Value.final_4 m c), ((h c).2.1).trans (Cert.Kernel11Ideal.Value.final_5 m c), ((h c).2.2.1).trans (Cert.Kernel11Ideal.Value.final_6 m c), (h c).2.2.2⟩)
      (Cert.Kernel11Ideal.Value.run_blocks m g),
    (θ_run Cert.Reference11Ideal.defs _ _).mono (fun r h c => ?_) (Cert.Reference11Ideal.Value.run_spec m' g')⟩
  obtain ⟨h0, h1, h2, h3⟩ := hagree c
  exact ⟨((h c).1).trans (by simp only [h0, h1, h2, h3]), ((h c).2.1).trans (by simp only [h0, h1, h2, h3]), ((h c).2.2.1).trans (by simp only [h0, h1, h2, h3]), (h c).2.2.2⟩

/-- The reference of program 12 runs, leaves its arguments unchanged and declares no semaphore. -/
theorem frame_ref12 : Cert.quiescent_Reference12Ideal := fun m ρ _ =>
  (θ_run Cert.Reference12Ideal.defs _ _).mono (fun r h => ⟨fun c => (h c).2.2.2.2, sem_eq_zero_of_no_sems (by decide) r.2⟩)
    (Cert.Reference12Ideal.Value.run_spec m ρ)

/-- Program 12 and its reference compute the same arrays of the same arguments. -/
theorem algebraic12 : Cert.algebraic_Kernel12Ideal_Reference12Ideal := by
  intro m g m' g' _ hagree
  refine ⟨_, _, _, _, (θ_run Cert.Kernel12Ideal.defs _ _).mono (fun r h c => ⟨((h c).1).trans (Cert.Kernel12Ideal.Value.final_5 m c), ((h c).2.1).trans (Cert.Kernel12Ideal.Value.final_6 m c), ((h c).2.2.1).trans (Cert.Kernel12Ideal.Value.final_7 m c), ((h c).2.2.2.1).trans (Cert.Kernel12Ideal.Value.final_8 m c), (h c).2.2.2.2⟩)
      (Cert.Kernel12Ideal.Value.run_blocks m g),
    (θ_run Cert.Reference12Ideal.defs _ _).mono (fun r h c => ?_) (Cert.Reference12Ideal.Value.run_spec m' g')⟩
  obtain ⟨h0, h1, h2, h3, h4, h5, h6, h7, h8⟩ := hagree c
  exact ⟨((h c).1).trans (by simp only [h0, h1, h2, h3, h4, h5, h6, h7, h8]), ((h c).2.1).trans (by simp only [h0, h1, h2, h3, h4, h5, h6, h7, h8]), ((h c).2.2.1).trans (by simp only [h0, h1, h2, h3, h4, h5, h6, h7, h8]), ((h c).2.2.2.1).trans (by simp only [h0, h1, h2, h3, h4, h5, h6, h7, h8]), (h c).2.2.2.2⟩

/-- The reference of program 13 runs, leaves its arguments unchanged and declares no semaphore. -/
theorem frame_ref13 : Cert.quiescent_Reference13Ideal := fun m ρ _ =>
  (θ_run Cert.Reference13Ideal.defs _ _).mono (fun r h => ⟨fun c => (h c).2.2.2.2, sem_eq_zero_of_no_sems (by decide) r.2⟩)
    (Cert.Reference13Ideal.Value.run_spec m ρ)

/-- Program 13 and its reference compute the same arrays of the same arguments. -/
theorem algebraic13 : Cert.algebraic_Kernel13Ideal_Reference13Ideal := by
  intro m g m' g' _ hagree
  refine ⟨_, _, _, _, (θ_run Cert.Kernel13Ideal.defs _ _).mono (fun r h c => ⟨((h c).1).trans (Cert.Kernel13Ideal.Value.final_5 m c), ((h c).2.1).trans (Cert.Kernel13Ideal.Value.final_6 m c), ((h c).2.2.1).trans (Cert.Kernel13Ideal.Value.final_7 m c), ((h c).2.2.2.1).trans (Cert.Kernel13Ideal.Value.final_8 m c), (h c).2.2.2.2⟩)
      (Cert.Kernel13Ideal.Value.run_blocks m g),
    (θ_run Cert.Reference13Ideal.defs _ _).mono (fun r h c => ?_) (Cert.Reference13Ideal.Value.run_spec m' g')⟩
  obtain ⟨h0, h1, h2, h3, h4, h5, h6, h7, h8⟩ := hagree c
  exact ⟨((h c).1).trans (by simp only [h0, h1, h2, h3, h4, h5, h6, h7, h8]), ((h c).2.1).trans (by simp only [h0, h1, h2, h3, h4, h5, h6, h7, h8]), ((h c).2.2.1).trans (by simp only [h0, h1, h2, h3, h4, h5, h6, h7, h8]), ((h c).2.2.2.1).trans (by simp only [h0, h1, h2, h3, h4, h5, h6, h7, h8]), (h c).2.2.2.2⟩

/-- The reference of program 14 runs, leaves its arguments unchanged and declares no semaphore. -/
theorem frame_ref14 : Cert.quiescent_Reference14Ideal := fun m ρ _ =>
  (θ_run Cert.Reference14Ideal.defs _ _).mono (fun r h => ⟨fun c => (h c).2.2.2.2, sem_eq_zero_of_no_sems (by decide) r.2⟩)
    (Cert.Reference14Ideal.Value.run_spec m ρ)

/-- Program 14 and its reference compute the same arrays of the same arguments. -/
theorem algebraic14 : Cert.algebraic_Kernel14Ideal_Reference14Ideal := by
  intro m g m' g' _ hagree
  refine ⟨_, _, _, _, (θ_run Cert.Kernel14Ideal.defs _ _).mono (fun r h c => ⟨((h c).1).trans (Cert.Kernel14Ideal.Value.final_5 m c), ((h c).2.1).trans (Cert.Kernel14Ideal.Value.final_6 m c), ((h c).2.2.1).trans (Cert.Kernel14Ideal.Value.final_7 m c), ((h c).2.2.2.1).trans (Cert.Kernel14Ideal.Value.final_8 m c), (h c).2.2.2.2⟩)
      (Cert.Kernel14Ideal.Value.run_blocks m g),
    (θ_run Cert.Reference14Ideal.defs _ _).mono (fun r h c => ?_) (Cert.Reference14Ideal.Value.run_spec m' g')⟩
  obtain ⟨h0, h1, h2, h3, h4, h5, h6, h7, h8⟩ := hagree c
  exact ⟨((h c).1).trans (by simp only [h0, h1, h2, h3, h4, h5, h6, h7, h8]), ((h c).2.1).trans (by simp only [h0, h1, h2, h3, h4, h5, h6, h7, h8]), ((h c).2.2.1).trans (by simp only [h0, h1, h2, h3, h4, h5, h6, h7, h8]), ((h c).2.2.2.1).trans (by simp only [h0, h1, h2, h3, h4, h5, h6, h7, h8]), (h c).2.2.2.2⟩

/-- The reference of program 15 runs, leaves its arguments unchanged and declares no semaphore. -/
theorem frame_ref15 : Cert.quiescent_Reference15Ideal := fun m ρ _ =>
  (θ_run Cert.Reference15Ideal.defs _ _).mono (fun r h => ⟨fun c => (h c).2.2.2.2, sem_eq_zero_of_no_sems (by decide) r.2⟩)
    (Cert.Reference15Ideal.Value.run_spec m ρ)

/-- Program 15 and its reference compute the same arrays of the same arguments. -/
theorem algebraic15 : Cert.algebraic_Kernel15Ideal_Reference15Ideal := by
  intro m g m' g' _ hagree
  refine ⟨_, _, _, _, (θ_run Cert.Kernel15Ideal.defs _ _).mono (fun r h c => ⟨((h c).1).trans (Cert.Kernel15Ideal.Value.final_5 m c), ((h c).2.1).trans (Cert.Kernel15Ideal.Value.final_6 m c), ((h c).2.2.1).trans (Cert.Kernel15Ideal.Value.final_7 m c), ((h c).2.2.2.1).trans (Cert.Kernel15Ideal.Value.final_8 m c), (h c).2.2.2.2⟩)
      (Cert.Kernel15Ideal.Value.run_blocks m g),
    (θ_run Cert.Reference15Ideal.defs _ _).mono (fun r h c => ?_) (Cert.Reference15Ideal.Value.run_spec m' g')⟩
  obtain ⟨h0, h1, h2, h3, h4, h5, h6, h7, h8⟩ := hagree c
  exact ⟨((h c).1).trans (by simp only [h0, h1, h2, h3, h4, h5, h6, h7, h8]), ((h c).2.1).trans (by simp only [h0, h1, h2, h3, h4, h5, h6, h7, h8]), ((h c).2.2.1).trans (by simp only [h0, h1, h2, h3, h4, h5, h6, h7, h8]), ((h c).2.2.2.1).trans (by simp only [h0, h1, h2, h3, h4, h5, h6, h7, h8]), (h c).2.2.2.2⟩

/-- The reference of program 16 runs, leaves its arguments unchanged and declares no semaphore. -/
theorem frame_ref16 : Cert.quiescent_Reference16Ideal := fun m ρ _ =>
  (θ_run Cert.Reference16Ideal.defs _ _).mono (fun r h => ⟨fun c => (h c).2.2.2.2, sem_eq_zero_of_no_sems (by decide) r.2⟩)
    (Cert.Reference16Ideal.Value.run_spec m ρ)

/-- Program 16 and its reference compute the same arrays of the same arguments. -/
theorem algebraic16 : Cert.algebraic_Kernel16Ideal_Reference16Ideal := by
  intro m g m' g' _ hagree
  refine ⟨_, _, _, _, (θ_run Cert.Kernel16Ideal.defs _ _).mono (fun r h c => ⟨((h c).1).trans (Cert.Kernel16Ideal.Value.final_4 m c), ((h c).2.1).trans (Cert.Kernel16Ideal.Value.final_5 m c), ((h c).2.2.1).trans (Cert.Kernel16Ideal.Value.final_6 m c), ((h c).2.2.2.1).trans (Cert.Kernel16Ideal.Value.final_7 m c), (h c).2.2.2.2⟩)
      (Cert.Kernel16Ideal.Value.run_blocks m g),
    (θ_run Cert.Reference16Ideal.defs _ _).mono (fun r h c => ?_) (Cert.Reference16Ideal.Value.run_spec m' g')⟩
  obtain ⟨h0, h1, h2, h3⟩ := hagree c
  exact ⟨((h c).1).trans (by simp only [h0, h1, h2, h3]), ((h c).2.1).trans (by simp only [h0, h1, h2, h3]), ((h c).2.2.1).trans (by simp only [h0, h1, h2, h3]), ((h c).2.2.2.1).trans (by simp only [h0, h1, h2, h3]), (h c).2.2.2.2⟩

/-- The reference of program 17 runs, leaves its arguments unchanged and declares no semaphore. -/
theorem frame_ref17 : Cert.quiescent_Reference17Ideal := fun m ρ _ =>
  (θ_run Cert.Reference17Ideal.defs _ _).mono (fun r h => ⟨fun c => (h c).2, sem_eq_zero_of_no_sems (by decide) r.2⟩)
    (Cert.Reference17Ideal.Value.run_spec m ρ)

/-- Program 17 and its reference compute the same arrays of the same arguments. -/
theorem algebraic17 : Cert.algebraic_Kernel17Ideal_Reference17Ideal := by
  intro m g m' g' _ hagree
  refine ⟨_, (θ_run Cert.Kernel17Ideal.defs _ _).mono (fun r h c => ⟨((h c).1).trans (Cert.Kernel17Ideal.Value.final_3 m c), (h c).2.2⟩)
      (Cert.Kernel17Ideal.Value.run_blocks m g),
    (θ_run Cert.Reference17Ideal.defs _ _).mono (fun r h c => ?_) (Cert.Reference17Ideal.Value.run_spec m' g')⟩
  obtain ⟨h0, h1, h2⟩ := hagree c
  exact ⟨((h c).1).trans (by simp only [h0, h1, h2]), (h c).2⟩

/-- The reference of program 18 runs, leaves its arguments unchanged and declares no semaphore. -/
theorem frame_ref18 : Cert.quiescent_Reference18Ideal := fun m ρ _ =>
  (θ_run Cert.Reference18Ideal.defs _ _).mono (fun r h => ⟨fun c => (h c).2, sem_eq_zero_of_no_sems (by decide) r.2⟩)
    (Cert.Reference18Ideal.Value.run_spec m ρ)

/-- Program 18 and its reference compute the same arrays of the same arguments. -/
theorem algebraic18 : Cert.algebraic_Kernel18Ideal_Reference18Ideal := by
  intro m g m' g' _ hagree
  refine ⟨_, (θ_run Cert.Kernel18Ideal.defs _ _).mono (fun r h c => ⟨((h c).1).trans (Cert.Kernel18Ideal.Value.final_2 m c), (h c).2⟩)
      (Cert.Kernel18Ideal.Value.run_blocks m g),
    (θ_run Cert.Reference18Ideal.defs _ _).mono (fun r h c => ?_) (Cert.Reference18Ideal.Value.run_spec m' g')⟩
  obtain ⟨h0, h1⟩ := hagree c
  exact ⟨((h c).1).trans (by simp only [h0, h1]), (h c).2⟩

/-- The reference of program 19 runs, leaves its arguments unchanged and declares no semaphore. -/
theorem frame_ref19 : Cert.quiescent_Reference19Ideal := fun m ρ _ =>
  (θ_run Cert.Reference19Ideal.defs _ _).mono (fun r h => ⟨fun c => (h c).2, sem_eq_zero_of_no_sems (by decide) r.2⟩)
    (Cert.Reference19Ideal.Value.run_spec m ρ)

/-- Program 19 and its reference compute the same arrays of the same arguments. -/
theorem algebraic19 : Cert.algebraic_Kernel19Ideal_Reference19Ideal := by
  intro m g m' g' _ hagree
  refine ⟨_, (θ_run Cert.Kernel19Ideal.defs _ _).mono (fun r h c => ⟨((h c).1).trans (Cert.Kernel19Ideal.Value.final_2 m c), (h c).2⟩)
      (Cert.Kernel19Ideal.Value.run_blocks m g),
    (θ_run Cert.Reference19Ideal.defs _ _).mono (fun r h c => ?_) (Cert.Reference19Ideal.Value.run_spec m' g')⟩
  obtain ⟨h0, h1⟩ := hagree c
  exact ⟨((h c).1).trans (by simp only [h0, h1]), (h c).2⟩

/-- The reference of program 20 runs, leaves its arguments unchanged and declares no semaphore. -/
theorem frame_ref20 : Cert.quiescent_Reference20Ideal := fun m ρ _ =>
  (θ_run Cert.Reference20Ideal.defs _ _).mono (fun r h => ⟨fun c => (h c).2, sem_eq_zero_of_no_sems (by decide) r.2⟩)
    (Cert.Reference20Ideal.Value.run_spec m ρ)

/-- Program 20 and its reference compute the same arrays of the same arguments. -/
theorem algebraic20 : Cert.algebraic_Kernel20Ideal_Reference20Ideal := by
  intro m g m' g' _ hagree
  refine ⟨_, (θ_run Cert.Kernel20Ideal.defs _ _).mono (fun r h c => ⟨((h c).1).trans (Cert.Kernel20Ideal.Value.final_4 m c), (h c).2⟩)
      (Cert.Kernel20Ideal.Value.run_blocks m g),
    (θ_run Cert.Reference20Ideal.defs _ _).mono (fun r h c => ?_) (Cert.Reference20Ideal.Value.run_spec m' g')⟩
  obtain ⟨h0, h1, h2, h3⟩ := hagree c
  exact ⟨((h c).1).trans (by simp only [h0, h1, h2, h3]), (h c).2⟩

/-- The reference of program 21 runs, leaves its arguments unchanged and declares no semaphore. -/
theorem frame_ref21 : Cert.quiescent_Reference21Ideal := fun m ρ _ =>
  (θ_run Cert.Reference21Ideal.defs _ _).mono (fun r h => ⟨fun c => (h c).2, sem_eq_zero_of_no_sems (by decide) r.2⟩)
    (Cert.Reference21Ideal.Value.run_spec m ρ)

/-- Program 21 and its reference compute the same arrays of the same arguments. -/
theorem algebraic21 : Cert.algebraic_Kernel21Ideal_Reference21Ideal := by
  intro m g m' g' _ hagree
  refine ⟨_, (θ_run Cert.Kernel21Ideal.defs _ _).mono (fun r h c => ⟨((h c).1).trans (Cert.Kernel21Ideal.Value.final_2 m c), (h c).2⟩)
      (Cert.Kernel21Ideal.Value.run_blocks m g),
    (θ_run Cert.Reference21Ideal.defs _ _).mono (fun r h c => ?_) (Cert.Reference21Ideal.Value.run_spec m' g')⟩
  obtain ⟨h0, h1⟩ := hagree c
  exact ⟨((h c).1).trans (by simp only [h0, h1]), (h c).2⟩

/-- The reference of program 22 runs, leaves its arguments unchanged and declares no semaphore. -/
theorem frame_ref22 : Cert.quiescent_Reference22Ideal := fun m ρ _ =>
  (θ_run Cert.Reference22Ideal.defs _ _).mono (fun r h => ⟨fun c => (h c).2.2.2, sem_eq_zero_of_no_sems (by decide) r.2⟩)
    (Cert.Reference22Ideal.Value.run_spec m ρ)

/-- Program 22 and its reference compute the same arrays of the same arguments. -/
theorem algebraic22 : Cert.algebraic_Kernel22Ideal_Reference22Ideal := by
  intro m g m' g' _ hagree
  refine ⟨_, _, _, (θ_run Cert.Kernel22Ideal.defs _ _).mono (fun r h c => ⟨((h c).1).trans (Cert.Kernel22Ideal.Value.final_9 m c), ((h c).2.1).trans (Cert.Kernel22Ideal.Value.final_10 m c), ((h c).2.2.1).trans (Cert.Kernel22Ideal.Value.final_11 m c), (h c).2.2.2⟩)
      (Cert.Kernel22Ideal.Value.run_blocks m g),
    (θ_run Cert.Reference22Ideal.defs _ _).mono (fun r h c => ?_) (Cert.Reference22Ideal.Value.run_spec m' g')⟩
  obtain ⟨h0, h1, h2, h3, h4, h5, h6⟩ := hagree c
  exact ⟨((h c).1).trans (by simp only [Cert.Kernel22Ideal.Value.MM, Cert.Kernel22Ideal.Value.A0, Cert.Kernel22Ideal.Value.A1, Cert.Kernel22Ideal.Value.A2, Cert.Reference22Ideal.Value.MM, Cert.Reference22Ideal.Value.A0, Cert.Reference22Ideal.Value.A1, Cert.Reference22Ideal.Value.A2, h0, h1, h2, h3, h4, h5, h6]), ((h c).2.1).trans (by simp only [Cert.Kernel22Ideal.Value.MM, Cert.Kernel22Ideal.Value.A0, Cert.Kernel22Ideal.Value.A1, Cert.Kernel22Ideal.Value.A2, Cert.Reference22Ideal.Value.MM, Cert.Reference22Ideal.Value.A0, Cert.Reference22Ideal.Value.A1, Cert.Reference22Ideal.Value.A2, h0, h1, h2, h3, h4, h5, h6]), ((h c).2.2.1).trans (by simp only [Cert.Kernel22Ideal.Value.MM, Cert.Kernel22Ideal.Value.A0, Cert.Kernel22Ideal.Value.A1, Cert.Kernel22Ideal.Value.A2, Cert.Reference22Ideal.Value.MM, Cert.Reference22Ideal.Value.A0, Cert.Reference22Ideal.Value.A1, Cert.Reference22Ideal.Value.A2, h0, h1, h2, h3, h4, h5, h6]), (h c).2.2.2⟩

/-- The reference of program 23 runs, leaves its arguments unchanged and declares no semaphore. -/
theorem frame_ref23 : Cert.quiescent_Reference23Ideal := fun m ρ _ =>
  (θ_run Cert.Reference23Ideal.defs _ _).mono (fun r h => ⟨fun c => (h c).2.2.2.2, sem_eq_zero_of_no_sems (by decide) r.2⟩)
    (Cert.Reference23Ideal.Value.run_spec m ρ)

/-- Program 23 and its reference compute the same arrays of the same arguments. -/
theorem algebraic23 : Cert.algebraic_Kernel23Ideal_Reference23Ideal := by
  intro m g m' g' _ hagree
  refine ⟨_, _, _, _, (θ_run Cert.Kernel23Ideal.defs _ _).mono (fun r h c => ⟨((h c).1).trans (Cert.Kernel23Ideal.Value.final_4 m c), ((h c).2.1).trans (Cert.Kernel23Ideal.Value.final_5 m c), ((h c).2.2.1).trans (Cert.Kernel23Ideal.Value.final_6 m c), ((h c).2.2.2.1).trans (Cert.Kernel23Ideal.Value.final_7 m c), (h c).2.2.2.2⟩)
      (Cert.Kernel23Ideal.Value.run_blocks m g),
    (θ_run Cert.Reference23Ideal.defs _ _).mono (fun r h c => ?_) (Cert.Reference23Ideal.Value.run_spec m' g')⟩
  obtain ⟨h0, h1, h2, h3, h4, h5, h6⟩ := hagree c
  exact ⟨((h c).1).trans (by simp only [Cert.Kernel23Ideal.Value.HH, Cert.Kernel23Ideal.Value.XX, Cert.Kernel23Ideal.Value.PP, Cert.Reference23Ideal.Value.HH, Cert.Reference23Ideal.Value.XX, Cert.Reference23Ideal.Value.PP, h0, h1, h2, h3, h4, h5, h6]), ((h c).2.1).trans (by simp only [Cert.Kernel23Ideal.Value.HH, Cert.Kernel23Ideal.Value.XX, Cert.Kernel23Ideal.Value.PP, Cert.Reference23Ideal.Value.HH, Cert.Reference23Ideal.Value.XX, Cert.Reference23Ideal.Value.PP, h0, h1, h2, h3, h4, h5, h6]), ((h c).2.2.1).trans (by simp only [Cert.Kernel23Ideal.Value.HH, Cert.Kernel23Ideal.Value.XX, Cert.Kernel23Ideal.Value.PP, Cert.Reference23Ideal.Value.HH, Cert.Reference23Ideal.Value.XX, Cert.Reference23Ideal.Value.PP, h0, h1, h2, h3, h4, h5, h6]), ((h c).2.2.2.1).trans (by simp only [Cert.Kernel23Ideal.Value.HH, Cert.Kernel23Ideal.Value.XX, Cert.Kernel23Ideal.Value.PP, Cert.Reference23Ideal.Value.HH, Cert.Reference23Ideal.Value.XX, Cert.Reference23Ideal.Value.PP, h0, h1, h2, h3, h4, h5, h6]), (h c).2.2.2.2⟩

/-- The reference of program 24 runs, leaves its arguments unchanged and declares no semaphore. -/
theorem frame_ref24 : Cert.quiescent_Reference24Ideal := fun m ρ _ =>
  (θ_run Cert.Reference24Ideal.defs _ _).mono (fun r h => ⟨fun c => (h c).2.2.2.2, sem_eq_zero_of_no_sems (by decide) r.2⟩)
    (Cert.Reference24Ideal.Value.run_spec m ρ)

/-- Program 24 and its reference compute the same arrays of the same arguments. -/
theorem algebraic24 : Cert.algebraic_Kernel24Ideal_Reference24Ideal := by
  intro m g m' g' _ hagree
  refine ⟨_, _, _, _, (θ_run Cert.Kernel24Ideal.defs _ _).mono (fun r h c => ⟨((h c).1).trans (Cert.Kernel24Ideal.Value.final_4 m c), ((h c).2.1).trans (Cert.Kernel24Ideal.Value.final_5 m c), ((h c).2.2.1).trans (Cert.Kernel24Ideal.Value.final_6 m c), ((h c).2.2.2.1).trans (Cert.Kernel24Ideal.Value.final_7 m c), (h c).2.2.2.2⟩)
      (Cert.Kernel24Ideal.Value.run_blocks m g),
    (θ_run Cert.Reference24Ideal.defs _ _).mono (fun r h c => ?_) (Cert.Reference24Ideal.Value.run_spec m' g')⟩
  obtain ⟨h0, h1, h2, h3, h4, h5, h6⟩ := hagree c
  exact ⟨((h c).1).trans (by simp only [Cert.Kernel24Ideal.Value.HH, Cert.Kernel24Ideal.Value.XX, Cert.Kernel24Ideal.Value.PP, Cert.Reference24Ideal.Value.HH, Cert.Reference24Ideal.Value.XX, Cert.Reference24Ideal.Value.PP, h0, h1, h2, h3, h4, h5, h6]), ((h c).2.1).trans (by simp only [Cert.Kernel24Ideal.Value.HH, Cert.Kernel24Ideal.Value.XX, Cert.Kernel24Ideal.Value.PP, Cert.Reference24Ideal.Value.HH, Cert.Reference24Ideal.Value.XX, Cert.Reference24Ideal.Value.PP, h0, h1, h2, h3, h4, h5, h6]), ((h c).2.2.1).trans (by simp only [Cert.Kernel24Ideal.Value.HH, Cert.Kernel24Ideal.Value.XX, Cert.Kernel24Ideal.Value.PP, Cert.Reference24Ideal.Value.HH, Cert.Reference24Ideal.Value.XX, Cert.Reference24Ideal.Value.PP, h0, h1, h2, h3, h4, h5, h6]), ((h c).2.2.2.1).trans (by simp only [Cert.Kernel24Ideal.Value.HH, Cert.Kernel24Ideal.Value.XX, Cert.Kernel24Ideal.Value.PP, Cert.Reference24Ideal.Value.HH, Cert.Reference24Ideal.Value.XX, Cert.Reference24Ideal.Value.PP, h0, h1, h2, h3, h4, h5, h6]), (h c).2.2.2.2⟩

/-- The reference of program 25 runs, leaves its arguments unchanged and declares no semaphore. -/
theorem frame_ref25 : Cert.quiescent_Reference25Ideal := fun m ρ _ =>
  (θ_run Cert.Reference25Ideal.defs _ _).mono (fun r h => ⟨fun c => (h c).2.2.2.2, sem_eq_zero_of_no_sems (by decide) r.2⟩)
    (Cert.Reference25Ideal.Value.run_spec m ρ)

/-- Program 25 and its reference compute the same arrays of the same arguments. -/
theorem algebraic25 : Cert.algebraic_Kernel25Ideal_Reference25Ideal := by
  intro m g m' g' _ hagree
  refine ⟨_, _, _, _, (θ_run Cert.Kernel25Ideal.defs _ _).mono (fun r h c => ⟨((h c).1).trans (Cert.Kernel25Ideal.Value.final_5 m c), ((h c).2.1).trans (Cert.Kernel25Ideal.Value.final_6 m c), ((h c).2.2.1).trans (Cert.Kernel25Ideal.Value.final_7 m c), ((h c).2.2.2.1).trans (Cert.Kernel25Ideal.Value.final_8 m c), (h c).2.2.2.2⟩)
      (Cert.Kernel25Ideal.Value.run_blocks m g),
    (θ_run Cert.Reference25Ideal.defs _ _).mono (fun r h c => ?_) (Cert.Reference25Ideal.Value.run_spec m' g')⟩
  obtain ⟨h0, h1, h2, h3, h4, h5⟩ := hagree c
  obtain ⟨e0, e1, e2, e3⟩ := Cert.Outs25.outs_eq m m' c h0 h1 h2 h3 h4 h5
  exact ⟨((h c).1).trans e0, ((h c).2.1).trans e1, ((h c).2.2.1).trans e2, ((h c).2.2.2.1).trans e3, (h c).2.2.2.2⟩

/-- The reference of program 26 runs, leaves its arguments unchanged and declares no semaphore. -/
theorem frame_ref26 : Cert.quiescent_Reference26Ideal := fun m ρ _ =>
  (θ_run Cert.Reference26Ideal.defs _ _).mono (fun r h => ⟨fun c => (h c).2.2, sem_eq_zero_of_no_sems (by decide) r.2⟩)
    (Cert.Reference26Ideal.Value.run_spec m ρ)

/-- Program 26 and its reference compute the same arrays of the same arguments. -/
theorem algebraic26 : Cert.algebraic_Kernel26Ideal_Reference26Ideal := by
  intro m g m' g' _ hagree
  refine ⟨_, _, (θ_run Cert.Kernel26Ideal.defs _ _).mono (fun r h c => ⟨((h c).1).trans (Cert.Kernel26Ideal.Value.final_2 m c), ((h c).2.1).trans (Cert.Kernel26Ideal.Value.final_3 m c), (h c).2.2⟩)
      (Cert.Kernel26Ideal.Value.run_blocks m g),
    (θ_run Cert.Reference26Ideal.defs _ _).mono (fun r h c => ?_) (Cert.Reference26Ideal.Value.run_spec m' g')⟩
  obtain ⟨h0, h1⟩ := hagree c
  exact ⟨((h c).1).trans (by simp only [h0, h1]), ((h c).2.1).trans (by simp only [h0, h1]), (h c).2.2⟩

/-- The reference of program 27 runs, leaves its arguments unchanged and declares no semaphore. -/
theorem frame_ref27 : Cert.quiescent_Reference27Ideal := fun m ρ _ =>
  (θ_run Cert.Reference27Ideal.defs _ _).mono (fun r h => ⟨fun c => (h c).2.2, sem_eq_zero_of_no_sems (by decide) r.2⟩)
    (Cert.Reference27Ideal.Value.run_spec m ρ)

/-- Program 27 and its reference compute the same arrays of the same arguments. -/
theorem algebraic27 : Cert.algebraic_Kernel27Ideal_Reference27Ideal := by
  intro m g m' g' _ hagree
  refine ⟨_, _, (θ_run Cert.Kernel27Ideal.defs _ _).mono (fun r h c => ⟨((h c).1).trans (Cert.Kernel27Ideal.Value.final_2 m c), ((h c).2.1).trans (Cert.Kernel27Ideal.Value.final_3 m c), (h c).2.2⟩)
      (Cert.Kernel27Ideal.Value.run_blocks m g),
    (θ_run Cert.Reference27Ideal.defs _ _).mono (fun r h c => ?_) (Cert.Reference27Ideal.Value.run_spec m' g')⟩
  obtain ⟨h0, h1, h2, h3⟩ := hagree c
  exact ⟨((h c).1).trans (by simp only [h0, h1, h2, h3]), ((h c).2.1).trans (by simp only [h0, h1, h2, h3]), (h c).2.2⟩

/-- The reference of program 28 runs, leaves its arguments unchanged and declares no semaphore. -/
theorem frame_ref28 : Cert.quiescent_Reference28Ideal := fun m ρ _ =>
  (θ_run Cert.Reference28Ideal.defs _ _).mono (fun r h => ⟨fun c => (h c).2, sem_eq_zero_of_no_sems (by decide) r.2⟩)
    (Cert.Reference28Ideal.Value.run_spec m ρ)

/-- Program 28 and its reference compute the same arrays of the same arguments. -/
theorem algebraic28 : Cert.algebraic_Kernel28Ideal_Reference28Ideal := by
  intro m g m' g' _ hagree
  refine ⟨_, (θ_run Cert.Kernel28Ideal.defs _ _).mono (fun r h c => ⟨((h c).1).trans (Cert.Kernel28Ideal.Value.final_2 m c), (h c).2⟩)
      (Cert.Kernel28Ideal.Value.run_blocks m g),
    (θ_run Cert.Reference28Ideal.defs _ _).mono (fun r h c => ?_) (Cert.Reference28Ideal.Value.run_spec m' g')⟩
  obtain ⟨h0, h1⟩ := hagree c
  exact ⟨((h c).1).trans (by simp only [h0, h1]), (h c).2⟩

/-- The reference of program 29 runs, leaves its arguments unchanged and declares no semaphore. -/
theorem frame_ref29 : Cert.quiescent_Reference29Ideal := fun m ρ _ =>
  (θ_run Cert.Reference29Ideal.defs _ _).mono (fun r h => ⟨fun c => (h c).2.2.2, sem_eq_zero_of_no_sems (by decide) r.2⟩)
    (Cert.Reference29Ideal.Value.run_spec m ρ)

/-- Program 29 and its reference compute the same arrays of the same arguments. -/
theorem algebraic29 : Cert.algebraic_Kernel29Ideal_Reference29Ideal := by
  intro m g m' g' _ hagree
  refine ⟨_, _, _, (θ_run Cert.Kernel29Ideal.defs _ _).mono (fun r h c => ⟨((h c).1).trans (Cert.Kernel29Ideal.Value.final_7 m c), ((h c).2.1).trans (Cert.Kernel29Ideal.Value.final_8 m c), ((h c).2.2.1).trans (Cert.Kernel29Ideal.Value.final_9 m c), (h c).2.2.2.2.2⟩)
      (Cert.Kernel29Ideal.Value.run_blocks m g),
    (θ_run Cert.Reference29Ideal.defs _ _).mono (fun r h c => ?_) (Cert.Reference29Ideal.Value.run_spec m' g')⟩
  obtain ⟨h0, h1, h2, h3, h4, h5, h6, h7, h8, h9⟩ := hagree c
  exact ⟨((h c).1).trans (by simp only [h0, h1, h2, h3, h4, h5, h6, h7, h8, h9]), ((h c).2.1).trans (by simp only [h0, h1, h2, h3, h4, h5, h6, h7, h8, h9]), ((h c).2.2.1).trans (by simp only [h0, h1, h2, h3, h4, h5, h6, h7, h8, h9]), (h c).2.2.2⟩

/-- All of them. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts,
    Cert.Kernel26.Gen.facts, Cert.Kernel26Ideal.Gen.facts, Cert.Reference26Ideal.Gen.facts,
    Cert.Kernel27.Gen.facts, Cert.Kernel27Ideal.Gen.facts, Cert.Reference27Ideal.Gen.facts,
    Cert.Kernel28.Gen.facts, Cert.Kernel28Ideal.Gen.facts, Cert.Reference28Ideal.Gen.facts,
    Cert.Kernel29.Gen.facts, Cert.Kernel29Ideal.Gen.facts, Cert.Reference29Ideal.Gen.facts, Cert.Pre_finite.facts,
    fun m ρ _ => Cert.Kernel.Gen.frame m ρ, fun m ρ _ => Cert.KernelIdeal.Gen.frame m ρ, frame_ref1,
    fun m ρ _ => Cert.Kernel2.Gen.frame m ρ, fun m ρ _ => Cert.Kernel2Ideal.Gen.frame m ρ, frame_ref2,
    fun m ρ _ => Cert.Kernel3.Gen.frame m ρ, fun m ρ _ => Cert.Kernel3Ideal.Gen.frame m ρ, frame_ref3,
    fun m ρ _ => Cert.Kernel4.Gen.frame m ρ, fun m ρ _ => Cert.Kernel4Ideal.Gen.frame m ρ, fun m ρ _ => Cert.Kernel4Ideal.Gen.frame m ρ, frame_ref4, fun m ρ _ => frame_ref4 m ρ trivial,
    fun m ρ _ => Cert.Kernel5.Gen.frame m ρ, fun m ρ _ => Cert.Kernel5Ideal.Gen.frame m ρ, frame_ref5,
    fun m ρ _ => Cert.Kernel6.Gen.frame m ρ, fun m ρ _ => Cert.Kernel6Ideal.Gen.frame m ρ, frame_ref6,
    fun m ρ _ => Cert.Kernel7.Gen.frame m ρ, fun m ρ _ => Cert.Kernel7Ideal.Gen.frame m ρ, frame_ref7,
    fun m ρ _ => Cert.Kernel8.Gen.frame m ρ, fun m ρ _ => Cert.Kernel8Ideal.Gen.frame m ρ, frame_ref8,
    fun m ρ _ => Cert.Kernel9.Gen.frame m ρ, fun m ρ _ => Cert.Kernel9Ideal.Gen.frame m ρ, frame_ref9,
    fun m ρ _ => Cert.Kernel10.Gen.frame m ρ, fun m ρ _ => Cert.Kernel10Ideal.Gen.frame m ρ, frame_ref10,
    fun m ρ _ => Cert.Kernel11.Gen.frame m ρ, fun m ρ _ => Cert.Kernel11Ideal.Gen.frame m ρ, frame_ref11,
    fun m ρ _ => Cert.Kernel12.Gen.frame m ρ (Cert.Kernel12.Value.ok m), fun m ρ _ => Cert.Kernel12Ideal.Gen.frame m ρ (Cert.Kernel12Ideal.Value.ok m), frame_ref12,
    fun m ρ _ => Cert.Kernel13.Gen.frame m ρ (Cert.Kernel13.Value.ok m), fun m ρ _ => Cert.Kernel13Ideal.Gen.frame m ρ (Cert.Kernel13Ideal.Value.ok m), frame_ref13,
    fun m ρ _ => Cert.Kernel14.Gen.frame m ρ (Cert.Kernel14.Value.ok m), fun m ρ _ => Cert.Kernel14Ideal.Gen.frame m ρ (Cert.Kernel14Ideal.Value.ok m), frame_ref14,
    fun m ρ _ => Cert.Kernel15.Gen.frame m ρ (Cert.Kernel15.Value.ok m), fun m ρ _ => Cert.Kernel15Ideal.Gen.frame m ρ (Cert.Kernel15Ideal.Value.ok m), frame_ref15,
    fun m ρ _ => Cert.Kernel16.Gen.frame m ρ, fun m ρ _ => Cert.Kernel16Ideal.Gen.frame m ρ, frame_ref16,
    fun m ρ _ => Cert.Kernel17.Gen.frame m ρ, fun m ρ _ => Cert.Kernel17Ideal.Gen.frame m ρ, frame_ref17,
    fun m ρ _ => Cert.Kernel18.Gen.frame m ρ, fun m ρ _ => Cert.Kernel18Ideal.Gen.frame m ρ, frame_ref18,
    fun m ρ _ => Cert.Kernel19.Gen.frame m ρ, fun m ρ _ => Cert.Kernel19Ideal.Gen.frame m ρ, frame_ref19,
    fun m ρ _ => Cert.Kernel20.Gen.frame m ρ, fun m ρ _ => Cert.Kernel20Ideal.Gen.frame m ρ, frame_ref20,
    fun m ρ _ => Cert.Kernel21.Gen.frame m ρ, fun m ρ _ => Cert.Kernel21Ideal.Gen.frame m ρ, frame_ref21,
    fun m ρ _ => Cert.Kernel22.Gen.frame m ρ, fun m ρ _ => Cert.Kernel22Ideal.Gen.frame m ρ, frame_ref22,
    fun m ρ _ => Cert.Kernel23.Gen.frame m ρ, fun m ρ _ => Cert.Kernel23Ideal.Gen.frame m ρ, frame_ref23,
    fun m ρ _ => Cert.Kernel24.Gen.frame m ρ, fun m ρ _ => Cert.Kernel24Ideal.Gen.frame m ρ, frame_ref24,
    fun m ρ _ => Cert.Kernel25.Gen.frame m ρ, fun m ρ _ => Cert.Kernel25Ideal.Gen.frame m ρ, frame_ref25,
    fun m ρ _ => Cert.Kernel26.Gen.frame m ρ, fun m ρ _ => Cert.Kernel26Ideal.Gen.frame m ρ, frame_ref26,
    fun m ρ _ => Cert.Kernel27.Gen.frame m ρ, fun m ρ _ => Cert.Kernel27Ideal.Gen.frame m ρ, frame_ref27,
    fun m ρ _ => Cert.Kernel28.Gen.frame m ρ (Cert.Kernel28.Value.ok m), fun m ρ _ => Cert.Kernel28Ideal.Gen.frame m ρ (Cert.Kernel28Ideal.Value.ok m), frame_ref28,
    fun m ρ _ => Cert.Kernel29.Gen.frame m ρ, fun m ρ _ => Cert.Kernel29Ideal.Gen.frame m ρ, frame_ref29,
    trivial, algebraic1, trivial, algebraic2, trivial, algebraic3, trivial, algebraic4, trivial, algebraic5, trivial, algebraic6, trivial, algebraic7, trivial, algebraic8, trivial, algebraic9, trivial, algebraic10, trivial, algebraic11, trivial, algebraic12, trivial, algebraic13, trivial, algebraic14, trivial, algebraic15, trivial, algebraic16, trivial, algebraic17, trivial, algebraic18, trivial, algebraic19, trivial, algebraic20, trivial, algebraic21, trivial, algebraic22, trivial, algebraic23, trivial, algebraic24, trivial, algebraic25, trivial, algebraic26, trivial, algebraic27, trivial, algebraic28, trivial, algebraic29⟩

end Cert.Proof

end
